-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightRefIdeal (m : (ℓ : Loc Cert.DownWeightRefIdeal.nD Cert.DownWeightRefIdeal.τ Cert.DownWeightRefIdeal.sig) → Buf (Elt Ideal) ℓ) : Prop :=
  True

def Pre_GateWeight (m : (ℓ : Loc Cert.GateWeight.nD Cert.GateWeight.τ Cert.GateWeight.sig) → Buf (Elt Bits) ℓ) : Prop :=
  True

def Pre_GateWeightIdeal (m : (ℓ : Loc Cert.GateWeightIdeal.nD Cert.GateWeightIdeal.τ Cert.GateWeightIdeal.sig) → Buf (Elt Ideal) ℓ) : Prop :=
  True

def Pre_GateWeightRefIdeal (m : (ℓ : Loc Cert.GateWeightRefIdeal.nD Cert.GateWeightRefIdeal.τ Cert.GateWeightRefIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenRefIdeal (m : (ℓ : Loc Cert.HiddenRefIdeal.nD Cert.HiddenRefIdeal.τ Cert.HiddenRefIdeal.sig) → Buf (Elt Ideal) ℓ) : Prop :=
  True

def Pre_Branches (m : (ℓ : Loc Cert.Branches.nD Cert.Branches.τ Cert.Branches.sig) → Buf (Elt Bits) ℓ) : Prop :=
  True

def Pre_BranchesIdeal (m : (ℓ : Loc Cert.BranchesIdeal.nD Cert.BranchesIdeal.τ Cert.BranchesIdeal.sig) → Buf (Elt Ideal) ℓ) : Prop :=
  True

def Pre_BranchesRefIdeal (m : (ℓ : Loc Cert.BranchesRefIdeal.nD Cert.BranchesRefIdeal.τ Cert.BranchesRefIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualRefIdeal (m : (ℓ : Loc Cert.ResidualRefIdeal.nD Cert.ResidualRefIdeal.τ Cert.ResidualRefIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightRefIdeal (m : (ℓ : Loc Cert.OutWeightRefIdeal.nD Cert.OutWeightRefIdeal.τ Cert.OutWeightRefIdeal.sig) → Buf (Elt Ideal) ℓ) : Prop :=
  True

def Pre_BranchWeight (m : (ℓ : Loc Cert.BranchWeight.nD Cert.BranchWeight.τ Cert.BranchWeight.sig) → Buf (Elt Bits) ℓ) : Prop :=
  True

def Pre_BranchWeightIdeal (m : (ℓ : Loc Cert.BranchWeightIdeal.nD Cert.BranchWeightIdeal.τ Cert.BranchWeightIdeal.sig) → Buf (Elt Ideal) ℓ) : Prop :=
  True

def Pre_BranchWeightRefIdeal (m : (ℓ : Loc Cert.BranchWeightRefIdeal.nD Cert.BranchWeightRefIdeal.τ Cert.BranchWeightRefIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputRefIdeal (m : (ℓ : Loc Cert.InputRefIdeal.nD Cert.InputRefIdeal.τ Cert.InputRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_GatesWeight (m : (ℓ : Loc Cert.GatesWeight.nD Cert.GatesWeight.τ Cert.GatesWeight.sig) → Buf (Elt Bits) ℓ) : Prop :=
  True

def Pre_GatesWeightIdeal (m : (ℓ : Loc Cert.GatesWeightIdeal.nD Cert.GatesWeightIdeal.τ Cert.GatesWeightIdeal.sig) → Buf (Elt Ideal) ℓ) : Prop :=
  True

def Pre_GatesWeightRefIdeal (m : (ℓ : Loc Cert.GatesWeightRefIdeal.nD Cert.GatesWeightRefIdeal.τ Cert.GatesWeightRefIdeal.sig) → Buf (Elt Ideal) ℓ) : Prop :=
  True

def Pre_RkvWeight (m : (ℓ : Loc Cert.RkvWeight.nD Cert.RkvWeight.τ Cert.RkvWeight.sig) → Buf (Elt Bits) ℓ) : Prop :=
  True

def Pre_RkvWeightIdeal (m : (ℓ : Loc Cert.RkvWeightIdeal.nD Cert.RkvWeightIdeal.τ Cert.RkvWeightIdeal.sig) → Buf (Elt Ideal) ℓ) : Prop :=
  True

def Pre_RkvWeightRefIdeal (m : (ℓ : Loc Cert.RkvWeightRefIdeal.nD Cert.RkvWeightRefIdeal.τ Cert.RkvWeightRefIdeal.sig) → Buf (Elt Ideal) ℓ) : Prop :=
  True

def Pre_LoraWeight (m : (ℓ : Loc Cert.LoraWeight.nD Cert.LoraWeight.τ Cert.LoraWeight.sig) → Buf (Elt Bits) ℓ) : Prop :=
  True

def Pre_LoraWeightIdeal (m : (ℓ : Loc Cert.LoraWeightIdeal.nD Cert.LoraWeightIdeal.τ Cert.LoraWeightIdeal.sig) → Buf (Elt Ideal) ℓ) : Prop :=
  True

def Pre_LoraWeightRefIdeal (m : (ℓ : Loc Cert.LoraWeightRefIdeal.nD Cert.LoraWeightRefIdeal.τ Cert.LoraWeightRefIdeal.sig) → Buf (Elt Ideal) ℓ) : Prop :=
  True

def Pre_QkvWeight (m : (ℓ : Loc Cert.QkvWeight.nD Cert.QkvWeight.τ Cert.QkvWeight.sig) → Buf (Elt Bits) ℓ) : Prop :=
  True

def Pre_QkvWeightIdeal (m : (ℓ : Loc Cert.QkvWeightIdeal.nD Cert.QkvWeightIdeal.τ Cert.QkvWeightIdeal.sig) → Buf (Elt Ideal) ℓ) : Prop :=
  True

def Pre_QkvWeightRefIdeal (m : (ℓ : Loc Cert.QkvWeightRefIdeal.nD Cert.QkvWeightRefIdeal.τ Cert.QkvWeightRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_GateStep (m : (ℓ : Loc Cert.GateStep.nD Cert.GateStep.τ Cert.GateStep.sig) → Buf (Elt Bits) ℓ) : Prop :=
  True

def Pre_GateStepIdeal (m : (ℓ : Loc Cert.GateStepIdeal.nD Cert.GateStepIdeal.τ Cert.GateStepIdeal.sig) → Buf (Elt Ideal) ℓ) : Prop :=
  True

def Pre_GateStepRefIdeal (m : (ℓ : Loc Cert.GateStepRefIdeal.nD Cert.GateStepRefIdeal.τ Cert.GateStepRefIdeal.sig) → Buf (Elt Ideal) ℓ) : Prop :=
  True

def Pre_DownStep (m : (ℓ : Loc Cert.DownStep.nD Cert.DownStep.τ Cert.DownStep.sig) → Buf (Elt Bits) ℓ) : Prop :=
  True

def Pre_DownStepIdeal (m : (ℓ : Loc Cert.DownStepIdeal.nD Cert.DownStepIdeal.τ Cert.DownStepIdeal.sig) → Buf (Elt Ideal) ℓ) : Prop :=
  True

def Pre_DownStepRefIdeal (m : (ℓ : Loc Cert.DownStepRefIdeal.nD Cert.DownStepRefIdeal.τ Cert.DownStepRefIdeal.sig) → Buf (Elt Ideal) ℓ) : Prop :=
  True

def Pre_OutStep (m : (ℓ : Loc Cert.OutStep.nD Cert.OutStep.τ Cert.OutStep.sig) → Buf (Elt Bits) ℓ) : Prop :=
  True

def Pre_OutStepIdeal (m : (ℓ : Loc Cert.OutStepIdeal.nD Cert.OutStepIdeal.τ Cert.OutStepIdeal.sig) → Buf (Elt Ideal) ℓ) : Prop :=
  True

def Pre_OutStepRefIdeal (m : (ℓ : Loc Cert.OutStepRefIdeal.nD Cert.OutStepRefIdeal.τ Cert.OutStepRefIdeal.sig) → Buf (Elt Ideal) ℓ) : Prop :=
  True

def Pre_BranchStep (m : (ℓ : Loc Cert.BranchStep.nD Cert.BranchStep.τ Cert.BranchStep.sig) → Buf (Elt Bits) ℓ) : Prop :=
  True

def Pre_BranchStepIdeal (m : (ℓ : Loc Cert.BranchStepIdeal.nD Cert.BranchStepIdeal.τ Cert.BranchStepIdeal.sig) → Buf (Elt Ideal) ℓ) : Prop :=
  True

def Pre_BranchStepRefIdeal (m : (ℓ : Loc Cert.BranchStepRefIdeal.nD Cert.BranchStepRefIdeal.τ Cert.BranchStepRefIdeal.sig) → Buf (Elt Ideal) ℓ) : Prop :=
  True

def Pre_InputStep (m : (ℓ : Loc Cert.InputStep.nD Cert.InputStep.τ Cert.InputStep.sig) → Buf (Elt Bits) ℓ) : Prop :=
  True

def Pre_InputStepIdeal (m : (ℓ : Loc Cert.InputStepIdeal.nD Cert.InputStepIdeal.τ Cert.InputStepIdeal.sig) → Buf (Elt Ideal) ℓ) : Prop :=
  True

def Pre_InputStepRefIdeal (m : (ℓ : Loc Cert.InputStepRefIdeal.nD Cert.InputStepRefIdeal.τ Cert.InputStepRefIdeal.sig) → Buf (Elt Ideal) ℓ) : Prop :=
  True

def Pre_MixStep (m : (ℓ : Loc Cert.MixStep.nD Cert.MixStep.τ Cert.MixStep.sig) → Buf (Elt Bits) ℓ) : Prop :=
  True

def Pre_MixStepIdeal (m : (ℓ : Loc Cert.MixStepIdeal.nD Cert.MixStepIdeal.τ Cert.MixStepIdeal.sig) → Buf (Elt Ideal) ℓ) : Prop :=
  True

def Pre_MixStepRefIdeal (m : (ℓ : Loc Cert.MixStepRefIdeal.nD Cert.MixStepRefIdeal.τ Cert.MixStepRefIdeal.sig) → Buf (Elt Ideal) ℓ) : Prop :=
  True

def Pre_LoraStep (m : (ℓ : Loc Cert.LoraStep.nD Cert.LoraStep.τ Cert.LoraStep.sig) → Buf (Elt Bits) ℓ) : Prop :=
  True

def Pre_LoraStepIdeal (m : (ℓ : Loc Cert.LoraStepIdeal.nD Cert.LoraStepIdeal.τ Cert.LoraStepIdeal.sig) → Buf (Elt Ideal) ℓ) : Prop :=
  True

def Pre_LoraStepRefIdeal (m : (ℓ : Loc Cert.LoraStepRefIdeal.nD Cert.LoraStepRefIdeal.τ Cert.LoraStepRefIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedRefIdeal (m : (ℓ : Loc Cert.EmbedRefIdeal.nD Cert.EmbedRefIdeal.τ Cert.EmbedRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightRefIdeal [hDownWeightRefIdeal : Cert.DownWeightRefIdeal.Facts] : Prop :=
  ∀ (m : (ℓ : Loc Cert.DownWeightRefIdeal.nD Cert.DownWeightRefIdeal.τ Cert.DownWeightRefIdeal.sig) → Buf (Elt Ideal) ℓ) (g : Dev Cert.DownWeightRefIdeal.nD → PrngReg), Pre_DownWeightRefIdeal m →
    θ_run (Cert.DownWeightRefIdeal.defs (F := Ideal)) (onTc (τ := Cert.DownWeightRefIdeal.τ) (Cert.DownWeightRefIdeal.main (F := Ideal))) ⟨m, fun _ => 0, g⟩ (fun r => (∀ c : Dev Cert.DownWeightRefIdeal.nD,
      r.2.mem ((c.tc : Thread Cert.DownWeightRefIdeal.nD Cert.DownWeightRefIdeal.τ).loc Cert.DownWeightRefIdeal.main_arg0) = m ((c.tc : Thread Cert.DownWeightRefIdeal.nD Cert.DownWeightRefIdeal.τ).loc Cert.DownWeightRefIdeal.main_arg0)
      ∧ r.2.mem ((c.tc : Thread Cert.DownWeightRefIdeal.nD Cert.DownWeightRefIdeal.τ).loc Cert.DownWeightRefIdeal.main_arg1) = m ((c.tc : Thread Cert.DownWeightRefIdeal.nD Cert.DownWeightRefIdeal.τ).loc Cert.DownWeightRefIdeal.main_arg1))
      ∧ r.2.sem = fun _ => 0)

def quiescent_GateWeight [hGateWeight : Cert.GateWeight.Facts] : Prop :=
  ∀ (m : (ℓ : Loc Cert.GateWeight.nD Cert.GateWeight.τ Cert.GateWeight.sig) → Buf (Elt Bits) ℓ) (g : Dev Cert.GateWeight.nD → PrngReg), Pre_GateWeight m →
    θ_run (Cert.GateWeight.defs (F := Bits)) (onTc (τ := Cert.GateWeight.τ) (Cert.GateWeight.main (F := Bits))) ⟨m, fun _ => 0, g⟩ (fun r => (∀ c : Dev Cert.GateWeight.nD,
      r.2.mem ((c.tc : Thread Cert.GateWeight.nD Cert.GateWeight.τ).loc Cert.GateWeight.main_arg0) = m ((c.tc : Thread Cert.GateWeight.nD Cert.GateWeight.τ).loc Cert.GateWeight.main_arg0)
      ∧ r.2.mem ((c.tc : Thread Cert.GateWeight.nD Cert.GateWeight.τ).loc Cert.GateWeight.main_arg1) = m ((c.tc : Thread Cert.GateWeight.nD Cert.GateWeight.τ).loc Cert.GateWeight.main_arg1))
      ∧ r.2.sem = fun _ => 0)

def quiescent_GateWeightIdeal [hGateWeightIdeal : Cert.GateWeightIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg), Pre_GateWeightIdeal m →
    θ_run (Cert.GateWeightIdeal.defs (F := Ideal)) (onTc (τ := Cert.GateWeightIdeal.τ) (Cert.GateWeightIdeal.main (F := Ideal))) ⟨m, fun _ => 0, g⟩ (fun r => (∀ c : Dev Cert.GateWeightIdeal.nD,
      r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
      ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1))
      ∧ r.2.sem = fun _ => 0)

def quiescent_GateWeightRefIdeal [hGateWeightRefIdeal : Cert.GateWeightRefIdeal.Facts] : Prop :=
  ∀ (m : (ℓ : Loc Cert.GateWeightRefIdeal.nD Cert.GateWeightRefIdeal.τ Cert.GateWeightRefIdeal.sig) → Buf (Elt Ideal) ℓ) (g : Dev Cert.GateWeightRefIdeal.nD → PrngReg), Pre_GateWeightRefIdeal m →
    θ_run (Cert.GateWeightRefIdeal.defs (F := Ideal)) (onTc (τ := Cert.GateWeightRefIdeal.τ) (Cert.GateWeightRefIdeal.main (F := Ideal))) ⟨m, fun _ => 0, g⟩ (fun r => (∀ c : Dev Cert.GateWeightRefIdeal.nD,
      r.2.mem ((c.tc : Thread Cert.GateWeightRefIdeal.nD Cert.GateWeightRefIdeal.τ).loc Cert.GateWeightRefIdeal.main_arg0) = m ((c.tc : Thread Cert.GateWeightRefIdeal.nD Cert.GateWeightRefIdeal.τ).loc Cert.GateWeightRefIdeal.main_arg0)
      ∧ r.2.mem ((c.tc : Thread Cert.GateWeightRefIdeal.nD Cert.GateWeightRefIdeal.τ).loc Cert.GateWeightRefIdeal.main_arg1) = m ((c.tc : Thread Cert.GateWeightRefIdeal.nD Cert.GateWeightRefIdeal.τ).loc Cert.GateWeightRefIdeal.main_arg1))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2))
      ∧ r.2.sem = fun _ => 0)

def quiescent_Branches [hBranches : Cert.Branches.Facts] : Prop :=
  ∀ (m : (ℓ : Loc Cert.Branches.nD Cert.Branches.τ Cert.Branches.sig) → Buf (Elt Bits) ℓ) (g : Dev Cert.Branches.nD → PrngReg), Pre_Branches m →
    θ_run (Cert.Branches.defs (F := Bits)) (onTc (τ := Cert.Branches.τ) (Cert.Branches.main (F := Bits))) ⟨m, fun _ => 0, g⟩ (fun r => (∀ c : Dev Cert.Branches.nD,
      r.2.mem ((c.tc : Thread Cert.Branches.nD Cert.Branches.τ).loc Cert.Branches.main_arg0) = m ((c.tc : Thread Cert.Branches.nD Cert.Branches.τ).loc Cert.Branches.main_arg0)
      ∧ r.2.mem ((c.tc : Thread Cert.Branches.nD Cert.Branches.τ).loc Cert.Branches.main_arg1) = m ((c.tc : Thread Cert.Branches.nD Cert.Branches.τ).loc Cert.Branches.main_arg1)
      ∧ r.2.mem ((c.tc : Thread Cert.Branches.nD Cert.Branches.τ).loc Cert.Branches.main_arg2) = m ((c.tc : Thread Cert.Branches.nD Cert.Branches.τ).loc Cert.Branches.main_arg2)
      ∧ r.2.mem ((c.tc : Thread Cert.Branches.nD Cert.Branches.τ).loc Cert.Branches.main_arg3) = m ((c.tc : Thread Cert.Branches.nD Cert.Branches.τ).loc Cert.Branches.main_arg3)
      ∧ r.2.mem ((c.tc : Thread Cert.Branches.nD Cert.Branches.τ).loc Cert.Branches.main_arg4) = m ((c.tc : Thread Cert.Branches.nD Cert.Branches.τ).loc Cert.Branches.main_arg4))
      ∧ r.2.sem = fun _ => 0)

def quiescent_BranchesIdeal [hBranchesIdeal : Cert.BranchesIdeal.Facts] : Prop :=
  ∀ (m : (ℓ : Loc Cert.BranchesIdeal.nD Cert.BranchesIdeal.τ Cert.BranchesIdeal.sig) → Buf (Elt Ideal) ℓ) (g : Dev Cert.BranchesIdeal.nD → PrngReg), Pre_BranchesIdeal m →
    θ_run (Cert.BranchesIdeal.defs (F := Ideal)) (onTc (τ := Cert.BranchesIdeal.τ) (Cert.BranchesIdeal.main (F := Ideal))) ⟨m, fun _ => 0, g⟩ (fun r => (∀ c : Dev Cert.BranchesIdeal.nD,
      r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
      ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
      ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
      ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
      ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4))
      ∧ r.2.sem = fun _ => 0)

def quiescent_BranchesRefIdeal [hBranchesRefIdeal : Cert.BranchesRefIdeal.Facts] : Prop :=
  ∀ (m : (ℓ : Loc Cert.BranchesRefIdeal.nD Cert.BranchesRefIdeal.τ Cert.BranchesRefIdeal.sig) → Buf (Elt Ideal) ℓ) (g : Dev Cert.BranchesRefIdeal.nD → PrngReg), Pre_BranchesRefIdeal m →
    θ_run (Cert.BranchesRefIdeal.defs (F := Ideal)) (onTc (τ := Cert.BranchesRefIdeal.τ) (Cert.BranchesRefIdeal.main (F := Ideal))) ⟨m, fun _ => 0, g⟩ (fun r => (∀ c : Dev Cert.BranchesRefIdeal.nD,
      r.2.mem ((c.tc : Thread Cert.BranchesRefIdeal.nD Cert.BranchesRefIdeal.τ).loc Cert.BranchesRefIdeal.main_arg0) = m ((c.tc : Thread Cert.BranchesRefIdeal.nD Cert.BranchesRefIdeal.τ).loc Cert.BranchesRefIdeal.main_arg0)
      ∧ r.2.mem ((c.tc : Thread Cert.BranchesRefIdeal.nD Cert.BranchesRefIdeal.τ).loc Cert.BranchesRefIdeal.main_arg1) = m ((c.tc : Thread Cert.BranchesRefIdeal.nD Cert.BranchesRefIdeal.τ).loc Cert.BranchesRefIdeal.main_arg1)
      ∧ r.2.mem ((c.tc : Thread Cert.BranchesRefIdeal.nD Cert.BranchesRefIdeal.τ).loc Cert.BranchesRefIdeal.main_arg2) = m ((c.tc : Thread Cert.BranchesRefIdeal.nD Cert.BranchesRefIdeal.τ).loc Cert.BranchesRefIdeal.main_arg2)
      ∧ r.2.mem ((c.tc : Thread Cert.BranchesRefIdeal.nD Cert.BranchesRefIdeal.τ).loc Cert.BranchesRefIdeal.main_arg3) = m ((c.tc : Thread Cert.BranchesRefIdeal.nD Cert.BranchesRefIdeal.τ).loc Cert.BranchesRefIdeal.main_arg3)
      ∧ r.2.mem ((c.tc : Thread Cert.BranchesRefIdeal.nD Cert.BranchesRefIdeal.τ).loc Cert.BranchesRefIdeal.main_arg4) = m ((c.tc : Thread Cert.BranchesRefIdeal.nD Cert.BranchesRefIdeal.τ).loc Cert.BranchesRefIdeal.main_arg4))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2)
      ∧ r.2.mem ((c.tc : Thread Cert.Residual.nD Cert.Residual.τ).loc Cert.Residual.main_arg3) = m ((c.tc : Thread Cert.Residual.nD Cert.Residual.τ).loc Cert.Residual.main_arg3))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ r.2.sem = fun _ => 0)

def quiescent_ResidualRefIdeal [hResidualRefIdeal : Cert.ResidualRefIdeal.Facts] : Prop :=
  ∀ (m : (ℓ : Loc Cert.ResidualRefIdeal.nD Cert.ResidualRefIdeal.τ Cert.ResidualRefIdeal.sig) → Buf (Elt Ideal) ℓ) (g : Dev Cert.ResidualRefIdeal.nD → PrngReg), Pre_ResidualRefIdeal m →
    θ_run (Cert.ResidualRefIdeal.defs (F := Ideal)) (onTc (τ := Cert.ResidualRefIdeal.τ) (Cert.ResidualRefIdeal.main (F := Ideal))) ⟨m, fun _ => 0, g⟩ (fun r => (∀ c : Dev Cert.ResidualRefIdeal.nD,
      r.2.mem ((c.tc : Thread Cert.ResidualRefIdeal.nD Cert.ResidualRefIdeal.τ).loc Cert.ResidualRefIdeal.main_arg0) = m ((c.tc : Thread Cert.ResidualRefIdeal.nD Cert.ResidualRefIdeal.τ).loc Cert.ResidualRefIdeal.main_arg0)
      ∧ r.2.mem ((c.tc : Thread Cert.ResidualRefIdeal.nD Cert.ResidualRefIdeal.τ).loc Cert.ResidualRefIdeal.main_arg1) = m ((c.tc : Thread Cert.ResidualRefIdeal.nD Cert.ResidualRefIdeal.τ).loc Cert.ResidualRefIdeal.main_arg1)
      ∧ r.2.mem ((c.tc : Thread Cert.ResidualRefIdeal.nD Cert.ResidualRefIdeal.τ).loc Cert.ResidualRefIdeal.main_arg2) = m ((c.tc : Thread Cert.ResidualRefIdeal.nD Cert.ResidualRefIdeal.τ).loc Cert.ResidualRefIdeal.main_arg2)
      ∧ r.2.mem ((c.tc : Thread Cert.ResidualRefIdeal.nD Cert.ResidualRefIdeal.τ).loc Cert.ResidualRefIdeal.main_arg3) = m ((c.tc : Thread Cert.ResidualRefIdeal.nD Cert.ResidualRefIdeal.τ).loc Cert.ResidualRefIdeal.main_arg3))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightRefIdeal [hOutWeightRefIdeal : Cert.OutWeightRefIdeal.Facts] : Prop :=
  ∀ (m : (ℓ : Loc Cert.OutWeightRefIdeal.nD Cert.OutWeightRefIdeal.τ Cert.OutWeightRefIdeal.sig) → Buf (Elt Ideal) ℓ) (g : Dev Cert.OutWeightRefIdeal.nD → PrngReg), Pre_OutWeightRefIdeal m →
    θ_run (Cert.OutWeightRefIdeal.defs (F := Ideal)) (onTc (τ := Cert.OutWeightRefIdeal.τ) (Cert.OutWeightRefIdeal.main (F := Ideal))) ⟨m, fun _ => 0, g⟩ (fun r => (∀ c : Dev Cert.OutWeightRefIdeal.nD,
      r.2.mem ((c.tc : Thread Cert.OutWeightRefIdeal.nD Cert.OutWeightRefIdeal.τ).loc Cert.OutWeightRefIdeal.main_arg0) = m ((c.tc : Thread Cert.OutWeightRefIdeal.nD Cert.OutWeightRefIdeal.τ).loc Cert.OutWeightRefIdeal.main_arg0)
      ∧ r.2.mem ((c.tc : Thread Cert.OutWeightRefIdeal.nD Cert.OutWeightRefIdeal.τ).loc Cert.OutWeightRefIdeal.main_arg1) = m ((c.tc : Thread Cert.OutWeightRefIdeal.nD Cert.OutWeightRefIdeal.τ).loc Cert.OutWeightRefIdeal.main_arg1))
      ∧ r.2.sem = fun _ => 0)

def quiescent_BranchWeight [hBranchWeight : Cert.BranchWeight.Facts] : Prop :=
  ∀ (m : (ℓ : Loc Cert.BranchWeight.nD Cert.BranchWeight.τ Cert.BranchWeight.sig) → Buf (Elt Bits) ℓ) (g : Dev Cert.BranchWeight.nD → PrngReg), Pre_BranchWeight m →
    θ_run (Cert.BranchWeight.defs (F := Bits)) (onTc (τ := Cert.BranchWeight.τ) (Cert.BranchWeight.main (F := Bits))) ⟨m, fun _ => 0, g⟩ (fun r => (∀ c : Dev Cert.BranchWeight.nD,
      r.2.mem ((c.tc : Thread Cert.BranchWeight.nD Cert.BranchWeight.τ).loc Cert.BranchWeight.main_arg0) = m ((c.tc : Thread Cert.BranchWeight.nD Cert.BranchWeight.τ).loc Cert.BranchWeight.main_arg0)
      ∧ r.2.mem ((c.tc : Thread Cert.BranchWeight.nD Cert.BranchWeight.τ).loc Cert.BranchWeight.main_arg1) = m ((c.tc : Thread Cert.BranchWeight.nD Cert.BranchWeight.τ).loc Cert.BranchWeight.main_arg1))
      ∧ r.2.sem = fun _ => 0)

def quiescent_BranchWeightIdeal [hBranchWeightIdeal : Cert.BranchWeightIdeal.Facts] : Prop :=
  ∀ (m : (ℓ : Loc Cert.BranchWeightIdeal.nD Cert.BranchWeightIdeal.τ Cert.BranchWeightIdeal.sig) → Buf (Elt Ideal) ℓ) (g : Dev Cert.BranchWeightIdeal.nD → PrngReg), Pre_BranchWeightIdeal m →
    θ_run (Cert.BranchWeightIdeal.defs (F := Ideal)) (onTc (τ := Cert.BranchWeightIdeal.τ) (Cert.BranchWeightIdeal.main (F := Ideal))) ⟨m, fun _ => 0, g⟩ (fun r => (∀ c : Dev Cert.BranchWeightIdeal.nD,
      r.2.mem ((c.tc : Thread Cert.BranchWeightIdeal.nD Cert.BranchWeightIdeal.τ).loc Cert.BranchWeightIdeal.main_arg0) = m ((c.tc : Thread Cert.BranchWeightIdeal.nD Cert.BranchWeightIdeal.τ).loc Cert.BranchWeightIdeal.main_arg0)
      ∧ r.2.mem ((c.tc : Thread Cert.BranchWeightIdeal.nD Cert.BranchWeightIdeal.τ).loc Cert.BranchWeightIdeal.main_arg1) = m ((c.tc : Thread Cert.BranchWeightIdeal.nD Cert.BranchWeightIdeal.τ).loc Cert.BranchWeightIdeal.main_arg1))
      ∧ r.2.sem = fun _ => 0)

def quiescent_BranchWeightRefIdeal [hBranchWeightRefIdeal : Cert.BranchWeightRefIdeal.Facts] : Prop :=
  ∀ (m : (ℓ : Loc Cert.BranchWeightRefIdeal.nD Cert.BranchWeightRefIdeal.τ Cert.BranchWeightRefIdeal.sig) → Buf (Elt Ideal) ℓ) (g : Dev Cert.BranchWeightRefIdeal.nD → PrngReg), Pre_BranchWeightRefIdeal m →
    θ_run (Cert.BranchWeightRefIdeal.defs (F := Ideal)) (onTc (τ := Cert.BranchWeightRefIdeal.τ) (Cert.BranchWeightRefIdeal.main (F := Ideal))) ⟨m, fun _ => 0, g⟩ (fun r => (∀ c : Dev Cert.BranchWeightRefIdeal.nD,
      r.2.mem ((c.tc : Thread Cert.BranchWeightRefIdeal.nD Cert.BranchWeightRefIdeal.τ).loc Cert.BranchWeightRefIdeal.main_arg0) = m ((c.tc : Thread Cert.BranchWeightRefIdeal.nD Cert.BranchWeightRefIdeal.τ).loc Cert.BranchWeightRefIdeal.main_arg0)
      ∧ r.2.mem ((c.tc : Thread Cert.BranchWeightRefIdeal.nD Cert.BranchWeightRefIdeal.τ).loc Cert.BranchWeightRefIdeal.main_arg1) = m ((c.tc : Thread Cert.BranchWeightRefIdeal.nD Cert.BranchWeightRefIdeal.τ).loc Cert.BranchWeightRefIdeal.main_arg1))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ r.2.sem = fun _ => 0)

def quiescent_InputRefIdeal [hInputRefIdeal : Cert.InputRefIdeal.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3)
      ∧ r.2.mem ((c.tc : Thread Cert.InputRefIdeal.nD Cert.InputRefIdeal.τ).loc Cert.InputRefIdeal.main_arg4) = m ((c.tc : Thread Cert.InputRefIdeal.nD Cert.InputRefIdeal.τ).loc Cert.InputRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_GatesWeight [hGatesWeight : Cert.GatesWeight.Facts] : Prop :=
  ∀ (m : (ℓ : Loc Cert.GatesWeight.nD Cert.GatesWeight.τ Cert.GatesWeight.sig) → Buf (Elt Bits) ℓ) (g : Dev Cert.GatesWeight.nD → PrngReg), Pre_GatesWeight m →
    θ_run (Cert.GatesWeight.defs (F := Bits)) (onTc (τ := Cert.GatesWeight.τ) (Cert.GatesWeight.main (F := Bits))) ⟨m, fun _ => 0, g⟩ (fun r => (∀ c : Dev Cert.GatesWeight.nD,
      r.2.mem ((c.tc : Thread Cert.GatesWeight.nD Cert.GatesWeight.τ).loc Cert.GatesWeight.main_arg0) = m ((c.tc : Thread Cert.GatesWeight.nD Cert.GatesWeight.τ).loc Cert.GatesWeight.main_arg0)
      ∧ r.2.mem ((c.tc : Thread Cert.GatesWeight.nD Cert.GatesWeight.τ).loc Cert.GatesWeight.main_arg1) = m ((c.tc : Thread Cert.GatesWeight.nD Cert.GatesWeight.τ).loc Cert.GatesWeight.main_arg1))
      ∧ r.2.sem = fun _ => 0)

def quiescent_GatesWeightIdeal [hGatesWeightIdeal : Cert.GatesWeightIdeal.Facts] : Prop :=
  ∀ (m : (ℓ : Loc Cert.GatesWeightIdeal.nD Cert.GatesWeightIdeal.τ Cert.GatesWeightIdeal.sig) → Buf (Elt Ideal) ℓ) (g : Dev Cert.GatesWeightIdeal.nD → PrngReg), Pre_GatesWeightIdeal m →
    θ_run (Cert.GatesWeightIdeal.defs (F := Ideal)) (onTc (τ := Cert.GatesWeightIdeal.τ) (Cert.GatesWeightIdeal.main (F := Ideal))) ⟨m, fun _ => 0, g⟩ (fun r => (∀ c : Dev Cert.GatesWeightIdeal.nD,
      r.2.mem ((c.tc : Thread Cert.GatesWeightIdeal.nD Cert.GatesWeightIdeal.τ).loc Cert.GatesWeightIdeal.main_arg0) = m ((c.tc : Thread Cert.GatesWeightIdeal.nD Cert.GatesWeightIdeal.τ).loc Cert.GatesWeightIdeal.main_arg0)
      ∧ r.2.mem ((c.tc : Thread Cert.GatesWeightIdeal.nD Cert.GatesWeightIdeal.τ).loc Cert.GatesWeightIdeal.main_arg1) = m ((c.tc : Thread Cert.GatesWeightIdeal.nD Cert.GatesWeightIdeal.τ).loc Cert.GatesWeightIdeal.main_arg1))
      ∧ r.2.sem = fun _ => 0)

def quiescent_GatesWeightRefIdeal [hGatesWeightRefIdeal : Cert.GatesWeightRefIdeal.Facts] : Prop :=
  ∀ (m : (ℓ : Loc Cert.GatesWeightRefIdeal.nD Cert.GatesWeightRefIdeal.τ Cert.GatesWeightRefIdeal.sig) → Buf (Elt Ideal) ℓ) (g : Dev Cert.GatesWeightRefIdeal.nD → PrngReg), Pre_GatesWeightRefIdeal m →
    θ_run (Cert.GatesWeightRefIdeal.defs (F := Ideal)) (onTc (τ := Cert.GatesWeightRefIdeal.τ) (Cert.GatesWeightRefIdeal.main (F := Ideal))) ⟨m, fun _ => 0, g⟩ (fun r => (∀ c : Dev Cert.GatesWeightRefIdeal.nD,
      r.2.mem ((c.tc : Thread Cert.GatesWeightRefIdeal.nD Cert.GatesWeightRefIdeal.τ).loc Cert.GatesWeightRefIdeal.main_arg0) = m ((c.tc : Thread Cert.GatesWeightRefIdeal.nD Cert.GatesWeightRefIdeal.τ).loc Cert.GatesWeightRefIdeal.main_arg0)
      ∧ r.2.mem ((c.tc : Thread Cert.GatesWeightRefIdeal.nD Cert.GatesWeightRefIdeal.τ).loc Cert.GatesWeightRefIdeal.main_arg1) = m ((c.tc : Thread Cert.GatesWeightRefIdeal.nD Cert.GatesWeightRefIdeal.τ).loc Cert.GatesWeightRefIdeal.main_arg1))
      ∧ r.2.sem = fun _ => 0)

def quiescent_RkvWeight [hRkvWeight : Cert.RkvWeight.Facts] : Prop :=
  ∀ (m : (ℓ : Loc Cert.RkvWeight.nD Cert.RkvWeight.τ Cert.RkvWeight.sig) → Buf (Elt Bits) ℓ) (g : Dev Cert.RkvWeight.nD → PrngReg), Pre_RkvWeight m →
    θ_run (Cert.RkvWeight.defs (F := Bits)) (onTc (τ := Cert.RkvWeight.τ) (Cert.RkvWeight.main (F := Bits))) ⟨m, fun _ => 0, g⟩ (fun r => (∀ c : Dev Cert.RkvWeight.nD,
      r.2.mem ((c.tc : Thread Cert.RkvWeight.nD Cert.RkvWeight.τ).loc Cert.RkvWeight.main_arg0) = m ((c.tc : Thread Cert.RkvWeight.nD Cert.RkvWeight.τ).loc Cert.RkvWeight.main_arg0)
      ∧ r.2.mem ((c.tc : Thread Cert.RkvWeight.nD Cert.RkvWeight.τ).loc Cert.RkvWeight.main_arg1) = m ((c.tc : Thread Cert.RkvWeight.nD Cert.RkvWeight.τ).loc Cert.RkvWeight.main_arg1)
      ∧ r.2.mem ((c.tc : Thread Cert.RkvWeight.nD Cert.RkvWeight.τ).loc Cert.RkvWeight.main_arg2) = m ((c.tc : Thread Cert.RkvWeight.nD Cert.RkvWeight.τ).loc Cert.RkvWeight.main_arg2))
      ∧ r.2.sem = fun _ => 0)

def quiescent_RkvWeightIdeal [hRkvWeightIdeal : Cert.RkvWeightIdeal.Facts] : Prop :=
  ∀ (m : (ℓ : Loc Cert.RkvWeightIdeal.nD Cert.RkvWeightIdeal.τ Cert.RkvWeightIdeal.sig) → Buf (Elt Ideal) ℓ) (g : Dev Cert.RkvWeightIdeal.nD → PrngReg), Pre_RkvWeightIdeal m →
    θ_run (Cert.RkvWeightIdeal.defs (F := Ideal)) (onTc (τ := Cert.RkvWeightIdeal.τ) (Cert.RkvWeightIdeal.main (F := Ideal))) ⟨m, fun _ => 0, g⟩ (fun r => (∀ c : Dev Cert.RkvWeightIdeal.nD,
      r.2.mem ((c.tc : Thread Cert.RkvWeightIdeal.nD Cert.RkvWeightIdeal.τ).loc Cert.RkvWeightIdeal.main_arg0) = m ((c.tc : Thread Cert.RkvWeightIdeal.nD Cert.RkvWeightIdeal.τ).loc Cert.RkvWeightIdeal.main_arg0)
      ∧ r.2.mem ((c.tc : Thread Cert.RkvWeightIdeal.nD Cert.RkvWeightIdeal.τ).loc Cert.RkvWeightIdeal.main_arg1) = m ((c.tc : Thread Cert.RkvWeightIdeal.nD Cert.RkvWeightIdeal.τ).loc Cert.RkvWeightIdeal.main_arg1)
      ∧ r.2.mem ((c.tc : Thread Cert.RkvWeightIdeal.nD Cert.RkvWeightIdeal.τ).loc Cert.RkvWeightIdeal.main_arg2) = m ((c.tc : Thread Cert.RkvWeightIdeal.nD Cert.RkvWeightIdeal.τ).loc Cert.RkvWeightIdeal.main_arg2))
      ∧ r.2.sem = fun _ => 0)

def quiescent_RkvWeightRefIdeal [hRkvWeightRefIdeal : Cert.RkvWeightRefIdeal.Facts] : Prop :=
  ∀ (m : (ℓ : Loc Cert.RkvWeightRefIdeal.nD Cert.RkvWeightRefIdeal.τ Cert.RkvWeightRefIdeal.sig) → Buf (Elt Ideal) ℓ) (g : Dev Cert.RkvWeightRefIdeal.nD → PrngReg), Pre_RkvWeightRefIdeal m →
    θ_run (Cert.RkvWeightRefIdeal.defs (F := Ideal)) (onTc (τ := Cert.RkvWeightRefIdeal.τ) (Cert.RkvWeightRefIdeal.main (F := Ideal))) ⟨m, fun _ => 0, g⟩ (fun r => (∀ c : Dev Cert.RkvWeightRefIdeal.nD,
      r.2.mem ((c.tc : Thread Cert.RkvWeightRefIdeal.nD Cert.RkvWeightRefIdeal.τ).loc Cert.RkvWeightRefIdeal.main_arg0) = m ((c.tc : Thread Cert.RkvWeightRefIdeal.nD Cert.RkvWeightRefIdeal.τ).loc Cert.RkvWeightRefIdeal.main_arg0)
      ∧ r.2.mem ((c.tc : Thread Cert.RkvWeightRefIdeal.nD Cert.RkvWeightRefIdeal.τ).loc Cert.RkvWeightRefIdeal.main_arg1) = m ((c.tc : Thread Cert.RkvWeightRefIdeal.nD Cert.RkvWeightRefIdeal.τ).loc Cert.RkvWeightRefIdeal.main_arg1)
      ∧ r.2.mem ((c.tc : Thread Cert.RkvWeightRefIdeal.nD Cert.RkvWeightRefIdeal.τ).loc Cert.RkvWeightRefIdeal.main_arg2) = m ((c.tc : Thread Cert.RkvWeightRefIdeal.nD Cert.RkvWeightRefIdeal.τ).loc Cert.RkvWeightRefIdeal.main_arg2))
      ∧ r.2.sem = fun _ => 0)

def quiescent_LoraWeight [hLoraWeight : Cert.LoraWeight.Facts] : Prop :=
  ∀ (m : (ℓ : Loc Cert.LoraWeight.nD Cert.LoraWeight.τ Cert.LoraWeight.sig) → Buf (Elt Bits) ℓ) (g : Dev Cert.LoraWeight.nD → PrngReg), Pre_LoraWeight m →
    θ_run (Cert.LoraWeight.defs (F := Bits)) (onTc (τ := Cert.LoraWeight.τ) (Cert.LoraWeight.main (F := Bits))) ⟨m, fun _ => 0, g⟩ (fun r => (∀ c : Dev Cert.LoraWeight.nD,
      r.2.mem ((c.tc : Thread Cert.LoraWeight.nD Cert.LoraWeight.τ).loc Cert.LoraWeight.main_arg0) = m ((c.tc : Thread Cert.LoraWeight.nD Cert.LoraWeight.τ).loc Cert.LoraWeight.main_arg0)
      ∧ r.2.mem ((c.tc : Thread Cert.LoraWeight.nD Cert.LoraWeight.τ).loc Cert.LoraWeight.main_arg1) = m ((c.tc : Thread Cert.LoraWeight.nD Cert.LoraWeight.τ).loc Cert.LoraWeight.main_arg1)
      ∧ r.2.mem ((c.tc : Thread Cert.LoraWeight.nD Cert.LoraWeight.τ).loc Cert.LoraWeight.main_arg2) = m ((c.tc : Thread Cert.LoraWeight.nD Cert.LoraWeight.τ).loc Cert.LoraWeight.main_arg2))
      ∧ r.2.sem = fun _ => 0)

def quiescent_LoraWeightIdeal [hLoraWeightIdeal : Cert.LoraWeightIdeal.Facts] : Prop :=
  ∀ (m : (ℓ : Loc Cert.LoraWeightIdeal.nD Cert.LoraWeightIdeal.τ Cert.LoraWeightIdeal.sig) → Buf (Elt Ideal) ℓ) (g : Dev Cert.LoraWeightIdeal.nD → PrngReg), Pre_LoraWeightIdeal m →
    θ_run (Cert.LoraWeightIdeal.defs (F := Ideal)) (onTc (τ := Cert.LoraWeightIdeal.τ) (Cert.LoraWeightIdeal.main (F := Ideal))) ⟨m, fun _ => 0, g⟩ (fun r => (∀ c : Dev Cert.LoraWeightIdeal.nD,
      r.2.mem ((c.tc : Thread Cert.LoraWeightIdeal.nD Cert.LoraWeightIdeal.τ).loc Cert.LoraWeightIdeal.main_arg0) = m ((c.tc : Thread Cert.LoraWeightIdeal.nD Cert.LoraWeightIdeal.τ).loc Cert.LoraWeightIdeal.main_arg0)
      ∧ r.2.mem ((c.tc : Thread Cert.LoraWeightIdeal.nD Cert.LoraWeightIdeal.τ).loc Cert.LoraWeightIdeal.main_arg1) = m ((c.tc : Thread Cert.LoraWeightIdeal.nD Cert.LoraWeightIdeal.τ).loc Cert.LoraWeightIdeal.main_arg1)
      ∧ r.2.mem ((c.tc : Thread Cert.LoraWeightIdeal.nD Cert.LoraWeightIdeal.τ).loc Cert.LoraWeightIdeal.main_arg2) = m ((c.tc : Thread Cert.LoraWeightIdeal.nD Cert.LoraWeightIdeal.τ).loc Cert.LoraWeightIdeal.main_arg2))
      ∧ r.2.sem = fun _ => 0)

def quiescent_LoraWeightRefIdeal [hLoraWeightRefIdeal : Cert.LoraWeightRefIdeal.Facts] : Prop :=
  ∀ (m : (ℓ : Loc Cert.LoraWeightRefIdeal.nD Cert.LoraWeightRefIdeal.τ Cert.LoraWeightRefIdeal.sig) → Buf (Elt Ideal) ℓ) (g : Dev Cert.LoraWeightRefIdeal.nD → PrngReg), Pre_LoraWeightRefIdeal m →
    θ_run (Cert.LoraWeightRefIdeal.defs (F := Ideal)) (onTc (τ := Cert.LoraWeightRefIdeal.τ) (Cert.LoraWeightRefIdeal.main (F := Ideal))) ⟨m, fun _ => 0, g⟩ (fun r => (∀ c : Dev Cert.LoraWeightRefIdeal.nD,
      r.2.mem ((c.tc : Thread Cert.LoraWeightRefIdeal.nD Cert.LoraWeightRefIdeal.τ).loc Cert.LoraWeightRefIdeal.main_arg0) = m ((c.tc : Thread Cert.LoraWeightRefIdeal.nD Cert.LoraWeightRefIdeal.τ).loc Cert.LoraWeightRefIdeal.main_arg0)
      ∧ r.2.mem ((c.tc : Thread Cert.LoraWeightRefIdeal.nD Cert.LoraWeightRefIdeal.τ).loc Cert.LoraWeightRefIdeal.main_arg1) = m ((c.tc : Thread Cert.LoraWeightRefIdeal.nD Cert.LoraWeightRefIdeal.τ).loc Cert.LoraWeightRefIdeal.main_arg1)
      ∧ r.2.mem ((c.tc : Thread Cert.LoraWeightRefIdeal.nD Cert.LoraWeightRefIdeal.τ).loc Cert.LoraWeightRefIdeal.main_arg2) = m ((c.tc : Thread Cert.LoraWeightRefIdeal.nD Cert.LoraWeightRefIdeal.τ).loc Cert.LoraWeightRefIdeal.main_arg2))
      ∧ r.2.sem = fun _ => 0)

def quiescent_QkvWeight [hQkvWeight : Cert.QkvWeight.Facts] : Prop :=
  ∀ (m : (ℓ : Loc Cert.QkvWeight.nD Cert.QkvWeight.τ Cert.QkvWeight.sig) → Buf (Elt Bits) ℓ) (g : Dev Cert.QkvWeight.nD → PrngReg), Pre_QkvWeight m →
    θ_run (Cert.QkvWeight.defs (F := Bits)) (onTc (τ := Cert.QkvWeight.τ) (Cert.QkvWeight.main (F := Bits))) ⟨m, fun _ => 0, g⟩ (fun r => (∀ c : Dev Cert.QkvWeight.nD,
      r.2.mem ((c.tc : Thread Cert.QkvWeight.nD Cert.QkvWeight.τ).loc Cert.QkvWeight.main_arg0) = m ((c.tc : Thread Cert.QkvWeight.nD Cert.QkvWeight.τ).loc Cert.QkvWeight.main_arg0)
      ∧ r.2.mem ((c.tc : Thread Cert.QkvWeight.nD Cert.QkvWeight.τ).loc Cert.QkvWeight.main_arg1) = m ((c.tc : Thread Cert.QkvWeight.nD Cert.QkvWeight.τ).loc Cert.QkvWeight.main_arg1)
      ∧ r.2.mem ((c.tc : Thread Cert.QkvWeight.nD Cert.QkvWeight.τ).loc Cert.QkvWeight.main_arg2) = m ((c.tc : Thread Cert.QkvWeight.nD Cert.QkvWeight.τ).loc Cert.QkvWeight.main_arg2))
      ∧ r.2.sem = fun _ => 0)

def quiescent_QkvWeightIdeal [hQkvWeightIdeal : Cert.QkvWeightIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg), Pre_QkvWeightIdeal m →
    θ_run (Cert.QkvWeightIdeal.defs (F := Ideal)) (onTc (τ := Cert.QkvWeightIdeal.τ) (Cert.QkvWeightIdeal.main (F := Ideal))) ⟨m, fun _ => 0, g⟩ (fun r => (∀ c : Dev Cert.QkvWeightIdeal.nD,
      r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
      ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1)
      ∧ r.2.mem ((c.tc : Thread Cert.QkvWeightIdeal.nD Cert.QkvWeightIdeal.τ).loc Cert.QkvWeightIdeal.main_arg2) = m ((c.tc : Thread Cert.QkvWeightIdeal.nD Cert.QkvWeightIdeal.τ).loc Cert.QkvWeightIdeal.main_arg2))
      ∧ r.2.sem = fun _ => 0)

def quiescent_QkvWeightRefIdeal [hQkvWeightRefIdeal : Cert.QkvWeightRefIdeal.Facts] : Prop :=
  ∀ (m : (ℓ : Loc Cert.QkvWeightRefIdeal.nD Cert.QkvWeightRefIdeal.τ Cert.QkvWeightRefIdeal.sig) → Buf (Elt Ideal) ℓ) (g : Dev Cert.QkvWeightRefIdeal.nD → PrngReg), Pre_QkvWeightRefIdeal m →
    θ_run (Cert.QkvWeightRefIdeal.defs (F := Ideal)) (onTc (τ := Cert.QkvWeightRefIdeal.τ) (Cert.QkvWeightRefIdeal.main (F := Ideal))) ⟨m, fun _ => 0, g⟩ (fun r => (∀ c : Dev Cert.QkvWeightRefIdeal.nD,
      r.2.mem ((c.tc : Thread Cert.QkvWeightRefIdeal.nD Cert.QkvWeightRefIdeal.τ).loc Cert.QkvWeightRefIdeal.main_arg0) = m ((c.tc : Thread Cert.QkvWeightRefIdeal.nD Cert.QkvWeightRefIdeal.τ).loc Cert.QkvWeightRefIdeal.main_arg0)
      ∧ r.2.mem ((c.tc : Thread Cert.QkvWeightRefIdeal.nD Cert.QkvWeightRefIdeal.τ).loc Cert.QkvWeightRefIdeal.main_arg1) = m ((c.tc : Thread Cert.QkvWeightRefIdeal.nD Cert.QkvWeightRefIdeal.τ).loc Cert.QkvWeightRefIdeal.main_arg1)
      ∧ r.2.mem ((c.tc : Thread Cert.QkvWeightRefIdeal.nD Cert.QkvWeightRefIdeal.τ).loc Cert.QkvWeightRefIdeal.main_arg2) = m ((c.tc : Thread Cert.QkvWeightRefIdeal.nD Cert.QkvWeightRefIdeal.τ).loc Cert.QkvWeightRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_GateStep [hGateStep : Cert.GateStep.Facts] : Prop :=
  ∀ (m : (ℓ : Loc Cert.GateStep.nD Cert.GateStep.τ Cert.GateStep.sig) → Buf (Elt Bits) ℓ) (g : Dev Cert.GateStep.nD → PrngReg), Pre_GateStep m →
    θ_run (Cert.GateStep.defs (F := Bits)) (onTc (τ := Cert.GateStep.τ) (Cert.GateStep.main (F := Bits))) ⟨m, fun _ => 0, g⟩ (fun r => (∀ c : Dev Cert.GateStep.nD,
      r.2.mem ((c.tc : Thread Cert.GateStep.nD Cert.GateStep.τ).loc Cert.GateStep.main_arg0) = m ((c.tc : Thread Cert.GateStep.nD Cert.GateStep.τ).loc Cert.GateStep.main_arg0)
      ∧ r.2.mem ((c.tc : Thread Cert.GateStep.nD Cert.GateStep.τ).loc Cert.GateStep.main_arg1) = m ((c.tc : Thread Cert.GateStep.nD Cert.GateStep.τ).loc Cert.GateStep.main_arg1)
      ∧ r.2.mem ((c.tc : Thread Cert.GateStep.nD Cert.GateStep.τ).loc Cert.GateStep.main_arg2) = m ((c.tc : Thread Cert.GateStep.nD Cert.GateStep.τ).loc Cert.GateStep.main_arg2)
      ∧ r.2.mem ((c.tc : Thread Cert.GateStep.nD Cert.GateStep.τ).loc Cert.GateStep.main_arg3) = m ((c.tc : Thread Cert.GateStep.nD Cert.GateStep.τ).loc Cert.GateStep.main_arg3)
      ∧ r.2.mem ((c.tc : Thread Cert.GateStep.nD Cert.GateStep.τ).loc Cert.GateStep.main_arg4) = m ((c.tc : Thread Cert.GateStep.nD Cert.GateStep.τ).loc Cert.GateStep.main_arg4))
      ∧ r.2.sem = fun _ => 0)

def quiescent_GateStepIdeal [hGateStepIdeal : Cert.GateStepIdeal.Facts] : Prop :=
  ∀ (m : (ℓ : Loc Cert.GateStepIdeal.nD Cert.GateStepIdeal.τ Cert.GateStepIdeal.sig) → Buf (Elt Ideal) ℓ) (g : Dev Cert.GateStepIdeal.nD → PrngReg), Pre_GateStepIdeal m →
    θ_run (Cert.GateStepIdeal.defs (F := Ideal)) (onTc (τ := Cert.GateStepIdeal.τ) (Cert.GateStepIdeal.main (F := Ideal))) ⟨m, fun _ => 0, g⟩ (fun r => (∀ c : Dev Cert.GateStepIdeal.nD,
      r.2.mem ((c.tc : Thread Cert.GateStepIdeal.nD Cert.GateStepIdeal.τ).loc Cert.GateStepIdeal.main_arg0) = m ((c.tc : Thread Cert.GateStepIdeal.nD Cert.GateStepIdeal.τ).loc Cert.GateStepIdeal.main_arg0)
      ∧ r.2.mem ((c.tc : Thread Cert.GateStepIdeal.nD Cert.GateStepIdeal.τ).loc Cert.GateStepIdeal.main_arg1) = m ((c.tc : Thread Cert.GateStepIdeal.nD Cert.GateStepIdeal.τ).loc Cert.GateStepIdeal.main_arg1)
      ∧ r.2.mem ((c.tc : Thread Cert.GateStepIdeal.nD Cert.GateStepIdeal.τ).loc Cert.GateStepIdeal.main_arg2) = m ((c.tc : Thread Cert.GateStepIdeal.nD Cert.GateStepIdeal.τ).loc Cert.GateStepIdeal.main_arg2)
      ∧ r.2.mem ((c.tc : Thread Cert.GateStepIdeal.nD Cert.GateStepIdeal.τ).loc Cert.GateStepIdeal.main_arg3) = m ((c.tc : Thread Cert.GateStepIdeal.nD Cert.GateStepIdeal.τ).loc Cert.GateStepIdeal.main_arg3)
      ∧ r.2.mem ((c.tc : Thread Cert.GateStepIdeal.nD Cert.GateStepIdeal.τ).loc Cert.GateStepIdeal.main_arg4) = m ((c.tc : Thread Cert.GateStepIdeal.nD Cert.GateStepIdeal.τ).loc Cert.GateStepIdeal.main_arg4))
      ∧ r.2.sem = fun _ => 0)

def quiescent_GateStepRefIdeal [hGateStepRefIdeal : Cert.GateStepRefIdeal.Facts] : Prop :=
  ∀ (m : (ℓ : Loc Cert.GateStepRefIdeal.nD Cert.GateStepRefIdeal.τ Cert.GateStepRefIdeal.sig) → Buf (Elt Ideal) ℓ) (g : Dev Cert.GateStepRefIdeal.nD → PrngReg), Pre_GateStepRefIdeal m →
    θ_run (Cert.GateStepRefIdeal.defs (F := Ideal)) (onTc (τ := Cert.GateStepRefIdeal.τ) (Cert.GateStepRefIdeal.main (F := Ideal))) ⟨m, fun _ => 0, g⟩ (fun r => (∀ c : Dev Cert.GateStepRefIdeal.nD,
      r.2.mem ((c.tc : Thread Cert.GateStepRefIdeal.nD Cert.GateStepRefIdeal.τ).loc Cert.GateStepRefIdeal.main_arg0) = m ((c.tc : Thread Cert.GateStepRefIdeal.nD Cert.GateStepRefIdeal.τ).loc Cert.GateStepRefIdeal.main_arg0)
      ∧ r.2.mem ((c.tc : Thread Cert.GateStepRefIdeal.nD Cert.GateStepRefIdeal.τ).loc Cert.GateStepRefIdeal.main_arg1) = m ((c.tc : Thread Cert.GateStepRefIdeal.nD Cert.GateStepRefIdeal.τ).loc Cert.GateStepRefIdeal.main_arg1)
      ∧ r.2.mem ((c.tc : Thread Cert.GateStepRefIdeal.nD Cert.GateStepRefIdeal.τ).loc Cert.GateStepRefIdeal.main_arg2) = m ((c.tc : Thread Cert.GateStepRefIdeal.nD Cert.GateStepRefIdeal.τ).loc Cert.GateStepRefIdeal.main_arg2)
      ∧ r.2.mem ((c.tc : Thread Cert.GateStepRefIdeal.nD Cert.GateStepRefIdeal.τ).loc Cert.GateStepRefIdeal.main_arg3) = m ((c.tc : Thread Cert.GateStepRefIdeal.nD Cert.GateStepRefIdeal.τ).loc Cert.GateStepRefIdeal.main_arg3)
      ∧ r.2.mem ((c.tc : Thread Cert.GateStepRefIdeal.nD Cert.GateStepRefIdeal.τ).loc Cert.GateStepRefIdeal.main_arg4) = m ((c.tc : Thread Cert.GateStepRefIdeal.nD Cert.GateStepRefIdeal.τ).loc Cert.GateStepRefIdeal.main_arg4))
      ∧ r.2.sem = fun _ => 0)

def quiescent_DownStep [hDownStep : Cert.DownStep.Facts] : Prop :=
  ∀ (m : (ℓ : Loc Cert.DownStep.nD Cert.DownStep.τ Cert.DownStep.sig) → Buf (Elt Bits) ℓ) (g : Dev Cert.DownStep.nD → PrngReg), Pre_DownStep m →
    θ_run (Cert.DownStep.defs (F := Bits)) (onTc (τ := Cert.DownStep.τ) (Cert.DownStep.main (F := Bits))) ⟨m, fun _ => 0, g⟩ (fun r => (∀ c : Dev Cert.DownStep.nD,
      r.2.mem ((c.tc : Thread Cert.DownStep.nD Cert.DownStep.τ).loc Cert.DownStep.main_arg0) = m ((c.tc : Thread Cert.DownStep.nD Cert.DownStep.τ).loc Cert.DownStep.main_arg0)
      ∧ r.2.mem ((c.tc : Thread Cert.DownStep.nD Cert.DownStep.τ).loc Cert.DownStep.main_arg1) = m ((c.tc : Thread Cert.DownStep.nD Cert.DownStep.τ).loc Cert.DownStep.main_arg1)
      ∧ r.2.mem ((c.tc : Thread Cert.DownStep.nD Cert.DownStep.τ).loc Cert.DownStep.main_arg2) = m ((c.tc : Thread Cert.DownStep.nD Cert.DownStep.τ).loc Cert.DownStep.main_arg2)
      ∧ r.2.mem ((c.tc : Thread Cert.DownStep.nD Cert.DownStep.τ).loc Cert.DownStep.main_arg3) = m ((c.tc : Thread Cert.DownStep.nD Cert.DownStep.τ).loc Cert.DownStep.main_arg3)
      ∧ r.2.mem ((c.tc : Thread Cert.DownStep.nD Cert.DownStep.τ).loc Cert.DownStep.main_arg4) = m ((c.tc : Thread Cert.DownStep.nD Cert.DownStep.τ).loc Cert.DownStep.main_arg4))
      ∧ r.2.sem = fun _ => 0)

def quiescent_DownStepIdeal [hDownStepIdeal : Cert.DownStepIdeal.Facts] : Prop :=
  ∀ (m : (ℓ : Loc Cert.DownStepIdeal.nD Cert.DownStepIdeal.τ Cert.DownStepIdeal.sig) → Buf (Elt Ideal) ℓ) (g : Dev Cert.DownStepIdeal.nD → PrngReg), Pre_DownStepIdeal m →
    θ_run (Cert.DownStepIdeal.defs (F := Ideal)) (onTc (τ := Cert.DownStepIdeal.τ) (Cert.DownStepIdeal.main (F := Ideal))) ⟨m, fun _ => 0, g⟩ (fun r => (∀ c : Dev Cert.DownStepIdeal.nD,
      r.2.mem ((c.tc : Thread Cert.DownStepIdeal.nD Cert.DownStepIdeal.τ).loc Cert.DownStepIdeal.main_arg0) = m ((c.tc : Thread Cert.DownStepIdeal.nD Cert.DownStepIdeal.τ).loc Cert.DownStepIdeal.main_arg0)
      ∧ r.2.mem ((c.tc : Thread Cert.DownStepIdeal.nD Cert.DownStepIdeal.τ).loc Cert.DownStepIdeal.main_arg1) = m ((c.tc : Thread Cert.DownStepIdeal.nD Cert.DownStepIdeal.τ).loc Cert.DownStepIdeal.main_arg1)
      ∧ r.2.mem ((c.tc : Thread Cert.DownStepIdeal.nD Cert.DownStepIdeal.τ).loc Cert.DownStepIdeal.main_arg2) = m ((c.tc : Thread Cert.DownStepIdeal.nD Cert.DownStepIdeal.τ).loc Cert.DownStepIdeal.main_arg2)
      ∧ r.2.mem ((c.tc : Thread Cert.DownStepIdeal.nD Cert.DownStepIdeal.τ).loc Cert.DownStepIdeal.main_arg3) = m ((c.tc : Thread Cert.DownStepIdeal.nD Cert.DownStepIdeal.τ).loc Cert.DownStepIdeal.main_arg3)
      ∧ r.2.mem ((c.tc : Thread Cert.DownStepIdeal.nD Cert.DownStepIdeal.τ).loc Cert.DownStepIdeal.main_arg4) = m ((c.tc : Thread Cert.DownStepIdeal.nD Cert.DownStepIdeal.τ).loc Cert.DownStepIdeal.main_arg4))
      ∧ r.2.sem = fun _ => 0)

def quiescent_DownStepRefIdeal [hDownStepRefIdeal : Cert.DownStepRefIdeal.Facts] : Prop :=
  ∀ (m : (ℓ : Loc Cert.DownStepRefIdeal.nD Cert.DownStepRefIdeal.τ Cert.DownStepRefIdeal.sig) → Buf (Elt Ideal) ℓ) (g : Dev Cert.DownStepRefIdeal.nD → PrngReg), Pre_DownStepRefIdeal m →
    θ_run (Cert.DownStepRefIdeal.defs (F := Ideal)) (onTc (τ := Cert.DownStepRefIdeal.τ) (Cert.DownStepRefIdeal.main (F := Ideal))) ⟨m, fun _ => 0, g⟩ (fun r => (∀ c : Dev Cert.DownStepRefIdeal.nD,
      r.2.mem ((c.tc : Thread Cert.DownStepRefIdeal.nD Cert.DownStepRefIdeal.τ).loc Cert.DownStepRefIdeal.main_arg0) = m ((c.tc : Thread Cert.DownStepRefIdeal.nD Cert.DownStepRefIdeal.τ).loc Cert.DownStepRefIdeal.main_arg0)
      ∧ r.2.mem ((c.tc : Thread Cert.DownStepRefIdeal.nD Cert.DownStepRefIdeal.τ).loc Cert.DownStepRefIdeal.main_arg1) = m ((c.tc : Thread Cert.DownStepRefIdeal.nD Cert.DownStepRefIdeal.τ).loc Cert.DownStepRefIdeal.main_arg1)
      ∧ r.2.mem ((c.tc : Thread Cert.DownStepRefIdeal.nD Cert.DownStepRefIdeal.τ).loc Cert.DownStepRefIdeal.main_arg2) = m ((c.tc : Thread Cert.DownStepRefIdeal.nD Cert.DownStepRefIdeal.τ).loc Cert.DownStepRefIdeal.main_arg2)
      ∧ r.2.mem ((c.tc : Thread Cert.DownStepRefIdeal.nD Cert.DownStepRefIdeal.τ).loc Cert.DownStepRefIdeal.main_arg3) = m ((c.tc : Thread Cert.DownStepRefIdeal.nD Cert.DownStepRefIdeal.τ).loc Cert.DownStepRefIdeal.main_arg3)
      ∧ r.2.mem ((c.tc : Thread Cert.DownStepRefIdeal.nD Cert.DownStepRefIdeal.τ).loc Cert.DownStepRefIdeal.main_arg4) = m ((c.tc : Thread Cert.DownStepRefIdeal.nD Cert.DownStepRefIdeal.τ).loc Cert.DownStepRefIdeal.main_arg4))
      ∧ r.2.sem = fun _ => 0)

def quiescent_OutStep [hOutStep : Cert.OutStep.Facts] : Prop :=
  ∀ (m : (ℓ : Loc Cert.OutStep.nD Cert.OutStep.τ Cert.OutStep.sig) → Buf (Elt Bits) ℓ) (g : Dev Cert.OutStep.nD → PrngReg), Pre_OutStep m →
    θ_run (Cert.OutStep.defs (F := Bits)) (onTc (τ := Cert.OutStep.τ) (Cert.OutStep.main (F := Bits))) ⟨m, fun _ => 0, g⟩ (fun r => (∀ c : Dev Cert.OutStep.nD,
      r.2.mem ((c.tc : Thread Cert.OutStep.nD Cert.OutStep.τ).loc Cert.OutStep.main_arg0) = m ((c.tc : Thread Cert.OutStep.nD Cert.OutStep.τ).loc Cert.OutStep.main_arg0)
      ∧ r.2.mem ((c.tc : Thread Cert.OutStep.nD Cert.OutStep.τ).loc Cert.OutStep.main_arg1) = m ((c.tc : Thread Cert.OutStep.nD Cert.OutStep.τ).loc Cert.OutStep.main_arg1)
      ∧ r.2.mem ((c.tc : Thread Cert.OutStep.nD Cert.OutStep.τ).loc Cert.OutStep.main_arg2) = m ((c.tc : Thread Cert.OutStep.nD Cert.OutStep.τ).loc Cert.OutStep.main_arg2)
      ∧ r.2.mem ((c.tc : Thread Cert.OutStep.nD Cert.OutStep.τ).loc Cert.OutStep.main_arg3) = m ((c.tc : Thread Cert.OutStep.nD Cert.OutStep.τ).loc Cert.OutStep.main_arg3)
      ∧ r.2.mem ((c.tc : Thread Cert.OutStep.nD Cert.OutStep.τ).loc Cert.OutStep.main_arg4) = m ((c.tc : Thread Cert.OutStep.nD Cert.OutStep.τ).loc Cert.OutStep.main_arg4)
      ∧ r.2.mem ((c.tc : Thread Cert.OutStep.nD Cert.OutStep.τ).loc Cert.OutStep.main_arg5) = m ((c.tc : Thread Cert.OutStep.nD Cert.OutStep.τ).loc Cert.OutStep.main_arg5))
      ∧ r.2.sem = fun _ => 0)

def quiescent_OutStepIdeal [hOutStepIdeal : Cert.OutStepIdeal.Facts] : Prop :=
  ∀ (m : (ℓ : Loc Cert.OutStepIdeal.nD Cert.OutStepIdeal.τ Cert.OutStepIdeal.sig) → Buf (Elt Ideal) ℓ) (g : Dev Cert.OutStepIdeal.nD → PrngReg), Pre_OutStepIdeal m →
    θ_run (Cert.OutStepIdeal.defs (F := Ideal)) (onTc (τ := Cert.OutStepIdeal.τ) (Cert.OutStepIdeal.main (F := Ideal))) ⟨m, fun _ => 0, g⟩ (fun r => (∀ c : Dev Cert.OutStepIdeal.nD,
      r.2.mem ((c.tc : Thread Cert.OutStepIdeal.nD Cert.OutStepIdeal.τ).loc Cert.OutStepIdeal.main_arg0) = m ((c.tc : Thread Cert.OutStepIdeal.nD Cert.OutStepIdeal.τ).loc Cert.OutStepIdeal.main_arg0)
      ∧ r.2.mem ((c.tc : Thread Cert.OutStepIdeal.nD Cert.OutStepIdeal.τ).loc Cert.OutStepIdeal.main_arg1) = m ((c.tc : Thread Cert.OutStepIdeal.nD Cert.OutStepIdeal.τ).loc Cert.OutStepIdeal.main_arg1)
      ∧ r.2.mem ((c.tc : Thread Cert.OutStepIdeal.nD Cert.OutStepIdeal.τ).loc Cert.OutStepIdeal.main_arg2) = m ((c.tc : Thread Cert.OutStepIdeal.nD Cert.OutStepIdeal.τ).loc Cert.OutStepIdeal.main_arg2)
      ∧ r.2.mem ((c.tc : Thread Cert.OutStepIdeal.nD Cert.OutStepIdeal.τ).loc Cert.OutStepIdeal.main_arg3) = m ((c.tc : Thread Cert.OutStepIdeal.nD Cert.OutStepIdeal.τ).loc Cert.OutStepIdeal.main_arg3)
      ∧ r.2.mem ((c.tc : Thread Cert.OutStepIdeal.nD Cert.OutStepIdeal.τ).loc Cert.OutStepIdeal.main_arg4) = m ((c.tc : Thread Cert.OutStepIdeal.nD Cert.OutStepIdeal.τ).loc Cert.OutStepIdeal.main_arg4)
      ∧ r.2.mem ((c.tc : Thread Cert.OutStepIdeal.nD Cert.OutStepIdeal.τ).loc Cert.OutStepIdeal.main_arg5) = m ((c.tc : Thread Cert.OutStepIdeal.nD Cert.OutStepIdeal.τ).loc Cert.OutStepIdeal.main_arg5))
      ∧ r.2.sem = fun _ => 0)

def quiescent_OutStepRefIdeal [hOutStepRefIdeal : Cert.OutStepRefIdeal.Facts] : Prop :=
  ∀ (m : (ℓ : Loc Cert.OutStepRefIdeal.nD Cert.OutStepRefIdeal.τ Cert.OutStepRefIdeal.sig) → Buf (Elt Ideal) ℓ) (g : Dev Cert.OutStepRefIdeal.nD → PrngReg), Pre_OutStepRefIdeal m →
    θ_run (Cert.OutStepRefIdeal.defs (F := Ideal)) (onTc (τ := Cert.OutStepRefIdeal.τ) (Cert.OutStepRefIdeal.main (F := Ideal))) ⟨m, fun _ => 0, g⟩ (fun r => (∀ c : Dev Cert.OutStepRefIdeal.nD,
      r.2.mem ((c.tc : Thread Cert.OutStepRefIdeal.nD Cert.OutStepRefIdeal.τ).loc Cert.OutStepRefIdeal.main_arg0) = m ((c.tc : Thread Cert.OutStepRefIdeal.nD Cert.OutStepRefIdeal.τ).loc Cert.OutStepRefIdeal.main_arg0)
      ∧ r.2.mem ((c.tc : Thread Cert.OutStepRefIdeal.nD Cert.OutStepRefIdeal.τ).loc Cert.OutStepRefIdeal.main_arg1) = m ((c.tc : Thread Cert.OutStepRefIdeal.nD Cert.OutStepRefIdeal.τ).loc Cert.OutStepRefIdeal.main_arg1)
      ∧ r.2.mem ((c.tc : Thread Cert.OutStepRefIdeal.nD Cert.OutStepRefIdeal.τ).loc Cert.OutStepRefIdeal.main_arg2) = m ((c.tc : Thread Cert.OutStepRefIdeal.nD Cert.OutStepRefIdeal.τ).loc Cert.OutStepRefIdeal.main_arg2)
      ∧ r.2.mem ((c.tc : Thread Cert.OutStepRefIdeal.nD Cert.OutStepRefIdeal.τ).loc Cert.OutStepRefIdeal.main_arg3) = m ((c.tc : Thread Cert.OutStepRefIdeal.nD Cert.OutStepRefIdeal.τ).loc Cert.OutStepRefIdeal.main_arg3)
      ∧ r.2.mem ((c.tc : Thread Cert.OutStepRefIdeal.nD Cert.OutStepRefIdeal.τ).loc Cert.OutStepRefIdeal.main_arg4) = m ((c.tc : Thread Cert.OutStepRefIdeal.nD Cert.OutStepRefIdeal.τ).loc Cert.OutStepRefIdeal.main_arg4)
      ∧ r.2.mem ((c.tc : Thread Cert.OutStepRefIdeal.nD Cert.OutStepRefIdeal.τ).loc Cert.OutStepRefIdeal.main_arg5) = m ((c.tc : Thread Cert.OutStepRefIdeal.nD Cert.OutStepRefIdeal.τ).loc Cert.OutStepRefIdeal.main_arg5))
      ∧ r.2.sem = fun _ => 0)

def quiescent_BranchStep [hBranchStep : Cert.BranchStep.Facts] : Prop :=
  ∀ (m : (ℓ : Loc Cert.BranchStep.nD Cert.BranchStep.τ Cert.BranchStep.sig) → Buf (Elt Bits) ℓ) (g : Dev Cert.BranchStep.nD → PrngReg), Pre_BranchStep m →
    θ_run (Cert.BranchStep.defs (F := Bits)) (onTc (τ := Cert.BranchStep.τ) (Cert.BranchStep.main (F := Bits))) ⟨m, fun _ => 0, g⟩ (fun r => (∀ c : Dev Cert.BranchStep.nD,
      r.2.mem ((c.tc : Thread Cert.BranchStep.nD Cert.BranchStep.τ).loc Cert.BranchStep.main_arg0) = m ((c.tc : Thread Cert.BranchStep.nD Cert.BranchStep.τ).loc Cert.BranchStep.main_arg0)
      ∧ r.2.mem ((c.tc : Thread Cert.BranchStep.nD Cert.BranchStep.τ).loc Cert.BranchStep.main_arg1) = m ((c.tc : Thread Cert.BranchStep.nD Cert.BranchStep.τ).loc Cert.BranchStep.main_arg1)
      ∧ r.2.mem ((c.tc : Thread Cert.BranchStep.nD Cert.BranchStep.τ).loc Cert.BranchStep.main_arg2) = m ((c.tc : Thread Cert.BranchStep.nD Cert.BranchStep.τ).loc Cert.BranchStep.main_arg2)
      ∧ r.2.mem ((c.tc : Thread Cert.BranchStep.nD Cert.BranchStep.τ).loc Cert.BranchStep.main_arg3) = m ((c.tc : Thread Cert.BranchStep.nD Cert.BranchStep.τ).loc Cert.BranchStep.main_arg3)
      ∧ r.2.mem ((c.tc : Thread Cert.BranchStep.nD Cert.BranchStep.τ).loc Cert.BranchStep.main_arg4) = m ((c.tc : Thread Cert.BranchStep.nD Cert.BranchStep.τ).loc Cert.BranchStep.main_arg4)
      ∧ r.2.mem ((c.tc : Thread Cert.BranchStep.nD Cert.BranchStep.τ).loc Cert.BranchStep.main_arg5) = m ((c.tc : Thread Cert.BranchStep.nD Cert.BranchStep.τ).loc Cert.BranchStep.main_arg5))
      ∧ r.2.sem = fun _ => 0)

def quiescent_BranchStepIdeal [hBranchStepIdeal : Cert.BranchStepIdeal.Facts] : Prop :=
  ∀ (m : (ℓ : Loc Cert.BranchStepIdeal.nD Cert.BranchStepIdeal.τ Cert.BranchStepIdeal.sig) → Buf (Elt Ideal) ℓ) (g : Dev Cert.BranchStepIdeal.nD → PrngReg), Pre_BranchStepIdeal m →
    θ_run (Cert.BranchStepIdeal.defs (F := Ideal)) (onTc (τ := Cert.BranchStepIdeal.τ) (Cert.BranchStepIdeal.main (F := Ideal))) ⟨m, fun _ => 0, g⟩ (fun r => (∀ c : Dev Cert.BranchStepIdeal.nD,
      r.2.mem ((c.tc : Thread Cert.BranchStepIdeal.nD Cert.BranchStepIdeal.τ).loc Cert.BranchStepIdeal.main_arg0) = m ((c.tc : Thread Cert.BranchStepIdeal.nD Cert.BranchStepIdeal.τ).loc Cert.BranchStepIdeal.main_arg0)
      ∧ r.2.mem ((c.tc : Thread Cert.BranchStepIdeal.nD Cert.BranchStepIdeal.τ).loc Cert.BranchStepIdeal.main_arg1) = m ((c.tc : Thread Cert.BranchStepIdeal.nD Cert.BranchStepIdeal.τ).loc Cert.BranchStepIdeal.main_arg1)
      ∧ r.2.mem ((c.tc : Thread Cert.BranchStepIdeal.nD Cert.BranchStepIdeal.τ).loc Cert.BranchStepIdeal.main_arg2) = m ((c.tc : Thread Cert.BranchStepIdeal.nD Cert.BranchStepIdeal.τ).loc Cert.BranchStepIdeal.main_arg2)
      ∧ r.2.mem ((c.tc : Thread Cert.BranchStepIdeal.nD Cert.BranchStepIdeal.τ).loc Cert.BranchStepIdeal.main_arg3) = m ((c.tc : Thread Cert.BranchStepIdeal.nD Cert.BranchStepIdeal.τ).loc Cert.BranchStepIdeal.main_arg3)
      ∧ r.2.mem ((c.tc : Thread Cert.BranchStepIdeal.nD Cert.BranchStepIdeal.τ).loc Cert.BranchStepIdeal.main_arg4) = m ((c.tc : Thread Cert.BranchStepIdeal.nD Cert.BranchStepIdeal.τ).loc Cert.BranchStepIdeal.main_arg4)
      ∧ r.2.mem ((c.tc : Thread Cert.BranchStepIdeal.nD Cert.BranchStepIdeal.τ).loc Cert.BranchStepIdeal.main_arg5) = m ((c.tc : Thread Cert.BranchStepIdeal.nD Cert.BranchStepIdeal.τ).loc Cert.BranchStepIdeal.main_arg5))
      ∧ r.2.sem = fun _ => 0)

def quiescent_BranchStepRefIdeal [hBranchStepRefIdeal : Cert.BranchStepRefIdeal.Facts] : Prop :=
  ∀ (m : (ℓ : Loc Cert.BranchStepRefIdeal.nD Cert.BranchStepRefIdeal.τ Cert.BranchStepRefIdeal.sig) → Buf (Elt Ideal) ℓ) (g : Dev Cert.BranchStepRefIdeal.nD → PrngReg), Pre_BranchStepRefIdeal m →
    θ_run (Cert.BranchStepRefIdeal.defs (F := Ideal)) (onTc (τ := Cert.BranchStepRefIdeal.τ) (Cert.BranchStepRefIdeal.main (F := Ideal))) ⟨m, fun _ => 0, g⟩ (fun r => (∀ c : Dev Cert.BranchStepRefIdeal.nD,
      r.2.mem ((c.tc : Thread Cert.BranchStepRefIdeal.nD Cert.BranchStepRefIdeal.τ).loc Cert.BranchStepRefIdeal.main_arg0) = m ((c.tc : Thread Cert.BranchStepRefIdeal.nD Cert.BranchStepRefIdeal.τ).loc Cert.BranchStepRefIdeal.main_arg0)
      ∧ r.2.mem ((c.tc : Thread Cert.BranchStepRefIdeal.nD Cert.BranchStepRefIdeal.τ).loc Cert.BranchStepRefIdeal.main_arg1) = m ((c.tc : Thread Cert.BranchStepRefIdeal.nD Cert.BranchStepRefIdeal.τ).loc Cert.BranchStepRefIdeal.main_arg1)
      ∧ r.2.mem ((c.tc : Thread Cert.BranchStepRefIdeal.nD Cert.BranchStepRefIdeal.τ).loc Cert.BranchStepRefIdeal.main_arg2) = m ((c.tc : Thread Cert.BranchStepRefIdeal.nD Cert.BranchStepRefIdeal.τ).loc Cert.BranchStepRefIdeal.main_arg2)
      ∧ r.2.mem ((c.tc : Thread Cert.BranchStepRefIdeal.nD Cert.BranchStepRefIdeal.τ).loc Cert.BranchStepRefIdeal.main_arg3) = m ((c.tc : Thread Cert.BranchStepRefIdeal.nD Cert.BranchStepRefIdeal.τ).loc Cert.BranchStepRefIdeal.main_arg3)
      ∧ r.2.mem ((c.tc : Thread Cert.BranchStepRefIdeal.nD Cert.BranchStepRefIdeal.τ).loc Cert.BranchStepRefIdeal.main_arg4) = m ((c.tc : Thread Cert.BranchStepRefIdeal.nD Cert.BranchStepRefIdeal.τ).loc Cert.BranchStepRefIdeal.main_arg4)
      ∧ r.2.mem ((c.tc : Thread Cert.BranchStepRefIdeal.nD Cert.BranchStepRefIdeal.τ).loc Cert.BranchStepRefIdeal.main_arg5) = m ((c.tc : Thread Cert.BranchStepRefIdeal.nD Cert.BranchStepRefIdeal.τ).loc Cert.BranchStepRefIdeal.main_arg5))
      ∧ r.2.sem = fun _ => 0)

def quiescent_InputStep [hInputStep : Cert.InputStep.Facts] : Prop :=
  ∀ (m : (ℓ : Loc Cert.InputStep.nD Cert.InputStep.τ Cert.InputStep.sig) → Buf (Elt Bits) ℓ) (g : Dev Cert.InputStep.nD → PrngReg), Pre_InputStep m →
    θ_run (Cert.InputStep.defs (F := Bits)) (onTc (τ := Cert.InputStep.τ) (Cert.InputStep.main (F := Bits))) ⟨m, fun _ => 0, g⟩ (fun r => (∀ c : Dev Cert.InputStep.nD,
      r.2.mem ((c.tc : Thread Cert.InputStep.nD Cert.InputStep.τ).loc Cert.InputStep.main_arg0) = m ((c.tc : Thread Cert.InputStep.nD Cert.InputStep.τ).loc Cert.InputStep.main_arg0)
      ∧ r.2.mem ((c.tc : Thread Cert.InputStep.nD Cert.InputStep.τ).loc Cert.InputStep.main_arg1) = m ((c.tc : Thread Cert.InputStep.nD Cert.InputStep.τ).loc Cert.InputStep.main_arg1)
      ∧ r.2.mem ((c.tc : Thread Cert.InputStep.nD Cert.InputStep.τ).loc Cert.InputStep.main_arg2) = m ((c.tc : Thread Cert.InputStep.nD Cert.InputStep.τ).loc Cert.InputStep.main_arg2)
      ∧ r.2.mem ((c.tc : Thread Cert.InputStep.nD Cert.InputStep.τ).loc Cert.InputStep.main_arg3) = m ((c.tc : Thread Cert.InputStep.nD Cert.InputStep.τ).loc Cert.InputStep.main_arg3)
      ∧ r.2.mem ((c.tc : Thread Cert.InputStep.nD Cert.InputStep.τ).loc Cert.InputStep.main_arg4) = m ((c.tc : Thread Cert.InputStep.nD Cert.InputStep.τ).loc Cert.InputStep.main_arg4))
      ∧ r.2.sem = fun _ => 0)

def quiescent_InputStepIdeal [hInputStepIdeal : Cert.InputStepIdeal.Facts] : Prop :=
  ∀ (m : (ℓ : Loc Cert.InputStepIdeal.nD Cert.InputStepIdeal.τ Cert.InputStepIdeal.sig) → Buf (Elt Ideal) ℓ) (g : Dev Cert.InputStepIdeal.nD → PrngReg), Pre_InputStepIdeal m →
    θ_run (Cert.InputStepIdeal.defs (F := Ideal)) (onTc (τ := Cert.InputStepIdeal.τ) (Cert.InputStepIdeal.main (F := Ideal))) ⟨m, fun _ => 0, g⟩ (fun r => (∀ c : Dev Cert.InputStepIdeal.nD,
      r.2.mem ((c.tc : Thread Cert.InputStepIdeal.nD Cert.InputStepIdeal.τ).loc Cert.InputStepIdeal.main_arg0) = m ((c.tc : Thread Cert.InputStepIdeal.nD Cert.InputStepIdeal.τ).loc Cert.InputStepIdeal.main_arg0)
      ∧ r.2.mem ((c.tc : Thread Cert.InputStepIdeal.nD Cert.InputStepIdeal.τ).loc Cert.InputStepIdeal.main_arg1) = m ((c.tc : Thread Cert.InputStepIdeal.nD Cert.InputStepIdeal.τ).loc Cert.InputStepIdeal.main_arg1)
      ∧ r.2.mem ((c.tc : Thread Cert.InputStepIdeal.nD Cert.InputStepIdeal.τ).loc Cert.InputStepIdeal.main_arg2) = m ((c.tc : Thread Cert.InputStepIdeal.nD Cert.InputStepIdeal.τ).loc Cert.InputStepIdeal.main_arg2)
      ∧ r.2.mem ((c.tc : Thread Cert.InputStepIdeal.nD Cert.InputStepIdeal.τ).loc Cert.InputStepIdeal.main_arg3) = m ((c.tc : Thread Cert.InputStepIdeal.nD Cert.InputStepIdeal.τ).loc Cert.InputStepIdeal.main_arg3)
      ∧ r.2.mem ((c.tc : Thread Cert.InputStepIdeal.nD Cert.InputStepIdeal.τ).loc Cert.InputStepIdeal.main_arg4) = m ((c.tc : Thread Cert.InputStepIdeal.nD Cert.InputStepIdeal.τ).loc Cert.InputStepIdeal.main_arg4))
      ∧ r.2.sem = fun _ => 0)

def quiescent_InputStepRefIdeal [hInputStepRefIdeal : Cert.InputStepRefIdeal.Facts] : Prop :=
  ∀ (m : (ℓ : Loc Cert.InputStepRefIdeal.nD Cert.InputStepRefIdeal.τ Cert.InputStepRefIdeal.sig) → Buf (Elt Ideal) ℓ) (g : Dev Cert.InputStepRefIdeal.nD → PrngReg), Pre_InputStepRefIdeal m →
    θ_run (Cert.InputStepRefIdeal.defs (F := Ideal)) (onTc (τ := Cert.InputStepRefIdeal.τ) (Cert.InputStepRefIdeal.main (F := Ideal))) ⟨m, fun _ => 0, g⟩ (fun r => (∀ c : Dev Cert.InputStepRefIdeal.nD,
      r.2.mem ((c.tc : Thread Cert.InputStepRefIdeal.nD Cert.InputStepRefIdeal.τ).loc Cert.InputStepRefIdeal.main_arg0) = m ((c.tc : Thread Cert.InputStepRefIdeal.nD Cert.InputStepRefIdeal.τ).loc Cert.InputStepRefIdeal.main_arg0)
      ∧ r.2.mem ((c.tc : Thread Cert.InputStepRefIdeal.nD Cert.InputStepRefIdeal.τ).loc Cert.InputStepRefIdeal.main_arg1) = m ((c.tc : Thread Cert.InputStepRefIdeal.nD Cert.InputStepRefIdeal.τ).loc Cert.InputStepRefIdeal.main_arg1)
      ∧ r.2.mem ((c.tc : Thread Cert.InputStepRefIdeal.nD Cert.InputStepRefIdeal.τ).loc Cert.InputStepRefIdeal.main_arg2) = m ((c.tc : Thread Cert.InputStepRefIdeal.nD Cert.InputStepRefIdeal.τ).loc Cert.InputStepRefIdeal.main_arg2)
      ∧ r.2.mem ((c.tc : Thread Cert.InputStepRefIdeal.nD Cert.InputStepRefIdeal.τ).loc Cert.InputStepRefIdeal.main_arg3) = m ((c.tc : Thread Cert.InputStepRefIdeal.nD Cert.InputStepRefIdeal.τ).loc Cert.InputStepRefIdeal.main_arg3)
      ∧ r.2.mem ((c.tc : Thread Cert.InputStepRefIdeal.nD Cert.InputStepRefIdeal.τ).loc Cert.InputStepRefIdeal.main_arg4) = m ((c.tc : Thread Cert.InputStepRefIdeal.nD Cert.InputStepRefIdeal.τ).loc Cert.InputStepRefIdeal.main_arg4))
      ∧ r.2.sem = fun _ => 0)

def quiescent_MixStep [hMixStep : Cert.MixStep.Facts] : Prop :=
  ∀ (m : (ℓ : Loc Cert.MixStep.nD Cert.MixStep.τ Cert.MixStep.sig) → Buf (Elt Bits) ℓ) (g : Dev Cert.MixStep.nD → PrngReg), Pre_MixStep m →
    θ_run (Cert.MixStep.defs (F := Bits)) (onTc (τ := Cert.MixStep.τ) (Cert.MixStep.main (F := Bits))) ⟨m, fun _ => 0, g⟩ (fun r => (∀ c : Dev Cert.MixStep.nD,
      r.2.mem ((c.tc : Thread Cert.MixStep.nD Cert.MixStep.τ).loc Cert.MixStep.main_arg0) = m ((c.tc : Thread Cert.MixStep.nD Cert.MixStep.τ).loc Cert.MixStep.main_arg0)
      ∧ r.2.mem ((c.tc : Thread Cert.MixStep.nD Cert.MixStep.τ).loc Cert.MixStep.main_arg1) = m ((c.tc : Thread Cert.MixStep.nD Cert.MixStep.τ).loc Cert.MixStep.main_arg1)
      ∧ r.2.mem ((c.tc : Thread Cert.MixStep.nD Cert.MixStep.τ).loc Cert.MixStep.main_arg2) = m ((c.tc : Thread Cert.MixStep.nD Cert.MixStep.τ).loc Cert.MixStep.main_arg2)
      ∧ r.2.mem ((c.tc : Thread Cert.MixStep.nD Cert.MixStep.τ).loc Cert.MixStep.main_arg3) = m ((c.tc : Thread Cert.MixStep.nD Cert.MixStep.τ).loc Cert.MixStep.main_arg3)
      ∧ r.2.mem ((c.tc : Thread Cert.MixStep.nD Cert.MixStep.τ).loc Cert.MixStep.main_arg4) = m ((c.tc : Thread Cert.MixStep.nD Cert.MixStep.τ).loc Cert.MixStep.main_arg4))
      ∧ r.2.sem = fun _ => 0)

def quiescent_MixStepIdeal [hMixStepIdeal : Cert.MixStepIdeal.Facts] : Prop :=
  ∀ (m : (ℓ : Loc Cert.MixStepIdeal.nD Cert.MixStepIdeal.τ Cert.MixStepIdeal.sig) → Buf (Elt Ideal) ℓ) (g : Dev Cert.MixStepIdeal.nD → PrngReg), Pre_MixStepIdeal m →
    θ_run (Cert.MixStepIdeal.defs (F := Ideal)) (onTc (τ := Cert.MixStepIdeal.τ) (Cert.MixStepIdeal.main (F := Ideal))) ⟨m, fun _ => 0, g⟩ (fun r => (∀ c : Dev Cert.MixStepIdeal.nD,
      r.2.mem ((c.tc : Thread Cert.MixStepIdeal.nD Cert.MixStepIdeal.τ).loc Cert.MixStepIdeal.main_arg0) = m ((c.tc : Thread Cert.MixStepIdeal.nD Cert.MixStepIdeal.τ).loc Cert.MixStepIdeal.main_arg0)
      ∧ r.2.mem ((c.tc : Thread Cert.MixStepIdeal.nD Cert.MixStepIdeal.τ).loc Cert.MixStepIdeal.main_arg1) = m ((c.tc : Thread Cert.MixStepIdeal.nD Cert.MixStepIdeal.τ).loc Cert.MixStepIdeal.main_arg1)
      ∧ r.2.mem ((c.tc : Thread Cert.MixStepIdeal.nD Cert.MixStepIdeal.τ).loc Cert.MixStepIdeal.main_arg2) = m ((c.tc : Thread Cert.MixStepIdeal.nD Cert.MixStepIdeal.τ).loc Cert.MixStepIdeal.main_arg2)
      ∧ r.2.mem ((c.tc : Thread Cert.MixStepIdeal.nD Cert.MixStepIdeal.τ).loc Cert.MixStepIdeal.main_arg3) = m ((c.tc : Thread Cert.MixStepIdeal.nD Cert.MixStepIdeal.τ).loc Cert.MixStepIdeal.main_arg3)
      ∧ r.2.mem ((c.tc : Thread Cert.MixStepIdeal.nD Cert.MixStepIdeal.τ).loc Cert.MixStepIdeal.main_arg4) = m ((c.tc : Thread Cert.MixStepIdeal.nD Cert.MixStepIdeal.τ).loc Cert.MixStepIdeal.main_arg4))
      ∧ r.2.sem = fun _ => 0)

def quiescent_MixStepRefIdeal [hMixStepRefIdeal : Cert.MixStepRefIdeal.Facts] : Prop :=
  ∀ (m : (ℓ : Loc Cert.MixStepRefIdeal.nD Cert.MixStepRefIdeal.τ Cert.MixStepRefIdeal.sig) → Buf (Elt Ideal) ℓ) (g : Dev Cert.MixStepRefIdeal.nD → PrngReg), Pre_MixStepRefIdeal m →
    θ_run (Cert.MixStepRefIdeal.defs (F := Ideal)) (onTc (τ := Cert.MixStepRefIdeal.τ) (Cert.MixStepRefIdeal.main (F := Ideal))) ⟨m, fun _ => 0, g⟩ (fun r => (∀ c : Dev Cert.MixStepRefIdeal.nD,
      r.2.mem ((c.tc : Thread Cert.MixStepRefIdeal.nD Cert.MixStepRefIdeal.τ).loc Cert.MixStepRefIdeal.main_arg0) = m ((c.tc : Thread Cert.MixStepRefIdeal.nD Cert.MixStepRefIdeal.τ).loc Cert.MixStepRefIdeal.main_arg0)
      ∧ r.2.mem ((c.tc : Thread Cert.MixStepRefIdeal.nD Cert.MixStepRefIdeal.τ).loc Cert.MixStepRefIdeal.main_arg1) = m ((c.tc : Thread Cert.MixStepRefIdeal.nD Cert.MixStepRefIdeal.τ).loc Cert.MixStepRefIdeal.main_arg1)
      ∧ r.2.mem ((c.tc : Thread Cert.MixStepRefIdeal.nD Cert.MixStepRefIdeal.τ).loc Cert.MixStepRefIdeal.main_arg2) = m ((c.tc : Thread Cert.MixStepRefIdeal.nD Cert.MixStepRefIdeal.τ).loc Cert.MixStepRefIdeal.main_arg2)
      ∧ r.2.mem ((c.tc : Thread Cert.MixStepRefIdeal.nD Cert.MixStepRefIdeal.τ).loc Cert.MixStepRefIdeal.main_arg3) = m ((c.tc : Thread Cert.MixStepRefIdeal.nD Cert.MixStepRefIdeal.τ).loc Cert.MixStepRefIdeal.main_arg3)
      ∧ r.2.mem ((c.tc : Thread Cert.MixStepRefIdeal.nD Cert.MixStepRefIdeal.τ).loc Cert.MixStepRefIdeal.main_arg4) = m ((c.tc : Thread Cert.MixStepRefIdeal.nD Cert.MixStepRefIdeal.τ).loc Cert.MixStepRefIdeal.main_arg4))
      ∧ r.2.sem = fun _ => 0)

def quiescent_LoraStep [hLoraStep : Cert.LoraStep.Facts] : Prop :=
  ∀ (m : (ℓ : Loc Cert.LoraStep.nD Cert.LoraStep.τ Cert.LoraStep.sig) → Buf (Elt Bits) ℓ) (g : Dev Cert.LoraStep.nD → PrngReg), Pre_LoraStep m →
    θ_run (Cert.LoraStep.defs (F := Bits)) (onTc (τ := Cert.LoraStep.τ) (Cert.LoraStep.main (F := Bits))) ⟨m, fun _ => 0, g⟩ (fun r => (∀ c : Dev Cert.LoraStep.nD,
      r.2.mem ((c.tc : Thread Cert.LoraStep.nD Cert.LoraStep.τ).loc Cert.LoraStep.main_arg0) = m ((c.tc : Thread Cert.LoraStep.nD Cert.LoraStep.τ).loc Cert.LoraStep.main_arg0)
      ∧ r.2.mem ((c.tc : Thread Cert.LoraStep.nD Cert.LoraStep.τ).loc Cert.LoraStep.main_arg1) = m ((c.tc : Thread Cert.LoraStep.nD Cert.LoraStep.τ).loc Cert.LoraStep.main_arg1)
      ∧ r.2.mem ((c.tc : Thread Cert.LoraStep.nD Cert.LoraStep.τ).loc Cert.LoraStep.main_arg2) = m ((c.tc : Thread Cert.LoraStep.nD Cert.LoraStep.τ).loc Cert.LoraStep.main_arg2)
      ∧ r.2.mem ((c.tc : Thread Cert.LoraStep.nD Cert.LoraStep.τ).loc Cert.LoraStep.main_arg3) = m ((c.tc : Thread Cert.LoraStep.nD Cert.LoraStep.τ).loc Cert.LoraStep.main_arg3)
      ∧ r.2.mem ((c.tc : Thread Cert.LoraStep.nD Cert.LoraStep.τ).loc Cert.LoraStep.main_arg4) = m ((c.tc : Thread Cert.LoraStep.nD Cert.LoraStep.τ).loc Cert.LoraStep.main_arg4))
      ∧ r.2.sem = fun _ => 0)

def quiescent_LoraStepIdeal [hLoraStepIdeal : Cert.LoraStepIdeal.Facts] : Prop :=
  ∀ (m : (ℓ : Loc Cert.LoraStepIdeal.nD Cert.LoraStepIdeal.τ Cert.LoraStepIdeal.sig) → Buf (Elt Ideal) ℓ) (g : Dev Cert.LoraStepIdeal.nD → PrngReg), Pre_LoraStepIdeal m →
    θ_run (Cert.LoraStepIdeal.defs (F := Ideal)) (onTc (τ := Cert.LoraStepIdeal.τ) (Cert.LoraStepIdeal.main (F := Ideal))) ⟨m, fun _ => 0, g⟩ (fun r => (∀ c : Dev Cert.LoraStepIdeal.nD,
      r.2.mem ((c.tc : Thread Cert.LoraStepIdeal.nD Cert.LoraStepIdeal.τ).loc Cert.LoraStepIdeal.main_arg0) = m ((c.tc : Thread Cert.LoraStepIdeal.nD Cert.LoraStepIdeal.τ).loc Cert.LoraStepIdeal.main_arg0)
      ∧ r.2.mem ((c.tc : Thread Cert.LoraStepIdeal.nD Cert.LoraStepIdeal.τ).loc Cert.LoraStepIdeal.main_arg1) = m ((c.tc : Thread Cert.LoraStepIdeal.nD Cert.LoraStepIdeal.τ).loc Cert.LoraStepIdeal.main_arg1)
      ∧ r.2.mem ((c.tc : Thread Cert.LoraStepIdeal.nD Cert.LoraStepIdeal.τ).loc Cert.LoraStepIdeal.main_arg2) = m ((c.tc : Thread Cert.LoraStepIdeal.nD Cert.LoraStepIdeal.τ).loc Cert.LoraStepIdeal.main_arg2)
      ∧ r.2.mem ((c.tc : Thread Cert.LoraStepIdeal.nD Cert.LoraStepIdeal.τ).loc Cert.LoraStepIdeal.main_arg3) = m ((c.tc : Thread Cert.LoraStepIdeal.nD Cert.LoraStepIdeal.τ).loc Cert.LoraStepIdeal.main_arg3)
      ∧ r.2.mem ((c.tc : Thread Cert.LoraStepIdeal.nD Cert.LoraStepIdeal.τ).loc Cert.LoraStepIdeal.main_arg4) = m ((c.tc : Thread Cert.LoraStepIdeal.nD Cert.LoraStepIdeal.τ).loc Cert.LoraStepIdeal.main_arg4))
      ∧ r.2.sem = fun _ => 0)

def quiescent_LoraStepRefIdeal [hLoraStepRefIdeal : Cert.LoraStepRefIdeal.Facts] : Prop :=
  ∀ (m : (ℓ : Loc Cert.LoraStepRefIdeal.nD Cert.LoraStepRefIdeal.τ Cert.LoraStepRefIdeal.sig) → Buf (Elt Ideal) ℓ) (g : Dev Cert.LoraStepRefIdeal.nD → PrngReg), Pre_LoraStepRefIdeal m →
    θ_run (Cert.LoraStepRefIdeal.defs (F := Ideal)) (onTc (τ := Cert.LoraStepRefIdeal.τ) (Cert.LoraStepRefIdeal.main (F := Ideal))) ⟨m, fun _ => 0, g⟩ (fun r => (∀ c : Dev Cert.LoraStepRefIdeal.nD,
      r.2.mem ((c.tc : Thread Cert.LoraStepRefIdeal.nD Cert.LoraStepRefIdeal.τ).loc Cert.LoraStepRefIdeal.main_arg0) = m ((c.tc : Thread Cert.LoraStepRefIdeal.nD Cert.LoraStepRefIdeal.τ).loc Cert.LoraStepRefIdeal.main_arg0)
      ∧ r.2.mem ((c.tc : Thread Cert.LoraStepRefIdeal.nD Cert.LoraStepRefIdeal.τ).loc Cert.LoraStepRefIdeal.main_arg1) = m ((c.tc : Thread Cert.LoraStepRefIdeal.nD Cert.LoraStepRefIdeal.τ).loc Cert.LoraStepRefIdeal.main_arg1)
      ∧ r.2.mem ((c.tc : Thread Cert.LoraStepRefIdeal.nD Cert.LoraStepRefIdeal.τ).loc Cert.LoraStepRefIdeal.main_arg2) = m ((c.tc : Thread Cert.LoraStepRefIdeal.nD Cert.LoraStepRefIdeal.τ).loc Cert.LoraStepRefIdeal.main_arg2)
      ∧ r.2.mem ((c.tc : Thread Cert.LoraStepRefIdeal.nD Cert.LoraStepRefIdeal.τ).loc Cert.LoraStepRefIdeal.main_arg3) = m ((c.tc : Thread Cert.LoraStepRefIdeal.nD Cert.LoraStepRefIdeal.τ).loc Cert.LoraStepRefIdeal.main_arg3)
      ∧ r.2.mem ((c.tc : Thread Cert.LoraStepRefIdeal.nD Cert.LoraStepRefIdeal.τ).loc Cert.LoraStepRefIdeal.main_arg4) = m ((c.tc : Thread Cert.LoraStepRefIdeal.nD Cert.LoraStepRefIdeal.τ).loc Cert.LoraStepRefIdeal.main_arg4))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0)
      ∧ r.2.mem ((c.tc : Thread Cert.SmallSum.nD Cert.SmallSum.τ).loc Cert.SmallSum.main_arg1) = m ((c.tc : Thread Cert.SmallSum.nD Cert.SmallSum.τ).loc Cert.SmallSum.main_arg1))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0)
      ∧ r.2.mem ((c.tc : Thread Cert.SmallSumIdeal.nD Cert.SmallSumIdeal.τ).loc Cert.SmallSumIdeal.main_arg1) = m ((c.tc : Thread Cert.SmallSumIdeal.nD Cert.SmallSumIdeal.τ).loc Cert.SmallSumIdeal.main_arg1))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0)
      ∧ r.2.mem ((c.tc : Thread Cert.SmallSumRefIdeal.nD Cert.SmallSumRefIdeal.τ).loc Cert.SmallSumRefIdeal.main_arg1) = m ((c.tc : Thread Cert.SmallSumRefIdeal.nD Cert.SmallSumRefIdeal.τ).loc Cert.SmallSumRefIdeal.main_arg1))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v10_0)) (v1 : (c : Dev Cert.MergeIdeal.nD) → Buf (Elt Ideal) ((c.tc : Thread Cert.MergeIdeal.nD Cert.MergeIdeal.τ).loc Cert.MergeIdeal.main_v10_1)) (v2 : (c : Dev Cert.MergeIdeal.nD) → Buf (Elt Ideal) ((c.tc : Thread Cert.MergeIdeal.nD Cert.MergeIdeal.τ).loc Cert.MergeIdeal.main_v10_2)) (v3 : (c : Dev Cert.MergeIdeal.nD) → Buf (Elt Ideal) ((c.tc : Thread Cert.MergeIdeal.nD Cert.MergeIdeal.τ).loc Cert.MergeIdeal.main_v10_3)) (v4 : (c : Dev Cert.MergeIdeal.nD) → Buf (Elt Ideal) ((c.tc : Thread Cert.MergeIdeal.nD Cert.MergeIdeal.τ).loc Cert.MergeIdeal.main_v10_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10_0) = v0 c
          ∧ r.2.mem ((c.tc : Thread Cert.MergeIdeal.nD Cert.MergeIdeal.τ).loc Cert.MergeIdeal.main_v10_1) = v1 c
          ∧ r.2.mem ((c.tc : Thread Cert.MergeIdeal.nD Cert.MergeIdeal.τ).loc Cert.MergeIdeal.main_v10_2) = v2 c
          ∧ r.2.mem ((c.tc : Thread Cert.MergeIdeal.nD Cert.MergeIdeal.τ).loc Cert.MergeIdeal.main_v10_3) = v3 c
          ∧ r.2.mem ((c.tc : Thread Cert.MergeIdeal.nD Cert.MergeIdeal.τ).loc Cert.MergeIdeal.main_v10_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v32) = v0 c
          ∧ r.2.mem ((c.tc : Thread Cert.MergeRefIdeal.nD Cert.MergeRefIdeal.τ).loc Cert.MergeRefIdeal.main_v33) = v1 c
          ∧ r.2.mem ((c.tc : Thread Cert.MergeRefIdeal.nD Cert.MergeRefIdeal.τ).loc Cert.MergeRefIdeal.main_v34) = v2 c
          ∧ r.2.mem ((c.tc : Thread Cert.MergeRefIdeal.nD Cert.MergeRefIdeal.τ).loc Cert.MergeRefIdeal.main_v36) = v3 c
          ∧ r.2.mem ((c.tc : Thread Cert.MergeRefIdeal.nD Cert.MergeRefIdeal.τ).loc Cert.MergeRefIdeal.main_v35) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v22_0)) (v1 : (c : Dev Cert.FfnIdeal.nD) → Buf (Elt Ideal) ((c.tc : Thread Cert.FfnIdeal.nD Cert.FfnIdeal.τ).loc Cert.FfnIdeal.main_v22_1)) (v2 : (c : Dev Cert.FfnIdeal.nD) → Buf (Elt Ideal) ((c.tc : Thread Cert.FfnIdeal.nD Cert.FfnIdeal.τ).loc Cert.FfnIdeal.main_v22_2)) (v3 : (c : Dev Cert.FfnIdeal.nD) → Buf (Elt Ideal) ((c.tc : Thread Cert.FfnIdeal.nD Cert.FfnIdeal.τ).loc Cert.FfnIdeal.main_v22_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v22_0) = v0 c
          ∧ r.2.mem ((c.tc : Thread Cert.FfnIdeal.nD Cert.FfnIdeal.τ).loc Cert.FfnIdeal.main_v22_1) = v1 c
          ∧ r.2.mem ((c.tc : Thread Cert.FfnIdeal.nD Cert.FfnIdeal.τ).loc Cert.FfnIdeal.main_v22_2) = v2 c
          ∧ r.2.mem ((c.tc : Thread Cert.FfnIdeal.nD Cert.FfnIdeal.τ).loc Cert.FfnIdeal.main_v22_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v56) = v0 c
          ∧ r.2.mem ((c.tc : Thread Cert.FfnRefIdeal.nD Cert.FfnRefIdeal.τ).loc Cert.FfnRefIdeal.main_v57) = v1 c
          ∧ r.2.mem ((c.tc : Thread Cert.FfnRefIdeal.nD Cert.FfnRefIdeal.τ).loc Cert.FfnRefIdeal.main_v54) = v2 c
          ∧ r.2.mem ((c.tc : Thread Cert.FfnRefIdeal.nD Cert.FfnRefIdeal.τ).loc Cert.FfnRefIdeal.main_v55) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_DownWeight_DownWeightIdeal : Prop :=
  True

def algebraic_DownWeightIdeal_DownWeightRefIdeal [hDownWeightIdeal : Cert.DownWeightIdeal.Facts] [hDownWeightRefIdeal : Cert.DownWeightRefIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightRefIdeal.nD Cert.DownWeightRefIdeal.τ Cert.DownWeightRefIdeal.sig) → Buf (Elt Ideal) ℓ) (g' : Dev Cert.DownWeightRefIdeal.nD → PrngReg), Pre_DownWeightIdeal m →
    (∀ c : Dev Cert.DownWeightIdeal.nD,
      m' ((c.tc : Thread Cert.DownWeightRefIdeal.nD Cert.DownWeightRefIdeal.τ).loc Cert.DownWeightRefIdeal.main_arg0) = m ((c.tc : Thread Cert.DownWeightIdeal.nD Cert.DownWeightIdeal.τ).loc Cert.DownWeightIdeal.main_arg0)
      ∧ m' ((c.tc : Thread Cert.DownWeightRefIdeal.nD Cert.DownWeightRefIdeal.τ).loc Cert.DownWeightRefIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v0)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v0) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightRefIdeal.defs (F := Ideal)) (onTc (τ := Cert.DownWeightRefIdeal.τ) (Cert.DownWeightRefIdeal.main (F := Ideal))) ⟨m', fun _ => 0, g'⟩ (fun r => ∀ c : Dev Cert.DownWeightRefIdeal.nD,
          r.2.mem ((c.tc : Thread Cert.DownWeightRefIdeal.nD Cert.DownWeightRefIdeal.τ).loc Cert.DownWeightRefIdeal.main_v5) = v0 c
          ∧ r.2.mem ((c.tc : Thread Cert.DownWeightRefIdeal.nD Cert.DownWeightRefIdeal.τ).loc Cert.DownWeightRefIdeal.main_arg0) = m' ((c.tc : Thread Cert.DownWeightRefIdeal.nD Cert.DownWeightRefIdeal.τ).loc Cert.DownWeightRefIdeal.main_arg0)
          ∧ r.2.mem ((c.tc : Thread Cert.DownWeightRefIdeal.nD Cert.DownWeightRefIdeal.τ).loc Cert.DownWeightRefIdeal.main_arg1) = m' ((c.tc : Thread Cert.DownWeightRefIdeal.nD Cert.DownWeightRefIdeal.τ).loc Cert.DownWeightRefIdeal.main_arg1))

def preserves_GateWeight_GateWeightIdeal : Prop :=
  True

def algebraic_GateWeightIdeal_GateWeightRefIdeal [hGateWeightIdeal : Cert.GateWeightIdeal.Facts] [hGateWeightRefIdeal : Cert.GateWeightRefIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg)
    (m' : (ℓ : Loc Cert.GateWeightRefIdeal.nD Cert.GateWeightRefIdeal.τ Cert.GateWeightRefIdeal.sig) → Buf (Elt Ideal) ℓ) (g' : Dev Cert.GateWeightRefIdeal.nD → PrngReg), Pre_GateWeightIdeal m →
    (∀ c : Dev Cert.GateWeightIdeal.nD,
      m' ((c.tc : Thread Cert.GateWeightRefIdeal.nD Cert.GateWeightRefIdeal.τ).loc Cert.GateWeightRefIdeal.main_arg0) = m ((c.tc : Thread Cert.GateWeightIdeal.nD Cert.GateWeightIdeal.τ).loc Cert.GateWeightIdeal.main_arg0)
      ∧ m' ((c.tc : Thread Cert.GateWeightRefIdeal.nD Cert.GateWeightRefIdeal.τ).loc Cert.GateWeightRefIdeal.main_arg1) = m ((c.tc : Thread Cert.GateWeightIdeal.nD Cert.GateWeightIdeal.τ).loc Cert.GateWeightIdeal.main_arg1)) →
    ∃ (v0 : (c : Dev Cert.GateWeightIdeal.nD) → Buf (Elt Ideal) ((c.tc : Thread Cert.GateWeightIdeal.nD Cert.GateWeightIdeal.τ).loc Cert.GateWeightIdeal.main_v0)),
      θ_run (Cert.GateWeightIdeal.defs (F := Ideal)) (onTc (τ := Cert.GateWeightIdeal.τ) (Cert.GateWeightIdeal.main (F := Ideal))) ⟨m, fun _ => 0, g⟩ (fun r => ∀ c : Dev Cert.GateWeightIdeal.nD,
          r.2.mem ((c.tc : Thread Cert.GateWeightIdeal.nD Cert.GateWeightIdeal.τ).loc Cert.GateWeightIdeal.main_v0) = v0 c
          ∧ r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
          ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1))
      ∧ θ_run (Cert.GateWeightRefIdeal.defs (F := Ideal)) (onTc (τ := Cert.GateWeightRefIdeal.τ) (Cert.GateWeightRefIdeal.main (F := Ideal))) ⟨m', fun _ => 0, g'⟩ (fun r => ∀ c : Dev Cert.GateWeightRefIdeal.nD,
          r.2.mem ((c.tc : Thread Cert.GateWeightRefIdeal.nD Cert.GateWeightRefIdeal.τ).loc Cert.GateWeightRefIdeal.main_v7) = v0 c
          ∧ r.2.mem ((c.tc : Thread Cert.GateWeightRefIdeal.nD Cert.GateWeightRefIdeal.τ).loc Cert.GateWeightRefIdeal.main_arg0) = m' ((c.tc : Thread Cert.GateWeightRefIdeal.nD Cert.GateWeightRefIdeal.τ).loc Cert.GateWeightRefIdeal.main_arg0)
          ∧ r.2.mem ((c.tc : Thread Cert.GateWeightRefIdeal.nD Cert.GateWeightRefIdeal.τ).loc Cert.GateWeightRefIdeal.main_arg1) = m' ((c.tc : Thread Cert.GateWeightRefIdeal.nD Cert.GateWeightRefIdeal.τ).loc Cert.GateWeightRefIdeal.main_arg1))

def preserves_Hidden_HiddenIdeal : Prop :=
  True

def algebraic_HiddenIdeal_HiddenRefIdeal [hHiddenIdeal : Cert.HiddenIdeal.Facts] [hHiddenRefIdeal : Cert.HiddenRefIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)
      ∧ m' ((c.tc : Thread Cert.HiddenRefIdeal.nD Cert.HiddenRefIdeal.τ).loc Cert.HiddenRefIdeal.main_arg2) = m ((c.tc : Thread Cert.HiddenIdeal.nD Cert.HiddenIdeal.τ).loc Cert.HiddenIdeal.main_arg2)) →
    ∃ (v0 : (c : Dev Cert.HiddenIdeal.nD) → Buf (Elt Ideal) ((c.tc : Thread Cert.HiddenIdeal.nD Cert.HiddenIdeal.τ).loc Cert.HiddenIdeal.main_v2_0)) (v1 : (c : Dev Cert.HiddenIdeal.nD) → Buf (Elt Ideal) ((c.tc : Thread Cert.HiddenIdeal.nD Cert.HiddenIdeal.τ).loc Cert.HiddenIdeal.main_v2_1)) (v2 : (c : Dev Cert.HiddenIdeal.nD) → Buf (Elt Ideal) ((c.tc : Thread Cert.HiddenIdeal.nD Cert.HiddenIdeal.τ).loc Cert.HiddenIdeal.main_v2_2)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v2_0) = v0 c
          ∧ r.2.mem ((c.tc : Thread Cert.HiddenIdeal.nD Cert.HiddenIdeal.τ).loc Cert.HiddenIdeal.main_v2_1) = v1 c
          ∧ r.2.mem ((c.tc : Thread Cert.HiddenIdeal.nD Cert.HiddenIdeal.τ).loc Cert.HiddenIdeal.main_v2_2) = v2 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v5) = v0 c
          ∧ r.2.mem ((c.tc : Thread Cert.HiddenRefIdeal.nD Cert.HiddenRefIdeal.τ).loc Cert.HiddenRefIdeal.main_v6) = v1 c
          ∧ r.2.mem ((c.tc : Thread Cert.HiddenRefIdeal.nD Cert.HiddenRefIdeal.τ).loc Cert.HiddenRefIdeal.main_v9) = v2 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1)
          ∧ r.2.mem ((c.tc : Thread Cert.HiddenRefIdeal.nD Cert.HiddenRefIdeal.τ).loc Cert.HiddenRefIdeal.main_arg2) = m' ((c.tc : Thread Cert.HiddenRefIdeal.nD Cert.HiddenRefIdeal.τ).loc Cert.HiddenRefIdeal.main_arg2))

def preserves_Branches_BranchesIdeal : Prop :=
  True

def algebraic_BranchesIdeal_BranchesRefIdeal [hBranchesIdeal : Cert.BranchesIdeal.Facts] [hBranchesRefIdeal : Cert.BranchesRefIdeal.Facts] : Prop :=
  ∀ (m : (ℓ : Loc Cert.BranchesIdeal.nD Cert.BranchesIdeal.τ Cert.BranchesIdeal.sig) → Buf (Elt Ideal) ℓ) (g : Dev Cert.BranchesIdeal.nD → PrngReg)
    (m' : (ℓ : Loc Cert.BranchesRefIdeal.nD Cert.BranchesRefIdeal.τ Cert.BranchesRefIdeal.sig) → Buf (Elt Ideal) ℓ) (g' : Dev Cert.BranchesRefIdeal.nD → PrngReg), Pre_BranchesIdeal m →
    (∀ c : Dev Cert.BranchesIdeal.nD,
      m' ((c.tc : Thread Cert.BranchesRefIdeal.nD Cert.BranchesRefIdeal.τ).loc Cert.BranchesRefIdeal.main_arg0) = m ((c.tc : Thread Cert.BranchesIdeal.nD Cert.BranchesIdeal.τ).loc Cert.BranchesIdeal.main_arg0)
      ∧ m' ((c.tc : Thread Cert.BranchesRefIdeal.nD Cert.BranchesRefIdeal.τ).loc Cert.BranchesRefIdeal.main_arg1) = m ((c.tc : Thread Cert.BranchesIdeal.nD Cert.BranchesIdeal.τ).loc Cert.BranchesIdeal.main_arg1)
      ∧ m' ((c.tc : Thread Cert.BranchesRefIdeal.nD Cert.BranchesRefIdeal.τ).loc Cert.BranchesRefIdeal.main_arg2) = m ((c.tc : Thread Cert.BranchesIdeal.nD Cert.BranchesIdeal.τ).loc Cert.BranchesIdeal.main_arg2)
      ∧ m' ((c.tc : Thread Cert.BranchesRefIdeal.nD Cert.BranchesRefIdeal.τ).loc Cert.BranchesRefIdeal.main_arg3) = m ((c.tc : Thread Cert.BranchesIdeal.nD Cert.BranchesIdeal.τ).loc Cert.BranchesIdeal.main_arg3)
      ∧ m' ((c.tc : Thread Cert.BranchesRefIdeal.nD Cert.BranchesRefIdeal.τ).loc Cert.BranchesRefIdeal.main_arg4) = m ((c.tc : Thread Cert.BranchesIdeal.nD Cert.BranchesIdeal.τ).loc Cert.BranchesIdeal.main_arg4)) →
    ∃ (v0 : (c : Dev Cert.BranchesIdeal.nD) → Buf (Elt Ideal) ((c.tc : Thread Cert.BranchesIdeal.nD Cert.BranchesIdeal.τ).loc Cert.BranchesIdeal.main_v2_0)) (v1 : (c : Dev Cert.BranchesIdeal.nD) → Buf (Elt Ideal) ((c.tc : Thread Cert.BranchesIdeal.nD Cert.BranchesIdeal.τ).loc Cert.BranchesIdeal.main_v2_1)) (v2 : (c : Dev Cert.BranchesIdeal.nD) → Buf (Elt Ideal) ((c.tc : Thread Cert.BranchesIdeal.nD Cert.BranchesIdeal.τ).loc Cert.BranchesIdeal.main_v2_2)),
      θ_run (Cert.BranchesIdeal.defs (F := Ideal)) (onTc (τ := Cert.BranchesIdeal.τ) (Cert.BranchesIdeal.main (F := Ideal))) ⟨m, fun _ => 0, g⟩ (fun r => ∀ c : Dev Cert.BranchesIdeal.nD,
          r.2.mem ((c.tc : Thread Cert.BranchesIdeal.nD Cert.BranchesIdeal.τ).loc Cert.BranchesIdeal.main_v2_0) = v0 c
          ∧ r.2.mem ((c.tc : Thread Cert.BranchesIdeal.nD Cert.BranchesIdeal.τ).loc Cert.BranchesIdeal.main_v2_1) = v1 c
          ∧ r.2.mem ((c.tc : Thread Cert.BranchesIdeal.nD Cert.BranchesIdeal.τ).loc Cert.BranchesIdeal.main_v2_2) = v2 c
          ∧ r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
          ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
          ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
          ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
          ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4))
      ∧ θ_run (Cert.BranchesRefIdeal.defs (F := Ideal)) (onTc (τ := Cert.BranchesRefIdeal.τ) (Cert.BranchesRefIdeal.main (F := Ideal))) ⟨m', fun _ => 0, g'⟩ (fun r => ∀ c : Dev Cert.BranchesRefIdeal.nD,
          r.2.mem ((c.tc : Thread Cert.BranchesRefIdeal.nD Cert.BranchesRefIdeal.τ).loc Cert.BranchesRefIdeal.main_v18) = v0 c
          ∧ r.2.mem ((c.tc : Thread Cert.BranchesRefIdeal.nD Cert.BranchesRefIdeal.τ).loc Cert.BranchesRefIdeal.main_v19) = v1 c
          ∧ r.2.mem ((c.tc : Thread Cert.BranchesRefIdeal.nD Cert.BranchesRefIdeal.τ).loc Cert.BranchesRefIdeal.main_v20) = v2 c
          ∧ r.2.mem ((c.tc : Thread Cert.BranchesRefIdeal.nD Cert.BranchesRefIdeal.τ).loc Cert.BranchesRefIdeal.main_arg0) = m' ((c.tc : Thread Cert.BranchesRefIdeal.nD Cert.BranchesRefIdeal.τ).loc Cert.BranchesRefIdeal.main_arg0)
          ∧ r.2.mem ((c.tc : Thread Cert.BranchesRefIdeal.nD Cert.BranchesRefIdeal.τ).loc Cert.BranchesRefIdeal.main_arg1) = m' ((c.tc : Thread Cert.BranchesRefIdeal.nD Cert.BranchesRefIdeal.τ).loc Cert.BranchesRefIdeal.main_arg1)
          ∧ r.2.mem ((c.tc : Thread Cert.BranchesRefIdeal.nD Cert.BranchesRefIdeal.τ).loc Cert.BranchesRefIdeal.main_arg2) = m' ((c.tc : Thread Cert.BranchesRefIdeal.nD Cert.BranchesRefIdeal.τ).loc Cert.BranchesRefIdeal.main_arg2)
          ∧ r.2.mem ((c.tc : Thread Cert.BranchesRefIdeal.nD Cert.BranchesRefIdeal.τ).loc Cert.BranchesRefIdeal.main_arg3) = m' ((c.tc : Thread Cert.BranchesRefIdeal.nD Cert.BranchesRefIdeal.τ).loc Cert.BranchesRefIdeal.main_arg3)
          ∧ r.2.mem ((c.tc : Thread Cert.BranchesRefIdeal.nD Cert.BranchesRefIdeal.τ).loc Cert.BranchesRefIdeal.main_arg4) = m' ((c.tc : Thread Cert.BranchesRefIdeal.nD Cert.BranchesRefIdeal.τ).loc Cert.BranchesRefIdeal.main_arg4))

def preserves_Residual_ResidualIdeal : Prop :=
  True

def algebraic_ResidualIdeal_ResidualRefIdeal [hResidualIdeal : Cert.ResidualIdeal.Facts] [hResidualRefIdeal : Cert.ResidualRefIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualRefIdeal.nD Cert.ResidualRefIdeal.τ Cert.ResidualRefIdeal.sig) → Buf (Elt Ideal) ℓ) (g' : Dev Cert.ResidualRefIdeal.nD → PrngReg), Pre_ResidualIdeal m →
    (∀ c : Dev Cert.ResidualIdeal.nD,
      m' ((c.tc : Thread Cert.ResidualRefIdeal.nD Cert.ResidualRefIdeal.τ).loc Cert.ResidualRefIdeal.main_arg0) = m ((c.tc : Thread Cert.ResidualIdeal.nD Cert.ResidualIdeal.τ).loc Cert.ResidualIdeal.main_arg0)
      ∧ m' ((c.tc : Thread Cert.ResidualRefIdeal.nD Cert.ResidualRefIdeal.τ).loc Cert.ResidualRefIdeal.main_arg1) = m ((c.tc : Thread Cert.ResidualIdeal.nD Cert.ResidualIdeal.τ).loc Cert.ResidualIdeal.main_arg1)
      ∧ m' ((c.tc : Thread Cert.ResidualRefIdeal.nD Cert.ResidualRefIdeal.τ).loc Cert.ResidualRefIdeal.main_arg2) = m ((c.tc : Thread Cert.ResidualIdeal.nD Cert.ResidualIdeal.τ).loc Cert.ResidualIdeal.main_arg2)
      ∧ m' ((c.tc : Thread Cert.ResidualRefIdeal.nD Cert.ResidualRefIdeal.τ).loc Cert.ResidualRefIdeal.main_arg3) = m ((c.tc : Thread Cert.ResidualIdeal.nD Cert.ResidualIdeal.τ).loc Cert.ResidualIdeal.main_arg3)) →
    ∃ (v0 : (c : Dev Cert.ResidualIdeal.nD) → Buf (Elt Ideal) ((c.tc : Thread Cert.ResidualIdeal.nD Cert.ResidualIdeal.τ).loc Cert.ResidualIdeal.main_v0_0)) (v1 : (c : Dev Cert.ResidualIdeal.nD) → Buf (Elt Ideal) ((c.tc : Thread Cert.ResidualIdeal.nD Cert.ResidualIdeal.τ).loc Cert.ResidualIdeal.main_v0_1)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v0_0) = v0 c
          ∧ r.2.mem ((c.tc : Thread Cert.ResidualIdeal.nD Cert.ResidualIdeal.τ).loc Cert.ResidualIdeal.main_v0_1) = v1 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ θ_run (Cert.ResidualRefIdeal.defs (F := Ideal)) (onTc (τ := Cert.ResidualRefIdeal.τ) (Cert.ResidualRefIdeal.main (F := Ideal))) ⟨m', fun _ => 0, g'⟩ (fun r => ∀ c : Dev Cert.ResidualRefIdeal.nD,
          r.2.mem ((c.tc : Thread Cert.ResidualRefIdeal.nD Cert.ResidualRefIdeal.τ).loc Cert.ResidualRefIdeal.main_v3) = v0 c
          ∧ r.2.mem ((c.tc : Thread Cert.ResidualRefIdeal.nD Cert.ResidualRefIdeal.τ).loc Cert.ResidualRefIdeal.main_v18) = v1 c
          ∧ r.2.mem ((c.tc : Thread Cert.ResidualRefIdeal.nD Cert.ResidualRefIdeal.τ).loc Cert.ResidualRefIdeal.main_arg0) = m' ((c.tc : Thread Cert.ResidualRefIdeal.nD Cert.ResidualRefIdeal.τ).loc Cert.ResidualRefIdeal.main_arg0)
          ∧ r.2.mem ((c.tc : Thread Cert.ResidualRefIdeal.nD Cert.ResidualRefIdeal.τ).loc Cert.ResidualRefIdeal.main_arg1) = m' ((c.tc : Thread Cert.ResidualRefIdeal.nD Cert.ResidualRefIdeal.τ).loc Cert.ResidualRefIdeal.main_arg1)
          ∧ r.2.mem ((c.tc : Thread Cert.ResidualRefIdeal.nD Cert.ResidualRefIdeal.τ).loc Cert.ResidualRefIdeal.main_arg2) = m' ((c.tc : Thread Cert.ResidualRefIdeal.nD Cert.ResidualRefIdeal.τ).loc Cert.ResidualRefIdeal.main_arg2)
          ∧ r.2.mem ((c.tc : Thread Cert.ResidualRefIdeal.nD Cert.ResidualRefIdeal.τ).loc Cert.ResidualRefIdeal.main_arg3) = m' ((c.tc : Thread Cert.ResidualRefIdeal.nD Cert.ResidualRefIdeal.τ).loc Cert.ResidualRefIdeal.main_arg3))

def preserves_OutWeight_OutWeightIdeal : Prop :=
  True

def algebraic_OutWeightIdeal_OutWeightRefIdeal [hOutWeightIdeal : Cert.OutWeightIdeal.Facts] [hOutWeightRefIdeal : Cert.OutWeightRefIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightRefIdeal.nD Cert.OutWeightRefIdeal.τ Cert.OutWeightRefIdeal.sig) → Buf (Elt Ideal) ℓ) (g' : Dev Cert.OutWeightRefIdeal.nD → PrngReg), Pre_OutWeightIdeal m →
    (∀ c : Dev Cert.OutWeightIdeal.nD,
      m' ((c.tc : Thread Cert.OutWeightRefIdeal.nD Cert.OutWeightRefIdeal.τ).loc Cert.OutWeightRefIdeal.main_arg0) = m ((c.tc : Thread Cert.OutWeightIdeal.nD Cert.OutWeightIdeal.τ).loc Cert.OutWeightIdeal.main_arg0)
      ∧ m' ((c.tc : Thread Cert.OutWeightRefIdeal.nD Cert.OutWeightRefIdeal.τ).loc Cert.OutWeightRefIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v0)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v0) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightRefIdeal.defs (F := Ideal)) (onTc (τ := Cert.OutWeightRefIdeal.τ) (Cert.OutWeightRefIdeal.main (F := Ideal))) ⟨m', fun _ => 0, g'⟩ (fun r => ∀ c : Dev Cert.OutWeightRefIdeal.nD,
          r.2.mem ((c.tc : Thread Cert.OutWeightRefIdeal.nD Cert.OutWeightRefIdeal.τ).loc Cert.OutWeightRefIdeal.main_v5) = v0 c
          ∧ r.2.mem ((c.tc : Thread Cert.OutWeightRefIdeal.nD Cert.OutWeightRefIdeal.τ).loc Cert.OutWeightRefIdeal.main_arg0) = m' ((c.tc : Thread Cert.OutWeightRefIdeal.nD Cert.OutWeightRefIdeal.τ).loc Cert.OutWeightRefIdeal.main_arg0)
          ∧ r.2.mem ((c.tc : Thread Cert.OutWeightRefIdeal.nD Cert.OutWeightRefIdeal.τ).loc Cert.OutWeightRefIdeal.main_arg1) = m' ((c.tc : Thread Cert.OutWeightRefIdeal.nD Cert.OutWeightRefIdeal.τ).loc Cert.OutWeightRefIdeal.main_arg1))

def preserves_BranchWeight_BranchWeightIdeal : Prop :=
  True

def algebraic_BranchWeightIdeal_BranchWeightRefIdeal [hBranchWeightIdeal : Cert.BranchWeightIdeal.Facts] [hBranchWeightRefIdeal : Cert.BranchWeightRefIdeal.Facts] : Prop :=
  ∀ (m : (ℓ : Loc Cert.BranchWeightIdeal.nD Cert.BranchWeightIdeal.τ Cert.BranchWeightIdeal.sig) → Buf (Elt Ideal) ℓ) (g : Dev Cert.BranchWeightIdeal.nD → PrngReg)
    (m' : (ℓ : Loc Cert.BranchWeightRefIdeal.nD Cert.BranchWeightRefIdeal.τ Cert.BranchWeightRefIdeal.sig) → Buf (Elt Ideal) ℓ) (g' : Dev Cert.BranchWeightRefIdeal.nD → PrngReg), Pre_BranchWeightIdeal m →
    (∀ c : Dev Cert.BranchWeightIdeal.nD,
      m' ((c.tc : Thread Cert.BranchWeightRefIdeal.nD Cert.BranchWeightRefIdeal.τ).loc Cert.BranchWeightRefIdeal.main_arg0) = m ((c.tc : Thread Cert.BranchWeightIdeal.nD Cert.BranchWeightIdeal.τ).loc Cert.BranchWeightIdeal.main_arg0)
      ∧ m' ((c.tc : Thread Cert.BranchWeightRefIdeal.nD Cert.BranchWeightRefIdeal.τ).loc Cert.BranchWeightRefIdeal.main_arg1) = m ((c.tc : Thread Cert.BranchWeightIdeal.nD Cert.BranchWeightIdeal.τ).loc Cert.BranchWeightIdeal.main_arg1)) →
    ∃ (v0 : (c : Dev Cert.BranchWeightIdeal.nD) → Buf (Elt Ideal) ((c.tc : Thread Cert.BranchWeightIdeal.nD Cert.BranchWeightIdeal.τ).loc Cert.BranchWeightIdeal.main_v0)),
      θ_run (Cert.BranchWeightIdeal.defs (F := Ideal)) (onTc (τ := Cert.BranchWeightIdeal.τ) (Cert.BranchWeightIdeal.main (F := Ideal))) ⟨m, fun _ => 0, g⟩ (fun r => ∀ c : Dev Cert.BranchWeightIdeal.nD,
          r.2.mem ((c.tc : Thread Cert.BranchWeightIdeal.nD Cert.BranchWeightIdeal.τ).loc Cert.BranchWeightIdeal.main_v0) = v0 c
          ∧ r.2.mem ((c.tc : Thread Cert.BranchWeightIdeal.nD Cert.BranchWeightIdeal.τ).loc Cert.BranchWeightIdeal.main_arg0) = m ((c.tc : Thread Cert.BranchWeightIdeal.nD Cert.BranchWeightIdeal.τ).loc Cert.BranchWeightIdeal.main_arg0)
          ∧ r.2.mem ((c.tc : Thread Cert.BranchWeightIdeal.nD Cert.BranchWeightIdeal.τ).loc Cert.BranchWeightIdeal.main_arg1) = m ((c.tc : Thread Cert.BranchWeightIdeal.nD Cert.BranchWeightIdeal.τ).loc Cert.BranchWeightIdeal.main_arg1))
      ∧ θ_run (Cert.BranchWeightRefIdeal.defs (F := Ideal)) (onTc (τ := Cert.BranchWeightRefIdeal.τ) (Cert.BranchWeightRefIdeal.main (F := Ideal))) ⟨m', fun _ => 0, g'⟩ (fun r => ∀ c : Dev Cert.BranchWeightRefIdeal.nD,
          r.2.mem ((c.tc : Thread Cert.BranchWeightRefIdeal.nD Cert.BranchWeightRefIdeal.τ).loc Cert.BranchWeightRefIdeal.main_v7) = v0 c
          ∧ r.2.mem ((c.tc : Thread Cert.BranchWeightRefIdeal.nD Cert.BranchWeightRefIdeal.τ).loc Cert.BranchWeightRefIdeal.main_arg0) = m' ((c.tc : Thread Cert.BranchWeightRefIdeal.nD Cert.BranchWeightRefIdeal.τ).loc Cert.BranchWeightRefIdeal.main_arg0)
          ∧ r.2.mem ((c.tc : Thread Cert.BranchWeightRefIdeal.nD Cert.BranchWeightRefIdeal.τ).loc Cert.BranchWeightRefIdeal.main_arg1) = m' ((c.tc : Thread Cert.BranchWeightRefIdeal.nD Cert.BranchWeightRefIdeal.τ).loc Cert.BranchWeightRefIdeal.main_arg1))

def preserves_Input_InputIdeal : Prop :=
  True

def algebraic_InputIdeal_InputRefIdeal [hInputIdeal : Cert.InputIdeal.Facts] [hInputRefIdeal : Cert.InputRefIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputRefIdeal.nD Cert.InputRefIdeal.τ Cert.InputRefIdeal.sig) → Buf (Elt Ideal) ℓ) (g' : Dev Cert.InputRefIdeal.nD → PrngReg), Pre_InputIdeal m →
    (∀ c : Dev Cert.InputIdeal.nD,
      m' ((c.tc : Thread Cert.InputRefIdeal.nD Cert.InputRefIdeal.τ).loc Cert.InputRefIdeal.main_arg0) = m ((c.tc : Thread Cert.InputIdeal.nD Cert.InputIdeal.τ).loc Cert.InputIdeal.main_arg0)
      ∧ m' ((c.tc : Thread Cert.InputRefIdeal.nD Cert.InputRefIdeal.τ).loc Cert.InputRefIdeal.main_arg1) = m ((c.tc : Thread Cert.InputIdeal.nD Cert.InputIdeal.τ).loc Cert.InputIdeal.main_arg1)
      ∧ m' ((c.tc : Thread Cert.InputRefIdeal.nD Cert.InputRefIdeal.τ).loc Cert.InputRefIdeal.main_arg2) = m ((c.tc : Thread Cert.InputIdeal.nD Cert.InputIdeal.τ).loc Cert.InputIdeal.main_arg2)
      ∧ m' ((c.tc : Thread Cert.InputRefIdeal.nD Cert.InputRefIdeal.τ).loc Cert.InputRefIdeal.main_arg3) = m ((c.tc : Thread Cert.InputIdeal.nD Cert.InputIdeal.τ).loc Cert.InputIdeal.main_arg3)
      ∧ m' ((c.tc : Thread Cert.InputRefIdeal.nD Cert.InputRefIdeal.τ).loc Cert.InputRefIdeal.main_arg4) = m ((c.tc : Thread Cert.InputIdeal.nD Cert.InputIdeal.τ).loc Cert.InputIdeal.main_arg4)) →
    ∃ (v0 : (c : Dev Cert.InputIdeal.nD) → Buf (Elt Ideal) ((c.tc : Thread Cert.InputIdeal.nD Cert.InputIdeal.τ).loc Cert.InputIdeal.main_v3)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v3) = v0 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ θ_run (Cert.InputRefIdeal.defs (F := Ideal)) (onTc (τ := Cert.InputRefIdeal.τ) (Cert.InputRefIdeal.main (F := Ideal))) ⟨m', fun _ => 0, g'⟩ (fun r => ∀ c : Dev Cert.InputRefIdeal.nD,
          r.2.mem ((c.tc : Thread Cert.InputRefIdeal.nD Cert.InputRefIdeal.τ).loc Cert.InputRefIdeal.main_v6) = v0 c
          ∧ r.2.mem ((c.tc : Thread Cert.InputRefIdeal.nD Cert.InputRefIdeal.τ).loc Cert.InputRefIdeal.main_arg0) = m' ((c.tc : Thread Cert.InputRefIdeal.nD Cert.InputRefIdeal.τ).loc Cert.InputRefIdeal.main_arg0)
          ∧ r.2.mem ((c.tc : Thread Cert.InputRefIdeal.nD Cert.InputRefIdeal.τ).loc Cert.InputRefIdeal.main_arg1) = m' ((c.tc : Thread Cert.InputRefIdeal.nD Cert.InputRefIdeal.τ).loc Cert.InputRefIdeal.main_arg1)
          ∧ r.2.mem ((c.tc : Thread Cert.InputRefIdeal.nD Cert.InputRefIdeal.τ).loc Cert.InputRefIdeal.main_arg2) = m' ((c.tc : Thread Cert.InputRefIdeal.nD Cert.InputRefIdeal.τ).loc Cert.InputRefIdeal.main_arg2)
          ∧ r.2.mem ((c.tc : Thread Cert.InputRefIdeal.nD Cert.InputRefIdeal.τ).loc Cert.InputRefIdeal.main_arg3) = m' ((c.tc : Thread Cert.InputRefIdeal.nD Cert.InputRefIdeal.τ).loc Cert.InputRefIdeal.main_arg3)
          ∧ r.2.mem ((c.tc : Thread Cert.InputRefIdeal.nD Cert.InputRefIdeal.τ).loc Cert.InputRefIdeal.main_arg4) = m' ((c.tc : Thread Cert.InputRefIdeal.nD Cert.InputRefIdeal.τ).loc Cert.InputRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v59) = v0 c
          ∧ r.2.mem ((c.tc : Thread Cert.LossRefIdeal.nD Cert.LossRefIdeal.τ).loc Cert.LossRefIdeal.main_v58) = v1 c
          ∧ r.2.mem ((c.tc : Thread Cert.LossRefIdeal.nD Cert.LossRefIdeal.τ).loc Cert.LossRefIdeal.main_v57) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_GatesWeight_GatesWeightIdeal : Prop :=
  True

def algebraic_GatesWeightIdeal_GatesWeightRefIdeal [hGatesWeightIdeal : Cert.GatesWeightIdeal.Facts] [hGatesWeightRefIdeal : Cert.GatesWeightRefIdeal.Facts] : Prop :=
  ∀ (m : (ℓ : Loc Cert.GatesWeightIdeal.nD Cert.GatesWeightIdeal.τ Cert.GatesWeightIdeal.sig) → Buf (Elt Ideal) ℓ) (g : Dev Cert.GatesWeightIdeal.nD → PrngReg)
    (m' : (ℓ : Loc Cert.GatesWeightRefIdeal.nD Cert.GatesWeightRefIdeal.τ Cert.GatesWeightRefIdeal.sig) → Buf (Elt Ideal) ℓ) (g' : Dev Cert.GatesWeightRefIdeal.nD → PrngReg), Pre_GatesWeightIdeal m →
    (∀ c : Dev Cert.GatesWeightIdeal.nD,
      m' ((c.tc : Thread Cert.GatesWeightRefIdeal.nD Cert.GatesWeightRefIdeal.τ).loc Cert.GatesWeightRefIdeal.main_arg0) = m ((c.tc : Thread Cert.GatesWeightIdeal.nD Cert.GatesWeightIdeal.τ).loc Cert.GatesWeightIdeal.main_arg0)
      ∧ m' ((c.tc : Thread Cert.GatesWeightRefIdeal.nD Cert.GatesWeightRefIdeal.τ).loc Cert.GatesWeightRefIdeal.main_arg1) = m ((c.tc : Thread Cert.GatesWeightIdeal.nD Cert.GatesWeightIdeal.τ).loc Cert.GatesWeightIdeal.main_arg1)) →
    ∃ (v0 : (c : Dev Cert.GatesWeightIdeal.nD) → Buf (Elt Ideal) ((c.tc : Thread Cert.GatesWeightIdeal.nD Cert.GatesWeightIdeal.τ).loc Cert.GatesWeightIdeal.main_v0_0)) (v1 : (c : Dev Cert.GatesWeightIdeal.nD) → Buf (Elt Ideal) ((c.tc : Thread Cert.GatesWeightIdeal.nD Cert.GatesWeightIdeal.τ).loc Cert.GatesWeightIdeal.main_v0_1)),
      θ_run (Cert.GatesWeightIdeal.defs (F := Ideal)) (onTc (τ := Cert.GatesWeightIdeal.τ) (Cert.GatesWeightIdeal.main (F := Ideal))) ⟨m, fun _ => 0, g⟩ (fun r => ∀ c : Dev Cert.GatesWeightIdeal.nD,
          r.2.mem ((c.tc : Thread Cert.GatesWeightIdeal.nD Cert.GatesWeightIdeal.τ).loc Cert.GatesWeightIdeal.main_v0_0) = v0 c
          ∧ r.2.mem ((c.tc : Thread Cert.GatesWeightIdeal.nD Cert.GatesWeightIdeal.τ).loc Cert.GatesWeightIdeal.main_v0_1) = v1 c
          ∧ r.2.mem ((c.tc : Thread Cert.GatesWeightIdeal.nD Cert.GatesWeightIdeal.τ).loc Cert.GatesWeightIdeal.main_arg0) = m ((c.tc : Thread Cert.GatesWeightIdeal.nD Cert.GatesWeightIdeal.τ).loc Cert.GatesWeightIdeal.main_arg0)
          ∧ r.2.mem ((c.tc : Thread Cert.GatesWeightIdeal.nD Cert.GatesWeightIdeal.τ).loc Cert.GatesWeightIdeal.main_arg1) = m ((c.tc : Thread Cert.GatesWeightIdeal.nD Cert.GatesWeightIdeal.τ).loc Cert.GatesWeightIdeal.main_arg1))
      ∧ θ_run (Cert.GatesWeightRefIdeal.defs (F := Ideal)) (onTc (τ := Cert.GatesWeightRefIdeal.τ) (Cert.GatesWeightRefIdeal.main (F := Ideal))) ⟨m', fun _ => 0, g'⟩ (fun r => ∀ c : Dev Cert.GatesWeightRefIdeal.nD,
          r.2.mem ((c.tc : Thread Cert.GatesWeightRefIdeal.nD Cert.GatesWeightRefIdeal.τ).loc Cert.GatesWeightRefIdeal.main_v14) = v0 c
          ∧ r.2.mem ((c.tc : Thread Cert.GatesWeightRefIdeal.nD Cert.GatesWeightRefIdeal.τ).loc Cert.GatesWeightRefIdeal.main_v15) = v1 c
          ∧ r.2.mem ((c.tc : Thread Cert.GatesWeightRefIdeal.nD Cert.GatesWeightRefIdeal.τ).loc Cert.GatesWeightRefIdeal.main_arg0) = m' ((c.tc : Thread Cert.GatesWeightRefIdeal.nD Cert.GatesWeightRefIdeal.τ).loc Cert.GatesWeightRefIdeal.main_arg0)
          ∧ r.2.mem ((c.tc : Thread Cert.GatesWeightRefIdeal.nD Cert.GatesWeightRefIdeal.τ).loc Cert.GatesWeightRefIdeal.main_arg1) = m' ((c.tc : Thread Cert.GatesWeightRefIdeal.nD Cert.GatesWeightRefIdeal.τ).loc Cert.GatesWeightRefIdeal.main_arg1))

def preserves_RkvWeight_RkvWeightIdeal : Prop :=
  True

def algebraic_RkvWeightIdeal_RkvWeightRefIdeal [hRkvWeightIdeal : Cert.RkvWeightIdeal.Facts] [hRkvWeightRefIdeal : Cert.RkvWeightRefIdeal.Facts] : Prop :=
  ∀ (m : (ℓ : Loc Cert.RkvWeightIdeal.nD Cert.RkvWeightIdeal.τ Cert.RkvWeightIdeal.sig) → Buf (Elt Ideal) ℓ) (g : Dev Cert.RkvWeightIdeal.nD → PrngReg)
    (m' : (ℓ : Loc Cert.RkvWeightRefIdeal.nD Cert.RkvWeightRefIdeal.τ Cert.RkvWeightRefIdeal.sig) → Buf (Elt Ideal) ℓ) (g' : Dev Cert.RkvWeightRefIdeal.nD → PrngReg), Pre_RkvWeightIdeal m →
    (∀ c : Dev Cert.RkvWeightIdeal.nD,
      m' ((c.tc : Thread Cert.RkvWeightRefIdeal.nD Cert.RkvWeightRefIdeal.τ).loc Cert.RkvWeightRefIdeal.main_arg0) = m ((c.tc : Thread Cert.RkvWeightIdeal.nD Cert.RkvWeightIdeal.τ).loc Cert.RkvWeightIdeal.main_arg0)
      ∧ m' ((c.tc : Thread Cert.RkvWeightRefIdeal.nD Cert.RkvWeightRefIdeal.τ).loc Cert.RkvWeightRefIdeal.main_arg1) = m ((c.tc : Thread Cert.RkvWeightIdeal.nD Cert.RkvWeightIdeal.τ).loc Cert.RkvWeightIdeal.main_arg1)
      ∧ m' ((c.tc : Thread Cert.RkvWeightRefIdeal.nD Cert.RkvWeightRefIdeal.τ).loc Cert.RkvWeightRefIdeal.main_arg2) = m ((c.tc : Thread Cert.RkvWeightIdeal.nD Cert.RkvWeightIdeal.τ).loc Cert.RkvWeightIdeal.main_arg2)) →
    ∃ (v0 : (c : Dev Cert.RkvWeightIdeal.nD) → Buf (Elt Ideal) ((c.tc : Thread Cert.RkvWeightIdeal.nD Cert.RkvWeightIdeal.τ).loc Cert.RkvWeightIdeal.main_v0_0)) (v1 : (c : Dev Cert.RkvWeightIdeal.nD) → Buf (Elt Ideal) ((c.tc : Thread Cert.RkvWeightIdeal.nD Cert.RkvWeightIdeal.τ).loc Cert.RkvWeightIdeal.main_v0_1)),
      θ_run (Cert.RkvWeightIdeal.defs (F := Ideal)) (onTc (τ := Cert.RkvWeightIdeal.τ) (Cert.RkvWeightIdeal.main (F := Ideal))) ⟨m, fun _ => 0, g⟩ (fun r => ∀ c : Dev Cert.RkvWeightIdeal.nD,
          r.2.mem ((c.tc : Thread Cert.RkvWeightIdeal.nD Cert.RkvWeightIdeal.τ).loc Cert.RkvWeightIdeal.main_v0_0) = v0 c
          ∧ r.2.mem ((c.tc : Thread Cert.RkvWeightIdeal.nD Cert.RkvWeightIdeal.τ).loc Cert.RkvWeightIdeal.main_v0_1) = v1 c
          ∧ r.2.mem ((c.tc : Thread Cert.RkvWeightIdeal.nD Cert.RkvWeightIdeal.τ).loc Cert.RkvWeightIdeal.main_arg0) = m ((c.tc : Thread Cert.RkvWeightIdeal.nD Cert.RkvWeightIdeal.τ).loc Cert.RkvWeightIdeal.main_arg0)
          ∧ r.2.mem ((c.tc : Thread Cert.RkvWeightIdeal.nD Cert.RkvWeightIdeal.τ).loc Cert.RkvWeightIdeal.main_arg1) = m ((c.tc : Thread Cert.RkvWeightIdeal.nD Cert.RkvWeightIdeal.τ).loc Cert.RkvWeightIdeal.main_arg1)
          ∧ r.2.mem ((c.tc : Thread Cert.RkvWeightIdeal.nD Cert.RkvWeightIdeal.τ).loc Cert.RkvWeightIdeal.main_arg2) = m ((c.tc : Thread Cert.RkvWeightIdeal.nD Cert.RkvWeightIdeal.τ).loc Cert.RkvWeightIdeal.main_arg2))
      ∧ θ_run (Cert.RkvWeightRefIdeal.defs (F := Ideal)) (onTc (τ := Cert.RkvWeightRefIdeal.τ) (Cert.RkvWeightRefIdeal.main (F := Ideal))) ⟨m', fun _ => 0, g'⟩ (fun r => ∀ c : Dev Cert.RkvWeightRefIdeal.nD,
          r.2.mem ((c.tc : Thread Cert.RkvWeightRefIdeal.nD Cert.RkvWeightRefIdeal.τ).loc Cert.RkvWeightRefIdeal.main_v17) = v0 c
          ∧ r.2.mem ((c.tc : Thread Cert.RkvWeightRefIdeal.nD Cert.RkvWeightRefIdeal.τ).loc Cert.RkvWeightRefIdeal.main_v18) = v1 c
          ∧ r.2.mem ((c.tc : Thread Cert.RkvWeightRefIdeal.nD Cert.RkvWeightRefIdeal.τ).loc Cert.RkvWeightRefIdeal.main_arg0) = m' ((c.tc : Thread Cert.RkvWeightRefIdeal.nD Cert.RkvWeightRefIdeal.τ).loc Cert.RkvWeightRefIdeal.main_arg0)
          ∧ r.2.mem ((c.tc : Thread Cert.RkvWeightRefIdeal.nD Cert.RkvWeightRefIdeal.τ).loc Cert.RkvWeightRefIdeal.main_arg1) = m' ((c.tc : Thread Cert.RkvWeightRefIdeal.nD Cert.RkvWeightRefIdeal.τ).loc Cert.RkvWeightRefIdeal.main_arg1)
          ∧ r.2.mem ((c.tc : Thread Cert.RkvWeightRefIdeal.nD Cert.RkvWeightRefIdeal.τ).loc Cert.RkvWeightRefIdeal.main_arg2) = m' ((c.tc : Thread Cert.RkvWeightRefIdeal.nD Cert.RkvWeightRefIdeal.τ).loc Cert.RkvWeightRefIdeal.main_arg2))

def preserves_LoraWeight_LoraWeightIdeal : Prop :=
  True

def algebraic_LoraWeightIdeal_LoraWeightRefIdeal [hLoraWeightIdeal : Cert.LoraWeightIdeal.Facts] [hLoraWeightRefIdeal : Cert.LoraWeightRefIdeal.Facts] : Prop :=
  ∀ (m : (ℓ : Loc Cert.LoraWeightIdeal.nD Cert.LoraWeightIdeal.τ Cert.LoraWeightIdeal.sig) → Buf (Elt Ideal) ℓ) (g : Dev Cert.LoraWeightIdeal.nD → PrngReg)
    (m' : (ℓ : Loc Cert.LoraWeightRefIdeal.nD Cert.LoraWeightRefIdeal.τ Cert.LoraWeightRefIdeal.sig) → Buf (Elt Ideal) ℓ) (g' : Dev Cert.LoraWeightRefIdeal.nD → PrngReg), Pre_LoraWeightIdeal m →
    (∀ c : Dev Cert.LoraWeightIdeal.nD,
      m' ((c.tc : Thread Cert.LoraWeightRefIdeal.nD Cert.LoraWeightRefIdeal.τ).loc Cert.LoraWeightRefIdeal.main_arg0) = m ((c.tc : Thread Cert.LoraWeightIdeal.nD Cert.LoraWeightIdeal.τ).loc Cert.LoraWeightIdeal.main_arg0)
      ∧ m' ((c.tc : Thread Cert.LoraWeightRefIdeal.nD Cert.LoraWeightRefIdeal.τ).loc Cert.LoraWeightRefIdeal.main_arg1) = m ((c.tc : Thread Cert.LoraWeightIdeal.nD Cert.LoraWeightIdeal.τ).loc Cert.LoraWeightIdeal.main_arg1)
      ∧ m' ((c.tc : Thread Cert.LoraWeightRefIdeal.nD Cert.LoraWeightRefIdeal.τ).loc Cert.LoraWeightRefIdeal.main_arg2) = m ((c.tc : Thread Cert.LoraWeightIdeal.nD Cert.LoraWeightIdeal.τ).loc Cert.LoraWeightIdeal.main_arg2)) →
    ∃ (v0 : (c : Dev Cert.LoraWeightIdeal.nD) → Buf (Elt Ideal) ((c.tc : Thread Cert.LoraWeightIdeal.nD Cert.LoraWeightIdeal.τ).loc Cert.LoraWeightIdeal.main_v0_0)) (v1 : (c : Dev Cert.LoraWeightIdeal.nD) → Buf (Elt Ideal) ((c.tc : Thread Cert.LoraWeightIdeal.nD Cert.LoraWeightIdeal.τ).loc Cert.LoraWeightIdeal.main_v0_1)),
      θ_run (Cert.LoraWeightIdeal.defs (F := Ideal)) (onTc (τ := Cert.LoraWeightIdeal.τ) (Cert.LoraWeightIdeal.main (F := Ideal))) ⟨m, fun _ => 0, g⟩ (fun r => ∀ c : Dev Cert.LoraWeightIdeal.nD,
          r.2.mem ((c.tc : Thread Cert.LoraWeightIdeal.nD Cert.LoraWeightIdeal.τ).loc Cert.LoraWeightIdeal.main_v0_0) = v0 c
          ∧ r.2.mem ((c.tc : Thread Cert.LoraWeightIdeal.nD Cert.LoraWeightIdeal.τ).loc Cert.LoraWeightIdeal.main_v0_1) = v1 c
          ∧ r.2.mem ((c.tc : Thread Cert.LoraWeightIdeal.nD Cert.LoraWeightIdeal.τ).loc Cert.LoraWeightIdeal.main_arg0) = m ((c.tc : Thread Cert.LoraWeightIdeal.nD Cert.LoraWeightIdeal.τ).loc Cert.LoraWeightIdeal.main_arg0)
          ∧ r.2.mem ((c.tc : Thread Cert.LoraWeightIdeal.nD Cert.LoraWeightIdeal.τ).loc Cert.LoraWeightIdeal.main_arg1) = m ((c.tc : Thread Cert.LoraWeightIdeal.nD Cert.LoraWeightIdeal.τ).loc Cert.LoraWeightIdeal.main_arg1)
          ∧ r.2.mem ((c.tc : Thread Cert.LoraWeightIdeal.nD Cert.LoraWeightIdeal.τ).loc Cert.LoraWeightIdeal.main_arg2) = m ((c.tc : Thread Cert.LoraWeightIdeal.nD Cert.LoraWeightIdeal.τ).loc Cert.LoraWeightIdeal.main_arg2))
      ∧ θ_run (Cert.LoraWeightRefIdeal.defs (F := Ideal)) (onTc (τ := Cert.LoraWeightRefIdeal.τ) (Cert.LoraWeightRefIdeal.main (F := Ideal))) ⟨m', fun _ => 0, g'⟩ (fun r => ∀ c : Dev Cert.LoraWeightRefIdeal.nD,
          r.2.mem ((c.tc : Thread Cert.LoraWeightRefIdeal.nD Cert.LoraWeightRefIdeal.τ).loc Cert.LoraWeightRefIdeal.main_v17) = v0 c
          ∧ r.2.mem ((c.tc : Thread Cert.LoraWeightRefIdeal.nD Cert.LoraWeightRefIdeal.τ).loc Cert.LoraWeightRefIdeal.main_v18) = v1 c
          ∧ r.2.mem ((c.tc : Thread Cert.LoraWeightRefIdeal.nD Cert.LoraWeightRefIdeal.τ).loc Cert.LoraWeightRefIdeal.main_arg0) = m' ((c.tc : Thread Cert.LoraWeightRefIdeal.nD Cert.LoraWeightRefIdeal.τ).loc Cert.LoraWeightRefIdeal.main_arg0)
          ∧ r.2.mem ((c.tc : Thread Cert.LoraWeightRefIdeal.nD Cert.LoraWeightRefIdeal.τ).loc Cert.LoraWeightRefIdeal.main_arg1) = m' ((c.tc : Thread Cert.LoraWeightRefIdeal.nD Cert.LoraWeightRefIdeal.τ).loc Cert.LoraWeightRefIdeal.main_arg1)
          ∧ r.2.mem ((c.tc : Thread Cert.LoraWeightRefIdeal.nD Cert.LoraWeightRefIdeal.τ).loc Cert.LoraWeightRefIdeal.main_arg2) = m' ((c.tc : Thread Cert.LoraWeightRefIdeal.nD Cert.LoraWeightRefIdeal.τ).loc Cert.LoraWeightRefIdeal.main_arg2))

def preserves_QkvWeight_QkvWeightIdeal : Prop :=
  True

def algebraic_QkvWeightIdeal_QkvWeightRefIdeal [hQkvWeightIdeal : Cert.QkvWeightIdeal.Facts] [hQkvWeightRefIdeal : Cert.QkvWeightRefIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg)
    (m' : (ℓ : Loc Cert.QkvWeightRefIdeal.nD Cert.QkvWeightRefIdeal.τ Cert.QkvWeightRefIdeal.sig) → Buf (Elt Ideal) ℓ) (g' : Dev Cert.QkvWeightRefIdeal.nD → PrngReg), Pre_QkvWeightIdeal m →
    (∀ c : Dev Cert.QkvWeightIdeal.nD,
      m' ((c.tc : Thread Cert.QkvWeightRefIdeal.nD Cert.QkvWeightRefIdeal.τ).loc Cert.QkvWeightRefIdeal.main_arg0) = m ((c.tc : Thread Cert.QkvWeightIdeal.nD Cert.QkvWeightIdeal.τ).loc Cert.QkvWeightIdeal.main_arg0)
      ∧ m' ((c.tc : Thread Cert.QkvWeightRefIdeal.nD Cert.QkvWeightRefIdeal.τ).loc Cert.QkvWeightRefIdeal.main_arg1) = m ((c.tc : Thread Cert.QkvWeightIdeal.nD Cert.QkvWeightIdeal.τ).loc Cert.QkvWeightIdeal.main_arg1)
      ∧ m' ((c.tc : Thread Cert.QkvWeightRefIdeal.nD Cert.QkvWeightRefIdeal.τ).loc Cert.QkvWeightRefIdeal.main_arg2) = m ((c.tc : Thread Cert.QkvWeightIdeal.nD Cert.QkvWeightIdeal.τ).loc Cert.QkvWeightIdeal.main_arg2)) →
    ∃ (v0 : (c : Dev Cert.QkvWeightIdeal.nD) → Buf (Elt Ideal) ((c.tc : Thread Cert.QkvWeightIdeal.nD Cert.QkvWeightIdeal.τ).loc Cert.QkvWeightIdeal.main_v0_0)) (v1 : (c : Dev Cert.QkvWeightIdeal.nD) → Buf (Elt Ideal) ((c.tc : Thread Cert.QkvWeightIdeal.nD Cert.QkvWeightIdeal.τ).loc Cert.QkvWeightIdeal.main_v0_1)),
      θ_run (Cert.QkvWeightIdeal.defs (F := Ideal)) (onTc (τ := Cert.QkvWeightIdeal.τ) (Cert.QkvWeightIdeal.main (F := Ideal))) ⟨m, fun _ => 0, g⟩ (fun r => ∀ c : Dev Cert.QkvWeightIdeal.nD,
          r.2.mem ((c.tc : Thread Cert.QkvWeightIdeal.nD Cert.QkvWeightIdeal.τ).loc Cert.QkvWeightIdeal.main_v0_0) = v0 c
          ∧ r.2.mem ((c.tc : Thread Cert.QkvWeightIdeal.nD Cert.QkvWeightIdeal.τ).loc Cert.QkvWeightIdeal.main_v0_1) = v1 c
          ∧ r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
          ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1)
          ∧ r.2.mem ((c.tc : Thread Cert.QkvWeightIdeal.nD Cert.QkvWeightIdeal.τ).loc Cert.QkvWeightIdeal.main_arg2) = m ((c.tc : Thread Cert.QkvWeightIdeal.nD Cert.QkvWeightIdeal.τ).loc Cert.QkvWeightIdeal.main_arg2))
      ∧ θ_run (Cert.QkvWeightRefIdeal.defs (F := Ideal)) (onTc (τ := Cert.QkvWeightRefIdeal.τ) (Cert.QkvWeightRefIdeal.main (F := Ideal))) ⟨m', fun _ => 0, g'⟩ (fun r => ∀ c : Dev Cert.QkvWeightRefIdeal.nD,
          r.2.mem ((c.tc : Thread Cert.QkvWeightRefIdeal.nD Cert.QkvWeightRefIdeal.τ).loc Cert.QkvWeightRefIdeal.main_v16) = v0 c
          ∧ r.2.mem ((c.tc : Thread Cert.QkvWeightRefIdeal.nD Cert.QkvWeightRefIdeal.τ).loc Cert.QkvWeightRefIdeal.main_v17) = v1 c
          ∧ r.2.mem ((c.tc : Thread Cert.QkvWeightRefIdeal.nD Cert.QkvWeightRefIdeal.τ).loc Cert.QkvWeightRefIdeal.main_arg0) = m' ((c.tc : Thread Cert.QkvWeightRefIdeal.nD Cert.QkvWeightRefIdeal.τ).loc Cert.QkvWeightRefIdeal.main_arg0)
          ∧ r.2.mem ((c.tc : Thread Cert.QkvWeightRefIdeal.nD Cert.QkvWeightRefIdeal.τ).loc Cert.QkvWeightRefIdeal.main_arg1) = m' ((c.tc : Thread Cert.QkvWeightRefIdeal.nD Cert.QkvWeightRefIdeal.τ).loc Cert.QkvWeightRefIdeal.main_arg1)
          ∧ r.2.mem ((c.tc : Thread Cert.QkvWeightRefIdeal.nD Cert.QkvWeightRefIdeal.τ).loc Cert.QkvWeightRefIdeal.main_arg2) = m' ((c.tc : Thread Cert.QkvWeightRefIdeal.nD Cert.QkvWeightRefIdeal.τ).loc Cert.QkvWeightRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v40) = v0 c
          ∧ r.2.mem ((c.tc : Thread Cert.NormRefIdeal.nD Cert.NormRefIdeal.τ).loc Cert.NormRefIdeal.main_v41) = v1 c
          ∧ r.2.mem ((c.tc : Thread Cert.NormRefIdeal.nD Cert.NormRefIdeal.τ).loc Cert.NormRefIdeal.main_v39) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_GateStep_GateStepIdeal : Prop :=
  True

def algebraic_GateStepIdeal_GateStepRefIdeal [hGateStepIdeal : Cert.GateStepIdeal.Facts] [hGateStepRefIdeal : Cert.GateStepRefIdeal.Facts] : Prop :=
  ∀ (m : (ℓ : Loc Cert.GateStepIdeal.nD Cert.GateStepIdeal.τ Cert.GateStepIdeal.sig) → Buf (Elt Ideal) ℓ) (g : Dev Cert.GateStepIdeal.nD → PrngReg)
    (m' : (ℓ : Loc Cert.GateStepRefIdeal.nD Cert.GateStepRefIdeal.τ Cert.GateStepRefIdeal.sig) → Buf (Elt Ideal) ℓ) (g' : Dev Cert.GateStepRefIdeal.nD → PrngReg), Pre_GateStepIdeal m →
    (∀ c : Dev Cert.GateStepIdeal.nD,
      m' ((c.tc : Thread Cert.GateStepRefIdeal.nD Cert.GateStepRefIdeal.τ).loc Cert.GateStepRefIdeal.main_arg0) = m ((c.tc : Thread Cert.GateStepIdeal.nD Cert.GateStepIdeal.τ).loc Cert.GateStepIdeal.main_arg0)
      ∧ m' ((c.tc : Thread Cert.GateStepRefIdeal.nD Cert.GateStepRefIdeal.τ).loc Cert.GateStepRefIdeal.main_arg1) = m ((c.tc : Thread Cert.GateStepIdeal.nD Cert.GateStepIdeal.τ).loc Cert.GateStepIdeal.main_arg1)
      ∧ m' ((c.tc : Thread Cert.GateStepRefIdeal.nD Cert.GateStepRefIdeal.τ).loc Cert.GateStepRefIdeal.main_arg2) = m ((c.tc : Thread Cert.GateStepIdeal.nD Cert.GateStepIdeal.τ).loc Cert.GateStepIdeal.main_arg2)
      ∧ m' ((c.tc : Thread Cert.GateStepRefIdeal.nD Cert.GateStepRefIdeal.τ).loc Cert.GateStepRefIdeal.main_arg3) = m ((c.tc : Thread Cert.GateStepIdeal.nD Cert.GateStepIdeal.τ).loc Cert.GateStepIdeal.main_arg3)
      ∧ m' ((c.tc : Thread Cert.GateStepRefIdeal.nD Cert.GateStepRefIdeal.τ).loc Cert.GateStepRefIdeal.main_arg4) = m ((c.tc : Thread Cert.GateStepIdeal.nD Cert.GateStepIdeal.τ).loc Cert.GateStepIdeal.main_arg4)) →
    ∃ (v0 : (c : Dev Cert.GateStepIdeal.nD) → Buf (Elt Ideal) ((c.tc : Thread Cert.GateStepIdeal.nD Cert.GateStepIdeal.τ).loc Cert.GateStepIdeal.main_v3_0)) (v1 : (c : Dev Cert.GateStepIdeal.nD) → Buf (Elt Ideal) ((c.tc : Thread Cert.GateStepIdeal.nD Cert.GateStepIdeal.τ).loc Cert.GateStepIdeal.main_v3_1)) (v2 : (c : Dev Cert.GateStepIdeal.nD) → Buf (Elt Ideal) ((c.tc : Thread Cert.GateStepIdeal.nD Cert.GateStepIdeal.τ).loc Cert.GateStepIdeal.main_v3_2)) (v3 : (c : Dev Cert.GateStepIdeal.nD) → Buf (Elt Ideal) ((c.tc : Thread Cert.GateStepIdeal.nD Cert.GateStepIdeal.τ).loc Cert.GateStepIdeal.main_v3_3)),
      θ_run (Cert.GateStepIdeal.defs (F := Ideal)) (onTc (τ := Cert.GateStepIdeal.τ) (Cert.GateStepIdeal.main (F := Ideal))) ⟨m, fun _ => 0, g⟩ (fun r => ∀ c : Dev Cert.GateStepIdeal.nD,
          r.2.mem ((c.tc : Thread Cert.GateStepIdeal.nD Cert.GateStepIdeal.τ).loc Cert.GateStepIdeal.main_v3_0) = v0 c
          ∧ r.2.mem ((c.tc : Thread Cert.GateStepIdeal.nD Cert.GateStepIdeal.τ).loc Cert.GateStepIdeal.main_v3_1) = v1 c
          ∧ r.2.mem ((c.tc : Thread Cert.GateStepIdeal.nD Cert.GateStepIdeal.τ).loc Cert.GateStepIdeal.main_v3_2) = v2 c
          ∧ r.2.mem ((c.tc : Thread Cert.GateStepIdeal.nD Cert.GateStepIdeal.τ).loc Cert.GateStepIdeal.main_v3_3) = v3 c
          ∧ r.2.mem ((c.tc : Thread Cert.GateStepIdeal.nD Cert.GateStepIdeal.τ).loc Cert.GateStepIdeal.main_arg0) = m ((c.tc : Thread Cert.GateStepIdeal.nD Cert.GateStepIdeal.τ).loc Cert.GateStepIdeal.main_arg0)
          ∧ r.2.mem ((c.tc : Thread Cert.GateStepIdeal.nD Cert.GateStepIdeal.τ).loc Cert.GateStepIdeal.main_arg1) = m ((c.tc : Thread Cert.GateStepIdeal.nD Cert.GateStepIdeal.τ).loc Cert.GateStepIdeal.main_arg1)
          ∧ r.2.mem ((c.tc : Thread Cert.GateStepIdeal.nD Cert.GateStepIdeal.τ).loc Cert.GateStepIdeal.main_arg2) = m ((c.tc : Thread Cert.GateStepIdeal.nD Cert.GateStepIdeal.τ).loc Cert.GateStepIdeal.main_arg2)
          ∧ r.2.mem ((c.tc : Thread Cert.GateStepIdeal.nD Cert.GateStepIdeal.τ).loc Cert.GateStepIdeal.main_arg3) = m ((c.tc : Thread Cert.GateStepIdeal.nD Cert.GateStepIdeal.τ).loc Cert.GateStepIdeal.main_arg3)
          ∧ r.2.mem ((c.tc : Thread Cert.GateStepIdeal.nD Cert.GateStepIdeal.τ).loc Cert.GateStepIdeal.main_arg4) = m ((c.tc : Thread Cert.GateStepIdeal.nD Cert.GateStepIdeal.τ).loc Cert.GateStepIdeal.main_arg4))
      ∧ θ_run (Cert.GateStepRefIdeal.defs (F := Ideal)) (onTc (τ := Cert.GateStepRefIdeal.τ) (Cert.GateStepRefIdeal.main (F := Ideal))) ⟨m', fun _ => 0, g'⟩ (fun r => ∀ c : Dev Cert.GateStepRefIdeal.nD,
          r.2.mem ((c.tc : Thread Cert.GateStepRefIdeal.nD Cert.GateStepRefIdeal.τ).loc Cert.GateStepRefIdeal.main_v2) = v0 c
          ∧ r.2.mem ((c.tc : Thread Cert.GateStepRefIdeal.nD Cert.GateStepRefIdeal.τ).loc Cert.GateStepRefIdeal.main_v27) = v1 c
          ∧ r.2.mem ((c.tc : Thread Cert.GateStepRefIdeal.nD Cert.GateStepRefIdeal.τ).loc Cert.GateStepRefIdeal.main_v28) = v2 c
          ∧ r.2.mem ((c.tc : Thread Cert.GateStepRefIdeal.nD Cert.GateStepRefIdeal.τ).loc Cert.GateStepRefIdeal.main_v29) = v3 c
          ∧ r.2.mem ((c.tc : Thread Cert.GateStepRefIdeal.nD Cert.GateStepRefIdeal.τ).loc Cert.GateStepRefIdeal.main_arg0) = m' ((c.tc : Thread Cert.GateStepRefIdeal.nD Cert.GateStepRefIdeal.τ).loc Cert.GateStepRefIdeal.main_arg0)
          ∧ r.2.mem ((c.tc : Thread Cert.GateStepRefIdeal.nD Cert.GateStepRefIdeal.τ).loc Cert.GateStepRefIdeal.main_arg1) = m' ((c.tc : Thread Cert.GateStepRefIdeal.nD Cert.GateStepRefIdeal.τ).loc Cert.GateStepRefIdeal.main_arg1)
          ∧ r.2.mem ((c.tc : Thread Cert.GateStepRefIdeal.nD Cert.GateStepRefIdeal.τ).loc Cert.GateStepRefIdeal.main_arg2) = m' ((c.tc : Thread Cert.GateStepRefIdeal.nD Cert.GateStepRefIdeal.τ).loc Cert.GateStepRefIdeal.main_arg2)
          ∧ r.2.mem ((c.tc : Thread Cert.GateStepRefIdeal.nD Cert.GateStepRefIdeal.τ).loc Cert.GateStepRefIdeal.main_arg3) = m' ((c.tc : Thread Cert.GateStepRefIdeal.nD Cert.GateStepRefIdeal.τ).loc Cert.GateStepRefIdeal.main_arg3)
          ∧ r.2.mem ((c.tc : Thread Cert.GateStepRefIdeal.nD Cert.GateStepRefIdeal.τ).loc Cert.GateStepRefIdeal.main_arg4) = m' ((c.tc : Thread Cert.GateStepRefIdeal.nD Cert.GateStepRefIdeal.τ).loc Cert.GateStepRefIdeal.main_arg4))

def preserves_DownStep_DownStepIdeal : Prop :=
  True

def algebraic_DownStepIdeal_DownStepRefIdeal [hDownStepIdeal : Cert.DownStepIdeal.Facts] [hDownStepRefIdeal : Cert.DownStepRefIdeal.Facts] : Prop :=
  ∀ (m : (ℓ : Loc Cert.DownStepIdeal.nD Cert.DownStepIdeal.τ Cert.DownStepIdeal.sig) → Buf (Elt Ideal) ℓ) (g : Dev Cert.DownStepIdeal.nD → PrngReg)
    (m' : (ℓ : Loc Cert.DownStepRefIdeal.nD Cert.DownStepRefIdeal.τ Cert.DownStepRefIdeal.sig) → Buf (Elt Ideal) ℓ) (g' : Dev Cert.DownStepRefIdeal.nD → PrngReg), Pre_DownStepIdeal m →
    (∀ c : Dev Cert.DownStepIdeal.nD,
      m' ((c.tc : Thread Cert.DownStepRefIdeal.nD Cert.DownStepRefIdeal.τ).loc Cert.DownStepRefIdeal.main_arg0) = m ((c.tc : Thread Cert.DownStepIdeal.nD Cert.DownStepIdeal.τ).loc Cert.DownStepIdeal.main_arg0)
      ∧ m' ((c.tc : Thread Cert.DownStepRefIdeal.nD Cert.DownStepRefIdeal.τ).loc Cert.DownStepRefIdeal.main_arg1) = m ((c.tc : Thread Cert.DownStepIdeal.nD Cert.DownStepIdeal.τ).loc Cert.DownStepIdeal.main_arg1)
      ∧ m' ((c.tc : Thread Cert.DownStepRefIdeal.nD Cert.DownStepRefIdeal.τ).loc Cert.DownStepRefIdeal.main_arg2) = m ((c.tc : Thread Cert.DownStepIdeal.nD Cert.DownStepIdeal.τ).loc Cert.DownStepIdeal.main_arg2)
      ∧ m' ((c.tc : Thread Cert.DownStepRefIdeal.nD Cert.DownStepRefIdeal.τ).loc Cert.DownStepRefIdeal.main_arg3) = m ((c.tc : Thread Cert.DownStepIdeal.nD Cert.DownStepIdeal.τ).loc Cert.DownStepIdeal.main_arg3)
      ∧ m' ((c.tc : Thread Cert.DownStepRefIdeal.nD Cert.DownStepRefIdeal.τ).loc Cert.DownStepRefIdeal.main_arg4) = m ((c.tc : Thread Cert.DownStepIdeal.nD Cert.DownStepIdeal.τ).loc Cert.DownStepIdeal.main_arg4)) →
    ∃ (v0 : (c : Dev Cert.DownStepIdeal.nD) → Buf (Elt Ideal) ((c.tc : Thread Cert.DownStepIdeal.nD Cert.DownStepIdeal.τ).loc Cert.DownStepIdeal.main_v0_0)) (v1 : (c : Dev Cert.DownStepIdeal.nD) → Buf (Elt Ideal) ((c.tc : Thread Cert.DownStepIdeal.nD Cert.DownStepIdeal.τ).loc Cert.DownStepIdeal.main_v0_1)) (v2 : (c : Dev Cert.DownStepIdeal.nD) → Buf (Elt Ideal) ((c.tc : Thread Cert.DownStepIdeal.nD Cert.DownStepIdeal.τ).loc Cert.DownStepIdeal.main_v0_2)) (v3 : (c : Dev Cert.DownStepIdeal.nD) → Buf (Elt Ideal) ((c.tc : Thread Cert.DownStepIdeal.nD Cert.DownStepIdeal.τ).loc Cert.DownStepIdeal.main_v0_3)),
      θ_run (Cert.DownStepIdeal.defs (F := Ideal)) (onTc (τ := Cert.DownStepIdeal.τ) (Cert.DownStepIdeal.main (F := Ideal))) ⟨m, fun _ => 0, g⟩ (fun r => ∀ c : Dev Cert.DownStepIdeal.nD,
          r.2.mem ((c.tc : Thread Cert.DownStepIdeal.nD Cert.DownStepIdeal.τ).loc Cert.DownStepIdeal.main_v0_0) = v0 c
          ∧ r.2.mem ((c.tc : Thread Cert.DownStepIdeal.nD Cert.DownStepIdeal.τ).loc Cert.DownStepIdeal.main_v0_1) = v1 c
          ∧ r.2.mem ((c.tc : Thread Cert.DownStepIdeal.nD Cert.DownStepIdeal.τ).loc Cert.DownStepIdeal.main_v0_2) = v2 c
          ∧ r.2.mem ((c.tc : Thread Cert.DownStepIdeal.nD Cert.DownStepIdeal.τ).loc Cert.DownStepIdeal.main_v0_3) = v3 c
          ∧ r.2.mem ((c.tc : Thread Cert.DownStepIdeal.nD Cert.DownStepIdeal.τ).loc Cert.DownStepIdeal.main_arg0) = m ((c.tc : Thread Cert.DownStepIdeal.nD Cert.DownStepIdeal.τ).loc Cert.DownStepIdeal.main_arg0)
          ∧ r.2.mem ((c.tc : Thread Cert.DownStepIdeal.nD Cert.DownStepIdeal.τ).loc Cert.DownStepIdeal.main_arg1) = m ((c.tc : Thread Cert.DownStepIdeal.nD Cert.DownStepIdeal.τ).loc Cert.DownStepIdeal.main_arg1)
          ∧ r.2.mem ((c.tc : Thread Cert.DownStepIdeal.nD Cert.DownStepIdeal.τ).loc Cert.DownStepIdeal.main_arg2) = m ((c.tc : Thread Cert.DownStepIdeal.nD Cert.DownStepIdeal.τ).loc Cert.DownStepIdeal.main_arg2)
          ∧ r.2.mem ((c.tc : Thread Cert.DownStepIdeal.nD Cert.DownStepIdeal.τ).loc Cert.DownStepIdeal.main_arg3) = m ((c.tc : Thread Cert.DownStepIdeal.nD Cert.DownStepIdeal.τ).loc Cert.DownStepIdeal.main_arg3)
          ∧ r.2.mem ((c.tc : Thread Cert.DownStepIdeal.nD Cert.DownStepIdeal.τ).loc Cert.DownStepIdeal.main_arg4) = m ((c.tc : Thread Cert.DownStepIdeal.nD Cert.DownStepIdeal.τ).loc Cert.DownStepIdeal.main_arg4))
      ∧ θ_run (Cert.DownStepRefIdeal.defs (F := Ideal)) (onTc (τ := Cert.DownStepRefIdeal.τ) (Cert.DownStepRefIdeal.main (F := Ideal))) ⟨m', fun _ => 0, g'⟩ (fun r => ∀ c : Dev Cert.DownStepRefIdeal.nD,
          r.2.mem ((c.tc : Thread Cert.DownStepRefIdeal.nD Cert.DownStepRefIdeal.τ).loc Cert.DownStepRefIdeal.main_v0) = v0 c
          ∧ r.2.mem ((c.tc : Thread Cert.DownStepRefIdeal.nD Cert.DownStepRefIdeal.τ).loc Cert.DownStepRefIdeal.main_v24) = v1 c
          ∧ r.2.mem ((c.tc : Thread Cert.DownStepRefIdeal.nD Cert.DownStepRefIdeal.τ).loc Cert.DownStepRefIdeal.main_v5) = v2 c
          ∧ r.2.mem ((c.tc : Thread Cert.DownStepRefIdeal.nD Cert.DownStepRefIdeal.τ).loc Cert.DownStepRefIdeal.main_v11) = v3 c
          ∧ r.2.mem ((c.tc : Thread Cert.DownStepRefIdeal.nD Cert.DownStepRefIdeal.τ).loc Cert.DownStepRefIdeal.main_arg0) = m' ((c.tc : Thread Cert.DownStepRefIdeal.nD Cert.DownStepRefIdeal.τ).loc Cert.DownStepRefIdeal.main_arg0)
          ∧ r.2.mem ((c.tc : Thread Cert.DownStepRefIdeal.nD Cert.DownStepRefIdeal.τ).loc Cert.DownStepRefIdeal.main_arg1) = m' ((c.tc : Thread Cert.DownStepRefIdeal.nD Cert.DownStepRefIdeal.τ).loc Cert.DownStepRefIdeal.main_arg1)
          ∧ r.2.mem ((c.tc : Thread Cert.DownStepRefIdeal.nD Cert.DownStepRefIdeal.τ).loc Cert.DownStepRefIdeal.main_arg2) = m' ((c.tc : Thread Cert.DownStepRefIdeal.nD Cert.DownStepRefIdeal.τ).loc Cert.DownStepRefIdeal.main_arg2)
          ∧ r.2.mem ((c.tc : Thread Cert.DownStepRefIdeal.nD Cert.DownStepRefIdeal.τ).loc Cert.DownStepRefIdeal.main_arg3) = m' ((c.tc : Thread Cert.DownStepRefIdeal.nD Cert.DownStepRefIdeal.τ).loc Cert.DownStepRefIdeal.main_arg3)
          ∧ r.2.mem ((c.tc : Thread Cert.DownStepRefIdeal.nD Cert.DownStepRefIdeal.τ).loc Cert.DownStepRefIdeal.main_arg4) = m' ((c.tc : Thread Cert.DownStepRefIdeal.nD Cert.DownStepRefIdeal.τ).loc Cert.DownStepRefIdeal.main_arg4))

def preserves_OutStep_OutStepIdeal : Prop :=
  True

def algebraic_OutStepIdeal_OutStepRefIdeal [hOutStepIdeal : Cert.OutStepIdeal.Facts] [hOutStepRefIdeal : Cert.OutStepRefIdeal.Facts] : Prop :=
  ∀ (m : (ℓ : Loc Cert.OutStepIdeal.nD Cert.OutStepIdeal.τ Cert.OutStepIdeal.sig) → Buf (Elt Ideal) ℓ) (g : Dev Cert.OutStepIdeal.nD → PrngReg)
    (m' : (ℓ : Loc Cert.OutStepRefIdeal.nD Cert.OutStepRefIdeal.τ Cert.OutStepRefIdeal.sig) → Buf (Elt Ideal) ℓ) (g' : Dev Cert.OutStepRefIdeal.nD → PrngReg), Pre_OutStepIdeal m →
    (∀ c : Dev Cert.OutStepIdeal.nD,
      m' ((c.tc : Thread Cert.OutStepRefIdeal.nD Cert.OutStepRefIdeal.τ).loc Cert.OutStepRefIdeal.main_arg0) = m ((c.tc : Thread Cert.OutStepIdeal.nD Cert.OutStepIdeal.τ).loc Cert.OutStepIdeal.main_arg0)
      ∧ m' ((c.tc : Thread Cert.OutStepRefIdeal.nD Cert.OutStepRefIdeal.τ).loc Cert.OutStepRefIdeal.main_arg1) = m ((c.tc : Thread Cert.OutStepIdeal.nD Cert.OutStepIdeal.τ).loc Cert.OutStepIdeal.main_arg1)
      ∧ m' ((c.tc : Thread Cert.OutStepRefIdeal.nD Cert.OutStepRefIdeal.τ).loc Cert.OutStepRefIdeal.main_arg2) = m ((c.tc : Thread Cert.OutStepIdeal.nD Cert.OutStepIdeal.τ).loc Cert.OutStepIdeal.main_arg2)
      ∧ m' ((c.tc : Thread Cert.OutStepRefIdeal.nD Cert.OutStepRefIdeal.τ).loc Cert.OutStepRefIdeal.main_arg3) = m ((c.tc : Thread Cert.OutStepIdeal.nD Cert.OutStepIdeal.τ).loc Cert.OutStepIdeal.main_arg3)
      ∧ m' ((c.tc : Thread Cert.OutStepRefIdeal.nD Cert.OutStepRefIdeal.τ).loc Cert.OutStepRefIdeal.main_arg4) = m ((c.tc : Thread Cert.OutStepIdeal.nD Cert.OutStepIdeal.τ).loc Cert.OutStepIdeal.main_arg4)
      ∧ m' ((c.tc : Thread Cert.OutStepRefIdeal.nD Cert.OutStepRefIdeal.τ).loc Cert.OutStepRefIdeal.main_arg5) = m ((c.tc : Thread Cert.OutStepIdeal.nD Cert.OutStepIdeal.τ).loc Cert.OutStepIdeal.main_arg5)) →
    ∃ (v0 : (c : Dev Cert.OutStepIdeal.nD) → Buf (Elt Ideal) ((c.tc : Thread Cert.OutStepIdeal.nD Cert.OutStepIdeal.τ).loc Cert.OutStepIdeal.main_v0_0)) (v1 : (c : Dev Cert.OutStepIdeal.nD) → Buf (Elt Ideal) ((c.tc : Thread Cert.OutStepIdeal.nD Cert.OutStepIdeal.τ).loc Cert.OutStepIdeal.main_v0_1)) (v2 : (c : Dev Cert.OutStepIdeal.nD) → Buf (Elt Ideal) ((c.tc : Thread Cert.OutStepIdeal.nD Cert.OutStepIdeal.τ).loc Cert.OutStepIdeal.main_v0_2)) (v3 : (c : Dev Cert.OutStepIdeal.nD) → Buf (Elt Ideal) ((c.tc : Thread Cert.OutStepIdeal.nD Cert.OutStepIdeal.τ).loc Cert.OutStepIdeal.main_v0_3)),
      θ_run (Cert.OutStepIdeal.defs (F := Ideal)) (onTc (τ := Cert.OutStepIdeal.τ) (Cert.OutStepIdeal.main (F := Ideal))) ⟨m, fun _ => 0, g⟩ (fun r => ∀ c : Dev Cert.OutStepIdeal.nD,
          r.2.mem ((c.tc : Thread Cert.OutStepIdeal.nD Cert.OutStepIdeal.τ).loc Cert.OutStepIdeal.main_v0_0) = v0 c
          ∧ r.2.mem ((c.tc : Thread Cert.OutStepIdeal.nD Cert.OutStepIdeal.τ).loc Cert.OutStepIdeal.main_v0_1) = v1 c
          ∧ r.2.mem ((c.tc : Thread Cert.OutStepIdeal.nD Cert.OutStepIdeal.τ).loc Cert.OutStepIdeal.main_v0_2) = v2 c
          ∧ r.2.mem ((c.tc : Thread Cert.OutStepIdeal.nD Cert.OutStepIdeal.τ).loc Cert.OutStepIdeal.main_v0_3) = v3 c
          ∧ r.2.mem ((c.tc : Thread Cert.OutStepIdeal.nD Cert.OutStepIdeal.τ).loc Cert.OutStepIdeal.main_arg0) = m ((c.tc : Thread Cert.OutStepIdeal.nD Cert.OutStepIdeal.τ).loc Cert.OutStepIdeal.main_arg0)
          ∧ r.2.mem ((c.tc : Thread Cert.OutStepIdeal.nD Cert.OutStepIdeal.τ).loc Cert.OutStepIdeal.main_arg1) = m ((c.tc : Thread Cert.OutStepIdeal.nD Cert.OutStepIdeal.τ).loc Cert.OutStepIdeal.main_arg1)
          ∧ r.2.mem ((c.tc : Thread Cert.OutStepIdeal.nD Cert.OutStepIdeal.τ).loc Cert.OutStepIdeal.main_arg2) = m ((c.tc : Thread Cert.OutStepIdeal.nD Cert.OutStepIdeal.τ).loc Cert.OutStepIdeal.main_arg2)
          ∧ r.2.mem ((c.tc : Thread Cert.OutStepIdeal.nD Cert.OutStepIdeal.τ).loc Cert.OutStepIdeal.main_arg3) = m ((c.tc : Thread Cert.OutStepIdeal.nD Cert.OutStepIdeal.τ).loc Cert.OutStepIdeal.main_arg3)
          ∧ r.2.mem ((c.tc : Thread Cert.OutStepIdeal.nD Cert.OutStepIdeal.τ).loc Cert.OutStepIdeal.main_arg4) = m ((c.tc : Thread Cert.OutStepIdeal.nD Cert.OutStepIdeal.τ).loc Cert.OutStepIdeal.main_arg4)
          ∧ r.2.mem ((c.tc : Thread Cert.OutStepIdeal.nD Cert.OutStepIdeal.τ).loc Cert.OutStepIdeal.main_arg5) = m ((c.tc : Thread Cert.OutStepIdeal.nD Cert.OutStepIdeal.τ).loc Cert.OutStepIdeal.main_arg5))
      ∧ θ_run (Cert.OutStepRefIdeal.defs (F := Ideal)) (onTc (τ := Cert.OutStepRefIdeal.τ) (Cert.OutStepRefIdeal.main (F := Ideal))) ⟨m', fun _ => 0, g'⟩ (fun r => ∀ c : Dev Cert.OutStepRefIdeal.nD,
          r.2.mem ((c.tc : Thread Cert.OutStepRefIdeal.nD Cert.OutStepRefIdeal.τ).loc Cert.OutStepRefIdeal.main_v0) = v0 c
          ∧ r.2.mem ((c.tc : Thread Cert.OutStepRefIdeal.nD Cert.OutStepRefIdeal.τ).loc Cert.OutStepRefIdeal.main_v24) = v1 c
          ∧ r.2.mem ((c.tc : Thread Cert.OutStepRefIdeal.nD Cert.OutStepRefIdeal.τ).loc Cert.OutStepRefIdeal.main_v5) = v2 c
          ∧ r.2.mem ((c.tc : Thread Cert.OutStepRefIdeal.nD Cert.OutStepRefIdeal.τ).loc Cert.OutStepRefIdeal.main_v11) = v3 c
          ∧ r.2.mem ((c.tc : Thread Cert.OutStepRefIdeal.nD Cert.OutStepRefIdeal.τ).loc Cert.OutStepRefIdeal.main_arg0) = m' ((c.tc : Thread Cert.OutStepRefIdeal.nD Cert.OutStepRefIdeal.τ).loc Cert.OutStepRefIdeal.main_arg0)
          ∧ r.2.mem ((c.tc : Thread Cert.OutStepRefIdeal.nD Cert.OutStepRefIdeal.τ).loc Cert.OutStepRefIdeal.main_arg1) = m' ((c.tc : Thread Cert.OutStepRefIdeal.nD Cert.OutStepRefIdeal.τ).loc Cert.OutStepRefIdeal.main_arg1)
          ∧ r.2.mem ((c.tc : Thread Cert.OutStepRefIdeal.nD Cert.OutStepRefIdeal.τ).loc Cert.OutStepRefIdeal.main_arg2) = m' ((c.tc : Thread Cert.OutStepRefIdeal.nD Cert.OutStepRefIdeal.τ).loc Cert.OutStepRefIdeal.main_arg2)
          ∧ r.2.mem ((c.tc : Thread Cert.OutStepRefIdeal.nD Cert.OutStepRefIdeal.τ).loc Cert.OutStepRefIdeal.main_arg3) = m' ((c.tc : Thread Cert.OutStepRefIdeal.nD Cert.OutStepRefIdeal.τ).loc Cert.OutStepRefIdeal.main_arg3)
          ∧ r.2.mem ((c.tc : Thread Cert.OutStepRefIdeal.nD Cert.OutStepRefIdeal.τ).loc Cert.OutStepRefIdeal.main_arg4) = m' ((c.tc : Thread Cert.OutStepRefIdeal.nD Cert.OutStepRefIdeal.τ).loc Cert.OutStepRefIdeal.main_arg4)
          ∧ r.2.mem ((c.tc : Thread Cert.OutStepRefIdeal.nD Cert.OutStepRefIdeal.τ).loc Cert.OutStepRefIdeal.main_arg5) = m' ((c.tc : Thread Cert.OutStepRefIdeal.nD Cert.OutStepRefIdeal.τ).loc Cert.OutStepRefIdeal.main_arg5))

def preserves_BranchStep_BranchStepIdeal : Prop :=
  True

def algebraic_BranchStepIdeal_BranchStepRefIdeal [hBranchStepIdeal : Cert.BranchStepIdeal.Facts] [hBranchStepRefIdeal : Cert.BranchStepRefIdeal.Facts] : Prop :=
  ∀ (m : (ℓ : Loc Cert.BranchStepIdeal.nD Cert.BranchStepIdeal.τ Cert.BranchStepIdeal.sig) → Buf (Elt Ideal) ℓ) (g : Dev Cert.BranchStepIdeal.nD → PrngReg)
    (m' : (ℓ : Loc Cert.BranchStepRefIdeal.nD Cert.BranchStepRefIdeal.τ Cert.BranchStepRefIdeal.sig) → Buf (Elt Ideal) ℓ) (g' : Dev Cert.BranchStepRefIdeal.nD → PrngReg), Pre_BranchStepIdeal m →
    (∀ c : Dev Cert.BranchStepIdeal.nD,
      m' ((c.tc : Thread Cert.BranchStepRefIdeal.nD Cert.BranchStepRefIdeal.τ).loc Cert.BranchStepRefIdeal.main_arg0) = m ((c.tc : Thread Cert.BranchStepIdeal.nD Cert.BranchStepIdeal.τ).loc Cert.BranchStepIdeal.main_arg0)
      ∧ m' ((c.tc : Thread Cert.BranchStepRefIdeal.nD Cert.BranchStepRefIdeal.τ).loc Cert.BranchStepRefIdeal.main_arg1) = m ((c.tc : Thread Cert.BranchStepIdeal.nD Cert.BranchStepIdeal.τ).loc Cert.BranchStepIdeal.main_arg1)
      ∧ m' ((c.tc : Thread Cert.BranchStepRefIdeal.nD Cert.BranchStepRefIdeal.τ).loc Cert.BranchStepRefIdeal.main_arg2) = m ((c.tc : Thread Cert.BranchStepIdeal.nD Cert.BranchStepIdeal.τ).loc Cert.BranchStepIdeal.main_arg2)
      ∧ m' ((c.tc : Thread Cert.BranchStepRefIdeal.nD Cert.BranchStepRefIdeal.τ).loc Cert.BranchStepRefIdeal.main_arg3) = m ((c.tc : Thread Cert.BranchStepIdeal.nD Cert.BranchStepIdeal.τ).loc Cert.BranchStepIdeal.main_arg3)
      ∧ m' ((c.tc : Thread Cert.BranchStepRefIdeal.nD Cert.BranchStepRefIdeal.τ).loc Cert.BranchStepRefIdeal.main_arg4) = m ((c.tc : Thread Cert.BranchStepIdeal.nD Cert.BranchStepIdeal.τ).loc Cert.BranchStepIdeal.main_arg4)
      ∧ m' ((c.tc : Thread Cert.BranchStepRefIdeal.nD Cert.BranchStepRefIdeal.τ).loc Cert.BranchStepRefIdeal.main_arg5) = m ((c.tc : Thread Cert.BranchStepIdeal.nD Cert.BranchStepIdeal.τ).loc Cert.BranchStepIdeal.main_arg5)) →
    ∃ (v0 : (c : Dev Cert.BranchStepIdeal.nD) → Buf (Elt Ideal) ((c.tc : Thread Cert.BranchStepIdeal.nD Cert.BranchStepIdeal.τ).loc Cert.BranchStepIdeal.main_v0_0)) (v1 : (c : Dev Cert.BranchStepIdeal.nD) → Buf (Elt Ideal) ((c.tc : Thread Cert.BranchStepIdeal.nD Cert.BranchStepIdeal.τ).loc Cert.BranchStepIdeal.main_v0_1)) (v2 : (c : Dev Cert.BranchStepIdeal.nD) → Buf (Elt Ideal) ((c.tc : Thread Cert.BranchStepIdeal.nD Cert.BranchStepIdeal.τ).loc Cert.BranchStepIdeal.main_v0_2)) (v3 : (c : Dev Cert.BranchStepIdeal.nD) → Buf (Elt Ideal) ((c.tc : Thread Cert.BranchStepIdeal.nD Cert.BranchStepIdeal.τ).loc Cert.BranchStepIdeal.main_v0_3)),
      θ_run (Cert.BranchStepIdeal.defs (F := Ideal)) (onTc (τ := Cert.BranchStepIdeal.τ) (Cert.BranchStepIdeal.main (F := Ideal))) ⟨m, fun _ => 0, g⟩ (fun r => ∀ c : Dev Cert.BranchStepIdeal.nD,
          r.2.mem ((c.tc : Thread Cert.BranchStepIdeal.nD Cert.BranchStepIdeal.τ).loc Cert.BranchStepIdeal.main_v0_0) = v0 c
          ∧ r.2.mem ((c.tc : Thread Cert.BranchStepIdeal.nD Cert.BranchStepIdeal.τ).loc Cert.BranchStepIdeal.main_v0_1) = v1 c
          ∧ r.2.mem ((c.tc : Thread Cert.BranchStepIdeal.nD Cert.BranchStepIdeal.τ).loc Cert.BranchStepIdeal.main_v0_2) = v2 c
          ∧ r.2.mem ((c.tc : Thread Cert.BranchStepIdeal.nD Cert.BranchStepIdeal.τ).loc Cert.BranchStepIdeal.main_v0_3) = v3 c
          ∧ r.2.mem ((c.tc : Thread Cert.BranchStepIdeal.nD Cert.BranchStepIdeal.τ).loc Cert.BranchStepIdeal.main_arg0) = m ((c.tc : Thread Cert.BranchStepIdeal.nD Cert.BranchStepIdeal.τ).loc Cert.BranchStepIdeal.main_arg0)
          ∧ r.2.mem ((c.tc : Thread Cert.BranchStepIdeal.nD Cert.BranchStepIdeal.τ).loc Cert.BranchStepIdeal.main_arg1) = m ((c.tc : Thread Cert.BranchStepIdeal.nD Cert.BranchStepIdeal.τ).loc Cert.BranchStepIdeal.main_arg1)
          ∧ r.2.mem ((c.tc : Thread Cert.BranchStepIdeal.nD Cert.BranchStepIdeal.τ).loc Cert.BranchStepIdeal.main_arg2) = m ((c.tc : Thread Cert.BranchStepIdeal.nD Cert.BranchStepIdeal.τ).loc Cert.BranchStepIdeal.main_arg2)
          ∧ r.2.mem ((c.tc : Thread Cert.BranchStepIdeal.nD Cert.BranchStepIdeal.τ).loc Cert.BranchStepIdeal.main_arg3) = m ((c.tc : Thread Cert.BranchStepIdeal.nD Cert.BranchStepIdeal.τ).loc Cert.BranchStepIdeal.main_arg3)
          ∧ r.2.mem ((c.tc : Thread Cert.BranchStepIdeal.nD Cert.BranchStepIdeal.τ).loc Cert.BranchStepIdeal.main_arg4) = m ((c.tc : Thread Cert.BranchStepIdeal.nD Cert.BranchStepIdeal.τ).loc Cert.BranchStepIdeal.main_arg4)
          ∧ r.2.mem ((c.tc : Thread Cert.BranchStepIdeal.nD Cert.BranchStepIdeal.τ).loc Cert.BranchStepIdeal.main_arg5) = m ((c.tc : Thread Cert.BranchStepIdeal.nD Cert.BranchStepIdeal.τ).loc Cert.BranchStepIdeal.main_arg5))
      ∧ θ_run (Cert.BranchStepRefIdeal.defs (F := Ideal)) (onTc (τ := Cert.BranchStepRefIdeal.τ) (Cert.BranchStepRefIdeal.main (F := Ideal))) ⟨m', fun _ => 0, g'⟩ (fun r => ∀ c : Dev Cert.BranchStepRefIdeal.nD,
          r.2.mem ((c.tc : Thread Cert.BranchStepRefIdeal.nD Cert.BranchStepRefIdeal.τ).loc Cert.BranchStepRefIdeal.main_v1) = v0 c
          ∧ r.2.mem ((c.tc : Thread Cert.BranchStepRefIdeal.nD Cert.BranchStepRefIdeal.τ).loc Cert.BranchStepRefIdeal.main_v25) = v1 c
          ∧ r.2.mem ((c.tc : Thread Cert.BranchStepRefIdeal.nD Cert.BranchStepRefIdeal.τ).loc Cert.BranchStepRefIdeal.main_v6) = v2 c
          ∧ r.2.mem ((c.tc : Thread Cert.BranchStepRefIdeal.nD Cert.BranchStepRefIdeal.τ).loc Cert.BranchStepRefIdeal.main_v12) = v3 c
          ∧ r.2.mem ((c.tc : Thread Cert.BranchStepRefIdeal.nD Cert.BranchStepRefIdeal.τ).loc Cert.BranchStepRefIdeal.main_arg0) = m' ((c.tc : Thread Cert.BranchStepRefIdeal.nD Cert.BranchStepRefIdeal.τ).loc Cert.BranchStepRefIdeal.main_arg0)
          ∧ r.2.mem ((c.tc : Thread Cert.BranchStepRefIdeal.nD Cert.BranchStepRefIdeal.τ).loc Cert.BranchStepRefIdeal.main_arg1) = m' ((c.tc : Thread Cert.BranchStepRefIdeal.nD Cert.BranchStepRefIdeal.τ).loc Cert.BranchStepRefIdeal.main_arg1)
          ∧ r.2.mem ((c.tc : Thread Cert.BranchStepRefIdeal.nD Cert.BranchStepRefIdeal.τ).loc Cert.BranchStepRefIdeal.main_arg2) = m' ((c.tc : Thread Cert.BranchStepRefIdeal.nD Cert.BranchStepRefIdeal.τ).loc Cert.BranchStepRefIdeal.main_arg2)
          ∧ r.2.mem ((c.tc : Thread Cert.BranchStepRefIdeal.nD Cert.BranchStepRefIdeal.τ).loc Cert.BranchStepRefIdeal.main_arg3) = m' ((c.tc : Thread Cert.BranchStepRefIdeal.nD Cert.BranchStepRefIdeal.τ).loc Cert.BranchStepRefIdeal.main_arg3)
          ∧ r.2.mem ((c.tc : Thread Cert.BranchStepRefIdeal.nD Cert.BranchStepRefIdeal.τ).loc Cert.BranchStepRefIdeal.main_arg4) = m' ((c.tc : Thread Cert.BranchStepRefIdeal.nD Cert.BranchStepRefIdeal.τ).loc Cert.BranchStepRefIdeal.main_arg4)
          ∧ r.2.mem ((c.tc : Thread Cert.BranchStepRefIdeal.nD Cert.BranchStepRefIdeal.τ).loc Cert.BranchStepRefIdeal.main_arg5) = m' ((c.tc : Thread Cert.BranchStepRefIdeal.nD Cert.BranchStepRefIdeal.τ).loc Cert.BranchStepRefIdeal.main_arg5))

def preserves_InputStep_InputStepIdeal : Prop :=
  True

def algebraic_InputStepIdeal_InputStepRefIdeal [hInputStepIdeal : Cert.InputStepIdeal.Facts] [hInputStepRefIdeal : Cert.InputStepRefIdeal.Facts] : Prop :=
  ∀ (m : (ℓ : Loc Cert.InputStepIdeal.nD Cert.InputStepIdeal.τ Cert.InputStepIdeal.sig) → Buf (Elt Ideal) ℓ) (g : Dev Cert.InputStepIdeal.nD → PrngReg)
    (m' : (ℓ : Loc Cert.InputStepRefIdeal.nD Cert.InputStepRefIdeal.τ Cert.InputStepRefIdeal.sig) → Buf (Elt Ideal) ℓ) (g' : Dev Cert.InputStepRefIdeal.nD → PrngReg), Pre_InputStepIdeal m →
    (∀ c : Dev Cert.InputStepIdeal.nD,
      m' ((c.tc : Thread Cert.InputStepRefIdeal.nD Cert.InputStepRefIdeal.τ).loc Cert.InputStepRefIdeal.main_arg0) = m ((c.tc : Thread Cert.InputStepIdeal.nD Cert.InputStepIdeal.τ).loc Cert.InputStepIdeal.main_arg0)
      ∧ m' ((c.tc : Thread Cert.InputStepRefIdeal.nD Cert.InputStepRefIdeal.τ).loc Cert.InputStepRefIdeal.main_arg1) = m ((c.tc : Thread Cert.InputStepIdeal.nD Cert.InputStepIdeal.τ).loc Cert.InputStepIdeal.main_arg1)
      ∧ m' ((c.tc : Thread Cert.InputStepRefIdeal.nD Cert.InputStepRefIdeal.τ).loc Cert.InputStepRefIdeal.main_arg2) = m ((c.tc : Thread Cert.InputStepIdeal.nD Cert.InputStepIdeal.τ).loc Cert.InputStepIdeal.main_arg2)
      ∧ m' ((c.tc : Thread Cert.InputStepRefIdeal.nD Cert.InputStepRefIdeal.τ).loc Cert.InputStepRefIdeal.main_arg3) = m ((c.tc : Thread Cert.InputStepIdeal.nD Cert.InputStepIdeal.τ).loc Cert.InputStepIdeal.main_arg3)
      ∧ m' ((c.tc : Thread Cert.InputStepRefIdeal.nD Cert.InputStepRefIdeal.τ).loc Cert.InputStepRefIdeal.main_arg4) = m ((c.tc : Thread Cert.InputStepIdeal.nD Cert.InputStepIdeal.τ).loc Cert.InputStepIdeal.main_arg4)) →
    ∃ (v0 : (c : Dev Cert.InputStepIdeal.nD) → Buf (Elt Ideal) ((c.tc : Thread Cert.InputStepIdeal.nD Cert.InputStepIdeal.τ).loc Cert.InputStepIdeal.main_v3_0)) (v1 : (c : Dev Cert.InputStepIdeal.nD) → Buf (Elt Ideal) ((c.tc : Thread Cert.InputStepIdeal.nD Cert.InputStepIdeal.τ).loc Cert.InputStepIdeal.main_v3_1)) (v2 : (c : Dev Cert.InputStepIdeal.nD) → Buf (Elt Ideal) ((c.tc : Thread Cert.InputStepIdeal.nD Cert.InputStepIdeal.τ).loc Cert.InputStepIdeal.main_v3_2)) (v3 : (c : Dev Cert.InputStepIdeal.nD) → Buf (Elt Ideal) ((c.tc : Thread Cert.InputStepIdeal.nD Cert.InputStepIdeal.τ).loc Cert.InputStepIdeal.main_v3_3)),
      θ_run (Cert.InputStepIdeal.defs (F := Ideal)) (onTc (τ := Cert.InputStepIdeal.τ) (Cert.InputStepIdeal.main (F := Ideal))) ⟨m, fun _ => 0, g⟩ (fun r => ∀ c : Dev Cert.InputStepIdeal.nD,
          r.2.mem ((c.tc : Thread Cert.InputStepIdeal.nD Cert.InputStepIdeal.τ).loc Cert.InputStepIdeal.main_v3_0) = v0 c
          ∧ r.2.mem ((c.tc : Thread Cert.InputStepIdeal.nD Cert.InputStepIdeal.τ).loc Cert.InputStepIdeal.main_v3_1) = v1 c
          ∧ r.2.mem ((c.tc : Thread Cert.InputStepIdeal.nD Cert.InputStepIdeal.τ).loc Cert.InputStepIdeal.main_v3_2) = v2 c
          ∧ r.2.mem ((c.tc : Thread Cert.InputStepIdeal.nD Cert.InputStepIdeal.τ).loc Cert.InputStepIdeal.main_v3_3) = v3 c
          ∧ r.2.mem ((c.tc : Thread Cert.InputStepIdeal.nD Cert.InputStepIdeal.τ).loc Cert.InputStepIdeal.main_arg0) = m ((c.tc : Thread Cert.InputStepIdeal.nD Cert.InputStepIdeal.τ).loc Cert.InputStepIdeal.main_arg0)
          ∧ r.2.mem ((c.tc : Thread Cert.InputStepIdeal.nD Cert.InputStepIdeal.τ).loc Cert.InputStepIdeal.main_arg1) = m ((c.tc : Thread Cert.InputStepIdeal.nD Cert.InputStepIdeal.τ).loc Cert.InputStepIdeal.main_arg1)
          ∧ r.2.mem ((c.tc : Thread Cert.InputStepIdeal.nD Cert.InputStepIdeal.τ).loc Cert.InputStepIdeal.main_arg2) = m ((c.tc : Thread Cert.InputStepIdeal.nD Cert.InputStepIdeal.τ).loc Cert.InputStepIdeal.main_arg2)
          ∧ r.2.mem ((c.tc : Thread Cert.InputStepIdeal.nD Cert.InputStepIdeal.τ).loc Cert.InputStepIdeal.main_arg3) = m ((c.tc : Thread Cert.InputStepIdeal.nD Cert.InputStepIdeal.τ).loc Cert.InputStepIdeal.main_arg3)
          ∧ r.2.mem ((c.tc : Thread Cert.InputStepIdeal.nD Cert.InputStepIdeal.τ).loc Cert.InputStepIdeal.main_arg4) = m ((c.tc : Thread Cert.InputStepIdeal.nD Cert.InputStepIdeal.τ).loc Cert.InputStepIdeal.main_arg4))
      ∧ θ_run (Cert.InputStepRefIdeal.defs (F := Ideal)) (onTc (τ := Cert.InputStepRefIdeal.τ) (Cert.InputStepRefIdeal.main (F := Ideal))) ⟨m', fun _ => 0, g'⟩ (fun r => ∀ c : Dev Cert.InputStepRefIdeal.nD,
          r.2.mem ((c.tc : Thread Cert.InputStepRefIdeal.nD Cert.InputStepRefIdeal.τ).loc Cert.InputStepRefIdeal.main_v2) = v0 c
          ∧ r.2.mem ((c.tc : Thread Cert.InputStepRefIdeal.nD Cert.InputStepRefIdeal.τ).loc Cert.InputStepRefIdeal.main_v27) = v1 c
          ∧ r.2.mem ((c.tc : Thread Cert.InputStepRefIdeal.nD Cert.InputStepRefIdeal.τ).loc Cert.InputStepRefIdeal.main_v28) = v2 c
          ∧ r.2.mem ((c.tc : Thread Cert.InputStepRefIdeal.nD Cert.InputStepRefIdeal.τ).loc Cert.InputStepRefIdeal.main_v29) = v3 c
          ∧ r.2.mem ((c.tc : Thread Cert.InputStepRefIdeal.nD Cert.InputStepRefIdeal.τ).loc Cert.InputStepRefIdeal.main_arg0) = m' ((c.tc : Thread Cert.InputStepRefIdeal.nD Cert.InputStepRefIdeal.τ).loc Cert.InputStepRefIdeal.main_arg0)
          ∧ r.2.mem ((c.tc : Thread Cert.InputStepRefIdeal.nD Cert.InputStepRefIdeal.τ).loc Cert.InputStepRefIdeal.main_arg1) = m' ((c.tc : Thread Cert.InputStepRefIdeal.nD Cert.InputStepRefIdeal.τ).loc Cert.InputStepRefIdeal.main_arg1)
          ∧ r.2.mem ((c.tc : Thread Cert.InputStepRefIdeal.nD Cert.InputStepRefIdeal.τ).loc Cert.InputStepRefIdeal.main_arg2) = m' ((c.tc : Thread Cert.InputStepRefIdeal.nD Cert.InputStepRefIdeal.τ).loc Cert.InputStepRefIdeal.main_arg2)
          ∧ r.2.mem ((c.tc : Thread Cert.InputStepRefIdeal.nD Cert.InputStepRefIdeal.τ).loc Cert.InputStepRefIdeal.main_arg3) = m' ((c.tc : Thread Cert.InputStepRefIdeal.nD Cert.InputStepRefIdeal.τ).loc Cert.InputStepRefIdeal.main_arg3)
          ∧ r.2.mem ((c.tc : Thread Cert.InputStepRefIdeal.nD Cert.InputStepRefIdeal.τ).loc Cert.InputStepRefIdeal.main_arg4) = m' ((c.tc : Thread Cert.InputStepRefIdeal.nD Cert.InputStepRefIdeal.τ).loc Cert.InputStepRefIdeal.main_arg4))

def preserves_MixStep_MixStepIdeal : Prop :=
  True

def algebraic_MixStepIdeal_MixStepRefIdeal [hMixStepIdeal : Cert.MixStepIdeal.Facts] [hMixStepRefIdeal : Cert.MixStepRefIdeal.Facts] : Prop :=
  ∀ (m : (ℓ : Loc Cert.MixStepIdeal.nD Cert.MixStepIdeal.τ Cert.MixStepIdeal.sig) → Buf (Elt Ideal) ℓ) (g : Dev Cert.MixStepIdeal.nD → PrngReg)
    (m' : (ℓ : Loc Cert.MixStepRefIdeal.nD Cert.MixStepRefIdeal.τ Cert.MixStepRefIdeal.sig) → Buf (Elt Ideal) ℓ) (g' : Dev Cert.MixStepRefIdeal.nD → PrngReg), Pre_MixStepIdeal m →
    (∀ c : Dev Cert.MixStepIdeal.nD,
      m' ((c.tc : Thread Cert.MixStepRefIdeal.nD Cert.MixStepRefIdeal.τ).loc Cert.MixStepRefIdeal.main_arg0) = m ((c.tc : Thread Cert.MixStepIdeal.nD Cert.MixStepIdeal.τ).loc Cert.MixStepIdeal.main_arg0)
      ∧ m' ((c.tc : Thread Cert.MixStepRefIdeal.nD Cert.MixStepRefIdeal.τ).loc Cert.MixStepRefIdeal.main_arg1) = m ((c.tc : Thread Cert.MixStepIdeal.nD Cert.MixStepIdeal.τ).loc Cert.MixStepIdeal.main_arg1)
      ∧ m' ((c.tc : Thread Cert.MixStepRefIdeal.nD Cert.MixStepRefIdeal.τ).loc Cert.MixStepRefIdeal.main_arg2) = m ((c.tc : Thread Cert.MixStepIdeal.nD Cert.MixStepIdeal.τ).loc Cert.MixStepIdeal.main_arg2)
      ∧ m' ((c.tc : Thread Cert.MixStepRefIdeal.nD Cert.MixStepRefIdeal.τ).loc Cert.MixStepRefIdeal.main_arg3) = m ((c.tc : Thread Cert.MixStepIdeal.nD Cert.MixStepIdeal.τ).loc Cert.MixStepIdeal.main_arg3)
      ∧ m' ((c.tc : Thread Cert.MixStepRefIdeal.nD Cert.MixStepRefIdeal.τ).loc Cert.MixStepRefIdeal.main_arg4) = m ((c.tc : Thread Cert.MixStepIdeal.nD Cert.MixStepIdeal.τ).loc Cert.MixStepIdeal.main_arg4)) →
    ∃ (v0 : (c : Dev Cert.MixStepIdeal.nD) → Buf (Elt Ideal) ((c.tc : Thread Cert.MixStepIdeal.nD Cert.MixStepIdeal.τ).loc Cert.MixStepIdeal.main_v0_0)) (v1 : (c : Dev Cert.MixStepIdeal.nD) → Buf (Elt Ideal) ((c.tc : Thread Cert.MixStepIdeal.nD Cert.MixStepIdeal.τ).loc Cert.MixStepIdeal.main_v0_1)) (v2 : (c : Dev Cert.MixStepIdeal.nD) → Buf (Elt Ideal) ((c.tc : Thread Cert.MixStepIdeal.nD Cert.MixStepIdeal.τ).loc Cert.MixStepIdeal.main_v0_2)) (v3 : (c : Dev Cert.MixStepIdeal.nD) → Buf (Elt Ideal) ((c.tc : Thread Cert.MixStepIdeal.nD Cert.MixStepIdeal.τ).loc Cert.MixStepIdeal.main_v0_3)),
      θ_run (Cert.MixStepIdeal.defs (F := Ideal)) (onTc (τ := Cert.MixStepIdeal.τ) (Cert.MixStepIdeal.main (F := Ideal))) ⟨m, fun _ => 0, g⟩ (fun r => ∀ c : Dev Cert.MixStepIdeal.nD,
          r.2.mem ((c.tc : Thread Cert.MixStepIdeal.nD Cert.MixStepIdeal.τ).loc Cert.MixStepIdeal.main_v0_0) = v0 c
          ∧ r.2.mem ((c.tc : Thread Cert.MixStepIdeal.nD Cert.MixStepIdeal.τ).loc Cert.MixStepIdeal.main_v0_1) = v1 c
          ∧ r.2.mem ((c.tc : Thread Cert.MixStepIdeal.nD Cert.MixStepIdeal.τ).loc Cert.MixStepIdeal.main_v0_2) = v2 c
          ∧ r.2.mem ((c.tc : Thread Cert.MixStepIdeal.nD Cert.MixStepIdeal.τ).loc Cert.MixStepIdeal.main_v0_3) = v3 c
          ∧ r.2.mem ((c.tc : Thread Cert.MixStepIdeal.nD Cert.MixStepIdeal.τ).loc Cert.MixStepIdeal.main_arg0) = m ((c.tc : Thread Cert.MixStepIdeal.nD Cert.MixStepIdeal.τ).loc Cert.MixStepIdeal.main_arg0)
          ∧ r.2.mem ((c.tc : Thread Cert.MixStepIdeal.nD Cert.MixStepIdeal.τ).loc Cert.MixStepIdeal.main_arg1) = m ((c.tc : Thread Cert.MixStepIdeal.nD Cert.MixStepIdeal.τ).loc Cert.MixStepIdeal.main_arg1)
          ∧ r.2.mem ((c.tc : Thread Cert.MixStepIdeal.nD Cert.MixStepIdeal.τ).loc Cert.MixStepIdeal.main_arg2) = m ((c.tc : Thread Cert.MixStepIdeal.nD Cert.MixStepIdeal.τ).loc Cert.MixStepIdeal.main_arg2)
          ∧ r.2.mem ((c.tc : Thread Cert.MixStepIdeal.nD Cert.MixStepIdeal.τ).loc Cert.MixStepIdeal.main_arg3) = m ((c.tc : Thread Cert.MixStepIdeal.nD Cert.MixStepIdeal.τ).loc Cert.MixStepIdeal.main_arg3)
          ∧ r.2.mem ((c.tc : Thread Cert.MixStepIdeal.nD Cert.MixStepIdeal.τ).loc Cert.MixStepIdeal.main_arg4) = m ((c.tc : Thread Cert.MixStepIdeal.nD Cert.MixStepIdeal.τ).loc Cert.MixStepIdeal.main_arg4))
      ∧ θ_run (Cert.MixStepRefIdeal.defs (F := Ideal)) (onTc (τ := Cert.MixStepRefIdeal.τ) (Cert.MixStepRefIdeal.main (F := Ideal))) ⟨m', fun _ => 0, g'⟩ (fun r => ∀ c : Dev Cert.MixStepRefIdeal.nD,
          r.2.mem ((c.tc : Thread Cert.MixStepRefIdeal.nD Cert.MixStepRefIdeal.τ).loc Cert.MixStepRefIdeal.main_v1) = v0 c
          ∧ r.2.mem ((c.tc : Thread Cert.MixStepRefIdeal.nD Cert.MixStepRefIdeal.τ).loc Cert.MixStepRefIdeal.main_v25) = v1 c
          ∧ r.2.mem ((c.tc : Thread Cert.MixStepRefIdeal.nD Cert.MixStepRefIdeal.τ).loc Cert.MixStepRefIdeal.main_v6) = v2 c
          ∧ r.2.mem ((c.tc : Thread Cert.MixStepRefIdeal.nD Cert.MixStepRefIdeal.τ).loc Cert.MixStepRefIdeal.main_v12) = v3 c
          ∧ r.2.mem ((c.tc : Thread Cert.MixStepRefIdeal.nD Cert.MixStepRefIdeal.τ).loc Cert.MixStepRefIdeal.main_arg0) = m' ((c.tc : Thread Cert.MixStepRefIdeal.nD Cert.MixStepRefIdeal.τ).loc Cert.MixStepRefIdeal.main_arg0)
          ∧ r.2.mem ((c.tc : Thread Cert.MixStepRefIdeal.nD Cert.MixStepRefIdeal.τ).loc Cert.MixStepRefIdeal.main_arg1) = m' ((c.tc : Thread Cert.MixStepRefIdeal.nD Cert.MixStepRefIdeal.τ).loc Cert.MixStepRefIdeal.main_arg1)
          ∧ r.2.mem ((c.tc : Thread Cert.MixStepRefIdeal.nD Cert.MixStepRefIdeal.τ).loc Cert.MixStepRefIdeal.main_arg2) = m' ((c.tc : Thread Cert.MixStepRefIdeal.nD Cert.MixStepRefIdeal.τ).loc Cert.MixStepRefIdeal.main_arg2)
          ∧ r.2.mem ((c.tc : Thread Cert.MixStepRefIdeal.nD Cert.MixStepRefIdeal.τ).loc Cert.MixStepRefIdeal.main_arg3) = m' ((c.tc : Thread Cert.MixStepRefIdeal.nD Cert.MixStepRefIdeal.τ).loc Cert.MixStepRefIdeal.main_arg3)
          ∧ r.2.mem ((c.tc : Thread Cert.MixStepRefIdeal.nD Cert.MixStepRefIdeal.τ).loc Cert.MixStepRefIdeal.main_arg4) = m' ((c.tc : Thread Cert.MixStepRefIdeal.nD Cert.MixStepRefIdeal.τ).loc Cert.MixStepRefIdeal.main_arg4))

def preserves_LoraStep_LoraStepIdeal : Prop :=
  True

def algebraic_LoraStepIdeal_LoraStepRefIdeal [hLoraStepIdeal : Cert.LoraStepIdeal.Facts] [hLoraStepRefIdeal : Cert.LoraStepRefIdeal.Facts] : Prop :=
  ∀ (m : (ℓ : Loc Cert.LoraStepIdeal.nD Cert.LoraStepIdeal.τ Cert.LoraStepIdeal.sig) → Buf (Elt Ideal) ℓ) (g : Dev Cert.LoraStepIdeal.nD → PrngReg)
    (m' : (ℓ : Loc Cert.LoraStepRefIdeal.nD Cert.LoraStepRefIdeal.τ Cert.LoraStepRefIdeal.sig) → Buf (Elt Ideal) ℓ) (g' : Dev Cert.LoraStepRefIdeal.nD → PrngReg), Pre_LoraStepIdeal m →
    (∀ c : Dev Cert.LoraStepIdeal.nD,
      m' ((c.tc : Thread Cert.LoraStepRefIdeal.nD Cert.LoraStepRefIdeal.τ).loc Cert.LoraStepRefIdeal.main_arg0) = m ((c.tc : Thread Cert.LoraStepIdeal.nD Cert.LoraStepIdeal.τ).loc Cert.LoraStepIdeal.main_arg0)
      ∧ m' ((c.tc : Thread Cert.LoraStepRefIdeal.nD Cert.LoraStepRefIdeal.τ).loc Cert.LoraStepRefIdeal.main_arg1) = m ((c.tc : Thread Cert.LoraStepIdeal.nD Cert.LoraStepIdeal.τ).loc Cert.LoraStepIdeal.main_arg1)
      ∧ m' ((c.tc : Thread Cert.LoraStepRefIdeal.nD Cert.LoraStepRefIdeal.τ).loc Cert.LoraStepRefIdeal.main_arg2) = m ((c.tc : Thread Cert.LoraStepIdeal.nD Cert.LoraStepIdeal.τ).loc Cert.LoraStepIdeal.main_arg2)
      ∧ m' ((c.tc : Thread Cert.LoraStepRefIdeal.nD Cert.LoraStepRefIdeal.τ).loc Cert.LoraStepRefIdeal.main_arg3) = m ((c.tc : Thread Cert.LoraStepIdeal.nD Cert.LoraStepIdeal.τ).loc Cert.LoraStepIdeal.main_arg3)
      ∧ m' ((c.tc : Thread Cert.LoraStepRefIdeal.nD Cert.LoraStepRefIdeal.τ).loc Cert.LoraStepRefIdeal.main_arg4) = m ((c.tc : Thread Cert.LoraStepIdeal.nD Cert.LoraStepIdeal.τ).loc Cert.LoraStepIdeal.main_arg4)) →
    ∃ (v0 : (c : Dev Cert.LoraStepIdeal.nD) → Buf (Elt Ideal) ((c.tc : Thread Cert.LoraStepIdeal.nD Cert.LoraStepIdeal.τ).loc Cert.LoraStepIdeal.main_v0_0)) (v1 : (c : Dev Cert.LoraStepIdeal.nD) → Buf (Elt Ideal) ((c.tc : Thread Cert.LoraStepIdeal.nD Cert.LoraStepIdeal.τ).loc Cert.LoraStepIdeal.main_v0_1)) (v2 : (c : Dev Cert.LoraStepIdeal.nD) → Buf (Elt Ideal) ((c.tc : Thread Cert.LoraStepIdeal.nD Cert.LoraStepIdeal.τ).loc Cert.LoraStepIdeal.main_v0_2)) (v3 : (c : Dev Cert.LoraStepIdeal.nD) → Buf (Elt Ideal) ((c.tc : Thread Cert.LoraStepIdeal.nD Cert.LoraStepIdeal.τ).loc Cert.LoraStepIdeal.main_v0_3)),
      θ_run (Cert.LoraStepIdeal.defs (F := Ideal)) (onTc (τ := Cert.LoraStepIdeal.τ) (Cert.LoraStepIdeal.main (F := Ideal))) ⟨m, fun _ => 0, g⟩ (fun r => ∀ c : Dev Cert.LoraStepIdeal.nD,
          r.2.mem ((c.tc : Thread Cert.LoraStepIdeal.nD Cert.LoraStepIdeal.τ).loc Cert.LoraStepIdeal.main_v0_0) = v0 c
          ∧ r.2.mem ((c.tc : Thread Cert.LoraStepIdeal.nD Cert.LoraStepIdeal.τ).loc Cert.LoraStepIdeal.main_v0_1) = v1 c
          ∧ r.2.mem ((c.tc : Thread Cert.LoraStepIdeal.nD Cert.LoraStepIdeal.τ).loc Cert.LoraStepIdeal.main_v0_2) = v2 c
          ∧ r.2.mem ((c.tc : Thread Cert.LoraStepIdeal.nD Cert.LoraStepIdeal.τ).loc Cert.LoraStepIdeal.main_v0_3) = v3 c
          ∧ r.2.mem ((c.tc : Thread Cert.LoraStepIdeal.nD Cert.LoraStepIdeal.τ).loc Cert.LoraStepIdeal.main_arg0) = m ((c.tc : Thread Cert.LoraStepIdeal.nD Cert.LoraStepIdeal.τ).loc Cert.LoraStepIdeal.main_arg0)
          ∧ r.2.mem ((c.tc : Thread Cert.LoraStepIdeal.nD Cert.LoraStepIdeal.τ).loc Cert.LoraStepIdeal.main_arg1) = m ((c.tc : Thread Cert.LoraStepIdeal.nD Cert.LoraStepIdeal.τ).loc Cert.LoraStepIdeal.main_arg1)
          ∧ r.2.mem ((c.tc : Thread Cert.LoraStepIdeal.nD Cert.LoraStepIdeal.τ).loc Cert.LoraStepIdeal.main_arg2) = m ((c.tc : Thread Cert.LoraStepIdeal.nD Cert.LoraStepIdeal.τ).loc Cert.LoraStepIdeal.main_arg2)
          ∧ r.2.mem ((c.tc : Thread Cert.LoraStepIdeal.nD Cert.LoraStepIdeal.τ).loc Cert.LoraStepIdeal.main_arg3) = m ((c.tc : Thread Cert.LoraStepIdeal.nD Cert.LoraStepIdeal.τ).loc Cert.LoraStepIdeal.main_arg3)
          ∧ r.2.mem ((c.tc : Thread Cert.LoraStepIdeal.nD Cert.LoraStepIdeal.τ).loc Cert.LoraStepIdeal.main_arg4) = m ((c.tc : Thread Cert.LoraStepIdeal.nD Cert.LoraStepIdeal.τ).loc Cert.LoraStepIdeal.main_arg4))
      ∧ θ_run (Cert.LoraStepRefIdeal.defs (F := Ideal)) (onTc (τ := Cert.LoraStepRefIdeal.τ) (Cert.LoraStepRefIdeal.main (F := Ideal))) ⟨m', fun _ => 0, g'⟩ (fun r => ∀ c : Dev Cert.LoraStepRefIdeal.nD,
          r.2.mem ((c.tc : Thread Cert.LoraStepRefIdeal.nD Cert.LoraStepRefIdeal.τ).loc Cert.LoraStepRefIdeal.main_v1) = v0 c
          ∧ r.2.mem ((c.tc : Thread Cert.LoraStepRefIdeal.nD Cert.LoraStepRefIdeal.τ).loc Cert.LoraStepRefIdeal.main_v25) = v1 c
          ∧ r.2.mem ((c.tc : Thread Cert.LoraStepRefIdeal.nD Cert.LoraStepRefIdeal.τ).loc Cert.LoraStepRefIdeal.main_v6) = v2 c
          ∧ r.2.mem ((c.tc : Thread Cert.LoraStepRefIdeal.nD Cert.LoraStepRefIdeal.τ).loc Cert.LoraStepRefIdeal.main_v12) = v3 c
          ∧ r.2.mem ((c.tc : Thread Cert.LoraStepRefIdeal.nD Cert.LoraStepRefIdeal.τ).loc Cert.LoraStepRefIdeal.main_arg0) = m' ((c.tc : Thread Cert.LoraStepRefIdeal.nD Cert.LoraStepRefIdeal.τ).loc Cert.LoraStepRefIdeal.main_arg0)
          ∧ r.2.mem ((c.tc : Thread Cert.LoraStepRefIdeal.nD Cert.LoraStepRefIdeal.τ).loc Cert.LoraStepRefIdeal.main_arg1) = m' ((c.tc : Thread Cert.LoraStepRefIdeal.nD Cert.LoraStepRefIdeal.τ).loc Cert.LoraStepRefIdeal.main_arg1)
          ∧ r.2.mem ((c.tc : Thread Cert.LoraStepRefIdeal.nD Cert.LoraStepRefIdeal.τ).loc Cert.LoraStepRefIdeal.main_arg2) = m' ((c.tc : Thread Cert.LoraStepRefIdeal.nD Cert.LoraStepRefIdeal.τ).loc Cert.LoraStepRefIdeal.main_arg2)
          ∧ r.2.mem ((c.tc : Thread Cert.LoraStepRefIdeal.nD Cert.LoraStepRefIdeal.τ).loc Cert.LoraStepRefIdeal.main_arg3) = m' ((c.tc : Thread Cert.LoraStepRefIdeal.nD Cert.LoraStepRefIdeal.τ).loc Cert.LoraStepRefIdeal.main_arg3)
          ∧ r.2.mem ((c.tc : Thread Cert.LoraStepRefIdeal.nD Cert.LoraStepRefIdeal.τ).loc Cert.LoraStepRefIdeal.main_arg4) = m' ((c.tc : Thread Cert.LoraStepRefIdeal.nD Cert.LoraStepRefIdeal.τ).loc Cert.LoraStepRefIdeal.main_arg4))

def preserves_Embed_EmbedIdeal : Prop :=
  True

def algebraic_EmbedIdeal_EmbedRefIdeal [hEmbedIdeal : Cert.EmbedIdeal.Facts] [hEmbedRefIdeal : Cert.EmbedRefIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)
      ∧ m' ((c.tc : Thread Cert.EmbedRefIdeal.nD Cert.EmbedRefIdeal.τ).loc Cert.EmbedRefIdeal.main_arg2) = m ((c.tc : Thread Cert.EmbedIdeal.nD Cert.EmbedIdeal.τ).loc Cert.EmbedIdeal.main_arg2)) →
    ∃ (v0 : (c : Dev Cert.EmbedIdeal.nD) → Buf (Elt Ideal) ((c.tc : Thread Cert.EmbedIdeal.nD Cert.EmbedIdeal.τ).loc Cert.EmbedIdeal.main_v0_0)) (v1 : (c : Dev Cert.EmbedIdeal.nD) → Buf (Elt Ideal) ((c.tc : Thread Cert.EmbedIdeal.nD Cert.EmbedIdeal.τ).loc Cert.EmbedIdeal.main_v0_1)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v0_0) = v0 c
          ∧ r.2.mem ((c.tc : Thread Cert.EmbedIdeal.nD Cert.EmbedIdeal.τ).loc Cert.EmbedIdeal.main_v0_1) = v1 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v1) = v0 c
          ∧ r.2.mem ((c.tc : Thread Cert.EmbedRefIdeal.nD Cert.EmbedRefIdeal.τ).loc Cert.EmbedRefIdeal.main_v16) = v1 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1)
          ∧ r.2.mem ((c.tc : Thread Cert.EmbedRefIdeal.nD Cert.EmbedRefIdeal.τ).loc Cert.EmbedRefIdeal.main_arg2) = m' ((c.tc : Thread Cert.EmbedRefIdeal.nD Cert.EmbedRefIdeal.τ).loc Cert.EmbedRefIdeal.main_arg2))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m ((c.tc : Thread Cert.SmallSumIdeal.nD Cert.SmallSumIdeal.τ).loc Cert.SmallSumIdeal.main_arg0) = Layout.block ⟨2, ![32, 1024]⟩ ⟨2, ![256, 1024]⟩ 0 8 c (m' (((0 : Dev Cert.SmallSumRefIdeal.nD).tc : Thread Cert.SmallSumRefIdeal.nD Cert.SmallSumRefIdeal.τ).loc Cert.SmallSumRefIdeal.main_arg0))
      ∧ m ((c.tc : Thread Cert.SmallSumIdeal.nD Cert.SmallSumIdeal.τ).loc Cert.SmallSumIdeal.main_arg1) = Layout.block ⟨3, ![7, 32, 1024]⟩ ⟨3, ![56, 32, 1024]⟩ 0 8 c (m' (((0 : Dev Cert.SmallSumRefIdeal.nD).tc : Thread Cert.SmallSumRefIdeal.nD Cert.SmallSumRefIdeal.τ).loc Cert.SmallSumRefIdeal.main_arg1))) →
    ∃ (v0 : Buf (Elt Ideal) (((0 : Dev Cert.SmallSumRefIdeal.nD).tc : Thread Cert.SmallSumRefIdeal.nD Cert.SmallSumRefIdeal.τ).loc Cert.SmallSumRefIdeal.main_v4)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v1) = Layout.block ⟨2, ![32, 1024]⟩ ⟨2, ![256, 1024]⟩ 0 8 c v0
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0)
          ∧ r.2.mem ((c.tc : Thread Cert.SmallSumIdeal.nD Cert.SmallSumIdeal.τ).loc Cert.SmallSumIdeal.main_arg1) = m ((c.tc : Thread Cert.SmallSumIdeal.nD Cert.SmallSumIdeal.τ).loc Cert.SmallSumIdeal.main_arg1))
      ∧ θ_run (Cert.SmallSumRefIdeal.defs (F := Ideal)) (onTc (τ := Cert.SmallSumRefIdeal.τ) (Cert.SmallSumRefIdeal.main (F := Ideal))) ⟨m', fun _ => 0, g'⟩ (fun r =>
          r.2.mem (((0 : Dev Cert.SmallSumRefIdeal.nD).tc : Thread Cert.SmallSumRefIdeal.nD Cert.SmallSumRefIdeal.τ).loc Cert.SmallSumRefIdeal.main_v4) = v0
          ∧ r.2.mem (((0 : Dev Cert.SmallSumRefIdeal.nD).tc : Thread Cert.SmallSumRefIdeal.nD Cert.SmallSumRefIdeal.τ).loc Cert.SmallSumRefIdeal.main_arg0) = m' (((0 : Dev Cert.SmallSumRefIdeal.nD).tc : Thread Cert.SmallSumRefIdeal.nD Cert.SmallSumRefIdeal.τ).loc Cert.SmallSumRefIdeal.main_arg0)
          ∧ r.2.mem (((0 : Dev Cert.SmallSumRefIdeal.nD).tc : Thread Cert.SmallSumRefIdeal.nD Cert.SmallSumRefIdeal.τ).loc Cert.SmallSumRefIdeal.main_arg1) = m' (((0 : Dev Cert.SmallSumRefIdeal.nD).tc : Thread Cert.SmallSumRefIdeal.nD Cert.SmallSumRefIdeal.τ).loc Cert.SmallSumRefIdeal.main_arg1))

def Claim : Prop :=
  ∃ (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hDownWeight : Cert.DownWeight.Facts) (hDownWeightIdeal : Cert.DownWeightIdeal.Facts) (hDownWeightRefIdeal : Cert.DownWeightRefIdeal.Facts) (hGateWeight : Cert.GateWeight.Facts) (hGateWeightIdeal : Cert.GateWeightIdeal.Facts) (hGateWeightRefIdeal : Cert.GateWeightRefIdeal.Facts) (hHidden : Cert.Hidden.Facts) (hHiddenIdeal : Cert.HiddenIdeal.Facts) (hHiddenRefIdeal : Cert.HiddenRefIdeal.Facts) (hBranches : Cert.Branches.Facts) (hBranchesIdeal : Cert.BranchesIdeal.Facts) (hBranchesRefIdeal : Cert.BranchesRefIdeal.Facts) (hResidual : Cert.Residual.Facts) (hResidualIdeal : Cert.ResidualIdeal.Facts) (hResidualRefIdeal : Cert.ResidualRefIdeal.Facts) (hOutWeight : Cert.OutWeight.Facts) (hOutWeightIdeal : Cert.OutWeightIdeal.Facts) (hOutWeightRefIdeal : Cert.OutWeightRefIdeal.Facts) (hBranchWeight : Cert.BranchWeight.Facts) (hBranchWeightIdeal : Cert.BranchWeightIdeal.Facts) (hBranchWeightRefIdeal : Cert.BranchWeightRefIdeal.Facts) (hInput : Cert.Input.Facts) (hInputIdeal : Cert.InputIdeal.Facts) (hInputRefIdeal : Cert.InputRefIdeal.Facts) (hLoss : Cert.Loss.Facts) (hLossIdeal : Cert.LossIdeal.Facts) (hLossRefIdeal : Cert.LossRefIdeal.Facts) (hGatesWeight : Cert.GatesWeight.Facts) (hGatesWeightIdeal : Cert.GatesWeightIdeal.Facts) (hGatesWeightRefIdeal : Cert.GatesWeightRefIdeal.Facts) (hRkvWeight : Cert.RkvWeight.Facts) (hRkvWeightIdeal : Cert.RkvWeightIdeal.Facts) (hRkvWeightRefIdeal : Cert.RkvWeightRefIdeal.Facts) (hLoraWeight : Cert.LoraWeight.Facts) (hLoraWeightIdeal : Cert.LoraWeightIdeal.Facts) (hLoraWeightRefIdeal : Cert.LoraWeightRefIdeal.Facts) (hQkvWeight : Cert.QkvWeight.Facts) (hQkvWeightIdeal : Cert.QkvWeightIdeal.Facts) (hQkvWeightRefIdeal : Cert.QkvWeightRefIdeal.Facts) (hNorm : Cert.Norm.Facts) (hNormIdeal : Cert.NormIdeal.Facts) (hNormRefIdeal : Cert.NormRefIdeal.Facts) (hGateStep : Cert.GateStep.Facts) (hGateStepIdeal : Cert.GateStepIdeal.Facts) (hGateStepRefIdeal : Cert.GateStepRefIdeal.Facts) (hDownStep : Cert.DownStep.Facts) (hDownStepIdeal : Cert.DownStepIdeal.Facts) (hDownStepRefIdeal : Cert.DownStepRefIdeal.Facts) (hOutStep : Cert.OutStep.Facts) (hOutStepIdeal : Cert.OutStepIdeal.Facts) (hOutStepRefIdeal : Cert.OutStepRefIdeal.Facts) (hBranchStep : Cert.BranchStep.Facts) (hBranchStepIdeal : Cert.BranchStepIdeal.Facts) (hBranchStepRefIdeal : Cert.BranchStepRefIdeal.Facts) (hInputStep : Cert.InputStep.Facts) (hInputStepIdeal : Cert.InputStepIdeal.Facts) (hInputStepRefIdeal : Cert.InputStepRefIdeal.Facts) (hMixStep : Cert.MixStep.Facts) (hMixStepIdeal : Cert.MixStepIdeal.Facts) (hMixStepRefIdeal : Cert.MixStepRefIdeal.Facts) (hLoraStep : Cert.LoraStep.Facts) (hLoraStepIdeal : Cert.LoraStepIdeal.Facts) (hLoraStepRefIdeal : Cert.LoraStepRefIdeal.Facts) (hEmbed : Cert.Embed.Facts) (hEmbedIdeal : Cert.EmbedIdeal.Facts) (hEmbedRefIdeal : Cert.EmbedRefIdeal.Facts) (hSmallSum : Cert.SmallSum.Facts) (hSmallSumIdeal : Cert.SmallSumIdeal.Facts) (hSmallSumRefIdeal : Cert.SmallSumRefIdeal.Facts),
    quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_DownWeight (hDownWeight := hDownWeight)
    ∧ quiescent_DownWeightIdeal (hDownWeightIdeal := hDownWeightIdeal)
    ∧ quiescent_DownWeightRefIdeal (hDownWeightRefIdeal := hDownWeightRefIdeal)
    ∧ quiescent_GateWeight (hGateWeight := hGateWeight)
    ∧ quiescent_GateWeightIdeal (hGateWeightIdeal := hGateWeightIdeal)
    ∧ quiescent_GateWeightRefIdeal (hGateWeightRefIdeal := hGateWeightRefIdeal)
    ∧ quiescent_Hidden (hHidden := hHidden)
    ∧ quiescent_HiddenIdeal (hHiddenIdeal := hHiddenIdeal)
    ∧ quiescent_HiddenRefIdeal (hHiddenRefIdeal := hHiddenRefIdeal)
    ∧ quiescent_Branches (hBranches := hBranches)
    ∧ quiescent_BranchesIdeal (hBranchesIdeal := hBranchesIdeal)
    ∧ quiescent_BranchesRefIdeal (hBranchesRefIdeal := hBranchesRefIdeal)
    ∧ quiescent_Residual (hResidual := hResidual)
    ∧ quiescent_ResidualIdeal (hResidualIdeal := hResidualIdeal)
    ∧ quiescent_ResidualRefIdeal (hResidualRefIdeal := hResidualRefIdeal)
    ∧ quiescent_OutWeight (hOutWeight := hOutWeight)
    ∧ quiescent_OutWeightIdeal (hOutWeightIdeal := hOutWeightIdeal)
    ∧ quiescent_OutWeightRefIdeal (hOutWeightRefIdeal := hOutWeightRefIdeal)
    ∧ quiescent_BranchWeight (hBranchWeight := hBranchWeight)
    ∧ quiescent_BranchWeightIdeal (hBranchWeightIdeal := hBranchWeightIdeal)
    ∧ quiescent_BranchWeightRefIdeal (hBranchWeightRefIdeal := hBranchWeightRefIdeal)
    ∧ quiescent_Input (hInput := hInput)
    ∧ quiescent_InputIdeal (hInputIdeal := hInputIdeal)
    ∧ quiescent_InputRefIdeal (hInputRefIdeal := hInputRefIdeal)
    ∧ quiescent_Loss (hLoss := hLoss)
    ∧ quiescent_LossIdeal (hLossIdeal := hLossIdeal)
    ∧ quiescent_LossRefIdeal (hLossRefIdeal := hLossRefIdeal)
    ∧ quiescent_GatesWeight (hGatesWeight := hGatesWeight)
    ∧ quiescent_GatesWeightIdeal (hGatesWeightIdeal := hGatesWeightIdeal)
    ∧ quiescent_GatesWeightRefIdeal (hGatesWeightRefIdeal := hGatesWeightRefIdeal)
    ∧ quiescent_RkvWeight (hRkvWeight := hRkvWeight)
    ∧ quiescent_RkvWeightIdeal (hRkvWeightIdeal := hRkvWeightIdeal)
    ∧ quiescent_RkvWeightRefIdeal (hRkvWeightRefIdeal := hRkvWeightRefIdeal)
    ∧ quiescent_LoraWeight (hLoraWeight := hLoraWeight)
    ∧ quiescent_LoraWeightIdeal (hLoraWeightIdeal := hLoraWeightIdeal)
    ∧ quiescent_LoraWeightRefIdeal (hLoraWeightRefIdeal := hLoraWeightRefIdeal)
    ∧ quiescent_QkvWeight (hQkvWeight := hQkvWeight)
    ∧ quiescent_QkvWeightIdeal (hQkvWeightIdeal := hQkvWeightIdeal)
    ∧ quiescent_QkvWeightRefIdeal (hQkvWeightRefIdeal := hQkvWeightRefIdeal)
    ∧ quiescent_Norm (hNorm := hNorm)
    ∧ quiescent_NormIdeal (hNormIdeal := hNormIdeal)
    ∧ quiescent_NormRefIdeal (hNormRefIdeal := hNormRefIdeal)
    ∧ quiescent_GateStep (hGateStep := hGateStep)
    ∧ quiescent_GateStepIdeal (hGateStepIdeal := hGateStepIdeal)
    ∧ quiescent_GateStepRefIdeal (hGateStepRefIdeal := hGateStepRefIdeal)
    ∧ quiescent_DownStep (hDownStep := hDownStep)
    ∧ quiescent_DownStepIdeal (hDownStepIdeal := hDownStepIdeal)
    ∧ quiescent_DownStepRefIdeal (hDownStepRefIdeal := hDownStepRefIdeal)
    ∧ quiescent_OutStep (hOutStep := hOutStep)
    ∧ quiescent_OutStepIdeal (hOutStepIdeal := hOutStepIdeal)
    ∧ quiescent_OutStepRefIdeal (hOutStepRefIdeal := hOutStepRefIdeal)
    ∧ quiescent_BranchStep (hBranchStep := hBranchStep)
    ∧ quiescent_BranchStepIdeal (hBranchStepIdeal := hBranchStepIdeal)
    ∧ quiescent_BranchStepRefIdeal (hBranchStepRefIdeal := hBranchStepRefIdeal)
    ∧ quiescent_InputStep (hInputStep := hInputStep)
    ∧ quiescent_InputStepIdeal (hInputStepIdeal := hInputStepIdeal)
    ∧ quiescent_InputStepRefIdeal (hInputStepRefIdeal := hInputStepRefIdeal)
    ∧ quiescent_MixStep (hMixStep := hMixStep)
    ∧ quiescent_MixStepIdeal (hMixStepIdeal := hMixStepIdeal)
    ∧ quiescent_MixStepRefIdeal (hMixStepRefIdeal := hMixStepRefIdeal)
    ∧ quiescent_LoraStep (hLoraStep := hLoraStep)
    ∧ quiescent_LoraStepIdeal (hLoraStepIdeal := hLoraStepIdeal)
    ∧ quiescent_LoraStepRefIdeal (hLoraStepRefIdeal := hLoraStepRefIdeal)
    ∧ quiescent_Embed (hEmbed := hEmbed)
    ∧ quiescent_EmbedIdeal (hEmbedIdeal := hEmbedIdeal)
    ∧ quiescent_EmbedRefIdeal (hEmbedRefIdeal := hEmbedRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_DownWeight_DownWeightIdeal
    ∧ algebraic_DownWeightIdeal_DownWeightRefIdeal (hDownWeightIdeal := hDownWeightIdeal) (hDownWeightRefIdeal := hDownWeightRefIdeal)
    ∧ preserves_GateWeight_GateWeightIdeal
    ∧ algebraic_GateWeightIdeal_GateWeightRefIdeal (hGateWeightIdeal := hGateWeightIdeal) (hGateWeightRefIdeal := hGateWeightRefIdeal)
    ∧ preserves_Hidden_HiddenIdeal
    ∧ algebraic_HiddenIdeal_HiddenRefIdeal (hHiddenIdeal := hHiddenIdeal) (hHiddenRefIdeal := hHiddenRefIdeal)
    ∧ preserves_Branches_BranchesIdeal
    ∧ algebraic_BranchesIdeal_BranchesRefIdeal (hBranchesIdeal := hBranchesIdeal) (hBranchesRefIdeal := hBranchesRefIdeal)
    ∧ preserves_Residual_ResidualIdeal
    ∧ algebraic_ResidualIdeal_ResidualRefIdeal (hResidualIdeal := hResidualIdeal) (hResidualRefIdeal := hResidualRefIdeal)
    ∧ preserves_OutWeight_OutWeightIdeal
    ∧ algebraic_OutWeightIdeal_OutWeightRefIdeal (hOutWeightIdeal := hOutWeightIdeal) (hOutWeightRefIdeal := hOutWeightRefIdeal)
    ∧ preserves_BranchWeight_BranchWeightIdeal
    ∧ algebraic_BranchWeightIdeal_BranchWeightRefIdeal (hBranchWeightIdeal := hBranchWeightIdeal) (hBranchWeightRefIdeal := hBranchWeightRefIdeal)
    ∧ preserves_Input_InputIdeal
    ∧ algebraic_InputIdeal_InputRefIdeal (hInputIdeal := hInputIdeal) (hInputRefIdeal := hInputRefIdeal)
    ∧ preserves_Loss_LossIdeal
    ∧ algebraic_LossIdeal_LossRefIdeal (hLossIdeal := hLossIdeal) (hLossRefIdeal := hLossRefIdeal)
    ∧ preserves_GatesWeight_GatesWeightIdeal
    ∧ algebraic_GatesWeightIdeal_GatesWeightRefIdeal (hGatesWeightIdeal := hGatesWeightIdeal) (hGatesWeightRefIdeal := hGatesWeightRefIdeal)
    ∧ preserves_RkvWeight_RkvWeightIdeal
    ∧ algebraic_RkvWeightIdeal_RkvWeightRefIdeal (hRkvWeightIdeal := hRkvWeightIdeal) (hRkvWeightRefIdeal := hRkvWeightRefIdeal)
    ∧ preserves_LoraWeight_LoraWeightIdeal
    ∧ algebraic_LoraWeightIdeal_LoraWeightRefIdeal (hLoraWeightIdeal := hLoraWeightIdeal) (hLoraWeightRefIdeal := hLoraWeightRefIdeal)
    ∧ preserves_QkvWeight_QkvWeightIdeal
    ∧ algebraic_QkvWeightIdeal_QkvWeightRefIdeal (hQkvWeightIdeal := hQkvWeightIdeal) (hQkvWeightRefIdeal := hQkvWeightRefIdeal)
    ∧ preserves_Norm_NormIdeal
    ∧ algebraic_NormIdeal_NormRefIdeal (hNormIdeal := hNormIdeal) (hNormRefIdeal := hNormRefIdeal)
    ∧ preserves_GateStep_GateStepIdeal
    ∧ algebraic_GateStepIdeal_GateStepRefIdeal (hGateStepIdeal := hGateStepIdeal) (hGateStepRefIdeal := hGateStepRefIdeal)
    ∧ preserves_DownStep_DownStepIdeal
    ∧ algebraic_DownStepIdeal_DownStepRefIdeal (hDownStepIdeal := hDownStepIdeal) (hDownStepRefIdeal := hDownStepRefIdeal)
    ∧ preserves_OutStep_OutStepIdeal
    ∧ algebraic_OutStepIdeal_OutStepRefIdeal (hOutStepIdeal := hOutStepIdeal) (hOutStepRefIdeal := hOutStepRefIdeal)
    ∧ preserves_BranchStep_BranchStepIdeal
    ∧ algebraic_BranchStepIdeal_BranchStepRefIdeal (hBranchStepIdeal := hBranchStepIdeal) (hBranchStepRefIdeal := hBranchStepRefIdeal)
    ∧ preserves_InputStep_InputStepIdeal
    ∧ algebraic_InputStepIdeal_InputStepRefIdeal (hInputStepIdeal := hInputStepIdeal) (hInputStepRefIdeal := hInputStepRefIdeal)
    ∧ preserves_MixStep_MixStepIdeal
    ∧ algebraic_MixStepIdeal_MixStepRefIdeal (hMixStepIdeal := hMixStepIdeal) (hMixStepRefIdeal := hMixStepRefIdeal)
    ∧ preserves_LoraStep_LoraStepIdeal
    ∧ algebraic_LoraStepIdeal_LoraStepRefIdeal (hLoraStepIdeal := hLoraStepIdeal) (hLoraStepRefIdeal := hLoraStepRefIdeal)
    ∧ preserves_Embed_EmbedIdeal
    ∧ algebraic_EmbedIdeal_EmbedRefIdeal (hEmbedIdeal := hEmbedIdeal) (hEmbedRefIdeal := hEmbedRefIdeal)
    ∧ preserves_SmallSum_SmallSumIdeal
    ∧ algebraic_SmallSumIdeal_SmallSumRefIdeal (hSmallSumIdeal := hSmallSumIdeal) (hSmallSumRefIdeal := hSmallSumRefIdeal)
-- ==== Merge.lean ====
abbrev S4224x1024 : Shape := ⟨2, ![4224, 1024]⟩
abbrev S1024x1024 : Shape := ⟨2, ![1024, 1024]⟩
abbrev S4224x2048 : Shape := ⟨2, ![4224, 2048]⟩
abbrev S4224x512 : Shape := ⟨2, ![4224, 512]⟩
abbrev S512x1024 : Shape := ⟨2, ![512, 1024]⟩
abbrev S1024x512 : Shape := ⟨2, ![1024, 512]⟩
abbrev S704x1024 : Shape := ⟨2, ![704, 1024]⟩
abbrev S704x2048 : Shape := ⟨2, ![704, 2048]⟩
abbrev S704x512 : Shape := ⟨2, ![704, 512]⟩

abbrev nBuf : Space → Nat
  | .hbm => 22
  | .vmem => 21
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S4224x2048, .bf16⟩
  | .hbm, ⟨3, _⟩ => ⟨S4224x512, .bf16⟩
  | .hbm, ⟨4, _⟩ => ⟨S4224x512, .bf16⟩
  | .hbm, ⟨5, _⟩ => ⟨S512x1024, .bf16⟩
  | .hbm, ⟨6, _⟩ => ⟨S512x1024, .bf16⟩
  | .hbm, ⟨7, _⟩ => ⟨S4224x512, .f32⟩
  | .hbm, ⟨8, _⟩ => ⟨S512x1024, .f32⟩
  | .hbm, ⟨9, _⟩ => ⟨S4224x1024, .f32⟩
  | .hbm, ⟨10, _⟩ => ⟨S4224x1024, .bf16⟩
  | .hbm, ⟨11, _⟩ => ⟨S4224x512, .f32⟩
  | .hbm, ⟨12, _⟩ => ⟨S512x1024, .f32⟩
  | .hbm, ⟨13, _⟩ => ⟨S4224x1024, .f32⟩
  | .hbm, ⟨14, _⟩ => ⟨S4224x1024, .bf16⟩
  | .hbm, ⟨15, _⟩ => ⟨S1024x512, .bf16⟩
  | .hbm, ⟨16, _⟩ => ⟨S1024x512, .bf16⟩
  | .hbm, ⟨17, _⟩ => ⟨S4224x2048, .bf16⟩
  | .hbm, ⟨18, _⟩ => ⟨S4224x1024, .bf16⟩
  | .hbm, ⟨19, _⟩ => ⟨S4224x1024, .bf16⟩
  | .hbm, ⟨20, _⟩ => ⟨S4224x512, .f32⟩
  | .hbm, ⟨21, _⟩ => ⟨S4224x512, .f32⟩
  | .local _ .vmem, ⟨0, _⟩ => ⟨S704x1024, .f32⟩
  | .local _ .vmem, ⟨1, _⟩ => ⟨S704x1024, .f32⟩
  | .local _ .vmem, ⟨2, _⟩ => ⟨S1024x1024, .bf16⟩
  | .local _ .vmem, ⟨3, _⟩ => ⟨S704x2048, .bf16⟩
  | .local _ .vmem, ⟨4, _⟩ => ⟨S704x2048, .bf16⟩
  | .local _ .vmem, ⟨5, _⟩ => ⟨S704x1024, .bf16⟩
  | .local _ .vmem, ⟨6, _⟩ => ⟨S704x1024, .bf16⟩
  | .local _ .vmem, ⟨7, _⟩ => ⟨S704x1024, .bf16⟩
  | .local _ .vmem, ⟨8, _⟩ => ⟨S704x1024, .bf16⟩
  | .local _ .vmem, ⟨9, _⟩ => ⟨S1024x512, .bf16⟩
  | .local _ .vmem, ⟨10, _⟩ => ⟨S1024x512, .bf16⟩
  | .local _ .vmem, ⟨11, _⟩ => ⟨S704x2048, .bf16⟩
  | .local _ .vmem, ⟨12, _⟩ => ⟨S704x2048, .bf16⟩
  | .local _ .vmem, ⟨13, _⟩ => ⟨S704x1024, .bf16⟩
  | .local _ .vmem, ⟨14, _⟩ => ⟨S704x1024, .bf16⟩
  | .local _ .vmem, ⟨15, _⟩ => ⟨S704x1024, .bf16⟩
  | .local _ .vmem, ⟨16, _⟩ => ⟨S704x1024, .bf16⟩
  | .local _ .vmem, ⟨17, _⟩ => ⟨S704x512, .f32⟩
  | .local _ .vmem, ⟨18, _⟩ => ⟨S704x512, .f32⟩
  | .local _ .vmem, ⟨19, _⟩ => ⟨S704x512, .f32⟩
  | .local _ .vmem, ⟨20, _⟩ => ⟨S704x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S704x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S704x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S704x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S704x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S4224x1024 : Shape := ⟨2, ![4224, 1024]⟩
abbrev S1024x1024 : Shape := ⟨2, ![1024, 1024]⟩
abbrev S4224x2048 : Shape := ⟨2, ![4224, 2048]⟩
abbrev S4224x512 : Shape := ⟨2, ![4224, 512]⟩
abbrev S512x1024 : Shape := ⟨2, ![512, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S4224x2048, .bf16⟩
  | .hbm, ⟨3, _⟩ => ⟨S4224x512, .bf16⟩
  | .hbm, ⟨4, _⟩ => ⟨S4224x512, .bf16⟩
  | .hbm, ⟨5, _⟩ => ⟨S512x1024, .bf16⟩
  | .hbm, ⟨6, _⟩ => ⟨S512x1024, .bf16⟩
  | .hbm, ⟨7, _⟩ => ⟨S1024x1024, .f32⟩
  | .hbm, ⟨8, _⟩ => ⟨S4224x2048, .f32⟩
  | .hbm, ⟨9, _⟩ => ⟨S4224x512, .f32⟩
  | .hbm, ⟨10, _⟩ => ⟨S4224x512, .f32⟩
  | .hbm, ⟨11, _⟩ => ⟨S512x1024, .f32⟩
  | .hbm, ⟨12, _⟩ => ⟨S512x1024, .f32⟩
  | .hbm, ⟨13, _⟩ => ⟨S4224x1024, .f32⟩
  | .hbm, ⟨14, _⟩ => ⟨S4224x1024, .f32⟩
  | .hbm, ⟨15, _⟩ => ⟨S4224x2048, .f32⟩
  | .hbm, ⟨16, _⟩ => ⟨S4224x2048, .f32⟩
  | .hbm, ⟨17, _⟩ => ⟨S_, .f32⟩
  | .hbm, ⟨18, _⟩ => ⟨S4224x2048, .f32⟩
  | .hbm, ⟨19, _⟩ => ⟨S4224x2048, .f32⟩
  | .hbm, ⟨20, _⟩ => ⟨S_, .f32⟩
  | .hbm, ⟨21, _⟩ => ⟨S4224x2048, .f32⟩
  | .hbm, ⟨22, _⟩ => ⟨S4224x2048, .f32⟩
  | .hbm, ⟨23, _⟩ => ⟨S_, .f32⟩
  | .hbm, ⟨24, _⟩ => ⟨S4224x2048, .f32⟩
  | .hbm, ⟨25, _⟩ => ⟨S4224x2048, .f32⟩
  | .hbm, ⟨26, _⟩ => ⟨S4224x2048, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S4224x1024, .f32⟩
  | .hbm, ⟨31, _⟩ => ⟨S4224x1024, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S_, .f32⟩
  | .hbm, ⟨37, _⟩ => ⟨S4224x2048, .f32⟩
  | .hbm, ⟨38, _⟩ => ⟨S4224x1024, .f32⟩
  | .hbm, ⟨39, _⟩ => ⟨S4224x1024, .f32⟩
  | .hbm, ⟨40, _⟩ => ⟨S_, .f32⟩
  | .hbm, ⟨41, _⟩ => ⟨S4224x2048, .f32⟩
  | .hbm, ⟨42, _⟩ => ⟨S4224x2048, .f32⟩
  | .hbm, ⟨43, _⟩ => ⟨S4224x2048, .f32⟩
  | .hbm, ⟨44, _⟩ => ⟨S4224x2048, .bf16⟩
  | .hbm, ⟨45, _⟩ => ⟨S4224x1024, .bf16⟩
  | .hbm, ⟨46, _⟩ => ⟨S4224x1024, .bf16⟩
  | .hbm, ⟨47, _⟩ => ⟨S4224x512, .f32⟩
  | .hbm, ⟨48, _⟩ => ⟨S4224x512, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Ffn.lean ====
abbrev S4224x1024 : Shape := ⟨2, ![4224, 1024]⟩
abbrev S2816x1024 : Shape := ⟨2, ![2816, 1024]⟩
abbrev S1024x2816 : Shape := ⟨2, ![1024, 2816]⟩
abbrev S1x1024 : Shape := ⟨2, ![1, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S4224x2816 : Shape := ⟨2, ![4224, 2816]⟩
abbrev S384x1024 : Shape := ⟨2, ![384, 1024]⟩
abbrev S384x2816 : Shape := ⟨2, ![384, 2816]⟩
abbrev S1408x1024 : Shape := ⟨2, ![1408, 1024]⟩
abbrev S384x1408 : Shape := ⟨2, ![384, 1408]⟩
abbrev S384 : Shape := ⟨1, ![384]⟩
abbrev S384x1 : Shape := ⟨2, ![384, 1]⟩

abbrev nBuf : Space → Nat
  | .hbm => 35
  | .vmem => 19
  | .smem => 0
  | _ => 0

abbrev bufTy : (tb : Table) → Fin (tcTables nBuf tb) → BufTy
  | .hbm, ⟨0, _⟩ => ⟨S4224x1024, .f32⟩
  | .hbm, ⟨1, _⟩ => ⟨S2816x1024, .bf16⟩
  | .hbm, ⟨2, _⟩ => ⟨S1024x2816, .bf16⟩
  | .hbm, ⟨3, _⟩ => ⟨S1024x2816, .bf16⟩
  | .hbm, ⟨4, _⟩ => ⟨S4224x1024, .f32⟩
  | .hbm, ⟨5, _⟩ => ⟨S1x1024, .f32⟩
  | .hbm, ⟨6, _⟩ => ⟨S1024, .f32⟩
  | .hbm, ⟨7, _⟩ => ⟨S4224x1024, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S4224x1024, .f32⟩
  | .hbm, ⟨19, _⟩ => ⟨S4224x1024, .f32⟩
  | .hbm, ⟨20, _⟩ => ⟨S1x1024, .f32⟩
  | .hbm, ⟨21, _⟩ => ⟨S4224x1024, .f32⟩
  | .hbm, ⟨22, _⟩ => ⟨S4224x1024, .f32⟩
  | .hbm, ⟨23, _⟩ => ⟨S1024x2816, .f32⟩
  | .hbm, ⟨24, _⟩ => ⟨S4224x2816, .f32⟩
  | .hbm, ⟨25, _⟩ => ⟨S4224x2816, .bf16⟩
  | .hbm, ⟨26, _⟩ => ⟨S1024x2816, .f32⟩
  | .hbm, ⟨27, _⟩ => ⟨S4224x2816, .f32⟩
  | .hbm, ⟨28, _⟩ => ⟨S4224x2816, .bf16⟩
  | .hbm, ⟨29, _⟩ => ⟨S2816x1024, .bf16⟩
  | .hbm, ⟨30, _⟩ => ⟨S2816x1024, .bf16⟩
  | .hbm, ⟨31, _⟩ => ⟨S4224x2816, .bf16⟩
  | .hbm, ⟨32, _⟩ => ⟨S4224x2816, .bf16⟩
  | .hbm, ⟨33, _⟩ => ⟨S4224x1024, .f32⟩
  | .hbm, ⟨34, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S2816x1024, .bf16⟩
  | .local _ .vmem, ⟨3, _⟩ => ⟨S384x2816, .bf16⟩
  | .local _ .vmem, ⟨4, _⟩ => ⟨S384x2816, .bf16⟩
  | .local _ .vmem, ⟨5, _⟩ => ⟨S384x2816, .bf16⟩
  | .local _ .vmem, ⟨6, _⟩ => ⟨S384x2816, .bf16⟩
  | .local _ .vmem, ⟨7, _⟩ => ⟨S2816x1024, .bf16⟩
  | .local _ .vmem, ⟨8, _⟩ => ⟨S2816x1024, .bf16⟩
  | .local _ .vmem, ⟨9, _⟩ => ⟨S384x1024, .f32⟩
  | .local _ .vmem, ⟨10, _⟩ => ⟨S384x1024, .f32⟩
  | .local _ .vmem, ⟨11, _⟩ => ⟨S1x1024, .f32⟩
  | .local _ .vmem, ⟨12, _⟩ => ⟨S384x2816, .bf16⟩
  | .local _ .vmem, ⟨13, _⟩ => ⟨S384x2816, .bf16⟩
  | .local _ .vmem, ⟨14, _⟩ => ⟨S384x2816, .bf16⟩
  | .local _ .vmem, ⟨15, _⟩ => ⟨S384x2816, .bf16⟩
  | .local _ .vmem, ⟨16, _⟩ => ⟨S384x1024, .f32⟩
  | .local _ .vmem, ⟨17, _⟩ => ⟨S384x1024, .f32⟩
  | .local _ .vmem, ⟨18, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRefIdeal.lean ====
abbrev S4224x1024 : Shape := ⟨2, ![4224, 1024]⟩
abbrev S2816x1024 : Shape := ⟨2, ![2816, 1024]⟩
abbrev S1024x2816 : Shape := ⟨2, ![1024, 2816]⟩
abbrev S1x1024 : Shape := ⟨2, ![1, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S4224x2816 : Shape := ⟨2, ![4224, 2816]⟩

abbrev nBuf : Space → Nat
  | .hbm => 88
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S2816x1024, .bf16⟩
  | .hbm, ⟨2, _⟩ => ⟨S1024x2816, .bf16⟩
  | .hbm, ⟨3, _⟩ => ⟨S1024x2816, .bf16⟩
  | .hbm, ⟨4, _⟩ => ⟨S4224x1024, .f32⟩
  | .hbm, ⟨5, _⟩ => ⟨S1x1024, .f32⟩
  | .hbm, ⟨6, _⟩ => ⟨S2816x1024, .f32⟩
  | .hbm, ⟨7, _⟩ => ⟨S1024x2816, .f32⟩
  | .hbm, ⟨8, _⟩ => ⟨S1024x2816, .f32⟩
  | .hbm, ⟨9, _⟩ => ⟨S1024, .f32⟩
  | .hbm, ⟨10, _⟩ => ⟨S4224x1024, .f32⟩
  | .hbm, ⟨11, _⟩ => ⟨S_, .f32⟩
  | .hbm, ⟨12, _⟩ => ⟨S4224, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1, .f32⟩
  | .hbm, ⟨21, _⟩ => ⟨S4224x1, .f32⟩
  | .hbm, ⟨22, _⟩ => ⟨S_, .f32⟩
  | .hbm, ⟨23, _⟩ => ⟨S4224x1, .f32⟩
  | .hbm, ⟨24, _⟩ => ⟨S4224x1, .f32⟩
  | .hbm, ⟨25, _⟩ => ⟨S4224x1024, .f32⟩
  | .hbm, ⟨26, _⟩ => ⟨S4224x1024, .f32⟩
  | .hbm, ⟨27, _⟩ => ⟨S1x1024, .f32⟩
  | .hbm, ⟨28, _⟩ => ⟨S4224x1024, .f32⟩
  | .hbm, ⟨29, _⟩ => ⟨S4224x1024, .f32⟩
  | .hbm, ⟨30, _⟩ => ⟨S4224x2816, .f32⟩
  | .hbm, ⟨31, _⟩ => ⟨S4224x2816, .f32⟩
  | .hbm, ⟨32, _⟩ => ⟨S4224x2816, .f32⟩
  | .hbm, ⟨33, _⟩ => ⟨S4224x2816, .f32⟩
  | .hbm, ⟨34, _⟩ => ⟨S_, .f32⟩
  | .hbm, ⟨35, _⟩ => ⟨S4224x2816, .f32⟩
  | .hbm, ⟨36, _⟩ => ⟨S4224x2816, .f32⟩
  | .hbm, ⟨37, _⟩ => ⟨S_, .f32⟩
  | .hbm, ⟨38, _⟩ => ⟨S4224x2816, .f32⟩
  | .hbm, ⟨39, _⟩ => ⟨S4224x2816, .f32⟩
  | .hbm, ⟨40, _⟩ => ⟨S_, .f32⟩
  | .hbm, ⟨41, _⟩ => ⟨S4224x2816, .f32⟩
  | .hbm, ⟨42, _⟩ => ⟨S4224x2816, .f32⟩
  | .hbm, ⟨43, _⟩ => ⟨S4224x2816, .f32⟩
  | .hbm, ⟨44, _⟩ => ⟨S4224x2816, .f32⟩
  | .hbm, ⟨45, _⟩ => ⟨S4224x2816, .f32⟩
  | .hbm, ⟨46, _⟩ => ⟨S4224x1024, .f32⟩
  | .hbm, ⟨47, _⟩ => ⟨S4224x1024, .f32⟩
  | .hbm, ⟨48, _⟩ => ⟨S4224x1024, .f32⟩
  | .hbm, ⟨49, _⟩ => ⟨S4224x2816, .f32⟩
  | .hbm, ⟨50, _⟩ => ⟨S4224x2816, .f32⟩
  | .hbm, ⟨51, _⟩ => ⟨S4224x2816, .f32⟩
  | .hbm, ⟨52, _⟩ => ⟨S4224x2816, .f32⟩
  | .hbm, ⟨53, _⟩ => ⟨S4224x2816, .f32⟩
  | .hbm, ⟨54, _⟩ => ⟨S4224x2816, .f32⟩
  | .hbm, ⟨55, _⟩ => ⟨S4224x2816, .f32⟩
  | .hbm, ⟨56, _⟩ => ⟨S4224x1024, .f32⟩
  | .hbm, ⟨57, _⟩ => ⟨S4224x1024, .f32⟩
  | .hbm, ⟨58, _⟩ => ⟨S4224x1024, .f32⟩
  | .hbm, ⟨59, _⟩ => ⟨S4224x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4224x1024, .f32⟩
  | .hbm, ⟨64, _⟩ => ⟨S4224x1024, .f32⟩
  | .hbm, ⟨65, _⟩ => ⟨S_, .f32⟩
  | .hbm, ⟨66, _⟩ => ⟨S1024, .f32⟩
  | .hbm, ⟨67, _⟩ => ⟨S4224x1024, .f32⟩
  | .hbm, ⟨68, _⟩ => ⟨S_, .f32⟩
  | .hbm, ⟨69, _⟩ => ⟨S4224, .f32⟩
  | .hbm, ⟨70, _⟩ => ⟨S4224x1, .f32⟩
  | .hbm, ⟨71, _⟩ => ⟨S4224x1024, .f32⟩
  | .hbm, ⟨72, _⟩ => ⟨S4224x1024, .f32⟩
  | .hbm, ⟨73, _⟩ => ⟨S4224x1024, .f32⟩
  | .hbm, ⟨74, _⟩ => ⟨S4224x1, .f32⟩
  | .hbm, ⟨75, _⟩ => ⟨S_, .f32⟩
  | .hbm, ⟨76, _⟩ => ⟨S4224x1, .f32⟩
  | .hbm, ⟨77, _⟩ => ⟨S4224x1, .f32⟩
  | .hbm, ⟨78, _⟩ => ⟨S_, .f32⟩
  | .hbm, ⟨79, _⟩ => ⟨S4224, .f32⟩
  | .hbm, ⟨80, _⟩ => ⟨S4224x1024, .f32⟩
  | .hbm, ⟨81, _⟩ => ⟨S4224x1024, .f32⟩
  | .hbm, ⟨82, _⟩ => ⟨S4224x1024, .f32⟩
  | .hbm, ⟨83, _⟩ => ⟨S4224x1024, .f32⟩
  | .hbm, ⟨84, _⟩ => ⟨S4224x1024, .f32⟩
  | .hbm, ⟨85, _⟩ => ⟨S1x1024, .f32⟩
  | .hbm, ⟨86, _⟩ => ⟨S4224x2816, .bf16⟩
  | .hbm, ⟨87, _⟩ => ⟨S4224x2816, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v22_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v22_1 : Ref sig .tc := ⟨.hbm, 43, rfl⟩
abbrev main_v22_0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_4 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== DownWeight.lean ====
abbrev S4224x2816 : Shape := ⟨2, ![4224, 2816]⟩
abbrev S4224x1024 : Shape := ⟨2, ![4224, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .f32⟩
  | .local _ .vmem, ⟨3, _⟩ => ⟨S1408x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond2 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownWeightRefIdeal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S_, .f32⟩
  | .hbm, ⟨3, _⟩ => ⟨S2816x1024, .f32⟩
  | .hbm, ⟨4, _⟩ => ⟨S4224x2816, .f32⟩
  | .hbm, ⟨5, _⟩ => ⟨S4224x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateWeight.lean ====
abbrev S4224x2816 : Shape := ⟨2, ![4224, 2816]⟩
abbrev S4224x1024 : Shape := ⟨2, ![4224, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond2 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateWeightRefIdeal.lean ====
abbrev S4224x2816 : Shape := ⟨2, ![4224, 2816]⟩
abbrev S4224x1024 : Shape := ⟨2, ![4224, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S_, .f32⟩
  | .hbm, ⟨3, _⟩ => ⟨S1024x2816, .f32⟩
  | .hbm, ⟨4, _⟩ => ⟨S4224x1024, .f32⟩
  | .hbm, ⟨5, _⟩ => ⟨S4224x2816, .f32⟩
  | .hbm, ⟨6, _⟩ => ⟨S4224x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Hidden.lean ====
abbrev S4224x1024 : Shape := ⟨2, ![4224, 1024]⟩
abbrev S1024x2816 : Shape := ⟨2, ![1024, 2816]⟩
abbrev S2816x1024 : Shape := ⟨2, ![2816, 1024]⟩
abbrev S4224x2816 : Shape := ⟨2, ![4224, 2816]⟩
abbrev S384x1024 : Shape := ⟨2, ![384, 1024]⟩
abbrev S384x2816 : Shape := ⟨2, ![384, 2816]⟩

abbrev nBuf : Space → Nat
  | .hbm => 8
  | .vmem => 10
  | .smem => 0
  | _ => 0

abbrev bufTy : (tb : Table) → Fin (tcTables nBuf tb) → BufTy
  | .hbm, ⟨0, _⟩ => ⟨S4224x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S2816x1024, .bf16⟩
  | .hbm, ⟨5, _⟩ => ⟨S4224x2816, .bf16⟩
  | .hbm, ⟨6, _⟩ => ⟨S4224x2816, .bf16⟩
  | .hbm, ⟨7, _⟩ => ⟨S4224x2816, .bf16⟩
  | .local _ .vmem, ⟨0, _⟩ => ⟨S384x1024, .bf16⟩
  | .local _ .vmem, ⟨1, _⟩ => ⟨S384x1024, .bf16⟩
  | .local _ .vmem, ⟨2, _⟩ => ⟨S2816x1024, .bf16⟩
  | .local _ .vmem, ⟨3, _⟩ => ⟨S2816x1024, .bf16⟩
  | .local _ .vmem, ⟨4, _⟩ => ⟨S384x2816, .bf16⟩
  | .local _ .vmem, ⟨5, _⟩ => ⟨S384x2816, .bf16⟩
  | .local _ .vmem, ⟨6, _⟩ => ⟨S384x2816, .bf16⟩
  | .local _ .vmem, ⟨7, _⟩ => ⟨S384x2816, .bf16⟩
  | .local _ .vmem, ⟨8, _⟩ => ⟨S384x2816, .bf16⟩
  | .local _ .vmem, ⟨9, _⟩ => ⟨S384x2816, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HiddenRefIdeal.lean ====
abbrev S4224x1024 : Shape := ⟨2, ![4224, 1024]⟩
abbrev S1024x2816 : Shape := ⟨2, ![1024, 2816]⟩
abbrev S4224x2816 : Shape := ⟨2, ![4224, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x2816, .bf16⟩
  | .hbm, ⟨2, _⟩ => ⟨S1024x2816, .bf16⟩
  | .hbm, ⟨3, _⟩ => ⟨S4224x1024, .f32⟩
  | .hbm, ⟨4, _⟩ => ⟨S1024x2816, .f32⟩
  | .hbm, ⟨5, _⟩ => ⟨S1024x2816, .f32⟩
  | .hbm, ⟨6, _⟩ => ⟨S4224x2816, .f32⟩
  | .hbm, ⟨7, _⟩ => ⟨S4224x2816, .f32⟩
  | .hbm, ⟨8, _⟩ => ⟨S4224x2816, .bf16⟩
  | .hbm, ⟨9, _⟩ => ⟨S4224x2816, .bf16⟩
  | .hbm, ⟨10, _⟩ => ⟨S4224x2816, .f32⟩
  | .hbm, ⟨11, _⟩ => ⟨S4224x2816, .f32⟩
  | .hbm, ⟨12, _⟩ => ⟨S_, .f32⟩
  | .hbm, ⟨13, _⟩ => ⟨S4224x2816, .f32⟩
  | .hbm, ⟨14, _⟩ => ⟨S4224x2816, .f32⟩
  | .hbm, ⟨15, _⟩ => ⟨S_, .f32⟩
  | .hbm, ⟨16, _⟩ => ⟨S4224x2816, .f32⟩
  | .hbm, ⟨17, _⟩ => ⟨S4224x2816, .f32⟩
  | .hbm, ⟨18, _⟩ => ⟨S4224x2816, .f32⟩
  | .hbm, ⟨19, _⟩ => ⟨S4224x2816, .f32⟩
  | .hbm, ⟨20, _⟩ => ⟨S4224x2816, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Branches.lean ====
abbrev S4224x512 : Shape := ⟨2, ![4224, 512]⟩
abbrev S512x1024 : Shape := ⟨2, ![512, 1024]⟩
abbrev S4224x2048 : Shape := ⟨2, ![4224, 2048]⟩
abbrev S1024x512 : Shape := ⟨2, ![1024, 512]⟩
abbrev S4224x1024 : Shape := ⟨2, ![4224, 1024]⟩
abbrev S704x512 : Shape := ⟨2, ![704, 512]⟩
abbrev S704x2048 : Shape := ⟨2, ![704, 2048]⟩
abbrev S704x1024 : Shape := ⟨2, ![704, 1024]⟩

abbrev nBuf : Space → Nat
  | .hbm => 10
  | .vmem => 14
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S512x1024, .bf16⟩
  | .hbm, ⟨3, _⟩ => ⟨S512x1024, .bf16⟩
  | .hbm, ⟨4, _⟩ => ⟨S4224x2048, .bf16⟩
  | .hbm, ⟨5, _⟩ => ⟨S1024x512, .bf16⟩
  | .hbm, ⟨6, _⟩ => ⟨S1024x512, .bf16⟩
  | .hbm, ⟨7, _⟩ => ⟨S4224x1024, .bf16⟩
  | .hbm, ⟨8, _⟩ => ⟨S4224x1024, .bf16⟩
  | .hbm, ⟨9, _⟩ => ⟨S4224x1024, .bf16⟩
  | .local _ .vmem, ⟨0, _⟩ => ⟨S704x512, .bf16⟩
  | .local _ .vmem, ⟨1, _⟩ => ⟨S704x512, .bf16⟩
  | .local _ .vmem, ⟨2, _⟩ => ⟨S704x512, .bf16⟩
  | .local _ .vmem, ⟨3, _⟩ => ⟨S704x512, .bf16⟩
  | .local _ .vmem, ⟨4, _⟩ => ⟨S1024x512, .bf16⟩
  | .local _ .vmem, ⟨5, _⟩ => ⟨S1024x512, .bf16⟩
  | .local _ .vmem, ⟨6, _⟩ => ⟨S704x2048, .bf16⟩
  | .local _ .vmem, ⟨7, _⟩ => ⟨S704x2048, .bf16⟩
  | .local _ .vmem, ⟨8, _⟩ => ⟨S704x1024, .bf16⟩
  | .local _ .vmem, ⟨9, _⟩ => ⟨S704x1024, .bf16⟩
  | .local _ .vmem, ⟨10, _⟩ => ⟨S704x1024, .bf16⟩
  | .local _ .vmem, ⟨11, _⟩ => ⟨S704x1024, .bf16⟩
  | .local _ .vmem, ⟨12, _⟩ => ⟨S704x1024, .bf16⟩
  | .local _ .vmem, ⟨13, _⟩ => ⟨S704x1024, .bf16⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S704x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BranchesRefIdeal.lean ====
abbrev S4224x512 : Shape := ⟨2, ![4224, 512]⟩
abbrev S512x1024 : Shape := ⟨2, ![512, 1024]⟩
abbrev S4224x2048 : Shape := ⟨2, ![4224, 2048]⟩
abbrev S_ : Shape := ⟨0, ![]⟩
abbrev S4224x1024 : Shape := ⟨2, ![4224, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S512x1024, .bf16⟩
  | .hbm, ⟨3, _⟩ => ⟨S512x1024, .bf16⟩
  | .hbm, ⟨4, _⟩ => ⟨S4224x2048, .bf16⟩
  | .hbm, ⟨5, _⟩ => ⟨S4224x512, .f32⟩
  | .hbm, ⟨6, _⟩ => ⟨S4224x512, .f32⟩
  | .hbm, ⟨7, _⟩ => ⟨S512x1024, .f32⟩
  | .hbm, ⟨8, _⟩ => ⟨S512x1024, .f32⟩
  | .hbm, ⟨9, _⟩ => ⟨S4224x2048, .f32⟩
  | .hbm, ⟨10, _⟩ => ⟨S4224x2048, .f32⟩
  | .hbm, ⟨11, _⟩ => ⟨S4224x2048, .f32⟩
  | .hbm, ⟨12, _⟩ => ⟨S_, .f32⟩
  | .hbm, ⟨13, _⟩ => ⟨S4224x2048, .f32⟩
  | .hbm, ⟨14, _⟩ => ⟨S4224x2048, .f32⟩
  | .hbm, ⟨15, _⟩ => ⟨S_, .f32⟩
  | .hbm, ⟨16, _⟩ => ⟨S4224x2048, .f32⟩
  | .hbm, ⟨17, _⟩ => ⟨S4224x2048, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S4224x1024, .bf16⟩
  | .hbm, ⟨26, _⟩ => ⟨S4224x1024, .bf16⟩
  | .hbm, ⟨27, _⟩ => ⟨S4224x1024, .bf16⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Residual.lean ====
abbrev S4224x1024 : Shape := ⟨2, ![4224, 1024]⟩
abbrev S1024x1024 : Shape := ⟨2, ![1024, 1024]⟩
abbrev S1x1024 : Shape := ⟨2, ![1, 1024]⟩
abbrev S704x1024 : Shape := ⟨2, ![704, 1024]⟩
abbrev S704 : Shape := ⟨1, ![704]⟩
abbrev S704x1 : Shape := ⟨2, ![704, 1]⟩

abbrev nBuf : Space → Nat
  | .hbm => 6
  | .vmem => 10
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .bf16⟩
  | .local _ .vmem, ⟨0, _⟩ => ⟨S704x1024, .bf16⟩
  | .local _ .vmem, ⟨1, _⟩ => ⟨S704x1024, .bf16⟩
  | .local _ .vmem, ⟨2, _⟩ => ⟨S1024x1024, .bf16⟩
  | .local _ .vmem, ⟨3, _⟩ => ⟨S704x1024, .f32⟩
  | .local _ .vmem, ⟨4, _⟩ => ⟨S704x1024, .f32⟩
  | .local _ .vmem, ⟨5, _⟩ => ⟨S1x1024, .f32⟩
  | .local _ .vmem, ⟨6, _⟩ => ⟨S704x1024, .f32⟩
  | .local _ .vmem, ⟨7, _⟩ => ⟨S704x1024, .f32⟩
  | .local _ .vmem, ⟨8, _⟩ => ⟨S704x1024, .bf16⟩
  | .local _ .vmem, ⟨9, _⟩ => ⟨S704x1024, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidualRefIdeal.lean ====
abbrev S4224x1024 : Shape := ⟨2, ![4224, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4224 : Shape := ⟨1, ![4224]⟩
abbrev S4224x1 : Shape := ⟨2, ![4224, 1]⟩

abbrev nBuf : Space → Nat
  | .hbm => 26
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S1024x1024, .f32⟩
  | .hbm, ⟨6, _⟩ => ⟨S4224x1024, .f32⟩
  | .hbm, ⟨7, _⟩ => ⟨S4224x1024, .f32⟩
  | .hbm, ⟨8, _⟩ => ⟨S1024, .f32⟩
  | .hbm, ⟨9, _⟩ => ⟨S4224x1024, .f32⟩
  | .hbm, ⟨10, _⟩ => ⟨S_, .f32⟩
  | .hbm, ⟨11, _⟩ => ⟨S4224, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S1x1024, .f32⟩
  | .hbm, ⟨23, _⟩ => ⟨S4224x1024, .f32⟩
  | .hbm, ⟨24, _⟩ => ⟨S4224x1024, .f32⟩
  | .hbm, ⟨25, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutWeight.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .f32⟩
  | .hbm, ⟨2, _⟩ => ⟨S1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .f32⟩
  | .local _ .vmem, ⟨3, _⟩ => ⟨S1408x1024, .f32⟩
  | .local _ .vmem, ⟨4, _⟩ => ⟨S1024x1024, .bf16⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 3], ![false, false]⟩

def k0_cond2 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OutWeightRefIdeal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .f32⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S4224x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchWeight.lean ====
abbrev S4224x1024 : Shape := ⟨2, ![4224, 1024]⟩
abbrev S4224x512 : Shape := ⟨2, ![4224, 512]⟩
abbrev S1024x512 : Shape := ⟨2, ![1024, 512]⟩
abbrev S1408x1024 : Shape := ⟨2, ![1408, 1024]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x512, .bf16⟩
  | .hbm, ⟨2, _⟩ => ⟨S1024x512, .bf16⟩
  | .local _ .vmem, ⟨0, _⟩ => ⟨S1408x1024, .bf16⟩
  | .local _ .vmem, ⟨1, _⟩ => ⟨S1408x1024, .bf16⟩
  | .local _ .vmem, ⟨2, _⟩ => ⟨S1408x512, .bf16⟩
  | .local _ .vmem, ⟨3, _⟩ => ⟨S1408x512, .bf16⟩
  | .local _ .vmem, ⟨4, _⟩ => ⟨S1024x512, .bf16⟩
  | .local _ .vmem, ⟨5, _⟩ => ⟨S1024x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 3], ![false, false]⟩

def k0_cond2 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== BranchWeightRefIdeal.lean ====
abbrev S4224x1024 : Shape := ⟨2, ![4224, 1024]⟩
abbrev S4224x512 : Shape := ⟨2, ![4224, 512]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x512, .bf16⟩
  | .hbm, ⟨2, _⟩ => ⟨S_, .f32⟩
  | .hbm, ⟨3, _⟩ => ⟨S512x1024, .f32⟩
  | .hbm, ⟨4, _⟩ => ⟨S4224x512, .f32⟩
  | .hbm, ⟨5, _⟩ => ⟨S4224x1024, .f32⟩
  | .hbm, ⟨6, _⟩ => ⟨S4224x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Input.lean ====
abbrev S4224x768 : Shape := ⟨2, ![4224, 768]⟩
abbrev S4224x1536 : Shape := ⟨2, ![4224, 1536]⟩
abbrev S4224x288 : Shape := ⟨2, ![4224, 288]⟩
abbrev S4224x2048 : Shape := ⟨2, ![4224, 2048]⟩
abbrev S1024x4640 : Shape := ⟨2, ![1024, 4640]⟩
abbrev S4640x1024 : Shape := ⟨2, ![4640, 1024]⟩
abbrev S4640x2x512 : Shape := ⟨3, ![4640, 2, 512]⟩
abbrev S2x4640x512 : Shape := ⟨3, ![2, 4640, 512]⟩
abbrev S4224x1024 : Shape := ⟨2, ![4224, 1024]⟩
abbrev S704x768 : Shape := ⟨2, ![704, 768]⟩
abbrev S704x1536 : Shape := ⟨2, ![704, 1536]⟩
abbrev S704x288 : Shape := ⟨2, ![704, 288]⟩
abbrev S704x2048 : Shape := ⟨2, ![704, 2048]⟩
abbrev S704x1024 : Shape := ⟨2, ![704, 1024]⟩
abbrev S1x768x512 : Shape := ⟨3, ![1, 768, 512]⟩
abbrev S768x512 : Shape := ⟨2, ![768, 512]⟩
abbrev S704x512 : Shape := ⟨2, ![704, 512]⟩
abbrev S1x1536x512 : Shape := ⟨3, ![1, 1536, 512]⟩
abbrev S1536x512 : Shape := ⟨2, ![1536, 512]⟩
abbrev S1x288x512 : Shape := ⟨3, ![1, 288, 512]⟩
abbrev S288x512 : Shape := ⟨2, ![288, 512]⟩
abbrev S1x2048x512 : Shape := ⟨3, ![1, 2048, 512]⟩
abbrev S2048x512 : Shape := ⟨2, ![2048, 512]⟩

abbrev nBuf : Space → Nat
  | .hbm => 9
  | .vmem => 11
  | .smem => 0
  | _ => 0

abbrev bufTy : (tb : Table) → Fin (tcTables nBuf tb) → BufTy
  | .hbm, ⟨0, _⟩ => ⟨S4224x768, .bf16⟩
  | .hbm, ⟨1, _⟩ => ⟨S4224x1536, .bf16⟩
  | .hbm, ⟨2, _⟩ => ⟨S4224x288, .bf16⟩
  | .hbm, ⟨3, _⟩ => ⟨S4224x2048, .bf16⟩
  | .hbm, ⟨4, _⟩ => ⟨S1024x4640, .bf16⟩
  | .hbm, ⟨5, _⟩ => ⟨S4640x1024, .bf16⟩
  | .hbm, ⟨6, _⟩ => ⟨S4640x2x512, .bf16⟩
  | .hbm, ⟨7, _⟩ => ⟨S2x4640x512, .bf16⟩
  | .hbm, ⟨8, _⟩ => ⟨S4224x1024, .bf16⟩
  | .local _ .vmem, ⟨0, _⟩ => ⟨S704x768, .bf16⟩
  | .local _ .vmem, ⟨1, _⟩ => ⟨S704x768, .bf16⟩
  | .local _ .vmem, ⟨2, _⟩ => ⟨S704x1536, .bf16⟩
  | .local _ .vmem, ⟨3, _⟩ => ⟨S704x1536, .bf16⟩
  | .local _ .vmem, ⟨4, _⟩ => ⟨S704x288, .bf16⟩
  | .local _ .vmem, ⟨5, _⟩ => ⟨S704x288, .bf16⟩
  | .local _ .vmem, ⟨6, _⟩ => ⟨S704x2048, .bf16⟩
  | .local _ .vmem, ⟨7, _⟩ => ⟨S704x2048, .bf16⟩
  | .local _ .vmem, ⟨8, _⟩ => ⟨S2x4640x512, .bf16⟩
  | .local _ .vmem, ⟨9, _⟩ => ⟨S704x1024, .bf16⟩
  | .local _ .vmem, ⟨10, _⟩ => ⟨S704x1024, .bf16⟩
  | _, _ => ⟨S4224x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x288 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x4640x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InputRefIdeal.lean ====
abbrev S4224x768 : Shape := ⟨2, ![4224, 768]⟩
abbrev S4224x1536 : Shape := ⟨2, ![4224, 1536]⟩
abbrev S4224x288 : Shape := ⟨2, ![4224, 288]⟩
abbrev S4224x2048 : Shape := ⟨2, ![4224, 2048]⟩
abbrev S1024x4640 : Shape := ⟨2, ![1024, 4640]⟩
abbrev S4224x4640 : Shape := ⟨2, ![4224, 4640]⟩
abbrev S_ : Shape := ⟨0, ![]⟩
abbrev S4224x1024 : Shape := ⟨2, ![4224, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4224x768, .bf16⟩
  | .hbm, ⟨1, _⟩ => ⟨S4224x1536, .bf16⟩
  | .hbm, ⟨2, _⟩ => ⟨S4224x288, .bf16⟩
  | .hbm, ⟨3, _⟩ => ⟨S4224x2048, .bf16⟩
  | .hbm, ⟨4, _⟩ => ⟨S1024x4640, .bf16⟩
  | .hbm, ⟨5, _⟩ => ⟨S4224x4640, .bf16⟩
  | .hbm, ⟨6, _⟩ => ⟨S4224x4640, .f32⟩
  | .hbm, ⟨7, _⟩ => ⟨S_, .f32⟩
  | .hbm, ⟨8, _⟩ => ⟨S4224x1024, .f32⟩
  | .hbm, ⟨9, _⟩ => ⟨S1024x4640, .f32⟩
  | .hbm, ⟨10, _⟩ => ⟨S4224x4640, .f32⟩
  | .hbm, ⟨11, _⟩ => ⟨S4224x1024, .f32⟩
  | .hbm, ⟨12, _⟩ => ⟨S4224x1024, .bf16⟩
  | _, _ => ⟨S4224x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Loss.lean ====
abbrev S4224x2816 : Shape := ⟨2, ![4224, 2816]⟩
abbrev S2816x1024 : Shape := ⟨2, ![2816, 1024]⟩
abbrev S4224x1024 : Shape := ⟨2, ![4224, 1024]⟩
abbrev S4096x1024 : Shape := ⟨2, ![4096, 1024]⟩
abbrev S1x1024 : Shape := ⟨2, ![1, 1024]⟩
abbrev S8x128 : Shape := ⟨2, ![8, 128]⟩
abbrev S384x2816 : Shape := ⟨2, ![384, 2816]⟩
abbrev S384x1024 : Shape := ⟨2, ![384, 1024]⟩
abbrev S128x1024 : Shape := ⟨2, ![128, 1024]⟩
abbrev S128x1 : Shape := ⟨2, ![128, 1]⟩
abbrev S128x2816 : Shape := ⟨2, ![128, 2816]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S1024 : Shape := ⟨1, ![1024]⟩

abbrev nBuf : Space → Nat
  | .hbm => 8
  | .vmem => 16
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4096x1024, .f32⟩
  | .hbm, ⟨4, _⟩ => ⟨S1x1024, .f32⟩
  | .hbm, ⟨5, _⟩ => ⟨S8x128, .f32⟩
  | .hbm, ⟨6, _⟩ => ⟨S4224x1024, .f32⟩
  | .hbm, ⟨7, _⟩ => ⟨S1x1024, .f32⟩
  | .local _ .vmem, ⟨0, _⟩ => ⟨S384x2816, .bf16⟩
  | .local _ .vmem, ⟨1, _⟩ => ⟨S384x2816, .bf16⟩
  | .local _ .vmem, ⟨2, _⟩ => ⟨S2816x1024, .bf16⟩
  | .local _ .vmem, ⟨3, _⟩ => ⟨S384x1024, .f32⟩
  | .local _ .vmem, ⟨4, _⟩ => ⟨S384x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S1x1024, .f32⟩
  | .local _ .vmem, ⟨12, _⟩ => ⟨S8x128, .f32⟩
  | .local _ .vmem, ⟨13, _⟩ => ⟨S384x1024, .f32⟩
  | .local _ .vmem, ⟨14, _⟩ => ⟨S384x1024, .f32⟩
  | .local _ .vmem, ⟨15, _⟩ => ⟨S1x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.muli c3_i32 arg0
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let c0_i32_1 : BitVec 32 := 0#32
  ![v2.toNat, c0_i32.toNat]

def cc0_transform_5 (i : grid0.Coords) : Fin 2 → Nat :=
  let arg0 : BitVec 32 := BitVec.ofNat 32 (i 0).val
  let c3_i32 : BitVec 32 := 3#32
  let v0 : BitVec 32 := Scalar.muli c3_i32 arg0
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S4224x2816 : Shape := ⟨2, ![4224, 2816]⟩
abbrev S2816x1024 : Shape := ⟨2, ![2816, 1024]⟩
abbrev S4224x1024 : Shape := ⟨2, ![4224, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 82
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4096x1024, .f32⟩
  | .hbm, ⟨4, _⟩ => ⟨S1x1024, .f32⟩
  | .hbm, ⟨5, _⟩ => ⟨S4224x2816, .f32⟩
  | .hbm, ⟨6, _⟩ => ⟨S2816x1024, .f32⟩
  | .hbm, ⟨7, _⟩ => ⟨S4224x1024, .f32⟩
  | .hbm, ⟨8, _⟩ => ⟨S4224x1024, .f32⟩
  | .hbm, ⟨9, _⟩ => ⟨S4096x1024, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S_, .f32⟩
  | .hbm, ⟨80, _⟩ => ⟨S4224x1024, .f32⟩
  | .hbm, ⟨81, _⟩ => ⟨S8x128, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_cst_14 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== GatesWeight.lean ====
abbrev S4224x2048 : Shape := ⟨2, ![4224, 2048]⟩
abbrev S4224x1024 : Shape := ⟨2, ![4224, 1024]⟩
abbrev S2048x1024 : Shape := ⟨2, ![2048, 1024]⟩
abbrev S1x2048 : Shape := ⟨2, ![1, 2048]⟩
abbrev S1408x1024 : Shape := ⟨2, ![1408, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S2048x1024, .bf16⟩
  | .hbm, ⟨3, _⟩ => ⟨S1x2048, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 3], ![false, false]⟩

def k0_cond2 (i : grid0.Coords) : BitVec 1 :=
  let arg1 : BitVec 32 := BitVec.ofNat 32 (i 1).val
  let c2_i32 : BitVec 32 := 2#32
  let v19 : BitVec 1 := Scalar.cmpi .eq arg1 c2_i32
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GatesWeightRefIdeal.lean ====
abbrev S4224x2048 : Shape := ⟨2, ![4224, 2048]⟩
abbrev S4224x1024 : Shape := ⟨2, ![4224, 1024]⟩
abbrev S_ : Shape := ⟨0, ![]⟩
abbrev S1024x2048 : Shape := ⟨2, ![1024, 2048]⟩
abbrev S2048 : Shape := ⟨1, ![2048]⟩
abbrev S1x2048 : Shape := ⟨2, ![1, 2048]⟩
abbrev S2048x1024 : Shape := ⟨2, ![2048, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S_, .f32⟩
  | .hbm, ⟨3, _⟩ => ⟨S1024x2048, .f32⟩
  | .hbm, ⟨4, _⟩ => ⟨S_, .f32⟩
  | .hbm, ⟨5, _⟩ => ⟨S2048, .f32⟩
  | .hbm, ⟨6, _⟩ => ⟨S4224x1024, .f32⟩
  | .hbm, ⟨7, _⟩ => ⟨S4224x2048, .f32⟩
  | .hbm, ⟨8, _⟩ => ⟨S1x2048, .f32⟩
  | .hbm, ⟨9, _⟩ => ⟨S4224x2048, .f32⟩
  | .hbm, ⟨10, _⟩ => ⟨S4224x2048, .f32⟩
  | .hbm, ⟨11, _⟩ => ⟨S4224x2048, .f32⟩
  | .hbm, ⟨12, _⟩ => ⟨S_, .f32⟩
  | .hbm, ⟨13, _⟩ => ⟨S2048, .f32⟩
  | .hbm, ⟨14, _⟩ => ⟨S1x2048, .f32⟩
  | .hbm, ⟨15, _⟩ => ⟨S_, .f32⟩
  | .hbm, ⟨16, _⟩ => ⟨S2048, .f32⟩
  | .hbm, ⟨17, _⟩ => ⟨S2048x1024, .f32⟩
  | .hbm, ⟨18, _⟩ => ⟨S1024x2048, .f32⟩
  | .hbm, ⟨19, _⟩ => ⟨S2048x1024, .f32⟩
  | .hbm, ⟨20, _⟩ => ⟨S2048x1024, .bf16⟩
  | .hbm, ⟨21, _⟩ => ⟨S1x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== RkvWeight.lean ====
abbrev S4224x1536 : Shape := ⟨2, ![4224, 1536]⟩
abbrev S4224x1024 : Shape := ⟨2, ![4224, 1024]⟩
abbrev S4640x1024 : Shape := ⟨2, ![4640, 1024]⟩
abbrev S1x1536 : Shape := ⟨2, ![1, 1536]⟩
abbrev S1408x768 : Shape := ⟨2, ![1408, 768]⟩
abbrev S1408x1024 : Shape := ⟨2, ![1408, 1024]⟩
abbrev S768x1024 : Shape := ⟨2, ![768, 1024]⟩
abbrev S1x768 : Shape := ⟨2, ![1, 768]⟩
abbrev S768 : Shape := ⟨1, ![768]⟩

abbrev nBuf : Space → Nat
  | .hbm => 5
  | .vmem => 9
  | .smem => 0
  | _ => 0

abbrev bufTy : (tb : Table) → Fin (tcTables nBuf tb) → BufTy
  | .hbm, ⟨0, _⟩ => ⟨S4224x1536, .bf16⟩
  | .hbm, ⟨1, _⟩ => ⟨S4224x1024, .bf16⟩
  | .hbm, ⟨2, _⟩ => ⟨S4640x1024, .bf16⟩
  | .hbm, ⟨3, _⟩ => ⟨S4640x1024, .bf16⟩
  | .hbm, ⟨4, _⟩ => ⟨S1x1536, .f32⟩
  | .local _ .vmem, ⟨0, _⟩ => ⟨S1408x768, .bf16⟩
  | .local _ .vmem, ⟨1, _⟩ => ⟨S1408x768, .bf16⟩
  | .local _ .vmem, ⟨2, _⟩ => ⟨S1408x1024, .bf16⟩
  | .local _ .vmem, ⟨3, _⟩ => ⟨S1408x1024, .bf16⟩
  | .local _ .vmem, ⟨4, _⟩ => ⟨S768x1024, .bf16⟩
  | .local _ .vmem, ⟨5, _⟩ => ⟨S768x1024, .bf16⟩
  | .local _ .vmem, ⟨6, _⟩ => ⟨S1x768, .f32⟩
  | .local _ .vmem, ⟨7, _⟩ => ⟨S1x768, .f32⟩
  | .local _ .vmem, ⟨8, _⟩ => ⟨S768x1024, .f32⟩
  | _, _ => ⟨S4224x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 3], ![false, false]⟩

def k0_cond2 (i : grid0.Coords) : BitVec 1 :=
  let arg1 : BitVec 32 := BitVec.ofNat 32 (i 1).val
  let c2_i32 : BitVec 32 := 2#32
  let v19 : BitVec 1 := Scalar.cmpi .eq arg1 c2_i32
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1408x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RkvWeightRefIdeal.lean ====
abbrev S4224x1536 : Shape := ⟨2, ![4224, 1536]⟩
abbrev S4224x1024 : Shape := ⟨2, ![4224, 1024]⟩
abbrev S4640x1024 : Shape := ⟨2, ![4640, 1024]⟩
abbrev S_ : Shape := ⟨0, ![]⟩
abbrev S1024x1536 : Shape := ⟨2, ![1024, 1536]⟩
abbrev S1536 : Shape := ⟨1, ![1536]⟩
abbrev S1x1536 : Shape := ⟨2, ![1, 1536]⟩
abbrev S1536x1024 : Shape := ⟨2, ![1536, 1024]⟩
abbrev S768x1024 : Shape := ⟨2, ![768, 1024]⟩
abbrev S2336x1024 : Shape := ⟨2, ![2336, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4224x1536, .bf16⟩
  | .hbm, ⟨1, _⟩ => ⟨S4224x1024, .bf16⟩
  | .hbm, ⟨2, _⟩ => ⟨S4640x1024, .bf16⟩
  | .hbm, ⟨3, _⟩ => ⟨S_, .f32⟩
  | .hbm, ⟨4, _⟩ => ⟨S1024x1536, .f32⟩
  | .hbm, ⟨5, _⟩ => ⟨S_, .f32⟩
  | .hbm, ⟨6, _⟩ => ⟨S1536, .f32⟩
  | .hbm, ⟨7, _⟩ => ⟨S4224x1024, .f32⟩
  | .hbm, ⟨8, _⟩ => ⟨S4224x1536, .f32⟩
  | .hbm, ⟨9, _⟩ => ⟨S1x1536, .f32⟩
  | .hbm, ⟨10, _⟩ => ⟨S4224x1536, .f32⟩
  | .hbm, ⟨11, _⟩ => ⟨S4224x1536, .f32⟩
  | .hbm, ⟨12, _⟩ => ⟨S4224x1536, .f32⟩
  | .hbm, ⟨13, _⟩ => ⟨S_, .f32⟩
  | .hbm, ⟨14, _⟩ => ⟨S1536, .f32⟩
  | .hbm, ⟨15, _⟩ => ⟨S1x1536, .f32⟩
  | .hbm, ⟨16, _⟩ => ⟨S_, .f32⟩
  | .hbm, ⟨17, _⟩ => ⟨S1536, .f32⟩
  | .hbm, ⟨18, _⟩ => ⟨S1536x1024, .f32⟩
  | .hbm, ⟨19, _⟩ => ⟨S1024x1536, .f32⟩
  | .hbm, ⟨20, _⟩ => ⟨S768x1024, .bf16⟩
  | .hbm, ⟨21, _⟩ => ⟨S1536x1024, .f32⟩
  | .hbm, ⟨22, _⟩ => ⟨S1536x1024, .bf16⟩
  | .hbm, ⟨23, _⟩ => ⟨S2336x1024, .bf16⟩
  | .hbm, ⟨24, _⟩ => ⟨S4640x1024, .bf16⟩
  | .hbm, ⟨25, _⟩ => ⟨S1x1536, .f32⟩
  | _, _ => ⟨S4224x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== LoraWeight.lean ====
abbrev S4224x288 : Shape := ⟨2, ![4224, 288]⟩
abbrev S4224x1024 : Shape := ⟨2, ![4224, 1024]⟩
abbrev S4640x1024 : Shape := ⟨2, ![4640, 1024]⟩
abbrev S1x288 : Shape := ⟨2, ![1, 288]⟩
abbrev S1408x288 : Shape := ⟨2, ![1408, 288]⟩
abbrev S1408x1024 : Shape := ⟨2, ![1408, 1024]⟩
abbrev S288x1024 : Shape := ⟨2, ![288, 1024]⟩
abbrev S288 : Shape := ⟨1, ![288]⟩

abbrev nBuf : Space → Nat
  | .hbm => 5
  | .vmem => 7
  | .smem => 0
  | _ => 0

abbrev bufTy : (tb : Table) → Fin (tcTables nBuf tb) → BufTy
  | .hbm, ⟨0, _⟩ => ⟨S4224x288, .bf16⟩
  | .hbm, ⟨1, _⟩ => ⟨S4224x1024, .bf16⟩
  | .hbm, ⟨2, _⟩ => ⟨S4640x1024, .bf16⟩
  | .hbm, ⟨3, _⟩ => ⟨S4640x1024, .bf16⟩
  | .hbm, ⟨4, _⟩ => ⟨S1x288, .f32⟩
  | .local _ .vmem, ⟨0, _⟩ => ⟨S1408x288, .bf16⟩
  | .local _ .vmem, ⟨1, _⟩ => ⟨S1408x288, .bf16⟩
  | .local _ .vmem, ⟨2, _⟩ => ⟨S1408x1024, .bf16⟩
  | .local _ .vmem, ⟨3, _⟩ => ⟨S1408x1024, .bf16⟩
  | .local _ .vmem, ⟨4, _⟩ => ⟨S288x1024, .bf16⟩
  | .local _ .vmem, ⟨5, _⟩ => ⟨S1x288, .f32⟩
  | .local _ .vmem, ⟨6, _⟩ => ⟨S288x1024, .f32⟩
  | _, _ => ⟨S4224x288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 3], ![false, false]⟩

def k0_cond2 (i : grid0.Coords) : BitVec 1 :=
  let arg1 : BitVec 32 := BitVec.ofNat 32 (i 1).val
  let c2_i32 : BitVec 32 := 2#32
  let v19 : BitVec 1 := Scalar.cmpi .eq arg1 c2_i32
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1408x288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S288x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== LoraWeightRefIdeal.lean ====
abbrev S4224x288 : Shape := ⟨2, ![4224, 288]⟩
abbrev S4224x1024 : Shape := ⟨2, ![4224, 1024]⟩
abbrev S4640x1024 : Shape := ⟨2, ![4640, 1024]⟩
abbrev S_ : Shape := ⟨0, ![]⟩
abbrev S1024x288 : Shape := ⟨2, ![1024, 288]⟩
abbrev S288 : Shape := ⟨1, ![288]⟩
abbrev S1x288 : Shape := ⟨2, ![1, 288]⟩
abbrev S288x1024 : Shape := ⟨2, ![288, 1024]⟩
abbrev S2304x1024 : Shape := ⟨2, ![2304, 1024]⟩
abbrev S2048x1024 : Shape := ⟨2, ![2048, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4224x288, .bf16⟩
  | .hbm, ⟨1, _⟩ => ⟨S4224x1024, .bf16⟩
  | .hbm, ⟨2, _⟩ => ⟨S4640x1024, .bf16⟩
  | .hbm, ⟨3, _⟩ => ⟨S_, .f32⟩
  | .hbm, ⟨4, _⟩ => ⟨S1024x288, .f32⟩
  | .hbm, ⟨5, _⟩ => ⟨S_, .f32⟩
  | .hbm, ⟨6, _⟩ => ⟨S288, .f32⟩
  | .hbm, ⟨7, _⟩ => ⟨S4224x1024, .f32⟩
  | .hbm, ⟨8, _⟩ => ⟨S4224x288, .f32⟩
  | .hbm, ⟨9, _⟩ => ⟨S1x288, .f32⟩
  | .hbm, ⟨10, _⟩ => ⟨S4224x288, .f32⟩
  | .hbm, ⟨11, _⟩ => ⟨S4224x288, .f32⟩
  | .hbm, ⟨12, _⟩ => ⟨S4224x288, .f32⟩
  | .hbm, ⟨13, _⟩ => ⟨S_, .f32⟩
  | .hbm, ⟨14, _⟩ => ⟨S288, .f32⟩
  | .hbm, ⟨15, _⟩ => ⟨S1x288, .f32⟩
  | .hbm, ⟨16, _⟩ => ⟨S_, .f32⟩
  | .hbm, ⟨17, _⟩ => ⟨S288, .f32⟩
  | .hbm, ⟨18, _⟩ => ⟨S288x1024, .f32⟩
  | .hbm, ⟨19, _⟩ => ⟨S1024x288, .f32⟩
  | .hbm, ⟨20, _⟩ => ⟨S2304x1024, .bf16⟩
  | .hbm, ⟨21, _⟩ => ⟨S288x1024, .f32⟩
  | .hbm, ⟨22, _⟩ => ⟨S288x1024, .bf16⟩
  | .hbm, ⟨23, _⟩ => ⟨S2048x1024, .bf16⟩
  | .hbm, ⟨24, _⟩ => ⟨S4640x1024, .bf16⟩
  | .hbm, ⟨25, _⟩ => ⟨S1x288, .f32⟩
  | _, _ => ⟨S4224x288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== QkvWeight.lean ====
abbrev S4224x768 : Shape := ⟨2, ![4224, 768]⟩
abbrev S4224x1024 : Shape := ⟨2, ![4224, 1024]⟩
abbrev S4640x1024 : Shape := ⟨2, ![4640, 1024]⟩
abbrev S1x768 : Shape := ⟨2, ![1, 768]⟩
abbrev S1408x768 : Shape := ⟨2, ![1408, 768]⟩
abbrev S1408x1024 : Shape := ⟨2, ![1408, 1024]⟩
abbrev S768x1024 : Shape := ⟨2, ![768, 1024]⟩
abbrev S768 : Shape := ⟨1, ![768]⟩

abbrev nBuf : Space → Nat
  | .hbm => 5
  | .vmem => 7
  | .smem => 0
  | _ => 0

abbrev bufTy : (tb : Table) → Fin (tcTables nBuf tb) → BufTy
  | .hbm, ⟨0, _⟩ => ⟨S4224x768, .bf16⟩
  | .hbm, ⟨1, _⟩ => ⟨S4224x1024, .bf16⟩
  | .hbm, ⟨2, _⟩ => ⟨S4640x1024, .bf16⟩
  | .hbm, ⟨3, _⟩ => ⟨S4640x1024, .bf16⟩
  | .hbm, ⟨4, _⟩ => ⟨S1x768, .f32⟩
  | .local _ .vmem, ⟨0, _⟩ => ⟨S1408x768, .bf16⟩
  | .local _ .vmem, ⟨1, _⟩ => ⟨S1408x768, .bf16⟩
  | .local _ .vmem, ⟨2, _⟩ => ⟨S1408x1024, .bf16⟩
  | .local _ .vmem, ⟨3, _⟩ => ⟨S1408x1024, .bf16⟩
  | .local _ .vmem, ⟨4, _⟩ => ⟨S768x1024, .bf16⟩
  | .local _ .vmem, ⟨5, _⟩ => ⟨S1x768, .f32⟩
  | .local _ .vmem, ⟨6, _⟩ => ⟨S768x1024, .f32⟩
  | _, _ => ⟨S4224x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 3], ![false, false]⟩

def k0_cond2 (i : grid0.Coords) : BitVec 1 :=
  let arg1 : BitVec 32 := BitVec.ofNat 32 (i 1).val
  let c2_i32 : BitVec 32 := 2#32
  let v19 : BitVec 1 := Scalar.cmpi .eq arg1 c2_i32
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1408x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== QkvWeightRefIdeal.lean ====
abbrev S4224x768 : Shape := ⟨2, ![4224, 768]⟩
abbrev S4224x1024 : Shape := ⟨2, ![4224, 1024]⟩
abbrev S4640x1024 : Shape := ⟨2, ![4640, 1024]⟩
abbrev S_ : Shape := ⟨0, ![]⟩
abbrev S1024x768 : Shape := ⟨2, ![1024, 768]⟩
abbrev S768 : Shape := ⟨1, ![768]⟩
abbrev S1x768 : Shape := ⟨2, ![1, 768]⟩
abbrev S768x1024 : Shape := ⟨2, ![768, 1024]⟩
abbrev S3872x1024 : Shape := ⟨2, ![3872, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4224x768, .bf16⟩
  | .hbm, ⟨1, _⟩ => ⟨S4224x1024, .bf16⟩
  | .hbm, ⟨2, _⟩ => ⟨S4640x1024, .bf16⟩
  | .hbm, ⟨3, _⟩ => ⟨S_, .f32⟩
  | .hbm, ⟨4, _⟩ => ⟨S1024x768, .f32⟩
  | .hbm, ⟨5, _⟩ => ⟨S_, .f32⟩
  | .hbm, ⟨6, _⟩ => ⟨S768, .f32⟩
  | .hbm, ⟨7, _⟩ => ⟨S4224x1024, .f32⟩
  | .hbm, ⟨8, _⟩ => ⟨S4224x768, .f32⟩
  | .hbm, ⟨9, _⟩ => ⟨S1x768, .f32⟩
  | .hbm, ⟨10, _⟩ => ⟨S4224x768, .f32⟩
  | .hbm, ⟨11, _⟩ => ⟨S4224x768, .f32⟩
  | .hbm, ⟨12, _⟩ => ⟨S4224x768, .f32⟩
  | .hbm, ⟨13, _⟩ => ⟨S_, .f32⟩
  | .hbm, ⟨14, _⟩ => ⟨S768, .f32⟩
  | .hbm, ⟨15, _⟩ => ⟨S1x768, .f32⟩
  | .hbm, ⟨16, _⟩ => ⟨S_, .f32⟩
  | .hbm, ⟨17, _⟩ => ⟨S768, .f32⟩
  | .hbm, ⟨18, _⟩ => ⟨S768x1024, .f32⟩
  | .hbm, ⟨19, _⟩ => ⟨S1024x768, .f32⟩
  | .hbm, ⟨20, _⟩ => ⟨S768x1024, .f32⟩
  | .hbm, ⟨21, _⟩ => ⟨S768x1024, .bf16⟩
  | .hbm, ⟨22, _⟩ => ⟨S3872x1024, .bf16⟩
  | .hbm, ⟨23, _⟩ => ⟨S4640x1024, .bf16⟩
  | .hbm, ⟨24, _⟩ => ⟨S1x768, .f32⟩
  | _, _ => ⟨S4224x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Norm.lean ====
abbrev S4224x1024 : Shape := ⟨2, ![4224, 1024]⟩
abbrev S1x1024 : Shape := ⟨2, ![1, 1024]⟩
abbrev S4096x1024 : Shape := ⟨2, ![4096, 1024]⟩
abbrev S128x1024 : Shape := ⟨2, ![128, 1024]⟩
abbrev S512x1024 : Shape := ⟨2, ![512, 1024]⟩
abbrev S128 : Shape := ⟨1, ![128]⟩
abbrev S128x1 : Shape := ⟨2, ![128, 1]⟩
abbrev S1024 : Shape := ⟨1, ![1024]⟩

abbrev nBuf : Space → Nat
  | .hbm => 7
  | .vmem => 32
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .bf16⟩
  | .hbm, ⟨3, _⟩ => ⟨S4224x1024, .f32⟩
  | .hbm, ⟨4, _⟩ => ⟨S4096x1024, .f32⟩
  | .hbm, ⟨5, _⟩ => ⟨S128x1024, .f32⟩
  | .hbm, ⟨6, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .bf16⟩
  | .local _ .vmem, ⟨26, _⟩ => ⟨S128x1024, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S128x1024, .f32⟩
  | .local _ .vmem, ⟨31, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem16_1 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![v2.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![v2.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![v2.toNat, c0_i32.toNat]

def cc0_transform_10 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== NormRefIdeal.lean ====
abbrev S4224x1024 : Shape := ⟨2, ![4224, 1024]⟩
abbrev S1x1024 : Shape := ⟨2, ![1, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S4096x1024 : Shape := ⟨2, ![4096, 1024]⟩
abbrev S128x1024 : Shape := ⟨2, ![128, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .bf16⟩
  | .hbm, ⟨3, _⟩ => ⟨S4224x1024, .f32⟩
  | .hbm, ⟨4, _⟩ => ⟨S1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S1x1024, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S4224x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4224x1024, .f32⟩
  | .hbm, ⟨31, _⟩ => ⟨S4224x1024, .f32⟩
  | .hbm, ⟨32, _⟩ => ⟨S_, .f32⟩
  | .hbm, ⟨33, _⟩ => ⟨S1024, .f32⟩
  | .hbm, ⟨34, _⟩ => ⟨S4224x1024, .f32⟩
  | .hbm, ⟨35, _⟩ => ⟨S_, .f32⟩
  | .hbm, ⟨36, _⟩ => ⟨S4224, .f32⟩
  | .hbm, ⟨37, _⟩ => ⟨S4224x1, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S4224x1, .f32⟩
  | .hbm, ⟨42, _⟩ => ⟨S_, .f32⟩
  | .hbm, ⟨43, _⟩ => ⟨S4224x1, .f32⟩
  | .hbm, ⟨44, _⟩ => ⟨S4224x1, .f32⟩
  | .hbm, ⟨45, _⟩ => ⟨S_, .f32⟩
  | .hbm, ⟨46, _⟩ => ⟨S4224, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S1x1024, .f32⟩
  | .hbm, ⟨53, _⟩ => ⟨S4096x1024, .f32⟩
  | .hbm, ⟨54, _⟩ => ⟨S128x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== GateStep.lean ====
abbrev S1024x704 : Shape := ⟨2, ![1024, 704]⟩
abbrev S704x1024 : Shape := ⟨2, ![704, 1024]⟩
abbrev S176x1024 : Shape := ⟨2, ![176, 1024]⟩

abbrev nBuf : Space → Nat
  | .hbm => 12
  | .vmem => 18
  | .smem => 0
  | _ => 0

abbrev bufTy : (tb : Table) → Fin (tcTables nBuf tb) → BufTy
  | .hbm, ⟨0, _⟩ => ⟨S1024x704, .f32⟩
  | .hbm, ⟨1, _⟩ => ⟨S704x1024, .f32⟩
  | .hbm, ⟨2, _⟩ => ⟨S704x1024, .f32⟩
  | .hbm, ⟨3, _⟩ => ⟨S1024x704, .f32⟩
  | .hbm, ⟨4, _⟩ => ⟨S1024x704, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateStepRefIdeal.lean ====
abbrev S1024x704 : Shape := ⟨2, ![1024, 704]⟩
abbrev S704x1024 : Shape := ⟨2, ![704, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S704x1024, .f32⟩
  | .hbm, ⟨2, _⟩ => ⟨S704x1024, .f32⟩
  | .hbm, ⟨3, _⟩ => ⟨S1024x704, .f32⟩
  | .hbm, ⟨4, _⟩ => ⟨S1024x704, .f32⟩
  | .hbm, ⟨5, _⟩ => ⟨S704x1024, .f32⟩
  | .hbm, ⟨6, _⟩ => ⟨S1024x704, .f32⟩
  | .hbm, ⟨7, _⟩ => ⟨S704x1024, .f32⟩
  | .hbm, ⟨8, _⟩ => ⟨S_, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S1024x704, .f32⟩
  | .hbm, ⟨23, _⟩ => ⟨S_, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | .hbm, ⟨37, _⟩ => ⟨S1024x704, .f32⟩
  | .hbm, ⟨38, _⟩ => ⟨S_, .f32⟩
  | .hbm, ⟨39, _⟩ => ⟨S1024x704, .f32⟩
  | .hbm, ⟨40, _⟩ => ⟨S1024x704, .f32⟩
  | .hbm, ⟨41, _⟩ => ⟨S704x1024, .f32⟩
  | .hbm, ⟨42, _⟩ => ⟨S704x1024, .f32⟩
  | .hbm, ⟨43, _⟩ => ⟨S704x1024, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== DownStep.lean ====
abbrev S704x1024 : Shape := ⟨2, ![704, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownStepRefIdeal.lean ====
abbrev S704x1024 : Shape := ⟨2, ![704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== OutStep.lean ====
abbrev S256x1024 : Shape := ⟨2, ![256, 1024]⟩
abbrev S8x128 : Shape := ⟨2, ![8, 128]⟩

abbrev nBuf : Space → Nat
  | .hbm => 10
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S8x128, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== OutStepRefIdeal.lean ====
abbrev S256x1024 : Shape := ⟨2, ![256, 1024]⟩
abbrev S8x128 : Shape := ⟨2, ![8, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S8x128, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== BranchStep.lean ====
abbrev S512x256 : Shape := ⟨2, ![512, 256]⟩
abbrev S256x512 : Shape := ⟨2, ![256, 512]⟩
abbrev S8x128 : Shape := ⟨2, ![8, 128]⟩
abbrev S256x256 : Shape := ⟨2, ![256, 256]⟩

abbrev nBuf : Space → Nat
  | .hbm => 10
  | .vmem => 18
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S256x512, .f32⟩
  | .hbm, ⟨3, _⟩ => ⟨S512x256, .f32⟩
  | .hbm, ⟨4, _⟩ => ⟨S512x256, .f32⟩
  | .hbm, ⟨5, _⟩ => ⟨S8x128, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BranchStepRefIdeal.lean ====
abbrev S512x256 : Shape := ⟨2, ![512, 256]⟩
abbrev S256x512 : Shape := ⟨2, ![256, 512]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S256x512, .f32⟩
  | .hbm, ⟨3, _⟩ => ⟨S512x256, .f32⟩
  | .hbm, ⟨4, _⟩ => ⟨S512x256, .f32⟩
  | .hbm, ⟨5, _⟩ => ⟨S8x128, .f32⟩
  | .hbm, ⟨6, _⟩ => ⟨S256x512, .f32⟩
  | .hbm, ⟨7, _⟩ => ⟨S512x256, .f32⟩
  | .hbm, ⟨8, _⟩ => ⟨S_, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S_, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | .hbm, ⟨37, _⟩ => ⟨S512x256, .f32⟩
  | .hbm, ⟨38, _⟩ => ⟨S_, .f32⟩
  | .hbm, ⟨39, _⟩ => ⟨S512x256, .f32⟩
  | .hbm, ⟨40, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== InputStep.lean ====
abbrev S1024x1160 : Shape := ⟨2, ![1024, 1160]⟩
abbrev S1160x1024 : Shape := ⟨2, ![1160, 1024]⟩
abbrev S232x1024 : Shape := ⟨2, ![232, 1024]⟩

abbrev nBuf : Space → Nat
  | .hbm => 12
  | .vmem => 18
  | .smem => 0
  | _ => 0

abbrev bufTy : (tb : Table) → Fin (tcTables nBuf tb) → BufTy
  | .hbm, ⟨0, _⟩ => ⟨S1024x1160, .f32⟩
  | .hbm, ⟨1, _⟩ => ⟨S1160x1024, .f32⟩
  | .hbm, ⟨2, _⟩ => ⟨S1160x1024, .f32⟩
  | .hbm, ⟨3, _⟩ => ⟨S1024x1160, .f32⟩
  | .hbm, ⟨4, _⟩ => ⟨S1024x1160, .f32⟩
  | .hbm, ⟨5, _⟩ => ⟨S1160x1024, .f32⟩
  | .hbm, ⟨6, _⟩ => ⟨S1160x1024, .f32⟩
  | .hbm, ⟨7, _⟩ => ⟨S1160x1024, .f32⟩
  | .hbm, ⟨8, _⟩ => ⟨S1160x1024, .f32⟩
  | .hbm, ⟨9, _⟩ => ⟨S1160x1024, .f32⟩
  | .hbm, ⟨10, _⟩ => ⟨S1160x1024, .f32⟩
  | .hbm, ⟨11, _⟩ => ⟨S1160x1024, .f32⟩
  | .local _ .vmem, ⟨0, _⟩ => ⟨S232x1024, .f32⟩
  | .local _ .vmem, ⟨1, _⟩ => ⟨S232x1024, .f32⟩
  | .local _ .vmem, ⟨2, _⟩ => ⟨S232x1024, .f32⟩
  | .local _ .vmem, ⟨3, _⟩ => ⟨S232x1024, .f32⟩
  | .local _ .vmem, ⟨4, _⟩ => ⟨S232x1024, .f32⟩
  | .local _ .vmem, ⟨5, _⟩ => ⟨S232x1024, .f32⟩
  | .local _ .vmem, ⟨6, _⟩ => ⟨S232x1024, .f32⟩
  | .local _ .vmem, ⟨7, _⟩ => ⟨S232x1024, .f32⟩
  | .local _ .vmem, ⟨8, _⟩ => ⟨S232x1024, .f32⟩
  | .local _ .vmem, ⟨9, _⟩ => ⟨S232x1024, .f32⟩
  | .local _ .vmem, ⟨10, _⟩ => ⟨S232x1024, .f32⟩
  | .local _ .vmem, ⟨11, _⟩ => ⟨S232x1024, .f32⟩
  | .local _ .vmem, ⟨12, _⟩ => ⟨S232x1024, .f32⟩
  | .local _ .vmem, ⟨13, _⟩ => ⟨S232x1024, .f32⟩
  | .local _ .vmem, ⟨14, _⟩ => ⟨S232x1024, .f32⟩
  | .local _ .vmem, ⟨15, _⟩ => ⟨S232x1024, .f32⟩
  | .local _ .vmem, ⟨16, _⟩ => ⟨S232x1024, .f32⟩
  | .local _ .vmem, ⟨17, _⟩ => ⟨S232x1024, .f32⟩
  | _, _ => ⟨S1024x1160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S232x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S232x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S232x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S232x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S232x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S232x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S232x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S232x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S232x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InputStepRefIdeal.lean ====
abbrev S1024x1160 : Shape := ⟨2, ![1024, 1160]⟩
abbrev S1160x1024 : Shape := ⟨2, ![1160, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1024x1160, .f32⟩
  | .hbm, ⟨1, _⟩ => ⟨S1160x1024, .f32⟩
  | .hbm, ⟨2, _⟩ => ⟨S1160x1024, .f32⟩
  | .hbm, ⟨3, _⟩ => ⟨S1024x1160, .f32⟩
  | .hbm, ⟨4, _⟩ => ⟨S1024x1160, .f32⟩
  | .hbm, ⟨5, _⟩ => ⟨S1160x1024, .f32⟩
  | .hbm, ⟨6, _⟩ => ⟨S1024x1160, .f32⟩
  | .hbm, ⟨7, _⟩ => ⟨S1160x1024, .f32⟩
  | .hbm, ⟨8, _⟩ => ⟨S_, .f32⟩
  | .hbm, ⟨9, _⟩ => ⟨S1024x1160, .f32⟩
  | .hbm, ⟨10, _⟩ => ⟨S1024x1160, .f32⟩
  | .hbm, ⟨11, _⟩ => ⟨S_, .f32⟩
  | .hbm, ⟨12, _⟩ => ⟨S1024x1160, .f32⟩
  | .hbm, ⟨13, _⟩ => ⟨S1024x1160, .f32⟩
  | .hbm, ⟨14, _⟩ => ⟨S1024x1160, .f32⟩
  | .hbm, ⟨15, _⟩ => ⟨S_, .f32⟩
  | .hbm, ⟨16, _⟩ => ⟨S1024x1160, .f32⟩
  | .hbm, ⟨17, _⟩ => ⟨S1024x1160, .f32⟩
  | .hbm, ⟨18, _⟩ => ⟨S1024x1160, .f32⟩
  | .hbm, ⟨19, _⟩ => ⟨S_, .f32⟩
  | .hbm, ⟨20, _⟩ => ⟨S1024x1160, .f32⟩
  | .hbm, ⟨21, _⟩ => ⟨S1024x1160, .f32⟩
  | .hbm, ⟨22, _⟩ => ⟨S1024x1160, .f32⟩
  | .hbm, ⟨23, _⟩ => ⟨S_, .f32⟩
  | .hbm, ⟨24, _⟩ => ⟨S1024x1160, .f32⟩
  | .hbm, ⟨25, _⟩ => ⟨S1024x1160, .f32⟩
  | .hbm, ⟨26, _⟩ => ⟨S_, .f32⟩
  | .hbm, ⟨27, _⟩ => ⟨S1024x1160, .f32⟩
  | .hbm, ⟨28, _⟩ => ⟨S1024x1160, .f32⟩
  | .hbm, ⟨29, _⟩ => ⟨S1024x1160, .f32⟩
  | .hbm, ⟨30, _⟩ => ⟨S_, .f32⟩
  | .hbm, ⟨31, _⟩ => ⟨S1024x1160, .f32⟩
  | .hbm, ⟨32, _⟩ => ⟨S1024x1160, .f32⟩
  | .hbm, ⟨33, _⟩ => ⟨S1024x1160, .f32⟩
  | .hbm, ⟨34, _⟩ => ⟨S_, .f32⟩
  | .hbm, ⟨35, _⟩ => ⟨S1024x1160, .f32⟩
  | .hbm, ⟨36, _⟩ => ⟨S1024x1160, .f32⟩
  | .hbm, ⟨37, _⟩ => ⟨S1024x1160, .f32⟩
  | .hbm, ⟨38, _⟩ => ⟨S_, .f32⟩
  | .hbm, ⟨39, _⟩ => ⟨S1024x1160, .f32⟩
  | .hbm, ⟨40, _⟩ => ⟨S1024x1160, .f32⟩
  | .hbm, ⟨41, _⟩ => ⟨S1160x1024, .f32⟩
  | .hbm, ⟨42, _⟩ => ⟨S1160x1024, .f32⟩
  | .hbm, ⟨43, _⟩ => ⟨S1160x1024, .f32⟩
  | _, _ => ⟨S1024x1160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== MixStep.lean ====
abbrev S160x128 : Shape := ⟨2, ![160, 128]⟩
abbrev S128x160 : Shape := ⟨2, ![128, 160]⟩

abbrev nBuf : Space → Nat
  | .hbm => 9
  | .vmem => 9
  | .smem => 0
  | _ => 0

abbrev bufTy : (tb : Table) → Fin (tcTables nBuf tb) → BufTy
  | .hbm, ⟨0, _⟩ => ⟨S160x128, .f32⟩
  | .hbm, ⟨1, _⟩ => ⟨S128x160, .f32⟩
  | .hbm, ⟨2, _⟩ => ⟨S128x160, .f32⟩
  | .hbm, ⟨3, _⟩ => ⟨S160x128, .f32⟩
  | .hbm, ⟨4, _⟩ => ⟨S160x128, .f32⟩
  | .hbm, ⟨5, _⟩ => ⟨S160x128, .f32⟩
  | .hbm, ⟨6, _⟩ => ⟨S160x128, .f32⟩
  | .hbm, ⟨7, _⟩ => ⟨S160x128, .f32⟩
  | .hbm, ⟨8, _⟩ => ⟨S160x128, .f32⟩
  | .local _ .vmem, ⟨0, _⟩ => ⟨S160x128, .f32⟩
  | .local _ .vmem, ⟨1, _⟩ => ⟨S128x160, .f32⟩
  | .local _ .vmem, ⟨2, _⟩ => ⟨S128x160, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | .local _ .vmem, ⟨7, _⟩ => ⟨S160x128, .f32⟩
  | .local _ .vmem, ⟨8, _⟩ => ⟨S160x128, .f32⟩
  | _, _ => ⟨S160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S160x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S160x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== MixStepRefIdeal.lean ====
abbrev S160x128 : Shape := ⟨2, ![160, 128]⟩
abbrev S128x160 : Shape := ⟨2, ![128, 160]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S160x128, .f32⟩
  | .hbm, ⟨1, _⟩ => ⟨S128x160, .f32⟩
  | .hbm, ⟨2, _⟩ => ⟨S128x160, .f32⟩
  | .hbm, ⟨3, _⟩ => ⟨S160x128, .f32⟩
  | .hbm, ⟨4, _⟩ => ⟨S160x128, .f32⟩
  | .hbm, ⟨5, _⟩ => ⟨S128x160, .f32⟩
  | .hbm, ⟨6, _⟩ => ⟨S160x128, .f32⟩
  | .hbm, ⟨7, _⟩ => ⟨S_, .f32⟩
  | .hbm, ⟨8, _⟩ => ⟨S160x128, .f32⟩
  | .hbm, ⟨9, _⟩ => ⟨S160x128, .f32⟩
  | .hbm, ⟨10, _⟩ => ⟨S_, .f32⟩
  | .hbm, ⟨11, _⟩ => ⟨S160x128, .f32⟩
  | .hbm, ⟨12, _⟩ => ⟨S160x128, .f32⟩
  | .hbm, ⟨13, _⟩ => ⟨S160x128, .f32⟩
  | .hbm, ⟨14, _⟩ => ⟨S_, .f32⟩
  | .hbm, ⟨15, _⟩ => ⟨S160x128, .f32⟩
  | .hbm, ⟨16, _⟩ => ⟨S160x128, .f32⟩
  | .hbm, ⟨17, _⟩ => ⟨S160x128, .f32⟩
  | .hbm, ⟨18, _⟩ => ⟨S_, .f32⟩
  | .hbm, ⟨19, _⟩ => ⟨S160x128, .f32⟩
  | .hbm, ⟨20, _⟩ => ⟨S160x128, .f32⟩
  | .hbm, ⟨21, _⟩ => ⟨S160x128, .f32⟩
  | .hbm, ⟨22, _⟩ => ⟨S_, .f32⟩
  | .hbm, ⟨23, _⟩ => ⟨S160x128, .f32⟩
  | .hbm, ⟨24, _⟩ => ⟨S160x128, .f32⟩
  | .hbm, ⟨25, _⟩ => ⟨S_, .f32⟩
  | .hbm, ⟨26, _⟩ => ⟨S160x128, .f32⟩
  | .hbm, ⟨27, _⟩ => ⟨S160x128, .f32⟩
  | .hbm, ⟨28, _⟩ => ⟨S160x128, .f32⟩
  | .hbm, ⟨29, _⟩ => ⟨S_, .f32⟩
  | .hbm, ⟨30, _⟩ => ⟨S160x128, .f32⟩
  | .hbm, ⟨31, _⟩ => ⟨S160x128, .f32⟩
  | .hbm, ⟨32, _⟩ => ⟨S160x128, .f32⟩
  | .hbm, ⟨33, _⟩ => ⟨S_, .f32⟩
  | .hbm, ⟨34, _⟩ => ⟨S160x128, .f32⟩
  | .hbm, ⟨35, _⟩ => ⟨S160x128, .f32⟩
  | .hbm, ⟨36, _⟩ => ⟨S160x128, .f32⟩
  | .hbm, ⟨37, _⟩ => ⟨S_, .f32⟩
  | .hbm, ⟨38, _⟩ => ⟨S160x128, .f32⟩
  | .hbm, ⟨39, _⟩ => ⟨S160x128, .f32⟩
  | _, _ => ⟨S160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== LoraStep.lean ====
abbrev S64x128 : Shape := ⟨2, ![64, 128]⟩
abbrev S128x64 : Shape := ⟨2, ![128, 64]⟩

abbrev nBuf : Space → Nat
  | .hbm => 9
  | .vmem => 9
  | .smem => 0
  | _ => 0

abbrev bufTy : (tb : Table) → Fin (tcTables nBuf tb) → BufTy
  | .hbm, ⟨0, _⟩ => ⟨S64x128, .f32⟩
  | .hbm, ⟨1, _⟩ => ⟨S128x64, .f32⟩
  | .hbm, ⟨2, _⟩ => ⟨S128x64, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S64x128, .f32⟩
  | .local _ .vmem, ⟨0, _⟩ => ⟨S64x128, .f32⟩
  | .local _ .vmem, ⟨1, _⟩ => ⟨S128x64, .f32⟩
  | .local _ .vmem, ⟨2, _⟩ => ⟨S128x64, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== LoraStepRefIdeal.lean ====
abbrev S64x128 : Shape := ⟨2, ![64, 128]⟩
abbrev S128x64 : Shape := ⟨2, ![128, 64]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S128x64, .f32⟩
  | .hbm, ⟨2, _⟩ => ⟨S128x64, .f32⟩
  | .hbm, ⟨3, _⟩ => ⟨S64x128, .f32⟩
  | .hbm, ⟨4, _⟩ => ⟨S64x128, .f32⟩
  | .hbm, ⟨5, _⟩ => ⟨S128x64, .f32⟩
  | .hbm, ⟨6, _⟩ => ⟨S64x128, .f32⟩
  | .hbm, ⟨7, _⟩ => ⟨S_, .f32⟩
  | .hbm, ⟨8, _⟩ => ⟨S64x128, .f32⟩
  | .hbm, ⟨9, _⟩ => ⟨S64x128, .f32⟩
  | .hbm, ⟨10, _⟩ => ⟨S_, .f32⟩
  | .hbm, ⟨11, _⟩ => ⟨S64x128, .f32⟩
  | .hbm, ⟨12, _⟩ => ⟨S64x128, .f32⟩
  | .hbm, ⟨13, _⟩ => ⟨S64x128, .f32⟩
  | .hbm, ⟨14, _⟩ => ⟨S_, .f32⟩
  | .hbm, ⟨15, _⟩ => ⟨S64x128, .f32⟩
  | .hbm, ⟨16, _⟩ => ⟨S64x128, .f32⟩
  | .hbm, ⟨17, _⟩ => ⟨S64x128, .f32⟩
  | .hbm, ⟨18, _⟩ => ⟨S_, .f32⟩
  | .hbm, ⟨19, _⟩ => ⟨S64x128, .f32⟩
  | .hbm, ⟨20, _⟩ => ⟨S64x128, .f32⟩
  | .hbm, ⟨21, _⟩ => ⟨S64x128, .f32⟩
  | .hbm, ⟨22, _⟩ => ⟨S_, .f32⟩
  | .hbm, ⟨23, _⟩ => ⟨S64x128, .f32⟩
  | .hbm, ⟨24, _⟩ => ⟨S64x128, .f32⟩
  | .hbm, ⟨25, _⟩ => ⟨S_, .f32⟩
  | .hbm, ⟨26, _⟩ => ⟨S64x128, .f32⟩
  | .hbm, ⟨27, _⟩ => ⟨S64x128, .f32⟩
  | .hbm, ⟨28, _⟩ => ⟨S64x128, .f32⟩
  | .hbm, ⟨29, _⟩ => ⟨S_, .f32⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S_, .f32⟩
  | .hbm, ⟨34, _⟩ => ⟨S64x128, .f32⟩
  | .hbm, ⟨35, _⟩ => ⟨S64x128, .f32⟩
  | .hbm, ⟨36, _⟩ => ⟨S64x128, .f32⟩
  | .hbm, ⟨37, _⟩ => ⟨S_, .f32⟩
  | .hbm, ⟨38, _⟩ => ⟨S64x128, .f32⟩
  | .hbm, ⟨39, _⟩ => ⟨S64x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Embed.lean ====
abbrev S4096x1024 : Shape := ⟨2, ![4096, 1024]⟩
abbrev S16x1024 : Shape := ⟨2, ![16, 1024]⟩
abbrev S1x1024 : Shape := ⟨2, ![1, 1024]⟩
abbrev S4224x1024 : Shape := ⟨2, ![4224, 1024]⟩
abbrev S128x1024 : Shape := ⟨2, ![128, 1024]⟩
abbrev S384x1024 : Shape := ⟨2, ![384, 1024]⟩
abbrev S112x1024 : Shape := ⟨2, ![112, 1024]⟩
abbrev S384 : Shape := ⟨1, ![384]⟩
abbrev S384x1 : Shape := ⟨2, ![384, 1]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S1x1024, .f32⟩
  | .hbm, ⟨3, _⟩ => ⟨S4224x1024, .f32⟩
  | .hbm, ⟨4, _⟩ => ⟨S4224x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S16x1024, .f32⟩
  | .local _ .vmem, ⟨7, _⟩ => ⟨S1x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .bf16⟩
  | .local _ .vmem, ⟨11, _⟩ => ⟨S384x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c3_i32 : BitVec 32 := 3#32
  let v0 : BitVec 32 := Scalar.muli c3_i32 arg0
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let c31_i32 : BitVec 32 := 31#32
  let v3 : BitVec 32 := Scalar.maxsi c0_i32_0 v2
  let v4 : BitVec 32 := Scalar.minsi c31_i32 v3
  let c0_i32_1 : BitVec 32 := 0#32
  let c0_i32_2 : BitVec 32 := 0#32
  ![v4.toNat, c0_i32_1.toNat]

def cc0_transform_1 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let c31_i32 : BitVec 32 := 31#32
  let v3 : BitVec 32 := Scalar.maxsi c0_i32 v2
  let v4 : BitVec 32 := Scalar.minsi c31_i32 v3
  let c0_i32_1 : BitVec 32 := 0#32
  let c0_i32_2 : BitVec 32 := 0#32
  ![v4.toNat, c0_i32_1.toNat]

def cc0_transform_2 (i : grid0.Coords) : Fin 2 → Nat :=
  let arg0 : BitVec 32 := BitVec.ofNat 32 (i 0).val
  let c3_i32 : BitVec 32 := 3#32
  let v0 : BitVec 32 := Scalar.muli c3_i32 arg0
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EmbedRefIdeal.lean ====
abbrev S4096x1024 : Shape := ⟨2, ![4096, 1024]⟩
abbrev S16x1024 : Shape := ⟨2, ![16, 1024]⟩
abbrev S1x1024 : Shape := ⟨2, ![1, 1024]⟩
abbrev S_ : Shape := ⟨0, ![]⟩
abbrev S112x1024 : Shape := ⟨2, ![112, 1024]⟩
abbrev S4224x1024 : Shape := ⟨2, ![4224, 1024]⟩
abbrev S1024 : Shape := ⟨1, ![1024]⟩
abbrev S4224 : Shape := ⟨1, ![4224]⟩
abbrev S4224x1 : Shape := ⟨2, ![4224, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S1x1024, .f32⟩
  | .hbm, ⟨3, _⟩ => ⟨S_, .f32⟩
  | .hbm, ⟨4, _⟩ => ⟨S112x1024, .f32⟩
  | .hbm, ⟨5, _⟩ => ⟨S4224x1024, .f32⟩
  | .hbm, ⟨6, _⟩ => ⟨S1024, .f32⟩
  | .hbm, ⟨7, _⟩ => ⟨S4224x1024, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S4224x1024, .f32⟩
  | .hbm, ⟨19, _⟩ => ⟨S4224x1024, .f32⟩
  | .hbm, ⟨20, _⟩ => ⟨S1x1024, .f32⟩
  | .hbm, ⟨21, _⟩ => ⟨S4224x1024, .f32⟩
  | .hbm, ⟨22, _⟩ => ⟨S4224x1024, .f32⟩
  | .hbm, ⟨23, _⟩ => ⟨S4224x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== SmallSum.lean ====
abbrev S32x1024 : Shape := ⟨2, ![32, 1024]⟩
abbrev S7x32x1024 : Shape := ⟨3, ![7, 32, 1024]⟩
abbrev S1x32x1024 : Shape := ⟨3, ![1, 32, 1024]⟩

abbrev nBuf : Space → Nat
  | .hbm => 3
  | .vmem => 3
  | .smem => 0
  | _ => 0

abbrev bufTy : (tb : Table) → Fin (tcTables nBuf tb) → BufTy
  | .hbm, ⟨0, _⟩ => ⟨S32x1024, .f32⟩
  | .hbm, ⟨1, _⟩ => ⟨S7x32x1024, .f32⟩
  | .hbm, ⟨2, _⟩ => ⟨S32x1024, .f32⟩
  | .local _ .vmem, ⟨0, _⟩ => ⟨S32x1024, .f32⟩
  | .local _ .vmem, ⟨1, _⟩ => ⟨S7x32x1024, .f32⟩
  | .local _ .vmem, ⟨2, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let v13 : BitVec 32 := Scalar.xori v12 c0_i32
  let c1_i32_7 : BitVec 32 := 1#32
  let v17 : BitVec 32 := Scalar.maxsi v13 c1_i32_7
  let c1_i32_8 : BitVec 32 := 1#32
  let v18 : BitVec 32 := Scalar.subi v17 c1_i32_8
  let v19 : Index := Scalar.indexCast v18
  let c0_9 : Index := 0#32
  let c0_10 : Index := 0#32
  ![v19.toNat, 0, 0]
abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SmallSumRefIdeal.lean ====
abbrev S256x1024 : Shape := ⟨2, ![256, 1024]⟩
abbrev S56x32x1024 : Shape := ⟨3, ![56, 32, 1024]⟩
abbrev S8x32x1024 : Shape := ⟨3, ![8, 32, 1024]⟩
abbrev S8x7x32x1024 : Shape := ⟨4, ![8, 7, 32, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S56x32x1024, .f32⟩
  | .hbm, ⟨2, _⟩ => ⟨S8x32x1024, .f32⟩
  | .hbm, ⟨3, _⟩ => ⟨S8x7x32x1024, .f32⟩
  | .hbm, ⟨4, _⟩ => ⟨S_, .f32⟩
  | .hbm, ⟨5, _⟩ => ⟨S8x32x1024, .f32⟩
  | .hbm, ⟨6, _⟩ => ⟨S8x32x1024, .f32⟩
  | .hbm, ⟨7, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.MergeBlock.lean ====
/- What one grid point of the gated merge's gradient computes, element by element, and that it is the reference's value
   at the row the block's row stands for. -/
module

public import proofs.«01_k».proof.Proof.Gen.MergeIdeal.Value
public import proofs.«01_k».proof.Proof.Gen.MergeRefIdeal.Read
public import Idealize.ShloMosaic.Lib.Pointwise

@[expose] public section

set_option maxRecDepth 16384

noncomputable section

namespace Cert.MergeBlock

open Idealize.ShloMosaic Idealize.ShloMosaic.TcCoe
open Cert.MergeRefIdeal.Read
open Cert.MergeIdeal Cert.MergeIdeal.Gen

/-- The array's row that row `r` of block `t` stands for. -/
abbrev row (t : Fin 6) (r : Fin 704) : Fin 4224 := ⟨704 * t.val + r.val, by omega⟩

theorem off0 : (![0, 0] : Fin 2 → Nat) = fun _ => 0 := funext fun a => by fin_cases a <;> rfl

variable (A0 : S4224x1024.Idx → EReal) (A1 : S1024x1024.Idx → EReal) (A2 : S4224x2048.Idx → EReal)
  (A3 A4 : S4224x512.Idx → EReal) (A5 A6 : Cert.MergeRefIdeal.S512x1024.Idx → EReal)
  (x0 : Vec Ideal S704x1024 .f32) (x1 : Vec Ideal S1024x1024 .bf16) (x2 : Vec Ideal S704x2048 .bf16)
  (x3 x4 : Vec Ideal S704x1024 .bf16) (x5 x6 : Vec Ideal S1024x512 .bf16) (t : Fin 6)
  (h0 : ∀ r k, x0 (ix2 r k) = A0 (ix2 (row t r) k)) (h1 : ∀ r k, x1 (ix2 r k) = A1 (ix2 r k))
  (h2 : ∀ r k, x2 (ix2 r k) = A2 (ix2 (row t r) k))
  (h3 : ∀ r k, x3 (ix2 r k) = ∑ q : Fin 512, A3 (ix2 (row t r) q) * A5 (ix2 q k))
  (h4 : ∀ r k, x4 (ix2 r k) = ∑ q : Fin 512, A4 (ix2 (row t r) q) * A6 (ix2 q k))
  (h5 : ∀ k q, x5 (ix2 k q) = A5 (ix2 q k)) (h6 : ∀ k q, x6 (ix2 k q) = A6 (ix2 q k))

include h0 h1 h2 in
/-- The attention branch's cotangent: the gate times the row of `dh · w_oᵀ`. -/
theorem block8 (r : Fin 704) (l : Fin 1024) :
    out0_8 (F := Ideal) x0 x1 x2 x3 x4 x5 x6 (ix2 r l) = val_main_v33 (F := Ideal) A0 A1 A2 (ix2 (row t r) l) := by
  unfold out0_8
  rw [View.canon_unit_zero off0, View.ld_unit_zero off0, View.ld_unit_zero off0, View.ld_unit_zero off0]
  unfold_payloads
  pointwise [val_main_v33, val_main_v27, val_main_v17, val_main_v13, val_main_v12, val_main_v11, val_main_v10, val_main_cst,
    val_main_cst_0, val_main_v9, val_main_v8, val_main_v1, val_main_v23, val_main_v0]
  simp only [h0, h1, h2]
  rfl

include h0 h1 h2 in
/-- The other branch's cotangent, which reads the second half of the gates. -/
theorem block9 (r : Fin 704) (l : Fin 1024) :
    out0_9 (F := Ideal) x0 x1 x2 x3 x4 x5 x6 (ix2 r l) = val_main_v34 (F := Ideal) A0 A1 A2 (ix2 (row t r) l) := by
  unfold out0_9
  rw [View.canon_unit_zero off0, View.ld_unit_zero off0, View.ld_unit_zero off0, View.ld_unit_zero off0]
  unfold_payloads
  pointwise [val_main_v34, val_main_v24, val_main_v19, val_main_v13, val_main_v12, val_main_v11, val_main_v10, val_main_cst,
    val_main_cst_0, val_main_v9, val_main_v8, val_main_v1, val_main_v23, val_main_v0]
  simp only [h0, h1, h2]
  rfl

include h0 h1 h2 h3 h4 in
/-- The gates' cotangent: each half takes its own branch's product, times the slope of the sigmoid. -/
theorem block7 (r : Fin 704) (l : Fin 2048) :
    out0_7 (F := Ideal) x0 x1 x2 x3 x4 x5 x6 (ix2 r l)
      = val_main_v32 (F := Ideal) A0 A1 A2 A3 A4 A5 A6 (ix2 (row t r) l) := by
  unfold out0_7
  rw [View.canon_unit_zero off0, View.ld_unit_zero off0, View.ld_unit_zero off0, View.ld_unit_zero off0,
    View.ld_unit_zero off0, View.ld_unit_zero off0]
  unfold_payloads
  pointwise [val_main_v32, val_main_v31, val_main_v30, val_main_v29, val_main_v28, val_main_v26, val_main_v25,
    val_main_v16, val_main_v15, val_main_v14, val_main_v13, val_main_v12, val_main_v11, val_main_v10, val_main_cst,
    val_main_cst_0, val_main_cst_1, val_main_cst_2, val_main_cst_3, val_main_v9, val_main_v8, val_main_v1,
    val_main_v23, val_main_v0, val_main_v6, val_main_v7, val_main_v2, val_main_v3, val_main_v4, val_main_v5]
  have ht : 704 * t.val + r.val < 4224 := by omega
  simp only [h0, h1, h2, h3, h4, ht, true_and]
  by_cases hl : l.val < 1024
  · have hn : ¬ (1024 ≤ l.val ∧ l.val - 1024 < 1024) := by omega
    simp only [dif_pos hl, dif_neg hn]
    rfl
  · have hy : 1024 ≤ l.val ∧ l.val - 1024 < 1024 := by omega
    simp only [dif_neg hl, dif_pos hy]
    rfl

include h0 h1 h2 h5 in
/-- The attention branch's own cotangent: its branch cotangent times the projection's transpose. -/
theorem block10 (r : Fin 704) (q : Fin 512) :
    out0_10 (F := Ideal) x0 x1 x2 x3 x4 x5 x6 (ix2 r q)
      = val_main_v36 (F := Ideal) A0 A1 A2 A5 (ix2 (row t r) q) := by
  unfold out0_10
  rw [View.canon_unit_zero off0, View.ld_unit_zero off0, View.ld_unit_zero off0, View.ld_unit_zero off0,
    View.ld_unit_zero off0]
  unfold_payloads
  pointwise [val_main_v36, val_main_v27, val_main_v17, val_main_v13, val_main_v12, val_main_v11, val_main_v10,
    val_main_cst, val_main_cst_0, val_main_v9, val_main_v8, val_main_v1, val_main_v23, val_main_v0, val_main_v4]
  simp only [h0, h1, h2, h5]
  rfl

include h0 h1 h2 h6 in
/-- The other branch's own cotangent. -/
theorem block11 (r : Fin 704) (q : Fin 512) :
    out0_11 (F := Ideal) x0 x1 x2 x3 x4 x5 x6 (ix2 r q)
      = val_main_v35 (F := Ideal) A0 A1 A2 A6 (ix2 (row t r) q) := by
  unfold out0_11
  rw [View.canon_unit_zero off0, View.ld_unit_zero off0, View.ld_unit_zero off0, View.ld_unit_zero off0,
    View.ld_unit_zero off0]
  unfold_payloads
  pointwise [val_main_v35, val_main_v24, val_main_v19, val_main_v13, val_main_v12, val_main_v11, val_main_v10,
    val_main_cst, val_main_cst_0, val_main_v9, val_main_v8, val_main_v1, val_main_v23, val_main_v0, val_main_v5]
  simp only [h0, h1, h2, h6]
  rfl

end Cert.MergeBlock

end
-- ==== Proof.Index.lean ====
/- Where an element of a block lies in its array: the arithmetic of a block's rows and columns. -/
module

public import Idealize.ShloMosaic.Lib.Pointwise

@[expose] public section

namespace Cert.Index

open Idealize.ShloMosaic

/-- An index whose two coordinates are known. -/
theorem ix2_of {a b : Nat} {i : (⟨2, ![a, b]⟩ : Shape).Idx} {r : Fin a} {k : Fin b}
    (h0 : (i 0).val = r.val) (h1 : (i 1).val = k.val) : i = ix2 r k :=
  (eq_ix2 i).trans (congrArg₂ ix2 (Fin.ext h0) (Fin.ext h1))

/-- Row `r` of block `t`, of blocks of `n` rows. -/
theorem at_row {n i t r : Nat} (h : i = t) : i * n + r = n * t + r := by rw [h, Nat.mul_comm]

/-- An axis that one block spans. -/
theorem at_all {i n k : Nat} (h : i = 0) : i * n + k = k := by subst h; omega

end Cert.Index
-- ==== Proof.MergeArray.lean ====
/- The five arrays the gated merge's gradient leaves: each is the reference's value, every block of it being what one
   grid point wrote. -/
module

public import proofs.«01_k».proof.Proof.MergeBlock
public import proofs.«01_k».proof.Proof.Index
public import Idealize.ShloMosaic.Lib.StableHlo.ReadAt

@[expose] public section

set_option maxRecDepth 16384

noncomputable section

namespace Cert.MergeArray

open Idealize.ShloMosaic Idealize.ShloMosaic.TcCoe Idealize.SL.Sem
open Cert.MergeRefIdeal.Read
open Cert.MergeIdeal Cert.MergeIdeal.Gen Cert.MergeBlock Cert.Index

variable (m : (ℓ : Loc nD τ sig) → Buf (Elt Ideal) ℓ) (c : Dev nD)

/-- The kernel's argument arrays as functions of an index. -/
abbrev A0 : S4224x1024.Idx → EReal := m ((c : Thread nD τ).loc main_arg0)
abbrev A1 : S1024x1024.Idx → EReal := m ((c : Thread nD τ).loc main_arg1)
abbrev A2 : S4224x2048.Idx → EReal := m ((c : Thread nD τ).loc main_arg2)
abbrev A3 : S4224x512.Idx → EReal := m ((c : Thread nD τ).loc main_arg3)
abbrev A4 : S4224x512.Idx → EReal := m ((c : Thread nD τ).loc main_arg4)
abbrev A5 : S512x1024.Idx → EReal := m ((c : Thread nD τ).loc main_arg5)
abbrev A6 : S512x1024.Idx → EReal := m ((c : Thread nD τ).loc main_arg6)

/-! What the host operations before the call leave in the arrays it reads. -/

/-- The attention branch, made on the host: a product of two arguments. -/
theorem entry3 (r : Fin 4224) (k : Fin 1024) :
    V m c main_v3 (ix2 r k) = ∑ q : Fin 512, A3 m c (ix2 r q) * A5 m c (ix2 q k) := by
  unfold V
  after_reads_at

theorem entry4 (r : Fin 4224) (k : Fin 1024) :
    V m c main_v7 (ix2 r k) = ∑ q : Fin 512, A4 m c (ix2 r q) * A6 m c (ix2 q k) := by
  unfold V
  after_reads_at

theorem entry5 (k : Fin 1024) (q : Fin 512) : V m c main_v8 (ix2 k q) = A5 m c (ix2 q k) := by
  unfold V
  after_reads_at

theorem entry6 (k : Fin 1024) (q : Fin 512) : V m c main_v9 (ix2 k q) = A6 m c (ix2 q k) := by
  unfold V
  after_reads_at

/-! Where a block's element lies in its array. -/

/-- The windows that walk down the rows, one block a point. -/
theorem index_rows : ∀ t : Fin grid0.N,
    (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_7.index t 0 = t.val ∧ win0_7.index t 1 = 0) ∧ (win0_8.index t 0 = t.val ∧ win0_8.index t 1 = 0)
    ∧ (win0_9.index t 0 = t.val ∧ win0_9.index t 1 = 0) ∧ (win0_10.index t 0 = t.val ∧ win0_10.index t 1 = 0)
    ∧ (win0_11.index t 0 = t.val ∧ win0_11.index t 1 = 0) := by decide +kernel

/-- The windows that stage a whole weight at every point. -/
theorem index_whole : ∀ t : Fin grid0.N,
    (win0_1.index t 0 = 0 ∧ win0_1.index t 1 = 0) ∧ (win0_5.index t 0 = 0 ∧ win0_5.index t 1 = 0)
    ∧ (win0_6.index t 0 = 0 ∧ win0_6.index t 1 = 0) := by decide +kernel

theorem emb0 (t : Fin cfg0.N) (r : Fin 704) (k : Fin 1024) :
    ((cfg0.win 0).blk t).view.emb (ix2 r k) = ix2 (row t r) k :=
  ix2_of ((win0_0.rect_emb_val t (ix2 r k) 0).trans (at_row (index_rows t).1.1))
    ((win0_0.rect_emb_val t (ix2 r k) 1).trans (at_all (index_rows t).1.2))

theorem emb2 (t : Fin cfg0.N) (r : Fin 704) (k : Fin 2048) :
    ((cfg0.win 2).blk t).view.emb (ix2 r k) = ix2 (row t r) k :=
  ix2_of ((win0_2.rect_emb_val t (ix2 r k) 0).trans (at_row (index_rows t).2.1.1))
    ((win0_2.rect_emb_val t (ix2 r k) 1).trans (at_all (index_rows t).2.1.2))

theorem emb3 (t : Fin cfg0.N) (r : Fin 704) (k : Fin 1024) :
    ((cfg0.win 3).blk t).view.emb (ix2 r k) = ix2 (row t r) k :=
  ix2_of ((win0_3.rect_emb_val t (ix2 r k) 0).trans (at_row (index_rows t).2.2.1.1))
    ((win0_3.rect_emb_val t (ix2 r k) 1).trans (at_all (index_rows t).2.2.1.2))

theorem emb4 (t : Fin cfg0.N) (r : Fin 704) (k : Fin 1024) :
    ((cfg0.win 4).blk t).view.emb (ix2 r k) = ix2 (row t r) k :=
  ix2_of ((win0_4.rect_emb_val t (ix2 r k) 0).trans (at_row (index_rows t).2.2.2.1.1))
    ((win0_4.rect_emb_val t (ix2 r k) 1).trans (at_all (index_rows t).2.2.2.1.2))

theorem emb7 (t : Fin cfg0.N) (r : Fin 704) (k : Fin 2048) :
    ((cfg0.win 7).blk t).view.emb (ix2 r k) = ix2 (row t r) k :=
  ix2_of ((win0_7.rect_emb_val t (ix2 r k) 0).trans (at_row (index_rows t).2.2.2.2.1.1))
    ((win0_7.rect_emb_val t (ix2 r k) 1).trans (at_all (index_rows t).2.2.2.2.1.2))

theorem emb8 (t : Fin cfg0.N) (r : Fin 704) (k : Fin 1024) :
    ((cfg0.win 8).blk t).view.emb (ix2 r k) = ix2 (row t r) k :=
  ix2_of ((win0_8.rect_emb_val t (ix2 r k) 0).trans (at_row (index_rows t).2.2.2.2.2.1.1))
    ((win0_8.rect_emb_val t (ix2 r k) 1).trans (at_all (index_rows t).2.2.2.2.2.1.2))

theorem emb9 (t : Fin cfg0.N) (r : Fin 704) (k : Fin 1024) :
    ((cfg0.win 9).blk t).view.emb (ix2 r k) = ix2 (row t r) k :=
  ix2_of ((win0_9.rect_emb_val t (ix2 r k) 0).trans (at_row (index_rows t).2.2.2.2.2.2.1.1))
    ((win0_9.rect_emb_val t (ix2 r k) 1).trans (at_all (index_rows t).2.2.2.2.2.2.1.2))

theorem emb10 (t : Fin cfg0.N) (r : Fin 704) (k : Fin 512) :
    ((cfg0.win 10).blk t).view.emb (ix2 r k) = ix2 (row t r) k :=
  ix2_of ((win0_10.rect_emb_val t (ix2 r k) 0).trans (at_row (index_rows t).2.2.2.2.2.2.2.1.1))
    ((win0_10.rect_emb_val t (ix2 r k) 1).trans (at_all (index_rows t).2.2.2.2.2.2.2.1.2))

theorem emb11 (t : Fin cfg0.N) (r : Fin 704) (k : Fin 512) :
    ((cfg0.win 11).blk t).view.emb (ix2 r k) = ix2 (row t r) k :=
  ix2_of ((win0_11.rect_emb_val t (ix2 r k) 0).trans (at_row (index_rows t).2.2.2.2.2.2.2.2.1))
    ((win0_11.rect_emb_val t (ix2 r k) 1).trans (at_all (index_rows t).2.2.2.2.2.2.2.2.2))

theorem emb1 (t : Fin cfg0.N) (r : Fin 1024) (k : Fin 1024) :
    ((cfg0.win 1).blk t).view.emb (ix2 r k) = ix2 r k :=
  ix2_of ((win0_1.rect_emb_val t (ix2 r k) 0).trans (at_all (index_whole t).1.1))
    ((win0_1.rect_emb_val t (ix2 r k) 1).trans (at_all (index_whole t).1.2))

theorem emb5 (t : Fin cfg0.N) (r : Fin 1024) (k : Fin 512) :
    ((cfg0.win 5).blk t).view.emb (ix2 r k) = ix2 r k :=
  ix2_of ((win0_5.rect_emb_val t (ix2 r k) 0).trans (at_all (index_whole t).2.1.1))
    ((win0_5.rect_emb_val t (ix2 r k) 1).trans (at_all (index_whole t).2.1.2))

theorem emb6 (t : Fin cfg0.N) (r : Fin 1024) (k : Fin 512) :
    ((cfg0.win 6).blk t).view.emb (ix2 r k) = ix2 r k :=
  ix2_of ((win0_6.rect_emb_val t (ix2 r k) 0).trans (at_all (index_whole t).2.2.1))
    ((win0_6.rect_emb_val t (ix2 r k) 1).trans (at_all (index_whole t).2.2.2))

/-! What each input window's block holds at a point. -/

theorem read0 (t : Fin cfg0.N) (r : Fin 704) (k : Fin 1024) : iblk m c 0 t (ix2 r k) = A0 m c (ix2 (row t r) k) := by
  unfold iblk
  rw [View.read_apply, emb0]
  exact congrFun (V_main_arg0 m c) _

theorem read1 (t : Fin cfg0.N) (r k : Fin 1024) : iblk m c 1 t (ix2 r k) = A1 m c (ix2 r k) := by
  unfold iblk
  rw [View.read_apply, emb1]
  exact congrFun (V_main_arg1 m c) _

theorem read2 (t : Fin cfg0.N) (r : Fin 704) (k : Fin 2048) : iblk m c 2 t (ix2 r k) = A2 m c (ix2 (row t r) k) := by
  unfold iblk
  rw [View.read_apply, emb2]
  exact congrFun (V_main_arg2 m c) _

theorem read3 (t : Fin cfg0.N) (r : Fin 704) (k : Fin 1024) :
    iblk m c 3 t (ix2 r k) = ∑ q : Fin 512, A3 m c (ix2 (row t r) q) * A5 m c (ix2 q k) := by
  unfold iblk
  rw [View.read_apply, emb3]
  exact entry3 m c _ k

theorem read4 (t : Fin cfg0.N) (r : Fin 704) (k : Fin 1024) :
    iblk m c 4 t (ix2 r k) = ∑ q : Fin 512, A4 m c (ix2 (row t r) q) * A6 m c (ix2 q k) := by
  unfold iblk
  rw [View.read_apply, emb4]
  exact entry4 m c _ k

theorem read5 (t : Fin cfg0.N) (k : Fin 1024) (q : Fin 512) : iblk m c 5 t (ix2 k q) = A5 m c (ix2 q k) := by
  unfold iblk
  rw [View.read_apply, emb5]
  exact entry5 m c k q

theorem read6 (t : Fin cfg0.N) (k : Fin 1024) (q : Fin 512) : iblk m c 6 t (ix2 k q) = A6 m c (ix2 q k) := by
  unfold iblk
  rw [View.read_apply, emb6]
  exact entry6 m c k q

/-- Every row is row `r` of some block `t`. -/
theorem row_split (i : Fin 4224) : ∃ (t : Fin 6) (r : Fin 704), i = row t r :=
  ⟨⟨i.val / 704, by omega⟩, ⟨i.val % 704, by omega⟩, Fin.ext (by show i.val = 704 * (i.val / 704) + i.val % 704; omega)⟩

/-! The arrays: each output window's blocks cover its array, and each block is the reference's. -/

/-- The gates' cotangent is the reference's. -/
theorem final7 : (dats m 0 c).arrAt 7 cfg0.N = val_main_v32 (F := Ideal) (A0 m c) (A1 m c) (A2 m c) (A3 m c) (A4 m c) (A5 m c) (A6 m c) := by
  refine (dats m 0 c).arrAt_eq_of_cover 7 _ (fun t _ => ?_) (fun i => ?_)
  · rw [Cert.MergeIdeal.Value.flushed7]
    funext y
    obtain ⟨r, k, rfl⟩ : ∃ (r : Fin 704) (k : Fin 2048), y = ix2 r k := ⟨y 0, y 1, eq_ix2 y⟩
    rw [View.read_apply, emb7]
    exact block7 _ _ _ _ _ _ _ _ _ _ _ _ _ _ t (read0 m c t) (read1 m c t) (read2 m c t) (read3 m c t) (read4 m c t) r k
  · obtain ⟨t, r, h⟩ := row_split (i 0)
    rw [(eq_ix2 i).trans ((congrArg (ix2 · (i 1)) h).trans (emb7 t r (i 1)).symm)]
    exact ⟨t, flush0_7 t, View.emb_mem_set _ _⟩

/-- The cotangent of the attention branch's projection is the reference's. -/
theorem final8 : (dats m 0 c).arrAt 8 cfg0.N = val_main_v33 (F := Ideal) (A0 m c) (A1 m c) (A2 m c) := by
  refine (dats m 0 c).arrAt_eq_of_cover 8 _ (fun t _ => ?_) (fun i => ?_)
  · rw [Cert.MergeIdeal.Value.flushed8]
    funext y
    obtain ⟨r, k, rfl⟩ : ∃ (r : Fin 704) (k : Fin 1024), y = ix2 r k := ⟨y 0, y 1, eq_ix2 y⟩
    rw [View.read_apply, emb8]
    exact block8 _ _ _ _ _ _ _ _ _ _ t (read0 m c t) (read1 m c t) (read2 m c t) r k
  · obtain ⟨t, r, h⟩ := row_split (i 0)
    rw [(eq_ix2 i).trans ((congrArg (ix2 · (i 1)) h).trans (emb8 t r (i 1)).symm)]
    exact ⟨t, flush0_8 t, View.emb_mem_set _ _⟩

/-- The cotangent of the recurrent branch's projection is the reference's. -/
theorem final9 : (dats m 0 c).arrAt 9 cfg0.N = val_main_v34 (F := Ideal) (A0 m c) (A1 m c) (A2 m c) := by
  refine (dats m 0 c).arrAt_eq_of_cover 9 _ (fun t _ => ?_) (fun i => ?_)
  · rw [Cert.MergeIdeal.Value.flushed9]
    funext y
    obtain ⟨r, k, rfl⟩ : ∃ (r : Fin 704) (k : Fin 1024), y = ix2 r k := ⟨y 0, y 1, eq_ix2 y⟩
    rw [View.read_apply, emb9]
    exact block9 _ _ _ _ _ _ _ _ _ _ t (read0 m c t) (read1 m c t) (read2 m c t) r k
  · obtain ⟨t, r, h⟩ := row_split (i 0)
    rw [(eq_ix2 i).trans ((congrArg (ix2 · (i 1)) h).trans (emb9 t r (i 1)).symm)]
    exact ⟨t, flush0_9 t, View.emb_mem_set _ _⟩

/-- The attention branch's cotangent is the reference's. -/
theorem final10 : (dats m 0 c).arrAt 10 cfg0.N = val_main_v36 (F := Ideal) (A0 m c) (A1 m c) (A2 m c) (A5 m c) := by
  refine (dats m 0 c).arrAt_eq_of_cover 10 _ (fun t _ => ?_) (fun i => ?_)
  · rw [Cert.MergeIdeal.Value.flushed10]
    funext y
    obtain ⟨r, k, rfl⟩ : ∃ (r : Fin 704) (k : Fin 512), y = ix2 r k := ⟨y 0, y 1, eq_ix2 y⟩
    rw [View.read_apply, emb10]
    exact block10 _ _ _ _ _ _ _ _ _ _ _ t (read0 m c t) (read1 m c t) (read2 m c t) (read5 m c t) r k
  · obtain ⟨t, r, h⟩ := row_split (i 0)
    rw [(eq_ix2 i).trans ((congrArg (ix2 · (i 1)) h).trans (emb10 t r (i 1)).symm)]
    exact ⟨t, flush0_10 t, View.emb_mem_set _ _⟩

/-- The recurrent branch's cotangent is the reference's. -/
theorem final11 : (dats m 0 c).arrAt 11 cfg0.N = val_main_v35 (F := Ideal) (A0 m c) (A1 m c) (A2 m c) (A6 m c) := by
  refine (dats m 0 c).arrAt_eq_of_cover 11 _ (fun t _ => ?_) (fun i => ?_)
  · rw [Cert.MergeIdeal.Value.flushed11]
    funext y
    obtain ⟨r, k, rfl⟩ : ∃ (r : Fin 704) (k : Fin 512), y = ix2 r k := ⟨y 0, y 1, eq_ix2 y⟩
    rw [View.read_apply, emb11]
    exact block11 _ _ _ _ _ _ _ _ _ _ _ t (read0 m c t) (read1 m c t) (read2 m c t) (read6 m c t) r k
  · obtain ⟨t, r, h⟩ := row_split (i 0)
    rw [(eq_ix2 i).trans ((congrArg (ix2 · (i 1)) h).trans (emb11 t r (i 1)).symm)]
    exact ⟨t, flush0_11 t, View.emb_mem_set _ _⟩

end Cert.MergeArray

end
-- ==== Proof.MergeValue.lean ====
/- The gated merge's gradient: the kernel and the reference leave the same five arrays. -/
module

public import proofs.«01_k».proof.Defs
public import proofs.«01_k».proof.Proof.MergeArray

@[expose] public section

set_option maxRecDepth 16384

noncomputable section

namespace Cert.MergeValue

open Idealize.ShloMosaic Idealize.ShloMosaic.TcCoe Idealize.SL.Sem
open Cert.MergeRefIdeal.Read Cert.MergeArray

/-- The reference terminates, keeps its arguments and leaves every counter at zero. -/
theorem frame_ref : quiescent_MergeRefIdeal := fun m ρ _ =>
  (θ_run Cert.MergeRefIdeal.defs _ _).mono
    (fun r h => ⟨fun c => (h c).2.2.2.2.2, sem_eq_zero_of_no_sems (by decide) r.2⟩) (Cert.MergeRefIdeal.Value.run m ρ)

/-- From memories that agree on the arguments both programs run and end with equal results. -/
theorem algebraic : algebraic_MergeIdeal_MergeRefIdeal := by
  intro m g m' g' _ h
  refine ⟨fun c => val_main_v32 (F := Ideal) (A0 m c) (A1 m c) (A2 m c) (A3 m c) (A4 m c) (A5 m c) (A6 m c),
    fun c => val_main_v33 (F := Ideal) (A0 m c) (A1 m c) (A2 m c), fun c => val_main_v34 (F := Ideal) (A0 m c) (A1 m c) (A2 m c),
    fun c => val_main_v36 (F := Ideal) (A0 m c) (A1 m c) (A2 m c) (A5 m c),
    fun c => val_main_v35 (F := Ideal) (A0 m c) (A1 m c) (A2 m c) (A6 m c), ?_, ?_⟩
  · refine (θ_run _ _ _).mono (fun r H c => ?_) (Cert.MergeIdeal.Value.run_blocks m g)
    obtain ⟨h7, h8, h9, h10, h11, hargs⟩ := H c
    exact ⟨h7.trans (final7 m c), h8.trans (final8 m c), h9.trans (final9 m c), h10.trans (final10 m c),
      h11.trans (final11 m c), hargs⟩
  · refine (θ_run _ _ _).mono (fun r H c => ?_) (Cert.MergeRefIdeal.Value.run m' g')
    obtain ⟨h7, h8, h9, h10, h11, hargs⟩ := H c
    obtain ⟨e0, e1, e2, e3, e4, e5, e6⟩ := h c
    rw [e0, e1, e2, e3, e4, e5, e6] at h7
    rw [e0, e1, e2] at h8 h9
    rw [e0, e1, e2, e5] at h10
    rw [e0, e1, e2, e6] at h11
    exact ⟨h7, h8, h9, h10, h11, hargs⟩

end Cert.MergeValue

end
-- ==== Proof.FfnBody.lean ====
/- What one grid point of the feed-forward layer's gradient stores, in terms of the blocks it loads: the two halves of the
   hidden axis one after the other, and the norm's gradient from their sum. -/
module

public import proofs.«01_k».proof.Proof.Gen.FfnIdeal.Value
public import Idealize.ShloMosaic.Lib.Pointwise

@[expose] public section

set_option maxRecDepth 16384

noncomputable section

namespace Cert.FfnBody

open Idealize.ShloMosaic Idealize.ShloMosaic.TcCoe
open Cert.FfnIdeal Cert.FfnIdeal.Gen

theorem off0 : (![0, 0] : Fin 2 → Nat) = fun _ => 0 := funext fun a => by fin_cases a <;> rfl

/-- The first half of a weight's rows. -/
def loW (x : Vec Ideal S2816x1024 .bf16) : Vec Ideal S1408x1024 .bf16 :=
  View.ld x (Rect.unit ![0, 0] S1408x1024.size inb_S2816x1024_S1408x1024_0_0)

/-- The second half of a weight's rows. -/
def hiW (x : Vec Ideal S2816x1024 .bf16) : Vec Ideal S1408x1024 .bf16 :=
  View.ld x (Rect.unit ![1408, 0] S1408x1024.size inb_S2816x1024_S1408x1024_1408_0)

/-- The first half of a projection's columns. -/
def loC (x : Vec Ideal S384x2816 .bf16) : Vec Ideal S384x1408 .bf16 :=
  View.ld x (Rect.unit ![0, 0] S384x1408.size inb_S384x2816_S384x1408_0_0)

/-- The second half of a projection's columns. -/
def hiC (x : Vec Ideal S384x2816 .bf16) : Vec Ideal S384x1408 .bf16 :=
  View.ld x (Rect.unit ![0, 1408] S384x1408.size inb_S384x2816_S384x1408_0_1408)

/-- Two halves stored side by side. -/
def halves (hi lo : Vec Ideal S384x1408 .bf16) : Vec Ideal S384x2816 .bf16 :=
  View.canon (Val := Elt Ideal)
    [⟨Rect.unit (s := S384x2816) ![0, 1408] S384x1408.size inb_S384x2816_S384x1408_0_1408, hi⟩,
     ⟨Rect.unit (s := S384x2816) ![0, 0] S384x1408.size inb_S384x2816_S384x1408_0_0, lo⟩]

/-- Reading a whole block of rows reads the block. -/
theorem ld_rows (x : Vec Ideal S384x1024 .f32) :
    View.ld x (Rect.unit ![0, 0] ![384, 1024] inb_S384x1024_S384x1024_0_0) = x := View.ld_unit_zero off0 _ x

/-- Reading the whole scale row reads it. -/
theorem ld_scale (x : Vec Ideal S1x1024 .f32) :
    View.ld x (Rect.unit ![0, 0] ![1, 1024] inb_S1x1024_S1x1024_0_0) = x := View.ld_unit_zero off0 _ x

theorem ld_loW (x : Vec Ideal S2816x1024 .bf16) :
    View.ld x (Rect.unit ![0, 0] ![1408, 1024] inb_S2816x1024_S1408x1024_0_0) = loW x := rfl

theorem ld_hiW (x : Vec Ideal S2816x1024 .bf16) :
    View.ld x (Rect.unit ![1408, 0] ![1408, 1024] inb_S2816x1024_S1408x1024_1408_0) = hiW x := rfl

theorem ld_loC (x : Vec Ideal S384x2816 .bf16) :
    View.ld x (Rect.unit ![0, 0] ![384, 1408] inb_S384x2816_S384x1408_0_0) = loC x := rfl

theorem ld_hiC (x : Vec Ideal S384x2816 .bf16) :
    View.ld x (Rect.unit ![0, 1408] ![384, 1408] inb_S384x2816_S384x1408_0_1408) = hiC x := rfl

/-- The cotangent of the normalised input: both halves of both products. -/
def normed (x0 : Vec Ideal S384x1024 .f32) (x1 : Vec Ideal S2816x1024 .bf16) (x2 x3 : Vec Ideal S384x2816 .bf16)
    (x4 x5 : Vec Ideal S2816x1024 .bf16) : FVec Ideal S384x1024 .f32 :=
  k0_pay12 (k0_pay6 x0 (loW x1) (loC x2) (loC x3) (loW x4) (loW x5)) x0 (hiW x1) (hiC x2) (hiC x3) (hiW x4) (hiW x5)

variable (m : (ℓ : Loc nD τ sig) → Buf (Elt Ideal) ℓ) (c : Dev nD)

/-- The gate's cotangent at every point: the two halves. -/
theorem outs8 (t : Fin cfg0.N) : (outsAt0 m c t.val t.isLt).1
    = halves (k0_pay10 (iblk m c 0 t) (hiW (iblk m c 1 t)) (hiC (iblk m c 2 t)) (hiC (iblk m c 3 t)))
        (k0_pay4 (iblk m c 0 t) (loW (iblk m c 1 t)) (loC (iblk m c 2 t)) (loC (iblk m c 3 t))) := by
  by_cases h : t.val % 11 = 0
  · rw [outsAt0_A m c t h]
    dsimp only
    unfold out0_A_8
    rw [View.read_writes_eq_canon _ _ _ (cover0_A_8 c _ _ _ _ _ _ _ _ _ _ _ _ _ _ _ _ _ _ _ _ _ _ _ _ _ _ _ _ _ _ _ _ _ _)]
    unfold kernelRun0_A halves
    dsimp only
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, ld_rows, ld_scale, ld_loW, ld_hiW, ld_loC, ld_hiC]
  · rw [outsAt0_B m c t h]
    dsimp only
    unfold out0_B_8
    rw [View.read_writes_eq_canon _ _ _ (cover0_B_8 c _ _ _ _ _ _ _ _ _ _ _ _ _ _ _ _ _ _ _ _ _ _ _ _ _ _ _ _ _ _ _ _ _ _ _)]
    unfold kernelRun0_B halves
    dsimp only
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, ld_rows, ld_scale, ld_loW, ld_hiW, ld_loC, ld_hiC]

/-- The other projection's cotangent at every point: the two halves. -/
theorem outs9 (t : Fin cfg0.N) : (outsAt0 m c t.val t.isLt).2.1
    = halves (k0_pay11 (iblk m c 0 t) (hiW (iblk m c 1 t)) (hiC (iblk m c 2 t)))
        (k0_pay5 (iblk m c 0 t) (loW (iblk m c 1 t)) (loC (iblk m c 2 t))) := by
  by_cases h : t.val % 11 = 0
  · rw [outsAt0_A m c t h]
    dsimp only
    unfold out0_A_9
    rw [View.read_writes_eq_canon _ _ _ (cover0_A_9 c _ _ _ _ _ _ _ _ _ _ _ _ _ _ _ _ _ _ _ _ _ _ _ _ _ _ _ _ _ _ _ _ _ _)]
    unfold kernelRun0_A halves
    dsimp only
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, ld_rows, ld_scale, ld_loW, ld_hiW, ld_loC, ld_hiC]
  · rw [outsAt0_B m c t h]
    dsimp only
    unfold out0_B_9
    rw [View.read_writes_eq_canon _ _ _ (cover0_B_9 c _ _ _ _ _ _ _ _ _ _ _ _ _ _ _ _ _ _ _ _ _ _ _ _ _ _ _ _ _ _ _ _ _ _ _)]
    unfold kernelRun0_B halves
    dsimp only
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, ld_rows, ld_scale, ld_loW, ld_hiW, ld_loC, ld_hiC]

/-- The input's cotangent at every point. -/
theorem outs10 (t : Fin cfg0.N) : (outsAt0 m c t.val t.isLt).2.2.1
    = k0_pay16 (normed (iblk m c 0 t) (iblk m c 1 t) (iblk m c 2 t) (iblk m c 3 t) (iblk m c 4 t) (iblk m c 5 t))
        (iblk m c 6 t) (iblk m c 7 t) (k0_pay13 (iblk m c 6 t)) (iblk m c 0 t) := by
  by_cases h : t.val % 11 = 0
  · rw [outsAt0_A m c t h]
    dsimp only
    unfold out0_A_10
    rw [View.read_writes_eq_canon _ _ _ (cover0_A_10 c _ _ _ _ _ _ _ _ _ _ _ _ _ _ _ _ _ _ _ _ _ _ _ _ _ _ _ _ _ _ _ _ _ _)]
    unfold kernelRun0_A normed
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, ld_rows, ld_scale, ld_loW, ld_hiW, ld_loC, ld_hiC]
    rw [View.canon_unit_zero off0]
  · rw [outsAt0_B m c t h]
    dsimp only
    unfold out0_B_10
    rw [View.read_writes_eq_canon _ _ _ (cover0_B_10 c _ _ _ _ _ _ _ _ _ _ _ _ _ _ _ _ _ _ _ _ _ _ _ _ _ _ _ _ _ _ _ _ _ _ _)]
    unfold kernelRun0_B normed
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, ld_rows, ld_scale, ld_loW, ld_hiW, ld_loC, ld_hiC]
    rw [View.canon_unit_zero off0]

/-- The scale's cotangent at the first point: from zero, the column sums of the first block of rows. -/
theorem outs11_first (t : Fin cfg0.N) (h : t.val % 11 = 0) : (outsAt0 m c t.val t.isLt).2.2.2
    = k0_pay18 (normed (iblk m c 0 t) (iblk m c 1 t) (iblk m c 2 t) (iblk m c 3 t) (iblk m c 4 t) (iblk m c 5 t))
        (iblk m c 6 t) (k0_pay13 (iblk m c 6 t)) (k0_pay17 (F := Ideal)) := by
  rw [outsAt0_A m c t h]
  dsimp only
  unfold out0_A_11
  rw [View.read_writes_eq_canon _ _ _ (cover0_A_11 c _ _ _ _ _ _ _ _ _ _ _ _ _ _ _ _ _ _ _ _ _ _ _ _ _ _ _ _ _ _ _ _ _ _)]
  unfold kernelRun0_A normed
  dsimp only
  sl_unfold_words
  rw [View.canon_cons_unit_zero (S := S1x1024) off0, View.readCov_unit_zero (S := S1x1024) _ off0]
  simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, ld_rows, ld_scale, ld_loW, ld_hiW, ld_loC, ld_hiC]

/-- … and at a later one: what the point before left, and the column sums of this block of rows. -/
theorem outs11_next (t : Fin cfg0.N) (h : ¬t.val % 11 = 0) : (outsAt0 m c t.val t.isLt).2.2.2
    = k0_pay18 (normed (iblk m c 0 t) (iblk m c 1 t) (iblk m c 2 t) (iblk m c 3 t) (iblk m c 4 t) (iblk m c 5 t))
        (iblk m c 6 t) (k0_pay13 (iblk m c 6 t))
        (outsAt0 m c (t.val - 1) (Nat.lt_of_le_of_lt (Nat.sub_le _ _) t.isLt)).2.2.2 := by
  rw [outsAt0_B m c t h]
  dsimp only
  unfold out0_B_11
  rw [View.read_writes_eq_canon _ _ _ (cover0_B_11 c _ _ _ _ _ _ _ _ _ _ _ _ _ _ _ _ _ _ _ _ _ _ _ _ _ _ _ _ _ _ _ _ _ _ _)]
  unfold kernelRun0_B normed
  dsimp only
  sl_unfold_words
  rw [View.canon_unit_zero off0]
  simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, (hs0_11 t).read_unread, ld_rows, ld_scale, ld_loW, ld_hiW, ld_loC, ld_hiC]

end Cert.FfnBody

end
-- ==== Proof.FfnBlock.lean ====
/- What one grid point of the feed-forward layer's gradient stores, element by element, and that it is the reference's
   value at the row the block's row stands for: the hidden layer's two cotangents and the normalised input's. -/
module

public import proofs.«01_k».proof.Proof.FfnBody
public import proofs.«01_k».proof.Proof.Gen.FfnRefIdeal.Read
public import Idealize.ShloMosaic.Lib.Pointwise

@[expose] public section

set_option maxRecDepth 16384

noncomputable section

namespace Cert.FfnBlock

open Idealize.ShloMosaic Idealize.ShloMosaic.TcCoe
open Cert.FfnRefIdeal.Read
open Cert.FfnIdeal Cert.FfnIdeal.Gen
open Cert.FfnBody

/-- The array's row that row `r` of block `t` stands for. -/
abbrev row (t : Fin 11) (r : Fin 384) : Fin 4224 := ⟨384 * t.val + r.val, by omega⟩

/-- A column of the first half, as a column of the whole. -/
abbrev first (l : Fin 1408) : Fin 2816 := ⟨l.val, by omega⟩

/-- A column of the second half, as a column of the whole. -/
abbrev second (l : Fin 1408) : Fin 2816 := ⟨1408 + l.val, by omega⟩

/-- Two halves side by side agree with a function of the columns when each half does. -/
theorem halves_apply (hi lo : Vec Ideal S384x1408 .bf16) (G : S384x2816.Idx → EReal)
    (hhi : ∀ r l, hi (ix2 r l) = G (ix2 r (second l))) (hlo : ∀ r l, lo (ix2 r l) = G (ix2 r (first l)))
    (y : S384x2816.Idx) : halves hi lo y = G y := by
  have ehi : ∀ x : S384x1408.Idx, (Rect.unit (s := S384x2816) ![0, 1408] S384x1408.size inb_S384x2816_S384x1408_0_1408).emb x
      = (ix2 (x 0) (second (x 1)) : S384x2816.Idx) := fun x => by
    funext a; apply Fin.ext; fin_cases a
    · exact (Nat.zero_add _).trans (Nat.one_mul _)
    · exact congrArg (1408 + ·) (Nat.one_mul _)
  have elo : ∀ x : S384x1408.Idx, (Rect.unit (s := S384x2816) ![0, 0] S384x1408.size inb_S384x2816_S384x1408_0_0).emb x
      = (ix2 (x 0) (first (x 1)) : S384x2816.Idx) := fun x => by
    funext a; apply Fin.ext; fin_cases a
    · exact (Nat.zero_add _).trans (Nat.one_mul _)
    · exact (Nat.zero_add _).trans (Nat.one_mul _)
  refine View.canon_apply_of_pieces (Val := Elt Ideal) (e := .bf16) G _ (fun p hp x => ?_) y ?_
  · rcases List.mem_cons.mp hp with rfl | hp
    · exact (congrArg hi (eq_ix2 x)).trans ((hhi _ _).trans (congrArg G (ehi x)).symm)
    · obtain rfl := List.mem_singleton.mp hp
      exact (congrArg lo (eq_ix2 x)).trans ((hlo _ _).trans (congrArg G (elo x)).symm)
  · by_cases h : (y 1).val < 1408
    · refine ⟨_, List.mem_cons_of_mem _ (List.mem_singleton.mpr rfl), ?_⟩
      rw [eq_ix2 y, show (ix2 (y 0) (y 1) : S384x2816.Idx) = ix2 (y 0) (first ⟨(y 1).val, h⟩) from rfl]
      exact elo (ix2 (y 0) ⟨(y 1).val, h⟩) ▸ LoadRect.idx_mem _ _
    · refine ⟨_, List.mem_cons_self, ?_⟩
      have h' : (y 1).val < 2816 := (y 1).isLt
      rw [eq_ix2 y, show (ix2 (y 0) (y 1) : S384x2816.Idx) = ix2 (y 0) (second ⟨(y 1).val - 1408, by omega⟩) from
        congrArg (ix2 (y 0)) (Fin.ext (by show (y 1).val = 1408 + ((y 1).val - 1408); omega))]
      exact ehi (ix2 (y 0) ⟨(y 1).val - 1408, by omega⟩) ▸ LoadRect.idx_mem _ _

theorem loW_apply (x : Vec Ideal S2816x1024 .bf16) (k : Fin 1408) (l : Fin 1024) :
    loW x (ix2 k l) = x (ix2 (first k) l) := by
  pointwise [loW]

theorem hiW_apply (x : Vec Ideal S2816x1024 .bf16) (k : Fin 1408) (l : Fin 1024) :
    hiW x (ix2 k l) = x (ix2 (second k) l) := by
  pointwise [hiW]

variable (A0 : S4224x1024.Idx → EReal) (A1 : S2816x1024.Idx → EReal)
  (A2 A3 : Cert.FfnRefIdeal.S1024x2816.Idx → EReal) (A4 : S4224x1024.Idx → EReal) (A5 : S1x1024.Idx → EReal)
  (x0 : Vec Ideal S384x1024 .f32) (x1 : Vec Ideal S2816x1024 .bf16) (x2 x3 : Vec Ideal S384x2816 .bf16)
  (x4 x5 : Vec Ideal S2816x1024 .bf16) (x6 : Vec Ideal S384x1024 .f32) (x7 : Vec Ideal S1x1024 .f32) (t : Fin 11)
  (h0 : ∀ r k, x0 (ix2 r k) = A0 (ix2 (row t r) k)) (h1 : ∀ r k, x1 (ix2 r k) = A1 (ix2 r k))
  (h2 : ∀ r k, x2 (ix2 r k) = val_main_v20 (F := Ideal) A2 A4 A5 (ix2 (row t r) k))
  (h3 : ∀ r k, x3 (ix2 r k) = val_main_v21 (F := Ideal) A3 A4 A5 (ix2 (row t r) k))
  (h4 : ∀ k l, x4 (ix2 k l) = A2 (ix2 l k)) (h5 : ∀ k l, x5 (ix2 k l) = A3 (ix2 l k))
  (h6 : ∀ r k, x6 (ix2 r k) = A4 (ix2 (row t r) k)) (h7 : ∀ r k, x7 (ix2 r k) = A5 (ix2 r k))

include h0 h1 h2 h3 in
/-- The gate projection's cotangent on the first half of the columns. -/
theorem gate_first (r : Fin 384) (l : Fin 1408) :
    k0_pay4 x0 (loW x1) (loC x2) (loC x3) (ix2 r l) = val_main_v30 (F := Ideal) A0 A1 A2 A3 A4 A5 (ix2 (row t r) (first l)) := by
  unfold_payloads
  pointwise [loW, loC, val_main_v30, val_main_call1_v1, val_main_call1_v2, val_main_call1_v0, val_main_v29, val_main_v22_1, val_main_v22_2,
    val_main_call0_v7, val_main_call0_v6, val_main_call0_cst_1, val_main_call0_v4, val_main_call0_cst_0, val_main_call0_v3,
    val_main_call0_v2, val_main_call0_cst, val_main_call0_v1, val_main_call0_v0, val_main_v27, val_main_v26, val_main_v0]
  simp only [h0, h1, h2, h3]
  rfl

include h0 h1 h2 h3 in
/-- The gate projection's cotangent on the second half of the columns. -/
theorem gate_second (r : Fin 384) (l : Fin 1408) :
    k0_pay10 x0 (hiW x1) (hiC x2) (hiC x3) (ix2 r l) = val_main_v30 (F := Ideal) A0 A1 A2 A3 A4 A5 (ix2 (row t r) (second l)) := by
  unfold_payloads
  pointwise [hiW, hiC, val_main_v30, val_main_call1_v1, val_main_call1_v2, val_main_call1_v0, val_main_v29, val_main_v22_1, val_main_v22_2,
    val_main_call0_v7, val_main_call0_v6, val_main_call0_cst_1, val_main_call0_v4, val_main_call0_cst_0, val_main_call0_v3,
    val_main_call0_v2, val_main_call0_cst, val_main_call0_v1, val_main_call0_v0, val_main_v27, val_main_v26, val_main_v0]
  simp only [h0, h1, h2, h3]
  rfl

include h0 h1 h2 in
/-- The other projection's cotangent on the first half of the columns. -/
theorem up_first (r : Fin 384) (l : Fin 1408) :
    k0_pay5 x0 (loW x1) (loC x2) (ix2 r l) = val_main_v28 (F := Ideal) A0 A1 A2 A4 A5 (ix2 (row t r) (first l)) := by
  unfold_payloads
  pointwise [loW, loC, val_main_v28, val_main_v22_0, val_main_v22_2, val_main_call0_v4, val_main_call0_cst_0, val_main_call0_v3,
    val_main_call0_v2, val_main_call0_cst, val_main_call0_v1, val_main_call0_v0, val_main_v27, val_main_v26, val_main_v0]
  simp only [h0, h1, h2]
  rfl

include h0 h1 h2 in
/-- The other projection's cotangent on the second half of the columns. -/
theorem up_second (r : Fin 384) (l : Fin 1408) :
    k0_pay11 x0 (hiW x1) (hiC x2) (ix2 r l) = val_main_v28 (F := Ideal) A0 A1 A2 A4 A5 (ix2 (row t r) (second l)) := by
  unfold_payloads
  pointwise [hiW, hiC, val_main_v28, val_main_v22_0, val_main_v22_2, val_main_call0_v4, val_main_call0_cst_0, val_main_call0_v3,
    val_main_call0_v2, val_main_call0_cst, val_main_call0_v1, val_main_call0_v0, val_main_v27, val_main_v26, val_main_v0]
  simp only [h0, h1, h2]
  rfl

include h0 h1 h2 h3 in
/-- The gate projection's cotangent block is the reference's, rounded as it is. -/
theorem block8 (r : Fin 384) (l : Fin 2816) :
    halves (k0_pay10 x0 (hiW x1) (hiC x2) (hiC x3)) (k0_pay4 x0 (loW x1) (loC x2) (loC x3)) (ix2 r l)
      = val_main_v56 (F := Ideal) A0 A1 A2 A3 A4 A5 (ix2 (row t r) l) :=
  halves_apply _ _ (fun y => val_main_v56 (F := Ideal) A0 A1 A2 A3 A4 A5 (ix2 (row t (y 0)) (y 1)))
    (fun r l => gate_second A0 A1 A2 A3 A4 A5 x0 x1 x2 x3 t h0 h1 h2 h3 r l)
    (fun r l => gate_first A0 A1 A2 A3 A4 A5 x0 x1 x2 x3 t h0 h1 h2 h3 r l) (ix2 r l)

include h0 h1 h2 in
/-- The other projection's cotangent block is the reference's. -/
theorem block9 (r : Fin 384) (l : Fin 2816) :
    halves (k0_pay11 x0 (hiW x1) (hiC x2)) (k0_pay5 x0 (loW x1) (loC x2)) (ix2 r l)
      = val_main_v57 (F := Ideal) A0 A1 A2 A4 A5 (ix2 (row t r) l) :=
  halves_apply _ _ (fun y => val_main_v57 (F := Ideal) A0 A1 A2 A4 A5 (ix2 (row t (y 0)) (y 1)))
    (fun r l => up_second A0 A1 A2 A4 A5 x0 x1 x2 t h0 h1 h2 r l)
    (fun r l => up_first A0 A1 A2 A4 A5 x0 x1 x2 t h0 h1 h2 r l) (ix2 r l)

include h0 h1 h2 h3 h4 h5 in
/-- The normalised input's cotangent: the four half products are the two whole ones. -/
theorem normed_apply (r : Fin 384) (l : Fin 1024) :
    normed x0 x1 x2 x3 x4 x5 (ix2 r l) = val_main_v33 (F := Ideal) A0 A1 A2 A3 A4 A5 (ix2 (row t r) l) := by
  unfold normed
  pointwise [k0_pay12, k0_pay6, val_main_v33, val_main_v31, val_main_v32, val_main_v1, val_main_v2]
  simp only [gate_first A0 A1 A2 A3 A4 A5 x0 x1 x2 x3 t h0 h1 h2 h3, gate_second A0 A1 A2 A3 A4 A5 x0 x1 x2 x3 t h0 h1 h2 h3,
    up_first A0 A1 A2 A4 A5 x0 x1 x2 t h0 h1 h2, up_second A0 A1 A2 A4 A5 x0 x1 x2 t h0 h1 h2, loW_apply, hiW_apply, h4, h5]
  rw [Fin.sum_univ_two_halves 1408 1408 rfl, Fin.sum_univ_two_halves 1408 1408 rfl]
  simp only [first, second]
  ac_rfl

include h0 h6 h7 in
/-- The input's cotangent: the residual, and the norm's gradient of a block `y` that holds the normalised input's. -/
theorem block10 (y : FVec Ideal S384x1024 .f32)
    (hy : ∀ r l, y (ix2 r l) = val_main_v33 (F := Ideal) A0 A1 A2 A3 A4 A5 (ix2 (row t r) l)) (r : Fin 384) (l : Fin 1024) :
    k0_pay16 y x6 x7 (k0_pay13 x6) x0 (ix2 r l)
      = val_main_v54 (F := Ideal) A0 A1 A2 A3 A4 A5 (ix2 (row t r) l) := by
  unfold_payloads
  pointwise [val_main_v54, val_main_v53, val_main_v52, val_main_v51, val_main_v50, val_main_v49,
    val_main_cst_7, val_main_v48, val_main_v47, val_main_cst_6, val_main_v46, val_main_v45, val_main_v44, val_main_v43,
    val_main_v42, val_main_v41, val_main_cst_5, val_main_v40, val_main_v38, val_main_v37, val_main_v17, val_main_v3,
    val_main_v14, val_main_v13, val_main_cst_2, val_main_v12, val_main_v11, val_main_v10, val_main_v9, val_main_cst_1,
    val_main_v8, val_main_v7, val_main_cst_0, val_main_v6, val_main_v5, val_main_cst, val_main_v4]
  simp only [h0, h6, h7, hy]

include h6 in
/-- The scale's cotangent: what was there, and the block's rows of the normalised input times its cotangent. -/
theorem block11 (y : FVec Ideal S384x1024 .f32)
    (hy : ∀ r l, y (ix2 r l) = val_main_v33 (F := Ideal) A0 A1 A2 A3 A4 A5 (ix2 (row t r) l))
    (p : Vec Ideal S1x1024 .f32) (l : Fin 1024) :
    k0_pay18 y x6 (k0_pay13 x6) p (ix2 0 l)
      = p (ix2 0 l) + ∑ r : Fin 384, val_main_v34 (F := Ideal) A0 A1 A2 A3 A4 A5 (ix2 (row t r) l) := by
  unfold_payloads
  pointwise [val_main_v34, val_main_v16, val_main_v15, val_main_v11, val_main_v10, val_main_v9, val_main_cst_1,
    val_main_v8, val_main_v7, val_main_cst_0, val_main_v6, val_main_v5, val_main_cst, val_main_v4]
  simp only [h6, hy]

/-- The scale's cotangent starts from zero. -/
theorem zero17 (i : S1x1024.Idx) : k0_pay17 (F := Ideal) i = 0 := by
  unfold_payloads
  pointwise []

end Cert.FfnBlock

end
-- ==== Proof.FfnArray.lean ====
/- The four arrays the feed-forward layer's gradient leaves: each is the reference's value. Three are written a block of
   rows a point; the scale's cotangent is added up over the points and written back once. -/
module

public import proofs.«01_k».proof.Proof.FfnBlock
public import proofs.«01_k».proof.Proof.Index
public import Idealize.ShloMosaic.Lib.StableHlo.ReadAt
public import Idealize.ShloMosaic.Lib.Pipeline.ValueKit.Acc

@[expose] public section

set_option maxRecDepth 16384

noncomputable section

namespace Cert.FfnArray

open Idealize.ShloMosaic Idealize.ShloMosaic.TcCoe Idealize.SL.Sem
open Cert.FfnRefIdeal.Read
open Cert.FfnIdeal Cert.FfnIdeal.Gen Cert.FfnBody Cert.FfnBlock Cert.Index

variable (m : (ℓ : Loc nD τ sig) → Buf (Elt Ideal) ℓ) (c : Dev nD)

/-- The kernel's argument arrays as functions of an index. -/
abbrev A0 : S4224x1024.Idx → EReal := m ((c : Thread nD τ).loc main_arg0)
abbrev A1 : S2816x1024.Idx → EReal := m ((c : Thread nD τ).loc main_arg1)
abbrev A2 : S1024x2816.Idx → EReal := m ((c : Thread nD τ).loc main_arg2)
abbrev A3 : S1024x2816.Idx → EReal := m ((c : Thread nD τ).loc main_arg3)
abbrev A4 : S4224x1024.Idx → EReal := m ((c : Thread nD τ).loc main_arg4)
abbrev A5 : S1x1024.Idx → EReal := m ((c : Thread nD τ).loc main_arg5)

/-! What the host operations before the call leave in the arrays it reads. -/

/-- The gate projection of the normalised input, made on the host as the reference makes it. -/
theorem entry2 (r : Fin 4224) (k : Fin 2816) :
    V m c main_v16 (ix2 r k) = val_main_v20 (F := Ideal) (A2 m c) (A4 m c) (A5 m c) (ix2 r k) := by
  pointwise [val_main_v20, val_main_v19, val_main_v18, val_main_v17, val_main_v16, val_main_v15, val_main_v11,
    val_main_v10, val_main_v9, val_main_cst_1, val_main_v8, val_main_v7, val_main_cst_0, val_main_v6, val_main_v5,
    val_main_cst, val_main_v4, val_main_v3, val_main_v1]
  unfold V
  after_reads_at

/-- The other projection likewise. -/
theorem entry3 (r : Fin 4224) (k : Fin 2816) :
    V m c main_v19 (ix2 r k) = val_main_v21 (F := Ideal) (A3 m c) (A4 m c) (A5 m c) (ix2 r k) := by
  pointwise [val_main_v21, val_main_v19, val_main_v18, val_main_v17, val_main_v16, val_main_v15, val_main_v11,
    val_main_v10, val_main_v9, val_main_cst_1, val_main_v8, val_main_v7, val_main_cst_0, val_main_v6, val_main_v5,
    val_main_cst, val_main_v4, val_main_v3, val_main_v2]
  unfold V
  after_reads_at

theorem entry4 (k : Fin 2816) (l : Fin 1024) : V m c main_v20 (ix2 k l) = A2 m c (ix2 l k) := by
  unfold V
  after_reads_at

theorem entry5 (k : Fin 2816) (l : Fin 1024) : V m c main_v21 (ix2 k l) = A3 m c (ix2 l k) := by
  unfold V
  after_reads_at

/-! Where a block's element lies in its array. -/

/-- The windows that walk down the rows, one block a point. -/
theorem index_rows : ∀ t : Fin grid0.N,
    (win0_0.index t 0 = t.val ∧ win0_0.index t 1 = 0)
    ∧ (win0_2.index t 0 = t.val ∧ win0_2.index t 1 = 0)
    ∧ (win0_3.index t 0 = t.val ∧ win0_3.index t 1 = 0)
    ∧ (win0_6.index t 0 = t.val ∧ win0_6.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0) := by decide +kernel

/-- The windows that stage a whole array at every point. -/
theorem index_whole : ∀ t : Fin grid0.N,
    (win0_1.index t 0 = 0 ∧ win0_1.index t 1 = 0)
    ∧ (win0_4.index t 0 = 0 ∧ win0_4.index t 1 = 0)
    ∧ (win0_5.index t 0 = 0 ∧ win0_5.index t 1 = 0)
    ∧ (win0_7.index t 0 = 0 ∧ win0_7.index t 1 = 0)
    ∧ (win0_11.index t 0 = 0 ∧ win0_11.index t 1 = 0) := by decide +kernel

theorem emb0 (t : Fin cfg0.N) (r : Fin 384) (k : Fin 1024) :
    ((cfg0.win 0).blk t).view.emb (ix2 r k) = ix2 (row t r) k :=
  ix2_of ((win0_0.rect_emb_val t (ix2 r k) 0).trans (at_row (index_rows t).1.1))
    ((win0_0.rect_emb_val t (ix2 r k) 1).trans (at_all (index_rows t).1.2))

theorem emb1 (t : Fin cfg0.N) (r : Fin 2816) (k : Fin 1024) :
    ((cfg0.win 1).blk t).view.emb (ix2 r k) = ix2 (r) k :=
  ix2_of ((win0_1.rect_emb_val t (ix2 r k) 0).trans (at_all (index_whole t).1.1))
    ((win0_1.rect_emb_val t (ix2 r k) 1).trans (at_all (index_whole t).1.2))

theorem emb2 (t : Fin cfg0.N) (r : Fin 384) (k : Fin 2816) :
    ((cfg0.win 2).blk t).view.emb (ix2 r k) = ix2 (row t r) k :=
  ix2_of ((win0_2.rect_emb_val t (ix2 r k) 0).trans (at_row (index_rows t).2.1.1))
    ((win0_2.rect_emb_val t (ix2 r k) 1).trans (at_all (index_rows t).2.1.2))

theorem emb3 (t : Fin cfg0.N) (r : Fin 384) (k : Fin 2816) :
    ((cfg0.win 3).blk t).view.emb (ix2 r k) = ix2 (row t r) k :=
  ix2_of ((win0_3.rect_emb_val t (ix2 r k) 0).trans (at_row (index_rows t).2.2.1.1))
    ((win0_3.rect_emb_val t (ix2 r k) 1).trans (at_all (index_rows t).2.2.1.2))

theorem emb4 (t : Fin cfg0.N) (r : Fin 2816) (k : Fin 1024) :
    ((cfg0.win 4).blk t).view.emb (ix2 r k) = ix2 (r) k :=
  ix2_of ((win0_4.rect_emb_val t (ix2 r k) 0).trans (at_all (index_whole t).2.1.1))
    ((win0_4.rect_emb_val t (ix2 r k) 1).trans (at_all (index_whole t).2.1.2))

theorem emb5 (t : Fin cfg0.N) (r : Fin 2816) (k : Fin 1024) :
    ((cfg0.win 5).blk t).view.emb (ix2 r k) = ix2 (r) k :=
  ix2_of ((win0_5.rect_emb_val t (ix2 r k) 0).trans (at_all (index_whole t).2.2.1.1))
    ((win0_5.rect_emb_val t (ix2 r k) 1).trans (at_all (index_whole t).2.2.1.2))

theorem emb6 (t : Fin cfg0.N) (r : Fin 384) (k : Fin 1024) :
    ((cfg0.win 6).blk t).view.emb (ix2 r k) = ix2 (row t r) k :=
  ix2_of ((win0_6.rect_emb_val t (ix2 r k) 0).trans (at_row (index_rows t).2.2.2.1.1))
    ((win0_6.rect_emb_val t (ix2 r k) 1).trans (at_all (index_rows t).2.2.2.1.2))

theorem emb7 (t : Fin cfg0.N) (r : Fin 1) (k : Fin 1024) :
    ((cfg0.win 7).blk t).view.emb (ix2 r k) = ix2 (r) k :=
  ix2_of ((win0_7.rect_emb_val t (ix2 r k) 0).trans (at_all (index_whole t).2.2.2.1.1))
    ((win0_7.rect_emb_val t (ix2 r k) 1).trans (at_all (index_whole t).2.2.2.1.2))

theorem emb8 (t : Fin cfg0.N) (r : Fin 384) (k : Fin 2816) :
    ((cfg0.win 8).blk t).view.emb (ix2 r k) = ix2 (row t r) k :=
  ix2_of ((win0_8.rect_emb_val t (ix2 r k) 0).trans (at_row (index_rows t).2.2.2.2.1.1))
    ((win0_8.rect_emb_val t (ix2 r k) 1).trans (at_all (index_rows t).2.2.2.2.1.2))

theorem emb9 (t : Fin cfg0.N) (r : Fin 384) (k : Fin 2816) :
    ((cfg0.win 9).blk t).view.emb (ix2 r k) = ix2 (row t r) k :=
  ix2_of ((win0_9.rect_emb_val t (ix2 r k) 0).trans (at_row (index_rows t).2.2.2.2.2.1.1))
    ((win0_9.rect_emb_val t (ix2 r k) 1).trans (at_all (index_rows t).2.2.2.2.2.1.2))

theorem emb10 (t : Fin cfg0.N) (r : Fin 384) (k : Fin 1024) :
    ((cfg0.win 10).blk t).view.emb (ix2 r k) = ix2 (row t r) k :=
  ix2_of ((win0_10.rect_emb_val t (ix2 r k) 0).trans (at_row (index_rows t).2.2.2.2.2.2.1))
    ((win0_10.rect_emb_val t (ix2 r k) 1).trans (at_all (index_rows t).2.2.2.2.2.2.2))

theorem emb11 (t : Fin cfg0.N) (r : Fin 1) (k : Fin 1024) :
    ((cfg0.win 11).blk t).view.emb (ix2 r k) = ix2 (r) k :=
  ix2_of ((win0_11.rect_emb_val t (ix2 r k) 0).trans (at_all (index_whole t).2.2.2.2.1))
    ((win0_11.rect_emb_val t (ix2 r k) 1).trans (at_all (index_whole t).2.2.2.2.2))

/-! What each input window's block holds at a point. -/

theorem read0 (t : Fin cfg0.N) (r : Fin 384) (k : Fin 1024) :
    iblk m c 0 t (ix2 r k) = A0 m c (ix2 (row t r) k) := by
  unfold iblk
  rw [View.read_apply, emb0]
  exact congrFun (V_main_arg0 m c) _

theorem read1 (t : Fin cfg0.N) (r : Fin 2816) (k : Fin 1024) :
    iblk m c 1 t (ix2 r k) = A1 m c (ix2 r k) := by
  unfold iblk
  rw [View.read_apply, emb1]
  exact congrFun (V_main_arg1 m c) _

theorem read2 (t : Fin cfg0.N) (r : Fin 384) (k : Fin 2816) :
    iblk m c 2 t (ix2 r k) = val_main_v20 (F := Ideal) (A2 m c) (A4 m c) (A5 m c) (ix2 (row t r) k) := by
  unfold iblk
  rw [View.read_apply, emb2]
  exact entry2 m c _ k

theorem read3 (t : Fin cfg0.N) (r : Fin 384) (k : Fin 2816) :
    iblk m c 3 t (ix2 r k) = val_main_v21 (F := Ideal) (A3 m c) (A4 m c) (A5 m c) (ix2 (row t r) k) := by
  unfold iblk
  rw [View.read_apply, emb3]
  exact entry3 m c _ k

theorem read4 (t : Fin cfg0.N) (r : Fin 2816) (k : Fin 1024) :
    iblk m c 4 t (ix2 r k) = A2 m c (ix2 k r) := by
  unfold iblk
  rw [View.read_apply, emb4]
  exact entry4 m c r k

theorem read5 (t : Fin cfg0.N) (r : Fin 2816) (k : Fin 1024) :
    iblk m c 5 t (ix2 r k) = A3 m c (ix2 k r) := by
  unfold iblk
  rw [View.read_apply, emb5]
  exact entry5 m c r k

theorem read6 (t : Fin cfg0.N) (r : Fin 384) (k : Fin 1024) :
    iblk m c 6 t (ix2 r k) = A4 m c (ix2 (row t r) k) := by
  unfold iblk
  rw [View.read_apply, emb6]
  exact congrFun (V_main_arg4 m c) _

theorem read7 (t : Fin cfg0.N) (r : Fin 1) (k : Fin 1024) :
    iblk m c 7 t (ix2 r k) = A5 m c (ix2 r k) := by
  unfold iblk
  rw [View.read_apply, emb7]
  exact congrFun (V_main_arg5 m c) _

/-- Every row is row `r` of some block `t`. -/
theorem row_split (i : Fin 4224) : ∃ (t : Fin 11) (r : Fin 384), i = row t r :=
  ⟨⟨i.val / 384, by omega⟩, ⟨i.val % 384, by omega⟩, Fin.ext (by show i.val = 384 * (i.val / 384) + i.val % 384; omega)⟩

/-- The normalised input's cotangent at a point is the reference's. -/
theorem normed_point (t : Fin cfg0.N) (r : Fin 384) (l : Fin 1024) :
    normed (iblk m c 0 t) (iblk m c 1 t) (iblk m c 2 t) (iblk m c 3 t) (iblk m c 4 t) (iblk m c 5 t) (ix2 r l)
      = val_main_v33 (F := Ideal) (A0 m c) (A1 m c) (A2 m c) (A3 m c) (A4 m c) (A5 m c) (ix2 (row t r) l) :=
  normed_apply _ _ _ _ _ _ _ _ _ _ _ _ t (read0 m c t) (read1 m c t) (read2 m c t) (read3 m c t)
    (read4 m c t) (read5 m c t) r l

/-! The arrays: each output window's blocks cover its array, and each block is the reference's. -/

/-- The gate projection's cotangent is the reference's. -/
theorem final8 : (dats m 0 c).arrAt 8 cfg0.N = val_main_v56 (F := Ideal) (A0 m c) (A1 m c) (A2 m c) (A3 m c) (A4 m c) (A5 m c) := by
  refine (dats m 0 c).arrAt_eq_of_cover 8 _ (fun t _ => ?_) (fun i => ?_)
  · rw [Cert.FfnIdeal.Value.flushed8, outs8]
    funext y
    obtain ⟨r, k, rfl⟩ : ∃ (r : Fin 384) (k : Fin 2816), y = ix2 r k := ⟨y 0, y 1, eq_ix2 y⟩
    rw [View.read_apply, emb8]
    exact block8 _ _ _ _ _ _ _ _ _ _ t (read0 m c t) (read1 m c t) (read2 m c t) (read3 m c t) r k
  · obtain ⟨t, r, h⟩ := row_split (i 0)
    rw [(eq_ix2 i).trans ((congrArg (ix2 · (i 1)) h).trans (emb8 t r (i 1)).symm)]
    exact ⟨t, flush0_8 t, View.emb_mem_set _ _⟩

/-- The other projection's cotangent is the reference's. -/
theorem final9 : (dats m 0 c).arrAt 9 cfg0.N = val_main_v57 (F := Ideal) (A0 m c) (A1 m c) (A2 m c) (A4 m c) (A5 m c) := by
  refine (dats m 0 c).arrAt_eq_of_cover 9 _ (fun t _ => ?_) (fun i => ?_)
  · rw [Cert.FfnIdeal.Value.flushed9, outs9]
    funext y
    obtain ⟨r, k, rfl⟩ : ∃ (r : Fin 384) (k : Fin 2816), y = ix2 r k := ⟨y 0, y 1, eq_ix2 y⟩
    rw [View.read_apply, emb9]
    exact block9 _ _ _ _ _ _ _ _ t (read0 m c t) (read1 m c t) (read2 m c t) r k
  · obtain ⟨t, r, h⟩ := row_split (i 0)
    rw [(eq_ix2 i).trans ((congrArg (ix2 · (i 1)) h).trans (emb9 t r (i 1)).symm)]
    exact ⟨t, flush0_9 t, View.emb_mem_set _ _⟩

/-- The input's cotangent is the reference's. -/
theorem final10 : (dats m 0 c).arrAt 10 cfg0.N = val_main_v54 (F := Ideal) (A0 m c) (A1 m c) (A2 m c) (A3 m c) (A4 m c) (A5 m c) := by
  refine (dats m 0 c).arrAt_eq_of_cover 10 _ (fun t _ => ?_) (fun i => ?_)
  · rw [Cert.FfnIdeal.Value.flushed10, outs10]
    funext y
    obtain ⟨r, k, rfl⟩ : ∃ (r : Fin 384) (k : Fin 1024), y = ix2 r k := ⟨y 0, y 1, eq_ix2 y⟩
    rw [View.read_apply, emb10]
    exact block10 _ _ _ _ _ _ _ _ _ t (read0 m c t) (read6 m c t) (read7 m c t) _ (normed_point m c t) r k
  · obtain ⟨t, r, h⟩ := row_split (i 0)
    rw [(eq_ix2 i).trans ((congrArg (ix2 · (i 1)) h).trans (emb10 t r (i 1)).symm)]
    exact ⟨t, flush0_10 t, View.emb_mem_set _ _⟩

/-- After the last point the scale's cotangent is the sum over every point and every row of its block. -/
theorem total (t : Fin cfg0.N) (ht : t.val + 1 = cfg0.N) (l : Fin 1024) : (outsAt0 m c t.val t.isLt).2.2.2 (ix2 0 l)
    = ∑ p : Fin 11, ∑ r : Fin 384, val_main_v34 (F := Ideal) (A0 m c) (A1 m c) (A2 m c) (A3 m c) (A4 m c) (A5 m c) (ix2 (row p r) l) := by
  have h := Pipeline.eq_sum_fin_of_reset_step_apply_last (N := cfg0.N)
    (fun n hn (l : Fin 1024) => ((outsAt0 m c n hn).2.2.2 (ix2 0 l) : EReal)) 11 (fun _ => 0)
    (fun p l => ∑ r : Fin 384, val_main_v34 (F := Ideal) (A0 m c) (A1 m c) (A2 m c) (A3 m c) (A4 m c) (A5 m c) (ix2 (row p r) l))
    (fun p hp l => (congrFun (outs11_first m c p hp) _).trans
      ((block11 _ _ _ _ _ _ _ p (read6 m c p) _ (normed_point m c p) _ l).trans (congrArg (· + _) (zero17 _))))
    (fun p hp l => (congrFun (outs11_next m c p hp) _).trans
      (block11 _ _ _ _ _ _ _ p (read6 m c p) _ (normed_point m c p) _ l))
    (le_refl 11) t ht l
  exact h.trans (zero_add _)

/-- The reference's scale cotangent, one sum over the rows, is that sum. -/
theorem scale (l : Fin 1024) : val_main_v55 (F := Ideal) (A0 m c) (A1 m c) (A2 m c) (A3 m c) (A4 m c) (A5 m c) (ix2 0 l)
    = ∑ p : Fin 11, ∑ r : Fin 384, val_main_v34 (F := Ideal) (A0 m c) (A1 m c) (A2 m c) (A3 m c) (A4 m c) (A5 m c) (ix2 (row p r) l) := by
  pointwise [val_main_v55, val_main_v39, val_main_cst_4, val_main_v36, val_main_v35, val_main_cst_3]
  refine (Fin.sum_univ_one _).trans ((Fin.sum_univ_tiles 11 384 rfl _).trans ?_)
  exact Finset.sum_congr rfl fun p _ => Finset.sum_congr rfl fun r _ =>
    congrArg (fun q => val_main_v34 (F := Ideal) (A0 m c) (A1 m c) (A2 m c) (A3 m c) (A4 m c) (A5 m c) (ix2 q l))
      (Fin.ext (congrArg (· + r.val) (Nat.mul_comm _ _)))

/-- The scale's cotangent is the reference's. -/
theorem final11 : (dats m 0 c).arrAt 11 cfg0.N = val_main_v55 (F := Ideal) (A0 m c) (A1 m c) (A2 m c) (A3 m c) (A4 m c) (A5 m c) := by
  refine (dats m 0 c).arrAt_eq_of_cover 11 _ (fun t ht => ?_) (fun i => ?_)
  · rw [Cert.FfnIdeal.Value.flushed11]
    funext y
    obtain ⟨k, rfl⟩ : ∃ (k : Fin 1024), y = ix2 (0 : Fin 1) k := ⟨y 1, (eq_ix2 y).trans (congrArg (ix2 · (y 1)) (Subsingleton.elim _ _))⟩
    rw [View.read_apply, emb11]
    have h := (flush0_11 t).mp ht
    have h' := t.isLt
    have h'' : cfg0.N = 11 := rfl
    exact (total m c t (by omega) k).trans (scale m c k).symm
  · refine ⟨⟨10, by decide⟩, (flush0_11 _).mpr (by decide), ?_⟩
    rw [(eq_ix2 i).trans (emb11 ⟨10, by decide⟩ (i 0) (i 1)).symm]
    exact View.emb_mem_set _ _

end Cert.FfnArray

end
-- ==== Proof.FfnValue.lean ====
/- The feed-forward layer's gradient: the kernel and the reference leave the same four arrays. -/
module

public import proofs.«01_k».proof.Defs
public import proofs.«01_k».proof.Proof.FfnArray

@[expose] public section

set_option maxRecDepth 16384

noncomputable section

namespace Cert.FfnValue

open Idealize.ShloMosaic Idealize.ShloMosaic.TcCoe Idealize.SL.Sem
open Cert.FfnRefIdeal.Read Cert.FfnArray

/-- The reference terminates, keeps its arguments and leaves every counter at zero. -/
theorem frame_ref : quiescent_FfnRefIdeal := fun m ρ _ =>
  (θ_run Cert.FfnRefIdeal.defs _ _).mono
    (fun r h => ⟨fun c => (h c).2.2.2.2, sem_eq_zero_of_no_sems (by decide) r.2⟩) (Cert.FfnRefIdeal.Value.run m ρ)

/-- From memories that agree on the arguments both programs run and end with equal results. -/
theorem algebraic : algebraic_FfnIdeal_FfnRefIdeal := by
  intro m g m' g' _ h
  refine ⟨fun c => val_main_v56 (F := Ideal) (A0 m c) (A1 m c) (A2 m c) (A3 m c) (A4 m c) (A5 m c),
    fun c => val_main_v57 (F := Ideal) (A0 m c) (A1 m c) (A2 m c) (A4 m c) (A5 m c),
    fun c => val_main_v54 (F := Ideal) (A0 m c) (A1 m c) (A2 m c) (A3 m c) (A4 m c) (A5 m c),
    fun c => val_main_v55 (F := Ideal) (A0 m c) (A1 m c) (A2 m c) (A3 m c) (A4 m c) (A5 m c), ?_, ?_⟩
  · refine (θ_run _ _ _).mono (fun r H c => ?_) (Cert.FfnIdeal.Value.run_blocks m g)
    obtain ⟨h8, h9, h10, h11, hargs⟩ := H c
    exact ⟨h8.trans (final8 m c), h9.trans (final9 m c), h10.trans (final10 m c), h11.trans (final11 m c), hargs⟩
  · refine (θ_run _ _ _).mono (fun r H c => ?_) (Cert.FfnRefIdeal.Value.run m' g')
    obtain ⟨h8, h9, h10, h11, hargs⟩ := H c
    obtain ⟨e0, e1, e2, e3, e4, e5⟩ := h c
    rw [val_main_v57_eq, e0, e1, e2, e4, e5] at h9
    rw [val_main_v56_eq, e0, e1, e2, e3, e4, e5] at h8
    rw [val_main_v54_eq, e0, e1, e2, e3, e4, e5] at h10
    rw [val_main_v55_eq, e0, e1, e2, e3, e4, e5] at h11
    exact ⟨h8, h9, h10, h11, hargs⟩

end Cert.FfnValue

end
-- ==== Proof.DownWeightBody.lean ====
/- What the points of the down projection's weight gradient leave: the running sum over three blocks of rows, which the
   last point of each block of columns stores. -/
module

public import proofs.«01_k».proof.Proof.Gen.DownWeightIdeal.Value
public import Idealize.ShloMosaic.Lib.Pointwise
public import Idealize.ShloMosaic.Lib.Pipeline.ValueKit.Acc

@[expose] public section

set_option maxRecDepth 16384

noncomputable section

namespace Cert.DownWeightBody

open Idealize.ShloMosaic Idealize.ShloMosaic.TcCoe Idealize.SL.Sem
open Cert.DownWeightIdeal Cert.DownWeightIdeal.Gen

theorem off0 : (![0, 0] : Fin 2 → Nat) = fun _ => 0 := funext fun a => by fin_cases a <;> rfl

/-- Reading a whole block reads the block. -/
theorem ld_left (x : Vec Ideal S1408x1408 .bf16) : View.ld x (Rect.unit ![0, 0] ![1408, 1408] inb_S1408x1408_S1408x1408_0_0) = x :=
  View.ld_unit_zero off0 _ x

theorem ld_right (x : Vec Ideal S1408x1024 .f32) : View.ld x (Rect.unit ![0, 0] ![1408, 1024] inb_S1408x1024_S1408x1024_0_0) = x :=
  View.ld_unit_zero off0 _ x

theorem ld_sum (x : Vec Ideal S1408x1024 .f32) : View.ld x (Rect.unit ![0, 0] ![1408, 1024] inb_S1408x1024_S1408x1024_0_0) = x :=
  View.ld_unit_zero off0 _ x

/-- One step of the sum: the products of one row block, added to what was there. -/
theorem step_apply (v : Vec Ideal S1408x1024 .f32) (x : Vec Ideal S1408x1408 .bf16) (y : Vec Ideal S1408x1024 .f32) (i : Fin 1408) (l : Fin 1024) :
    k0_pay2 (F := Ideal) v x y (ix2 i l) = v (ix2 i l) + ∑ q : Fin 1408, x (ix2 q i) * y (ix2 q l) := by
  unfold k0_pay2
  pointwise []

theorem zero_apply (i : S1408x1024.Idx) : k0_pay1 (F := Ideal) i = 0 := by
  unfold k0_pay1
  pointwise []

theorem cast_apply (v : Vec Ideal S1408x1024 .f32) (i : S1408x1024.Idx) : k0_pay3 (F := Ideal) v i = v i := rfl

variable (m : (ℓ : Loc nD τ sig) → Buf (Elt Ideal) ℓ) (c : Dev nD)

/-- The running sum after the first of a block's three points. -/
theorem sum_first (t : Fin cfg0.N) (h : t.val % 3 = 0) :
    (outsAt0 m c t.val t.isLt).2 = k0_pay2 k0_pay1 (iblk m c 0 t) (iblk m c 1 t) := by
  rw [outsAt0_A m c t h (by omega)]
  dsimp only
  unfold sout0_A_0
  rw [View.read_writes_eq_canon _ _ _ (scover0_A_0 c _ _ _ _ _ _ _ _ _ _ _ _ _)]
  unfold kernelRun0_A
  dsimp only
  sl_unfold_words
  rw [View.canon_cons_unit_zero (S := S1408x1024) off0, View.readCov_unit_zero (S := S1408x1024) _ off0]
  simp only [View.readAt_eq_ld, (hs0_0 t).read_unread, (hs0_1 t).read_unread, ld_left, ld_right]

/-- The running sum after a later point: the point before's, and this point's products. -/
theorem sum_next (t : Fin cfg0.N) (h : ¬t.val % 3 = 0) :
    (outsAt0 m c t.val t.isLt).2 = k0_pay2 (outsAt0 m c (t.val - 1) (Nat.lt_of_le_of_lt (Nat.sub_le _ _) t.isLt)).2
      (iblk m c 0 t) (iblk m c 1 t) := by
  by_cases h2 : t.val % 3 = 2
  · rw [outsAt0_C m c t h h2]
    dsimp only
    unfold sout0_C_0
    rw [View.read_writes_eq_canon _ _ _ (scover0_C_0 c _ _ _ _ _ _ _ _ _ _ _ _ _ _)]
    unfold kernelRun0_C
    dsimp only
    sl_unfold_words
    rw [View.canon_unit_zero off0]
    simp only [View.readAt_eq_ld, (hs0_0 t).read_unread, (hs0_1 t).read_unread,
      (Memref.isWhole_whole cc0_scratch0).read_unread, ld_left, ld_right, ld_sum]
  · rw [outsAt0_B m c t h h2]
    dsimp only
    unfold sout0_B_0
    rw [View.read_writes_eq_canon _ _ _ (scover0_B_0 c _ _ _ _ _ _ _ _ _ _ _ _ _ _)]
    unfold kernelRun0_B
    dsimp only
    sl_unfold_words
    rw [View.canon_unit_zero off0]
    simp only [View.readAt_eq_ld, (hs0_0 t).read_unread, (hs0_1 t).read_unread,
      (Memref.isWhole_whole cc0_scratch0).read_unread, ld_left, ld_right, ld_sum]

/-- What the last of a block's three points stores: the running sum. -/
theorem out_last (t : Fin cfg0.N) (h : t.val % 3 = 2) (i : S1408x1024.Idx) :
    (outsAt0 m c t.val t.isLt).1 i = (outsAt0 m c t.val t.isLt).2 i := by
  rw [sum_next m c t (by omega), outsAt0_C m c t (by omega) h]
  dsimp only
  unfold out0_C_2
  rw [View.read_writes_eq_canon _ _ _ (cover0_C_2 c _ _ _ _ _ _ _ _ _ _ _ _ _ _)]
  unfold kernelRun0_C
  dsimp only
  sl_unfold_words
  rw [View.canon_unit_zero off0, View.readCov_unit_zero (S := S1408x1024) _ off0]
  simp only [View.readAt_eq_ld, (hs0_0 t).read_unread, (hs0_1 t).read_unread,
    (Memref.isWhole_whole cc0_scratch0).read_unread, ld_left, ld_right, ld_sum]
  rfl

/-- The two blocks a point reads, as functions of an index. -/
abbrev left (t : Fin cfg0.N) : S1408x1408.Idx → EReal := iblk m c 0 t
abbrev right (t : Fin cfg0.N) : S1408x1024.Idx → EReal := iblk m c 1 t

/-- The running sum, element by element. -/
abbrev running (n : ℕ) (hn : n < cfg0.N) (p : Fin 1408 × Fin 1024) : EReal := (outsAt0 m c n hn).2 (ix2 p.1 p.2)

/-- The products a point adds. -/
abbrev added (t : Fin cfg0.N) (p : Fin 1408 × Fin 1024) : EReal :=
  ∑ q : Fin 1408, left m c t (ix2 q p.1) * right m c t (ix2 q p.2)

theorem running_first (t : Fin cfg0.N) (h : t.val % 3 = 0) (p : Fin 1408 × Fin 1024) :
    running m c t.val t.isLt p = 0 + added m c t p :=
  (congrFun (sum_first m c t h) _).trans ((step_apply _ _ _ p.1 p.2).trans (congrArg (· + _) (zero_apply _)))

theorem running_next (t : Fin cfg0.N) (h : ¬t.val % 3 = 0) (p : Fin 1408 × Fin 1024) :
    running m c t.val t.isLt p
      = running m c (t.val - 1) (Nat.lt_of_le_of_lt (Nat.sub_le _ _) t.isLt) p + added m c t p :=
  (congrFun (sum_next m c t h) _).trans (step_apply _ _ _ p.1 p.2)

/-- What the last point stores, element by element: the sum over the three row blocks. -/
theorem out_apply (t : Fin cfg0.N) (h : t.val % 3 = 2) (i : Fin 1408) (l : Fin 1024) :
    (outsAt0 m c t.val t.isLt).1 (ix2 i l) = ∑ s : Fin 3, ∑ q : Fin 1408,
      left m c ⟨3 * (t.val / 3) + s.val, Pipeline.run_point_lt_of_flush t h s⟩ (ix2 q i)
        * right m c ⟨3 * (t.val / 3) + s.val, Pipeline.run_point_lt_of_flush t h s⟩ (ix2 q l) :=
  (out_last m c t h _).trans ((Pipeline.eq_sum_fin_of_reset_step_apply_of_flush (N := cfg0.N) (running m c) 3 (fun _ => 0)
    (added m c) (running_first m c) (running_next m c) t h (i, l)).trans (zero_add _))

end Cert.DownWeightBody

end
-- ==== Proof.DownWeightArray.lean ====
/- The array the down projection's weight gradient leaves is the reference's: one sum over all rows. -/
module

public import proofs.«01_k».proof.Proof.DownWeightBody
public import proofs.«01_k».proof.Proof.Index
public import proofs.«01_k».proof.Proof.Gen.DownWeightRefIdeal.Read

@[expose] public section

set_option maxRecDepth 16384

noncomputable section

namespace Cert.DownWeightArray

open Idealize.ShloMosaic Idealize.ShloMosaic.TcCoe Idealize.SL.Sem
open Cert.DownWeightRefIdeal.Read
open Cert.DownWeightIdeal Cert.DownWeightIdeal.Gen Cert.DownWeightBody Cert.Index

variable (m : (ℓ : Loc nD τ sig) → Buf (Elt Ideal) ℓ) (c : Dev nD)

/-! The kernel's argument arrays as functions of an index. -/

abbrev A0 : S4224x2816.Idx → EReal := m ((c : Thread nD τ).loc main_arg0)
abbrev A1 : S4224x1024.Idx → EReal := m ((c : Thread nD τ).loc main_arg1)

/-- The row of the arrays that row `q` of the `s`-th row block stands for. -/
abbrev row (s : Fin 3) (q : Fin 1408) : Fin 4224 := ⟨1408 * s.val + q.val, by omega⟩

/-- The column that column `i` of the `j`-th block of columns stands for. -/
abbrev col (j : Fin 2) (i : Fin 1408) : Fin 2816 := ⟨1408 * j.val + i.val, by omega⟩

/-- The point of the `j`-th block of columns that reads the `s`-th block of rows. -/
theorem blocks : ∀ t : Fin grid0.N,
    (win0_0.index t 0 = t.val % 3 ∧ win0_0.index t 1 = t.val / 3)
    ∧ (win0_1.index t 0 = t.val % 3 ∧ win0_1.index t 1 = 0)
    ∧ (win0_2.index t 0 = t.val / 3 ∧ win0_2.index t 1 = 0) := by decide +kernel

theorem emb0 (t : Fin cfg0.N) (s : Fin 3) (j : Fin 2) (hs : t.val % 3 = s.val) (hj : t.val / 3 = j.val)
    (q : Fin 1408) (i : Fin 1408) : ((cfg0.win 0).blk t).view.emb (ix2 q i) = ix2 (row s q) (col j i) :=
  ix2_of ((win0_0.rect_emb_val t (ix2 q i) 0).trans (at_row ((blocks t).1.1.trans hs)))
    ((win0_0.rect_emb_val t (ix2 q i) 1).trans (at_row ((blocks t).1.2.trans hj)))

theorem emb1 (t : Fin cfg0.N) (s : Fin 3) (hs : t.val % 3 = s.val) (q : Fin 1408) (l : Fin 1024) :
    ((cfg0.win 1).blk t).view.emb (ix2 q l) = ix2 (row s q) l :=
  ix2_of ((win0_1.rect_emb_val t (ix2 q l) 0).trans (at_row ((blocks t).2.1.1.trans hs)))
    ((win0_1.rect_emb_val t (ix2 q l) 1).trans (at_all (blocks t).2.1.2))

theorem emb2 (t : Fin cfg0.N) (j : Fin 2) (hj : t.val / 3 = j.val) (i : Fin 1408) (l : Fin 1024) :
    ((cfg0.win 2).blk t).view.emb (ix2 i l) = ix2 (col j i) l :=
  ix2_of ((win0_2.rect_emb_val t (ix2 i l) 0).trans (at_row ((blocks t).2.2.1.trans hj)))
    ((win0_2.rect_emb_val t (ix2 i l) 1).trans (at_all (blocks t).2.2.2))

/-! What the two blocks hold at a point. -/

theorem read0 (t : Fin cfg0.N) (s : Fin 3) (j : Fin 2) (hs : t.val % 3 = s.val) (hj : t.val / 3 = j.val)
    (q : Fin 1408) (i : Fin 1408) : left m c t (ix2 q i) = A0 m c (ix2 (row s q) (col j i)) := by
  unfold left iblk
  rw [View.read_apply, emb0 t s j hs hj]
  exact congrFun (V_main_arg0 m c) _

theorem read1 (t : Fin cfg0.N) (s : Fin 3) (hs : t.val % 3 = s.val) (q : Fin 1408) (l : Fin 1024) :
    right m c t (ix2 q l) = A1 m c (ix2 (row s q) l) := by
  unfold right iblk
  rw [View.read_apply, emb1 t s hs]
  exact congrFun (V_main_arg1 m c) _

/-- The reference's gradient is one sum over the rows, here by its three blocks of them. -/
theorem reference_apply (a : Fin 2816) (l : Fin 1024) : val_main_v5 (F := Ideal) (A0 m c) (A1 m c) (ix2 a l)
    = ∑ s : Fin 3, ∑ q : Fin 1408, A0 m c (ix2 (row s q) a) * A1 m c (ix2 (row s q) l) := by
  pointwise [val_main_v5, val_main_v4, val_main_v3, val_main_v1]
  refine (Fin.sum_univ_tiles 3 1408 rfl _).trans ?_
  exact Finset.sum_congr rfl fun s _ => Finset.sum_congr rfl fun q _ =>
    (congrArg (fun r : Fin 4224 => A1 m c (ix2 r l) * A0 m c (ix2 r a)) (Fin.ext (congrArg (· + q.val) (Nat.mul_comm _ _)))).trans
      (mul_comm _ _)

/-- What the last point of a block of columns writes back is the reference's block. -/
theorem written (t : Fin cfg0.N) (h : t.val % 3 = 2) (j : Fin 2) (hj : t.val / 3 = j.val) (i : Fin 1408) (l : Fin 1024) :
    (outsAt0 m c t.val t.isLt).1 (ix2 i l) = val_main_v5 (F := Ideal) (A0 m c) (A1 m c) (ix2 (col j i) l) := by
  refine (out_apply m c t h i l).trans ((reference_apply m c _ l).trans ?_).symm
  refine Finset.sum_congr rfl fun s _ => Finset.sum_congr rfl fun q _ => ?_
  have hs : (3 * (t.val / 3) + s.val) % 3 = s.val := by omega
  have hd : (3 * (t.val / 3) + s.val) / 3 = j.val := by omega
  exact (congrArg₂ (· * ·) (read0 m c ⟨_, Pipeline.run_point_lt_of_flush t h s⟩ s j hs hd q i)
    (read1 m c ⟨_, Pipeline.run_point_lt_of_flush t h s⟩ s hs q l)).symm

/-- The array: its blocks of columns cover it, and each is the reference's. -/
theorem final2 : (dats m 0 c).arrAt 2 cfg0.N = val_main_v5 (F := Ideal) (A0 m c) (A1 m c) := by
  refine (dats m 0 c).arrAt_eq_of_cover 2 _ (fun t hf => ?_) (fun i => ?_)
  · have h : t.val % 3 = 2 := (flush0_2 t).mp hf
    have hN : t.val < 6 := lt_of_lt_of_eq t.isLt N_0
    rw [Cert.DownWeightIdeal.Value.flushed2]
    funext y
    obtain ⟨r, k, rfl⟩ : ∃ (r : Fin 1408) (k : Fin 1024), y = ix2 r k := ⟨y 0, y 1, eq_ix2 y⟩
    rw [View.read_apply, emb2 t ⟨t.val / 3, by omega⟩ rfl]
    exact written m c t h ⟨t.val / 3, by omega⟩ rfl r k
  · have hi : (i 0).val < 2816 := (i 0).isLt
    have e : i 0 = col ⟨(i 0).val / 1408, by omega⟩ ⟨(i 0).val % 1408, by omega⟩ :=
      Fin.ext (by show (i 0).val = 1408 * ((i 0).val / 1408) + (i 0).val % 1408; omega)
    have ht : 3 * ((i 0).val / 1408) + 2 < cfg0.N := lt_of_lt_of_eq (by omega) N_0.symm
    rw [(eq_ix2 i).trans ((congrArg (ix2 · (i 1)) e).trans
      (emb2 ⟨_, ht⟩ ⟨(i 0).val / 1408, by omega⟩ (by show (3 * ((i 0).val / 1408) + 2) / 3 = (i 0).val / 1408; omega) _ (i 1)).symm)]
    exact ⟨⟨_, ht⟩, (flush0_2 ⟨_, ht⟩).mpr (by show (3 * ((i 0).val / 1408) + 2) % 3 = 2; omega), View.emb_mem_set _ _⟩

end Cert.DownWeightArray

end
-- ==== Proof.DownWeightValue.lean ====
/- The down projection's weight gradient: the kernel and the reference leave the same array. -/
module

public import proofs.«01_k».proof.Defs
public import proofs.«01_k».proof.Proof.DownWeightArray

@[expose] public section

set_option maxRecDepth 16384

noncomputable section

namespace Cert.DownWeightValue

open Idealize.ShloMosaic Idealize.ShloMosaic.TcCoe Idealize.SL.Sem
open Cert.DownWeightRefIdeal.Read Cert.DownWeightArray

/-- The reference terminates, keeps its arguments and leaves every counter at zero. -/
theorem frame_ref : quiescent_DownWeightRefIdeal := fun m ρ _ =>
  (θ_run Cert.DownWeightRefIdeal.defs _ _).mono
    (fun r h => ⟨fun c => (h c).2, sem_eq_zero_of_no_sems (by decide) r.2⟩) (Cert.DownWeightRefIdeal.Value.run m ρ)

/-- From memories that agree on the arguments both programs run and end with equal results. -/
theorem algebraic : algebraic_DownWeightIdeal_DownWeightRefIdeal := by
  intro m g m' g' _ h
  refine ⟨fun c => val_main_v5 (F := Ideal) (A0 m c) (A1 m c), ?_, ?_⟩
  · refine (θ_run _ _ _).mono (fun r H c => ?_) (Cert.DownWeightIdeal.Value.run_blocks m g)
    obtain ⟨h2, hargs⟩ := H c
    exact ⟨h2.trans (final2 m c), hargs⟩
  · refine (θ_run _ _ _).mono (fun r H c => ?_) (Cert.DownWeightRefIdeal.Value.run m' g')
    obtain ⟨h2, hargs⟩ := H c
    obtain ⟨e0, e1⟩ := h c
    rw [e0, e1] at h2
    exact ⟨h2, hargs⟩

end Cert.DownWeightValue

end
-- ==== Proof.GateWeightBody.lean ====
/- What the points of the gate's weight gradient leave: the running sum over three blocks of rows, which the last point of
   each block of columns stores. -/
module

public import proofs.«01_k».proof.Proof.Gen.GateWeightIdeal.Value
public import Idealize.ShloMosaic.Lib.Pointwise
public import Idealize.ShloMosaic.Lib.Pipeline.ValueKit.Acc

@[expose] public section

set_option maxRecDepth 16384

noncomputable section

namespace Cert.GateWeightBody

open Idealize.ShloMosaic Idealize.ShloMosaic.TcCoe Idealize.SL.Sem
open Cert.GateWeightIdeal Cert.GateWeightIdeal.Gen

theorem off0 : (![0, 0] : Fin 2 → Nat) = fun _ => 0 := funext fun a => by fin_cases a <;> rfl

/-- Reading a whole block reads the block. -/
theorem ld_left (x : Vec Ideal S1408x1408 .bf16) : View.ld x (Rect.unit ![0, 0] ![1408, 1408] inb_S1408x1408_S1408x1408_0_0) = x :=
  View.ld_unit_zero off0 _ x

theorem ld_right (x : Vec Ideal S1408x1024 .bf16) : View.ld x (Rect.unit ![0, 0] ![1408, 1024] inb_S1408x1024_S1408x1024_0_0) = x :=
  View.ld_unit_zero off0 _ x

theorem ld_sum (x : Vec Ideal S1408x1024 .f32) : View.ld x (Rect.unit ![0, 0] ![1408, 1024] inb_S1408x1024_S1408x1024_0_0) = x :=
  View.ld_unit_zero off0 _ x

/-- One step of the sum: the products of one row block, added to what was there. -/
theorem step_apply (v : Vec Ideal S1408x1024 .f32) (x : Vec Ideal S1408x1408 .bf16) (y : Vec Ideal S1408x1024 .bf16) (i : Fin 1408) (l : Fin 1024) :
    k0_pay2 (F := Ideal) v x y (ix2 i l) = v (ix2 i l) + ∑ q : Fin 1408, x (ix2 q i) * y (ix2 q l) := by
  unfold k0_pay2
  pointwise []

theorem zero_apply (i : S1408x1024.Idx) : k0_pay1 (F := Ideal) i = 0 := by
  unfold k0_pay1
  pointwise []

theorem cast_apply (v : Vec Ideal S1408x1024 .f32) (i : S1408x1024.Idx) : k0_pay3 (F := Ideal) v i = v i := rfl

variable (m : (ℓ : Loc nD τ sig) → Buf (Elt Ideal) ℓ) (c : Dev nD)

/-- The running sum after the first of a block's three points. -/
theorem sum_first (t : Fin cfg0.N) (h : t.val % 3 = 0) :
    (outsAt0 m c t.val t.isLt).2 = k0_pay2 k0_pay1 (iblk m c 0 t) (iblk m c 1 t) := by
  rw [outsAt0_A m c t h (by omega)]
  dsimp only
  unfold sout0_A_0
  rw [View.read_writes_eq_canon _ _ _ (scover0_A_0 c _ _ _ _ _ _ _ _ _ _ _ _ _)]
  unfold kernelRun0_A
  dsimp only
  sl_unfold_words
  rw [View.canon_cons_unit_zero (S := S1408x1024) off0, View.readCov_unit_zero (S := S1408x1024) _ off0]
  simp only [View.readAt_eq_ld, (hs0_0 t).read_unread, (hs0_1 t).read_unread, ld_left, ld_right]

/-- The running sum after a later point: the point before's, and this point's products. -/
theorem sum_next (t : Fin cfg0.N) (h : ¬t.val % 3 = 0) :
    (outsAt0 m c t.val t.isLt).2 = k0_pay2 (outsAt0 m c (t.val - 1) (Nat.lt_of_le_of_lt (Nat.sub_le _ _) t.isLt)).2
      (iblk m c 0 t) (iblk m c 1 t) := by
  by_cases h2 : t.val % 3 = 2
  · rw [outsAt0_C m c t h h2]
    dsimp only
    unfold sout0_C_0
    rw [View.read_writes_eq_canon _ _ _ (scover0_C_0 c _ _ _ _ _ _ _ _ _ _ _ _ _ _)]
    unfold kernelRun0_C
    dsimp only
    sl_unfold_words
    rw [View.canon_unit_zero off0]
    simp only [View.readAt_eq_ld, (hs0_0 t).read_unread, (hs0_1 t).read_unread,
      (Memref.isWhole_whole cc0_scratch0).read_unread, ld_left, ld_right, ld_sum]
  · rw [outsAt0_B m c t h h2]
    dsimp only
    unfold sout0_B_0
    rw [View.read_writes_eq_canon _ _ _ (scover0_B_0 c _ _ _ _ _ _ _ _ _ _ _ _ _ _)]
    unfold kernelRun0_B
    dsimp only
    sl_unfold_words
    rw [View.canon_unit_zero off0]
    simp only [View.readAt_eq_ld, (hs0_0 t).read_unread, (hs0_1 t).read_unread,
      (Memref.isWhole_whole cc0_scratch0).read_unread, ld_left, ld_right, ld_sum]

/-- What the last of a block's three points stores: the running sum. -/
theorem out_last (t : Fin cfg0.N) (h : t.val % 3 = 2) (i : S1408x1024.Idx) :
    (outsAt0 m c t.val t.isLt).1 i = (outsAt0 m c t.val t.isLt).2 i := by
  rw [sum_next m c t (by omega), outsAt0_C m c t (by omega) h]
  dsimp only
  unfold out0_C_2
  rw [View.read_writes_eq_canon _ _ _ (cover0_C_2 c _ _ _ _ _ _ _ _ _ _ _ _ _ _)]
  unfold kernelRun0_C
  dsimp only
  sl_unfold_words
  rw [View.canon_unit_zero off0, View.readCov_unit_zero (S := S1408x1024) _ off0]
  simp only [View.readAt_eq_ld, (hs0_0 t).read_unread, (hs0_1 t).read_unread,
    (Memref.isWhole_whole cc0_scratch0).read_unread, ld_left, ld_right, ld_sum]
  rfl

/-- The two blocks a point reads, as functions of an index. -/
abbrev left (t : Fin cfg0.N) : S1408x1408.Idx → EReal := iblk m c 0 t
abbrev right (t : Fin cfg0.N) : S1408x1024.Idx → EReal := iblk m c 1 t

/-- The running sum, element by element. -/
abbrev running (n : ℕ) (hn : n < cfg0.N) (p : Fin 1408 × Fin 1024) : EReal := (outsAt0 m c n hn).2 (ix2 p.1 p.2)

/-- The products a point adds. -/
abbrev added (t : Fin cfg0.N) (p : Fin 1408 × Fin 1024) : EReal :=
  ∑ q : Fin 1408, left m c t (ix2 q p.1) * right m c t (ix2 q p.2)

theorem running_first (t : Fin cfg0.N) (h : t.val % 3 = 0) (p : Fin 1408 × Fin 1024) :
    running m c t.val t.isLt p = 0 + added m c t p :=
  (congrFun (sum_first m c t h) _).trans ((step_apply _ _ _ p.1 p.2).trans (congrArg (· + _) (zero_apply _)))

theorem running_next (t : Fin cfg0.N) (h : ¬t.val % 3 = 0) (p : Fin 1408 × Fin 1024) :
    running m c t.val t.isLt p
      = running m c (t.val - 1) (Nat.lt_of_le_of_lt (Nat.sub_le _ _) t.isLt) p + added m c t p :=
  (congrFun (sum_next m c t h) _).trans (step_apply _ _ _ p.1 p.2)

/-- What the last point stores, element by element: the sum over the three row blocks. -/
theorem out_apply (t : Fin cfg0.N) (h : t.val % 3 = 2) (i : Fin 1408) (l : Fin 1024) :
    (outsAt0 m c t.val t.isLt).1 (ix2 i l) = ∑ s : Fin 3, ∑ q : Fin 1408,
      left m c ⟨3 * (t.val / 3) + s.val, Pipeline.run_point_lt_of_flush t h s⟩ (ix2 q i)
        * right m c ⟨3 * (t.val / 3) + s.val, Pipeline.run_point_lt_of_flush t h s⟩ (ix2 q l) :=
  (out_last m c t h _).trans ((Pipeline.eq_sum_fin_of_reset_step_apply_of_flush (N := cfg0.N) (running m c) 3 (fun _ => 0)
    (added m c) (running_first m c) (running_next m c) t h (i, l)).trans (zero_add _))

end Cert.GateWeightBody

end
-- ==== Proof.GateWeightArray.lean ====
/- The array the gate's weight gradient leaves is the reference's: one sum over all rows. -/
module

public import proofs.«01_k».proof.Proof.GateWeightBody
public import proofs.«01_k».proof.Proof.Index
public import proofs.«01_k».proof.Proof.Gen.GateWeightRefIdeal.Read

@[expose] public section

set_option maxRecDepth 16384

noncomputable section

namespace Cert.GateWeightArray

open Idealize.ShloMosaic Idealize.ShloMosaic.TcCoe Idealize.SL.Sem
open Cert.GateWeightRefIdeal.Read
open Cert.GateWeightIdeal Cert.GateWeightIdeal.Gen Cert.GateWeightBody Cert.Index

variable (m : (ℓ : Loc nD τ sig) → Buf (Elt Ideal) ℓ) (c : Dev nD)

/-! The kernel's argument arrays as functions of an index. -/

abbrev A0 : S4224x2816.Idx → EReal := m ((c : Thread nD τ).loc main_arg0)
abbrev A1 : S4224x1024.Idx → EReal := m ((c : Thread nD τ).loc main_arg1)

/-- The row of the arrays that row `q` of the `s`-th row block stands for. -/
abbrev row (s : Fin 3) (q : Fin 1408) : Fin 4224 := ⟨1408 * s.val + q.val, by omega⟩

/-- The column that column `i` of the `j`-th block of columns stands for. -/
abbrev col (j : Fin 2) (i : Fin 1408) : Fin 2816 := ⟨1408 * j.val + i.val, by omega⟩

/-- The point of the `j`-th block of columns that reads the `s`-th block of rows. -/
theorem blocks : ∀ t : Fin grid0.N,
    (win0_0.index t 0 = t.val % 3 ∧ win0_0.index t 1 = t.val / 3)
    ∧ (win0_1.index t 0 = t.val % 3 ∧ win0_1.index t 1 = 0)
    ∧ (win0_2.index t 0 = t.val / 3 ∧ win0_2.index t 1 = 0) := by decide +kernel

theorem emb0 (t : Fin cfg0.N) (s : Fin 3) (j : Fin 2) (hs : t.val % 3 = s.val) (hj : t.val / 3 = j.val)
    (q : Fin 1408) (i : Fin 1408) : ((cfg0.win 0).blk t).view.emb (ix2 q i) = ix2 (row s q) (col j i) :=
  ix2_of ((win0_0.rect_emb_val t (ix2 q i) 0).trans (at_row ((blocks t).1.1.trans hs)))
    ((win0_0.rect_emb_val t (ix2 q i) 1).trans (at_row ((blocks t).1.2.trans hj)))

theorem emb1 (t : Fin cfg0.N) (s : Fin 3) (hs : t.val % 3 = s.val) (q : Fin 1408) (l : Fin 1024) :
    ((cfg0.win 1).blk t).view.emb (ix2 q l) = ix2 (row s q) l :=
  ix2_of ((win0_1.rect_emb_val t (ix2 q l) 0).trans (at_row ((blocks t).2.1.1.trans hs)))
    ((win0_1.rect_emb_val t (ix2 q l) 1).trans (at_all (blocks t).2.1.2))

theorem emb2 (t : Fin cfg0.N) (j : Fin 2) (hj : t.val / 3 = j.val) (i : Fin 1408) (l : Fin 1024) :
    ((cfg0.win 2).blk t).view.emb (ix2 i l) = ix2 (col j i) l :=
  ix2_of ((win0_2.rect_emb_val t (ix2 i l) 0).trans (at_row ((blocks t).2.2.1.trans hj)))
    ((win0_2.rect_emb_val t (ix2 i l) 1).trans (at_all (blocks t).2.2.2))

/-! What the two blocks hold at a point. -/

theorem read0 (t : Fin cfg0.N) (s : Fin 3) (j : Fin 2) (hs : t.val % 3 = s.val) (hj : t.val / 3 = j.val)
    (q : Fin 1408) (i : Fin 1408) : left m c t (ix2 q i) = A0 m c (ix2 (row s q) (col j i)) := by
  unfold left iblk
  rw [View.read_apply, emb0 t s j hs hj]
  exact congrFun (V_main_arg0 m c) _

theorem read1 (t : Fin cfg0.N) (s : Fin 3) (hs : t.val % 3 = s.val) (q : Fin 1408) (l : Fin 1024) :
    right m c t (ix2 q l) = A1 m c (ix2 (row s q) l) := by
  unfold right iblk
  rw [View.read_apply, emb1 t s hs]
  exact congrFun (V_main_arg1 m c) _

/-- The reference's gradient is one sum over the rows, here by its three blocks of them. -/
theorem reference_apply (a : Fin 2816) (l : Fin 1024) : val_main_v7 (F := Ideal) (A0 m c) (A1 m c) (ix2 a l)
    = ∑ s : Fin 3, ∑ q : Fin 1408, A0 m c (ix2 (row s q) a) * A1 m c (ix2 (row s q) l) := by
  pointwise [val_main_v7, val_main_v6, val_main_v5, val_main_v4, val_main_v1, val_main_v3]
  refine (Fin.sum_univ_tiles 3 1408 rfl _).trans ?_
  exact Finset.sum_congr rfl fun s _ => Finset.sum_congr rfl fun q _ =>
    congrArg (fun r : Fin 4224 => A0 m c (ix2 r a) * A1 m c (ix2 r l)) (Fin.ext (congrArg (· + q.val) (Nat.mul_comm _ _)))

/-- What the last point of a block of columns writes back is the reference's block. -/
theorem written (t : Fin cfg0.N) (h : t.val % 3 = 2) (j : Fin 2) (hj : t.val / 3 = j.val) (i : Fin 1408) (l : Fin 1024) :
    (outsAt0 m c t.val t.isLt).1 (ix2 i l) = val_main_v7 (F := Ideal) (A0 m c) (A1 m c) (ix2 (col j i) l) := by
  refine (out_apply m c t h i l).trans ((reference_apply m c _ l).trans ?_).symm
  refine Finset.sum_congr rfl fun s _ => Finset.sum_congr rfl fun q _ => ?_
  have hs : (3 * (t.val / 3) + s.val) % 3 = s.val := by omega
  have hd : (3 * (t.val / 3) + s.val) / 3 = j.val := by omega
  exact (congrArg₂ (· * ·) (read0 m c ⟨_, Pipeline.run_point_lt_of_flush t h s⟩ s j hs hd q i)
    (read1 m c ⟨_, Pipeline.run_point_lt_of_flush t h s⟩ s hs q l)).symm

/-- The array: its blocks of columns cover it, and each is the reference's. -/
theorem final2 : (dats m 0 c).arrAt 2 cfg0.N = val_main_v7 (F := Ideal) (A0 m c) (A1 m c) := by
  refine (dats m 0 c).arrAt_eq_of_cover 2 _ (fun t hf => ?_) (fun i => ?_)
  · have h : t.val % 3 = 2 := (flush0_2 t).mp hf
    have hN : t.val < 6 := lt_of_lt_of_eq t.isLt N_0
    rw [Cert.GateWeightIdeal.Value.flushed2]
    funext y
    obtain ⟨r, k, rfl⟩ : ∃ (r : Fin 1408) (k : Fin 1024), y = ix2 r k := ⟨y 0, y 1, eq_ix2 y⟩
    rw [View.read_apply, emb2 t ⟨t.val / 3, by omega⟩ rfl]
    exact written m c t h ⟨t.val / 3, by omega⟩ rfl r k
  · have hi : (i 0).val < 2816 := (i 0).isLt
    have e : i 0 = col ⟨(i 0).val / 1408, by omega⟩ ⟨(i 0).val % 1408, by omega⟩ :=
      Fin.ext (by show (i 0).val = 1408 * ((i 0).val / 1408) + (i 0).val % 1408; omega)
    have ht : 3 * ((i 0).val / 1408) + 2 < cfg0.N := lt_of_lt_of_eq (by omega) N_0.symm
    rw [(eq_ix2 i).trans ((congrArg (ix2 · (i 1)) e).trans
      (emb2 ⟨_, ht⟩ ⟨(i 0).val / 1408, by omega⟩ (by show (3 * ((i 0).val / 1408) + 2) / 3 = (i 0).val / 1408; omega) _ (i 1)).symm)]
    exact ⟨⟨_, ht⟩, (flush0_2 ⟨_, ht⟩).mpr (by show (3 * ((i 0).val / 1408) + 2) % 3 = 2; omega), View.emb_mem_set _ _⟩

end Cert.GateWeightArray

end
-- ==== Proof.GateWeightValue.lean ====
/- The gate's weight gradient: the kernel and the reference leave the same array. -/
module

public import proofs.«01_k».proof.Defs
public import proofs.«01_k».proof.Proof.GateWeightArray

@[expose] public section

set_option maxRecDepth 16384

noncomputable section

namespace Cert.GateWeightValue

open Idealize.ShloMosaic Idealize.ShloMosaic.TcCoe Idealize.SL.Sem
open Cert.GateWeightRefIdeal.Read Cert.GateWeightArray

/-- The reference terminates, keeps its arguments and leaves every counter at zero. -/
theorem frame_ref : quiescent_GateWeightRefIdeal := fun m ρ _ =>
  (θ_run Cert.GateWeightRefIdeal.defs _ _).mono
    (fun r h => ⟨fun c => (h c).2, sem_eq_zero_of_no_sems (by decide) r.2⟩) (Cert.GateWeightRefIdeal.Value.run m ρ)

/-- From memories that agree on the arguments both programs run and end with equal results. -/
theorem algebraic : algebraic_GateWeightIdeal_GateWeightRefIdeal := by
  intro m g m' g' _ h
  refine ⟨fun c => val_main_v7 (F := Ideal) (A0 m c) (A1 m c), ?_, ?_⟩
  · refine (θ_run _ _ _).mono (fun r H c => ?_) (Cert.GateWeightIdeal.Value.run_blocks m g)
    obtain ⟨h2, hargs⟩ := H c
    exact ⟨h2.trans (final2 m c), hargs⟩
  · refine (θ_run _ _ _).mono (fun r H c => ?_) (Cert.GateWeightRefIdeal.Value.run m' g')
    obtain ⟨h2, hargs⟩ := H c
    obtain ⟨e0, e1⟩ := h c
    rw [e0, e1] at h2
    exact ⟨h2, hargs⟩

end Cert.GateWeightValue

end
-- ==== Proof.HiddenBlock.lean ====
/- What one grid point of the feed-forward layer's first half computes, element by element, and that it is the
   reference's value at the row the block's row stands for. -/
module

public import proofs.«01_k».proof.Proof.Gen.HiddenIdeal.Value
public import proofs.«01_k».proof.Proof.Gen.HiddenRefIdeal.Read
public import Idealize.ShloMosaic.Lib.Pointwise

@[expose] public section

set_option maxRecDepth 16384

noncomputable section

namespace Cert.HiddenBlock

open Idealize.ShloMosaic Idealize.ShloMosaic.TcCoe
open Cert.HiddenRefIdeal.Read
open Cert.HiddenIdeal Cert.HiddenIdeal.Gen

/-- The array's row that row `r` of block `t` stands for. -/
abbrev row (t : Fin 11) (r : Fin 384) : Fin 4224 := ⟨384 * t.val + r.val, by omega⟩

theorem off0 : (![0, 0] : Fin 2 → Nat) = fun _ => 0 := funext fun a => by fin_cases a <;> rfl

variable (A0 : S4224x1024.Idx → EReal) (A1 : S1024x2816.Idx → EReal) (A2 : S1024x2816.Idx → EReal)
  (x0 : Vec Ideal S384x1024 .bf16) (x1 : Vec Ideal S2816x1024 .bf16) (x2 : Vec Ideal S2816x1024 .bf16) (t : Fin 11)
  (h0 : ∀ r k, x0 (ix2 r k) = A0 (ix2 (row t r) k))
  (h1 : ∀ r k, x1 (ix2 r k) = A1 (ix2 k r))
  (h2 : ∀ r k, x2 (ix2 r k) = A2 (ix2 k r))

include h0 h1 in
/-- The gate's projection. -/
theorem block3 (r : Fin 384) (l : Fin 2816) :
    out0_3 (F := Ideal) x0 x1 x2 (ix2 r l) = val_main_v5 (F := Ideal) A0 A1 (ix2 (row t r) l) := by
  unfold out0_3
  rw [View.canon_unit_zero off0, View.ld_unit_zero off0, View.ld_unit_zero off0]
  unfold_payloads
  pointwise [val_main_v5, val_main_v3, val_main_v1, val_main_v0]
  simp only [h0, h1]

include h0 h2 in
/-- The other projection. -/
theorem block4 (r : Fin 384) (l : Fin 2816) :
    out0_4 (F := Ideal) x0 x1 x2 (ix2 r l) = val_main_v6 (F := Ideal) A0 A2 (ix2 (row t r) l) := by
  unfold out0_4
  rw [View.canon_unit_zero off0, View.ld_unit_zero off0, View.ld_unit_zero off0]
  unfold_payloads
  pointwise [val_main_v6, val_main_v4, val_main_v2, val_main_v0]
  simp only [h0, h2]

include h0 h1 h2 in
/-- The hidden units: the gate's projection through `silu`, times the other. -/
theorem block5 (r : Fin 384) (l : Fin 2816) :
    out0_5 (F := Ideal) x0 x1 x2 (ix2 r l) = val_main_v9 (F := Ideal) A0 A1 A2 (ix2 (row t r) l) := by
  unfold out0_5
  rw [View.canon_unit_zero off0, View.ld_unit_zero off0, View.ld_unit_zero off0, View.ld_unit_zero off0]
  unfold_payloads
  pointwise [val_main_v9, val_main_v8, val_main_v4, val_main_v2, val_main_v0, val_main_v7, val_main_call0_v5,
    val_main_call0_v3, val_main_call0_v1, val_main_call0_v0, val_main_v3, val_main_v1, val_main_call0_v2,
    val_main_call0_cst, val_main_call0_v4, val_main_call0_cst_0]
  simp only [h0, h1, h2]
  rfl

end Cert.HiddenBlock

end
-- ==== Proof.HiddenArray.lean ====
/- The three arrays the feed-forward layer's first half leaves: each is the reference's value, every block of it being
   what one grid point wrote. -/
module

public import proofs.«01_k».proof.Proof.HiddenBlock
public import proofs.«01_k».proof.Proof.Index
public import Idealize.ShloMosaic.Lib.StableHlo.ReadAt

@[expose] public section

set_option maxRecDepth 16384

noncomputable section

namespace Cert.HiddenArray

open Idealize.ShloMosaic Idealize.ShloMosaic.TcCoe Idealize.SL.Sem
open Cert.HiddenRefIdeal.Read
open Cert.HiddenIdeal Cert.HiddenIdeal.Gen Cert.HiddenBlock Cert.Index

variable (m : (ℓ : Loc nD τ sig) → Buf (Elt Ideal) ℓ) (c : Dev nD)

/-! The kernel's argument arrays as functions of an index. -/

abbrev A0 : S4224x1024.Idx → EReal := m ((c : Thread nD τ).loc main_arg0)
abbrev A1 : S1024x2816.Idx → EReal := m ((c : Thread nD τ).loc main_arg1)
abbrev A2 : S1024x2816.Idx → EReal := m ((c : Thread nD τ).loc main_arg2)

/-- The host hands the call this weight's transpose. -/
theorem entry1 (r : Fin 2816) (k : Fin 1024) : V m c main_v0 (ix2 r k) = A1 m c (ix2 k r) := by
  unfold V
  after_reads_at

/-- The host hands the call this weight's transpose. -/
theorem entry2 (r : Fin 2816) (k : Fin 1024) : V m c main_v1 (ix2 r k) = A2 m c (ix2 k r) := by
  unfold V
  after_reads_at

/-- The windows that walk down the rows, one block a point. -/
theorem index_rows : ∀ t : Fin grid0.N,
    (win0_0.index t 0 = t.val ∧ win0_0.index t 1 = 0) ∧ (win0_3.index t 0 = t.val ∧ win0_3.index t 1 = 0) ∧ (win0_4.index
    t 0 = t.val ∧ win0_4.index t 1 = 0) ∧ (win0_5.index t 0 = t.val ∧ win0_5.index t 1 = 0) := by decide +kernel

/-- The windows that stage a whole array at every point. -/
theorem index_whole : ∀ t : Fin grid0.N,
    (win0_1.index t 0 = 0 ∧ win0_1.index t 1 = 0) ∧ (win0_2.index t 0 = 0 ∧ win0_2.index t 1 = 0) := by decide +kernel

/-! Where a block's element lies in its array. -/

theorem emb0 (t : Fin cfg0.N) (r : Fin 384) (k : Fin 1024) :
    ((cfg0.win 0).blk t).view.emb (ix2 r k) = ix2 (row t r) k :=
  ix2_of ((win0_0.rect_emb_val t (ix2 r k) 0).trans (at_row (index_rows t).1.1))
    ((win0_0.rect_emb_val t (ix2 r k) 1).trans (at_all (index_rows t).1.2))

theorem emb3 (t : Fin cfg0.N) (r : Fin 384) (k : Fin 2816) :
    ((cfg0.win 3).blk t).view.emb (ix2 r k) = ix2 (row t r) k :=
  ix2_of ((win0_3.rect_emb_val t (ix2 r k) 0).trans (at_row (index_rows t).2.1.1))
    ((win0_3.rect_emb_val t (ix2 r k) 1).trans (at_all (index_rows t).2.1.2))

theorem emb4 (t : Fin cfg0.N) (r : Fin 384) (k : Fin 2816) :
    ((cfg0.win 4).blk t).view.emb (ix2 r k) = ix2 (row t r) k :=
  ix2_of ((win0_4.rect_emb_val t (ix2 r k) 0).trans (at_row (index_rows t).2.2.1.1))
    ((win0_4.rect_emb_val t (ix2 r k) 1).trans (at_all (index_rows t).2.2.1.2))

theorem emb5 (t : Fin cfg0.N) (r : Fin 384) (k : Fin 2816) :
    ((cfg0.win 5).blk t).view.emb (ix2 r k) = ix2 (row t r) k :=
  ix2_of ((win0_5.rect_emb_val t (ix2 r k) 0).trans (at_row (index_rows t).2.2.2.1))
    ((win0_5.rect_emb_val t (ix2 r k) 1).trans (at_all (index_rows t).2.2.2.2))

theorem emb1 (t : Fin cfg0.N) (r : Fin 2816) (k : Fin 1024) :
    ((cfg0.win 1).blk t).view.emb (ix2 r k) = ix2 r k :=
  ix2_of ((win0_1.rect_emb_val t (ix2 r k) 0).trans (at_all (index_whole t).1.1))
    ((win0_1.rect_emb_val t (ix2 r k) 1).trans (at_all (index_whole t).1.2))

theorem emb2 (t : Fin cfg0.N) (r : Fin 2816) (k : Fin 1024) :
    ((cfg0.win 2).blk t).view.emb (ix2 r k) = ix2 r k :=
  ix2_of ((win0_2.rect_emb_val t (ix2 r k) 0).trans (at_all (index_whole t).2.1))
    ((win0_2.rect_emb_val t (ix2 r k) 1).trans (at_all (index_whole t).2.2))

/-! What each input window's block holds at a point. -/

theorem read0 (t : Fin cfg0.N) (r : Fin 384) (k : Fin 1024) :
    iblk m c 0 t (ix2 r k) = A0 m c (ix2 (row t r) k) := by
  unfold iblk
  rw [View.read_apply, emb0]
  exact congrFun (V_main_arg0 m c) _

theorem read1 (t : Fin cfg0.N) (r : Fin 2816) (k : Fin 1024) :
    iblk m c 1 t (ix2 r k) = A1 m c (ix2 k r) := by
  unfold iblk
  rw [View.read_apply, emb1]
  exact entry1 m c r k

theorem read2 (t : Fin cfg0.N) (r : Fin 2816) (k : Fin 1024) :
    iblk m c 2 t (ix2 r k) = A2 m c (ix2 k r) := by
  unfold iblk
  rw [View.read_apply, emb2]
  exact entry2 m c r k

/-- Every row is row `r` of some block `t`. -/
theorem row_split (i : Fin 4224) : ∃ (t : Fin 11) (r : Fin 384), i = row t r :=
  ⟨⟨i.val / 384, by omega⟩, ⟨i.val % 384, by omega⟩, Fin.ext (by show i.val = 384 * (i.val / 384) + i.val % 384; omega)⟩

/-! The arrays: each output window's blocks cover its array, and each block is the reference's. -/

/-- The gate's projection is the reference's. -/
theorem final3 : (dats m 0 c).arrAt 3 cfg0.N = val_main_v5 (F := Ideal) (A0 m c) (A1 m c) := by
  refine (dats m 0 c).arrAt_eq_of_cover 3 _ (fun t _ => ?_) (fun i => ?_)
  · rw [Cert.HiddenIdeal.Value.flushed3]
    funext y
    obtain ⟨r, k, rfl⟩ : ∃ (r : Fin 384) (k : Fin 2816), y = ix2 r k := ⟨y 0, y 1, eq_ix2 y⟩
    rw [View.read_apply, emb3]
    exact block3 _ _ _ _ _ t (read0 m c t) (read1 m c t) r k
  · obtain ⟨t, r, h⟩ := row_split (i 0)
    rw [(eq_ix2 i).trans ((congrArg (ix2 · (i 1)) h).trans (emb3 t r (i 1)).symm)]
    exact ⟨t, flush0_3 t, View.emb_mem_set _ _⟩

/-- The other projection is the reference's. -/
theorem final4 : (dats m 0 c).arrAt 4 cfg0.N = val_main_v6 (F := Ideal) (A0 m c) (A2 m c) := by
  refine (dats m 0 c).arrAt_eq_of_cover 4 _ (fun t _ => ?_) (fun i => ?_)
  · rw [Cert.HiddenIdeal.Value.flushed4]
    funext y
    obtain ⟨r, k, rfl⟩ : ∃ (r : Fin 384) (k : Fin 2816), y = ix2 r k := ⟨y 0, y 1, eq_ix2 y⟩
    rw [View.read_apply, emb4]
    exact block4 _ _ _ _ _ t (read0 m c t) (read2 m c t) r k
  · obtain ⟨t, r, h⟩ := row_split (i 0)
    rw [(eq_ix2 i).trans ((congrArg (ix2 · (i 1)) h).trans (emb4 t r (i 1)).symm)]
    exact ⟨t, flush0_4 t, View.emb_mem_set _ _⟩

/-- The hidden units are the reference's. -/
theorem final5 : (dats m 0 c).arrAt 5 cfg0.N = val_main_v9 (F := Ideal) (A0 m c) (A1 m c) (A2 m c) := by
  refine (dats m 0 c).arrAt_eq_of_cover 5 _ (fun t _ => ?_) (fun i => ?_)
  · rw [Cert.HiddenIdeal.Value.flushed5]
    funext y
    obtain ⟨r, k, rfl⟩ : ∃ (r : Fin 384) (k : Fin 2816), y = ix2 r k := ⟨y 0, y 1, eq_ix2 y⟩
    rw [View.read_apply, emb5]
    exact block5 _ _ _ _ _ _ t (read0 m c t) (read1 m c t) (read2 m c t) r k
  · obtain ⟨t, r, h⟩ := row_split (i 0)
    rw [(eq_ix2 i).trans ((congrArg (ix2 · (i 1)) h).trans (emb5 t r (i 1)).symm)]
    exact ⟨t, flush0_5 t, View.emb_mem_set _ _⟩

end Cert.HiddenArray

end
-- ==== Proof.HiddenValue.lean ====
/- The feed-forward layer's first half: the kernel and the reference leave the same three arrays. -/
module

public import proofs.«01_k».proof.Defs
public import proofs.«01_k».proof.Proof.HiddenArray

@[expose] public section

set_option maxRecDepth 16384

noncomputable section

namespace Cert.HiddenValue

open Idealize.ShloMosaic Idealize.ShloMosaic.TcCoe Idealize.SL.Sem
open Cert.HiddenRefIdeal.Read Cert.HiddenArray

/-- The reference terminates, keeps its arguments and leaves every counter at zero. -/
theorem frame_ref : quiescent_HiddenRefIdeal := fun m ρ _ =>
  (θ_run Cert.HiddenRefIdeal.defs _ _).mono
    (fun r h => ⟨fun c => (h c).2.2.2, sem_eq_zero_of_no_sems (by decide) r.2⟩) (Cert.HiddenRefIdeal.Value.run m ρ)

/-- From memories that agree on the arguments both programs run and end with equal results. -/
theorem algebraic : algebraic_HiddenIdeal_HiddenRefIdeal := by
  intro m g m' g' _ h
  refine ⟨fun c => val_main_v5 (F := Ideal) (A0 m c) (A1 m c), fun c => val_main_v6 (F := Ideal) (A0 m c) (A2 m c), fun
    c => val_main_v9 (F := Ideal) (A0 m c) (A1 m c) (A2 m c), ?_, ?_⟩
  · refine (θ_run _ _ _).mono (fun r H c => ?_) (Cert.HiddenIdeal.Value.run_blocks m g)
    obtain ⟨h3, h4, h5, hargs⟩ := H c
    exact ⟨h3.trans (final3 m c), h4.trans (final4 m c), h5.trans (final5 m c), hargs⟩
  · refine (θ_run _ _ _).mono (fun r H c => ?_) (Cert.HiddenRefIdeal.Value.run m' g')
    obtain ⟨h3, h4, h5, hargs⟩ := H c
    obtain ⟨e0, e1, e2⟩ := h c
    rw [e0, e1] at h3
    rw [e0, e2] at h4
    rw [e0, e1, e2] at h5
    exact ⟨h3, h4, h5, hargs⟩

end Cert.HiddenValue

end
-- ==== Proof.BranchesBlock.lean ====
/- What one grid point of the gated merge computes, element by element, and that it is the reference's value at the row
   the block's row stands for. -/
module

public import proofs.«01_k».proof.Proof.Gen.BranchesIdeal.Value
public import proofs.«01_k».proof.Proof.Gen.BranchesRefIdeal.Read
public import Idealize.ShloMosaic.Lib.Pointwise

@[expose] public section

set_option maxRecDepth 16384

noncomputable section

namespace Cert.BranchesBlock

open Idealize.ShloMosaic Idealize.ShloMosaic.TcCoe
open Cert.BranchesRefIdeal.Read
open Cert.BranchesIdeal Cert.BranchesIdeal.Gen

/-- The array's row that row `r` of block `t` stands for. -/
abbrev row (t : Fin 6) (r : Fin 704) : Fin 4224 := ⟨704 * t.val + r.val, by omega⟩

theorem off0 : (![0, 0] : Fin 2 → Nat) = fun _ => 0 := funext fun a => by fin_cases a <;> rfl

variable (A0 : S4224x512.Idx → EReal) (A1 : S4224x512.Idx → EReal) (A2 : Cert.BranchesRefIdeal.S512x1024.Idx → EReal) (A3 : Cert.BranchesRefIdeal.S512x1024.Idx → EReal) (A4 : S4224x2048.Idx → EReal)
  (x0 : Vec Ideal S704x512 .bf16) (x1 : Vec Ideal S704x512 .bf16) (x2 : Vec Ideal S1024x512 .bf16) (x3 : Vec Ideal S1024x512 .bf16) (x4 : Vec Ideal S704x2048 .bf16) (t : Fin 6)
  (h0 : ∀ r k, x0 (ix2 r k) = A0 (ix2 (row t r) k))
  (h1 : ∀ r k, x1 (ix2 r k) = A1 (ix2 (row t r) k))
  (h2 : ∀ r k, x2 (ix2 r k) = A2 (ix2 k r))
  (h3 : ∀ r k, x3 (ix2 r k) = A3 (ix2 k r))
  (h4 : ∀ r k, x4 (ix2 r k) = A4 (ix2 (row t r) k))

include h0 h2 in
/-- The attention branch's projection. -/
theorem block5 (r : Fin 704) (l : Fin 1024) :
    out0_5 (F := Ideal) x0 x1 x2 x3 x4 (ix2 r l) = val_main_v18 (F := Ideal) A0 A2 (ix2 (row t r) l) := by
  unfold out0_5
  rw [View.canon_unit_zero off0, View.ld_unit_zero off0, View.ld_unit_zero off0]
  unfold_payloads
  pointwise [val_main_v18, val_main_v11, val_main_v2, val_main_v0]
  simp only [h0, h2]

include h1 h3 in
/-- The recurrent branch's projection. -/
theorem block6 (r : Fin 704) (l : Fin 1024) :
    out0_6 (F := Ideal) x0 x1 x2 x3 x4 (ix2 r l) = val_main_v19 (F := Ideal) A1 A3 (ix2 (row t r) l) := by
  unfold out0_6
  rw [View.canon_unit_zero off0, View.ld_unit_zero off0, View.ld_unit_zero off0]
  unfold_payloads
  pointwise [val_main_v19, val_main_v12, val_main_v3, val_main_v1]
  simp only [h1, h3]

include h0 h1 h2 h3 h4 in
/-- The merged branches: each projection times its half of the gates, added. -/
theorem block7 (r : Fin 704) (l : Fin 1024) :
    out0_7 (F := Ideal) x0 x1 x2 x3 x4 (ix2 r l) = val_main_v20 (F := Ideal) A0 A1 A2 A3 A4 (ix2 (row t r) l) := by
  unfold out0_7
  rw [View.canon_unit_zero off0, View.ld_unit_zero off0, View.ld_unit_zero off0, View.ld_unit_zero off0, View.ld_unit_zero off0, View.ld_unit_zero off0]
  unfold_payloads
  pointwise [val_main_v20, val_main_v17, val_main_v16, val_main_v12, val_main_v3, val_main_v1, val_main_v15,
    val_main_v10, val_main_v8, val_main_v6, val_main_v5, val_main_v4, val_main_v7, val_main_cst, val_main_v9,
    val_main_cst_0, val_main_v14, val_main_v11, val_main_v2, val_main_v0, val_main_v13]
  simp only [h0, h1, h2, h3, h4]
  rfl

end Cert.BranchesBlock

end
-- ==== Proof.BranchesArray.lean ====
/- The three arrays the gated merge leaves: each is the reference's value, every block of it being what one grid point
   wrote. -/
module

public import proofs.«01_k».proof.Proof.BranchesBlock
public import proofs.«01_k».proof.Proof.Index
public import Idealize.ShloMosaic.Lib.StableHlo.ReadAt

@[expose] public section

set_option maxRecDepth 16384

noncomputable section

namespace Cert.BranchesArray

open Idealize.ShloMosaic Idealize.ShloMosaic.TcCoe Idealize.SL.Sem
open Cert.BranchesRefIdeal.Read
open Cert.BranchesIdeal Cert.BranchesIdeal.Gen Cert.BranchesBlock Cert.Index

variable (m : (ℓ : Loc nD τ sig) → Buf (Elt Ideal) ℓ) (c : Dev nD)

/-! The kernel's argument arrays as functions of an index. -/

abbrev A0 : S4224x512.Idx → EReal := m ((c : Thread nD τ).loc main_arg0)
abbrev A1 : S4224x512.Idx → EReal := m ((c : Thread nD τ).loc main_arg1)
abbrev A2 : S512x1024.Idx → EReal := m ((c : Thread nD τ).loc main_arg2)
abbrev A3 : S512x1024.Idx → EReal := m ((c : Thread nD τ).loc main_arg3)
abbrev A4 : S4224x2048.Idx → EReal := m ((c : Thread nD τ).loc main_arg4)

/-- The host hands the call this weight's transpose. -/
theorem entry2 (r : Fin 1024) (k : Fin 512) : V m c main_v0 (ix2 r k) = A2 m c (ix2 k r) := by
  unfold V
  after_reads_at

/-- The host hands the call this weight's transpose. -/
theorem entry3 (r : Fin 1024) (k : Fin 512) : V m c main_v1 (ix2 r k) = A3 m c (ix2 k r) := by
  unfold V
  after_reads_at

/-- The windows that walk down the rows, one block a point. -/
theorem index_rows : ∀ t : Fin grid0.N,
    (win0_0.index t 0 = t.val ∧ win0_0.index t 1 = 0) ∧ (win0_1.index t 0 = t.val ∧ win0_1.index t 1 = 0) ∧ (win0_4.index
    t 0 = t.val ∧ win0_4.index t 1 = 0) ∧ (win0_5.index t 0 = t.val ∧ win0_5.index t 1 = 0) ∧ (win0_6.index t 0 =
    t.val ∧ win0_6.index t 1 = 0) ∧ (win0_7.index t 0 = t.val ∧ win0_7.index t 1 = 0) := by decide +kernel

/-- The windows that stage a whole array at every point. -/
theorem index_whole : ∀ t : Fin grid0.N,
    (win0_2.index t 0 = 0 ∧ win0_2.index t 1 = 0) ∧ (win0_3.index t 0 = 0 ∧ win0_3.index t 1 = 0) := by decide +kernel

/-! Where a block's element lies in its array. -/

theorem emb0 (t : Fin cfg0.N) (r : Fin 704) (k : Fin 512) :
    ((cfg0.win 0).blk t).view.emb (ix2 r k) = ix2 (row t r) k :=
  ix2_of ((win0_0.rect_emb_val t (ix2 r k) 0).trans (at_row (index_rows t).1.1))
    ((win0_0.rect_emb_val t (ix2 r k) 1).trans (at_all (index_rows t).1.2))

theorem emb1 (t : Fin cfg0.N) (r : Fin 704) (k : Fin 512) :
    ((cfg0.win 1).blk t).view.emb (ix2 r k) = ix2 (row t r) k :=
  ix2_of ((win0_1.rect_emb_val t (ix2 r k) 0).trans (at_row (index_rows t).2.1.1))
    ((win0_1.rect_emb_val t (ix2 r k) 1).trans (at_all (index_rows t).2.1.2))

theorem emb4 (t : Fin cfg0.N) (r : Fin 704) (k : Fin 2048) :
    ((cfg0.win 4).blk t).view.emb (ix2 r k) = ix2 (row t r) k :=
  ix2_of ((win0_4.rect_emb_val t (ix2 r k) 0).trans (at_row (index_rows t).2.2.1.1))
    ((win0_4.rect_emb_val t (ix2 r k) 1).trans (at_all (index_rows t).2.2.1.2))

theorem emb5 (t : Fin cfg0.N) (r : Fin 704) (k : Fin 1024) :
    ((cfg0.win 5).blk t).view.emb (ix2 r k) = ix2 (row t r) k :=
  ix2_of ((win0_5.rect_emb_val t (ix2 r k) 0).trans (at_row (index_rows t).2.2.2.1.1))
    ((win0_5.rect_emb_val t (ix2 r k) 1).trans (at_all (index_rows t).2.2.2.1.2))

theorem emb6 (t : Fin cfg0.N) (r : Fin 704) (k : Fin 1024) :
    ((cfg0.win 6).blk t).view.emb (ix2 r k) = ix2 (row t r) k :=
  ix2_of ((win0_6.rect_emb_val t (ix2 r k) 0).trans (at_row (index_rows t).2.2.2.2.1.1))
    ((win0_6.rect_emb_val t (ix2 r k) 1).trans (at_all (index_rows t).2.2.2.2.1.2))

theorem emb7 (t : Fin cfg0.N) (r : Fin 704) (k : Fin 1024) :
    ((cfg0.win 7).blk t).view.emb (ix2 r k) = ix2 (row t r) k :=
  ix2_of ((win0_7.rect_emb_val t (ix2 r k) 0).trans (at_row (index_rows t).2.2.2.2.2.1))
    ((win0_7.rect_emb_val t (ix2 r k) 1).trans (at_all (index_rows t).2.2.2.2.2.2))

theorem emb2 (t : Fin cfg0.N) (r : Fin 1024) (k : Fin 512) :
    ((cfg0.win 2).blk t).view.emb (ix2 r k) = ix2 r k :=
  ix2_of ((win0_2.rect_emb_val t (ix2 r k) 0).trans (at_all (index_whole t).1.1))
    ((win0_2.rect_emb_val t (ix2 r k) 1).trans (at_all (index_whole t).1.2))

theorem emb3 (t : Fin cfg0.N) (r : Fin 1024) (k : Fin 512) :
    ((cfg0.win 3).blk t).view.emb (ix2 r k) = ix2 r k :=
  ix2_of ((win0_3.rect_emb_val t (ix2 r k) 0).trans (at_all (index_whole t).2.1))
    ((win0_3.rect_emb_val t (ix2 r k) 1).trans (at_all (index_whole t).2.2))

/-! What each input window's block holds at a point. -/

theorem read0 (t : Fin cfg0.N) (r : Fin 704) (k : Fin 512) :
    iblk m c 0 t (ix2 r k) = A0 m c (ix2 (row t r) k) := by
  unfold iblk
  rw [View.read_apply, emb0]
  exact congrFun (V_main_arg0 m c) _

theorem read1 (t : Fin cfg0.N) (r : Fin 704) (k : Fin 512) :
    iblk m c 1 t (ix2 r k) = A1 m c (ix2 (row t r) k) := by
  unfold iblk
  rw [View.read_apply, emb1]
  exact congrFun (V_main_arg1 m c) _

theorem read2 (t : Fin cfg0.N) (r : Fin 1024) (k : Fin 512) :
    iblk m c 2 t (ix2 r k) = A2 m c (ix2 k r) := by
  unfold iblk
  rw [View.read_apply, emb2]
  exact entry2 m c r k

theorem read3 (t : Fin cfg0.N) (r : Fin 1024) (k : Fin 512) :
    iblk m c 3 t (ix2 r k) = A3 m c (ix2 k r) := by
  unfold iblk
  rw [View.read_apply, emb3]
  exact entry3 m c r k

theorem read4 (t : Fin cfg0.N) (r : Fin 704) (k : Fin 2048) :
    iblk m c 4 t (ix2 r k) = A4 m c (ix2 (row t r) k) := by
  unfold iblk
  rw [View.read_apply, emb4]
  exact congrFun (V_main_arg4 m c) _

/-- Every row is row `r` of some block `t`. -/
theorem row_split (i : Fin 4224) : ∃ (t : Fin 6) (r : Fin 704), i = row t r :=
  ⟨⟨i.val / 704, by omega⟩, ⟨i.val % 704, by omega⟩, Fin.ext (by show i.val = 704 * (i.val / 704) + i.val % 704; omega)⟩

/-! The arrays: each output window's blocks cover its array, and each block is the reference's. -/

/-- The attention branch's projection is the reference's. -/
theorem final5 : (dats m 0 c).arrAt 5 cfg0.N = val_main_v18 (F := Ideal) (A0 m c) (A2 m c) := by
  refine (dats m 0 c).arrAt_eq_of_cover 5 _ (fun t _ => ?_) (fun i => ?_)
  · rw [Cert.BranchesIdeal.Value.flushed5]
    funext y
    obtain ⟨r, k, rfl⟩ : ∃ (r : Fin 704) (k : Fin 1024), y = ix2 r k := ⟨y 0, y 1, eq_ix2 y⟩
    rw [View.read_apply, emb5]
    exact block5 _ _ _ _ _ _ _ t (read0 m c t) (read2 m c t) r k
  · obtain ⟨t, r, h⟩ := row_split (i 0)
    rw [(eq_ix2 i).trans ((congrArg (ix2 · (i 1)) h).trans (emb5 t r (i 1)).symm)]
    exact ⟨t, flush0_5 t, View.emb_mem_set _ _⟩

/-- The recurrent branch's projection is the reference's. -/
theorem final6 : (dats m 0 c).arrAt 6 cfg0.N = val_main_v19 (F := Ideal) (A1 m c) (A3 m c) := by
  refine (dats m 0 c).arrAt_eq_of_cover 6 _ (fun t _ => ?_) (fun i => ?_)
  · rw [Cert.BranchesIdeal.Value.flushed6]
    funext y
    obtain ⟨r, k, rfl⟩ : ∃ (r : Fin 704) (k : Fin 1024), y = ix2 r k := ⟨y 0, y 1, eq_ix2 y⟩
    rw [View.read_apply, emb6]
    exact block6 _ _ _ _ _ _ _ t (read1 m c t) (read3 m c t) r k
  · obtain ⟨t, r, h⟩ := row_split (i 0)
    rw [(eq_ix2 i).trans ((congrArg (ix2 · (i 1)) h).trans (emb6 t r (i 1)).symm)]
    exact ⟨t, flush0_6 t, View.emb_mem_set _ _⟩

/-- The merged branches are the reference's. -/
theorem final7 : (dats m 0 c).arrAt 7 cfg0.N = val_main_v20 (F := Ideal) (A0 m c) (A1 m c) (A2 m c) (A3 m c) (A4 m c) := by
  refine (dats m 0 c).arrAt_eq_of_cover 7 _ (fun t _ => ?_) (fun i => ?_)
  · rw [Cert.BranchesIdeal.Value.flushed7]
    funext y
    obtain ⟨r, k, rfl⟩ : ∃ (r : Fin 704) (k : Fin 1024), y = ix2 r k := ⟨y 0, y 1, eq_ix2 y⟩
    rw [View.read_apply, emb7]
    exact block7 _ _ _ _ _ _ _ _ _ _ t (read0 m c t) (read1 m c t) (read2 m c t) (read3 m c t) (read4 m c t) r k
  · obtain ⟨t, r, h⟩ := row_split (i 0)
    rw [(eq_ix2 i).trans ((congrArg (ix2 · (i 1)) h).trans (emb7 t r (i 1)).symm)]
    exact ⟨t, flush0_7 t, View.emb_mem_set _ _⟩

end Cert.BranchesArray

end
-- ==== Proof.BranchesValue.lean ====
/- The gated merge: the kernel and the reference leave the same three arrays. -/
module

public import proofs.«01_k».proof.Defs
public import proofs.«01_k».proof.Proof.BranchesArray

@[expose] public section

set_option maxRecDepth 16384

noncomputable section

namespace Cert.BranchesValue

open Idealize.ShloMosaic Idealize.ShloMosaic.TcCoe Idealize.SL.Sem
open Cert.BranchesRefIdeal.Read Cert.BranchesArray

/-- The reference terminates, keeps its arguments and leaves every counter at zero. -/
theorem frame_ref : quiescent_BranchesRefIdeal := fun m ρ _ =>
  (θ_run Cert.BranchesRefIdeal.defs _ _).mono
    (fun r h => ⟨fun c => (h c).2.2.2, sem_eq_zero_of_no_sems (by decide) r.2⟩) (Cert.BranchesRefIdeal.Value.run m ρ)

/-- From memories that agree on the arguments both programs run and end with equal results. -/
theorem algebraic : algebraic_BranchesIdeal_BranchesRefIdeal := by
  intro m g m' g' _ h
  refine ⟨fun c => val_main_v18 (F := Ideal) (A0 m c) (A2 m c), fun c => val_main_v19 (F := Ideal) (A1 m c) (A3 m c),
    fun c => val_main_v20 (F := Ideal) (A0 m c) (A1 m c) (A2 m c) (A3 m c) (A4 m c), ?_, ?_⟩
  · refine (θ_run _ _ _).mono (fun r H c => ?_) (Cert.BranchesIdeal.Value.run_blocks m g)
    obtain ⟨h5, h6, h7, hargs⟩ := H c
    exact ⟨h5.trans (final5 m c), h6.trans (final6 m c), h7.trans (final7 m c), hargs⟩
  · refine (θ_run _ _ _).mono (fun r H c => ?_) (Cert.BranchesRefIdeal.Value.run m' g')
    obtain ⟨h5, h6, h7, hargs⟩ := H c
    obtain ⟨e0, e1, e2, e3, e4⟩ := h c
    rw [e0, e2] at h5
    rw [e1, e3] at h6
    rw [e0, e1, e2, e3, e4] at h7
    exact ⟨h5, h6, h7, hargs⟩

end Cert.BranchesValue

end
-- ==== Proof.ResidualBlock.lean ====
/- What one grid point of the output projection computes, element by element, and that it is the reference's value at the
   row the block's row stands for. -/
module

public import proofs.«01_k».proof.Proof.Gen.ResidualIdeal.Value
public import proofs.«01_k».proof.Proof.Gen.ResidualRefIdeal.Read
public import Idealize.ShloMosaic.Lib.Pointwise

@[expose] public section

set_option maxRecDepth 16384

noncomputable section

namespace Cert.ResidualBlock

open Idealize.ShloMosaic Idealize.ShloMosaic.TcCoe
open Cert.ResidualRefIdeal.Read
open Cert.ResidualIdeal Cert.ResidualIdeal.Gen

/-- The array's row that row `r` of block `t` stands for. -/
abbrev row (t : Fin 6) (r : Fin 704) : Fin 4224 := ⟨704 * t.val + r.val, by omega⟩

theorem off0 : (![0, 0] : Fin 2 → Nat) = fun _ => 0 := funext fun a => by fin_cases a <;> rfl

variable (A0 : S4224x1024.Idx → EReal) (A1 : S1024x1024.Idx → EReal) (A2 : S4224x1024.Idx → EReal) (A3 : S1x1024.Idx → EReal)
  (x0 : Vec Ideal S704x1024 .bf16) (x1 : Vec Ideal S1024x1024 .bf16) (x2 : Vec Ideal S704x1024 .f32) (x3 : Vec Ideal S1x1024 .f32) (t : Fin 6)
  (h0 : ∀ r k, x0 (ix2 r k) = A0 (ix2 (row t r) k))
  (h1 : ∀ r k, x1 (ix2 r k) = A1 (ix2 r k))
  (h2 : ∀ r k, x2 (ix2 r k) = A2 (ix2 (row t r) k))
  (h3 : ∀ r k, x3 (ix2 r k) = A3 (ix2 r k))

include h0 h1 h2 in
/-- The residual stream after the mixers: what came in plus the output projection. -/
theorem block4 (r : Fin 704) (l : Fin 1024) :
    out0_4 (F := Ideal) x0 x1 x2 x3 (ix2 r l) = val_main_v3 (F := Ideal) A0 A1 A2 (ix2 (row t r) l) := by
  unfold out0_4
  rw [View.canon_unit_zero off0, View.ld_unit_zero off0, View.ld_unit_zero off0, View.ld_unit_zero off0]
  unfold_payloads
  pointwise [val_main_v3, val_main_v2, val_main_v1, val_main_v0]
  simp only [h0, h1, h2]
  exact add_comm _ _

include h0 h1 h2 h3 in
/-- The residual stream normalised for the feed-forward layer. -/
theorem block5 (r : Fin 704) (l : Fin 1024) :
    out0_5 (F := Ideal) x0 x1 x2 x3 (ix2 r l) = val_main_v18 (F := Ideal) A0 A1 A2 A3 (ix2 (row t r) l) := by
  unfold out0_5
  rw [View.canon_unit_zero off0, View.ld_unit_zero off0, View.ld_unit_zero off0, View.ld_unit_zero off0, View.ld_unit_zero off0]
  unfold_payloads
  pointwise [val_main_v18, val_main_v17, val_main_v16, val_main_v15, val_main_v4, val_main_v14, val_main_v13,
    val_main_v12, val_main_v11, val_main_v10, val_main_cst_1, val_main_v9, val_main_v8, val_main_cst_0, val_main_v7,
    val_main_v6, val_main_cst, val_main_v5, val_main_v3, val_main_v2, val_main_v1, val_main_v0]
  simp only [h0, h1, h2, h3]
  simp only [fun k : Fin 1024 => add_comm (∑ q : Fin 1024, A0 (ix2 (row t r) q) * A1 (ix2 q k)) (A2 (ix2 (row t r) k))]

end Cert.ResidualBlock

end
-- ==== Proof.ResidualArray.lean ====
/- The two arrays the output projection leaves: each is the reference's value, every block of it being what one grid point
   wrote. -/
module

public import proofs.«01_k».proof.Proof.ResidualBlock
public import proofs.«01_k».proof.Proof.Index
public import Idealize.ShloMosaic.Lib.StableHlo.ReadAt

@[expose] public section

set_option maxRecDepth 16384

noncomputable section

namespace Cert.ResidualArray

open Idealize.ShloMosaic Idealize.ShloMosaic.TcCoe Idealize.SL.Sem
open Cert.ResidualRefIdeal.Read
open Cert.ResidualIdeal Cert.ResidualIdeal.Gen Cert.ResidualBlock Cert.Index

variable (m : (ℓ : Loc nD τ sig) → Buf (Elt Ideal) ℓ) (c : Dev nD)

/-! The kernel's argument arrays as functions of an index. -/

abbrev A0 : S4224x1024.Idx → EReal := m ((c : Thread nD τ).loc main_arg0)
abbrev A1 : S1024x1024.Idx → EReal := m ((c : Thread nD τ).loc main_arg1)
abbrev A2 : S4224x1024.Idx → EReal := m ((c : Thread nD τ).loc main_arg2)
abbrev A3 : S1x1024.Idx → EReal := m ((c : Thread nD τ).loc main_arg3)

/-- The windows that walk down the rows, one block a point. -/
theorem index_rows : ∀ t : Fin grid0.N,
    (win0_0.index t 0 = t.val ∧ win0_0.index t 1 = 0) ∧ (win0_2.index t 0 = t.val ∧ win0_2.index t 1 = 0) ∧ (win0_4.index
    t 0 = t.val ∧ win0_4.index t 1 = 0) ∧ (win0_5.index t 0 = t.val ∧ win0_5.index t 1 = 0) := by decide +kernel

/-- The windows that stage a whole array at every point. -/
theorem index_whole : ∀ t : Fin grid0.N,
    (win0_1.index t 0 = 0 ∧ win0_1.index t 1 = 0) ∧ (win0_3.index t 0 = 0 ∧ win0_3.index t 1 = 0) := by decide +kernel

/-! Where a block's element lies in its array. -/

theorem emb0 (t : Fin cfg0.N) (r : Fin 704) (k : Fin 1024) :
    ((cfg0.win 0).blk t).view.emb (ix2 r k) = ix2 (row t r) k :=
  ix2_of ((win0_0.rect_emb_val t (ix2 r k) 0).trans (at_row (index_rows t).1.1))
    ((win0_0.rect_emb_val t (ix2 r k) 1).trans (at_all (index_rows t).1.2))

theorem emb2 (t : Fin cfg0.N) (r : Fin 704) (k : Fin 1024) :
    ((cfg0.win 2).blk t).view.emb (ix2 r k) = ix2 (row t r) k :=
  ix2_of ((win0_2.rect_emb_val t (ix2 r k) 0).trans (at_row (index_rows t).2.1.1))
    ((win0_2.rect_emb_val t (ix2 r k) 1).trans (at_all (index_rows t).2.1.2))

theorem emb4 (t : Fin cfg0.N) (r : Fin 704) (k : Fin 1024) :
    ((cfg0.win 4).blk t).view.emb (ix2 r k) = ix2 (row t r) k :=
  ix2_of ((win0_4.rect_emb_val t (ix2 r k) 0).trans (at_row (index_rows t).2.2.1.1))
    ((win0_4.rect_emb_val t (ix2 r k) 1).trans (at_all (index_rows t).2.2.1.2))

theorem emb5 (t : Fin cfg0.N) (r : Fin 704) (k : Fin 1024) :
    ((cfg0.win 5).blk t).view.emb (ix2 r k) = ix2 (row t r) k :=
  ix2_of ((win0_5.rect_emb_val t (ix2 r k) 0).trans (at_row (index_rows t).2.2.2.1))
    ((win0_5.rect_emb_val t (ix2 r k) 1).trans (at_all (index_rows t).2.2.2.2))

theorem emb1 (t : Fin cfg0.N) (r : Fin 1024) (k : Fin 1024) :
    ((cfg0.win 1).blk t).view.emb (ix2 r k) = ix2 r k :=
  ix2_of ((win0_1.rect_emb_val t (ix2 r k) 0).trans (at_all (index_whole t).1.1))
    ((win0_1.rect_emb_val t (ix2 r k) 1).trans (at_all (index_whole t).1.2))

theorem emb3 (t : Fin cfg0.N) (r : Fin 1) (k : Fin 1024) :
    ((cfg0.win 3).blk t).view.emb (ix2 r k) = ix2 r k :=
  ix2_of ((win0_3.rect_emb_val t (ix2 r k) 0).trans (at_all (index_whole t).2.1))
    ((win0_3.rect_emb_val t (ix2 r k) 1).trans (at_all (index_whole t).2.2))

/-! What each input window's block holds at a point. -/

theorem read0 (t : Fin cfg0.N) (r : Fin 704) (k : Fin 1024) :
    iblk m c 0 t (ix2 r k) = A0 m c (ix2 (row t r) k) := by
  unfold iblk
  rw [View.read_apply, emb0]
  exact congrFun (V_main_arg0 m c) _

theorem read1 (t : Fin cfg0.N) (r : Fin 1024) (k : Fin 1024) :
    iblk m c 1 t (ix2 r k) = A1 m c (ix2 r k) := by
  unfold iblk
  rw [View.read_apply, emb1]
  exact congrFun (V_main_arg1 m c) _

theorem read2 (t : Fin cfg0.N) (r : Fin 704) (k : Fin 1024) :
    iblk m c 2 t (ix2 r k) = A2 m c (ix2 (row t r) k) := by
  unfold iblk
  rw [View.read_apply, emb2]
  exact congrFun (V_main_arg2 m c) _

theorem read3 (t : Fin cfg0.N) (r : Fin 1) (k : Fin 1024) :
    iblk m c 3 t (ix2 r k) = A3 m c (ix2 r k) := by
  unfold iblk
  rw [View.read_apply, emb3]
  exact congrFun (V_main_arg3 m c) _

/-- Every row is row `r` of some block `t`. -/
theorem row_split (i : Fin 4224) : ∃ (t : Fin 6) (r : Fin 704), i = row t r :=
  ⟨⟨i.val / 704, by omega⟩, ⟨i.val % 704, by omega⟩, Fin.ext (by show i.val = 704 * (i.val / 704) + i.val % 704; omega)⟩

/-! The arrays: each output window's blocks cover its array, and each block is the reference's. -/

/-- The residual stream is the reference's. -/
theorem final4 : (dats m 0 c).arrAt 4 cfg0.N = val_main_v3 (F := Ideal) (A0 m c) (A1 m c) (A2 m c) := by
  refine (dats m 0 c).arrAt_eq_of_cover 4 _ (fun t _ => ?_) (fun i => ?_)
  · rw [Cert.ResidualIdeal.Value.flushed4]
    funext y
    obtain ⟨r, k, rfl⟩ : ∃ (r : Fin 704) (k : Fin 1024), y = ix2 r k := ⟨y 0, y 1, eq_ix2 y⟩
    rw [View.read_apply, emb4]
    exact block4 _ _ _ _ _ _ _ t (read0 m c t) (read1 m c t) (read2 m c t) r k
  · obtain ⟨t, r, h⟩ := row_split (i 0)
    rw [(eq_ix2 i).trans ((congrArg (ix2 · (i 1)) h).trans (emb4 t r (i 1)).symm)]
    exact ⟨t, flush0_4 t, View.emb_mem_set _ _⟩

/-- The normalised stream is the reference's. -/
theorem final5 : (dats m 0 c).arrAt 5 cfg0.N = val_main_v18 (F := Ideal) (A0 m c) (A1 m c) (A2 m c) (A3 m c) := by
  refine (dats m 0 c).arrAt_eq_of_cover 5 _ (fun t _ => ?_) (fun i => ?_)
  · rw [Cert.ResidualIdeal.Value.flushed5]
    funext y
    obtain ⟨r, k, rfl⟩ : ∃ (r : Fin 704) (k : Fin 1024), y = ix2 r k := ⟨y 0, y 1, eq_ix2 y⟩
    rw [View.read_apply, emb5]
    exact block5 _ _ _ _ _ _ _ _ t (read0 m c t) (read1 m c t) (read2 m c t) (read3 m c t) r k
  · obtain ⟨t, r, h⟩ := row_split (i 0)
    rw [(eq_ix2 i).trans ((congrArg (ix2 · (i 1)) h).trans (emb5 t r (i 1)).symm)]
    exact ⟨t, flush0_5 t, View.emb_mem_set _ _⟩

end Cert.ResidualArray

end
-- ==== Proof.ResidualValue.lean ====
/- The output projection with its residual and its norm: the kernel and the reference leave the same two arrays. -/
module

public import proofs.«01_k».proof.Defs
public import proofs.«01_k».proof.Proof.ResidualArray

@[expose] public section

set_option maxRecDepth 16384

noncomputable section

namespace Cert.ResidualValue

open Idealize.ShloMosaic Idealize.ShloMosaic.TcCoe Idealize.SL.Sem
open Cert.ResidualRefIdeal.Read Cert.ResidualArray

/-- The reference terminates, keeps its arguments and leaves every counter at zero. -/
theorem frame_ref : quiescent_ResidualRefIdeal := fun m ρ _ =>
  (θ_run Cert.ResidualRefIdeal.defs _ _).mono
    (fun r h => ⟨fun c => (h c).2.2, sem_eq_zero_of_no_sems (by decide) r.2⟩) (Cert.ResidualRefIdeal.Value.run m ρ)

/-- From memories that agree on the arguments both programs run and end with equal results. -/
theorem algebraic : algebraic_ResidualIdeal_ResidualRefIdeal := by
  intro m g m' g' _ h
  refine ⟨fun c => val_main_v3 (F := Ideal) (A0 m c) (A1 m c) (A2 m c), fun c => val_main_v18 (F := Ideal) (A0 m c) (A1
    m c) (A2 m c) (A3 m c), ?_, ?_⟩
  · refine (θ_run _ _ _).mono (fun r H c => ?_) (Cert.ResidualIdeal.Value.run_blocks m g)
    obtain ⟨h4, h5, hargs⟩ := H c
    exact ⟨h4.trans (final4 m c), h5.trans (final5 m c), hargs⟩
  · refine (θ_run _ _ _).mono (fun r H c => ?_) (Cert.ResidualRefIdeal.Value.run m' g')
    obtain ⟨h4, h5, hargs⟩ := H c
    obtain ⟨e0, e1, e2, e3⟩ := h c
    rw [e0, e1, e2] at h4
    rw [e0, e1, e2, e3] at h5
    exact ⟨h4, h5, hargs⟩

end Cert.ResidualValue

end
-- ==== Proof.OutWeightBody.lean ====
/- What the points of the output projection's weight gradient leave: the running sum over three blocks of rows, which the
   last point stores. -/
module

public import proofs.«01_k».proof.Proof.Gen.OutWeightIdeal.Value
public import Idealize.ShloMosaic.Lib.Pointwise
public import Idealize.ShloMosaic.Lib.Pipeline.ValueKit.Acc

@[expose] public section

set_option maxRecDepth 16384

noncomputable section

namespace Cert.OutWeightBody

open Idealize.ShloMosaic Idealize.ShloMosaic.TcCoe Idealize.SL.Sem
open Cert.OutWeightIdeal Cert.OutWeightIdeal.Gen

theorem off0 : (![0, 0] : Fin 2 → Nat) = fun _ => 0 := funext fun a => by fin_cases a <;> rfl

/-- Reading a whole block reads the block. -/
theorem ld_left (x : Vec Ideal S1408x1024 .bf16) : View.ld x (Rect.unit ![0, 0] ![1408, 1024] inb_S1408x1024_S1408x1024_0_0) = x :=
  View.ld_unit_zero off0 _ x

theorem ld_right (x : Vec Ideal S1408x1024 .f32) : View.ld x (Rect.unit ![0, 0] ![1408, 1024] inb_S1408x1024_S1408x1024_0_0) = x :=
  View.ld_unit_zero off0 _ x

theorem ld_sum (x : Vec Ideal S1024x1024 .f32) : View.ld x (Rect.unit ![0, 0] ![1024, 1024] inb_S1024x1024_S1024x1024_0_0) = x :=
  View.ld_unit_zero off0 _ x

/-- One step of the sum: the products of one row block, added to what was there. -/
theorem step_apply (v : Vec Ideal S1024x1024 .f32) (x : Vec Ideal S1408x1024 .bf16) (y : Vec Ideal S1408x1024 .f32) (i : Fin 1024) (l : Fin 1024) :
    k0_pay2 (F := Ideal) v x y (ix2 i l) = v (ix2 i l) + ∑ q : Fin 1408, x (ix2 q i) * y (ix2 q l) := by
  unfold k0_pay2
  pointwise []

theorem zero_apply (i : S1024x1024.Idx) : k0_pay1 (F := Ideal) i = 0 := by
  unfold k0_pay1
  pointwise []

theorem cast_apply (v : Vec Ideal S1024x1024 .f32) (i : S1024x1024.Idx) : k0_pay3 (F := Ideal) v i = v i := rfl

variable (m : (ℓ : Loc nD τ sig) → Buf (Elt Ideal) ℓ) (c : Dev nD)

/-- The running sum after the first of a block's three points. -/
theorem sum_first (t : Fin cfg0.N) (h : t.val % 3 = 0) :
    (outsAt0 m c t.val t.isLt).2 = k0_pay2 k0_pay1 (iblk m c 0 t) (iblk m c 1 t) := by
  rw [outsAt0_A m c t h (by omega)]
  dsimp only
  unfold sout0_A_0
  rw [View.read_writes_eq_canon _ _ _ (scover0_A_0 c _ _ _ _ _ _ _ _ _ _ _ _ _)]
  unfold kernelRun0_A
  dsimp only
  sl_unfold_words
  rw [View.canon_cons_unit_zero (S := S1024x1024) off0, View.readCov_unit_zero (S := S1024x1024) _ off0]
  simp only [View.readAt_eq_ld, (hs0_0 t).read_unread, (hs0_1 t).read_unread, ld_left, ld_right]

/-- The running sum after a later point: the point before's, and this point's products. -/
theorem sum_next (t : Fin cfg0.N) (h : ¬t.val % 3 = 0) :
    (outsAt0 m c t.val t.isLt).2 = k0_pay2 (outsAt0 m c (t.val - 1) (Nat.lt_of_le_of_lt (Nat.sub_le _ _) t.isLt)).2
      (iblk m c 0 t) (iblk m c 1 t) := by
  by_cases h2 : t.val % 3 = 2
  · rw [outsAt0_C m c t h h2]
    dsimp only
    unfold sout0_C_0
    rw [View.read_writes_eq_canon _ _ _ (scover0_C_0 c _ _ _ _ _ _ _ _ _ _ _ _ _ _)]
    unfold kernelRun0_C
    dsimp only
    sl_unfold_words
    rw [View.canon_unit_zero off0]
    simp only [View.readAt_eq_ld, (hs0_0 t).read_unread, (hs0_1 t).read_unread,
      (Memref.isWhole_whole cc0_scratch0).read_unread, ld_left, ld_right, ld_sum]
  · rw [outsAt0_B m c t h h2]
    dsimp only
    unfold sout0_B_0
    rw [View.read_writes_eq_canon _ _ _ (scover0_B_0 c _ _ _ _ _ _ _ _ _ _ _ _ _ _)]
    unfold kernelRun0_B
    dsimp only
    sl_unfold_words
    rw [View.canon_unit_zero off0]
    simp only [View.readAt_eq_ld, (hs0_0 t).read_unread, (hs0_1 t).read_unread,
      (Memref.isWhole_whole cc0_scratch0).read_unread, ld_left, ld_right, ld_sum]

/-- What the last of a block's three points stores: the running sum. -/
theorem out_last (t : Fin cfg0.N) (h : t.val % 3 = 2) (i : S1024x1024.Idx) :
    (outsAt0 m c t.val t.isLt).1 i = (outsAt0 m c t.val t.isLt).2 i := by
  rw [sum_next m c t (by omega), outsAt0_C m c t (by omega) h]
  dsimp only
  unfold out0_C_2
  rw [View.read_writes_eq_canon _ _ _ (cover0_C_2 c _ _ _ _ _ _ _ _ _ _ _ _ _ _)]
  unfold kernelRun0_C
  dsimp only
  sl_unfold_words
  rw [View.canon_unit_zero off0, View.readCov_unit_zero (S := S1024x1024) _ off0]
  simp only [View.readAt_eq_ld, (hs0_0 t).read_unread, (hs0_1 t).read_unread,
    (Memref.isWhole_whole cc0_scratch0).read_unread, ld_left, ld_right, ld_sum]
  rfl

/-- The two blocks a point reads, as functions of an index. -/
abbrev left (t : Fin cfg0.N) : S1408x1024.Idx → EReal := iblk m c 0 t
abbrev right (t : Fin cfg0.N) : S1408x1024.Idx → EReal := iblk m c 1 t

/-- The running sum, element by element. -/
abbrev running (n : ℕ) (hn : n < cfg0.N) (p : Fin 1024 × Fin 1024) : EReal := (outsAt0 m c n hn).2 (ix2 p.1 p.2)

/-- The products a point adds. -/
abbrev added (t : Fin cfg0.N) (p : Fin 1024 × Fin 1024) : EReal :=
  ∑ q : Fin 1408, left m c t (ix2 q p.1) * right m c t (ix2 q p.2)

theorem running_first (t : Fin cfg0.N) (h : t.val % 3 = 0) (p : Fin 1024 × Fin 1024) :
    running m c t.val t.isLt p = 0 + added m c t p :=
  (congrFun (sum_first m c t h) _).trans ((step_apply _ _ _ p.1 p.2).trans (congrArg (· + _) (zero_apply _)))

theorem running_next (t : Fin cfg0.N) (h : ¬t.val % 3 = 0) (p : Fin 1024 × Fin 1024) :
    running m c t.val t.isLt p
      = running m c (t.val - 1) (Nat.lt_of_le_of_lt (Nat.sub_le _ _) t.isLt) p + added m c t p :=
  (congrFun (sum_next m c t h) _).trans (step_apply _ _ _ p.1 p.2)

/-- What the last point stores, element by element: the sum over the three row blocks. -/
theorem out_apply (t : Fin cfg0.N) (h : t.val % 3 = 2) (i : Fin 1024) (l : Fin 1024) :
    (outsAt0 m c t.val t.isLt).1 (ix2 i l) = ∑ s : Fin 3, ∑ q : Fin 1408,
      left m c ⟨3 * (t.val / 3) + s.val, Pipeline.run_point_lt_of_flush t h s⟩ (ix2 q i)
        * right m c ⟨3 * (t.val / 3) + s.val, Pipeline.run_point_lt_of_flush t h s⟩ (ix2 q l) :=
  (out_last m c t h _).trans ((Pipeline.eq_sum_fin_of_reset_step_apply_of_flush (N := cfg0.N) (running m c) 3 (fun _ => 0)
    (added m c) (running_first m c) (running_next m c) t h (i, l)).trans (zero_add _))

end Cert.OutWeightBody

end
-- ==== Proof.OutWeightArray.lean ====
/- The array the output projection's weight gradient leaves is the reference's: one sum over all rows. -/
module

public import proofs.«01_k».proof.Proof.OutWeightBody
public import proofs.«01_k».proof.Proof.Index
public import proofs.«01_k».proof.Proof.Gen.OutWeightRefIdeal.Read

@[expose] public section

set_option maxRecDepth 16384

noncomputable section

namespace Cert.OutWeightArray

open Idealize.ShloMosaic Idealize.ShloMosaic.TcCoe Idealize.SL.Sem
open Cert.OutWeightRefIdeal.Read
open Cert.OutWeightIdeal Cert.OutWeightIdeal.Gen Cert.OutWeightBody Cert.Index

variable (m : (ℓ : Loc nD τ sig) → Buf (Elt Ideal) ℓ) (c : Dev nD)

/-! The kernel's argument arrays as functions of an index. -/

abbrev A0 : S4224x1024.Idx → EReal := m ((c : Thread nD τ).loc main_arg0)
abbrev A1 : S4224x1024.Idx → EReal := m ((c : Thread nD τ).loc main_arg1)

/-- The row of the arrays that row `q` of the `s`-th row block stands for. -/
abbrev row (s : Fin 3) (q : Fin 1408) : Fin 4224 := ⟨1408 * s.val + q.val, by omega⟩

/-- The column that column `i` of the `j`-th block of columns stands for. -/
abbrev col (j : Fin 1) (i : Fin 1024) : Fin 1024 := ⟨1024 * j.val + i.val, by omega⟩

/-- The point of the `j`-th block of columns that reads the `s`-th block of rows. -/
theorem blocks : ∀ t : Fin grid0.N,
    (win0_0.index t 0 = t.val % 3 ∧ win0_0.index t 1 = t.val / 3)
    ∧ (win0_1.index t 0 = t.val % 3 ∧ win0_1.index t 1 = 0)
    ∧ (win0_2.index t 0 = t.val / 3 ∧ win0_2.index t 1 = 0) := by decide +kernel

theorem emb0 (t : Fin cfg0.N) (s : Fin 3) (j : Fin 1) (hs : t.val % 3 = s.val) (hj : t.val / 3 = j.val)
    (q : Fin 1408) (i : Fin 1024) : ((cfg0.win 0).blk t).view.emb (ix2 q i) = ix2 (row s q) (col j i) :=
  ix2_of ((win0_0.rect_emb_val t (ix2 q i) 0).trans (at_row ((blocks t).1.1.trans hs)))
    ((win0_0.rect_emb_val t (ix2 q i) 1).trans (at_row ((blocks t).1.2.trans hj)))

theorem emb1 (t : Fin cfg0.N) (s : Fin 3) (hs : t.val % 3 = s.val) (q : Fin 1408) (l : Fin 1024) :
    ((cfg0.win 1).blk t).view.emb (ix2 q l) = ix2 (row s q) l :=
  ix2_of ((win0_1.rect_emb_val t (ix2 q l) 0).trans (at_row ((blocks t).2.1.1.trans hs)))
    ((win0_1.rect_emb_val t (ix2 q l) 1).trans (at_all (blocks t).2.1.2))

theorem emb2 (t : Fin cfg0.N) (j : Fin 1) (hj : t.val / 3 = j.val) (i : Fin 1024) (l : Fin 1024) :
    ((cfg0.win 2).blk t).view.emb (ix2 i l) = ix2 (col j i) l :=
  ix2_of ((win0_2.rect_emb_val t (ix2 i l) 0).trans (at_row ((blocks t).2.2.1.trans hj)))
    ((win0_2.rect_emb_val t (ix2 i l) 1).trans (at_all (blocks t).2.2.2))

/-! What the two blocks hold at a point. -/

theorem read0 (t : Fin cfg0.N) (s : Fin 3) (j : Fin 1) (hs : t.val % 3 = s.val) (hj : t.val / 3 = j.val)
    (q : Fin 1408) (i : Fin 1024) : left m c t (ix2 q i) = A0 m c (ix2 (row s q) (col j i)) := by
  unfold left iblk
  rw [View.read_apply, emb0 t s j hs hj]
  exact congrFun (V_main_arg0 m c) _

theorem read1 (t : Fin cfg0.N) (s : Fin 3) (hs : t.val % 3 = s.val) (q : Fin 1408) (l : Fin 1024) :
    right m c t (ix2 q l) = A1 m c (ix2 (row s q) l) := by
  unfold right iblk
  rw [View.read_apply, emb1 t s hs]
  exact congrFun (V_main_arg1 m c) _

/-- The reference's gradient is one sum over the rows, here by its three blocks of them. -/
theorem reference_apply (a : Fin 1024) (l : Fin 1024) : val_main_v5 (F := Ideal) (A0 m c) (A1 m c) (ix2 a l)
    = ∑ s : Fin 3, ∑ q : Fin 1408, A0 m c (ix2 (row s q) a) * A1 m c (ix2 (row s q) l) := by
  pointwise [val_main_v5, val_main_v4, val_main_v3, val_main_v1]
  refine (Fin.sum_univ_tiles 3 1408 rfl _).trans ?_
  exact Finset.sum_congr rfl fun s _ => Finset.sum_congr rfl fun q _ =>
    (congrArg (fun r : Fin 4224 => A1 m c (ix2 r l) * A0 m c (ix2 r a)) (Fin.ext (congrArg (· + q.val) (Nat.mul_comm _ _)))).trans
      (mul_comm _ _)

/-- What the last point of a block of columns writes back is the reference's block. -/
theorem written (t : Fin cfg0.N) (h : t.val % 3 = 2) (j : Fin 1) (hj : t.val / 3 = j.val) (i : Fin 1024) (l : Fin 1024) :
    (outsAt0 m c t.val t.isLt).1 (ix2 i l) = val_main_v5 (F := Ideal) (A0 m c) (A1 m c) (ix2 (col j i) l) := by
  refine (out_apply m c t h i l).trans ((reference_apply m c _ l).trans ?_).symm
  refine Finset.sum_congr rfl fun s _ => Finset.sum_congr rfl fun q _ => ?_
  have hs : (3 * (t.val / 3) + s.val) % 3 = s.val := by omega
  have hd : (3 * (t.val / 3) + s.val) / 3 = j.val := by omega
  exact (congrArg₂ (· * ·) (read0 m c ⟨_, Pipeline.run_point_lt_of_flush t h s⟩ s j hs hd q i)
    (read1 m c ⟨_, Pipeline.run_point_lt_of_flush t h s⟩ s hs q l)).symm

/-- The array: its blocks of columns cover it, and each is the reference's. -/
theorem final2 : (dats m 0 c).arrAt 2 cfg0.N = val_main_v5 (F := Ideal) (A0 m c) (A1 m c) := by
  refine (dats m 0 c).arrAt_eq_of_cover 2 _ (fun t hf => ?_) (fun i => ?_)
  · have h : t.val % 3 = 2 := (flush0_2 t).mp hf
    have hN : t.val < 3 := lt_of_lt_of_eq t.isLt N_0
    rw [Cert.OutWeightIdeal.Value.flushed2]
    funext y
    obtain ⟨r, k, rfl⟩ : ∃ (r : Fin 1024) (k : Fin 1024), y = ix2 r k := ⟨y 0, y 1, eq_ix2 y⟩
    rw [View.read_apply, emb2 t ⟨t.val / 3, by omega⟩ rfl]
    exact written m c t h ⟨t.val / 3, by omega⟩ rfl r k
  · have hi : (i 0).val < 1024 := (i 0).isLt
    have e : i 0 = col ⟨(i 0).val / 1024, by omega⟩ ⟨(i 0).val % 1024, by omega⟩ :=
      Fin.ext (by show (i 0).val = 1024 * ((i 0).val / 1024) + (i 0).val % 1024; omega)
    have ht : 3 * ((i 0).val / 1024) + 2 < cfg0.N := lt_of_lt_of_eq (by omega) N_0.symm
    rw [(eq_ix2 i).trans ((congrArg (ix2 · (i 1)) e).trans
      (emb2 ⟨_, ht⟩ ⟨(i 0).val / 1024, by omega⟩ (by show (3 * ((i 0).val / 1024) + 2) / 3 = (i 0).val / 1024; omega) _ (i 1)).symm)]
    exact ⟨⟨_, ht⟩, (flush0_2 ⟨_, ht⟩).mpr (by show (3 * ((i 0).val / 1024) + 2) % 3 = 2; omega), View.emb_mem_set _ _⟩

end Cert.OutWeightArray

end
-- ==== Proof.OutWeightValue.lean ====
/- The output projection's weight gradient: the kernel and the reference leave the same array. -/
module

public import proofs.«01_k».proof.Defs
public import proofs.«01_k».proof.Proof.OutWeightArray

@[expose] public section

set_option maxRecDepth 16384

noncomputable section

namespace Cert.OutWeightValue

open Idealize.ShloMosaic Idealize.ShloMosaic.TcCoe Idealize.SL.Sem
open Cert.OutWeightRefIdeal.Read Cert.OutWeightArray

/-- The reference terminates, keeps its arguments and leaves every counter at zero. -/
theorem frame_ref : quiescent_OutWeightRefIdeal := fun m ρ _ =>
  (θ_run Cert.OutWeightRefIdeal.defs _ _).mono
    (fun r h => ⟨fun c => (h c).2, sem_eq_zero_of_no_sems (by decide) r.2⟩) (Cert.OutWeightRefIdeal.Value.run m ρ)

/-- From memories that agree on the arguments both programs run and end with equal results. -/
theorem algebraic : algebraic_OutWeightIdeal_OutWeightRefIdeal := by
  intro m g m' g' _ h
  refine ⟨fun c => val_main_v5 (F := Ideal) (A0 m c) (A1 m c), ?_, ?_⟩
  · refine (θ_run _ _ _).mono (fun r H c => ?_) (Cert.OutWeightIdeal.Value.run_blocks m g)
    obtain ⟨h2, hargs⟩ := H c
    exact ⟨h2.trans (final2 m c), hargs⟩
  · refine (θ_run _ _ _).mono (fun r H c => ?_) (Cert.OutWeightRefIdeal.Value.run m' g')
    obtain ⟨h2, hargs⟩ := H c
    obtain ⟨e0, e1⟩ := h c
    rw [e0, e1] at h2
    exact ⟨h2, hargs⟩

end Cert.OutWeightValue

end
-- ==== Proof.BranchWeightBody.lean ====
/- What the points of a branch projection's weight gradient leave: the running sum over three blocks of rows, which the
   last point stores. -/
module

public import proofs.«01_k».proof.Proof.Gen.BranchWeightIdeal.Value
public import Idealize.ShloMosaic.Lib.Pointwise
public import Idealize.ShloMosaic.Lib.Pipeline.ValueKit.Acc

@[expose] public section

set_option maxRecDepth 16384

noncomputable section

namespace Cert.BranchWeightBody

open Idealize.ShloMosaic Idealize.ShloMosaic.TcCoe Idealize.SL.Sem
open Cert.BranchWeightIdeal Cert.BranchWeightIdeal.Gen

theorem off0 : (![0, 0] : Fin 2 → Nat) = fun _ => 0 := funext fun a => by fin_cases a <;> rfl

/-- Reading a whole block reads the block. -/
theorem ld_left (x : Vec Ideal S1408x1024 .bf16) : View.ld x (Rect.unit ![0, 0] ![1408, 1024] inb_S1408x1024_S1408x1024_0_0) = x :=
  View.ld_unit_zero off0 _ x

theorem ld_right (x : Vec Ideal S1408x512 .bf16) : View.ld x (Rect.unit ![0, 0] ![1408, 512] inb_S1408x512_S1408x512_0_0) = x :=
  View.ld_unit_zero off0 _ x

theorem ld_sum (x : Vec Ideal S1024x512 .f32) : View.ld x (Rect.unit ![0, 0] ![1024, 512] inb_S1024x512_S1024x512_0_0) = x :=
  View.ld_unit_zero off0 _ x

/-- One step of the sum: the products of one row block, added to what was there. -/
theorem step_apply (v : Vec Ideal S1024x512 .f32) (x : Vec Ideal S1408x1024 .bf16) (y : Vec Ideal S1408x512 .bf16) (i : Fin 1024) (l : Fin 512) :
    k0_pay2 (F := Ideal) v x y (ix2 i l) = v (ix2 i l) + ∑ q : Fin 1408, x (ix2 q i) * y (ix2 q l) := by
  unfold k0_pay2
  pointwise []

theorem zero_apply (i : S1024x512.Idx) : k0_pay1 (F := Ideal) i = 0 := by
  unfold k0_pay1
  pointwise []

theorem cast_apply (v : Vec Ideal S1024x512 .f32) (i : S1024x512.Idx) : k0_pay3 (F := Ideal) v i = v i := rfl

variable (m : (ℓ : Loc nD τ sig) → Buf (Elt Ideal) ℓ) (c : Dev nD)

/-- The running sum after the first of a block's three points. -/
theorem sum_first (t : Fin cfg0.N) (h : t.val % 3 = 0) :
    (outsAt0 m c t.val t.isLt).2 = k0_pay2 k0_pay1 (iblk m c 0 t) (iblk m c 1 t) := by
  rw [outsAt0_A m c t h (by omega)]
  dsimp only
  unfold sout0_A_0
  rw [View.read_writes_eq_canon _ _ _ (scover0_A_0 c _ _ _ _ _ _ _ _ _ _ _ _ _)]
  unfold kernelRun0_A
  dsimp only
  sl_unfold_words
  rw [View.canon_cons_unit_zero (S := S1024x512) off0, View.readCov_unit_zero (S := S1024x512) _ off0]
  simp only [View.readAt_eq_ld, (hs0_0 t).read_unread, (hs0_1 t).read_unread, ld_left, ld_right]

/-- The running sum after a later point: the point before's, and this point's products. -/
theorem sum_next (t : Fin cfg0.N) (h : ¬t.val % 3 = 0) :
    (outsAt0 m c t.val t.isLt).2 = k0_pay2 (outsAt0 m c (t.val - 1) (Nat.lt_of_le_of_lt (Nat.sub_le _ _) t.isLt)).2
      (iblk m c 0 t) (iblk m c 1 t) := by
  by_cases h2 : t.val % 3 = 2
  · rw [outsAt0_C m c t h h2]
    dsimp only
    unfold sout0_C_0
    rw [View.read_writes_eq_canon _ _ _ (scover0_C_0 c _ _ _ _ _ _ _ _ _ _ _ _ _ _)]
    unfold kernelRun0_C
    dsimp only
    sl_unfold_words
    rw [View.canon_unit_zero off0]
    simp only [View.readAt_eq_ld, (hs0_0 t).read_unread, (hs0_1 t).read_unread,
      (Memref.isWhole_whole cc0_scratch0).read_unread, ld_left, ld_right, ld_sum]
  · rw [outsAt0_B m c t h h2]
    dsimp only
    unfold sout0_B_0
    rw [View.read_writes_eq_canon _ _ _ (scover0_B_0 c _ _ _ _ _ _ _ _ _ _ _ _ _ _)]
    unfold kernelRun0_B
    dsimp only
    sl_unfold_words
    rw [View.canon_unit_zero off0]
    simp only [View.readAt_eq_ld, (hs0_0 t).read_unread, (hs0_1 t).read_unread,
      (Memref.isWhole_whole cc0_scratch0).read_unread, ld_left, ld_right, ld_sum]

/-- What the last of a block's three points stores: the running sum. -/
theorem out_last (t : Fin cfg0.N) (h : t.val % 3 = 2) (i : S1024x512.Idx) :
    (outsAt0 m c t.val t.isLt).1 i = (outsAt0 m c t.val t.isLt).2 i := by
  rw [sum_next m c t (by omega), outsAt0_C m c t (by omega) h]
  dsimp only
  unfold out0_C_2
  rw [View.read_writes_eq_canon _ _ _ (cover0_C_2 c _ _ _ _ _ _ _ _ _ _ _ _ _ _)]
  unfold kernelRun0_C
  dsimp only
  sl_unfold_words
  rw [View.canon_unit_zero off0, View.readCov_unit_zero (S := S1024x512) _ off0]
  simp only [View.readAt_eq_ld, (hs0_0 t).read_unread, (hs0_1 t).read_unread,
    (Memref.isWhole_whole cc0_scratch0).read_unread, ld_left, ld_right, ld_sum]
  rfl

/-- The two blocks a point reads, as functions of an index. -/
abbrev left (t : Fin cfg0.N) : S1408x1024.Idx → EReal := iblk m c 0 t
abbrev right (t : Fin cfg0.N) : S1408x512.Idx → EReal := iblk m c 1 t

/-- The running sum, element by element. -/
abbrev running (n : ℕ) (hn : n < cfg0.N) (p : Fin 1024 × Fin 512) : EReal := (outsAt0 m c n hn).2 (ix2 p.1 p.2)

/-- The products a point adds. -/
abbrev added (t : Fin cfg0.N) (p : Fin 1024 × Fin 512) : EReal :=
  ∑ q : Fin 1408, left m c t (ix2 q p.1) * right m c t (ix2 q p.2)

theorem running_first (t : Fin cfg0.N) (h : t.val % 3 = 0) (p : Fin 1024 × Fin 512) :
    running m c t.val t.isLt p = 0 + added m c t p :=
  (congrFun (sum_first m c t h) _).trans ((step_apply _ _ _ p.1 p.2).trans (congrArg (· + _) (zero_apply _)))

theorem running_next (t : Fin cfg0.N) (h : ¬t.val % 3 = 0) (p : Fin 1024 × Fin 512) :
    running m c t.val t.isLt p
      = running m c (t.val - 1) (Nat.lt_of_le_of_lt (Nat.sub_le _ _) t.isLt) p + added m c t p :=
  (congrFun (sum_next m c t h) _).trans (step_apply _ _ _ p.1 p.2)

/-- What the last point stores, element by element: the sum over the three row blocks. -/
theorem out_apply (t : Fin cfg0.N) (h : t.val % 3 = 2) (i : Fin 1024) (l : Fin 512) :
    (outsAt0 m c t.val t.isLt).1 (ix2 i l) = ∑ s : Fin 3, ∑ q : Fin 1408,
      left m c ⟨3 * (t.val / 3) + s.val, Pipeline.run_point_lt_of_flush t h s⟩ (ix2 q i)
        * right m c ⟨3 * (t.val / 3) + s.val, Pipeline.run_point_lt_of_flush t h s⟩ (ix2 q l) :=
  (out_last m c t h _).trans ((Pipeline.eq_sum_fin_of_reset_step_apply_of_flush (N := cfg0.N) (running m c) 3 (fun _ => 0)
    (added m c) (running_first m c) (running_next m c) t h (i, l)).trans (zero_add _))

end Cert.BranchWeightBody

end
-- ==== Proof.BranchWeightArray.lean ====
/- The array the branch projection's weight gradient leaves is the reference's: one sum over all rows. -/
module

public import proofs.«01_k».proof.Proof.BranchWeightBody
public import proofs.«01_k».proof.Proof.Index
public import proofs.«01_k».proof.Proof.Gen.BranchWeightRefIdeal.Read

@[expose] public section

set_option maxRecDepth 16384

noncomputable section

namespace Cert.BranchWeightArray

open Idealize.ShloMosaic Idealize.ShloMosaic.TcCoe Idealize.SL.Sem
open Cert.BranchWeightRefIdeal.Read
open Cert.BranchWeightIdeal Cert.BranchWeightIdeal.Gen Cert.BranchWeightBody Cert.Index

variable (m : (ℓ : Loc nD τ sig) → Buf (Elt Ideal) ℓ) (c : Dev nD)

/-! The kernel's argument arrays as functions of an index. -/

abbrev A0 : S4224x1024.Idx → EReal := m ((c : Thread nD τ).loc main_arg0)
abbrev A1 : S4224x512.Idx → EReal := m ((c : Thread nD τ).loc main_arg1)

/-- The row of the arrays that row `q` of the `s`-th row block stands for. -/
abbrev row (s : Fin 3) (q : Fin 1408) : Fin 4224 := ⟨1408 * s.val + q.val, by omega⟩

/-- The column that column `i` of the `j`-th block of columns stands for. -/
abbrev col (j : Fin 1) (i : Fin 1024) : Fin 1024 := ⟨1024 * j.val + i.val, by omega⟩

/-- The point of the `j`-th block of columns that reads the `s`-th block of rows. -/
theorem blocks : ∀ t : Fin grid0.N,
    (win0_0.index t 0 = t.val % 3 ∧ win0_0.index t 1 = t.val / 3)
    ∧ (win0_1.index t 0 = t.val % 3 ∧ win0_1.index t 1 = 0)
    ∧ (win0_2.index t 0 = t.val / 3 ∧ win0_2.index t 1 = 0) := by decide +kernel

theorem emb0 (t : Fin cfg0.N) (s : Fin 3) (j : Fin 1) (hs : t.val % 3 = s.val) (hj : t.val / 3 = j.val)
    (q : Fin 1408) (i : Fin 1024) : ((cfg0.win 0).blk t).view.emb (ix2 q i) = ix2 (row s q) (col j i) :=
  ix2_of ((win0_0.rect_emb_val t (ix2 q i) 0).trans (at_row ((blocks t).1.1.trans hs)))
    ((win0_0.rect_emb_val t (ix2 q i) 1).trans (at_row ((blocks t).1.2.trans hj)))

theorem emb1 (t : Fin cfg0.N) (s : Fin 3) (hs : t.val % 3 = s.val) (q : Fin 1408) (l : Fin 512) :
    ((cfg0.win 1).blk t).view.emb (ix2 q l) = ix2 (row s q) l :=
  ix2_of ((win0_1.rect_emb_val t (ix2 q l) 0).trans (at_row ((blocks t).2.1.1.trans hs)))
    ((win0_1.rect_emb_val t (ix2 q l) 1).trans (at_all (blocks t).2.1.2))

theorem emb2 (t : Fin cfg0.N) (j : Fin 1) (hj : t.val / 3 = j.val) (i : Fin 1024) (l : Fin 512) :
    ((cfg0.win 2).blk t).view.emb (ix2 i l) = ix2 (col j i) l :=
  ix2_of ((win0_2.rect_emb_val t (ix2 i l) 0).trans (at_row ((blocks t).2.2.1.trans hj)))
    ((win0_2.rect_emb_val t (ix2 i l) 1).trans (at_all (blocks t).2.2.2))

/-! What the two blocks hold at a point. -/

theorem read0 (t : Fin cfg0.N) (s : Fin 3) (j : Fin 1) (hs : t.val % 3 = s.val) (hj : t.val / 3 = j.val)
    (q : Fin 1408) (i : Fin 1024) : left m c t (ix2 q i) = A0 m c (ix2 (row s q) (col j i)) := by
  unfold left iblk
  rw [View.read_apply, emb0 t s j hs hj]
  exact congrFun (V_main_arg0 m c) _

theorem read1 (t : Fin cfg0.N) (s : Fin 3) (hs : t.val % 3 = s.val) (q : Fin 1408) (l : Fin 512) :
    right m c t (ix2 q l) = A1 m c (ix2 (row s q) l) := by
  unfold right iblk
  rw [View.read_apply, emb1 t s hs]
  exact congrFun (V_main_arg1 m c) _

/-- The reference's gradient is one sum over the rows, here by its three blocks of them. -/
theorem reference_apply (a : Fin 1024) (l : Fin 512) : val_main_v7 (F := Ideal) (A0 m c) (A1 m c) (ix2 a l)
    = ∑ s : Fin 3, ∑ q : Fin 1408, A0 m c (ix2 (row s q) a) * A1 m c (ix2 (row s q) l) := by
  pointwise [val_main_v7, val_main_v6, val_main_v5, val_main_v4, val_main_v1, val_main_v3]
  refine (Fin.sum_univ_tiles 3 1408 rfl _).trans ?_
  exact Finset.sum_congr rfl fun s _ => Finset.sum_congr rfl fun q _ =>
    congrArg (fun r : Fin 4224 => A0 m c (ix2 r a) * A1 m c (ix2 r l)) (Fin.ext (congrArg (· + q.val) (Nat.mul_comm _ _)))

/-- What the last point of a block of columns writes back is the reference's block. -/
theorem written (t : Fin cfg0.N) (h : t.val % 3 = 2) (j : Fin 1) (hj : t.val / 3 = j.val) (i : Fin 1024) (l : Fin 512) :
    (outsAt0 m c t.val t.isLt).1 (ix2 i l) = val_main_v7 (F := Ideal) (A0 m c) (A1 m c) (ix2 (col j i) l) := by
  refine (out_apply m c t h i l).trans ((reference_apply m c _ l).trans ?_).symm
  refine Finset.sum_congr rfl fun s _ => Finset.sum_congr rfl fun q _ => ?_
  have hs : (3 * (t.val / 3) + s.val) % 3 = s.val := by omega
  have hd : (3 * (t.val / 3) + s.val) / 3 = j.val := by omega
  exact (congrArg₂ (· * ·) (read0 m c ⟨_, Pipeline.run_point_lt_of_flush t h s⟩ s j hs hd q i)
    (read1 m c ⟨_, Pipeline.run_point_lt_of_flush t h s⟩ s hs q l)).symm

/-- The array: its blocks of columns cover it, and each is the reference's. -/
theorem final2 : (dats m 0 c).arrAt 2 cfg0.N = val_main_v7 (F := Ideal) (A0 m c) (A1 m c) := by
  refine (dats m 0 c).arrAt_eq_of_cover 2 _ (fun t hf => ?_) (fun i => ?_)
  · have h : t.val % 3 = 2 := (flush0_2 t).mp hf
    have hN : t.val < 3 := lt_of_lt_of_eq t.isLt N_0
    rw [Cert.BranchWeightIdeal.Value.flushed2]
    funext y
    obtain ⟨r, k, rfl⟩ : ∃ (r : Fin 1024) (k : Fin 512), y = ix2 r k := ⟨y 0, y 1, eq_ix2 y⟩
    rw [View.read_apply, emb2 t ⟨t.val / 3, by omega⟩ rfl]
    exact written m c t h ⟨t.val / 3, by omega⟩ rfl r k
  · have hi : (i 0).val < 1024 := (i 0).isLt
    have e : i 0 = col ⟨(i 0).val / 1024, by omega⟩ ⟨(i 0).val % 1024, by omega⟩ :=
      Fin.ext (by show (i 0).val = 1024 * ((i 0).val / 1024) + (i 0).val % 1024; omega)
    have ht : 3 * ((i 0).val / 1024) + 2 < cfg0.N := lt_of_lt_of_eq (by omega) N_0.symm
    rw [(eq_ix2 i).trans ((congrArg (ix2 · (i 1)) e).trans
      (emb2 ⟨_, ht⟩ ⟨(i 0).val / 1024, by omega⟩ (by show (3 * ((i 0).val / 1024) + 2) / 3 = (i 0).val / 1024; omega) _ (i 1)).symm)]
    exact ⟨⟨_, ht⟩, (flush0_2 ⟨_, ht⟩).mpr (by show (3 * ((i 0).val / 1024) + 2) % 3 = 2; omega), View.emb_mem_set _ _⟩

end Cert.BranchWeightArray

end
-- ==== Proof.BranchWeightValue.lean ====
/- The branch projection's weight gradient: the kernel and the reference leave the same array. -/
module

public import proofs.«01_k».proof.Defs
public import proofs.«01_k».proof.Proof.BranchWeightArray

@[expose] public section

set_option maxRecDepth 16384

noncomputable section

namespace Cert.BranchWeightValue

open Idealize.ShloMosaic Idealize.ShloMosaic.TcCoe Idealize.SL.Sem
open Cert.BranchWeightRefIdeal.Read Cert.BranchWeightArray

/-- The reference terminates, keeps its arguments and leaves every counter at zero. -/
theorem frame_ref : quiescent_BranchWeightRefIdeal := fun m ρ _ =>
  (θ_run Cert.BranchWeightRefIdeal.defs _ _).mono
    (fun r h => ⟨fun c => (h c).2, sem_eq_zero_of_no_sems (by decide) r.2⟩) (Cert.BranchWeightRefIdeal.Value.run m ρ)

/-- From memories that agree on the arguments both programs run and end with equal results. -/
theorem algebraic : algebraic_BranchWeightIdeal_BranchWeightRefIdeal := by
  intro m g m' g' _ h
  refine ⟨fun c => val_main_v7 (F := Ideal) (A0 m c) (A1 m c), ?_, ?_⟩
  · refine (θ_run _ _ _).mono (fun r H c => ?_) (Cert.BranchWeightIdeal.Value.run_blocks m g)
    obtain ⟨h2, hargs⟩ := H c
    exact ⟨h2.trans (final2 m c), hargs⟩
  · refine (θ_run _ _ _).mono (fun r H c => ?_) (Cert.BranchWeightRefIdeal.Value.run m' g')
    obtain ⟨h2, hargs⟩ := H c
    obtain ⟨e0, e1⟩ := h c
    rw [e0, e1] at h2
    exact ⟨h2, hargs⟩

end Cert.BranchWeightValue

end
-- ==== Proof.InputBlock.lean ====
/- What one grid point of the input projection's input gradient computes, element by element, and that it is the
   reference's value at the row the block's row stands for: four products with pieces of the weight are one product with
   the whole. -/
module

public import proofs.«01_k».proof.Proof.Gen.InputIdeal.Value
public import proofs.«01_k».proof.Proof.Gen.InputRefIdeal.Read
public import Idealize.ShloMosaic.Lib.Pointwise

@[expose] public section

set_option maxRecDepth 16384

noncomputable section

namespace Cert.InputBlock

open Idealize.ShloMosaic Idealize.ShloMosaic.TcCoe
open Cert.InputRefIdeal.Read
open Cert.InputIdeal Cert.InputIdeal.Gen

/-- The array's row that row `r` of block `t` stands for. -/
abbrev row (t : Fin 6) (r : Fin 704) : Fin 4224 := ⟨704 * t.val + r.val, by omega⟩

/-- The column that column `l` of half `s` stands for. -/
abbrev col (s : Fin 2) (l : Fin 512) : Fin 1024 := ⟨512 * s.val + l.val, by omega⟩

/-! Where a column of each of the four pieces lies among all columns. -/

abbrev at0 (k : Fin 768) : Fin 4640 := ⟨k.val, by omega⟩
abbrev at1 (k : Fin 1536) : Fin 4640 := ⟨768 + k.val, by omega⟩
abbrev at2 (k : Fin 288) : Fin 4640 := ⟨2304 + k.val, by omega⟩
abbrev at3 (k : Fin 2048) : Fin 4640 := ⟨2592 + k.val, by omega⟩

/-- A sum over all columns is the sum over the four pieces. -/
theorem sum_pieces (f : Fin 4640 → EReal) : ∑ k, f k
    = ∑ k, f (at0 k) + ∑ k, f (at1 k) + ∑ k, f (at2 k) + ∑ k, f (at3 k) := by
  refine (Fin.sum_univ_add (a := 2592) (b := 2048) f).trans (congrArg (· + _) ?_)
  refine (Fin.sum_univ_add (a := 2304) (b := 288) _).trans (congrArg (· + _) ?_)
  exact Fin.sum_univ_add (a := 768) (b := 1536) _

theorem off0 : (![0, 0] : Fin 2 → Nat) = fun _ => 0 := funext fun a => by fin_cases a <;> rfl

/-- A block of two halves of columns agrees with a function of the columns when each half does. -/
theorem halves_apply (hi lo : Vec Ideal S704x512 .bf16) (G : S704x1024.Idx → EReal)
    (hhi : ∀ r l, hi (ix2 r l) = G (ix2 r (col 1 l))) (hlo : ∀ r l, lo (ix2 r l) = G (ix2 r (col 0 l)))
    (y : S704x1024.Idx) : View.canon (e := .bf16) (Val := Elt Ideal) [⟨r0_13, hi⟩, ⟨r0_8, lo⟩] y = G y := by
  have ehi : ∀ x : S704x512.Idx, r0_13.emb x = (ix2 (x 0) (col 1 (x 1)) : S704x1024.Idx) := fun x => by
    funext a; apply Fin.ext; fin_cases a
    · exact (Nat.zero_add _).trans (Nat.one_mul _)
    · exact congrArg (512 + ·) (Nat.one_mul _)
  have elo : ∀ x : S704x512.Idx, r0_8.emb x = (ix2 (x 0) (col 0 (x 1)) : S704x1024.Idx) := fun x => by
    funext a; apply Fin.ext; fin_cases a
    · exact (Nat.zero_add _).trans (Nat.one_mul _)
    · exact congrArg (0 + ·) (Nat.one_mul _)
  refine View.canon_apply_of_pieces (Val := Elt Ideal) (e := .bf16) G _ (fun p hp x => ?_) y ?_
  · rcases List.mem_cons.mp hp with rfl | hp
    · exact (congrArg hi (eq_ix2 x)).trans ((hhi _ _).trans (congrArg G (ehi x)).symm)
    · obtain rfl := List.mem_singleton.mp hp
      exact (congrArg lo (eq_ix2 x)).trans ((hlo _ _).trans (congrArg G (elo x)).symm)
  · have h' : (y 1).val < 1024 := (y 1).isLt
    by_cases h : (y 1).val < 512
    · refine ⟨_, List.mem_cons_of_mem _ (List.mem_singleton.mpr rfl), ?_⟩
      rw [eq_ix2 y, show (ix2 (y 0) (y 1) : S704x1024.Idx) = ix2 (y 0) (col 0 ⟨(y 1).val, h⟩) from
        congrArg (ix2 (y 0)) (Fin.ext (Nat.zero_add _).symm)]
      exact elo (ix2 (y 0) ⟨(y 1).val, h⟩) ▸ LoadRect.idx_mem _ _
    · refine ⟨_, List.mem_cons_self, ?_⟩
      rw [eq_ix2 y, show (ix2 (y 0) (y 1) : S704x1024.Idx) = ix2 (y 0) (col 1 ⟨(y 1).val - 512, by omega⟩) from
        congrArg (ix2 (y 0)) (Fin.ext (by show (y 1).val = 512 + ((y 1).val - 512); omega))]
      exact ehi (ix2 (y 0) ⟨(y 1).val - 512, by omega⟩) ▸ LoadRect.idx_mem _ _

variable (A0 : Cert.InputRefIdeal.S4224x768.Idx → EReal) (A1 : Cert.InputRefIdeal.S4224x1536.Idx → EReal)
  (A2 : Cert.InputRefIdeal.S4224x288.Idx → EReal) (A3 : Cert.InputRefIdeal.S4224x2048.Idx → EReal)
  (A4 : Cert.InputRefIdeal.S1024x4640.Idx → EReal)

/-! The four cotangents side by side, read in each piece. -/

theorem joined0 (i : Fin 4224) (k : Fin 768) : val_main_v0 (F := Ideal) A0 A1 A2 A3 (ix2 i (at0 k)) = A0 (ix2 i k) :=
  concatenate_apply_piece (t := Cert.InputRefIdeal.S4224x4640) 1 _ _ (ix2 i (at0 k)) 0 (by show 0 < 4; omega) _ A0 rfl rfl 0 rfl
    (ix2 i k) (fun b hb => by fin_cases b; · rfl
                              · exact absurd rfl hb) (Nat.zero_add _)

theorem joined1 (i : Fin 4224) (k : Fin 1536) : val_main_v0 (F := Ideal) A0 A1 A2 A3 (ix2 i (at1 k)) = A1 (ix2 i k) :=
  concatenate_apply_piece (t := Cert.InputRefIdeal.S4224x4640) 1 _ _ (ix2 i (at1 k)) 1 (by show 1 < 4; omega) _ A1 rfl rfl 768 rfl
    (ix2 i k) (fun b hb => by fin_cases b; · rfl
                              · exact absurd rfl hb) rfl

theorem joined2 (i : Fin 4224) (k : Fin 288) : val_main_v0 (F := Ideal) A0 A1 A2 A3 (ix2 i (at2 k)) = A2 (ix2 i k) :=
  concatenate_apply_piece (t := Cert.InputRefIdeal.S4224x4640) 1 _ _ (ix2 i (at2 k)) 2 (by show 2 < 4; omega) _ A2 rfl rfl 2304 rfl
    (ix2 i k) (fun b hb => by fin_cases b; · rfl
                              · exact absurd rfl hb) rfl

theorem joined3 (i : Fin 4224) (k : Fin 2048) : val_main_v0 (F := Ideal) A0 A1 A2 A3 (ix2 i (at3 k)) = A3 (ix2 i k) :=
  concatenate_apply_piece (t := Cert.InputRefIdeal.S4224x4640) 1 _ _ (ix2 i (at3 k)) 3 (by show 3 < 4; omega) _ A3 rfl rfl 2592 rfl
    (ix2 i k) (fun b hb => by fin_cases b; · rfl
                              · exact absurd rfl hb) rfl

/-- The reference's gradient, by the four pieces. -/
theorem reference_apply (i : Fin 4224) (j : Fin 1024) : val_main_v6 (F := Ideal) A0 A1 A2 A3 A4 (ix2 i j)
    = ∑ k, A0 (ix2 i k) * A4 (ix2 j (at0 k)) + ∑ k, A1 (ix2 i k) * A4 (ix2 j (at1 k))
      + ∑ k, A2 (ix2 i k) * A4 (ix2 j (at2 k)) + ∑ k, A3 (ix2 i k) * A4 (ix2 j (at3 k)) := by
  have e : val_main_v6 (F := Ideal) A0 A1 A2 A3 A4 (ix2 i j)
      = ∑ k, val_main_v0 (F := Ideal) A0 A1 A2 A3 (ix2 i k) * A4 (ix2 j k) := by
    pointwise [val_main_v6, val_main_v5, val_main_v4, val_main_v3, val_main_v1]
  rw [e, sum_pieces]
  simp only [joined0, joined1, joined2, joined3]

variable (x0 : Vec Ideal S704x768 .bf16) (x1 : Vec Ideal S704x1536 .bf16) (x2 : Vec Ideal S704x288 .bf16)
  (x3 : Vec Ideal S704x2048 .bf16) (x4 : Vec Ideal S2x4640x512 .bf16) (t : Fin 6)
  (h0 : ∀ r k, x0 (ix2 r k) = A0 (ix2 (row t r) k))
  (h1 : ∀ r k, x1 (ix2 r k) = A1 (ix2 (row t r) k))
  (h2 : ∀ r k, x2 (ix2 r k) = A2 (ix2 (row t r) k))
  (h3 : ∀ r k, x3 (ix2 r k) = A3 (ix2 (row t r) k))
  (h4 : ∀ s k l, x4 (ix3 s k l) = A4 (ix2 (col s l) k))

include h0 h1 h2 h3 h4 in
/-- The first half of the columns. -/
theorem half0 (r : Fin 704) (l : Fin 512) :
    k0_pay2 x0 (View.ld x4 r0_1) x1 (View.ld x4 r0_3) x2 (View.ld x4 r0_5) x3 (View.ld x4 r0_7) (ix2 r l)
      = val_main_v6 (F := Ideal) A0 A1 A2 A3 A4 (ix2 (row t r) (col 0 l)) := by
  rw [reference_apply]
  unfold_payloads
  pointwise []
  simp only [h0, h1, h2, h3, h4]

include h0 h1 h2 h3 h4 in
/-- The second half of the columns. -/
theorem half1 (r : Fin 704) (l : Fin 512) :
    k0_pay1 (k0_pay3 x0 (View.ld x4 r0_9)) x1 (View.ld x4 r0_10) x2 (View.ld x4 r0_11) x3 (View.ld x4 r0_12) (ix2 r l)
      = val_main_v6 (F := Ideal) A0 A1 A2 A3 A4 (ix2 (row t r) (col 1 l)) := by
  rw [reference_apply]
  unfold_payloads
  pointwise []
  simp only [h0, h1, h2, h3, h4]

include h0 h1 h2 h3 h4 in
/-- The input's gradient. -/
theorem block5 (r : Fin 704) (l : Fin 1024) :
    out0_5 (F := Ideal) x0 x1 x2 x3 x4 (ix2 r l) = val_main_v6 (F := Ideal) A0 A1 A2 A3 A4 (ix2 (row t r) l) := by
  unfold out0_5
  rw [View.ld_unit_zero off0, View.ld_unit_zero off0, View.ld_unit_zero off0, View.ld_unit_zero off0]
  exact halves_apply _ _ (fun y => val_main_v6 (F := Ideal) A0 A1 A2 A3 A4 (ix2 (row t (y 0)) (y 1)))
    (fun r l => half1 A0 A1 A2 A3 A4 x0 x1 x2 x3 x4 t h0 h1 h2 h3 h4 r l)
    (fun r l => half0 A0 A1 A2 A3 A4 x0 x1 x2 x3 x4 t h0 h1 h2 h3 h4 r l) (ix2 r l)

end Cert.InputBlock

end
-- ==== Proof.InputArray.lean ====
/- The array the input projection's input gradient leaves: it is the reference's value, every block of it being what one
   grid point wrote. -/
module

public import proofs.«01_k».proof.Proof.InputBlock
public import proofs.«01_k».proof.Proof.Index
public import Idealize.ShloMosaic.Lib.StableHlo.ReadAt

@[expose] public section

set_option maxRecDepth 16384

noncomputable section

namespace Cert.InputArray

open Idealize.ShloMosaic Idealize.ShloMosaic.TcCoe Idealize.SL.Sem
open Cert.InputRefIdeal.Read
open Cert.InputIdeal Cert.InputIdeal.Gen Cert.InputBlock Cert.Index

variable (m : (ℓ : Loc nD τ sig) → Buf (Elt Ideal) ℓ) (c : Dev nD)

/-! The kernel's argument arrays as functions of an index. -/

abbrev A0 : S4224x768.Idx → EReal := m ((c : Thread nD τ).loc main_arg0)
abbrev A1 : S4224x1536.Idx → EReal := m ((c : Thread nD τ).loc main_arg1)
abbrev A2 : S4224x288.Idx → EReal := m ((c : Thread nD τ).loc main_arg2)
abbrev A3 : S4224x2048.Idx → EReal := m ((c : Thread nD τ).loc main_arg3)
abbrev A4 : S1024x4640.Idx → EReal := m ((c : Thread nD τ).loc main_arg4)

/-- The host hands the call the weight in two halves of its rows, transposed. -/
theorem entry4 (s : Fin 2) (k : Fin 4640) (l : Fin 512) : V m c main_v2 (ix3 s k l) = A4 m c (ix2 (col s l) k) := by
  unfold V
  after_reads_at
  exact congrArg (fun j : Fin 1024 => A4 m c (ix2 j k)) (Fin.ext (congrArg (· + l.val) (Nat.mul_comm _ _)))

/-- The windows that walk down the rows, one block a point. -/
theorem index_rows : ∀ t : Fin grid0.N,
    (win0_0.index t 0 = t.val ∧ win0_0.index t 1 = 0) ∧ (win0_1.index t 0 = t.val ∧ win0_1.index t 1 = 0) ∧ (win0_2.index
    t 0 = t.val ∧ win0_2.index t 1 = 0) ∧ (win0_3.index t 0 = t.val ∧ win0_3.index t 1 = 0) ∧ (win0_5.index t 0 =
    t.val ∧ win0_5.index t 1 = 0) := by decide +kernel

/-! Where a block's element lies in its array. -/

theorem emb0 (t : Fin cfg0.N) (r : Fin 704) (k : Fin 768) :
    ((cfg0.win 0).blk t).view.emb (ix2 r k) = ix2 (row t r) k :=
  ix2_of ((win0_0.rect_emb_val t (ix2 r k) 0).trans (at_row (index_rows t).1.1))
    ((win0_0.rect_emb_val t (ix2 r k) 1).trans (at_all (index_rows t).1.2))

theorem emb1 (t : Fin cfg0.N) (r : Fin 704) (k : Fin 1536) :
    ((cfg0.win 1).blk t).view.emb (ix2 r k) = ix2 (row t r) k :=
  ix2_of ((win0_1.rect_emb_val t (ix2 r k) 0).trans (at_row (index_rows t).2.1.1))
    ((win0_1.rect_emb_val t (ix2 r k) 1).trans (at_all (index_rows t).2.1.2))

theorem emb2 (t : Fin cfg0.N) (r : Fin 704) (k : Fin 288) :
    ((cfg0.win 2).blk t).view.emb (ix2 r k) = ix2 (row t r) k :=
  ix2_of ((win0_2.rect_emb_val t (ix2 r k) 0).trans (at_row (index_rows t).2.2.1.1))
    ((win0_2.rect_emb_val t (ix2 r k) 1).trans (at_all (index_rows t).2.2.1.2))

theorem emb3 (t : Fin cfg0.N) (r : Fin 704) (k : Fin 2048) :
    ((cfg0.win 3).blk t).view.emb (ix2 r k) = ix2 (row t r) k :=
  ix2_of ((win0_3.rect_emb_val t (ix2 r k) 0).trans (at_row (index_rows t).2.2.2.1.1))
    ((win0_3.rect_emb_val t (ix2 r k) 1).trans (at_all (index_rows t).2.2.2.1.2))

theorem emb5 (t : Fin cfg0.N) (r : Fin 704) (k : Fin 1024) :
    ((cfg0.win 5).blk t).view.emb (ix2 r k) = ix2 (row t r) k :=
  ix2_of ((win0_5.rect_emb_val t (ix2 r k) 0).trans (at_row (index_rows t).2.2.2.2.1))
    ((win0_5.rect_emb_val t (ix2 r k) 1).trans (at_all (index_rows t).2.2.2.2.2))

/-- The weight is staged whole at every point. -/
theorem emb4 (t : Fin cfg0.N) (s : Fin 2) (k : Fin 4640) (l : Fin 512) :
    ((cfg0.win 4).blk t).view.emb (ix3 s k l) = ix3 s k l := by
  have h : ∀ t : Fin grid0.N, win0_4.index t 0 = 0 ∧ win0_4.index t 1 = 0 ∧ win0_4.index t 2 = 0 := by decide +kernel
  funext a
  apply Fin.ext
  fin_cases a
  · exact (win0_4.rect_emb_val t (ix3 s k l) 0).trans (at_all (h t).1)
  · exact (win0_4.rect_emb_val t (ix3 s k l) 1).trans (at_all (h t).2.1)
  · exact (win0_4.rect_emb_val t (ix3 s k l) 2).trans (at_all (h t).2.2)

/-! What each input window's block holds at a point. -/

theorem read0 (t : Fin cfg0.N) (r : Fin 704) (k : Fin 768) :
    iblk m c 0 t (ix2 r k) = A0 m c (ix2 (row t r) k) := by
  unfold iblk
  rw [View.read_apply, emb0]
  exact congrFun (V_main_arg0 m c) _

theorem read1 (t : Fin cfg0.N) (r : Fin 704) (k : Fin 1536) :
    iblk m c 1 t (ix2 r k) = A1 m c (ix2 (row t r) k) := by
  unfold iblk
  rw [View.read_apply, emb1]
  exact congrFun (V_main_arg1 m c) _

theorem read2 (t : Fin cfg0.N) (r : Fin 704) (k : Fin 288) :
    iblk m c 2 t (ix2 r k) = A2 m c (ix2 (row t r) k) := by
  unfold iblk
  rw [View.read_apply, emb2]
  exact congrFun (V_main_arg2 m c) _

theorem read3 (t : Fin cfg0.N) (r : Fin 704) (k : Fin 2048) :
    iblk m c 3 t (ix2 r k) = A3 m c (ix2 (row t r) k) := by
  unfold iblk
  rw [View.read_apply, emb3]
  exact congrFun (V_main_arg3 m c) _

theorem read4 (t : Fin cfg0.N) (s : Fin 2) (k : Fin 4640) (l : Fin 512) :
    iblk m c 4 t (ix3 s k l) = A4 m c (ix2 (col s l) k) := by
  unfold iblk
  rw [View.read_apply, emb4]
  exact entry4 m c s k l

/-- Every row is row `r` of some block `t`. -/
theorem row_split (i : Fin 4224) : ∃ (t : Fin 6) (r : Fin 704), i = row t r :=
  ⟨⟨i.val / 704, by omega⟩, ⟨i.val % 704, by omega⟩, Fin.ext (by show i.val = 704 * (i.val / 704) + i.val % 704; omega)⟩

/-! The arrays: each output window's blocks cover its array, and each block is the reference's. -/

/-- The input's gradient is the reference's. -/
theorem final5 : (dats m 0 c).arrAt 5 cfg0.N = val_main_v6 (F := Ideal) (A0 m c) (A1 m c) (A2 m c) (A3 m c) (A4 m c) := by
  refine (dats m 0 c).arrAt_eq_of_cover 5 _ (fun t _ => ?_) (fun i => ?_)
  · rw [Cert.InputIdeal.Value.flushed5]
    funext y
    obtain ⟨r, k, rfl⟩ : ∃ (r : Fin 704) (k : Fin 1024), y = ix2 r k := ⟨y 0, y 1, eq_ix2 y⟩
    rw [View.read_apply, emb5]
    exact block5 _ _ _ _ _ _ _ _ _ _ t (read0 m c t) (read1 m c t) (read2 m c t) (read3 m c t) (read4 m c t) r k
  · obtain ⟨t, r, h⟩ := row_split (i 0)
    rw [(eq_ix2 i).trans ((congrArg (ix2 · (i 1)) h).trans (emb5 t r (i 1)).symm)]
    exact ⟨t, flush0_5 t, View.emb_mem_set _ _⟩

end Cert.InputArray

end
-- ==== Proof.InputValue.lean ====
/- The input projection's input gradient: the kernel and the reference leave the same array. -/
module

public import proofs.«01_k».proof.Defs
public import proofs.«01_k».proof.Proof.InputArray

@[expose] public section

set_option maxRecDepth 16384

noncomputable section

namespace Cert.InputValue

open Idealize.ShloMosaic Idealize.ShloMosaic.TcCoe Idealize.SL.Sem
open Cert.InputRefIdeal.Read Cert.InputArray

/-- The reference terminates, keeps its arguments and leaves every counter at zero. -/
theorem frame_ref : quiescent_InputRefIdeal := fun m ρ _ =>
  (θ_run Cert.InputRefIdeal.defs _ _).mono
    (fun r h => ⟨fun c => (h c).2, sem_eq_zero_of_no_sems (by decide) r.2⟩) (Cert.InputRefIdeal.Value.run m ρ)

/-- From memories that agree on the arguments both programs run and end with equal results. -/
theorem algebraic : algebraic_InputIdeal_InputRefIdeal := by
  intro m g m' g' _ h
  refine ⟨fun c => val_main_v6 (F := Ideal) (A0 m c) (A1 m c) (A2 m c) (A3 m c) (A4 m c), ?_, ?_⟩
  · refine (θ_run _ _ _).mono (fun r H c => ?_) (Cert.InputIdeal.Value.run_blocks m g)
    obtain ⟨h5, hargs⟩ := H c
    exact ⟨h5.trans (final5 m c), hargs⟩
  · refine (θ_run _ _ _).mono (fun r H c => ?_) (Cert.InputRefIdeal.Value.run m' g')
    obtain ⟨h5, hargs⟩ := H c
    obtain ⟨e0, e1, e2, e3, e4⟩ := h c
    rw [e0, e1, e2, e3, e4] at h5
    exact ⟨h5, hargs⟩

end Cert.InputValue

end
-- ==== Proof.LossBody.lean ====
/- What the loss head leaves at a grid point: three blocks of rows of the gradient, and the running sums of the loss and of
   the scale's gradient, each as the body's own terms of the blocks it read. -/
module

public import proofs.«01_k».proof.Proof.Gen.LossIdeal.Value
public import Idealize.ShloMosaic.Lib.Pointwise

@[expose] public section

set_option maxRecDepth 16384

noncomputable section

namespace Cert.LossBody

open Idealize.ShloMosaic Idealize.ShloMosaic.TcCoe Idealize.SL.Sem
open Cert.LossIdeal Cert.LossIdeal.Gen

theorem off0 : (![0, 0] : Fin 2 → Nat) = fun _ => 0 := funext fun a => by fin_cases a <;> rfl

/-! The three blocks of 128 rows of a point's 384. -/

def wide0 (x : Vec Ideal S384x2816 .bf16) : Vec Ideal S128x2816 .bf16 :=
  View.ld x (Rect.unit ![0, 0] S128x2816.size inb_S384x2816_S128x2816_0_0)
def wide1 (x : Vec Ideal S384x2816 .bf16) : Vec Ideal S128x2816 .bf16 :=
  View.ld x (Rect.unit ![128, 0] S128x2816.size inb_S384x2816_S128x2816_128_0)
def wide2 (x : Vec Ideal S384x2816 .bf16) : Vec Ideal S128x2816 .bf16 :=
  View.ld x (Rect.unit ![256, 0] S128x2816.size inb_S384x2816_S128x2816_256_0)
def rows0 (x : Vec Ideal S384x1024 .f32) : Vec Ideal S128x1024 .f32 :=
  View.ld x (Rect.unit ![0, 0] S128x1024.size inb_S384x1024_S128x1024_0_0)
def rows1 (x : Vec Ideal S384x1024 .f32) : Vec Ideal S128x1024 .f32 :=
  View.ld x (Rect.unit ![128, 0] S128x1024.size inb_S384x1024_S128x1024_128_0)
def rows2 (x : Vec Ideal S384x1024 .f32) : Vec Ideal S128x1024 .f32 :=
  View.ld x (Rect.unit ![256, 0] S128x1024.size inb_S384x1024_S128x1024_256_0)

/-- Three blocks of rows stored one under the other. -/
def thirds (x2 x1 x0 : Vec Ideal S128x1024 .f32) : Vec Ideal S384x1024 .f32 :=
  View.canon (Val := Elt Ideal)
    [⟨Rect.unit (s := S384x1024) ![256, 0] S128x1024.size inb_S384x1024_S128x1024_256_0, x2⟩,
     ⟨Rect.unit (s := S384x1024) ![128, 0] S128x1024.size inb_S384x1024_S128x1024_128_0, x1⟩,
     ⟨Rect.unit (s := S384x1024) ![0, 0] S128x1024.size inb_S384x1024_S128x1024_0_0, x0⟩]

/-! Reading a whole block reads the block; reading some of its rows reads those. -/

theorem ld_weight (x : Vec Ideal S2816x1024 .bf16) :
    View.ld x (Rect.unit ![0, 0] ![2816, 1024] inb_S2816x1024_S2816x1024_0_0) = x := View.ld_unit_zero off0 _ x
theorem ld_target (x : Vec Ideal S128x1024 .f32) :
    View.ld x (Rect.unit ![0, 0] ![128, 1024] inb_S128x1024_S128x1024_0_0) = x := View.ld_unit_zero off0 _ x
theorem ld_scale (x : Vec Ideal S1x1024 .f32) :
    View.ld x (Rect.unit ![0, 0] ![1, 1024] inb_S1x1024_S1x1024_0_0) = x := View.ld_unit_zero off0 _ x
theorem ld_loss (x : Vec Ideal S8x128 .f32) :
    View.ld x (Rect.unit ![0, 0] ![8, 128] inb_S8x128_S8x128_0_0) = x := View.ld_unit_zero off0 _ x
theorem ld_wide0 (x : Vec Ideal S384x2816 .bf16) :
    View.ld x (Rect.unit ![0, 0] ![128, 2816] inb_S384x2816_S128x2816_0_0) = wide0 x := rfl
theorem ld_wide1 (x : Vec Ideal S384x2816 .bf16) :
    View.ld x (Rect.unit ![128, 0] ![128, 2816] inb_S384x2816_S128x2816_128_0) = wide1 x := rfl
theorem ld_wide2 (x : Vec Ideal S384x2816 .bf16) :
    View.ld x (Rect.unit ![256, 0] ![128, 2816] inb_S384x2816_S128x2816_256_0) = wide2 x := rfl
theorem ld_rows0 (x : Vec Ideal S384x1024 .f32) :
    View.ld x (Rect.unit ![0, 0] ![128, 1024] inb_S384x1024_S128x1024_0_0) = rows0 x := rfl
theorem ld_rows1 (x : Vec Ideal S384x1024 .f32) :
    View.ld x (Rect.unit ![128, 0] ![128, 1024] inb_S384x1024_S128x1024_128_0) = rows1 x := rfl
theorem ld_rows2 (x : Vec Ideal S384x1024 .f32) :
    View.ld x (Rect.unit ![256, 0] ![128, 1024] inb_S384x1024_S128x1024_256_0) = rows2 x := rfl

/-! The body's three copies of each step of the computation are one function. -/

/-- Which rows of a block have a target, from the word of the block's first row. -/
def real (w : BitVec 32) : IVec S128x1 1 := k0_pay16 w

/-- The first row of block `j` of a point, as the body computes it. -/
def first (t : Fin cfg0.N) (j : BitVec 32) : BitVec 32 :=
  Scalar.addi (Scalar.muli (BitVec.ofNat 32 ((grid0.coords t) 0).val) 384#32) j

/-- The gradient of one block's rows. -/
def gradRows (p : IVec S128x1 1) (a : Vec Ideal S128x2816 .bf16) (w : Vec Ideal S2816x1024 .bf16) (h tg : Vec Ideal S128x1024 .f32)
    (g : Vec Ideal S1x1024 .f32) : Vec Ideal S128x1024 .f32 :=
  k0_pay13 p (k0_pay4 a w h) g (k0_pay6 a w h) (k0_pay7 a w h) (k0_pay9 a w h g tg)

/-- The sum of one block's mean squares. -/
def lossRows (w' : BitVec 32) (a : Vec Ideal S128x2816 .bf16) (w : Vec Ideal S2816x1024 .bf16) (h tg : Vec Ideal S128x1024 .f32)
    (g : Vec Ideal S1x1024 .f32) : EReal := k0_pay23 w' a w h g tg

/-- What one block adds to the scale's gradient `v`. -/
def gradScale (v : Vec Ideal S1x1024 .f32) (p : IVec S128x1 1) (a : Vec Ideal S128x2816 .bf16) (w : Vec Ideal S2816x1024 .bf16)
    (h tg : Vec Ideal S128x1024 .f32) (g : Vec Ideal S1x1024 .f32) : Vec Ideal S1x1024 .f32 :=
  k0_pay15 v p (k0_pay8 a w h) (k0_pay9 a w h g tg)

/-- The constant one half. -/
def half : EReal := Scalar.ofBits (F := Ideal) .f32 0x3F000000#32

variable (m : (ℓ : Loc nD τ sig) → Buf (Elt Ideal) ℓ) (c : Dev nD)

/-- What a point's first two blocks add to the loss. -/
def lossTwo (t : Fin cfg0.N) : EReal :=
  (Scalar.ofBits (F := Ideal) .f32 0x00000000#32
    + half * lossRows (first t 0#32) (wide0 (iblk m c 0 t)) (iblk m c 1 t) (rows0 (iblk m c 2 t)) (iblk m c 3 t) (iblk m c 6 t))
    + half * lossRows (first t 128#32) (wide1 (iblk m c 0 t)) (iblk m c 1 t) (rows1 (iblk m c 2 t)) (iblk m c 4 t) (iblk m c 6 t)

/-- What its last block adds. -/
def lossOne (t : Fin cfg0.N) : EReal :=
  half * lossRows (first t 256#32) (wide2 (iblk m c 0 t)) (iblk m c 1 t) (rows2 (iblk m c 2 t)) (iblk m c 5 t) (iblk m c 6 t)

/-- What a point adds to the scale's gradient. -/
def scaleAdd (t : Fin cfg0.N) : Vec Ideal S1x1024 .f32 :=
  gradScale (gradScale (gradScale (k0_pay2 (F := Ideal))
      (real (first t 0#32)) (wide0 (iblk m c 0 t)) (iblk m c 1 t) (rows0 (iblk m c 2 t)) (iblk m c 3 t) (iblk m c 6 t))
      (real (first t 128#32)) (wide1 (iblk m c 0 t)) (iblk m c 1 t) (rows1 (iblk m c 2 t)) (iblk m c 4 t) (iblk m c 6 t))
      (real (first t 256#32)) (wide2 (iblk m c 0 t)) (iblk m c 1 t) (rows2 (iblk m c 2 t)) (iblk m c 5 t) (iblk m c 6 t)

/-- The gradient's rows at a point. -/
theorem outs8 (t : Fin cfg0.N) : (outsAt0 m c t.val t.isLt).2.1
    = thirds
      (gradRows (real (first t 256#32)) (wide2 (iblk m c 0 t)) (iblk m c 1 t) (rows2 (iblk m c 2 t)) (iblk m c 5 t) (iblk m c 6 t))
      (gradRows (real (first t 128#32)) (wide1 (iblk m c 0 t)) (iblk m c 1 t) (rows1 (iblk m c 2 t)) (iblk m c 4 t) (iblk m c 6 t))
      (gradRows (real (first t 0#32)) (wide0 (iblk m c 0 t)) (iblk m c 1 t) (rows0 (iblk m c 2 t)) (iblk m c 3 t) (iblk m c 6 t)) := by
  by_cases h : t.val % 11 = 0
  · rw [outsAt0_A m c t h]
    dsimp only
    unfold out0_A_8
    rw [View.read_writes_eq_canon _ _ _ (cover0_A_8 c _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_6 t).read_unread, ld_weight, ld_target,
      ld_scale, ld_wide0, ld_wide1, ld_wide2, ld_rows0, ld_rows1, ld_rows2]
    rfl
  · rw [outsAt0_B m c t h]
    dsimp only
    unfold out0_B_8
    rw [View.read_writes_eq_canon _ _ _ (cover0_B_8 c _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_6 t).read_unread, ld_weight, ld_target,
      ld_scale, ld_wide0, ld_wide1, ld_wide2, ld_rows0, ld_rows1, ld_rows2]
    rfl

/-- The running loss after the first point, -/
theorem outs7_first (t : Fin cfg0.N) (h : t.val % 11 = 0) : (outsAt0 m c t.val t.isLt).1
    = k0_pay42 (F := Ideal) (lossTwo m c t) (lossOne m c t) (k0_pay40 (F := Ideal)) := by
  rw [outsAt0_A m c t h]
  dsimp only
  unfold out0_A_7
  rw [View.read_writes_eq_canon _ _ _ (cover0_A_7 c _ _ _ _ _ _ _ _ _ _ _ _ _ _ _ _ _ _ _ _ _ _ _ _ _ _ _ _ _)]
  unfold kernelRun0_A
  dsimp only
  sl_unfold_words
  rw [View.canon_cons_unit_zero (S := S8x128) off0, View.readCov_unit_zero (S := S8x128) _ off0]
  simp only [View.readAt_eq_ld, (hs0_0 t).read_unread, (hs0_1 t).read_unread, (hs0_2 t).read_unread,
    (hs0_3 t).read_unread, (hs0_4 t).read_unread, (hs0_5 t).read_unread, (hs0_6 t).read_unread, ld_weight, ld_target,
    ld_scale, ld_wide0, ld_wide1, ld_wide2, ld_rows0, ld_rows1, ld_rows2]
  rfl

/-- … and after a later one. -/
theorem outs7_next (t : Fin cfg0.N) (h : ¬t.val % 11 = 0) : (outsAt0 m c t.val t.isLt).1
    = k0_pay42 (F := Ideal) (lossTwo m c t) (lossOne m c t) (outsAt0 m c (t.val - 1) (Nat.lt_of_le_of_lt (Nat.sub_le _ _) t.isLt)).1 := by
  rw [outsAt0_B m c t h]
  dsimp only
  unfold out0_B_7
  rw [View.read_writes_eq_canon _ _ _ (cover0_B_7 c _ _ _ _ _ _ _ _ _ _ _ _ _ _ _ _ _ _ _ _ _ _ _ _ _ _ _ _ _ _ _)]
  unfold kernelRun0_B
  dsimp only
  sl_unfold_words
  rw [View.canon_unit_zero off0]
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, ld_weight, ld_target,
    ld_scale, ld_loss, ld_wide0, ld_wide1, ld_wide2, ld_rows0, ld_rows1, ld_rows2]
  rfl

/-- The scale's running gradient after the first point, -/
theorem outs9_first (t : Fin cfg0.N) (h : t.val % 11 = 0) : (outsAt0 m c t.val t.isLt).2.2
    = k0_pay1 (F := Ideal) (scaleAdd m c t) (k0_pay43 (k0_pay41 (F := Ideal))) := by
  rw [outsAt0_A m c t h]
  dsimp only
  unfold out0_A_9
  rw [View.read_writes_eq_canon _ _ _ (cover0_A_9 c _ _ _ _ _ _ _ _ _ _ _ _ _ _ _ _ _ _ _ _ _ _ _ _ _ _ _ _ _)]
  unfold kernelRun0_A
  dsimp only
  sl_unfold_words
  rw [View.canon_cons_unit_zero (S := S1x1024) off0, View.readCov_unit_zero (S := S1x1024) _ off0]
  simp only [View.readAt_eq_ld, (hs0_0 t).read_unread, (hs0_1 t).read_unread, (hs0_2 t).read_unread,
    (hs0_3 t).read_unread, (hs0_4 t).read_unread, (hs0_5 t).read_unread, (hs0_6 t).read_unread, ld_weight, ld_target,
    ld_scale, ld_wide0, ld_wide1, ld_wide2, ld_rows0, ld_rows1, ld_rows2]
  rfl

/-- … and after a later one. -/
theorem outs9_next (t : Fin cfg0.N) (h : ¬t.val % 11 = 0) : (outsAt0 m c t.val t.isLt).2.2
    = k0_pay1 (F := Ideal) (scaleAdd m c t) (k0_pay43 (outsAt0 m c (t.val - 1) (Nat.lt_of_le_of_lt (Nat.sub_le _ _) t.isLt)).2.2) := by
  rw [outsAt0_B m c t h]
  dsimp only
  unfold out0_B_9
  rw [View.read_writes_eq_canon _ _ _ (cover0_B_9 c _ _ _ _ _ _ _ _ _ _ _ _ _ _ _ _ _ _ _ _ _ _ _ _ _ _ _ _ _ _ _)]
  unfold kernelRun0_B
  dsimp only
  sl_unfold_words
  rw [View.canon_unit_zero off0]
  simp only [View.readAt_eq_ld, (hs0_0 t).read_unread, (hs0_1 t).read_unread, (hs0_2 t).read_unread,
    (hs0_3 t).read_unread, (hs0_4 t).read_unread, (hs0_5 t).read_unread, (hs0_6 t).read_unread, (hs0_9 t).read_unread, ld_weight, ld_target,
    ld_scale, ld_wide0, ld_wide1, ld_wide2, ld_rows0, ld_rows1, ld_rows2]
  rfl

end Cert.LossBody

end
-- ==== Proof.LossBlock.lean ====
/- What the loss head computes of one block of 128 rows, element by element: in a block with targets the reference's
   values at the rows it stands for, in the front block, which has none, zeros. -/
module

public import proofs.«01_k».proof.Proof.LossBody
public import proofs.«01_k».proof.Proof.Gen.LossRefIdeal.Read

@[expose] public section

set_option maxRecDepth 16384

noncomputable section

namespace Cert.LossBlock

open Idealize.ShloMosaic Idealize.ShloMosaic.TcCoe
open Cert.LossRefIdeal.Read
open Cert.LossIdeal Cert.LossIdeal.Gen
open Cert.LossBody

/-- The target's row that row `r` of block `b` stands for. -/
abbrev row (b : Fin 32) (r : Fin 128) : Fin 4096 := ⟨128 * b.val + r.val, by omega⟩
/-- The array's row of the target's row `q`. -/
abbrev under (q : Fin 4096) : Fin 4224 := ⟨128 + q.val, by omega⟩

/-- The reference's rows after the front block are the rows it stands for. -/
theorem idx_under (q : Fin 4096) (l : Fin 1024) : idx_main_v4 (ix2 q l) = ix2 (under q) l :=
  funext fun d => Fin.ext (match d with
    | ⟨0, _⟩ => by rfl
    | ⟨1, _⟩ => by rfl)

section Real

variable (A0 : S4224x2816.Idx → EReal) (A1 : S2816x1024.Idx → EReal) (A2 : S4224x1024.Idx → EReal)
  (A3 : S4096x1024.Idx → EReal) (A4 : S1x1024.Idx → EReal)
  (a : Vec Ideal S128x2816 .bf16) (w : Vec Ideal S2816x1024 .bf16) (h tg : Vec Ideal S128x1024 .f32)
  (g : Vec Ideal S1x1024 .f32) (p : IVec S128x1 1) (b : Fin 32)
  (ha : ∀ r k, a (ix2 r k) = A0 (ix2 (under (row b r)) k))
  (hw : ∀ k l, w (ix2 k l) = A1 (ix2 k l))
  (hh : ∀ r l, h (ix2 r l) = A2 (ix2 (under (row b r)) l))
  (ht : ∀ r l, tg (ix2 r l) = A3 (ix2 (row b r) l))
  (hg : ∀ l, g (ix2 0 l) = A4 (ix2 0 l))
  (hp : ∀ r, p (ix2 r 0) = 1#1)

include ha hw hh in
/-- The layer's output. -/
theorem out_apply (r : Fin 128) (l : Fin 1024) :
    k0_pay4 (F := Ideal) a w h (ix2 r l) = val_main_v4 (F := Ideal) A0 A1 A2 (ix2 (row b r) l) := by
  unfold k0_pay4
  rw [val_main_v4_apply, idx_under]
  pointwise [val_main_v3, val_main_v2, val_main_v1, val_main_v0]
  simp only [ha, hw, hh]
  rw [add_comm]

include ha hw hh in
/-- Its mean square, over which it is normalised. -/
theorem mean_apply (r : Fin 128) :
    k0_pay5 (F := Ideal) a w h (ix2 r 0) = val_main_v12 (F := Ideal) A0 A1 A2 (ix2 (row b r) 0) := by
  unfold k0_pay5
  pointwise [val_main_v12, val_main_v11, val_main_v10, val_main_v9, val_main_v8, val_main_v7, val_main_v6, val_main_cst,
    val_main_cst_0, val_main_cst_1]
  simp only [out_apply A0 A1 A2 a w h b ha hw hh]

include ha hw hh in
/-- The reciprocal of its root. -/
theorem root_apply (r : Fin 128) :
    k0_pay6 (F := Ideal) a w h (ix2 r 0) = val_main_v13 (F := Ideal) A0 A1 A2 (ix2 (row b r) 0) := by
  unfold k0_pay6
  pointwise [val_main_v13]
  simp only [mean_apply A0 A1 A2 a w h b ha hw hh]

include ha hw hh in
/-- The factor the root's derivative carries. -/
theorem factor_apply (r : Fin 128) :
    k0_pay7 (F := Ideal) a w h (ix2 r 0) = val_main_v16 (F := Ideal) A0 A1 A2 (ix2 (row b r) 0) := by
  unfold k0_pay7
  pointwise [val_main_v16, val_main_v15, val_main_v14, val_main_cst_2]
  simp only [mean_apply A0 A1 A2 a w h b ha hw hh, root_apply A0 A1 A2 a w h b ha hw hh]

include ha hw hh in
/-- The normalised output. -/
theorem norm_apply (r : Fin 128) (l : Fin 1024) :
    k0_pay8 (F := Ideal) a w h (ix2 r l) = val_main_v18 (F := Ideal) A0 A1 A2 (ix2 (row b r) l) := by
  unfold k0_pay8
  pointwise [val_main_v18, val_main_v17]
  simp only [out_apply A0 A1 A2 a w h b ha hw hh, root_apply A0 A1 A2 a w h b ha hw hh]

include ha hw hh ht hg in
/-- The error. -/
theorem err_apply (r : Fin 128) (l : Fin 1024) :
    k0_pay9 (F := Ideal) a w h g tg (ix2 r l) = val_main_v22 (F := Ideal) A0 A1 A2 A3 A4 (ix2 (row b r) l) := by
  unfold k0_pay9
  pointwise [val_main_v22, val_main_v21, val_main_v20, val_main_v19, val_main_v5]
  simp only [norm_apply A0 A1 A2 a w h b ha hw hh, ht, hg]

include ha hw hh ht hg hp in
/-- The error's gradient. -/
theorem errGrad_apply (r : Fin 128) (l : Fin 1024) :
    k0_pay12 (F := Ideal) p (k0_pay9 a w h g tg) (ix2 r l) = val_main_v36 (F := Ideal) A0 A1 A2 A3 A4 (ix2 (row b r) l) := by
  unfold k0_pay12
  pointwise [val_main_v36, val_main_v35, val_main_v34, val_main_v33, val_main_v32, val_main_v31, val_main_v30, val_main_v29,
    val_main_cst_9, val_main_cst_8, val_main_cst_7]
  simp only [err_apply A0 A1 A2 A3 A4 a w h tg g b ha hw hh ht hg, Fin.sum_univ_one, hp]
  rfl

include ha hw hh ht hg hp in
/-- The output's gradient. -/
theorem grad_apply (r : Fin 128) (l : Fin 1024) :
    gradRows p a w h tg g (ix2 r l) = val_main_v56 (F := Ideal) A0 A1 A2 A3 A4 (ix2 (row b r) l) := by
  unfold gradRows k0_pay13
  pointwise [val_main_v56, val_main_v55, val_main_v54, val_main_v53, val_main_v52, val_main_v51, val_main_v50, val_main_v49,
    val_main_v48, val_main_v47, val_main_v46, val_main_v45, val_main_v44, val_main_v43, val_main_v41, val_main_v40,
    val_main_v19, val_main_v5, val_main_cst_12, val_main_cst_13, val_main_cst_14]
  simp only [out_apply A0 A1 A2 a w h b ha hw hh, root_apply A0 A1 A2 a w h b ha hw hh,
    factor_apply A0 A1 A2 a w h b ha hw hh, errGrad_apply A0 A1 A2 A3 A4 a w h tg g p b ha hw hh ht hg hp, hg, Fin.sum_univ_one]

include ha hw hh ht hg hp in
/-- What the block adds to the scale's gradient. -/
theorem scale_apply (v : Vec Ideal S1x1024 .f32) (l : Fin 1024) :
    gradScale v p a w h tg g (ix2 0 l)
      = v (ix2 0 l) + ∑ r : Fin 128, val_main_v37 (F := Ideal) A0 A1 A2 A3 A4 (ix2 (row b r) l) := by
  unfold gradScale k0_pay15
  pointwise [val_main_v37]
  simp only [norm_apply A0 A1 A2 a w h b ha hw hh, errGrad_apply A0 A1 A2 A3 A4 a w h tg g p b ha hw hh ht hg hp]

include ha hw hh ht hg in
/-- The sum of the block's mean squares. -/
theorem loss_apply (w' : BitVec 32) (hp : ∀ r, real w' (ix2 r 0) = 1#1) :
    lossRows w' a w h tg g = ∑ r : Fin 128, val_main_v26 (F := Ideal) A0 A1 A2 A3 A4 (ix1 (row b r)) := by
  have hp' : ∀ r, k0_pay16 w' (ix2 r 0) = 1#1 := hp
  have e : ∀ r l, k0_pay22 (F := Ideal) a w h g tg (ix2 r l) = _ := err_apply A0 A1 A2 A3 A4 a w h tg g b ha hw hh ht hg
  unfold lossRows k0_pay23
  pointwise [val_main_v26, val_main_v25, val_main_v24, val_main_v23, val_main_cst_3, val_main_cst_4]
  simp only [e, hp', Fin.sum_univ_one]
  rfl

end Real

/-! The front block. -/

/-- The number of columns, as the body divides by it, is not zero. -/
theorem count_ne_zero : Ideal.ofBits .f32 0x44800000#32 ≠ 0 := by
  have e : Ideal.ofBits .f32 0x44800000#32 = ((1024 : ℝ) : EReal) := by
    simp [Ideal.ofBits, Ideal.ieee, -EReal.coe_mul]; norm_num
  rw [e]
  exact_mod_cast (by norm_num : (1024 : ℝ) ≠ 0)

section Front

variable (a : Vec Ideal S128x2816 .bf16) (w : Vec Ideal S2816x1024 .bf16) (h tg : Vec Ideal S128x1024 .f32)
  (g : Vec Ideal S1x1024 .f32) (p : IVec S128x1 1) (hp : ∀ r, p (ix2 r 0) = 0#1)

include hp in
/-- No error's gradient. -/
theorem errGrad_front (e : Vec Ideal S128x1024 .f32) (r : Fin 128) (l : Fin 1024) : k0_pay12 (F := Ideal) p e (ix2 r l) = 0 := by
  unfold k0_pay12
  pointwise
  simp only [Fin.sum_univ_one, hp]
  show _ * Ideal.div 0 _ + Ideal.div 0 _ * _ = (0 : EReal)
  rw [Ideal.zero_div count_ne_zero, mul_zero, zero_mul, add_zero]

include hp in
/-- No output's gradient. -/
theorem grad_front (r : Fin 128) (l : Fin 1024) : gradRows p a w h tg g (ix2 r l) = 0 := by
  unfold gradRows k0_pay13
  pointwise
  simp only [errGrad_front p hp, zero_mul, mul_zero, Finset.sum_const_zero, Ideal.zero_div count_ne_zero, add_zero]

include hp in
/-- Nothing added to the scale's gradient. -/
theorem scale_front (v : Vec Ideal S1x1024 .f32) (l : Fin 1024) : gradScale v p a w h tg g (ix2 0 l) = v (ix2 0 l) := by
  unfold gradScale k0_pay15
  pointwise
  simp only [errGrad_front p hp, mul_zero, Finset.sum_const_zero, add_zero]

/-- No loss. -/
theorem loss_front (w' : BitVec 32) (hp : ∀ r, real w' (ix2 r 0) = 0#1) : lossRows w' a w h tg g = 0 := by
  have hp' : ∀ r, k0_pay16 w' (ix2 r 0) = 0#1 := hp
  unfold lossRows k0_pay23
  pointwise
  simp only [hp', Fin.sum_univ_one]
  exact Finset.sum_const_zero

end Front

/-! Which blocks have targets. -/

/-- The front block's rows have none. -/
theorem real_front (t : Fin cfg0.N) (h : t.val = 0) (r : Fin 128) : real (first t 0#32) (ix2 r 0) = 0#1 := by
  revert t r; decide +kernel

/-- The first block of a later point has. -/
theorem real_later (t : Fin cfg0.N) (h : t.val ≠ 0) (r : Fin 128) : real (first t 0#32) (ix2 r 0) = 1#1 := by
  revert t r; decide +kernel

/-- Every point's second block has. -/
theorem real_second (t : Fin cfg0.N) (r : Fin 128) : real (first t 128#32) (ix2 r 0) = 1#1 := by
  revert t r; decide +kernel

/-- Every point's third block has. -/
theorem real_third (t : Fin cfg0.N) (r : Fin 128) : real (first t 256#32) (ix2 r 0) = 1#1 := by
  revert t r; decide +kernel

end Cert.LossBlock

end
-- ==== Proof.LossArray.lean ====
/- The three arrays the loss head leaves: each is the reference's value. The output's gradient is written a block of rows
   a point; the loss and the scale's gradient are added up over the points and written back once. -/
module

public import proofs.«01_k».proof.Proof.LossBlock
public import proofs.«01_k».proof.Proof.Index
public import Idealize.ShloMosaic.Lib.KernelVsHost
public import Idealize.ShloMosaic.Lib.StableHlo.ReadAt
public import Idealize.ShloMosaic.Lib.Pipeline.ValueKit.Acc

@[expose] public section

set_option maxRecDepth 16384

noncomputable section

namespace Cert.LossArray

open Idealize.ShloMosaic Idealize.ShloMosaic.TcCoe Idealize.SL.Sem
open Cert.LossRefIdeal.Read
open Cert.LossIdeal Cert.LossIdeal.Gen Cert.LossBody Cert.LossBlock Cert.Index

/-! Some of a block's rows. -/

theorem wide0_apply (x : Vec Ideal S384x2816 .bf16) (r : Fin 128) (k : Fin 2816) :
    wide0 x (ix2 r k) = x (ix2 (⟨r.val, by omega⟩ : Fin 384) k) := by
  pointwise [wide0]
theorem wide1_apply (x : Vec Ideal S384x2816 .bf16) (r : Fin 128) (k : Fin 2816) :
    wide1 x (ix2 r k) = x (ix2 (⟨128 + r.val, by omega⟩ : Fin 384) k) := by
  pointwise [wide1]
theorem wide2_apply (x : Vec Ideal S384x2816 .bf16) (r : Fin 128) (k : Fin 2816) :
    wide2 x (ix2 r k) = x (ix2 (⟨256 + r.val, by omega⟩ : Fin 384) k) := by
  pointwise [wide2]
theorem rows0_apply (x : Vec Ideal S384x1024 .f32) (r : Fin 128) (k : Fin 1024) :
    rows0 x (ix2 r k) = x (ix2 (⟨r.val, by omega⟩ : Fin 384) k) := by
  pointwise [rows0]
theorem rows1_apply (x : Vec Ideal S384x1024 .f32) (r : Fin 128) (k : Fin 1024) :
    rows1 x (ix2 r k) = x (ix2 (⟨128 + r.val, by omega⟩ : Fin 384) k) := by
  pointwise [rows1]
theorem rows2_apply (x : Vec Ideal S384x1024 .f32) (r : Fin 128) (k : Fin 1024) :
    rows2 x (ix2 r k) = x (ix2 (⟨256 + r.val, by omega⟩ : Fin 384) k) := by
  pointwise [rows2]

/-- Three blocks under one another agree with a function of the rows when each does. -/
theorem thirds_apply (x2 x1 x0 : Vec Ideal S128x1024 .f32) (G : S384x1024.Idx → EReal)
    (h2 : ∀ r l, x2 (ix2 r l) = G (ix2 (⟨256 + r.val, by omega⟩ : Fin 384) l))
    (h1 : ∀ r l, x1 (ix2 r l) = G (ix2 (⟨128 + r.val, by omega⟩ : Fin 384) l))
    (h0 : ∀ r l, x0 (ix2 r l) = G (ix2 (⟨r.val, by omega⟩ : Fin 384) l))
    (y : S384x1024.Idx) : thirds x2 x1 x0 y = G y := by
  have e2 : ∀ x : S128x1024.Idx, (Rect.unit (s := S384x1024) ![256, 0] S128x1024.size inb_S384x1024_S128x1024_256_0).emb x
      = (ix2 (⟨256 + (x 0).val, Nat.add_lt_add_left (x 0).isLt 256⟩ : Fin 384) (x 1) : S384x1024.Idx) := fun x => by
    funext a; apply Fin.ext; fin_cases a
    · exact congrArg (256 + ·) (Nat.one_mul _)
    · exact (Nat.zero_add _).trans (Nat.one_mul _)
  have e1 : ∀ x : S128x1024.Idx, (Rect.unit (s := S384x1024) ![128, 0] S128x1024.size inb_S384x1024_S128x1024_128_0).emb x
      = (ix2 (⟨128 + (x 0).val, Nat.lt_trans (Nat.add_lt_add_left (x 0).isLt 128) (by decide)⟩ : Fin 384) (x 1) : S384x1024.Idx) := fun x => by
    funext a; apply Fin.ext; fin_cases a
    · exact congrArg (128 + ·) (Nat.one_mul _)
    · exact (Nat.zero_add _).trans (Nat.one_mul _)
  have e0 : ∀ x : S128x1024.Idx, (Rect.unit (s := S384x1024) ![0, 0] S128x1024.size inb_S384x1024_S128x1024_0_0).emb x
      = (ix2 (⟨(x 0).val, Nat.lt_trans (x 0).isLt (by decide)⟩ : Fin 384) (x 1) : S384x1024.Idx) := fun x => by
    funext a; apply Fin.ext; fin_cases a
    · exact (Nat.zero_add _).trans (Nat.one_mul _)
    · exact (Nat.zero_add _).trans (Nat.one_mul _)
  refine View.canon_apply_of_pieces (Val := Elt Ideal) (e := .f32) G _ (fun p hp x => ?_) y ?_
  · rcases List.mem_cons.mp hp with rfl | hp
    · exact (congrArg x2 (eq_ix2 x)).trans ((h2 _ _).trans (congrArg G (e2 x)).symm)
    · rcases List.mem_cons.mp hp with rfl | hp
      · exact (congrArg x1 (eq_ix2 x)).trans ((h1 _ _).trans (congrArg G (e1 x)).symm)
      · obtain rfl := List.mem_singleton.mp hp
        exact (congrArg x0 (eq_ix2 x)).trans ((h0 _ _).trans (congrArg G (e0 x)).symm)
  · have h' : (y 0).val < 384 := (y 0).isLt
    by_cases h : (y 0).val < 128
    · refine ⟨_, List.mem_cons_of_mem _ (List.mem_cons_of_mem _ (List.mem_singleton.mpr rfl)), ?_⟩
      rw [eq_ix2 y]
      exact e0 (ix2 ⟨(y 0).val, h⟩ (y 1)) ▸ LoadRect.idx_mem _ _
    · by_cases h3 : (y 0).val < 256
      · refine ⟨_, List.mem_cons_of_mem _ List.mem_cons_self, ?_⟩
        rw [eq_ix2 y, show (ix2 (y 0) (y 1) : S384x1024.Idx) = ix2 (⟨128 + ((y 0).val - 128), by omega⟩ : Fin 384) (y 1) from
          congrArg (ix2 · (y 1)) (Fin.ext (by show (y 0).val = 128 + ((y 0).val - 128); omega))]
        exact e1 (ix2 ⟨(y 0).val - 128, by omega⟩ (y 1)) ▸ LoadRect.idx_mem _ _
      · refine ⟨_, List.mem_cons_self, ?_⟩
        rw [eq_ix2 y, show (ix2 (y 0) (y 1) : S384x1024.Idx) = ix2 (⟨256 + ((y 0).val - 256), by omega⟩ : Fin 384) (y 1) from
          congrArg (ix2 · (y 1)) (Fin.ext (by show (y 0).val = 256 + ((y 0).val - 256); omega))]
        exact e2 (ix2 ⟨(y 0).val - 256, by omega⟩ (y 1)) ▸ LoadRect.idx_mem _ _

variable (m : (ℓ : Loc nD τ sig) → Buf (Elt Ideal) ℓ) (c : Dev nD)

/-- The kernel's argument arrays as functions of an index. -/
abbrev A0 : S4224x2816.Idx → EReal := m ((c : Thread nD τ).loc main_arg0)
abbrev A1 : S2816x1024.Idx → EReal := m ((c : Thread nD τ).loc main_arg1)
abbrev A2 : S4224x1024.Idx → EReal := m ((c : Thread nD τ).loc main_arg2)
abbrev A3 : S4096x1024.Idx → EReal := m ((c : Thread nD τ).loc main_arg3)
abbrev A4 : S1x1024.Idx → EReal := m ((c : Thread nD τ).loc main_arg4)

/-- Row `r` of point `t`'s rows. -/
abbrev at384 (t : Fin cfg0.N) (r : Fin 384) : Fin 4224 :=
  ⟨384 * t.val + r.val, by have h : t.val < 11 := t.isLt; omega⟩

/-! The target's block that each of a point's three blocks of rows is compared with. -/

abbrev blk0 (t : Fin cfg0.N) : Fin 32 := ⟨3 * t.val - 1, by have h : t.val < 11 := t.isLt; omega⟩
abbrev blk1 (t : Fin cfg0.N) : Fin 32 := ⟨3 * t.val, by have h : t.val < 11 := t.isLt; omega⟩
abbrev blk2 (t : Fin cfg0.N) : Fin 32 := ⟨3 * t.val + 1, by have h : t.val < 11 := t.isLt; omega⟩

/-! Where a block's element lies in its array. -/

theorem index_rows : ∀ t : Fin grid0.N,
    (win0_0.index t 0 = t.val ∧ win0_0.index t 1 = 0)
    ∧ (win0_2.index t 0 = t.val ∧ win0_2.index t 1 = 0)
    ∧ (win0_8.index t 0 = t.val ∧ win0_8.index t 1 = 0) := by decide +kernel

theorem index_target : ∀ t : Fin grid0.N,
    (win0_3.index t 0 = 3 * t.val - 1 ∧ win0_3.index t 1 = 0)
    ∧ (win0_4.index t 0 = 3 * t.val ∧ win0_4.index t 1 = 0)
    ∧ (win0_5.index t 0 = 3 * t.val + 1 ∧ win0_5.index t 1 = 0) := by decide +kernel

theorem index_whole : ∀ t : Fin grid0.N,
    (win0_1.index t 0 = 0 ∧ win0_1.index t 1 = 0)
    ∧ (win0_6.index t 0 = 0 ∧ win0_6.index t 1 = 0)
    ∧ (win0_7.index t 0 = 0 ∧ win0_7.index t 1 = 0)
    ∧ (win0_9.index t 0 = 0 ∧ win0_9.index t 1 = 0) := by decide +kernel

theorem emb0 (t : Fin cfg0.N) (r : Fin 384) (k : Fin 2816) :
    ((cfg0.win 0).blk t).view.emb (ix2 r k) = ix2 (at384 t r) k :=
  ix2_of ((win0_0.rect_emb_val t (ix2 r k) 0).trans (at_row (index_rows t).1.1))
    ((win0_0.rect_emb_val t (ix2 r k) 1).trans (at_all (index_rows t).1.2))

theorem emb2 (t : Fin cfg0.N) (r : Fin 384) (k : Fin 1024) :
    ((cfg0.win 2).blk t).view.emb (ix2 r k) = ix2 (at384 t r) k :=
  ix2_of ((win0_2.rect_emb_val t (ix2 r k) 0).trans (at_row (index_rows t).2.1.1))
    ((win0_2.rect_emb_val t (ix2 r k) 1).trans (at_all (index_rows t).2.1.2))

theorem emb8 (t : Fin cfg0.N) (r : Fin 384) (k : Fin 1024) :
    ((cfg0.win 8).blk t).view.emb (ix2 r k) = ix2 (at384 t r) k :=
  ix2_of ((win0_8.rect_emb_val t (ix2 r k) 0).trans (at_row (index_rows t).2.2.1))
    ((win0_8.rect_emb_val t (ix2 r k) 1).trans (at_all (index_rows t).2.2.2))

theorem emb3 (t : Fin cfg0.N) (r : Fin 128) (k : Fin 1024) :
    ((cfg0.win 3).blk t).view.emb (ix2 r k) = ix2 (row (blk0 t) r) k :=
  ix2_of ((win0_3.rect_emb_val t (ix2 r k) 0).trans (at_row (index_target t).1.1))
    ((win0_3.rect_emb_val t (ix2 r k) 1).trans (at_all (index_target t).1.2))

theorem emb4 (t : Fin cfg0.N) (r : Fin 128) (k : Fin 1024) :
    ((cfg0.win 4).blk t).view.emb (ix2 r k) = ix2 (row (blk1 t) r) k :=
  ix2_of ((win0_4.rect_emb_val t (ix2 r k) 0).trans (at_row (index_target t).2.1.1))
    ((win0_4.rect_emb_val t (ix2 r k) 1).trans (at_all (index_target t).2.1.2))

theorem emb5 (t : Fin cfg0.N) (r : Fin 128) (k : Fin 1024) :
    ((cfg0.win 5).blk t).view.emb (ix2 r k) = ix2 (row (blk2 t) r) k :=
  ix2_of ((win0_5.rect_emb_val t (ix2 r k) 0).trans (at_row (index_target t).2.2.1))
    ((win0_5.rect_emb_val t (ix2 r k) 1).trans (at_all (index_target t).2.2.2))

theorem emb1 (t : Fin cfg0.N) (r : Fin 2816) (k : Fin 1024) :
    ((cfg0.win 1).blk t).view.emb (ix2 r k) = ix2 r k :=
  ix2_of ((win0_1.rect_emb_val t (ix2 r k) 0).trans (at_all (index_whole t).1.1))
    ((win0_1.rect_emb_val t (ix2 r k) 1).trans (at_all (index_whole t).1.2))

theorem emb6 (t : Fin cfg0.N) (r : Fin 1) (k : Fin 1024) :
    ((cfg0.win 6).blk t).view.emb (ix2 r k) = ix2 r k :=
  ix2_of ((win0_6.rect_emb_val t (ix2 r k) 0).trans (at_all (index_whole t).2.1.1))
    ((win0_6.rect_emb_val t (ix2 r k) 1).trans (at_all (index_whole t).2.1.2))

theorem emb7 (t : Fin cfg0.N) (r : Fin 8) (k : Fin 128) :
    ((cfg0.win 7).blk t).view.emb (ix2 r k) = ix2 r k :=
  ix2_of ((win0_7.rect_emb_val t (ix2 r k) 0).trans (at_all (index_whole t).2.2.1.1))
    ((win0_7.rect_emb_val t (ix2 r k) 1).trans (at_all (index_whole t).2.2.1.2))

theorem emb9 (t : Fin cfg0.N) (r : Fin 1) (k : Fin 1024) :
    ((cfg0.win 9).blk t).view.emb (ix2 r k) = ix2 r k :=
  ix2_of ((win0_9.rect_emb_val t (ix2 r k) 0).trans (at_all (index_whole t).2.2.2.1))
    ((win0_9.rect_emb_val t (ix2 r k) 1).trans (at_all (index_whole t).2.2.2.2))

/-! What each input window's block holds at a point. -/

theorem read0 (t : Fin cfg0.N) (r : Fin 384) (k : Fin 2816) :
    iblk m c 0 t (ix2 r k) = A0 m c (ix2 (at384 t r) k) := by
  unfold iblk
  rw [View.read_apply, emb0]
  exact congrFun (V_main_arg0 m c) _

theorem read1 (t : Fin cfg0.N) (r : Fin 2816) (k : Fin 1024) :
    iblk m c 1 t (ix2 r k) = A1 m c (ix2 r k) := by
  unfold iblk
  rw [View.read_apply, emb1]
  exact congrFun (V_main_arg1 m c) _

theorem read2 (t : Fin cfg0.N) (r : Fin 384) (k : Fin 1024) :
    iblk m c 2 t (ix2 r k) = A2 m c (ix2 (at384 t r) k) := by
  unfold iblk
  rw [View.read_apply, emb2]
  exact congrFun (V_main_arg2 m c) _

theorem read3 (t : Fin cfg0.N) (r : Fin 128) (k : Fin 1024) :
    iblk m c 3 t (ix2 r k) = A3 m c (ix2 (row (blk0 t) r) k) := by
  unfold iblk
  rw [View.read_apply, emb3]
  exact congrFun (V_main_arg3 m c) _

theorem read4 (t : Fin cfg0.N) (r : Fin 128) (k : Fin 1024) :
    iblk m c 4 t (ix2 r k) = A3 m c (ix2 (row (blk1 t) r) k) := by
  unfold iblk
  rw [View.read_apply, emb4]
  exact congrFun (V_main_arg3 m c) _

theorem read5 (t : Fin cfg0.N) (r : Fin 128) (k : Fin 1024) :
    iblk m c 5 t (ix2 r k) = A3 m c (ix2 (row (blk2 t) r) k) := by
  unfold iblk
  rw [View.read_apply, emb5]
  exact congrFun (V_main_arg3 m c) _

theorem read6 (t : Fin cfg0.N) (r : Fin 1) (k : Fin 1024) :
    iblk m c 6 t (ix2 r k) = A4 m c (ix2 r k) := by
  unfold iblk
  rw [View.read_apply, emb6]
  exact congrFun (V_main_arg4 m c) _

/-! A point's blocks of rows are the rows under their target's. -/

theorem at_under0 (t : Fin cfg0.N) (h : t.val ≠ 0) (r : Fin 128) :
    at384 t ⟨r.val, by omega⟩ = under (row (blk0 t) r) :=
  Fin.ext (by show 384 * t.val + (r.val) = 128 + (128 * (3 * t.val - 1) + r.val); omega)

theorem point_wide0 (t : Fin cfg0.N) (h : t.val ≠ 0) (r : Fin 128) (k : Fin 2816) :
    wide0 (iblk m c 0 t) (ix2 r k) = A0 m c (ix2 (under (row (blk0 t) r)) k) :=
  (wide0_apply _ r k).trans ((read0 m c t _ k).trans (congrArg (fun q => A0 m c (ix2 q k)) (at_under0 t h r)))

theorem point_rows0 (t : Fin cfg0.N) (h : t.val ≠ 0) (r : Fin 128) (k : Fin 1024) :
    rows0 (iblk m c 2 t) (ix2 r k) = A2 m c (ix2 (under (row (blk0 t) r)) k) :=
  (rows0_apply _ r k).trans ((read2 m c t _ k).trans (congrArg (fun q => A2 m c (ix2 q k)) (at_under0 t h r)))

theorem at_under1 (t : Fin cfg0.N) (r : Fin 128) :
    at384 t ⟨128 + r.val, by omega⟩ = under (row (blk1 t) r) :=
  Fin.ext (by show 384 * t.val + (128 + r.val) = 128 + (128 * (3 * t.val) + r.val); omega)

theorem point_wide1 (t : Fin cfg0.N) (r : Fin 128) (k : Fin 2816) :
    wide1 (iblk m c 0 t) (ix2 r k) = A0 m c (ix2 (under (row (blk1 t) r)) k) :=
  (wide1_apply _ r k).trans ((read0 m c t _ k).trans (congrArg (fun q => A0 m c (ix2 q k)) (at_under1 t r)))

theorem point_rows1 (t : Fin cfg0.N) (r : Fin 128) (k : Fin 1024) :
    rows1 (iblk m c 2 t) (ix2 r k) = A2 m c (ix2 (under (row (blk1 t) r)) k) :=
  (rows1_apply _ r k).trans ((read2 m c t _ k).trans (congrArg (fun q => A2 m c (ix2 q k)) (at_under1 t r)))

theorem at_under2 (t : Fin cfg0.N) (r : Fin 128) :
    at384 t ⟨256 + r.val, by omega⟩ = under (row (blk2 t) r) :=
  Fin.ext (by show 384 * t.val + (256 + r.val) = 128 + (128 * (3 * t.val + 1) + r.val); omega)

theorem point_wide2 (t : Fin cfg0.N) (r : Fin 128) (k : Fin 2816) :
    wide2 (iblk m c 0 t) (ix2 r k) = A0 m c (ix2 (under (row (blk2 t) r)) k) :=
  (wide2_apply _ r k).trans ((read0 m c t _ k).trans (congrArg (fun q => A0 m c (ix2 q k)) (at_under2 t r)))

theorem point_rows2 (t : Fin cfg0.N) (r : Fin 128) (k : Fin 1024) :
    rows2 (iblk m c 2 t) (ix2 r k) = A2 m c (ix2 (under (row (blk2 t) r)) k) :=
  (rows2_apply _ r k).trans ((read2 m c t _ k).trans (congrArg (fun q => A2 m c (ix2 q k)) (at_under2 t r)))

/-! The reference's gradient, padded above by the front block. -/

theorem pad_under (q : Fin 4096) (l : Fin 1024) : val_main_v58 (F := Ideal) (A0 m c) (A1 m c) (A2 m c) (A3 m c) (A4 m c) (ix2 (under q) l)
    = val_main_v56 (F := Ideal) (A0 m c) (A1 m c) (A2 m c) (A3 m c) (A4 m c) (ix2 q l) := by
  unfold val_main_v58
  exact pad_apply_of_inside _ _ _ _ _ _ _ _ _ (fun a => match a with
    | ⟨0, _⟩ => by show 128 + q.val = 128 + q.val * (0 + 1); omega
    | ⟨1, _⟩ => by show l.val = 0 + l.val * (0 + 1); omega)

theorem pad_front (q : Fin 4224) (h : q.val < 128) (l : Fin 1024) : val_main_v58 (F := Ideal) (A0 m c) (A1 m c) (A2 m c) (A3 m c) (A4 m c) (ix2 q l) = 0 := by
  unfold val_main_v58
  refine (pad_apply_of_not_inside _ _ _ _ _ _ _ _ ⟨0, by decide⟩ (fun hin => ?_)).trans Ideal.ofBits_zero_f32
  exact absurd (show 128 ≤ q.val from hin.1) (by omega)

/-! Each of a point's three blocks of the gradient. -/

theorem grad0 (t : Fin cfg0.N) (r : Fin 128) (l : Fin 1024) :
    gradRows (real (first t 0#32)) (wide0 (iblk m c 0 t)) (iblk m c 1 t) (rows0 (iblk m c 2 t)) (iblk m c 3 t) (iblk m c 6 t) (ix2 r l)
      = val_main_v58 (F := Ideal) (A0 m c) (A1 m c) (A2 m c) (A3 m c) (A4 m c) (ix2 (at384 t ⟨r.val, by omega⟩) l) := by
  by_cases h : t.val = 0
  · rw [pad_front m c _ (by show 384 * t.val + r.val < 128; omega)]
    exact grad_front _ _ _ _ _ _ (real_front t h) r l
  · rw [at_under0 t h r, pad_under]
    exact grad_apply _ _ _ _ _ _ _ _ _ _ _ (blk0 t) (point_wide0 m c t h) (read1 m c t) (point_rows0 m c t h) (read3 m c t) (read6 m c t 0) (real_later t h) r l

theorem grad1 (t : Fin cfg0.N) (r : Fin 128) (l : Fin 1024) :
    gradRows (real (first t 128#32)) (wide1 (iblk m c 0 t)) (iblk m c 1 t) (rows1 (iblk m c 2 t)) (iblk m c 4 t) (iblk m c 6 t) (ix2 r l)
      = val_main_v58 (F := Ideal) (A0 m c) (A1 m c) (A2 m c) (A3 m c) (A4 m c) (ix2 (at384 t ⟨128 + r.val, by omega⟩) l) := by
  rw [at_under1 t r, pad_under]
  exact grad_apply _ _ _ _ _ _ _ _ _ _ _ (blk1 t) (point_wide1 m c t) (read1 m c t) (point_rows1 m c t) (read4 m c t) (read6 m c t 0) (real_second t) r l

theorem grad2 (t : Fin cfg0.N) (r : Fin 128) (l : Fin 1024) :
    gradRows (real (first t 256#32)) (wide2 (iblk m c 0 t)) (iblk m c 1 t) (rows2 (iblk m c 2 t)) (iblk m c 5 t) (iblk m c 6 t) (ix2 r l)
      = val_main_v58 (F := Ideal) (A0 m c) (A1 m c) (A2 m c) (A3 m c) (A4 m c) (ix2 (at384 t ⟨256 + r.val, by omega⟩) l) := by
  rw [at_under2 t r, pad_under]
  exact grad_apply _ _ _ _ _ _ _ _ _ _ _ (blk2 t) (point_wide2 m c t) (read1 m c t) (point_rows2 m c t) (read5 m c t) (read6 m c t 0) (real_third t) r l

/-- Every row is row `r` of some point `t`. -/
theorem row_split (i : Fin 4224) : ∃ (t : Fin 11) (r : Fin 384), i = at384 t r :=
  ⟨⟨i.val / 384, by omega⟩, ⟨i.val % 384, by omega⟩, Fin.ext (by show i.val = 384 * (i.val / 384) + i.val % 384; omega)⟩

/-- The output's gradient is the reference's. -/
theorem final8 : (dats m 0 c).arrAt 8 cfg0.N = val_main_v58 (F := Ideal) (A0 m c) (A1 m c) (A2 m c) (A3 m c) (A4 m c) := by
  refine (dats m 0 c).arrAt_eq_of_cover 8 _ (fun t _ => ?_) (fun i => ?_)
  · rw [Cert.LossIdeal.Value.flushed8, outs8]
    funext y
    obtain ⟨r, k, rfl⟩ : ∃ (r : Fin 384) (k : Fin 1024), y = ix2 r k := ⟨y 0, y 1, eq_ix2 y⟩
    rw [View.read_apply, emb8]
    exact thirds_apply _ _ _ (fun y => val_main_v58 (F := Ideal) (A0 m c) (A1 m c) (A2 m c) (A3 m c) (A4 m c) (ix2 (at384 t (y 0)) (y 1)))
      (grad2 m c t) (grad1 m c t) (grad0 m c t) (ix2 r k)
  · obtain ⟨t, r, h⟩ := row_split (i 0)
    rw [(eq_ix2 i).trans ((congrArg (ix2 · (i 1)) h).trans (emb8 t r (i 1)).symm)]
    exact ⟨t, flush0_8 t, View.emb_mem_set _ _⟩

/-! Sums over the 33 blocks of rows, the first of which adds nothing. -/

/-- What each of the 33 blocks adds, when block `b` of the target adds `f b`. -/
def tot (f : Fin 32 → EReal) : Fin 33 → EReal := Fin.cases 0 f

theorem tot_front (f : Fin 32 → EReal) (n : Fin 33) (h : n.val = 0) : tot f n = 0 :=
  (congrArg (tot f) (Fin.ext h : n = 0)).trans rfl

theorem tot_later (f : Fin 32 → EReal) (n : Fin 33) (b : Fin 32) (h : n.val = b.val + 1) : tot f n = f b :=
  (congrArg (tot f) (Fin.ext h : n = b.succ)).trans rfl

/-- A point's three blocks. -/
abbrev tri (p : Fin 11) (j : Fin 3) : Fin 33 := ⟨3 * p.val + j.val, by omega⟩

/-- Over all points the blocks' sum is the target's. -/
theorem tot_sum (f : Fin 32 → EReal) : ∑ p : Fin 11, ((tot f (tri p 0) + tot f (tri p 1)) + tot f (tri p 2)) = ∑ b : Fin 32, f b := by
  have e : ∑ n : Fin 33, tot f n = ∑ b : Fin 32, f b := (Fin.sum_univ_succ (tot f)).trans (zero_add _)
  rw [← e, Fin.sum_univ_tiles 11 3 rfl (tot f)]
  have e (p : Fin 11) (j : Fin 3) (h : p.val * 3 + j.val < 33) : tot f ⟨p.val * 3 + j.val, h⟩ = tot f (tri p j) :=
    congrArg (tot f) (Fin.ext (congrArg (· + j.val) (Nat.mul_comm _ _)))
  exact Finset.sum_congr rfl fun p _ => ((Fin.sum_univ_three _).trans
    (congrArg₂ (· + ·) (congrArg₂ (· + ·) (e p 0 _) (e p 1 _)) (e p 2 _))).symm

/-- What block `b` of the target adds to the scale's gradient in column `l`. -/
abbrev scaleOf (l : Fin 1024) (b : Fin 32) : EReal := ∑ r : Fin 128, val_main_v37 (F := Ideal) (A0 m c) (A1 m c) (A2 m c) (A3 m c) (A4 m c) (ix2 (row b r) l)
/-- The sum of the mean squares of block `b` of the target. -/
abbrev lossOf (b : Fin 32) : EReal := ∑ r : Fin 128, val_main_v26 (F := Ideal) (A0 m c) (A1 m c) (A2 m c) (A3 m c) (A4 m c) (ix1 (row b r))

theorem scale0 (t : Fin cfg0.N) (v : Vec Ideal S1x1024 .f32) (l : Fin 1024) :
    gradScale v (real (first t 0#32)) (wide0 (iblk m c 0 t)) (iblk m c 1 t) (rows0 (iblk m c 2 t)) (iblk m c 3 t) (iblk m c 6 t) (ix2 0 l)
      = v (ix2 0 l) + tot (scaleOf m c l) (tri t 0) := by
  by_cases h : t.val = 0
  · rw [tot_front _ _ (by show 3 * t.val + 0 = 0; omega), add_zero]
    exact scale_front _ _ _ _ _ _ (real_front t h) v l
  · rw [tot_later _ _ (blk0 t) (by show 3 * t.val + 0 = 3 * t.val - 1 + 1; omega)]
    exact scale_apply _ _ _ _ _ _ _ _ _ _ _ (blk0 t) (point_wide0 m c t h) (read1 m c t) (point_rows0 m c t h) (read3 m c t) (read6 m c t 0) (real_later t h) v l

theorem loss0 (t : Fin cfg0.N) :
    lossRows (first t 0#32) (wide0 (iblk m c 0 t)) (iblk m c 1 t) (rows0 (iblk m c 2 t)) (iblk m c 3 t) (iblk m c 6 t) = tot (lossOf m c) (tri t 0) := by
  by_cases h : t.val = 0
  · rw [tot_front _ _ (by show 3 * t.val + 0 = 0; omega)]
    exact loss_front _ _ _ _ _ _ (real_front t h)
  · rw [tot_later _ _ (blk0 t) (by show 3 * t.val + 0 = 3 * t.val - 1 + 1; omega)]
    exact loss_apply _ _ _ _ _ _ _ _ _ _ (blk0 t) (point_wide0 m c t h) (read1 m c t) (point_rows0 m c t h) (read3 m c t) (read6 m c t 0) _ (real_later t h)

theorem scale1 (t : Fin cfg0.N) (v : Vec Ideal S1x1024 .f32) (l : Fin 1024) :
    gradScale v (real (first t 128#32)) (wide1 (iblk m c 0 t)) (iblk m c 1 t) (rows1 (iblk m c 2 t)) (iblk m c 4 t) (iblk m c 6 t) (ix2 0 l)
      = v (ix2 0 l) + tot (scaleOf m c l) (tri t 1) := by
  rw [tot_later _ _ (blk1 t) rfl]
  exact scale_apply _ _ _ _ _ _ _ _ _ _ _ (blk1 t) (point_wide1 m c t) (read1 m c t) (point_rows1 m c t) (read4 m c t) (read6 m c t 0) (real_second t) v l

theorem loss1 (t : Fin cfg0.N) :
    lossRows (first t 128#32) (wide1 (iblk m c 0 t)) (iblk m c 1 t) (rows1 (iblk m c 2 t)) (iblk m c 4 t) (iblk m c 6 t) = tot (lossOf m c) (tri t 1) := by
  rw [tot_later _ _ (blk1 t) rfl]
  exact loss_apply _ _ _ _ _ _ _ _ _ _ (blk1 t) (point_wide1 m c t) (read1 m c t) (point_rows1 m c t) (read4 m c t) (read6 m c t 0) _ (real_second t)

theorem scale2 (t : Fin cfg0.N) (v : Vec Ideal S1x1024 .f32) (l : Fin 1024) :
    gradScale v (real (first t 256#32)) (wide2 (iblk m c 0 t)) (iblk m c 1 t) (rows2 (iblk m c 2 t)) (iblk m c 5 t) (iblk m c 6 t) (ix2 0 l)
      = v (ix2 0 l) + tot (scaleOf m c l) (tri t 2) := by
  rw [tot_later _ _ (blk2 t) rfl]
  exact scale_apply _ _ _ _ _ _ _ _ _ _ _ (blk2 t) (point_wide2 m c t) (read1 m c t) (point_rows2 m c t) (read5 m c t) (read6 m c t 0) (real_third t) v l

theorem loss2 (t : Fin cfg0.N) :
    lossRows (first t 256#32) (wide2 (iblk m c 0 t)) (iblk m c 1 t) (rows2 (iblk m c 2 t)) (iblk m c 5 t) (iblk m c 6 t) = tot (lossOf m c) (tri t 2) := by
  rw [tot_later _ _ (blk2 t) rfl]
  exact loss_apply _ _ _ _ _ _ _ _ _ _ (blk2 t) (point_wide2 m c t) (read1 m c t) (point_rows2 m c t) (read5 m c t) (read6 m c t 0) _ (real_third t)

/-! The scale's gradient. -/

theorem zero2 (l : Fin 1024) : k0_pay2 (F := Ideal) (ix2 0 l) = 0 := by
  pointwise [k0_pay2]

theorem zero41 (l : Fin 1024) : k0_pay43 (F := Ideal) (k0_pay41 (F := Ideal)) (ix2 0 l) = 0 := by
  pointwise [k0_pay43, k0_pay41]

theorem same43 (v : Vec Ideal S1x1024 .f32) (l : Fin 1024) : k0_pay43 (F := Ideal) v (ix2 0 l) = v (ix2 0 l) := by
  pointwise [k0_pay43]

theorem scaleAdd_apply (t : Fin cfg0.N) (l : Fin 1024) : scaleAdd m c t (ix2 0 l)
    = (tot (scaleOf m c l) (tri t 0) + tot (scaleOf m c l) (tri t 1)) + tot (scaleOf m c l) (tri t 2) := by
  unfold scaleAdd
  rw [scale2, scale1, scale0, zero2, zero_add]

theorem pay1_apply (u v : Vec Ideal S1x1024 .f32) (l : Fin 1024) :
    k0_pay1 (F := Ideal) u v (ix2 0 l) = v (ix2 0 l) + u (ix2 0 l) := by
  pointwise [k0_pay1]

/-- After the last point it is the sum over every block of rows. -/
theorem total_scale (t : Fin cfg0.N) (ht : t.val + 1 = cfg0.N) (l : Fin 1024) :
    (outsAt0 m c t.val t.isLt).2.2 (ix2 0 l) = ∑ b : Fin 32, scaleOf m c l b := by
  have h := Pipeline.eq_sum_fin_of_reset_step_apply_last (N := cfg0.N)
    (fun n hn (l : Fin 1024) => ((outsAt0 m c n hn).2.2 (ix2 0 l) : EReal)) 11 (fun _ => 0)
    (fun p l => (tot (scaleOf m c l) (tri p 0) + tot (scaleOf m c l) (tri p 1)) + tot (scaleOf m c l) (tri p 2))
    (fun p hp l => (congrFun (outs9_first m c p hp) _).trans
      ((pay1_apply _ _ l).trans (congrArg₂ (· + ·) (zero41 l) (scaleAdd_apply m c p l))))
    (fun p hp l => (congrFun (outs9_next m c p hp) _).trans
      ((pay1_apply _ _ l).trans (congrArg₂ (· + ·) (same43 _ l) (scaleAdd_apply m c p l))))
    (le_refl 11) t ht l
  exact h.trans ((zero_add _).trans (tot_sum _))

/-- The reference's is one sum over the rows. -/
theorem scale_ref (l : Fin 1024) : val_main_v57 (F := Ideal) (A0 m c) (A1 m c) (A2 m c) (A3 m c) (A4 m c) (ix2 0 l) = ∑ b : Fin 32, scaleOf m c l b := by
  pointwise [val_main_v57, val_main_v42, val_main_cst_11, val_main_v39, val_main_v38, val_main_cst_10]
  refine (Fin.sum_univ_one _).trans ((Fin.sum_univ_tiles 32 128 rfl _).trans ?_)
  exact Finset.sum_congr rfl fun p _ => Finset.sum_congr rfl fun r _ =>
    congrArg (fun q => val_main_v37 (F := Ideal) (A0 m c) (A1 m c) (A2 m c) (A3 m c) (A4 m c) (ix2 q l)) (Fin.ext (congrArg (· + r.val) (Nat.mul_comm _ _)))

/-- The scale's gradient is the reference's. -/
theorem final9 : (dats m 0 c).arrAt 9 cfg0.N = val_main_v57 (F := Ideal) (A0 m c) (A1 m c) (A2 m c) (A3 m c) (A4 m c) := by
  refine (dats m 0 c).arrAt_eq_of_cover 9 _ (fun t ht => ?_) (fun i => ?_)
  · rw [Cert.LossIdeal.Value.flushed9]
    funext y
    obtain ⟨k, rfl⟩ : ∃ (k : Fin 1024), y = ix2 (0 : Fin 1) k := ⟨y 1, (eq_ix2 y).trans (congrArg (ix2 · (y 1)) (Subsingleton.elim _ _))⟩
    rw [View.read_apply, emb9]
    have h := (flush0_9 t).mp ht
    have h' := t.isLt
    have h'' : cfg0.N = 11 := rfl
    exact (total_scale m c t (by omega) k).trans (scale_ref m c k).symm
  · refine ⟨⟨10, by decide⟩, (flush0_9 _).mpr (by decide), ?_⟩
    rw [(eq_ix2 i).trans (emb9 ⟨10, by decide⟩ (i 0) (i 1)).symm]
    exact View.emb_mem_set _ _

/-! The loss. -/

theorem half_eq : half = ((1 / 2 : ℝ) : EReal) := by
  show Ideal.ofBits .f32 0x3F000000#32 = _
  simp [Ideal.ofBits, Ideal.ieee, -EReal.coe_mul]; norm_num

/-- Half of a sum is the sum of the halves. -/
theorem half_add (x y : EReal) : half * (x + y) = half * x + half * y := by
  rw [half_eq]
  exact EReal.left_distrib_of_nonneg_of_ne_top (by exact_mod_cast (by norm_num : (0 : ℝ) ≤ 1 / 2)) (EReal.coe_ne_top _) x y

/-- Halving, as a map that keeps sums. -/
def halving : EReal →+ EReal := ⟨⟨(half * ·), mul_zero _⟩, half_add⟩

theorem half_sum {n : Nat} (f : Fin n → EReal) : ∑ i, half * f i = half * ∑ i, f i :=
  (map_sum halving f Finset.univ).symm

theorem lossAdd_apply (t : Fin cfg0.N) : lossTwo m c t + lossOne m c t
    = half * ((tot (lossOf m c) (tri t 0) + tot (lossOf m c) (tri t 1)) + tot (lossOf m c) (tri t 2)) := by
  unfold lossTwo lossOne
  rw [loss0, loss1, loss2, half_add, half_add]
  exact congrArg (fun z => z + _ + _) ((congrArg (· + _) Ideal.ofBits_zero_f32).trans (zero_add _))

theorem pay42_apply (u v : EReal) (x : Vec Ideal S8x128 .f32) (y : S8x128.Idx) :
    k0_pay42 (F := Ideal) u v x y = x y + (u + v) := by
  pointwise [k0_pay42]

theorem zero40 (y : S8x128.Idx) : k0_pay40 (F := Ideal) y = 0 := by
  pointwise [k0_pay40]

/-- After the last point every element holds half the sum of the mean squares. -/
theorem total_loss (t : Fin cfg0.N) (ht : t.val + 1 = cfg0.N) (y : S8x128.Idx) :
    (outsAt0 m c t.val t.isLt).1 y = half * ∑ b : Fin 32, lossOf m c b := by
  have h := Pipeline.eq_sum_fin_of_reset_step_apply_last (N := cfg0.N)
    (fun n hn (y : S8x128.Idx) => ((outsAt0 m c n hn).1 y : EReal)) 11 (fun _ => 0)
    (fun p _ => half * ((tot (lossOf m c) (tri p 0) + tot (lossOf m c) (tri p 1)) + tot (lossOf m c) (tri p 2)))
    (fun p hp y => (congrFun (outs7_first m c p hp) _).trans
      ((pay42_apply _ _ _ y).trans (congrArg₂ (· + ·) (zero40 y) (lossAdd_apply m c p))))
    (fun p hp y => (congrFun (outs7_next m c p hp) _).trans
      ((pay42_apply _ _ _ y).trans (congrArg (_ + ·) (lossAdd_apply m c p))))
    (le_refl 11) t ht y
  exact h.trans ((zero_add _).trans ((half_sum _).trans (congrArg (half * ·) (tot_sum _))))

/-- The reference's is half of one sum over the rows. -/
theorem loss_ref (y : S8x128.Idx) : val_main_v59 (F := Ideal) (A0 m c) (A1 m c) (A2 m c) (A3 m c) (A4 m c) y = half * ∑ b : Fin 32, lossOf m c b := by
  pointwise [val_main_v59, val_main_v28, val_main_cst_6, val_main_v27, val_main_cst_5]
  refine congrArg (half * ·) ((Fin.sum_univ_tiles 32 128 rfl _).trans ?_)
  exact Finset.sum_congr rfl fun p _ => Finset.sum_congr rfl fun r _ =>
    congrArg (fun q => val_main_v26 (F := Ideal) (A0 m c) (A1 m c) (A2 m c) (A3 m c) (A4 m c) (ix1 q)) (Fin.ext (congrArg (· + r.val) (Nat.mul_comm _ _)))

/-- The loss is the reference's. -/
theorem final7 : (dats m 0 c).arrAt 7 cfg0.N = val_main_v59 (F := Ideal) (A0 m c) (A1 m c) (A2 m c) (A3 m c) (A4 m c) := by
  refine (dats m 0 c).arrAt_eq_of_cover 7 _ (fun t ht => ?_) (fun i => ?_)
  · rw [Cert.LossIdeal.Value.flushed7]
    funext y
    obtain ⟨r, k, rfl⟩ : ∃ (r : Fin 8) (k : Fin 128), y = ix2 r k := ⟨y 0, y 1, eq_ix2 y⟩
    rw [View.read_apply, emb7]
    have h := (flush0_7 t).mp ht
    have h' := t.isLt
    have h'' : cfg0.N = 11 := rfl
    exact (total_loss m c t (by omega) _).trans (loss_ref m c _).symm
  · refine ⟨⟨10, by decide⟩, (flush0_7 _).mpr (by decide), ?_⟩
    rw [(eq_ix2 i).trans (emb7 ⟨10, by decide⟩ (i 0) (i 1)).symm]
    exact View.emb_mem_set _ _

end Cert.LossArray

end
-- ==== Proof.LossValue.lean ====
/- The loss head: the kernel and the reference leave the same three arrays. -/
module

public import proofs.«01_k».proof.Defs
public import proofs.«01_k».proof.Proof.LossArray

@[expose] public section

set_option maxRecDepth 16384

noncomputable section

namespace Cert.LossValue

open Idealize.ShloMosaic Idealize.ShloMosaic.TcCoe Idealize.SL.Sem
open Cert.LossRefIdeal.Read Cert.LossArray

/-- The reference terminates, keeps its arguments and leaves every counter at zero. -/
theorem frame_ref : quiescent_LossRefIdeal := fun m ρ _ =>
  (θ_run Cert.LossRefIdeal.defs _ _).mono
    (fun r h => ⟨fun c => (h c).2.2.2, sem_eq_zero_of_no_sems (by decide) r.2⟩) (Cert.LossRefIdeal.Value.run m ρ)

/-- From memories that agree on the arguments both programs run and end with equal results. -/
theorem algebraic : algebraic_LossIdeal_LossRefIdeal := by
  intro m g m' g' _ h
  refine ⟨fun c => val_main_v59 (F := Ideal) (A0 m c) (A1 m c) (A2 m c) (A3 m c) (A4 m c),
    fun c => val_main_v58 (F := Ideal) (A0 m c) (A1 m c) (A2 m c) (A3 m c) (A4 m c),
    fun c => val_main_v57 (F := Ideal) (A0 m c) (A1 m c) (A2 m c) (A3 m c) (A4 m c), ?_, ?_⟩
  · refine (θ_run _ _ _).mono (fun r H c => ?_) (Cert.LossIdeal.Value.run_blocks m g)
    obtain ⟨h7, h8, h9, hargs⟩ := H c
    exact ⟨h7.trans (final7 m c), h8.trans (final8 m c), h9.trans (final9 m c), hargs⟩
  · refine (θ_run _ _ _).mono (fun r H c => ?_) (Cert.LossRefIdeal.Value.run m' g')
    obtain ⟨h7, h8, h9, hargs⟩ := H c
    obtain ⟨e0, e1, e2, e3, e4⟩ := h c
    rw [val_main_v59_eq, e0, e1, e2, e3, e4] at h7
    rw [val_main_v58_eq, e0, e1, e2, e3, e4] at h8
    rw [val_main_v57_eq, e0, e1, e2, e3, e4] at h9
    exact ⟨h7, h8, h9, hargs⟩

end Cert.LossValue

end
-- ==== Proof.GatesWeightBody.lean ====
/- What the points of the gates' weight's gradient leave: the running products over three blocks of rows,
   which the last point of each block of columns stores, and the running column sums. -/
module

public import proofs.«01_k».proof.Proof.Gen.GatesWeightIdeal.Value
public import Idealize.ShloMosaic.Lib.Pointwise
public import Idealize.ShloMosaic.Lib.Pipeline.ValueKit.Acc

@[expose] public section

set_option maxRecDepth 16384

noncomputable section

namespace Cert.GatesWeightBody

open Idealize.ShloMosaic Idealize.ShloMosaic.TcCoe Idealize.SL.Sem
open Cert.GatesWeightIdeal Cert.GatesWeightIdeal.Gen

theorem off0 : (![0, 0] : Fin 2 → Nat) = fun _ => 0 := funext fun a => by fin_cases a <;> rfl

/-! Reading a whole block reads the block. -/

theorem ld_left (x : Vec Ideal S1408x1024 .bf16) : View.ld x (Rect.unit ![0, 0] ![1408, 1024] inb_S1408x1024_S1408x1024_0_0) = x :=
  View.ld_unit_zero off0 _ x

theorem ld_right (x : Vec Ideal S1408x1024 .bf16) : View.ld x (Rect.unit ![0, 0] ![1408, 1024] inb_S1408x1024_S1408x1024_0_0) = x :=
  View.ld_unit_zero off0 _ x

theorem ld_sum (x : Vec Ideal S1024x1024 .f32) : View.ld x (Rect.unit ![0, 0] ![1024, 1024] inb_S1024x1024_S1024x1024_0_0) = x :=
  View.ld_unit_zero off0 _ x

theorem ld_row (x : Vec Ideal S1x1024 .f32) : View.ld x (Rect.unit ![0, 0] ![1, 1024] inb_S1x1024_S1x1024_0_0) = x :=
  View.ld_unit_zero off0 _ x

/-- One step of the products: those of one row block, added to what was there. -/
theorem step_apply (v : Vec Ideal S1024x1024 .f32) (x : Vec Ideal S1408x1024 .bf16) (y : Vec Ideal S1408x1024 .bf16) (i : Fin 1024) (l : Fin 1024) :
    k0_pay3 (F := Ideal) v x y (ix2 i l) = v (ix2 i l) + ∑ q : Fin 1408, x (ix2 q i) * y (ix2 q l) := by
  unfold k0_pay3
  pointwise []

theorem zero_apply (i : S1024x1024.Idx) : k0_pay1 (F := Ideal) i = 0 := by
  unfold k0_pay1
  pointwise []

/-- One step of the column sums: those of one row block, added to what was there. -/
theorem step_row_apply (v : Vec Ideal S1x1024 .f32) (x : Vec Ideal S1408x1024 .bf16) (i : Fin 1024) :
    k0_pay4 (F := Ideal) v x (ix2 0 i) = v (ix2 0 i) + ∑ q : Fin 1408, x (ix2 q i) := by
  unfold k0_pay4
  pointwise []

theorem zero_row_apply (i : S1x1024.Idx) : k0_pay2 (F := Ideal) i = 0 := by
  unfold k0_pay2
  pointwise []

variable (m : (ℓ : Loc nD τ sig) → Buf (Elt Ideal) ℓ) (c : Dev nD)

/-- What the point before left. -/
abbrev before (t : Fin cfg0.N) := outsAt0 m c (t.val - 1) (Nat.lt_of_le_of_lt (Nat.sub_le _ _) t.isLt)

/-- The running products after the first of a block's three points. -/
theorem sum_first (t : Fin cfg0.N) (h : t.val % 3 = 0) :
    (outsAt0 m c t.val t.isLt).2.2 = k0_pay3 (F := Ideal) (k0_pay1 (F := Ideal)) (iblk m c 0 t) (iblk m c 1 t) := by
  rw [outsAt0_A m c t h (by omega)]
  dsimp only
  unfold sout0_A_0
  rw [View.read_writes_eq_canon _ _ _ (scover0_A_0 c _ _ _ _ _ _ _ _ _ _ _ _ _ _ _)]
  unfold kernelRun0_A
  dsimp only
  sl_unfold_words
  rw [View.canon_cons_unit_zero (S := S1024x1024) off0, View.readCov_unit_zero (S := S1024x1024) _ off0]
  simp only [View.readAt_eq_ld, (hs0_0 t).read_unread, (hs0_1 t).read_unread, ld_left, ld_right, ld_sum, ld_row]

/-- The running products after a later point: the point before's, and this point's. -/
theorem sum_next (t : Fin cfg0.N) (h : ¬t.val % 3 = 0) :
    (outsAt0 m c t.val t.isLt).2.2 = k0_pay3 (F := Ideal) (before m c t).2.2 (iblk m c 0 t) (iblk m c 1 t) := by
  by_cases h2 : t.val % 3 = 2
  · rw [outsAt0_C m c t h h2]
    dsimp only
    unfold sout0_C_0
    rw [View.read_writes_eq_canon _ _ _ (scover0_C_0 c _ _ _ _ _ _ _ _ _ _ _ _ _ _ _ _ _)]
    unfold kernelRun0_C
    dsimp only
    sl_unfold_words
    rw [View.canon_unit_zero off0]
    simp only [View.readAt_eq_ld, (hs0_0 t).read_unread, (hs0_1 t).read_unread,
      (Memref.isWhole_whole cc0_scratch0).read_unread, ld_left, ld_right, ld_sum, ld_row]
  · rw [outsAt0_B m c t h h2]
    dsimp only
    unfold sout0_B_0
    rw [View.read_writes_eq_canon _ _ _ (scover0_B_0 c _ _ _ _ _ _ _ _ _ _ _ _ _ _ _ _ _)]
    unfold kernelRun0_B
    dsimp only
    sl_unfold_words
    rw [View.canon_unit_zero off0]
    simp only [View.readAt_eq_ld, (hs0_0 t).read_unread, (hs0_1 t).read_unread,
      (Memref.isWhole_whole cc0_scratch0).read_unread, ld_left, ld_right, ld_sum, ld_row]

/-- The running column sums after the first of a block's three points. -/
theorem row_first (t : Fin cfg0.N) (h : t.val % 3 = 0) :
    (outsAt0 m c t.val t.isLt).2.1 = k0_pay4 (F := Ideal) (k0_pay2 (F := Ideal)) (iblk m c 0 t) := by
  rw [outsAt0_A m c t h (by omega)]
  dsimp only
  unfold out0_A_3
  rw [View.read_writes_eq_canon _ _ _ (cover0_A_3 c _ _ _ _ _ _ _ _ _ _ _ _ _ _ _)]
  unfold kernelRun0_A
  dsimp only
  sl_unfold_words
  rw [View.canon_cons_unit_zero (S := S1x1024) off0, View.readCov_unit_zero (S := S1x1024) _ off0]
  simp only [View.readAt_eq_ld, (hs0_0 t).read_unread, (hs0_1 t).read_unread, ld_left, ld_right, ld_sum, ld_row]

/-- The running column sums after a later point: the point before's, and this point's. -/
theorem row_next (t : Fin cfg0.N) (h : ¬t.val % 3 = 0) :
    (outsAt0 m c t.val t.isLt).2.1 = k0_pay4 (F := Ideal) (before m c t).2.1 (iblk m c 0 t) := by
  by_cases h2 : t.val % 3 = 2
  · rw [outsAt0_C m c t h h2]
    dsimp only
    unfold out0_C_3
    rw [View.read_writes_eq_canon _ _ _ (cover0_C_3 c _ _ _ _ _ _ _ _ _ _ _ _ _ _ _ _ _)]
    unfold kernelRun0_C
    dsimp only
    sl_unfold_words
    rw [View.canon_unit_zero off0]
    simp only [View.readAt_eq_ld, (hs0_0 t).read_unread, (hs0_1 t).read_unread,
      (hs0_3 t).read_unread, ld_left, ld_right, ld_sum, ld_row]
  · rw [outsAt0_B m c t h h2]
    dsimp only
    unfold out0_B_3
    rw [View.read_writes_eq_canon _ _ _ (cover0_B_3 c _ _ _ _ _ _ _ _ _ _ _ _ _ _ _ _ _)]
    unfold kernelRun0_B
    dsimp only
    sl_unfold_words
    rw [View.canon_unit_zero off0]
    simp only [View.readAt_eq_ld, (hs0_0 t).read_unread, (hs0_1 t).read_unread,
      (hs0_3 t).read_unread, ld_left, ld_right, ld_sum, ld_row]

/-- What the last of a block's three points stores: the running products. -/
theorem out_last (t : Fin cfg0.N) (h : t.val % 3 = 2) (i : S1024x1024.Idx) :
    (outsAt0 m c t.val t.isLt).1 i = (outsAt0 m c t.val t.isLt).2.2 i := by
  rw [sum_next m c t (by omega), outsAt0_C m c t (by omega) h]
  dsimp only
  unfold out0_C_2
  rw [View.read_writes_eq_canon _ _ _ (cover0_C_2 c _ _ _ _ _ _ _ _ _ _ _ _ _ _ _ _ _)]
  unfold kernelRun0_C
  dsimp only
  sl_unfold_words
  rw [View.canon_unit_zero off0, View.readCov_unit_zero (S := S1024x1024) _ off0]
  simp only [View.readAt_eq_ld, (hs0_0 t).read_unread, (hs0_1 t).read_unread,
    (Memref.isWhole_whole cc0_scratch0).read_unread, ld_left, ld_right, ld_sum, ld_row]
  rfl

/-- The two blocks a point reads, as functions of an index. -/
abbrev left (t : Fin cfg0.N) : S1408x1024.Idx → EReal := iblk m c 0 t
abbrev right (t : Fin cfg0.N) : S1408x1024.Idx → EReal := iblk m c 1 t

/-- The running products and column sums, element by element. -/
abbrev running (n : ℕ) (hn : n < cfg0.N) (p : Fin 1024 × Fin 1024) : EReal := (outsAt0 m c n hn).2.2 (ix2 p.1 p.2)
abbrev runningRow (n : ℕ) (hn : n < cfg0.N) (p : Fin 1024) : EReal := (outsAt0 m c n hn).2.1 (ix2 0 p)

/-- What a point adds to each. -/
abbrev added (t : Fin cfg0.N) (p : Fin 1024 × Fin 1024) : EReal :=
  ∑ q : Fin 1408, left m c t (ix2 q p.1) * right m c t (ix2 q p.2)
abbrev addedRow (t : Fin cfg0.N) (p : Fin 1024) : EReal := ∑ q : Fin 1408, left m c t (ix2 q p)

theorem running_first (t : Fin cfg0.N) (h : t.val % 3 = 0) (p : Fin 1024 × Fin 1024) :
    running m c t.val t.isLt p = 0 + added m c t p :=
  (congrFun (sum_first m c t h) _).trans ((step_apply _ _ _ p.1 p.2).trans (congrArg (· + _) (zero_apply _)))

theorem running_next (t : Fin cfg0.N) (h : ¬t.val % 3 = 0) (p : Fin 1024 × Fin 1024) :
    running m c t.val t.isLt p
      = running m c (t.val - 1) (Nat.lt_of_le_of_lt (Nat.sub_le _ _) t.isLt) p + added m c t p :=
  (congrFun (sum_next m c t h) _).trans (step_apply _ _ _ p.1 p.2)

theorem runningRow_first (t : Fin cfg0.N) (h : t.val % 3 = 0) (p : Fin 1024) :
    runningRow m c t.val t.isLt p = 0 + addedRow m c t p :=
  (congrFun (row_first m c t h) _).trans ((step_row_apply _ _ p).trans (congrArg (· + _) (zero_row_apply _)))

theorem runningRow_next (t : Fin cfg0.N) (h : ¬t.val % 3 = 0) (p : Fin 1024) :
    runningRow m c t.val t.isLt p
      = runningRow m c (t.val - 1) (Nat.lt_of_le_of_lt (Nat.sub_le _ _) t.isLt) p + addedRow m c t p :=
  (congrFun (row_next m c t h) _).trans (step_row_apply _ _ p)

/-- What the last point stores, element by element: the sum over the three row blocks. -/
theorem out_apply (t : Fin cfg0.N) (h : t.val % 3 = 2) (i : Fin 1024) (l : Fin 1024) :
    (outsAt0 m c t.val t.isLt).1 (ix2 i l) = ∑ s : Fin 3, ∑ q : Fin 1408,
      left m c ⟨3 * (t.val / 3) + s.val, Pipeline.run_point_lt_of_flush t h s⟩ (ix2 q i)
        * right m c ⟨3 * (t.val / 3) + s.val, Pipeline.run_point_lt_of_flush t h s⟩ (ix2 q l) :=
  (out_last m c t h _).trans ((Pipeline.eq_sum_fin_of_reset_step_apply_of_flush (N := cfg0.N) (running m c) 3 (fun _ => 0)
    (added m c) (running_first m c) (running_next m c) t h (i, l)).trans (zero_add _))

/-- The column sums after it, element by element. -/
theorem row_apply (t : Fin cfg0.N) (h : t.val % 3 = 2) (i : Fin 1024) :
    (outsAt0 m c t.val t.isLt).2.1 (ix2 0 i) = ∑ s : Fin 3, ∑ q : Fin 1408,
      left m c ⟨3 * (t.val / 3) + s.val, Pipeline.run_point_lt_of_flush t h s⟩ (ix2 q i) :=
  (Pipeline.eq_sum_fin_of_reset_step_apply_of_flush (N := cfg0.N) (runningRow m c) 3 (fun _ => 0)
    (addedRow m c) (runningRow_first m c) (runningRow_next m c) t h i).trans (zero_add _)

end Cert.GatesWeightBody

end
-- ==== Proof.GatesWeightArray.lean ====
/- The two arrays the gates' weight's gradient leaves are the reference's: one sum over all rows each. -/
module

public import proofs.«01_k».proof.Proof.GatesWeightBody
public import proofs.«01_k».proof.Proof.Index
public import proofs.«01_k».proof.Proof.Gen.GatesWeightRefIdeal.Read

@[expose] public section

set_option maxRecDepth 16384

noncomputable section

namespace Cert.GatesWeightArray

open Idealize.ShloMosaic Idealize.ShloMosaic.TcCoe Idealize.SL.Sem
open Cert.GatesWeightRefIdeal.Read
open Cert.GatesWeightIdeal Cert.GatesWeightIdeal.Gen Cert.GatesWeightBody Cert.Index

variable (m : (ℓ : Loc nD τ sig) → Buf (Elt Ideal) ℓ) (c : Dev nD)

/-! The kernel's argument arrays as functions of an index. -/

abbrev A0 : S4224x2048.Idx → EReal := m ((c : Thread nD τ).loc main_arg0)
abbrev A1 : S4224x1024.Idx → EReal := m ((c : Thread nD τ).loc main_arg1)

/-- The row of the arrays that row `q` of the `s`-th row block stands for. -/
abbrev row (s : Fin 3) (q : Fin 1408) : Fin 4224 := ⟨1408 * s.val + q.val, by omega⟩

/-- The column that column `i` of the `j`-th block of columns stands for. -/
abbrev col (j : Fin 2) (i : Fin 1024) : Fin 2048 := ⟨1024 * j.val + i.val, by omega⟩

/-- The row of the gradient's array that it fills. -/
abbrev place (j : Fin 2) (i : Fin 1024) : Fin 2048 := ⟨1024 * j.val + i.val, by omega⟩

/-- The point of the `j`-th block of columns that reads the `s`-th block of rows. -/
theorem blocks : ∀ t : Fin grid0.N,
    (win0_0.index t 0 = t.val % 3 ∧ win0_0.index t 1 = t.val / 3)
    ∧ (win0_1.index t 0 = t.val % 3 ∧ win0_1.index t 1 = 0)
    ∧ (win0_2.index t 0 = t.val / 3 ∧ win0_2.index t 1 = 0)
    ∧ (win0_3.index t 0 = 0 ∧ win0_3.index t 1 = t.val / 3) := by decide +kernel

theorem emb0 (t : Fin cfg0.N) (s : Fin 3) (j : Fin 2) (hs : t.val % 3 = s.val) (hj : t.val / 3 = j.val)
    (q : Fin 1408) (i : Fin 1024) : ((cfg0.win 0).blk t).view.emb (ix2 q i) = ix2 (row s q) (col j i) :=
  ix2_of ((win0_0.rect_emb_val t (ix2 q i) 0).trans (at_row ((blocks t).1.1.trans hs)))
    ((win0_0.rect_emb_val t (ix2 q i) 1).trans (at_row ((blocks t).1.2.trans hj)))

theorem emb1 (t : Fin cfg0.N) (s : Fin 3) (hs : t.val % 3 = s.val) (q : Fin 1408) (l : Fin 1024) :
    ((cfg0.win 1).blk t).view.emb (ix2 q l) = ix2 (row s q) l :=
  ix2_of ((win0_1.rect_emb_val t (ix2 q l) 0).trans (at_row ((blocks t).2.1.1.trans hs)))
    ((win0_1.rect_emb_val t (ix2 q l) 1).trans (at_all (blocks t).2.1.2))

theorem emb2 (t : Fin cfg0.N) (j : Fin 2) (hj : t.val / 3 = j.val) (i : Fin 1024) (l : Fin 1024) :
    ((cfg0.win 2).blk t).view.emb (ix2 i l) = ix2 (place j i) l :=
  ix2_of ((win0_2.rect_emb_val t (ix2 i l) 0).trans (at_row ((blocks t).2.2.1.1.trans hj)))
    ((win0_2.rect_emb_val t (ix2 i l) 1).trans (at_all (blocks t).2.2.1.2))

theorem emb3 (t : Fin cfg0.N) (j : Fin 2) (hj : t.val / 3 = j.val) (k : Fin 1) (i : Fin 1024) :
    ((cfg0.win 3).blk t).view.emb (ix2 k i) = ix2 k (col j i) :=
  ix2_of ((win0_3.rect_emb_val t (ix2 k i) 0).trans (at_all (blocks t).2.2.2.1))
    ((win0_3.rect_emb_val t (ix2 k i) 1).trans (at_row ((blocks t).2.2.2.2.trans hj)))

/-! What the two blocks hold at a point. -/

theorem read0 (t : Fin cfg0.N) (s : Fin 3) (j : Fin 2) (hs : t.val % 3 = s.val) (hj : t.val / 3 = j.val)
    (q : Fin 1408) (i : Fin 1024) : left m c t (ix2 q i) = A0 m c (ix2 (row s q) (col j i)) := by
  unfold left iblk
  rw [View.read_apply, emb0 t s j hs hj]
  exact congrFun (V_main_arg0 m c) _

theorem read1 (t : Fin cfg0.N) (s : Fin 3) (hs : t.val % 3 = s.val) (q : Fin 1408) (l : Fin 1024) :
    right m c t (ix2 q l) = A1 m c (ix2 (row s q) l) := by
  unfold right iblk
  rw [View.read_apply, emb1 t s hs]
  exact congrFun (V_main_arg1 m c) _

/-- The reference's gradient is one sum over the rows, here by its three blocks of them. -/
theorem reference_apply (a : Fin 2048) (l : Fin 1024) : val_main_v14 (F := Ideal) (A0 m c) (A1 m c) (ix2 a l)
    = ∑ s : Fin 3, ∑ q : Fin 1408, A0 m c (ix2 (row s q) a) * A1 m c (ix2 (row s q) l) := by
  pointwise [val_main_v14, val_main_v13, val_main_v12, val_main_v11, val_main_v7, val_main_v2]
  refine (Fin.sum_univ_tiles 3 1408 rfl _).trans ?_
  exact Finset.sum_congr rfl fun s _ => Finset.sum_congr rfl fun q _ =>
    congrArg (fun r : Fin 4224 => A0 m c (ix2 r a) * A1 m c (ix2 r l)) (Fin.ext (congrArg (· + q.val) (Nat.mul_comm _ _)))

/-- So are its column sums. -/
theorem reference_row_apply (k : Fin 1) (a : Fin 2048) : val_main_v15 (F := Ideal) (A0 m c) (ix2 k a)
    = ∑ s : Fin 3, ∑ q : Fin 1408, A0 m c (ix2 (row s q) a) := by
  pointwise [val_main_v15, val_main_v10, val_main_v9, val_main_v8, val_main_v7, val_main_cst_1, val_main_cst_2]
  refine (Fin.sum_univ_one _).trans ?_
  refine (Fin.sum_univ_tiles 3 1408 rfl _).trans ?_
  exact Finset.sum_congr rfl fun s _ => Finset.sum_congr rfl fun q _ =>
    congrArg (fun r : Fin 4224 => A0 m c (ix2 r a)) (Fin.ext (congrArg (· + q.val) (Nat.mul_comm _ _)))

/-- What the last point of a block of columns writes back is the reference's block. -/
theorem written (t : Fin cfg0.N) (h : t.val % 3 = 2) (j : Fin 2) (hj : t.val / 3 = j.val) (i : Fin 1024) (l : Fin 1024) :
    (outsAt0 m c t.val t.isLt).1 (ix2 i l) = val_main_v14 (F := Ideal) (A0 m c) (A1 m c) (ix2 (col j i) l) := by
  refine (out_apply m c t h i l).trans ((reference_apply m c _ l).trans ?_).symm
  refine Finset.sum_congr rfl fun s _ => Finset.sum_congr rfl fun q _ => ?_
  have hs : (3 * (t.val / 3) + s.val) % 3 = s.val := by omega
  have hd : (3 * (t.val / 3) + s.val) / 3 = j.val := by omega
  exact (congrArg₂ (· * ·) (read0 m c ⟨_, Pipeline.run_point_lt_of_flush t h s⟩ s j hs hd q i)
    (read1 m c ⟨_, Pipeline.run_point_lt_of_flush t h s⟩ s hs q l)).symm

theorem written_row (t : Fin cfg0.N) (h : t.val % 3 = 2) (j : Fin 2) (hj : t.val / 3 = j.val) (k : Fin 1) (i : Fin 1024) :
    (outsAt0 m c t.val t.isLt).2.1 (ix2 k i) = val_main_v15 (F := Ideal) (A0 m c) (ix2 k (col j i)) := by
  obtain rfl : k = 0 := Subsingleton.elim _ _
  refine (row_apply m c t h i).trans ((reference_row_apply m c 0 _).trans ?_).symm
  refine Finset.sum_congr rfl fun s _ => Finset.sum_congr rfl fun q _ => ?_
  exact (read0 m c ⟨_, Pipeline.run_point_lt_of_flush t h s⟩ s j (by dsimp only; omega) (by dsimp only; omega) q i).symm

/-- The array: its blocks of columns cover it, and each is the reference's. -/
theorem final2 : (dats m 0 c).arrAt 2 cfg0.N = val_main_v14 (F := Ideal) (A0 m c) (A1 m c) := by
  refine (dats m 0 c).arrAt_eq_of_cover 2 _ (fun t hf => ?_) (fun i => ?_)
  · have h : t.val % 3 = 2 := (flush0_2 t).mp hf
    have hN : t.val < 6 := lt_of_lt_of_eq t.isLt N_0
    rw [Cert.GatesWeightIdeal.Value.flushed2]
    funext y
    obtain ⟨r, k, rfl⟩ : ∃ (r : Fin 1024) (k : Fin 1024), y = ix2 r k := ⟨y 0, y 1, eq_ix2 y⟩
    rw [View.read_apply, emb2 t ⟨t.val / 3, by omega⟩ rfl]
    exact written m c t h ⟨t.val / 3, by omega⟩ rfl r k
  · have hi : (i 0).val < 2048 := (i 0).isLt
    have e : i 0 = place ⟨(i 0).val / 1024, by omega⟩ ⟨(i 0).val % 1024, by omega⟩ :=
      Fin.ext (by show (i 0).val = 1024 * ((i 0).val / 1024) + (i 0).val % 1024; omega)
    have ht : 3 * ((i 0).val / 1024) + 2 < cfg0.N := lt_of_lt_of_eq (by omega) N_0.symm
    rw [(eq_ix2 i).trans ((congrArg (ix2 · (i 1)) e).trans
      (emb2 ⟨_, ht⟩ ⟨(i 0).val / 1024, by omega⟩ (by show (3 * ((i 0).val / 1024) + 2) / 3 = (i 0).val / 1024; omega) _ (i 1)).symm)]
    exact ⟨⟨_, ht⟩, (flush0_2 ⟨_, ht⟩).mpr (by show (3 * ((i 0).val / 1024) + 2) % 3 = 2; omega), View.emb_mem_set _ _⟩

/-- The column sums: every block of columns leaves its own. -/
theorem final3 : (dats m 0 c).arrAt 3 cfg0.N = val_main_v15 (F := Ideal) (A0 m c) := by
  refine (dats m 0 c).arrAt_eq_of_cover 3 _ (fun t hf => ?_) (fun i => ?_)
  · have h : t.val % 3 = 2 := (flush0_3 t).mp hf
    have hN : t.val < 6 := lt_of_lt_of_eq t.isLt N_0
    rw [Cert.GatesWeightIdeal.Value.flushed3]
    funext y
    obtain ⟨r, k, rfl⟩ : ∃ (r : Fin 1) (k : Fin 1024), y = ix2 r k := ⟨y 0, y 1, eq_ix2 y⟩
    rw [View.read_apply, emb3 t ⟨t.val / 3, by omega⟩ rfl]
    exact written_row m c t h ⟨t.val / 3, by omega⟩ rfl r k
  · have hi : (i 1).val < 2048 := (i 1).isLt
    have e : i 1 = col ⟨(i 1).val / 1024, by omega⟩ ⟨(i 1).val % 1024, by omega⟩ :=
      Fin.ext (by show (i 1).val = 1024 * ((i 1).val / 1024) + (i 1).val % 1024; omega)
    have ht : 3 * ((i 1).val / 1024) + 2 < cfg0.N := lt_of_lt_of_eq (by omega) N_0.symm
    rw [(eq_ix2 i).trans ((congrArg (ix2 (i 0)) e).trans
      (emb3 ⟨_, ht⟩ ⟨(i 1).val / 1024, by omega⟩ (by show (3 * ((i 1).val / 1024) + 2) / 3 = (i 1).val / 1024; omega) (i 0) _).symm)]
    exact ⟨⟨_, ht⟩, (flush0_3 ⟨_, ht⟩).mpr (by show (3 * ((i 1).val / 1024) + 2) % 3 = 2; omega), View.emb_mem_set _ _⟩

end Cert.GatesWeightArray

end
-- ==== Proof.GatesWeightValue.lean ====
/- The gates' weight's gradient: the kernel and the reference leave the same two arrays. -/
module

public import proofs.«01_k».proof.Defs
public import proofs.«01_k».proof.Proof.GatesWeightArray

@[expose] public section

set_option maxRecDepth 16384

noncomputable section

namespace Cert.GatesWeightValue

open Idealize.ShloMosaic Idealize.ShloMosaic.TcCoe Idealize.SL.Sem
open Cert.GatesWeightRefIdeal.Read Cert.GatesWeightArray

/-- The reference terminates, keeps its arguments and leaves every counter at zero. -/
theorem frame_ref : quiescent_GatesWeightRefIdeal := fun m ρ _ =>
  (θ_run Cert.GatesWeightRefIdeal.defs _ _).mono
    (fun r h => ⟨fun c => (h c).2.2, sem_eq_zero_of_no_sems (by decide) r.2⟩) (Cert.GatesWeightRefIdeal.Value.run m ρ)

/-- From memories that agree on the arguments both programs run and end with equal results. -/
theorem algebraic : algebraic_GatesWeightIdeal_GatesWeightRefIdeal := by
  intro m g m' g' _ h
  refine ⟨fun c => val_main_v14 (F := Ideal) (A0 m c) (A1 m c), fun c => val_main_v15 (F := Ideal) (A0 m c), ?_, ?_⟩
  · refine (θ_run _ _ _).mono (fun r H c => ?_) (Cert.GatesWeightIdeal.Value.run_blocks m g)
    obtain ⟨h2, h3, hargs⟩ := H c
    exact ⟨h2.trans (final2 m c), h3.trans (final3 m c), hargs⟩
  · refine (θ_run _ _ _).mono (fun r H c => ?_) (Cert.GatesWeightRefIdeal.Value.run m' g')
    obtain ⟨h2, h3, hargs⟩ := H c
    obtain ⟨e0, e1⟩ := h c
    rw [e0, e1] at h2
    rw [e0] at h3
    exact ⟨h2, h3, hargs⟩

end Cert.GatesWeightValue

end
-- ==== Proof.RkvWeightBody.lean ====
/- What the points of the recurrent projections' weight's gradient leave: the running products over three blocks of rows,
   which the last point of each block of columns stores, and the running column sums. -/
module

public import proofs.«01_k».proof.Proof.Gen.RkvWeightIdeal.Value
public import Idealize.ShloMosaic.Lib.Pointwise
public import Idealize.ShloMosaic.Lib.Pipeline.ValueKit.Acc

@[expose] public section

set_option maxRecDepth 16384

noncomputable section

namespace Cert.RkvWeightBody

open Idealize.ShloMosaic Idealize.ShloMosaic.TcCoe Idealize.SL.Sem
open Cert.RkvWeightIdeal Cert.RkvWeightIdeal.Gen

theorem off0 : (![0, 0] : Fin 2 → Nat) = fun _ => 0 := funext fun a => by fin_cases a <;> rfl

/-! Reading a whole block reads the block. -/

theorem ld_left (x : Vec Ideal S1408x768 .bf16) : View.ld x (Rect.unit ![0, 0] ![1408, 768] inb_S1408x768_S1408x768_0_0) = x :=
  View.ld_unit_zero off0 _ x

theorem ld_right (x : Vec Ideal S1408x1024 .bf16) : View.ld x (Rect.unit ![0, 0] ![1408, 1024] inb_S1408x1024_S1408x1024_0_0) = x :=
  View.ld_unit_zero off0 _ x

theorem ld_sum (x : Vec Ideal S768x1024 .f32) : View.ld x (Rect.unit ![0, 0] ![768, 1024] inb_S768x1024_S768x1024_0_0) = x :=
  View.ld_unit_zero off0 _ x

theorem ld_row (x : Vec Ideal S1x768 .f32) : View.ld x (Rect.unit ![0, 0] ![1, 768] inb_S1x768_S1x768_0_0) = x :=
  View.ld_unit_zero off0 _ x

/-- One step of the products: those of one row block, added to what was there. -/
theorem step_apply (v : Vec Ideal S768x1024 .f32) (x : Vec Ideal S1408x768 .bf16) (y : Vec Ideal S1408x1024 .bf16) (i : Fin 768) (l : Fin 1024) :
    k0_pay3 (F := Ideal) v x y (ix2 i l) = v (ix2 i l) + ∑ q : Fin 1408, x (ix2 q i) * y (ix2 q l) := by
  unfold k0_pay3
  pointwise []

theorem zero_apply (i : S768x1024.Idx) : k0_pay1 (F := Ideal) i = 0 := by
  unfold k0_pay1
  pointwise []

/-- One step of the column sums: those of one row block, added to what was there. -/
theorem step_row_apply (v : Vec Ideal S1x768 .f32) (x : Vec Ideal S1408x768 .bf16) (i : Fin 768) :
    k0_pay4 (F := Ideal) v x (ix2 0 i) = v (ix2 0 i) + ∑ q : Fin 1408, x (ix2 q i) := by
  unfold k0_pay4
  pointwise []

theorem zero_row_apply (i : S1x768.Idx) : k0_pay2 (F := Ideal) i = 0 := by
  unfold k0_pay2
  pointwise []

variable (m : (ℓ : Loc nD τ sig) → Buf (Elt Ideal) ℓ) (c : Dev nD)

/-- What the point before left. -/
abbrev before (t : Fin cfg0.N) := outsAt0 m c (t.val - 1) (Nat.lt_of_le_of_lt (Nat.sub_le _ _) t.isLt)

/-- The running products after the first of a block's three points. -/
theorem sum_first (t : Fin cfg0.N) (h : t.val % 3 = 0) :
    (outsAt0 m c t.val t.isLt).2.2 = k0_pay3 (F := Ideal) (k0_pay1 (F := Ideal)) (iblk m c 0 t) (iblk m c 1 t) := by
  rw [outsAt0_A m c t h (by omega)]
  dsimp only
  unfold sout0_A_0
  rw [View.read_writes_eq_canon _ _ _ (scover0_A_0 c _ _ _ _ _ _ _ _ _ _ _ _ _ _ _)]
  unfold kernelRun0_A
  dsimp only
  sl_unfold_words
  rw [View.canon_cons_unit_zero (S := S768x1024) off0, View.readCov_unit_zero (S := S768x1024) _ off0]
  simp only [View.readAt_eq_ld, (hs0_0 t).read_unread, (hs0_1 t).read_unread, ld_left, ld_right, ld_sum, ld_row]

/-- The running products after a later point: the point before's, and this point's. -/
theorem sum_next (t : Fin cfg0.N) (h : ¬t.val % 3 = 0) :
    (outsAt0 m c t.val t.isLt).2.2 = k0_pay3 (F := Ideal) (before m c t).2.2 (iblk m c 0 t) (iblk m c 1 t) := by
  by_cases h2 : t.val % 3 = 2
  · rw [outsAt0_C m c t h h2]
    dsimp only
    unfold sout0_C_0
    rw [View.read_writes_eq_canon _ _ _ (scover0_C_0 c _ _ _ _ _ _ _ _ _ _ _ _ _ _ _ _ _)]
    unfold kernelRun0_C
    dsimp only
    sl_unfold_words
    rw [View.canon_unit_zero off0]
    simp only [View.readAt_eq_ld, (hs0_0 t).read_unread, (hs0_1 t).read_unread,
      (Memref.isWhole_whole cc0_scratch0).read_unread, ld_left, ld_right, ld_sum, ld_row]
  · rw [outsAt0_B m c t h h2]
    dsimp only
    unfold sout0_B_0
    rw [View.read_writes_eq_canon _ _ _ (scover0_B_0 c _ _ _ _ _ _ _ _ _ _ _ _ _ _ _ _ _)]
    unfold kernelRun0_B
    dsimp only
    sl_unfold_words
    rw [View.canon_unit_zero off0]
    simp only [View.readAt_eq_ld, (hs0_0 t).read_unread, (hs0_1 t).read_unread,
      (Memref.isWhole_whole cc0_scratch0).read_unread, ld_left, ld_right, ld_sum, ld_row]

/-- The running column sums after the first of a block's three points. -/
theorem row_first (t : Fin cfg0.N) (h : t.val % 3 = 0) :
    (outsAt0 m c t.val t.isLt).2.1 = k0_pay4 (F := Ideal) (k0_pay2 (F := Ideal)) (iblk m c 0 t) := by
  rw [outsAt0_A m c t h (by omega)]
  dsimp only
  unfold out0_A_3
  rw [View.read_writes_eq_canon _ _ _ (cover0_A_3 c _ _ _ _ _ _ _ _ _ _ _ _ _ _ _)]
  unfold kernelRun0_A
  dsimp only
  sl_unfold_words
  rw [View.canon_cons_unit_zero (S := S1x768) off0, View.readCov_unit_zero (S := S1x768) _ off0]
  simp only [View.readAt_eq_ld, (hs0_0 t).read_unread, (hs0_1 t).read_unread, ld_left, ld_right, ld_sum, ld_row]

/-- The running column sums after a later point: the point before's, and this point's. -/
theorem row_next (t : Fin cfg0.N) (h : ¬t.val % 3 = 0) :
    (outsAt0 m c t.val t.isLt).2.1 = k0_pay4 (F := Ideal) (before m c t).2.1 (iblk m c 0 t) := by
  by_cases h2 : t.val % 3 = 2
  · rw [outsAt0_C m c t h h2]
    dsimp only
    unfold out0_C_3
    rw [View.read_writes_eq_canon _ _ _ (cover0_C_3 c _ _ _ _ _ _ _ _ _ _ _ _ _ _ _ _ _)]
    unfold kernelRun0_C
    dsimp only
    sl_unfold_words
    rw [View.canon_unit_zero off0]
    simp only [View.readAt_eq_ld, (hs0_0 t).read_unread, (hs0_1 t).read_unread,
      (hs0_3 t).read_unread, ld_left, ld_right, ld_sum, ld_row]
  · rw [outsAt0_B m c t h h2]
    dsimp only
    unfold out0_B_3
    rw [View.read_writes_eq_canon _ _ _ (cover0_B_3 c _ _ _ _ _ _ _ _ _ _ _ _ _ _ _ _ _)]
    unfold kernelRun0_B
    dsimp only
    sl_unfold_words
    rw [View.canon_unit_zero off0]
    simp only [View.readAt_eq_ld, (hs0_0 t).read_unread, (hs0_1 t).read_unread,
      (hs0_3 t).read_unread, ld_left, ld_right, ld_sum, ld_row]

/-- What the last of a block's three points stores: the running products. -/
theorem out_last (t : Fin cfg0.N) (h : t.val % 3 = 2) (i : S768x1024.Idx) :
    (outsAt0 m c t.val t.isLt).1 i = (outsAt0 m c t.val t.isLt).2.2 i := by
  rw [sum_next m c t (by omega), outsAt0_C m c t (by omega) h]
  dsimp only
  unfold out0_C_2
  rw [View.read_writes_eq_canon _ _ _ (cover0_C_2 c _ _ _ _ _ _ _ _ _ _ _ _ _ _ _ _ _)]
  unfold kernelRun0_C
  dsimp only
  sl_unfold_words
  rw [View.canon_unit_zero off0, View.readCov_unit_zero (S := S768x1024) _ off0]
  simp only [View.readAt_eq_ld, (hs0_0 t).read_unread, (hs0_1 t).read_unread,
    (Memref.isWhole_whole cc0_scratch0).read_unread, ld_left, ld_right, ld_sum, ld_row]
  rfl

/-- The two blocks a point reads, as functions of an index. -/
abbrev left (t : Fin cfg0.N) : S1408x768.Idx → EReal := iblk m c 0 t
abbrev right (t : Fin cfg0.N) : S1408x1024.Idx → EReal := iblk m c 1 t

/-- The running products and column sums, element by element. -/
abbrev running (n : ℕ) (hn : n < cfg0.N) (p : Fin 768 × Fin 1024) : EReal := (outsAt0 m c n hn).2.2 (ix2 p.1 p.2)
abbrev runningRow (n : ℕ) (hn : n < cfg0.N) (p : Fin 768) : EReal := (outsAt0 m c n hn).2.1 (ix2 0 p)

/-- What a point adds to each. -/
abbrev added (t : Fin cfg0.N) (p : Fin 768 × Fin 1024) : EReal :=
  ∑ q : Fin 1408, left m c t (ix2 q p.1) * right m c t (ix2 q p.2)
abbrev addedRow (t : Fin cfg0.N) (p : Fin 768) : EReal := ∑ q : Fin 1408, left m c t (ix2 q p)

theorem running_first (t : Fin cfg0.N) (h : t.val % 3 = 0) (p : Fin 768 × Fin 1024) :
    running m c t.val t.isLt p = 0 + added m c t p :=
  (congrFun (sum_first m c t h) _).trans ((step_apply _ _ _ p.1 p.2).trans (congrArg (· + _) (zero_apply _)))

theorem running_next (t : Fin cfg0.N) (h : ¬t.val % 3 = 0) (p : Fin 768 × Fin 1024) :
    running m c t.val t.isLt p
      = running m c (t.val - 1) (Nat.lt_of_le_of_lt (Nat.sub_le _ _) t.isLt) p + added m c t p :=
  (congrFun (sum_next m c t h) _).trans (step_apply _ _ _ p.1 p.2)

theorem runningRow_first (t : Fin cfg0.N) (h : t.val % 3 = 0) (p : Fin 768) :
    runningRow m c t.val t.isLt p = 0 + addedRow m c t p :=
  (congrFun (row_first m c t h) _).trans ((step_row_apply _ _ p).trans (congrArg (· + _) (zero_row_apply _)))

theorem runningRow_next (t : Fin cfg0.N) (h : ¬t.val % 3 = 0) (p : Fin 768) :
    runningRow m c t.val t.isLt p
      = runningRow m c (t.val - 1) (Nat.lt_of_le_of_lt (Nat.sub_le _ _) t.isLt) p + addedRow m c t p :=
  (congrFun (row_next m c t h) _).trans (step_row_apply _ _ p)

/-- What the last point stores, element by element: the sum over the three row blocks. -/
theorem out_apply (t : Fin cfg0.N) (h : t.val % 3 = 2) (i : Fin 768) (l : Fin 1024) :
    (outsAt0 m c t.val t.isLt).1 (ix2 i l) = ∑ s : Fin 3, ∑ q : Fin 1408,
      left m c ⟨3 * (t.val / 3) + s.val, Pipeline.run_point_lt_of_flush t h s⟩ (ix2 q i)
        * right m c ⟨3 * (t.val / 3) + s.val, Pipeline.run_point_lt_of_flush t h s⟩ (ix2 q l) :=
  (out_last m c t h _).trans ((Pipeline.eq_sum_fin_of_reset_step_apply_of_flush (N := cfg0.N) (running m c) 3 (fun _ => 0)
    (added m c) (running_first m c) (running_next m c) t h (i, l)).trans (zero_add _))

/-- The column sums after it, element by element. -/
theorem row_apply (t : Fin cfg0.N) (h : t.val % 3 = 2) (i : Fin 768) :
    (outsAt0 m c t.val t.isLt).2.1 (ix2 0 i) = ∑ s : Fin 3, ∑ q : Fin 1408,
      left m c ⟨3 * (t.val / 3) + s.val, Pipeline.run_point_lt_of_flush t h s⟩ (ix2 q i) :=
  (Pipeline.eq_sum_fin_of_reset_step_apply_of_flush (N := cfg0.N) (runningRow m c) 3 (fun _ => 0)
    (addedRow m c) (runningRow_first m c) (runningRow_next m c) t h i).trans (zero_add _)

end Cert.RkvWeightBody

end
-- ==== Proof.RkvWeightArray.lean ====
/- The two arrays the recurrent projections' weight's gradient leaves are the reference's: one sum over all rows each, and the rows
   that belong to the other parts of the gradient as they came. -/
module

public import proofs.«01_k».proof.Proof.RkvWeightBody
public import proofs.«01_k».proof.Proof.Index
public import Idealize.ShloMosaic.Lib.StableHlo.ReadAt
public import proofs.«01_k».proof.Proof.Gen.RkvWeightRefIdeal.Read

@[expose] public section

set_option maxRecDepth 16384

noncomputable section

namespace Cert.RkvWeightArray

open Idealize.ShloMosaic Idealize.ShloMosaic.TcCoe Idealize.SL.Sem
open Cert.RkvWeightRefIdeal.Read
open Cert.RkvWeightIdeal Cert.RkvWeightIdeal.Gen Cert.RkvWeightBody Cert.Index

variable (m : (ℓ : Loc nD τ sig) → Buf (Elt Ideal) ℓ) (c : Dev nD)

/-! The kernel's argument arrays as functions of an index. -/

abbrev A0 : S4224x1536.Idx → EReal := m ((c : Thread nD τ).loc main_arg0)
abbrev A1 : S4224x1024.Idx → EReal := m ((c : Thread nD τ).loc main_arg1)
abbrev A2 : S4640x1024.Idx → EReal := m ((c : Thread nD τ).loc main_arg2)

/-- The row of the arrays that row `q` of the `s`-th row block stands for. -/
abbrev row (s : Fin 3) (q : Fin 1408) : Fin 4224 := ⟨1408 * s.val + q.val, by omega⟩

/-- The column that column `i` of the `j`-th block of columns stands for. -/
abbrev col (j : Fin 2) (i : Fin 768) : Fin 1536 := ⟨768 * j.val + i.val, by omega⟩

/-- The row of the gradient's array that it fills. -/
abbrev place (j : Fin 2) (i : Fin 768) : Fin 4640 := ⟨768 * (1 + j.val) + i.val, by omega⟩

/-- The point of the `j`-th block of columns that reads the `s`-th block of rows. -/
theorem blocks : ∀ t : Fin grid0.N,
    (win0_0.index t 0 = t.val % 3 ∧ win0_0.index t 1 = t.val / 3)
    ∧ (win0_1.index t 0 = t.val % 3 ∧ win0_1.index t 1 = 0)
    ∧ (win0_2.index t 0 = 1 + t.val / 3 ∧ win0_2.index t 1 = 0)
    ∧ (win0_3.index t 0 = 0 ∧ win0_3.index t 1 = t.val / 3) := by decide +kernel

theorem emb0 (t : Fin cfg0.N) (s : Fin 3) (j : Fin 2) (hs : t.val % 3 = s.val) (hj : t.val / 3 = j.val)
    (q : Fin 1408) (i : Fin 768) : ((cfg0.win 0).blk t).view.emb (ix2 q i) = ix2 (row s q) (col j i) :=
  ix2_of ((win0_0.rect_emb_val t (ix2 q i) 0).trans (at_row ((blocks t).1.1.trans hs)))
    ((win0_0.rect_emb_val t (ix2 q i) 1).trans (at_row ((blocks t).1.2.trans hj)))

theorem emb1 (t : Fin cfg0.N) (s : Fin 3) (hs : t.val % 3 = s.val) (q : Fin 1408) (l : Fin 1024) :
    ((cfg0.win 1).blk t).view.emb (ix2 q l) = ix2 (row s q) l :=
  ix2_of ((win0_1.rect_emb_val t (ix2 q l) 0).trans (at_row ((blocks t).2.1.1.trans hs)))
    ((win0_1.rect_emb_val t (ix2 q l) 1).trans (at_all (blocks t).2.1.2))

/-- The array's height is no multiple of a block's, but every block the points write lies whole in it. -/
theorem whole2 : ∀ (t : Fin grid0.N) (a : Fin 2), (win0_2.xblock (grid0.coords t)).size a = S768x1024.size a := by decide +kernel

/-- An element of a written block. -/
def at2 (t : Fin grid0.N) (i : Fin 768) (l : Fin 1024) : (win0_2.xblock (grid0.coords t)).Idx :=
  fun a => ⟨((ix2 i l : S768x1024.Idx) a).val, lt_of_lt_of_eq ((ix2 i l : S768x1024.Idx) a).isLt (whole2 t a).symm⟩

theorem eq_at2 (t : Fin grid0.N) (y : (win0_2.xblock (grid0.coords t)).Idx) : ∃ (i : Fin 768) (l : Fin 1024), y = at2 t i l :=
  ⟨⟨(y 0).val, lt_of_lt_of_eq (y 0).isLt (whole2 t 0)⟩, ⟨(y 1).val, lt_of_lt_of_eq (y 1).isLt (whole2 t 1)⟩, by
    funext a
    fin_cases a <;> rfl⟩

theorem emb2 (t : Fin cfg0.N) (j : Fin 2) (hj : t.val / 3 = j.val) (i : Fin 768) (l : Fin 1024) :
    ((cfg0.win 2).blk t).view.emb (at2 t i l) = ix2 (place j i) l :=
  ix2_of ((win0_2.rect_emb_val t (at2 t i l) 0).trans (at_row (r := i.val) ((blocks t).2.2.1.1.trans (congrArg (1 + ·) hj))))
    ((win0_2.rect_emb_val t (at2 t i l) 1).trans (at_all (k := l.val) (blocks t).2.2.1.2))

theorem emb3 (t : Fin cfg0.N) (j : Fin 2) (hj : t.val / 3 = j.val) (k : Fin 1) (i : Fin 768) :
    ((cfg0.win 3).blk t).view.emb (ix2 k i) = ix2 k (col j i) :=
  ix2_of ((win0_3.rect_emb_val t (ix2 k i) 0).trans (at_all (blocks t).2.2.2.1))
    ((win0_3.rect_emb_val t (ix2 k i) 1).trans (at_row ((blocks t).2.2.2.2.trans hj)))

/-! What the two blocks hold at a point. -/

theorem read0 (t : Fin cfg0.N) (s : Fin 3) (j : Fin 2) (hs : t.val % 3 = s.val) (hj : t.val / 3 = j.val)
    (q : Fin 1408) (i : Fin 768) : left m c t (ix2 q i) = A0 m c (ix2 (row s q) (col j i)) := by
  unfold left iblk
  rw [View.read_apply, emb0 t s j hs hj]
  exact congrFun (V_main_arg0 m c) _

theorem read1 (t : Fin cfg0.N) (s : Fin 3) (hs : t.val % 3 = s.val) (q : Fin 1408) (l : Fin 1024) :
    right m c t (ix2 q l) = A1 m c (ix2 (row s q) l) := by
  unfold right iblk
  rw [View.read_apply, emb1 t s hs]
  exact congrFun (V_main_arg1 m c) _

/-- The reference's gradient is one sum over the rows, here by its three blocks of them. -/
theorem reference_apply (a : Fin 1536) (l : Fin 1024) : val_main_v15 (F := Ideal) (A0 m c) (A1 m c) (ix2 a l)
    = ∑ s : Fin 3, ∑ q : Fin 1408, A0 m c (ix2 (row s q) a) * A1 m c (ix2 (row s q) l) := by
  pointwise [val_main_v15, val_main_v14, val_main_v12, val_main_v11, val_main_v7, val_main_v2]
  refine (Fin.sum_univ_tiles 3 1408 rfl _).trans ?_
  exact Finset.sum_congr rfl fun s _ => Finset.sum_congr rfl fun q _ =>
    congrArg (fun r : Fin 4224 => A0 m c (ix2 r a) * A1 m c (ix2 r l)) (Fin.ext (congrArg (· + q.val) (Nat.mul_comm _ _)))

/-- So are its column sums. -/
theorem reference_row_apply (k : Fin 1) (a : Fin 1536) : val_main_v18 (F := Ideal) (A0 m c) (ix2 k a)
    = ∑ s : Fin 3, ∑ q : Fin 1408, A0 m c (ix2 (row s q) a) := by
  pointwise [val_main_v18, val_main_v10, val_main_v9, val_main_v8, val_main_v7, val_main_cst_1, val_main_cst_2]
  refine (Fin.sum_univ_one _).trans ?_
  refine (Fin.sum_univ_tiles 3 1408 rfl _).trans ?_
  exact Finset.sum_congr rfl fun s _ => Finset.sum_congr rfl fun q _ =>
    congrArg (fun r : Fin 4224 => A0 m c (ix2 r a)) (Fin.ext (congrArg (· + q.val) (Nat.mul_comm _ _)))

/-- What the last point of a block of columns writes back is the reference's block. -/
theorem written (t : Fin cfg0.N) (h : t.val % 3 = 2) (j : Fin 2) (hj : t.val / 3 = j.val) (i : Fin 768) (l : Fin 1024) :
    (outsAt0 m c t.val t.isLt).1 (ix2 i l) = val_main_v15 (F := Ideal) (A0 m c) (A1 m c) (ix2 (col j i) l) := by
  refine (out_apply m c t h i l).trans ((reference_apply m c _ l).trans ?_).symm
  refine Finset.sum_congr rfl fun s _ => Finset.sum_congr rfl fun q _ => ?_
  have hs : (3 * (t.val / 3) + s.val) % 3 = s.val := by omega
  have hd : (3 * (t.val / 3) + s.val) / 3 = j.val := by omega
  exact (congrArg₂ (· * ·) (read0 m c ⟨_, Pipeline.run_point_lt_of_flush t h s⟩ s j hs hd q i)
    (read1 m c ⟨_, Pipeline.run_point_lt_of_flush t h s⟩ s hs q l)).symm

theorem written_row (t : Fin cfg0.N) (h : t.val % 3 = 2) (j : Fin 2) (hj : t.val / 3 = j.val) (k : Fin 1) (i : Fin 768) :
    (outsAt0 m c t.val t.isLt).2.1 (ix2 k i) = val_main_v18 (F := Ideal) (A0 m c) (ix2 k (col j i)) := by
  obtain rfl : k = 0 := Subsingleton.elim _ _
  refine (row_apply m c t h i).trans ((reference_row_apply m c 0 _).trans ?_).symm
  refine Finset.sum_congr rfl fun s _ => Finset.sum_congr rfl fun q _ => ?_
  exact (read0 m c ⟨_, Pipeline.run_point_lt_of_flush t h s⟩ s j (by dsimp only; omega) (by dsimp only; omega) q i).symm

/-! The reference's array, part by part: the gradient's rows, and the others as they came. -/

theorem inside (j : Fin 2) (i : Fin 768) (l : Fin 1024) :
    val_main_v17 (F := Ideal) (A0 m c) (A1 m c) (A2 m c) (ix2 (place j i) l) = val_main_v15 (F := Ideal) (A0 m c) (A1 m c) (ix2 (col j i) l) :=
  concatenate_apply_piece (t := Cert.RkvWeightRefIdeal.S4640x1024) 0 _ _ (ix2 (place j i) l) 1 (by show 1 < 3; omega) _ (val_main_v15 (F := Ideal) (A0 m c) (A1 m c)) rfl rfl 768 rfl
    (ix2 (col j i) l) (fun b hb => by
      have h0 : b.val ≠ 0 := fun e => hb (Fin.ext e)
      have h2 : b.val < 2 := b.isLt
      obtain rfl : b = (1 : Fin 2) := Fin.ext (by show b.val = 1; omega)
      rfl) (by show 768 + (768 * j.val + i.val) = 768 * (1 + j.val) + i.val; omega)

theorem before_it (b : Fin 4640) (h : b.val < 768) (l : Fin 1024) :
    val_main_v17 (F := Ideal) (A0 m c) (A1 m c) (A2 m c) (ix2 b l) = A2 m c (ix2 b l) :=
  (concatenate_apply_piece (t := Cert.RkvWeightRefIdeal.S4640x1024) 0 _ _ (ix2 b l) 0 (by show 0 < 3; omega) _ (val_main_v13 (F := Ideal) (A2 m c)) rfl rfl 0 rfl
    (ix2 ⟨b.val, h⟩ l) (fun b hb => by
      have h0 : b.val ≠ 0 := fun e => hb (Fin.ext e)
      have h2 : b.val < 2 := b.isLt
      obtain rfl : b = (1 : Fin 2) := Fin.ext (by show b.val = 1; omega)
      rfl) (Nat.zero_add _)).trans
    ((val_main_v13_apply _ _).trans (congrArg (A2 m c) (ix2_of rfl rfl)))

theorem after_it (b : Fin 4640) (h : 2304 ≤ b.val) (l : Fin 1024) :
    val_main_v17 (F := Ideal) (A0 m c) (A1 m c) (A2 m c) (ix2 b l) = A2 m c (ix2 b l) :=
  (concatenate_apply_piece (t := Cert.RkvWeightRefIdeal.S4640x1024) 0 _ _ (ix2 b l) 2 (by show 2 < 3; omega) _ (val_main_v16 (F := Ideal) (A2 m c)) rfl rfl 2304 rfl
    (ix2 ⟨b.val - 2304, by omega⟩ l) (fun b hb => by
      have h0 : b.val ≠ 0 := fun e => hb (Fin.ext e)
      have h2 : b.val < 2 := b.isLt
      obtain rfl : b = (1 : Fin 2) := Fin.ext (by show b.val = 1; omega)
      rfl) (by show 2304 + (b.val - 2304) = b.val; omega)).trans
    ((val_main_v16_apply _ _).trans (congrArg (A2 m c) (ix2_of (by show 2304 + (b.val - 2304) = b.val; omega) rfl)))

/-- The call is handed the array with the other rows in it. -/
theorem handed (i : S4640x1024.Idx) : V m c main_v0_0 i = A2 m c i := by
  unfold V
  after_reads_at
  rfl

/-- What the last point of a block of columns writes back, as a block of the whole array. -/
theorem block2 (t : Fin cfg0.N) (hf : (cfg0.win 2).flush t = true) :
    (dats m 0 c).flushed 2 t = ((cfg0.win 2).blk t).view.read (Elt Ideal) (val_main_v17 (F := Ideal) (A0 m c) (A1 m c) (A2 m c)) := by
  have h : t.val % 3 = 2 := (flush0_2 t).mp hf
  have hN : t.val < 6 := lt_of_lt_of_eq t.isLt N_0
  rw [Cert.RkvWeightIdeal.Value.flushed2]
  funext y
  obtain ⟨r, k, rfl⟩ := eq_at2 t y
  rw [View.read_apply, emb2 t ⟨t.val / 3, by omega⟩ rfl]
  exact (written m c t h ⟨t.val / 3, by omega⟩ rfl r k).trans (inside m c _ r k).symm

/-- A row of the gradient's is in a block that is written back. -/
theorem covered (i : S4640x1024.Idx) (h : 768 ≤ (i 0).val ∧ (i 0).val < 2304) :
    ∃ t : Fin cfg0.N, (cfg0.win 2).flush t = true ∧ i ∈ ((cfg0.win 2).blk t).view.set := by
  have e : i 0 = place ⟨((i 0).val - 768) / 768, by omega⟩ ⟨((i 0).val - 768) % 768, by omega⟩ :=
    Fin.ext (by show (i 0).val = 768 * (1 + ((i 0).val - 768) / 768) + ((i 0).val - 768) % 768; omega)
  have ht : 3 * (((i 0).val - 768) / 768) + 2 < cfg0.N := lt_of_lt_of_eq (by omega) N_0.symm
  rw [(eq_ix2 i).trans ((congrArg (ix2 · (i 1)) e).trans
    (emb2 ⟨_, ht⟩ ⟨((i 0).val - 768) / 768, by omega⟩ (by show (3 * (((i 0).val - 768) / 768) + 2) / 3 = ((i 0).val - 768) / 768; omega) _ (i 1)).symm)]
  exact ⟨⟨_, ht⟩, (flush0_2 ⟨_, ht⟩).mpr (by show (3 * (((i 0).val - 768) / 768) + 2) % 3 = 2; omega), View.emb_mem_set _ _⟩

/-- The array: the gradient's rows are covered by blocks that are the reference's, the others stay. -/
theorem final2 : (dats m 0 c).arrAt 2 cfg0.N = val_main_v17 (F := Ideal) (A0 m c) (A1 m c) (A2 m c) := by
  funext i
  rw [(dats m 0 c).arrAt_eq_piecewise 2 _ (block2 m c) i]
  split
  · rfl
  · rename_i hn
    have hi : ¬(768 ≤ (i 0).val ∧ (i 0).val < 2304) := fun h => hn (covered i h)
    refine ((congrFun (A_eq m c 2) i).trans (handed m c i)).trans ?_
    obtain ⟨b, l, rfl⟩ : ∃ (b : Fin 4640) (l : Fin 1024), i = ix2 b l := ⟨i 0, i 1, eq_ix2 i⟩
    by_cases hb : b.val < 768
    · exact (before_it m c b hb l).symm
    · exact (after_it m c b (Nat.le_of_not_lt fun h => hi ⟨Nat.le_of_not_lt hb, h⟩) l).symm

/-- The column sums: every block of columns leaves its own. -/
theorem final3 : (dats m 0 c).arrAt 3 cfg0.N = val_main_v18 (F := Ideal) (A0 m c) := by
  refine (dats m 0 c).arrAt_eq_of_cover 3 _ (fun t hf => ?_) (fun i => ?_)
  · have h : t.val % 3 = 2 := (flush0_3 t).mp hf
    have hN : t.val < 6 := lt_of_lt_of_eq t.isLt N_0
    rw [Cert.RkvWeightIdeal.Value.flushed3]
    funext y
    obtain ⟨r, k, rfl⟩ : ∃ (r : Fin 1) (k : Fin 768), y = ix2 r k := ⟨y 0, y 1, eq_ix2 y⟩
    rw [View.read_apply, emb3 t ⟨t.val / 3, by omega⟩ rfl]
    exact written_row m c t h ⟨t.val / 3, by omega⟩ rfl r k
  · have hi : (i 1).val < 1536 := (i 1).isLt
    have e : i 1 = col ⟨(i 1).val / 768, by omega⟩ ⟨(i 1).val % 768, by omega⟩ :=
      Fin.ext (by show (i 1).val = 768 * ((i 1).val / 768) + (i 1).val % 768; omega)
    have ht : 3 * ((i 1).val / 768) + 2 < cfg0.N := lt_of_lt_of_eq (by omega) N_0.symm
    rw [(eq_ix2 i).trans ((congrArg (ix2 (i 0)) e).trans
      (emb3 ⟨_, ht⟩ ⟨(i 1).val / 768, by omega⟩ (by show (3 * ((i 1).val / 768) + 2) / 3 = (i 1).val / 768; omega) (i 0) _).symm)]
    exact ⟨⟨_, ht⟩, (flush0_3 ⟨_, ht⟩).mpr (by show (3 * ((i 1).val / 768) + 2) % 3 = 2; omega), View.emb_mem_set _ _⟩

end Cert.RkvWeightArray

end
-- ==== Proof.RkvWeightValue.lean ====
/- The recurrent projections' weight's gradient: the kernel and the reference leave the same two arrays. -/
module

public import proofs.«01_k».proof.Defs
public import proofs.«01_k».proof.Proof.RkvWeightArray

@[expose] public section

set_option maxRecDepth 16384

noncomputable section

namespace Cert.RkvWeightValue

open Idealize.ShloMosaic Idealize.ShloMosaic.TcCoe Idealize.SL.Sem
open Cert.RkvWeightRefIdeal.Read Cert.RkvWeightArray

/-- The reference terminates, keeps its arguments and leaves every counter at zero. -/
theorem frame_ref : quiescent_RkvWeightRefIdeal := fun m ρ _ =>
  (θ_run Cert.RkvWeightRefIdeal.defs _ _).mono
    (fun r h => ⟨fun c => (h c).2.2, sem_eq_zero_of_no_sems (by decide) r.2⟩) (Cert.RkvWeightRefIdeal.Value.run m ρ)

/-- From memories that agree on the arguments both programs run and end with equal results. -/
theorem algebraic : algebraic_RkvWeightIdeal_RkvWeightRefIdeal := by
  intro m g m' g' _ h
  refine ⟨fun c => val_main_v17 (F := Ideal) (A0 m c) (A1 m c) (A2 m c), fun c => val_main_v18 (F := Ideal) (A0 m c), ?_, ?_⟩
  · refine (θ_run _ _ _).mono (fun r H c => ?_) (Cert.RkvWeightIdeal.Value.run_blocks m g)
    obtain ⟨h2, h3, hargs⟩ := H c
    exact ⟨h2.trans (final2 m c), h3.trans (final3 m c), hargs⟩
  · refine (θ_run _ _ _).mono (fun r H c => ?_) (Cert.RkvWeightRefIdeal.Value.run m' g')
    obtain ⟨h2, h3, hargs⟩ := H c
    obtain ⟨e0, e1, e2⟩ := h c
    rw [e0, e1, e2] at h2
    rw [e0] at h3
    exact ⟨h2, h3, hargs⟩

end Cert.RkvWeightValue

end
-- ==== Proof.LoraWeightBody.lean ====
/- What the points of the low-rank projections' weight's gradient leave: the running products over three blocks of rows,
   which the last point of each block of columns stores, and the running column sums. -/
module

public import proofs.«01_k».proof.Proof.Gen.LoraWeightIdeal.Value
public import Idealize.ShloMosaic.Lib.Pointwise
public import Idealize.ShloMosaic.Lib.Pipeline.ValueKit.Acc

@[expose] public section

set_option maxRecDepth 16384

noncomputable section

namespace Cert.LoraWeightBody

open Idealize.ShloMosaic Idealize.ShloMosaic.TcCoe Idealize.SL.Sem
open Cert.LoraWeightIdeal Cert.LoraWeightIdeal.Gen

theorem off0 : (![0, 0] : Fin 2 → Nat) = fun _ => 0 := funext fun a => by fin_cases a <;> rfl

/-! Reading a whole block reads the block. -/

theorem ld_left (x : Vec Ideal S1408x288 .bf16) : View.ld x (Rect.unit ![0, 0] ![1408, 288] inb_S1408x288_S1408x288_0_0) = x :=
  View.ld_unit_zero off0 _ x

theorem ld_right (x : Vec Ideal S1408x1024 .bf16) : View.ld x (Rect.unit ![0, 0] ![1408, 1024] inb_S1408x1024_S1408x1024_0_0) = x :=
  View.ld_unit_zero off0 _ x

theorem ld_sum (x : Vec Ideal S288x1024 .f32) : View.ld x (Rect.unit ![0, 0] ![288, 1024] inb_S288x1024_S288x1024_0_0) = x :=
  View.ld_unit_zero off0 _ x

theorem ld_row (x : Vec Ideal S1x288 .f32) : View.ld x (Rect.unit ![0, 0] ![1, 288] inb_S1x288_S1x288_0_0) = x :=
  View.ld_unit_zero off0 _ x

/-- One step of the products: those of one row block, added to what was there. -/
theorem step_apply (v : Vec Ideal S288x1024 .f32) (x : Vec Ideal S1408x288 .bf16) (y : Vec Ideal S1408x1024 .bf16) (i : Fin 288) (l : Fin 1024) :
    k0_pay3 (F := Ideal) v x y (ix2 i l) = v (ix2 i l) + ∑ q : Fin 1408, x (ix2 q i) * y (ix2 q l) := by
  unfold k0_pay3
  pointwise []

theorem zero_apply (i : S288x1024.Idx) : k0_pay1 (F := Ideal) i = 0 := by
  unfold k0_pay1
  pointwise []

/-- One step of the column sums: those of one row block, added to what was there. -/
theorem step_row_apply (v : Vec Ideal S1x288 .f32) (x : Vec Ideal S1408x288 .bf16) (i : Fin 288) :
    k0_pay4 (F := Ideal) v x (ix2 0 i) = v (ix2 0 i) + ∑ q : Fin 1408, x (ix2 q i) := by
  unfold k0_pay4
  pointwise []

theorem zero_row_apply (i : S1x288.Idx) : k0_pay2 (F := Ideal) i = 0 := by
  unfold k0_pay2
  pointwise []

variable (m : (ℓ : Loc nD τ sig) → Buf (Elt Ideal) ℓ) (c : Dev nD)

/-- What the point before left. -/
abbrev before (t : Fin cfg0.N) := outsAt0 m c (t.val - 1) (Nat.lt_of_le_of_lt (Nat.sub_le _ _) t.isLt)

/-- The running products after the first of a block's three points. -/
theorem sum_first (t : Fin cfg0.N) (h : t.val % 3 = 0) :
    (outsAt0 m c t.val t.isLt).2.2 = k0_pay3 (F := Ideal) (k0_pay1 (F := Ideal)) (iblk m c 0 t) (iblk m c 1 t) := by
  rw [outsAt0_A m c t h (by omega)]
  dsimp only
  unfold sout0_A_0
  rw [View.read_writes_eq_canon _ _ _ (scover0_A_0 c _ _ _ _ _ _ _ _ _ _ _ _ _ _ _)]
  unfold kernelRun0_A
  dsimp only
  sl_unfold_words
  rw [View.canon_cons_unit_zero (S := S288x1024) off0, View.readCov_unit_zero (S := S288x1024) _ off0]
  simp only [View.readAt_eq_ld, (hs0_0 t).read_unread, (hs0_1 t).read_unread, ld_left, ld_right, ld_sum, ld_row]

/-- The running products after a later point: the point before's, and this point's. -/
theorem sum_next (t : Fin cfg0.N) (h : ¬t.val % 3 = 0) :
    (outsAt0 m c t.val t.isLt).2.2 = k0_pay3 (F := Ideal) (before m c t).2.2 (iblk m c 0 t) (iblk m c 1 t) := by
  by_cases h2 : t.val % 3 = 2
  · rw [outsAt0_C m c t h h2]
    dsimp only
    unfold sout0_C_0
    rw [View.read_writes_eq_canon _ _ _ (scover0_C_0 c _ _ _ _ _ _ _ _ _ _ _ _ _ _ _ _ _)]
    unfold kernelRun0_C
    dsimp only
    sl_unfold_words
    rw [View.canon_unit_zero off0]
    simp only [View.readAt_eq_ld, (hs0_0 t).read_unread, (hs0_1 t).read_unread,
      (Memref.isWhole_whole cc0_scratch0).read_unread, ld_left, ld_right, ld_sum, ld_row]
  · rw [outsAt0_B m c t h h2]
    dsimp only
    unfold sout0_B_0
    rw [View.read_writes_eq_canon _ _ _ (scover0_B_0 c _ _ _ _ _ _ _ _ _ _ _ _ _ _ _ _ _)]
    unfold kernelRun0_B
    dsimp only
    sl_unfold_words
    rw [View.canon_unit_zero off0]
    simp only [View.readAt_eq_ld, (hs0_0 t).read_unread, (hs0_1 t).read_unread,
      (Memref.isWhole_whole cc0_scratch0).read_unread, ld_left, ld_right, ld_sum, ld_row]

/-- The running column sums after the first of a block's three points. -/
theorem row_first (t : Fin cfg0.N) (h : t.val % 3 = 0) :
    (outsAt0 m c t.val t.isLt).2.1 = k0_pay4 (F := Ideal) (k0_pay2 (F := Ideal)) (iblk m c 0 t) := by
  rw [outsAt0_A m c t h (by omega)]
  dsimp only
  unfold out0_A_3
  rw [View.read_writes_eq_canon _ _ _ (cover0_A_3 c _ _ _ _ _ _ _ _ _ _ _ _ _ _ _)]
  unfold kernelRun0_A
  dsimp only
  sl_unfold_words
  rw [View.canon_cons_unit_zero (S := S1x288) off0, View.readCov_unit_zero (S := S1x288) _ off0]
  simp only [View.readAt_eq_ld, (hs0_0 t).read_unread, (hs0_1 t).read_unread, ld_left, ld_right, ld_sum, ld_row]

/-- The running column sums after a later point: the point before's, and this point's. -/
theorem row_next (t : Fin cfg0.N) (h : ¬t.val % 3 = 0) :
    (outsAt0 m c t.val t.isLt).2.1 = k0_pay4 (F := Ideal) (before m c t).2.1 (iblk m c 0 t) := by
  by_cases h2 : t.val % 3 = 2
  · rw [outsAt0_C m c t h h2]
    dsimp only
    unfold out0_C_3
    rw [View.read_writes_eq_canon _ _ _ (cover0_C_3 c _ _ _ _ _ _ _ _ _ _ _ _ _ _ _ _ _)]
    unfold kernelRun0_C
    dsimp only
    sl_unfold_words
    rw [View.canon_unit_zero off0]
    simp only [View.readAt_eq_ld, (hs0_0 t).read_unread, (hs0_1 t).read_unread,
      (hs0_3 t).read_unread, ld_left, ld_right, ld_sum, ld_row]
  · rw [outsAt0_B m c t h h2]
    dsimp only
    unfold out0_B_3
    rw [View.read_writes_eq_canon _ _ _ (cover0_B_3 c _ _ _ _ _ _ _ _ _ _ _ _ _ _ _ _ _)]
    unfold kernelRun0_B
    dsimp only
    sl_unfold_words
    rw [View.canon_unit_zero off0]
    simp only [View.readAt_eq_ld, (hs0_0 t).read_unread, (hs0_1 t).read_unread,
      (hs0_3 t).read_unread, ld_left, ld_right, ld_sum, ld_row]

/-- What the last of a block's three points stores: the running products. -/
theorem out_last (t : Fin cfg0.N) (h : t.val % 3 = 2) (i : S288x1024.Idx) :
    (outsAt0 m c t.val t.isLt).1 i = (outsAt0 m c t.val t.isLt).2.2 i := by
  rw [sum_next m c t (by omega), outsAt0_C m c t (by omega) h]
  dsimp only
  unfold out0_C_2
  rw [View.read_writes_eq_canon _ _ _ (cover0_C_2 c _ _ _ _ _ _ _ _ _ _ _ _ _ _ _ _ _)]
  unfold kernelRun0_C
  dsimp only
  sl_unfold_words
  rw [View.canon_unit_zero off0, View.readCov_unit_zero (S := S288x1024) _ off0]
  simp only [View.readAt_eq_ld, (hs0_0 t).read_unread, (hs0_1 t).read_unread,
    (Memref.isWhole_whole cc0_scratch0).read_unread, ld_left, ld_right, ld_sum, ld_row]
  rfl

/-- The two blocks a point reads, as functions of an index. -/
abbrev left (t : Fin cfg0.N) : S1408x288.Idx → EReal := iblk m c 0 t
abbrev right (t : Fin cfg0.N) : S1408x1024.Idx → EReal := iblk m c 1 t

/-- The running products and column sums, element by element. -/
abbrev running (n : ℕ) (hn : n < cfg0.N) (p : Fin 288 × Fin 1024) : EReal := (outsAt0 m c n hn).2.2 (ix2 p.1 p.2)
abbrev runningRow (n : ℕ) (hn : n < cfg0.N) (p : Fin 288) : EReal := (outsAt0 m c n hn).2.1 (ix2 0 p)

/-- What a point adds to each. -/
abbrev added (t : Fin cfg0.N) (p : Fin 288 × Fin 1024) : EReal :=
  ∑ q : Fin 1408, left m c t (ix2 q p.1) * right m c t (ix2 q p.2)
abbrev addedRow (t : Fin cfg0.N) (p : Fin 288) : EReal := ∑ q : Fin 1408, left m c t (ix2 q p)

theorem running_first (t : Fin cfg0.N) (h : t.val % 3 = 0) (p : Fin 288 × Fin 1024) :
    running m c t.val t.isLt p = 0 + added m c t p :=
  (congrFun (sum_first m c t h) _).trans ((step_apply _ _ _ p.1 p.2).trans (congrArg (· + _) (zero_apply _)))

theorem running_next (t : Fin cfg0.N) (h : ¬t.val % 3 = 0) (p : Fin 288 × Fin 1024) :
    running m c t.val t.isLt p
      = running m c (t.val - 1) (Nat.lt_of_le_of_lt (Nat.sub_le _ _) t.isLt) p + added m c t p :=
  (congrFun (sum_next m c t h) _).trans (step_apply _ _ _ p.1 p.2)

theorem runningRow_first (t : Fin cfg0.N) (h : t.val % 3 = 0) (p : Fin 288) :
    runningRow m c t.val t.isLt p = 0 + addedRow m c t p :=
  (congrFun (row_first m c t h) _).trans ((step_row_apply _ _ p).trans (congrArg (· + _) (zero_row_apply _)))

theorem runningRow_next (t : Fin cfg0.N) (h : ¬t.val % 3 = 0) (p : Fin 288) :
    runningRow m c t.val t.isLt p
      = runningRow m c (t.val - 1) (Nat.lt_of_le_of_lt (Nat.sub_le _ _) t.isLt) p + addedRow m c t p :=
  (congrFun (row_next m c t h) _).trans (step_row_apply _ _ p)

/-- What the last point stores, element by element: the sum over the three row blocks. -/
theorem out_apply (t : Fin cfg0.N) (h : t.val % 3 = 2) (i : Fin 288) (l : Fin 1024) :
    (outsAt0 m c t.val t.isLt).1 (ix2 i l) = ∑ s : Fin 3, ∑ q : Fin 1408,
      left m c ⟨3 * (t.val / 3) + s.val, Pipeline.run_point_lt_of_flush t h s⟩ (ix2 q i)
        * right m c ⟨3 * (t.val / 3) + s.val, Pipeline.run_point_lt_of_flush t h s⟩ (ix2 q l) :=
  (out_last m c t h _).trans ((Pipeline.eq_sum_fin_of_reset_step_apply_of_flush (N := cfg0.N) (running m c) 3 (fun _ => 0)
    (added m c) (running_first m c) (running_next m c) t h (i, l)).trans (zero_add _))

/-- The column sums after it, element by element. -/
theorem row_apply (t : Fin cfg0.N) (h : t.val % 3 = 2) (i : Fin 288) :
    (outsAt0 m c t.val t.isLt).2.1 (ix2 0 i) = ∑ s : Fin 3, ∑ q : Fin 1408,
      left m c ⟨3 * (t.val / 3) + s.val, Pipeline.run_point_lt_of_flush t h s⟩ (ix2 q i) :=
  (Pipeline.eq_sum_fin_of_reset_step_apply_of_flush (N := cfg0.N) (runningRow m c) 3 (fun _ => 0)
    (addedRow m c) (runningRow_first m c) (runningRow_next m c) t h i).trans (zero_add _)

end Cert.LoraWeightBody

end
-- ==== Proof.LoraWeightArray.lean ====
/- The two arrays the low-rank projections' weight's gradient leaves are the reference's: one sum over all rows each, and the rows
   that belong to the other parts of the gradient as they came. -/
module

public import proofs.«01_k».proof.Proof.LoraWeightBody
public import proofs.«01_k».proof.Proof.Index
public import Idealize.ShloMosaic.Lib.StableHlo.ReadAt
public import proofs.«01_k».proof.Proof.Gen.LoraWeightRefIdeal.Read

@[expose] public section

set_option maxRecDepth 16384

noncomputable section

namespace Cert.LoraWeightArray

open Idealize.ShloMosaic Idealize.ShloMosaic.TcCoe Idealize.SL.Sem
open Cert.LoraWeightRefIdeal.Read
open Cert.LoraWeightIdeal Cert.LoraWeightIdeal.Gen Cert.LoraWeightBody Cert.Index

variable (m : (ℓ : Loc nD τ sig) → Buf (Elt Ideal) ℓ) (c : Dev nD)

/-! The kernel's argument arrays as functions of an index. -/

abbrev A0 : S4224x288.Idx → EReal := m ((c : Thread nD τ).loc main_arg0)
abbrev A1 : S4224x1024.Idx → EReal := m ((c : Thread nD τ).loc main_arg1)
abbrev A2 : S4640x1024.Idx → EReal := m ((c : Thread nD τ).loc main_arg2)

/-- The row of the arrays that row `q` of the `s`-th row block stands for. -/
abbrev row (s : Fin 3) (q : Fin 1408) : Fin 4224 := ⟨1408 * s.val + q.val, by omega⟩

/-- The column that column `i` of the `j`-th block of columns stands for. -/
abbrev col (j : Fin 1) (i : Fin 288) : Fin 288 := ⟨288 * j.val + i.val, by omega⟩

/-- The row of the gradient's array that it fills. -/
abbrev place (j : Fin 1) (i : Fin 288) : Fin 4640 := ⟨288 * (8 + j.val) + i.val, by omega⟩

/-- The point of the `j`-th block of columns that reads the `s`-th block of rows. -/
theorem blocks : ∀ t : Fin grid0.N,
    (win0_0.index t 0 = t.val % 3 ∧ win0_0.index t 1 = t.val / 3)
    ∧ (win0_1.index t 0 = t.val % 3 ∧ win0_1.index t 1 = 0)
    ∧ (win0_2.index t 0 = 8 + t.val / 3 ∧ win0_2.index t 1 = 0)
    ∧ (win0_3.index t 0 = 0 ∧ win0_3.index t 1 = t.val / 3) := by decide +kernel

theorem emb0 (t : Fin cfg0.N) (s : Fin 3) (j : Fin 1) (hs : t.val % 3 = s.val) (hj : t.val / 3 = j.val)
    (q : Fin 1408) (i : Fin 288) : ((cfg0.win 0).blk t).view.emb (ix2 q i) = ix2 (row s q) (col j i) :=
  ix2_of ((win0_0.rect_emb_val t (ix2 q i) 0).trans (at_row ((blocks t).1.1.trans hs)))
    ((win0_0.rect_emb_val t (ix2 q i) 1).trans (at_row ((blocks t).1.2.trans hj)))

theorem emb1 (t : Fin cfg0.N) (s : Fin 3) (hs : t.val % 3 = s.val) (q : Fin 1408) (l : Fin 1024) :
    ((cfg0.win 1).blk t).view.emb (ix2 q l) = ix2 (row s q) l :=
  ix2_of ((win0_1.rect_emb_val t (ix2 q l) 0).trans (at_row ((blocks t).2.1.1.trans hs)))
    ((win0_1.rect_emb_val t (ix2 q l) 1).trans (at_all (blocks t).2.1.2))

/-- The array's height is no multiple of a block's, but every block the points write lies whole in it. -/
theorem whole2 : ∀ (t : Fin grid0.N) (a : Fin 2), (win0_2.xblock (grid0.coords t)).size a = S288x1024.size a := by decide +kernel

/-- An element of a written block. -/
def at2 (t : Fin grid0.N) (i : Fin 288) (l : Fin 1024) : (win0_2.xblock (grid0.coords t)).Idx :=
  fun a => ⟨((ix2 i l : S288x1024.Idx) a).val, lt_of_lt_of_eq ((ix2 i l : S288x1024.Idx) a).isLt (whole2 t a).symm⟩

theorem eq_at2 (t : Fin grid0.N) (y : (win0_2.xblock (grid0.coords t)).Idx) : ∃ (i : Fin 288) (l : Fin 1024), y = at2 t i l :=
  ⟨⟨(y 0).val, lt_of_lt_of_eq (y 0).isLt (whole2 t 0)⟩, ⟨(y 1).val, lt_of_lt_of_eq (y 1).isLt (whole2 t 1)⟩, by
    funext a
    fin_cases a <;> rfl⟩

theorem emb2 (t : Fin cfg0.N) (j : Fin 1) (hj : t.val / 3 = j.val) (i : Fin 288) (l : Fin 1024) :
    ((cfg0.win 2).blk t).view.emb (at2 t i l) = ix2 (place j i) l :=
  ix2_of ((win0_2.rect_emb_val t (at2 t i l) 0).trans (at_row (r := i.val) ((blocks t).2.2.1.1.trans (congrArg (8 + ·) hj))))
    ((win0_2.rect_emb_val t (at2 t i l) 1).trans (at_all (k := l.val) (blocks t).2.2.1.2))

theorem emb3 (t : Fin cfg0.N) (j : Fin 1) (hj : t.val / 3 = j.val) (k : Fin 1) (i : Fin 288) :
    ((cfg0.win 3).blk t).view.emb (ix2 k i) = ix2 k (col j i) :=
  ix2_of ((win0_3.rect_emb_val t (ix2 k i) 0).trans (at_all (blocks t).2.2.2.1))
    ((win0_3.rect_emb_val t (ix2 k i) 1).trans (at_row ((blocks t).2.2.2.2.trans hj)))

/-! What the two blocks hold at a point. -/

theorem read0 (t : Fin cfg0.N) (s : Fin 3) (j : Fin 1) (hs : t.val % 3 = s.val) (hj : t.val / 3 = j.val)
    (q : Fin 1408) (i : Fin 288) : left m c t (ix2 q i) = A0 m c (ix2 (row s q) (col j i)) := by
  unfold left iblk
  rw [View.read_apply, emb0 t s j hs hj]
  exact congrFun (V_main_arg0 m c) _

theorem read1 (t : Fin cfg0.N) (s : Fin 3) (hs : t.val % 3 = s.val) (q : Fin 1408) (l : Fin 1024) :
    right m c t (ix2 q l) = A1 m c (ix2 (row s q) l) := by
  unfold right iblk
  rw [View.read_apply, emb1 t s hs]
  exact congrFun (V_main_arg1 m c) _

/-- The reference's gradient is one sum over the rows, here by its three blocks of them. -/
theorem reference_apply (a : Fin 288) (l : Fin 1024) : val_main_v15 (F := Ideal) (A0 m c) (A1 m c) (ix2 a l)
    = ∑ s : Fin 3, ∑ q : Fin 1408, A0 m c (ix2 (row s q) a) * A1 m c (ix2 (row s q) l) := by
  pointwise [val_main_v15, val_main_v14, val_main_v12, val_main_v11, val_main_v7, val_main_v2]
  refine (Fin.sum_univ_tiles 3 1408 rfl _).trans ?_
  exact Finset.sum_congr rfl fun s _ => Finset.sum_congr rfl fun q _ =>
    congrArg (fun r : Fin 4224 => A0 m c (ix2 r a) * A1 m c (ix2 r l)) (Fin.ext (congrArg (· + q.val) (Nat.mul_comm _ _)))

/-- So are its column sums. -/
theorem reference_row_apply (k : Fin 1) (a : Fin 288) : val_main_v18 (F := Ideal) (A0 m c) (ix2 k a)
    = ∑ s : Fin 3, ∑ q : Fin 1408, A0 m c (ix2 (row s q) a) := by
  pointwise [val_main_v18, val_main_v10, val_main_v9, val_main_v8, val_main_v7, val_main_cst_1, val_main_cst_2]
  refine (Fin.sum_univ_one _).trans ?_
  refine (Fin.sum_univ_tiles 3 1408 rfl _).trans ?_
  exact Finset.sum_congr rfl fun s _ => Finset.sum_congr rfl fun q _ =>
    congrArg (fun r : Fin 4224 => A0 m c (ix2 r a)) (Fin.ext (congrArg (· + q.val) (Nat.mul_comm _ _)))

/-- What the last point of a block of columns writes back is the reference's block. -/
theorem written (t : Fin cfg0.N) (h : t.val % 3 = 2) (j : Fin 1) (hj : t.val / 3 = j.val) (i : Fin 288) (l : Fin 1024) :
    (outsAt0 m c t.val t.isLt).1 (ix2 i l) = val_main_v15 (F := Ideal) (A0 m c) (A1 m c) (ix2 (col j i) l) := by
  refine (out_apply m c t h i l).trans ((reference_apply m c _ l).trans ?_).symm
  refine Finset.sum_congr rfl fun s _ => Finset.sum_congr rfl fun q _ => ?_
  have hs : (3 * (t.val / 3) + s.val) % 3 = s.val := by omega
  have hd : (3 * (t.val / 3) + s.val) / 3 = j.val := by omega
  exact (congrArg₂ (· * ·) (read0 m c ⟨_, Pipeline.run_point_lt_of_flush t h s⟩ s j hs hd q i)
    (read1 m c ⟨_, Pipeline.run_point_lt_of_flush t h s⟩ s hs q l)).symm

theorem written_row (t : Fin cfg0.N) (h : t.val % 3 = 2) (j : Fin 1) (hj : t.val / 3 = j.val) (k : Fin 1) (i : Fin 288) :
    (outsAt0 m c t.val t.isLt).2.1 (ix2 k i) = val_main_v18 (F := Ideal) (A0 m c) (ix2 k (col j i)) := by
  obtain rfl : k = 0 := Subsingleton.elim _ _
  refine (row_apply m c t h i).trans ((reference_row_apply m c 0 _).trans ?_).symm
  refine Finset.sum_congr rfl fun s _ => Finset.sum_congr rfl fun q _ => ?_
  exact (read0 m c ⟨_, Pipeline.run_point_lt_of_flush t h s⟩ s j (by dsimp only; omega) (by dsimp only; omega) q i).symm

/-! The reference's array, part by part: the gradient's rows, and the others as they came. -/

theorem inside (j : Fin 1) (i : Fin 288) (l : Fin 1024) :
    val_main_v17 (F := Ideal) (A0 m c) (A1 m c) (A2 m c) (ix2 (place j i) l) = val_main_v15 (F := Ideal) (A0 m c) (A1 m c) (ix2 (col j i) l) :=
  concatenate_apply_piece (t := Cert.LoraWeightRefIdeal.S4640x1024) 0 _ _ (ix2 (place j i) l) 1 (by show 1 < 3; omega) _ (val_main_v15 (F := Ideal) (A0 m c) (A1 m c)) rfl rfl 2304 rfl
    (ix2 (col j i) l) (fun b hb => by
      have h0 : b.val ≠ 0 := fun e => hb (Fin.ext e)
      have h2 : b.val < 2 := b.isLt
      obtain rfl : b = (1 : Fin 2) := Fin.ext (by show b.val = 1; omega)
      rfl) (by show 2304 + (288 * j.val + i.val) = 288 * (8 + j.val) + i.val; omega)

theorem before_it (b : Fin 4640) (h : b.val < 2304) (l : Fin 1024) :
    val_main_v17 (F := Ideal) (A0 m c) (A1 m c) (A2 m c) (ix2 b l) = A2 m c (ix2 b l) :=
  (concatenate_apply_piece (t := Cert.LoraWeightRefIdeal.S4640x1024) 0 _ _ (ix2 b l) 0 (by show 0 < 3; omega) _ (val_main_v13 (F := Ideal) (A2 m c)) rfl rfl 0 rfl
    (ix2 ⟨b.val, h⟩ l) (fun b hb => by
      have h0 : b.val ≠ 0 := fun e => hb (Fin.ext e)
      have h2 : b.val < 2 := b.isLt
      obtain rfl : b = (1 : Fin 2) := Fin.ext (by show b.val = 1; omega)
      rfl) (Nat.zero_add _)).trans
    ((val_main_v13_apply _ _).trans (congrArg (A2 m c) (ix2_of rfl rfl)))

theorem after_it (b : Fin 4640) (h : 2592 ≤ b.val) (l : Fin 1024) :
    val_main_v17 (F := Ideal) (A0 m c) (A1 m c) (A2 m c) (ix2 b l) = A2 m c (ix2 b l) :=
  (concatenate_apply_piece (t := Cert.LoraWeightRefIdeal.S4640x1024) 0 _ _ (ix2 b l) 2 (by show 2 < 3; omega) _ (val_main_v16 (F := Ideal) (A2 m c)) rfl rfl 2592 rfl
    (ix2 ⟨b.val - 2592, by omega⟩ l) (fun b hb => by
      have h0 : b.val ≠ 0 := fun e => hb (Fin.ext e)
      have h2 : b.val < 2 := b.isLt
      obtain rfl : b = (1 : Fin 2) := Fin.ext (by show b.val = 1; omega)
      rfl) (by show 2592 + (b.val - 2592) = b.val; omega)).trans
    ((val_main_v16_apply _ _).trans (congrArg (A2 m c) (ix2_of (by show 2592 + (b.val - 2592) = b.val; omega) rfl)))

/-- The call is handed the array with the other rows in it. -/
theorem handed (i : S4640x1024.Idx) : V m c main_v0_0 i = A2 m c i := by
  unfold V
  after_reads_at
  rfl

/-- What the last point of a block of columns writes back, as a block of the whole array. -/
theorem block2 (t : Fin cfg0.N) (hf : (cfg0.win 2).flush t = true) :
    (dats m 0 c).flushed 2 t = ((cfg0.win 2).blk t).view.read (Elt Ideal) (val_main_v17 (F := Ideal) (A0 m c) (A1 m c) (A2 m c)) := by
  have h : t.val % 3 = 2 := (flush0_2 t).mp hf
  have hN : t.val < 3 := lt_of_lt_of_eq t.isLt N_0
  rw [Cert.LoraWeightIdeal.Value.flushed2]
  funext y
  obtain ⟨r, k, rfl⟩ := eq_at2 t y
  rw [View.read_apply, emb2 t ⟨t.val / 3, by omega⟩ rfl]
  exact (written m c t h ⟨t.val / 3, by omega⟩ rfl r k).trans (inside m c _ r k).symm

/-- A row of the gradient's is in a block that is written back. -/
theorem covered (i : S4640x1024.Idx) (h : 2304 ≤ (i 0).val ∧ (i 0).val < 2592) :
    ∃ t : Fin cfg0.N, (cfg0.win 2).flush t = true ∧ i ∈ ((cfg0.win 2).blk t).view.set := by
  have e : i 0 = place ⟨((i 0).val - 2304) / 288, by omega⟩ ⟨((i 0).val - 2304) % 288, by omega⟩ :=
    Fin.ext (by show (i 0).val = 288 * (8 + ((i 0).val - 2304) / 288) + ((i 0).val - 2304) % 288; omega)
  have ht : 3 * (((i 0).val - 2304) / 288) + 2 < cfg0.N := lt_of_lt_of_eq (by omega) N_0.symm
  rw [(eq_ix2 i).trans ((congrArg (ix2 · (i 1)) e).trans
    (emb2 ⟨_, ht⟩ ⟨((i 0).val - 2304) / 288, by omega⟩ (by show (3 * (((i 0).val - 2304) / 288) + 2) / 3 = ((i 0).val - 2304) / 288; omega) _ (i 1)).symm)]
  exact ⟨⟨_, ht⟩, (flush0_2 ⟨_, ht⟩).mpr (by show (3 * (((i 0).val - 2304) / 288) + 2) % 3 = 2; omega), View.emb_mem_set _ _⟩

/-- The array: the gradient's rows are covered by blocks that are the reference's, the others stay. -/
theorem final2 : (dats m 0 c).arrAt 2 cfg0.N = val_main_v17 (F := Ideal) (A0 m c) (A1 m c) (A2 m c) := by
  funext i
  rw [(dats m 0 c).arrAt_eq_piecewise 2 _ (block2 m c) i]
  split
  · rfl
  · rename_i hn
    have hi : ¬(2304 ≤ (i 0).val ∧ (i 0).val < 2592) := fun h => hn (covered i h)
    refine ((congrFun (A_eq m c 2) i).trans (handed m c i)).trans ?_
    obtain ⟨b, l, rfl⟩ : ∃ (b : Fin 4640) (l : Fin 1024), i = ix2 b l := ⟨i 0, i 1, eq_ix2 i⟩
    by_cases hb : b.val < 2304
    · exact (before_it m c b hb l).symm
    · exact (after_it m c b (Nat.le_of_not_lt fun h => hi ⟨Nat.le_of_not_lt hb, h⟩) l).symm

/-- The column sums: every block of columns leaves its own. -/
theorem final3 : (dats m 0 c).arrAt 3 cfg0.N = val_main_v18 (F := Ideal) (A0 m c) := by
  refine (dats m 0 c).arrAt_eq_of_cover 3 _ (fun t hf => ?_) (fun i => ?_)
  · have h : t.val % 3 = 2 := (flush0_3 t).mp hf
    have hN : t.val < 3 := lt_of_lt_of_eq t.isLt N_0
    rw [Cert.LoraWeightIdeal.Value.flushed3]
    funext y
    obtain ⟨r, k, rfl⟩ : ∃ (r : Fin 1) (k : Fin 288), y = ix2 r k := ⟨y 0, y 1, eq_ix2 y⟩
    rw [View.read_apply, emb3 t ⟨t.val / 3, by omega⟩ rfl]
    exact written_row m c t h ⟨t.val / 3, by omega⟩ rfl r k
  · have hi : (i 1).val < 288 := (i 1).isLt
    have e : i 1 = col ⟨(i 1).val / 288, by omega⟩ ⟨(i 1).val % 288, by omega⟩ :=
      Fin.ext (by show (i 1).val = 288 * ((i 1).val / 288) + (i 1).val % 288; omega)
    have ht : 3 * ((i 1).val / 288) + 2 < cfg0.N := lt_of_lt_of_eq (by omega) N_0.symm
    rw [(eq_ix2 i).trans ((congrArg (ix2 (i 0)) e).trans
      (emb3 ⟨_, ht⟩ ⟨(i 1).val / 288, by omega⟩ (by show (3 * ((i 1).val / 288) + 2) / 3 = (i 1).val / 288; omega) (i 0) _).symm)]
    exact ⟨⟨_, ht⟩, (flush0_3 ⟨_, ht⟩).mpr (by show (3 * ((i 1).val / 288) + 2) % 3 = 2; omega), View.emb_mem_set _ _⟩

end Cert.LoraWeightArray

end
-- ==== Proof.LoraWeightValue.lean ====
/- The low-rank projections' weight's gradient: the kernel and the reference leave the same two arrays. -/
module

public import proofs.«01_k».proof.Defs
public import proofs.«01_k».proof.Proof.LoraWeightArray

@[expose] public section

set_option maxRecDepth 16384

noncomputable section

namespace Cert.LoraWeightValue

open Idealize.ShloMosaic Idealize.ShloMosaic.TcCoe Idealize.SL.Sem
open Cert.LoraWeightRefIdeal.Read Cert.LoraWeightArray

/-- The reference terminates, keeps its arguments and leaves every counter at zero. -/
theorem frame_ref : quiescent_LoraWeightRefIdeal := fun m ρ _ =>
  (θ_run Cert.LoraWeightRefIdeal.defs _ _).mono
    (fun r h => ⟨fun c => (h c).2.2, sem_eq_zero_of_no_sems (by decide) r.2⟩) (Cert.LoraWeightRefIdeal.Value.run m ρ)

/-- From memories that agree on the arguments both programs run and end with equal results. -/
theorem algebraic : algebraic_LoraWeightIdeal_LoraWeightRefIdeal := by
  intro m g m' g' _ h
  refine ⟨fun c => val_main_v17 (F := Ideal) (A0 m c) (A1 m c) (A2 m c), fun c => val_main_v18 (F := Ideal) (A0 m c), ?_, ?_⟩
  · refine (θ_run _ _ _).mono (fun r H c => ?_) (Cert.LoraWeightIdeal.Value.run_blocks m g)
    obtain ⟨h2, h3, hargs⟩ := H c
    exact ⟨h2.trans (final2 m c), h3.trans (final3 m c), hargs⟩
  · refine (θ_run _ _ _).mono (fun r H c => ?_) (Cert.LoraWeightRefIdeal.Value.run m' g')
    obtain ⟨h2, h3, hargs⟩ := H c
    obtain ⟨e0, e1, e2⟩ := h c
    rw [e0, e1, e2] at h2
    rw [e0] at h3
    exact ⟨h2, h3, hargs⟩

end Cert.LoraWeightValue

end
-- ==== Proof.QkvWeightBody.lean ====
/- What the points of the attention projections' weight's gradient leave: the running products over three blocks of rows,
   which the last point of each block of columns stores, and the running column sums. -/
module

public import proofs.«01_k».proof.Proof.Gen.QkvWeightIdeal.Value
public import Idealize.ShloMosaic.Lib.Pointwise
public import Idealize.ShloMosaic.Lib.Pipeline.ValueKit.Acc

@[expose] public section

set_option maxRecDepth 16384

noncomputable section

namespace Cert.QkvWeightBody

open Idealize.ShloMosaic Idealize.ShloMosaic.TcCoe Idealize.SL.Sem
open Cert.QkvWeightIdeal Cert.QkvWeightIdeal.Gen

theorem off0 : (![0, 0] : Fin 2 → Nat) = fun _ => 0 := funext fun a => by fin_cases a <;> rfl

/-! Reading a whole block reads the block. -/

theorem ld_left (x : Vec Ideal S1408x768 .bf16) : View.ld x (Rect.unit ![0, 0] ![1408, 768] inb_S1408x768_S1408x768_0_0) = x :=
  View.ld_unit_zero off0 _ x

theorem ld_right (x : Vec Ideal S1408x1024 .bf16) : View.ld x (Rect.unit ![0, 0] ![1408, 1024] inb_S1408x1024_S1408x1024_0_0) = x :=
  View.ld_unit_zero off0 _ x

theorem ld_sum (x : Vec Ideal S768x1024 .f32) : View.ld x (Rect.unit ![0, 0] ![768, 1024] inb_S768x1024_S768x1024_0_0) = x :=
  View.ld_unit_zero off0 _ x

theorem ld_row (x : Vec Ideal S1x768 .f32) : View.ld x (Rect.unit ![0, 0] ![1, 768] inb_S1x768_S1x768_0_0) = x :=
  View.ld_unit_zero off0 _ x

/-- One step of the products: those of one row block, added to what was there. -/
theorem step_apply (v : Vec Ideal S768x1024 .f32) (x : Vec Ideal S1408x768 .bf16) (y : Vec Ideal S1408x1024 .bf16) (i : Fin 768) (l : Fin 1024) :
    k0_pay3 (F := Ideal) v x y (ix2 i l) = v (ix2 i l) + ∑ q : Fin 1408, x (ix2 q i) * y (ix2 q l) := by
  unfold k0_pay3
  pointwise []

theorem zero_apply (i : S768x1024.Idx) : k0_pay1 (F := Ideal) i = 0 := by
  unfold k0_pay1
  pointwise []

/-- One step of the column sums: those of one row block, added to what was there. -/
theorem step_row_apply (v : Vec Ideal S1x768 .f32) (x : Vec Ideal S1408x768 .bf16) (i : Fin 768) :
    k0_pay4 (F := Ideal) v x (ix2 0 i) = v (ix2 0 i) + ∑ q : Fin 1408, x (ix2 q i) := by
  unfold k0_pay4
  pointwise []

theorem zero_row_apply (i : S1x768.Idx) : k0_pay2 (F := Ideal) i = 0 := by
  unfold k0_pay2
  pointwise []

variable (m : (ℓ : Loc nD τ sig) → Buf (Elt Ideal) ℓ) (c : Dev nD)

/-- What the point before left. -/
abbrev before (t : Fin cfg0.N) := outsAt0 m c (t.val - 1) (Nat.lt_of_le_of_lt (Nat.sub_le _ _) t.isLt)

/-- The running products after the first of a block's three points. -/
theorem sum_first (t : Fin cfg0.N) (h : t.val % 3 = 0) :
    (outsAt0 m c t.val t.isLt).2.2 = k0_pay3 (F := Ideal) (k0_pay1 (F := Ideal)) (iblk m c 0 t) (iblk m c 1 t) := by
  rw [outsAt0_A m c t h (by omega)]
  dsimp only
  unfold sout0_A_0
  rw [View.read_writes_eq_canon _ _ _ (scover0_A_0 c _ _ _ _ _ _ _ _ _ _ _ _ _ _ _)]
  unfold kernelRun0_A
  dsimp only
  sl_unfold_words
  rw [View.canon_cons_unit_zero (S := S768x1024) off0, View.readCov_unit_zero (S := S768x1024) _ off0]
  simp only [View.readAt_eq_ld, (hs0_0 t).read_unread, (hs0_1 t).read_unread, ld_left, ld_right, ld_sum, ld_row]

/-- The running products after a later point: the point before's, and this point's. -/
theorem sum_next (t : Fin cfg0.N) (h : ¬t.val % 3 = 0) :
    (outsAt0 m c t.val t.isLt).2.2 = k0_pay3 (F := Ideal) (before m c t).2.2 (iblk m c 0 t) (iblk m c 1 t) := by
  by_cases h2 : t.val % 3 = 2
  · rw [outsAt0_C m c t h h2]
    dsimp only
    unfold sout0_C_0
    rw [View.read_writes_eq_canon _ _ _ (scover0_C_0 c _ _ _ _ _ _ _ _ _ _ _ _ _ _ _ _ _)]
    unfold kernelRun0_C
    dsimp only
    sl_unfold_words
    rw [View.canon_unit_zero off0]
    simp only [View.readAt_eq_ld, (hs0_0 t).read_unread, (hs0_1 t).read_unread,
      (Memref.isWhole_whole cc0_scratch0).read_unread, ld_left, ld_right, ld_sum, ld_row]
  · rw [outsAt0_B m c t h h2]
    dsimp only
    unfold sout0_B_0
    rw [View.read_writes_eq_canon _ _ _ (scover0_B_0 c _ _ _ _ _ _ _ _ _ _ _ _ _ _ _ _ _)]
    unfold kernelRun0_B
    dsimp only
    sl_unfold_words
    rw [View.canon_unit_zero off0]
    simp only [View.readAt_eq_ld, (hs0_0 t).read_unread, (hs0_1 t).read_unread,
      (Memref.isWhole_whole cc0_scratch0).read_unread, ld_left, ld_right, ld_sum, ld_row]

/-- The running column sums after the first of a block's three points. -/
theorem row_first (t : Fin cfg0.N) (h : t.val % 3 = 0) :
    (outsAt0 m c t.val t.isLt).2.1 = k0_pay4 (F := Ideal) (k0_pay2 (F := Ideal)) (iblk m c 0 t) := by
  rw [outsAt0_A m c t h (by omega)]
  dsimp only
  unfold out0_A_3
  rw [View.read_writes_eq_canon _ _ _ (cover0_A_3 c _ _ _ _ _ _ _ _ _ _ _ _ _ _ _)]
  unfold kernelRun0_A
  dsimp only
  sl_unfold_words
  rw [View.canon_cons_unit_zero (S := S1x768) off0, View.readCov_unit_zero (S := S1x768) _ off0]
  simp only [View.readAt_eq_ld, (hs0_0 t).read_unread, (hs0_1 t).read_unread, ld_left, ld_right, ld_sum, ld_row]

/-- The running column sums after a later point: the point before's, and this point's. -/
theorem row_next (t : Fin cfg0.N) (h : ¬t.val % 3 = 0) :
    (outsAt0 m c t.val t.isLt).2.1 = k0_pay4 (F := Ideal) (before m c t).2.1 (iblk m c 0 t) := by
  by_cases h2 : t.val % 3 = 2
  · rw [outsAt0_C m c t h h2]
    dsimp only
    unfold out0_C_3
    rw [View.read_writes_eq_canon _ _ _ (cover0_C_3 c _ _ _ _ _ _ _ _ _ _ _ _ _ _ _ _ _)]
    unfold kernelRun0_C
    dsimp only
    sl_unfold_words
    rw [View.canon_unit_zero off0]
    simp only [View.readAt_eq_ld, (hs0_0 t).read_unread, (hs0_1 t).read_unread,
      (hs0_3 t).read_unread, ld_left, ld_right, ld_sum, ld_row]
  · rw [outsAt0_B m c t h h2]
    dsimp only
    unfold out0_B_3
    rw [View.read_writes_eq_canon _ _ _ (cover0_B_3 c _ _ _ _ _ _ _ _ _ _ _ _ _ _ _ _ _)]
    unfold kernelRun0_B
    dsimp only
    sl_unfold_words
    rw [View.canon_unit_zero off0]
    simp only [View.readAt_eq_ld, (hs0_0 t).read_unread, (hs0_1 t).read_unread,
      (hs0_3 t).read_unread, ld_left, ld_right, ld_sum, ld_row]

/-- What the last of a block's three points stores: the running products. -/
theorem out_last (t : Fin cfg0.N) (h : t.val % 3 = 2) (i : S768x1024.Idx) :
    (outsAt0 m c t.val t.isLt).1 i = (outsAt0 m c t.val t.isLt).2.2 i := by
  rw [sum_next m c t (by omega), outsAt0_C m c t (by omega) h]
  dsimp only
  unfold out0_C_2
  rw [View.read_writes_eq_canon _ _ _ (cover0_C_2 c _ _ _ _ _ _ _ _ _ _ _ _ _ _ _ _ _)]
  unfold kernelRun0_C
  dsimp only
  sl_unfold_words
  rw [View.canon_unit_zero off0, View.readCov_unit_zero (S := S768x1024) _ off0]
  simp only [View.readAt_eq_ld, (hs0_0 t).read_unread, (hs0_1 t).read_unread,
    (Memref.isWhole_whole cc0_scratch0).read_unread, ld_left, ld_right, ld_sum, ld_row]
  rfl

/-- The two blocks a point reads, as functions of an index. -/
abbrev left (t : Fin cfg0.N) : S1408x768.Idx → EReal := iblk m c 0 t
abbrev right (t : Fin cfg0.N) : S1408x1024.Idx → EReal := iblk m c 1 t

/-- The running products and column sums, element by element. -/
abbrev running (n : ℕ) (hn : n < cfg0.N) (p : Fin 768 × Fin 1024) : EReal := (outsAt0 m c n hn).2.2 (ix2 p.1 p.2)
abbrev runningRow (n : ℕ) (hn : n < cfg0.N) (p : Fin 768) : EReal := (outsAt0 m c n hn).2.1 (ix2 0 p)

/-- What a point adds to each. -/
abbrev added (t : Fin cfg0.N) (p : Fin 768 × Fin 1024) : EReal :=
  ∑ q : Fin 1408, left m c t (ix2 q p.1) * right m c t (ix2 q p.2)
abbrev addedRow (t : Fin cfg0.N) (p : Fin 768) : EReal := ∑ q : Fin 1408, left m c t (ix2 q p)

theorem running_first (t : Fin cfg0.N) (h : t.val % 3 = 0) (p : Fin 768 × Fin 1024) :
    running m c t.val t.isLt p = 0 + added m c t p :=
  (congrFun (sum_first m c t h) _).trans ((step_apply _ _ _ p.1 p.2).trans (congrArg (· + _) (zero_apply _)))

theorem running_next (t : Fin cfg0.N) (h : ¬t.val % 3 = 0) (p : Fin 768 × Fin 1024) :
    running m c t.val t.isLt p
      = running m c (t.val - 1) (Nat.lt_of_le_of_lt (Nat.sub_le _ _) t.isLt) p + added m c t p :=
  (congrFun (sum_next m c t h) _).trans (step_apply _ _ _ p.1 p.2)

theorem runningRow_first (t : Fin cfg0.N) (h : t.val % 3 = 0) (p : Fin 768) :
    runningRow m c t.val t.isLt p = 0 + addedRow m c t p :=
  (congrFun (row_first m c t h) _).trans ((step_row_apply _ _ p).trans (congrArg (· + _) (zero_row_apply _)))

theorem runningRow_next (t : Fin cfg0.N) (h : ¬t.val % 3 = 0) (p : Fin 768) :
    runningRow m c t.val t.isLt p
      = runningRow m c (t.val - 1) (Nat.lt_of_le_of_lt (Nat.sub_le _ _) t.isLt) p + addedRow m c t p :=
  (congrFun (row_next m c t h) _).trans (step_row_apply _ _ p)

/-- What the last point stores, element by element: the sum over the three row blocks. -/
theorem out_apply (t : Fin cfg0.N) (h : t.val % 3 = 2) (i : Fin 768) (l : Fin 1024) :
    (outsAt0 m c t.val t.isLt).1 (ix2 i l) = ∑ s : Fin 3, ∑ q : Fin 1408,
      left m c ⟨3 * (t.val / 3) + s.val, Pipeline.run_point_lt_of_flush t h s⟩ (ix2 q i)
        * right m c ⟨3 * (t.val / 3) + s.val, Pipeline.run_point_lt_of_flush t h s⟩ (ix2 q l) :=
  (out_last m c t h _).trans ((Pipeline.eq_sum_fin_of_reset_step_apply_of_flush (N := cfg0.N) (running m c) 3 (fun _ => 0)
    (added m c) (running_first m c) (running_next m c) t h (i, l)).trans (zero_add _))

/-- The column sums after it, element by element. -/
theorem row_apply (t : Fin cfg0.N) (h : t.val % 3 = 2) (i : Fin 768) :
    (outsAt0 m c t.val t.isLt).2.1 (ix2 0 i) = ∑ s : Fin 3, ∑ q : Fin 1408,
      left m c ⟨3 * (t.val / 3) + s.val, Pipeline.run_point_lt_of_flush t h s⟩ (ix2 q i) :=
  (Pipeline.eq_sum_fin_of_reset_step_apply_of_flush (N := cfg0.N) (runningRow m c) 3 (fun _ => 0)
    (addedRow m c) (runningRow_first m c) (runningRow_next m c) t h i).trans (zero_add _)

end Cert.QkvWeightBody

end
-- ==== Proof.QkvWeightArray.lean ====
/- The two arrays the attention projections' weight's gradient leaves are the reference's: one sum over all rows each, and the rows
   that belong to the other parts of the gradient as they came. -/
module

public import proofs.«01_k».proof.Proof.QkvWeightBody
public import proofs.«01_k».proof.Proof.Index
public import Idealize.ShloMosaic.Lib.StableHlo.ReadAt
public import proofs.«01_k».proof.Proof.Gen.QkvWeightRefIdeal.Read

@[expose] public section

set_option maxRecDepth 16384

noncomputable section

namespace Cert.QkvWeightArray

open Idealize.ShloMosaic Idealize.ShloMosaic.TcCoe Idealize.SL.Sem
open Cert.QkvWeightRefIdeal.Read
open Cert.QkvWeightIdeal Cert.QkvWeightIdeal.Gen Cert.QkvWeightBody Cert.Index

variable (m : (ℓ : Loc nD τ sig) → Buf (Elt Ideal) ℓ) (c : Dev nD)

/-! The kernel's argument arrays as functions of an index. -/

abbrev A0 : S4224x768.Idx → EReal := m ((c : Thread nD τ).loc main_arg0)
abbrev A1 : S4224x1024.Idx → EReal := m ((c : Thread nD τ).loc main_arg1)
abbrev A2 : S4640x1024.Idx → EReal := m ((c : Thread nD τ).loc main_arg2)

/-- The row of the arrays that row `q` of the `s`-th row block stands for. -/
abbrev row (s : Fin 3) (q : Fin 1408) : Fin 4224 := ⟨1408 * s.val + q.val, by omega⟩

/-- The column that column `i` of the `j`-th block of columns stands for. -/
abbrev col (j : Fin 1) (i : Fin 768) : Fin 768 := ⟨768 * j.val + i.val, by omega⟩

/-- The row of the gradient's array that it fills. -/
abbrev place (j : Fin 1) (i : Fin 768) : Fin 4640 := ⟨768 * j.val + i.val, by omega⟩

/-- The point of the `j`-th block of columns that reads the `s`-th block of rows. -/
theorem blocks : ∀ t : Fin grid0.N,
    (win0_0.index t 0 = t.val % 3 ∧ win0_0.index t 1 = t.val / 3)
    ∧ (win0_1.index t 0 = t.val % 3 ∧ win0_1.index t 1 = 0)
    ∧ (win0_2.index t 0 = t.val / 3 ∧ win0_2.index t 1 = 0)
    ∧ (win0_3.index t 0 = 0 ∧ win0_3.index t 1 = t.val / 3) := by decide +kernel

theorem emb0 (t : Fin cfg0.N) (s : Fin 3) (j : Fin 1) (hs : t.val % 3 = s.val) (hj : t.val / 3 = j.val)
    (q : Fin 1408) (i : Fin 768) : ((cfg0.win 0).blk t).view.emb (ix2 q i) = ix2 (row s q) (col j i) :=
  ix2_of ((win0_0.rect_emb_val t (ix2 q i) 0).trans (at_row ((blocks t).1.1.trans hs)))
    ((win0_0.rect_emb_val t (ix2 q i) 1).trans (at_row ((blocks t).1.2.trans hj)))

theorem emb1 (t : Fin cfg0.N) (s : Fin 3) (hs : t.val % 3 = s.val) (q : Fin 1408) (l : Fin 1024) :
    ((cfg0.win 1).blk t).view.emb (ix2 q l) = ix2 (row s q) l :=
  ix2_of ((win0_1.rect_emb_val t (ix2 q l) 0).trans (at_row ((blocks t).2.1.1.trans hs)))
    ((win0_1.rect_emb_val t (ix2 q l) 1).trans (at_all (blocks t).2.1.2))

/-- The array's height is no multiple of a block's, but every block the points write lies whole in it. -/
theorem whole2 : ∀ (t : Fin grid0.N) (a : Fin 2), (win0_2.xblock (grid0.coords t)).size a = S768x1024.size a := by decide +kernel

/-- An element of a written block. -/
def at2 (t : Fin grid0.N) (i : Fin 768) (l : Fin 1024) : (win0_2.xblock (grid0.coords t)).Idx :=
  fun a => ⟨((ix2 i l : S768x1024.Idx) a).val, lt_of_lt_of_eq ((ix2 i l : S768x1024.Idx) a).isLt (whole2 t a).symm⟩

theorem eq_at2 (t : Fin grid0.N) (y : (win0_2.xblock (grid0.coords t)).Idx) : ∃ (i : Fin 768) (l : Fin 1024), y = at2 t i l :=
  ⟨⟨(y 0).val, lt_of_lt_of_eq (y 0).isLt (whole2 t 0)⟩, ⟨(y 1).val, lt_of_lt_of_eq (y 1).isLt (whole2 t 1)⟩, by
    funext a
    fin_cases a <;> rfl⟩

theorem emb2 (t : Fin cfg0.N) (j : Fin 1) (hj : t.val / 3 = j.val) (i : Fin 768) (l : Fin 1024) :
    ((cfg0.win 2).blk t).view.emb (at2 t i l) = ix2 (place j i) l :=
  ix2_of ((win0_2.rect_emb_val t (at2 t i l) 0).trans (at_row (r := i.val) ((blocks t).2.2.1.1.trans hj)))
    ((win0_2.rect_emb_val t (at2 t i l) 1).trans (at_all (k := l.val) (blocks t).2.2.1.2))

theorem emb3 (t : Fin cfg0.N) (j : Fin 1) (hj : t.val / 3 = j.val) (k : Fin 1) (i : Fin 768) :
    ((cfg0.win 3).blk t).view.emb (ix2 k i) = ix2 k (col j i) :=
  ix2_of ((win0_3.rect_emb_val t (ix2 k i) 0).trans (at_all (blocks t).2.2.2.1))
    ((win0_3.rect_emb_val t (ix2 k i) 1).trans (at_row ((blocks t).2.2.2.2.trans hj)))

/-! What the two blocks hold at a point. -/

theorem read0 (t : Fin cfg0.N) (s : Fin 3) (j : Fin 1) (hs : t.val % 3 = s.val) (hj : t.val / 3 = j.val)
    (q : Fin 1408) (i : Fin 768) : left m c t (ix2 q i) = A0 m c (ix2 (row s q) (col j i)) := by
  unfold left iblk
  rw [View.read_apply, emb0 t s j hs hj]
  exact congrFun (V_main_arg0 m c) _

theorem read1 (t : Fin cfg0.N) (s : Fin 3) (hs : t.val % 3 = s.val) (q : Fin 1408) (l : Fin 1024) :
    right m c t (ix2 q l) = A1 m c (ix2 (row s q) l) := by
  unfold right iblk
  rw [View.read_apply, emb1 t s hs]
  exact congrFun (V_main_arg1 m c) _

/-- The reference's gradient is one sum over the rows, here by its three blocks of them. -/
theorem reference_apply (a : Fin 768) (l : Fin 1024) : val_main_v14 (F := Ideal) (A0 m c) (A1 m c) (ix2 a l)
    = ∑ s : Fin 3, ∑ q : Fin 1408, A0 m c (ix2 (row s q) a) * A1 m c (ix2 (row s q) l) := by
  pointwise [val_main_v14, val_main_v13, val_main_v12, val_main_v11, val_main_v7, val_main_v2]
  refine (Fin.sum_univ_tiles 3 1408 rfl _).trans ?_
  exact Finset.sum_congr rfl fun s _ => Finset.sum_congr rfl fun q _ =>
    congrArg (fun r : Fin 4224 => A0 m c (ix2 r a) * A1 m c (ix2 r l)) (Fin.ext (congrArg (· + q.val) (Nat.mul_comm _ _)))

/-- So are its column sums. -/
theorem reference_row_apply (k : Fin 1) (a : Fin 768) : val_main_v17 (F := Ideal) (A0 m c) (ix2 k a)
    = ∑ s : Fin 3, ∑ q : Fin 1408, A0 m c (ix2 (row s q) a) := by
  pointwise [val_main_v17, val_main_v10, val_main_v9, val_main_v8, val_main_v7, val_main_cst_1, val_main_cst_2]
  refine (Fin.sum_univ_one _).trans ?_
  refine (Fin.sum_univ_tiles 3 1408 rfl _).trans ?_
  exact Finset.sum_congr rfl fun s _ => Finset.sum_congr rfl fun q _ =>
    congrArg (fun r : Fin 4224 => A0 m c (ix2 r a)) (Fin.ext (congrArg (· + q.val) (Nat.mul_comm _ _)))

/-- What the last point of a block of columns writes back is the reference's block. -/
theorem written (t : Fin cfg0.N) (h : t.val % 3 = 2) (j : Fin 1) (hj : t.val / 3 = j.val) (i : Fin 768) (l : Fin 1024) :
    (outsAt0 m c t.val t.isLt).1 (ix2 i l) = val_main_v14 (F := Ideal) (A0 m c) (A1 m c) (ix2 (col j i) l) := by
  refine (out_apply m c t h i l).trans ((reference_apply m c _ l).trans ?_).symm
  refine Finset.sum_congr rfl fun s _ => Finset.sum_congr rfl fun q _ => ?_
  have hs : (3 * (t.val / 3) + s.val) % 3 = s.val := by omega
  have hd : (3 * (t.val / 3) + s.val) / 3 = j.val := by omega
  exact (congrArg₂ (· * ·) (read0 m c ⟨_, Pipeline.run_point_lt_of_flush t h s⟩ s j hs hd q i)
    (read1 m c ⟨_, Pipeline.run_point_lt_of_flush t h s⟩ s hs q l)).symm

theorem written_row (t : Fin cfg0.N) (h : t.val % 3 = 2) (j : Fin 1) (hj : t.val / 3 = j.val) (k : Fin 1) (i : Fin 768) :
    (outsAt0 m c t.val t.isLt).2.1 (ix2 k i) = val_main_v17 (F := Ideal) (A0 m c) (ix2 k (col j i)) := by
  obtain rfl : k = 0 := Subsingleton.elim _ _
  refine (row_apply m c t h i).trans ((reference_row_apply m c 0 _).trans ?_).symm
  refine Finset.sum_congr rfl fun s _ => Finset.sum_congr rfl fun q _ => ?_
  exact (read0 m c ⟨_, Pipeline.run_point_lt_of_flush t h s⟩ s j (by dsimp only; omega) (by dsimp only; omega) q i).symm

/-! The reference's array, part by part: the gradient's rows, and the others as they came. -/

theorem inside (j : Fin 1) (i : Fin 768) (l : Fin 1024) :
    val_main_v16 (F := Ideal) (A0 m c) (A1 m c) (A2 m c) (ix2 (place j i) l) = val_main_v14 (F := Ideal) (A0 m c) (A1 m c) (ix2 (col j i) l) :=
  concatenate_apply_piece (t := Cert.QkvWeightRefIdeal.S4640x1024) 0 _ _ (ix2 (place j i) l) 0 (by show 0 < 2; omega) _ (val_main_v14 (F := Ideal) (A0 m c) (A1 m c)) rfl rfl 0 rfl
    (ix2 (col j i) l) (fun b hb => by
      have h0 : b.val ≠ 0 := fun e => hb (Fin.ext e)
      have h2 : b.val < 2 := b.isLt
      obtain rfl : b = (1 : Fin 2) := Fin.ext (by show b.val = 1; omega)
      rfl) (by show 0 + (768 * j.val + i.val) = 768 * j.val + i.val; omega)

theorem after_it (b : Fin 4640) (h : 768 ≤ b.val) (l : Fin 1024) :
    val_main_v16 (F := Ideal) (A0 m c) (A1 m c) (A2 m c) (ix2 b l) = A2 m c (ix2 b l) :=
  (concatenate_apply_piece (t := Cert.QkvWeightRefIdeal.S4640x1024) 0 _ _ (ix2 b l) 1 (by show 1 < 2; omega) _ (val_main_v15 (F := Ideal) (A2 m c)) rfl rfl 768 rfl
    (ix2 ⟨b.val - 768, by omega⟩ l) (fun b hb => by
      have h0 : b.val ≠ 0 := fun e => hb (Fin.ext e)
      have h2 : b.val < 2 := b.isLt
      obtain rfl : b = (1 : Fin 2) := Fin.ext (by show b.val = 1; omega)
      rfl) (by show 768 + (b.val - 768) = b.val; omega)).trans
    ((val_main_v15_apply _ _).trans (congrArg (A2 m c) (ix2_of (by show 768 + (b.val - 768) = b.val; omega) rfl)))

/-- The call is handed the array with the other rows in it. -/
theorem handed (i : S4640x1024.Idx) : V m c main_v0_0 i = A2 m c i := by
  unfold V
  after_reads_at
  rfl

/-- What the last point of a block of columns writes back, as a block of the whole array. -/
theorem block2 (t : Fin cfg0.N) (hf : (cfg0.win 2).flush t = true) :
    (dats m 0 c).flushed 2 t = ((cfg0.win 2).blk t).view.read (Elt Ideal) (val_main_v16 (F := Ideal) (A0 m c) (A1 m c) (A2 m c)) := by
  have h : t.val % 3 = 2 := (flush0_2 t).mp hf
  have hN : t.val < 3 := lt_of_lt_of_eq t.isLt N_0
  rw [Cert.QkvWeightIdeal.Value.flushed2]
  funext y
  obtain ⟨r, k, rfl⟩ := eq_at2 t y
  rw [View.read_apply, emb2 t ⟨t.val / 3, by omega⟩ rfl]
  exact (written m c t h ⟨t.val / 3, by omega⟩ rfl r k).trans (inside m c _ r k).symm

/-- A row of the gradient's is in a block that is written back. -/
theorem covered (i : S4640x1024.Idx) (h : (i 0).val < 768) :
    ∃ t : Fin cfg0.N, (cfg0.win 2).flush t = true ∧ i ∈ ((cfg0.win 2).blk t).view.set := by
  have e : i 0 = place ⟨((i 0).val - 0) / 768, by omega⟩ ⟨((i 0).val - 0) % 768, by omega⟩ :=
    Fin.ext (by show (i 0).val = 768 * (((i 0).val - 0) / 768) + ((i 0).val - 0) % 768; omega)
  have ht : 3 * (((i 0).val - 0) / 768) + 2 < cfg0.N := lt_of_lt_of_eq (by omega) N_0.symm
  rw [(eq_ix2 i).trans ((congrArg (ix2 · (i 1)) e).trans
    (emb2 ⟨_, ht⟩ ⟨((i 0).val - 0) / 768, by omega⟩ (by show (3 * (((i 0).val - 0) / 768) + 2) / 3 = ((i 0).val - 0) / 768; omega) _ (i 1)).symm)]
  exact ⟨⟨_, ht⟩, (flush0_2 ⟨_, ht⟩).mpr (by show (3 * (((i 0).val - 0) / 768) + 2) % 3 = 2; omega), View.emb_mem_set _ _⟩

/-- The array: the gradient's rows are covered by blocks that are the reference's, the others stay. -/
theorem final2 : (dats m 0 c).arrAt 2 cfg0.N = val_main_v16 (F := Ideal) (A0 m c) (A1 m c) (A2 m c) := by
  funext i
  rw [(dats m 0 c).arrAt_eq_piecewise 2 _ (block2 m c) i]
  split
  · rfl
  · rename_i hn
    have hi : ¬((i 0).val < 768) := fun h => hn (covered i h)
    refine ((congrFun (A_eq m c 2) i).trans (handed m c i)).trans ?_
    obtain ⟨b, l, rfl⟩ : ∃ (b : Fin 4640) (l : Fin 1024), i = ix2 b l := ⟨i 0, i 1, eq_ix2 i⟩
    exact (after_it m c b (Nat.le_of_not_lt hi) l).symm

/-- The column sums: every block of columns leaves its own. -/
theorem final3 : (dats m 0 c).arrAt 3 cfg0.N = val_main_v17 (F := Ideal) (A0 m c) := by
  refine (dats m 0 c).arrAt_eq_of_cover 3 _ (fun t hf => ?_) (fun i => ?_)
  · have h : t.val % 3 = 2 := (flush0_3 t).mp hf
    have hN : t.val < 3 := lt_of_lt_of_eq t.isLt N_0
    rw [Cert.QkvWeightIdeal.Value.flushed3]
    funext y
    obtain ⟨r, k, rfl⟩ : ∃ (r : Fin 1) (k : Fin 768), y = ix2 r k := ⟨y 0, y 1, eq_ix2 y⟩
    rw [View.read_apply, emb3 t ⟨t.val / 3, by omega⟩ rfl]
    exact written_row m c t h ⟨t.val / 3, by omega⟩ rfl r k
  · have hi : (i 1).val < 768 := (i 1).isLt
    have e : i 1 = col ⟨(i 1).val / 768, by omega⟩ ⟨(i 1).val % 768, by omega⟩ :=
      Fin.ext (by show (i 1).val = 768 * ((i 1).val / 768) + (i 1).val % 768; omega)
    have ht : 3 * ((i 1).val / 768) + 2 < cfg0.N := lt_of_lt_of_eq (by omega) N_0.symm
    rw [(eq_ix2 i).trans ((congrArg (ix2 (i 0)) e).trans
      (emb3 ⟨_, ht⟩ ⟨(i 1).val / 768, by omega⟩ (by show (3 * ((i 1).val / 768) + 2) / 3 = (i 1).val / 768; omega) (i 0) _).symm)]
    exact ⟨⟨_, ht⟩, (flush0_3 ⟨_, ht⟩).mpr (by show (3 * ((i 1).val / 768) + 2) % 3 = 2; omega), View.emb_mem_set _ _⟩

end Cert.QkvWeightArray

end
-- ==== Proof.QkvWeightValue.lean ====
/- The attention projections' weight's gradient: the kernel and the reference leave the same two arrays. -/
module

public import proofs.«01_k».proof.Defs
public import proofs.«01_k».proof.Proof.QkvWeightArray

@[expose] public section

set_option maxRecDepth 16384

noncomputable section

namespace Cert.QkvWeightValue

open Idealize.ShloMosaic Idealize.ShloMosaic.TcCoe Idealize.SL.Sem
open Cert.QkvWeightRefIdeal.Read Cert.QkvWeightArray

/-- The reference terminates, keeps its arguments and leaves every counter at zero. -/
theorem frame_ref : quiescent_QkvWeightRefIdeal := fun m ρ _ =>
  (θ_run Cert.QkvWeightRefIdeal.defs _ _).mono
    (fun r h => ⟨fun c => (h c).2.2, sem_eq_zero_of_no_sems (by decide) r.2⟩) (Cert.QkvWeightRefIdeal.Value.run m ρ)

/-- From memories that agree on the arguments both programs run and end with equal results. -/
theorem algebraic : algebraic_QkvWeightIdeal_QkvWeightRefIdeal := by
  intro m g m' g' _ h
  refine ⟨fun c => val_main_v16 (F := Ideal) (A0 m c) (A1 m c) (A2 m c), fun c => val_main_v17 (F := Ideal) (A0 m c), ?_, ?_⟩
  · refine (θ_run _ _ _).mono (fun r H c => ?_) (Cert.QkvWeightIdeal.Value.run_blocks m g)
    obtain ⟨h2, h3, hargs⟩ := H c
    exact ⟨h2.trans (final2 m c), h3.trans (final3 m c), hargs⟩
  · refine (θ_run _ _ _).mono (fun r H c => ?_) (Cert.QkvWeightRefIdeal.Value.run m' g')
    obtain ⟨h2, h3, hargs⟩ := H c
    obtain ⟨e0, e1, e2⟩ := h c
    rw [e0, e1, e2] at h2
    rw [e0] at h3
    exact ⟨h2, h3, hargs⟩

end Cert.QkvWeightValue

end
-- ==== Proof.NormBody.lean ====
/- What the gradient of the mixers' norm leaves at a grid point: four blocks of rows of the gradient, the front rows', and the
   running sum of the scale's, each as the body's own terms of the blocks it read. -/
module

public import proofs.«01_k».proof.Proof.Gen.NormIdeal.Value
public import Idealize.ShloMosaic.Lib.Pointwise

@[expose] public section

set_option maxRecDepth 16384

noncomputable section

namespace Cert.NormBody

open Idealize.ShloMosaic Idealize.ShloMosaic.TcCoe Idealize.SL.Sem
open Cert.NormIdeal Cert.NormIdeal.Gen

theorem off0 : (![0, 0] : Fin 2 → Nat) = fun _ => 0 := funext fun a => by fin_cases a <;> rfl

/-! Reading a whole block reads the block. -/

theorem ld_rows (x : Vec Ideal S128x1024 .f32) :
    View.ld x (Rect.unit ![0, 0] ![128, 1024] inb_S128x1024_S128x1024_0_0) = x := View.ld_unit_zero off0 _ x
theorem ld_low (x : Vec Ideal S128x1024 .bf16) :
    View.ld x (Rect.unit ![0, 0] ![128, 1024] inb_S128x1024_S128x1024_0_0) = x := View.ld_unit_zero off0 _ x
theorem ld_scale (x : Vec Ideal S1x1024 .f32) :
    View.ld x (Rect.unit ![0, 0] ![1, 1024] inb_S1x1024_S1x1024_0_0) = x := View.ld_unit_zero off0 _ x

/-- Four blocks of rows stored one under the other. -/
def quarters (x3 x2 x1 x0 : Vec Ideal S128x1024 .f32) : Vec Ideal S512x1024 .f32 :=
  View.canon (Val := Elt Ideal)
    [⟨Rect.unit (s := S512x1024) ![384, 0] S128x1024.size inb_S512x1024_S128x1024_384_0, x3⟩,
     ⟨Rect.unit (s := S512x1024) ![256, 0] S128x1024.size inb_S512x1024_S128x1024_256_0, x2⟩,
     ⟨Rect.unit (s := S512x1024) ![128, 0] S128x1024.size inb_S512x1024_S128x1024_128_0, x1⟩,
     ⟨Rect.unit (s := S512x1024) ![0, 0] S128x1024.size inb_S512x1024_S128x1024_0_0, x0⟩]

/-- The gradient of one block's rows. -/
def gradRows (h : Vec Ideal S128x1024 .f32) (g : Vec Ideal S1x1024 .f32) (u : Vec Ideal S128x1024 .bf16) (d : Vec Ideal S128x1024 .f32) :
    Vec Ideal S128x1024 .f32 := k0_pay7 h g u d

/-- What one block adds to the scale's gradient. -/
def gradScale (h : Vec Ideal S128x1024 .f32) (u : Vec Ideal S128x1024 .bf16) : Vec Ideal S1x1024 .f32 := k0_pay6 h u

variable (m : (ℓ : Loc nD τ sig) → Buf (Elt Ideal) ℓ) (c : Dev nD)

/-- The gradient of the `j`-th block of rows at a point. -/
def gradAt (t : Fin cfg0.N) : Fin 4 → Vec Ideal S128x1024 .f32
  | 0 => gradRows (iblk m c 0 t) (iblk m c 15 t) (iblk m c 4 t) (iblk m c 8 t)
  | 1 => gradRows (iblk m c 1 t) (iblk m c 15 t) (iblk m c 5 t) (iblk m c 9 t)
  | 2 => gradRows (iblk m c 2 t) (iblk m c 15 t) (iblk m c 6 t) (iblk m c 10 t)
  | 3 => gradRows (iblk m c 3 t) (iblk m c 15 t) (iblk m c 7 t) (iblk m c 11 t)

/-- What a point's four blocks add to the scale's gradient `v`. -/
def scaleAdd (v : Vec Ideal S1x1024 .f32) (t : Fin cfg0.N) : Vec Ideal S1x1024 .f32 :=
  k0_pay2 (k0_pay36 (k0_pay27 (k0_pay18 (k0_pay9 (F := Ideal)) (gradScale (iblk m c 0 t) (iblk m c 4 t)))
    (gradScale (iblk m c 1 t) (iblk m c 5 t))) (gradScale (iblk m c 2 t) (iblk m c 6 t)))
    (gradScale (iblk m c 3 t) (iblk m c 7 t)) v

/-- What the point before left. -/
abbrev before (t : Fin cfg0.N) := outsAt0 m c (t.val - 1) (Nat.lt_of_le_of_lt (Nat.sub_le _ _) t.isLt)

/-- The gradient's rows at a point. -/
theorem outs16 (t : Fin cfg0.N) : (outsAt0 m c t.val t.isLt).1
    = quarters (gradAt m c t 3) (gradAt m c t 2) (gradAt m c t 1) (gradAt m c t 0) := by
  by_cases h : t.val % 8 = 0
  · rw [outsAt0_A m c t h (by have := lt_of_lt_of_eq t.isLt N_0; omega)]
    dsimp only
    unfold out0_A_16
    rw [View.read_writes_eq_canon _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3
      t).read_unread, (hs0_4 t).read_unread, (hs0_5 t).read_unread, (hs0_6 t).read_unread, (hs0_7 t).read_unread,
      (hs0_8 t).read_unread, (hs0_9 t).read_unread, (hs0_10 t).read_unread, (hs0_11 t).read_unread, (hs0_12
      t).read_unread, (hs0_13 t).read_unread, (hs0_14 t).read_unread, (hs0_15 t).read_unread, ld_rows, ld_low,
      ld_scale]
    rfl
  · rw [outsAt0_B m c t h (by omega)]
    dsimp only
    unfold out0_B_16
    rw [View.read_writes_eq_canon _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3
      t).read_unread, (hs0_4 t).read_unread, (hs0_5 t).read_unread, (hs0_6 t).read_unread, (hs0_7 t).read_unread,
      (hs0_8 t).read_unread, (hs0_9 t).read_unread, (hs0_10 t).read_unread, (hs0_11 t).read_unread, (hs0_12
      t).read_unread, (hs0_13 t).read_unread, (hs0_14 t).read_unread, (hs0_15 t).read_unread, ld_rows, ld_low,
      ld_scale]
    rfl

/-- The front rows' gradient after the first point, -/
theorem outs17_first (t : Fin cfg0.N) (h : t.val % 8 = 0) : (outsAt0 m c t.val t.isLt).2.1
    = gradRows (iblk m c 12 t) (iblk m c 15 t) (iblk m c 13 t) (iblk m c 14 t) := by
  rw [outsAt0_A m c t h (by have := lt_of_lt_of_eq t.isLt N_0; omega)]
  dsimp only
  unfold out0_A_17
  rw [View.read_writes_eq_canon _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero off0]
  simp only [View.readAt_eq_ld, (hs0_0 t).read_unread, (hs0_1 t).read_unread, (hs0_2 t).read_unread, (hs0_3
    t).read_unread, (hs0_4 t).read_unread, (hs0_5 t).read_unread, (hs0_6 t).read_unread, (hs0_7 t).read_unread, (hs0_8
    t).read_unread, (hs0_9 t).read_unread, (hs0_10 t).read_unread, (hs0_11 t).read_unread, (hs0_12 t).read_unread,
    (hs0_13 t).read_unread, (hs0_14 t).read_unread, (hs0_15 t).read_unread, ld_rows, ld_low, ld_scale]
  rfl

/-- … which stays. -/
theorem outs17_next (t : Fin cfg0.N) (h : ¬t.val % 8 = 0) : (outsAt0 m c t.val t.isLt).2.1 = k0_pay8 (F := Ideal) (before m c t).2.1 := by
  rw [outsAt0_B m c t h (by omega)]
  dsimp only
  unfold out0_B_17
  rw [View.read_writes_eq_canon _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero off0]
  simp only [View.readAt_eq_ld, (hs0_0 t).read_unread, (hs0_1 t).read_unread, (hs0_2 t).read_unread, (hs0_3
    t).read_unread, (hs0_4 t).read_unread, (hs0_5 t).read_unread, (hs0_6 t).read_unread, (hs0_7 t).read_unread, (hs0_8
    t).read_unread, (hs0_9 t).read_unread, (hs0_10 t).read_unread, (hs0_11 t).read_unread, (hs0_12 t).read_unread,
    (hs0_13 t).read_unread, (hs0_14 t).read_unread, (hs0_15 t).read_unread, (hs0_17 t).read_unread, ld_rows, ld_low,
    ld_scale]

/-- The scale's running gradient after the first point, -/
theorem outs18_first (t : Fin cfg0.N) (h : t.val % 8 = 0) : (outsAt0 m c t.val t.isLt).2.2
    = scaleAdd m c (gradScale (iblk m c 12 t) (iblk m c 13 t)) t := by
  rw [outsAt0_A m c t h (by have := lt_of_lt_of_eq t.isLt N_0; omega)]
  dsimp only
  unfold out0_A_18
  rw [View.read_writes_eq_canon _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_cons_unit_zero (S := S1x1024) off0, View.readCov_unit_zero (S := S1x1024) _ off0]
  simp only [View.readAt_eq_ld, (hs0_0 t).read_unread, (hs0_1 t).read_unread, (hs0_2 t).read_unread, (hs0_3
    t).read_unread, (hs0_4 t).read_unread, (hs0_5 t).read_unread, (hs0_6 t).read_unread, (hs0_7 t).read_unread, (hs0_8
    t).read_unread, (hs0_9 t).read_unread, (hs0_10 t).read_unread, (hs0_11 t).read_unread, (hs0_12 t).read_unread,
    (hs0_13 t).read_unread, (hs0_14 t).read_unread, (hs0_15 t).read_unread, ld_rows, ld_low, ld_scale]
  rfl

/-- … and after a later one. -/
theorem outs18_next (t : Fin cfg0.N) (h : ¬t.val % 8 = 0) : (outsAt0 m c t.val t.isLt).2.2 = scaleAdd m c (before m c t).2.2 t := by
  rw [outsAt0_B m c t h (by omega)]
  dsimp only
  unfold out0_B_18
  rw [View.read_writes_eq_canon _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero off0]
  simp only [View.readAt_eq_ld, (hs0_0 t).read_unread, (hs0_1 t).read_unread, (hs0_2 t).read_unread, (hs0_3
    t).read_unread, (hs0_4 t).read_unread, (hs0_5 t).read_unread, (hs0_6 t).read_unread, (hs0_7 t).read_unread, (hs0_8
    t).read_unread, (hs0_9 t).read_unread, (hs0_10 t).read_unread, (hs0_11 t).read_unread, (hs0_12 t).read_unread,
    (hs0_13 t).read_unread, (hs0_14 t).read_unread, (hs0_15 t).read_unread, (hs0_18 t).read_unread, ld_rows, ld_low,
    ld_scale]
  rfl

end Cert.NormBody

end
-- ==== Proof.NormArray.lean ====
/- The three arrays the gradient of the mixers' norm leaves are the reference's: the gradient's rows, the front rows', and the
   scale's, one sum over all rows. -/
module

public import proofs.«01_k».proof.Proof.NormBody
public import proofs.«01_k».proof.Proof.Index
public import Idealize.ShloMosaic.Lib.Pipeline.ValueKit.Acc
public import proofs.«01_k».proof.Proof.Gen.NormRefIdeal.Read

@[expose] public section

set_option maxRecDepth 16384

noncomputable section

namespace Cert.NormArray

open Idealize.ShloMosaic Idealize.ShloMosaic.TcCoe Idealize.SL.Sem
open Cert.NormRefIdeal.Read
open Cert.NormIdeal Cert.NormIdeal.Gen Cert.NormBody Cert.Index

/-! One block of rows against the reference. -/

section Rows

variable (A0 : S4224x1024.Idx → EReal) (A1 : S1x1024.Idx → EReal) (A2 A3 : S4224x1024.Idx → EReal)
  (h : Vec Ideal S128x1024 .f32) (g : Vec Ideal S1x1024 .f32) (u : Vec Ideal S128x1024 .bf16) (d : Vec Ideal S128x1024 .f32)
  (at' : Fin 128 → Fin 4224)
  (hh : ∀ r k, h (ix2 r k) = A0 (ix2 (at' r) k)) (hg : ∀ k, g (ix2 0 k) = A1 (ix2 0 k))
  (hu : ∀ r k, u (ix2 r k) = A2 (ix2 (at' r) k)) (hd : ∀ r k, d (ix2 r k) = A3 (ix2 (at' r) k))

include hh hg hu hd in
/-- The gradient of a block's rows is the reference's at the rows they stand for. -/
theorem gradRows_apply (r : Fin 128) (l : Fin 1024) :
    gradRows h g u d (ix2 r l) = val_main_v38 (F := Ideal) A0 A1 A2 A3 (ix2 (at' r) l) := by
  unfold gradRows k0_pay7 k0_pay5 k0_pay4 k0_pay3
  pointwise [val_main_v38, val_main_v37, val_main_v36, val_main_v35, val_main_v34, val_main_v33, val_main_cst_7, val_main_v32,
    val_main_v31, val_main_cst_6, val_main_v30, val_main_v29, val_main_v28, val_main_v27, val_main_v26, val_main_v25,
    val_main_cst_5, val_main_v24, val_main_v22, val_main_v21, val_main_v17, val_main_v14, val_main_v11, val_main_v10,
    val_main_cst_2, val_main_v9, val_main_v8, val_main_v7, val_main_v6, val_main_cst_1, val_main_v5, val_main_v4,
    val_main_cst_0, val_main_v3, val_main_v2, val_main_cst, val_main_v1, val_main_v0]
  simp only [hh, hg, hu, hd]

include hh hu in
/-- What a block adds to the scale's gradient is the sum of the reference's terms over its rows. -/
theorem gradScale_apply (l : Fin 1024) :
    gradScale h u (ix2 0 l) = ∑ q : Fin 128, val_main_v18 (F := Ideal) A0 A2 (ix2 (at' q) l) := by
  unfold gradScale k0_pay6 k0_pay5 k0_pay4 k0_pay3
  pointwise [val_main_v18, val_main_v17, val_main_v13, val_main_v12, val_main_v8, val_main_v7, val_main_v6, val_main_cst_1,
    val_main_v5, val_main_v4, val_main_cst_0, val_main_v3, val_main_v2, val_main_cst, val_main_v1]
  simp only [hh, hu]

end Rows

/-- Four blocks under one another agree with a function of the rows when each does. -/
theorem emb_rows (o : Nat) (ho : o + 128 ≤ 512) (inb : ∀ a, (![o, 0] : Fin 2 → Nat) a + S128x1024.size a ≤ S512x1024.size a) (x : S128x1024.Idx) :
    (Rect.unit (s := S512x1024) ![o, 0] S128x1024.size inb).emb x
      = (ix2 (⟨o + (x 0).val, Nat.lt_of_lt_of_le (Nat.add_lt_add_left (x 0).isLt o) ho⟩ : Fin 512) (x 1) : S512x1024.Idx) := by
  funext a; apply Fin.ext; fin_cases a
  · exact congrArg (o + ·) (Nat.one_mul _)
  · exact (Nat.zero_add _).trans (Nat.one_mul _)

theorem quarters_apply (x3 x2 x1 x0 : Vec Ideal S128x1024 .f32) (G : S512x1024.Idx → EReal)
    (h3 : ∀ r l, x3 (ix2 r l) = G (ix2 (⟨384 + r.val, by omega⟩ : Fin 512) l))
    (h2 : ∀ r l, x2 (ix2 r l) = G (ix2 (⟨256 + r.val, by omega⟩ : Fin 512) l))
    (h1 : ∀ r l, x1 (ix2 r l) = G (ix2 (⟨128 + r.val, by omega⟩ : Fin 512) l))
    (h0 : ∀ r l, x0 (ix2 r l) = G (ix2 (⟨0 + r.val, by omega⟩ : Fin 512) l))
    (y : S512x1024.Idx) : quarters x3 x2 x1 x0 y = G y := by
  refine View.canon_apply_of_pieces (Val := Elt Ideal) (e := .f32) G _ (fun p hp x => ?_) y ?_
  · rcases List.mem_cons.mp hp with rfl | hp
    · exact (congrArg x3 (eq_ix2 x)).trans ((h3 _ _).trans (congrArg G (emb_rows 384 (by omega) inb_S512x1024_S128x1024_384_0 x)).symm)
    · rcases List.mem_cons.mp hp with rfl | hp
      · exact (congrArg x2 (eq_ix2 x)).trans ((h2 _ _).trans (congrArg G (emb_rows 256 (by omega) inb_S512x1024_S128x1024_256_0 x)).symm)
      · rcases List.mem_cons.mp hp with rfl | hp
        · exact (congrArg x1 (eq_ix2 x)).trans ((h1 _ _).trans (congrArg G (emb_rows 128 (by omega) inb_S512x1024_S128x1024_128_0 x)).symm)
        · obtain rfl := List.mem_singleton.mp hp
          exact (congrArg x0 (eq_ix2 x)).trans ((h0 _ _).trans (congrArg G (emb_rows 0 (by omega) inb_S512x1024_S128x1024_0_0 x)).symm)
  · have h' : (y 0).val < 512 := (y 0).isLt
    have hin : ∀ (o : Nat) (ho : o + 128 ≤ 512) (inb : ∀ a, (![o, 0] : Fin 2 → Nat) a + S128x1024.size a ≤ S512x1024.size a)
        (_ : o ≤ (y 0).val) (_ : (y 0).val < o + 128), y ∈ (Rect.unit (s := S512x1024) ![o, 0] S128x1024.size inb).set := by
      intro o ho inb h1 h2
      rw [eq_ix2 y, show (ix2 (y 0) (y 1) : S512x1024.Idx) = ix2 (⟨o + ((y 0).val - o), by omega⟩ : Fin 512) (y 1) from
        congrArg (ix2 · (y 1)) (Fin.ext (by show (y 0).val = o + ((y 0).val - o); omega))]
      exact emb_rows o ho inb (ix2 ⟨(y 0).val - o, by omega⟩ (y 1)) ▸ LoadRect.idx_mem _ _
    by_cases h1 : (y 0).val < 128
    · exact ⟨_, List.mem_cons_of_mem _ (List.mem_cons_of_mem _ (List.mem_cons_of_mem _ (List.mem_singleton.mpr rfl))),
        hin 0 (by omega) inb_S512x1024_S128x1024_0_0 (Nat.zero_le _) (by omega)⟩
    · by_cases h2 : (y 0).val < 256
      · exact ⟨_, List.mem_cons_of_mem _ (List.mem_cons_of_mem _ List.mem_cons_self), hin 128 (by omega) inb_S512x1024_S128x1024_128_0 (by omega) (by omega)⟩
      · by_cases h3 : (y 0).val < 384
        · exact ⟨_, List.mem_cons_of_mem _ List.mem_cons_self, hin 256 (by omega) inb_S512x1024_S128x1024_256_0 (by omega) (by omega)⟩
        · exact ⟨_, List.mem_cons_self, hin 384 (by omega) inb_S512x1024_S128x1024_384_0 (by omega) (by omega)⟩

variable (m : (ℓ : Loc nD τ sig) → Buf (Elt Ideal) ℓ) (c : Dev nD)

/-! The kernel's argument arrays as functions of an index. -/

abbrev A0 : S4224x1024.Idx → EReal := m ((c : Thread nD τ).loc main_arg0)
abbrev A1 : S1x1024.Idx → EReal := m ((c : Thread nD τ).loc main_arg1)
abbrev A2 : S4224x1024.Idx → EReal := m ((c : Thread nD τ).loc main_arg2)
abbrev A3 : S4224x1024.Idx → EReal := m ((c : Thread nD τ).loc main_arg3)

/-- Row `q` of the `b`-th block of 128 rows. -/
abbrev at128 (b : Fin 33) (q : Fin 128) : Fin 4224 := ⟨128 * b.val + q.val, by omega⟩

/-- The `j`-th of the four blocks a point reads: the first block is the front's. -/
abbrev blk (t : Fin cfg0.N) (j : Fin 4) : Fin 33 := ⟨4 * t.val + j.val + 1, by have h : t.val < 8 := t.isLt; omega⟩

/-- Row `r` of a point's rows of the result. -/
abbrev at512 (t : Fin cfg0.N) (r : Fin 512) : Fin 4096 := ⟨512 * t.val + r.val, by have h : t.val < 8 := t.isLt; omega⟩

/-- The front is the first block of rows everywhere, and the result's blocks are the points'. -/
theorem blocks : ∀ t : Fin grid0.N,
    (win0_0.index t 0 = 4 * t.val + 0 + 1 ∧ win0_0.index t 1 = 0)
    ∧ (win0_1.index t 0 = 4 * t.val + 1 + 1 ∧ win0_1.index t 1 = 0)
    ∧ (win0_2.index t 0 = 4 * t.val + 2 + 1 ∧ win0_2.index t 1 = 0)
    ∧ (win0_3.index t 0 = 4 * t.val + 3 + 1 ∧ win0_3.index t 1 = 0)
    ∧ (win0_4.index t 0 = 4 * t.val + 0 + 1 ∧ win0_4.index t 1 = 0)
    ∧ (win0_5.index t 0 = 4 * t.val + 1 + 1 ∧ win0_5.index t 1 = 0)
    ∧ (win0_6.index t 0 = 4 * t.val + 2 + 1 ∧ win0_6.index t 1 = 0)
    ∧ (win0_7.index t 0 = 4 * t.val + 3 + 1 ∧ win0_7.index t 1 = 0)
    ∧ (win0_8.index t 0 = 4 * t.val + 0 + 1 ∧ win0_8.index t 1 = 0)
    ∧ (win0_9.index t 0 = 4 * t.val + 1 + 1 ∧ win0_9.index t 1 = 0)
    ∧ (win0_10.index t 0 = 4 * t.val + 2 + 1 ∧ win0_10.index t 1 = 0)
    ∧ (win0_11.index t 0 = 4 * t.val + 3 + 1 ∧ win0_11.index t 1 = 0)
    ∧ (win0_12.index t 0 = 0 ∧ win0_12.index t 1 = 0)
    ∧ (win0_13.index t 0 = 0 ∧ win0_13.index t 1 = 0)
    ∧ (win0_14.index t 0 = 0 ∧ win0_14.index t 1 = 0)
    ∧ (win0_15.index t 0 = 0 ∧ win0_15.index t 1 = 0)
    ∧ (win0_16.index t 0 = t.val ∧ win0_16.index t 1 = 0)
    ∧ (win0_17.index t 0 = 0 ∧ win0_17.index t 1 = 0)
    ∧ (win0_18.index t 0 = 0 ∧ win0_18.index t 1 = 0) := by decide +kernel

theorem emb0 (t : Fin cfg0.N) (r : Fin 128) (k : Fin 1024) : ((cfg0.win 0).blk t).view.emb (ix2 r k) = ix2 (at128 (blk t 0) r) k :=
  ix2_of ((win0_0.rect_emb_val t (ix2 r k) 0).trans (at_row (blocks t).1.1)) ((win0_0.rect_emb_val t (ix2 r k) 1).trans (at_all (blocks t).1.2))

theorem emb1 (t : Fin cfg0.N) (r : Fin 128) (k : Fin 1024) : ((cfg0.win 1).blk t).view.emb (ix2 r k) = ix2 (at128 (blk t 1) r) k :=
  ix2_of ((win0_1.rect_emb_val t (ix2 r k) 0).trans (at_row (blocks t).2.1.1)) ((win0_1.rect_emb_val t (ix2 r k) 1).trans (at_all (blocks t).2.1.2))

theorem emb2 (t : Fin cfg0.N) (r : Fin 128) (k : Fin 1024) : ((cfg0.win 2).blk t).view.emb (ix2 r k) = ix2 (at128 (blk t 2) r) k :=
  ix2_of ((win0_2.rect_emb_val t (ix2 r k) 0).trans (at_row (blocks t).2.2.1.1)) ((win0_2.rect_emb_val t (ix2 r k) 1).trans (at_all (blocks t).2.2.1.2))

theorem emb3 (t : Fin cfg0.N) (r : Fin 128) (k : Fin 1024) : ((cfg0.win 3).blk t).view.emb (ix2 r k) = ix2 (at128 (blk t 3) r) k :=
  ix2_of ((win0_3.rect_emb_val t (ix2 r k) 0).trans (at_row (blocks t).2.2.2.1.1)) ((win0_3.rect_emb_val t (ix2 r k) 1).trans (at_all (blocks t).2.2.2.1.2))

theorem emb4 (t : Fin cfg0.N) (r : Fin 128) (k : Fin 1024) : ((cfg0.win 4).blk t).view.emb (ix2 r k) = ix2 (at128 (blk t 0) r) k :=
  ix2_of ((win0_4.rect_emb_val t (ix2 r k) 0).trans (at_row (blocks t).2.2.2.2.1.1)) ((win0_4.rect_emb_val t (ix2 r k) 1).trans (at_all (blocks t).2.2.2.2.1.2))

theorem emb5 (t : Fin cfg0.N) (r : Fin 128) (k : Fin 1024) : ((cfg0.win 5).blk t).view.emb (ix2 r k) = ix2 (at128 (blk t 1) r) k :=
  ix2_of ((win0_5.rect_emb_val t (ix2 r k) 0).trans (at_row (blocks t).2.2.2.2.2.1.1)) ((win0_5.rect_emb_val t (ix2 r k) 1).trans (at_all (blocks t).2.2.2.2.2.1.2))

theorem emb6 (t : Fin cfg0.N) (r : Fin 128) (k : Fin 1024) : ((cfg0.win 6).blk t).view.emb (ix2 r k) = ix2 (at128 (blk t 2) r) k :=
  ix2_of ((win0_6.rect_emb_val t (ix2 r k) 0).trans (at_row (blocks t).2.2.2.2.2.2.1.1)) ((win0_6.rect_emb_val t (ix2 r k) 1).trans (at_all (blocks t).2.2.2.2.2.2.1.2))

theorem emb7 (t : Fin cfg0.N) (r : Fin 128) (k : Fin 1024) : ((cfg0.win 7).blk t).view.emb (ix2 r k) = ix2 (at128 (blk t 3) r) k :=
  ix2_of ((win0_7.rect_emb_val t (ix2 r k) 0).trans (at_row (blocks t).2.2.2.2.2.2.2.1.1)) ((win0_7.rect_emb_val t (ix2 r k) 1).trans (at_all (blocks t).2.2.2.2.2.2.2.1.2))

theorem emb8 (t : Fin cfg0.N) (r : Fin 128) (k : Fin 1024) : ((cfg0.win 8).blk t).view.emb (ix2 r k) = ix2 (at128 (blk t 0) r) k :=
  ix2_of ((win0_8.rect_emb_val t (ix2 r k) 0).trans (at_row (blocks t).2.2.2.2.2.2.2.2.1.1)) ((win0_8.rect_emb_val t (ix2 r k) 1).trans (at_all (blocks t).2.2.2.2.2.2.2.2.1.2))

theorem emb9 (t : Fin cfg0.N) (r : Fin 128) (k : Fin 1024) : ((cfg0.win 9).blk t).view.emb (ix2 r k) = ix2 (at128 (blk t 1) r) k :=
  ix2_of ((win0_9.rect_emb_val t (ix2 r k) 0).trans (at_row (blocks t).2.2.2.2.2.2.2.2.2.1.1)) ((win0_9.rect_emb_val t (ix2 r k) 1).trans (at_all (blocks t).2.2.2.2.2.2.2.2.2.1.2))

theorem emb10 (t : Fin cfg0.N) (r : Fin 128) (k : Fin 1024) : ((cfg0.win 10).blk t).view.emb (ix2 r k) = ix2 (at128 (blk t 2) r) k :=
  ix2_of ((win0_10.rect_emb_val t (ix2 r k) 0).trans (at_row (blocks t).2.2.2.2.2.2.2.2.2.2.1.1)) ((win0_10.rect_emb_val t (ix2 r k) 1).trans (at_all (blocks t).2.2.2.2.2.2.2.2.2.2.1.2))

theorem emb11 (t : Fin cfg0.N) (r : Fin 128) (k : Fin 1024) : ((cfg0.win 11).blk t).view.emb (ix2 r k) = ix2 (at128 (blk t 3) r) k :=
  ix2_of ((win0_11.rect_emb_val t (ix2 r k) 0).trans (at_row (blocks t).2.2.2.2.2.2.2.2.2.2.2.1.1)) ((win0_11.rect_emb_val t (ix2 r k) 1).trans (at_all (blocks t).2.2.2.2.2.2.2.2.2.2.2.1.2))

theorem emb12 (t : Fin cfg0.N) (r : Fin 128) (k : Fin 1024) : ((cfg0.win 12).blk t).view.emb (ix2 r k) = ix2 (at128 0 r) k :=
  ix2_of ((win0_12.rect_emb_val t (ix2 r k) 0).trans (at_row (blocks t).2.2.2.2.2.2.2.2.2.2.2.2.1.1)) ((win0_12.rect_emb_val t (ix2 r k) 1).trans (at_all (blocks t).2.2.2.2.2.2.2.2.2.2.2.2.1.2))

theorem emb13 (t : Fin cfg0.N) (r : Fin 128) (k : Fin 1024) : ((cfg0.win 13).blk t).view.emb (ix2 r k) = ix2 (at128 0 r) k :=
  ix2_of ((win0_13.rect_emb_val t (ix2 r k) 0).trans (at_row (blocks t).2.2.2.2.2.2.2.2.2.2.2.2.2.1.1)) ((win0_13.rect_emb_val t (ix2 r k) 1).trans (at_all (blocks t).2.2.2.2.2.2.2.2.2.2.2.2.2.1.2))

theorem emb14 (t : Fin cfg0.N) (r : Fin 128) (k : Fin 1024) : ((cfg0.win 14).blk t).view.emb (ix2 r k) = ix2 (at128 0 r) k :=
  ix2_of ((win0_14.rect_emb_val t (ix2 r k) 0).trans (at_row (blocks t).2.2.2.2.2.2.2.2.2.2.2.2.2.2.1.1)) ((win0_14.rect_emb_val t (ix2 r k) 1).trans (at_all (blocks t).2.2.2.2.2.2.2.2.2.2.2.2.2.2.1.2))

theorem emb15 (t : Fin cfg0.N) (r : Fin 1) (k : Fin 1024) : ((cfg0.win 15).blk t).view.emb (ix2 r k) = ix2 r k :=
  ix2_of ((win0_15.rect_emb_val t (ix2 r k) 0).trans (at_all (blocks t).2.2.2.2.2.2.2.2.2.2.2.2.2.2.2.1.1)) ((win0_15.rect_emb_val t (ix2 r k) 1).trans (at_all (blocks t).2.2.2.2.2.2.2.2.2.2.2.2.2.2.2.1.2))

theorem emb16 (t : Fin cfg0.N) (r : Fin 512) (k : Fin 1024) : ((cfg0.win 16).blk t).view.emb (ix2 r k) = ix2 (at512 t r) k :=
  ix2_of ((win0_16.rect_emb_val t (ix2 r k) 0).trans (at_row (blocks t).2.2.2.2.2.2.2.2.2.2.2.2.2.2.2.2.1.1)) ((win0_16.rect_emb_val t (ix2 r k) 1).trans (at_all (blocks t).2.2.2.2.2.2.2.2.2.2.2.2.2.2.2.2.1.2))

theorem emb17 (t : Fin cfg0.N) (r : Fin 128) (k : Fin 1024) : ((cfg0.win 17).blk t).view.emb (ix2 r k) = ix2 r k :=
  ix2_of ((win0_17.rect_emb_val t (ix2 r k) 0).trans (at_all (blocks t).2.2.2.2.2.2.2.2.2.2.2.2.2.2.2.2.2.1.1)) ((win0_17.rect_emb_val t (ix2 r k) 1).trans (at_all (blocks t).2.2.2.2.2.2.2.2.2.2.2.2.2.2.2.2.2.1.2))

theorem emb18 (t : Fin cfg0.N) (r : Fin 1) (k : Fin 1024) : ((cfg0.win 18).blk t).view.emb (ix2 r k) = ix2 r k :=
  ix2_of ((win0_18.rect_emb_val t (ix2 r k) 0).trans (at_all (blocks t).2.2.2.2.2.2.2.2.2.2.2.2.2.2.2.2.2.2.1)) ((win0_18.rect_emb_val t (ix2 r k) 1).trans (at_all (blocks t).2.2.2.2.2.2.2.2.2.2.2.2.2.2.2.2.2.2.2))

/-! What the blocks hold at a point. -/

theorem read0 (t : Fin cfg0.N) (r : Fin 128) (k : Fin 1024) :
    (iblk m c 0 t : S128x1024.Idx → EReal) (ix2 r k) = A0 m c (ix2 (at128 (blk t 0) r) k) := by
  unfold iblk
  rw [View.read_apply, emb0]
  exact congrFun (V_main_arg0 m c) _

theorem read1 (t : Fin cfg0.N) (r : Fin 128) (k : Fin 1024) :
    (iblk m c 1 t : S128x1024.Idx → EReal) (ix2 r k) = A0 m c (ix2 (at128 (blk t 1) r) k) := by
  unfold iblk
  rw [View.read_apply, emb1]
  exact congrFun (V_main_arg0 m c) _

theorem read2 (t : Fin cfg0.N) (r : Fin 128) (k : Fin 1024) :
    (iblk m c 2 t : S128x1024.Idx → EReal) (ix2 r k) = A0 m c (ix2 (at128 (blk t 2) r) k) := by
  unfold iblk
  rw [View.read_apply, emb2]
  exact congrFun (V_main_arg0 m c) _

theorem read3 (t : Fin cfg0.N) (r : Fin 128) (k : Fin 1024) :
    (iblk m c 3 t : S128x1024.Idx → EReal) (ix2 r k) = A0 m c (ix2 (at128 (blk t 3) r) k) := by
  unfold iblk
  rw [View.read_apply, emb3]
  exact congrFun (V_main_arg0 m c) _

theorem read4 (t : Fin cfg0.N) (r : Fin 128) (k : Fin 1024) :
    (iblk m c 4 t : S128x1024.Idx → EReal) (ix2 r k) = A2 m c (ix2 (at128 (blk t 0) r) k) := by
  unfold iblk
  rw [View.read_apply, emb4]
  exact congrFun (V_main_arg2 m c) _

theorem read5 (t : Fin cfg0.N) (r : Fin 128) (k : Fin 1024) :
    (iblk m c 5 t : S128x1024.Idx → EReal) (ix2 r k) = A2 m c (ix2 (at128 (blk t 1) r) k) := by
  unfold iblk
  rw [View.read_apply, emb5]
  exact congrFun (V_main_arg2 m c) _

theorem read6 (t : Fin cfg0.N) (r : Fin 128) (k : Fin 1024) :
    (iblk m c 6 t : S128x1024.Idx → EReal) (ix2 r k) = A2 m c (ix2 (at128 (blk t 2) r) k) := by
  unfold iblk
  rw [View.read_apply, emb6]
  exact congrFun (V_main_arg2 m c) _

theorem read7 (t : Fin cfg0.N) (r : Fin 128) (k : Fin 1024) :
    (iblk m c 7 t : S128x1024.Idx → EReal) (ix2 r k) = A2 m c (ix2 (at128 (blk t 3) r) k) := by
  unfold iblk
  rw [View.read_apply, emb7]
  exact congrFun (V_main_arg2 m c) _

theorem read8 (t : Fin cfg0.N) (r : Fin 128) (k : Fin 1024) :
    (iblk m c 8 t : S128x1024.Idx → EReal) (ix2 r k) = A3 m c (ix2 (at128 (blk t 0) r) k) := by
  unfold iblk
  rw [View.read_apply, emb8]
  exact congrFun (V_main_arg3 m c) _

theorem read9 (t : Fin cfg0.N) (r : Fin 128) (k : Fin 1024) :
    (iblk m c 9 t : S128x1024.Idx → EReal) (ix2 r k) = A3 m c (ix2 (at128 (blk t 1) r) k) := by
  unfold iblk
  rw [View.read_apply, emb9]
  exact congrFun (V_main_arg3 m c) _

theorem read10 (t : Fin cfg0.N) (r : Fin 128) (k : Fin 1024) :
    (iblk m c 10 t : S128x1024.Idx → EReal) (ix2 r k) = A3 m c (ix2 (at128 (blk t 2) r) k) := by
  unfold iblk
  rw [View.read_apply, emb10]
  exact congrFun (V_main_arg3 m c) _

theorem read11 (t : Fin cfg0.N) (r : Fin 128) (k : Fin 1024) :
    (iblk m c 11 t : S128x1024.Idx → EReal) (ix2 r k) = A3 m c (ix2 (at128 (blk t 3) r) k) := by
  unfold iblk
  rw [View.read_apply, emb11]
  exact congrFun (V_main_arg3 m c) _

theorem read12 (t : Fin cfg0.N) (r : Fin 128) (k : Fin 1024) :
    (iblk m c 12 t : S128x1024.Idx → EReal) (ix2 r k) = A0 m c (ix2 (at128 0 r) k) := by
  unfold iblk
  rw [View.read_apply, emb12]
  exact congrFun (V_main_arg0 m c) _

theorem read13 (t : Fin cfg0.N) (r : Fin 128) (k : Fin 1024) :
    (iblk m c 13 t : S128x1024.Idx → EReal) (ix2 r k) = A2 m c (ix2 (at128 0 r) k) := by
  unfold iblk
  rw [View.read_apply, emb13]
  exact congrFun (V_main_arg2 m c) _

theorem read14 (t : Fin cfg0.N) (r : Fin 128) (k : Fin 1024) :
    (iblk m c 14 t : S128x1024.Idx → EReal) (ix2 r k) = A3 m c (ix2 (at128 0 r) k) := by
  unfold iblk
  rw [View.read_apply, emb14]
  exact congrFun (V_main_arg3 m c) _

theorem read15 (t : Fin cfg0.N) (r : Fin 1) (k : Fin 1024) :
    (iblk m c 15 t : S1x1024.Idx → EReal) (ix2 r k) = A1 m c (ix2 r k) := by
  unfold iblk
  rw [View.read_apply, emb15]
  exact congrFun (V_main_arg1 m c) _

/-! The gradient's rows. -/

theorem grad0 (t : Fin cfg0.N) (r : Fin 128) (l : Fin 1024) :
    gradAt m c t 0 (ix2 r l) = val_main_v38 (F := Ideal) (A0 m c) (A1 m c) (A2 m c) (A3 m c) (ix2 (at128 (blk t 0) r) l) :=
  gradRows_apply _ _ _ _ _ _ _ _ (at128 (blk t 0)) (read0 m c t) (read15 m c t 0) (read4 m c t) (read8 m c t) r l

theorem grad1 (t : Fin cfg0.N) (r : Fin 128) (l : Fin 1024) :
    gradAt m c t 1 (ix2 r l) = val_main_v38 (F := Ideal) (A0 m c) (A1 m c) (A2 m c) (A3 m c) (ix2 (at128 (blk t 1) r) l) :=
  gradRows_apply _ _ _ _ _ _ _ _ (at128 (blk t 1)) (read1 m c t) (read15 m c t 0) (read5 m c t) (read9 m c t) r l

theorem grad2 (t : Fin cfg0.N) (r : Fin 128) (l : Fin 1024) :
    gradAt m c t 2 (ix2 r l) = val_main_v38 (F := Ideal) (A0 m c) (A1 m c) (A2 m c) (A3 m c) (ix2 (at128 (blk t 2) r) l) :=
  gradRows_apply _ _ _ _ _ _ _ _ (at128 (blk t 2)) (read2 m c t) (read15 m c t 0) (read6 m c t) (read10 m c t) r l

theorem grad3 (t : Fin cfg0.N) (r : Fin 128) (l : Fin 1024) :
    gradAt m c t 3 (ix2 r l) = val_main_v38 (F := Ideal) (A0 m c) (A1 m c) (A2 m c) (A3 m c) (ix2 (at128 (blk t 3) r) l) :=
  gradRows_apply _ _ _ _ _ _ _ _ (at128 (blk t 3)) (read3 m c t) (read15 m c t 0) (read7 m c t) (read11 m c t) r l

/-- The result's row is the reference's row after the front. -/
theorem later_row (i : Fin 4096) (l : Fin 1024) (n : Fin 4224) (h : n.val = 128 + i.val) :
    val_main_v38 (F := Ideal) (A0 m c) (A1 m c) (A2 m c) (A3 m c) (ix2 n l) = val_main_v40 (F := Ideal) (A0 m c) (A1 m c) (A2 m c) (A3 m c) (ix2 i l) :=
  ((val_main_v40_apply (F := Ideal) (A0 m c) (A1 m c) (A2 m c) (A3 m c) (ix2 i l)).trans
    (congrArg (val_main_v38 (F := Ideal) (A0 m c) (A1 m c) (A2 m c) (A3 m c)) (ix2_of (i := idx_main_v40 (ix2 i l)) (r := n) (k := l) h.symm rfl))).symm

theorem final16 : (dats m 0 c).arrAt 16 cfg0.N = val_main_v40 (F := Ideal) (A0 m c) (A1 m c) (A2 m c) (A3 m c) := by
  refine (dats m 0 c).arrAt_eq_of_cover 16 _ (fun t _ => ?_) (fun i => ?_)
  · rw [Cert.NormIdeal.Value.flushed16, outs16]
    funext y
    obtain ⟨r, k, rfl⟩ : ∃ (r : Fin 512) (k : Fin 1024), y = ix2 r k := ⟨y 0, y 1, eq_ix2 y⟩
    rw [View.read_apply, emb16]
    exact quarters_apply _ _ _ _ (fun y => val_main_v40 (F := Ideal) (A0 m c) (A1 m c) (A2 m c) (A3 m c) (ix2 (at512 t (y 0)) (y 1)))
      (fun r l => (grad3 m c t r l).trans (later_row m c _ l _
        (by show 128 * (4 * t.val + 3 + 1) + r.val = 128 + (512 * t.val + (384 + r.val)); omega)))
      (fun r l => (grad2 m c t r l).trans (later_row m c _ l _
        (by show 128 * (4 * t.val + 2 + 1) + r.val = 128 + (512 * t.val + (256 + r.val)); omega)))
      (fun r l => (grad1 m c t r l).trans (later_row m c _ l _
        (by show 128 * (4 * t.val + 1 + 1) + r.val = 128 + (512 * t.val + (128 + r.val)); omega)))
      (fun r l => (grad0 m c t r l).trans (later_row m c _ l _
        (by show 128 * (4 * t.val + 0 + 1) + r.val = 128 + (512 * t.val + (0 + r.val)); omega)))
      (ix2 r k)
  · have hi : (i 0).val < 4096 := (i 0).isLt
    have ht : (i 0).val / 512 < cfg0.N := lt_of_lt_of_eq (by omega) N_0.symm
    have e : i 0 = at512 ⟨_, ht⟩ ⟨(i 0).val % 512, by omega⟩ :=
      Fin.ext (by show (i 0).val = 512 * ((i 0).val / 512) + (i 0).val % 512; omega)
    rw [(eq_ix2 i).trans ((congrArg (ix2 · (i 1)) e).trans (emb16 ⟨_, ht⟩ _ (i 1)).symm)]
    exact ⟨⟨_, ht⟩, flush0_16 _, View.emb_mem_set _ _⟩

/-! The front rows'. -/

theorem same8 (v : Vec Ideal S128x1024 .f32) (r : Fin 128) (l : Fin 1024) : k0_pay8 (F := Ideal) v (ix2 r l) = v (ix2 r l) := by
  pointwise [k0_pay8]

/-- The first point writes them, and they stay. -/
theorem front_kept : ∀ (n : ℕ) (hn : n < cfg0.N) (r : Fin 128) (l : Fin 1024),
    (outsAt0 m c n hn).2.1 (ix2 r l) = val_main_v38 (F := Ideal) (A0 m c) (A1 m c) (A2 m c) (A3 m c) (ix2 (at128 0 r) l)
  | 0, hn, r, l => (congrFun (outs17_first m c ⟨0, hn⟩ rfl) _).trans
      (gradRows_apply _ _ _ _ _ _ _ _ (at128 0) (read12 m c _) (read15 m c _ 0) (read13 m c _) (read14 m c _) r l)
  | n + 1, hn, r, l => (congrFun (outs17_next m c ⟨n + 1, hn⟩ (by have := lt_of_lt_of_eq hn N_0; show ¬(n + 1) % 8 = 0; omega)) _).trans
      ((same8 _ _ _).trans (front_kept n (Nat.lt_of_succ_lt hn) r l))

theorem final17 : (dats m 0 c).arrAt 17 cfg0.N = val_main_v41 (F := Ideal) (A0 m c) (A1 m c) (A2 m c) (A3 m c) := by
  refine (dats m 0 c).arrAt_eq_of_cover 17 _ (fun t _ => ?_) (fun i => ?_)
  · rw [Cert.NormIdeal.Value.flushed17]
    funext y
    obtain ⟨r, k, rfl⟩ : ∃ (r : Fin 128) (k : Fin 1024), y = ix2 r k := ⟨y 0, y 1, eq_ix2 y⟩
    rw [View.read_apply, emb17]
    exact (front_kept m c t.val t.isLt r k).trans
      ((val_main_v41_apply (F := Ideal) (A0 m c) (A1 m c) (A2 m c) (A3 m c) (ix2 r k)).trans (congrArg (val_main_v38 (F := Ideal) (A0 m c) (A1 m c) (A2 m c) (A3 m c))
        (ix2_of (i := idx_main_v41 (ix2 r k)) (r := at128 0 r) (k := k) (by show r.val = 128 * 0 + r.val; omega) rfl))).symm
  · have ht : 7 < cfg0.N := lt_of_lt_of_eq (by omega) N_0.symm
    rw [(eq_ix2 i).trans (emb17 ⟨7, ht⟩ (i 0) (i 1)).symm]
    exact ⟨⟨7, ht⟩, (flush0_17 ⟨7, ht⟩).mpr rfl, View.emb_mem_set _ _⟩

/-! The scale's. -/

/-- What block `b` of the rows adds to it. -/
def scaleOf (l : Fin 1024) (b : Fin 33) : EReal := ∑ q : Fin 128, val_main_v18 (F := Ideal) (A0 m c) (A2 m c) (ix2 (at128 b q) l)

theorem pay_sum (v a b d e : Vec Ideal S1x1024 .f32) (l : Fin 1024) :
    k0_pay2 (F := Ideal) (k0_pay36 (k0_pay27 (k0_pay18 (k0_pay9 (F := Ideal)) a) b) d) e v (ix2 0 l)
      = v (ix2 0 l) + (((a (ix2 0 l) + b (ix2 0 l)) + d (ix2 0 l)) + e (ix2 0 l)) := by
  pointwise [k0_pay2, k0_pay36, k0_pay27, k0_pay18, k0_pay9]

theorem scaleAdd_apply (v : Vec Ideal S1x1024 .f32) (t : Fin cfg0.N) (l : Fin 1024) : scaleAdd m c v t (ix2 0 l)
    = v (ix2 0 l) + (((scaleOf m c l (blk t 0) + scaleOf m c l (blk t 1)) + scaleOf m c l (blk t 2)) + scaleOf m c l (blk t 3)) := by
  unfold scaleAdd
  rw [pay_sum, gradScale_apply _ _ _ _ (at128 (blk t 0)) (read0 m c t) (read4 m c t),
    gradScale_apply _ _ _ _ (at128 (blk t 1)) (read1 m c t) (read5 m c t),
    gradScale_apply _ _ _ _ (at128 (blk t 2)) (read2 m c t) (read6 m c t),
    gradScale_apply _ _ _ _ (at128 (blk t 3)) (read3 m c t) (read7 m c t)]
  rfl

/-- After the last point it is the sum over every block of rows, the front's first. -/
theorem total_scale (t : Fin cfg0.N) (ht : t.val + 1 = cfg0.N) (l : Fin 1024) : (outsAt0 m c t.val t.isLt).2.2 (ix2 0 l)
    = scaleOf m c l 0 + ∑ p : Fin cfg0.N,
      (((scaleOf m c l (blk p 0) + scaleOf m c l (blk p 1)) + scaleOf m c l (blk p 2)) + scaleOf m c l (blk p 3)) :=
  Pipeline.eq_sum_fin_of_reset_step_apply_last (N := cfg0.N)
    (fun n hn (l : Fin 1024) => ((outsAt0 m c n hn).2.2 (ix2 0 l) : EReal)) 8 (fun l => scaleOf m c l 0)
    (fun p l => ((scaleOf m c l (blk p 0) + scaleOf m c l (blk p 1)) + scaleOf m c l (blk p 2)) + scaleOf m c l (blk p 3))
    (fun p hp l => (congrFun (outs18_first m c p hp) _).trans ((scaleAdd_apply m c _ p l).trans (congrArg (· + _)
      (gradScale_apply _ _ _ _ (at128 0) (read12 m c p) (read13 m c p) l))))
    (fun p hp l => (congrFun (outs18_next m c p hp) _).trans (scaleAdd_apply m c _ p l))
    (le_refl 8) t ht l

/-- A sum over 33 blocks is the first, and the points' four each. -/
theorem sum_blocks (f : Fin 33 → EReal) :
    ∑ b : Fin 33, f b = f 0 + ∑ p : Fin cfg0.N, (((f (blk p 0) + f (blk p 1)) + f (blk p 2)) + f (blk p 3)) := by
  rw [Fin.sum_univ_succ f]
  refine congrArg (f 0 + ·) ((Fin.sum_univ_tiles 8 4 rfl _).trans ?_)
  refine Finset.sum_congr rfl fun p _ => (Fin.sum_univ_four _).trans ?_
  have h : ∀ (j : Fin 4) (n : Fin 32), n.val = p.val * 4 + j.val → f n.succ = f (blk p j) := fun j n hn =>
    congrArg f (Fin.ext (by show n.val + 1 = 4 * p.val + j.val + 1; omega))
  exact congrArg₂ (· + ·) (congrArg₂ (· + ·) (congrArg₂ (· + ·) (h 0 _ rfl) (h 1 _ rfl)) (h 2 _ rfl)) (h 3 _ rfl)

/-- The reference's is one sum over the rows. -/
theorem scale_ref (l : Fin 1024) : val_main_v39 (F := Ideal) (A0 m c) (A2 m c) (ix2 0 l) = ∑ b : Fin 33, scaleOf m c l b := by
  pointwise [val_main_v39, val_main_v23, val_main_cst_4, val_main_v20, val_main_v19, val_main_cst_3]
  refine (Fin.sum_univ_one _).trans ?_
  refine (Fin.sum_univ_tiles 33 128 rfl _).trans ?_
  exact Finset.sum_congr rfl fun b _ => Finset.sum_congr rfl fun q _ =>
    congrArg (fun r : Fin 4224 => val_main_v18 (F := Ideal) (A0 m c) (A2 m c) (ix2 r l)) (Fin.ext (congrArg (· + q.val) (Nat.mul_comm _ _)))

theorem final18 : (dats m 0 c).arrAt 18 cfg0.N = val_main_v39 (F := Ideal) (A0 m c) (A2 m c) := by
  refine (dats m 0 c).arrAt_eq_of_cover 18 _ (fun t hf => ?_) (fun i => ?_)
  · have h : t.val % 8 = 7 := (flush0_18 t).mp hf
    have hN : t.val < 8 := lt_of_lt_of_eq t.isLt N_0
    rw [Cert.NormIdeal.Value.flushed18]
    funext y
    obtain ⟨r, k, rfl⟩ : ∃ (r : Fin 1) (k : Fin 1024), y = ix2 r k := ⟨y 0, y 1, eq_ix2 y⟩
    obtain rfl : r = 0 := Subsingleton.elim _ _
    rw [View.read_apply, emb18]
    exact (total_scale m c t ((by omega : t.val + 1 = 8).trans N_0.symm) k).trans ((scale_ref m c k).trans (sum_blocks _)).symm
  · have ht : 7 < cfg0.N := lt_of_lt_of_eq (by omega) N_0.symm
    rw [(eq_ix2 i).trans (emb18 ⟨7, ht⟩ (i 0) (i 1)).symm]
    exact ⟨⟨7, ht⟩, (flush0_18 ⟨7, ht⟩).mpr rfl, View.emb_mem_set _ _⟩

end Cert.NormArray

end
-- ==== Proof.NormValue.lean ====
/- The gradient of the mixers' norm: the kernel and the reference leave the same three arrays. -/
module

public import proofs.«01_k».proof.Defs
public import proofs.«01_k».proof.Proof.NormArray

@[expose] public section

set_option maxRecDepth 16384

noncomputable section

namespace Cert.NormValue

open Idealize.ShloMosaic Idealize.ShloMosaic.TcCoe Idealize.SL.Sem
open Cert.NormRefIdeal.Read Cert.NormArray

/-- The reference terminates, keeps its arguments and leaves every counter at zero. -/
theorem frame_ref : quiescent_NormRefIdeal := fun m ρ _ =>
  (θ_run Cert.NormRefIdeal.defs _ _).mono
    (fun r h => ⟨fun c => (h c).2.2.2, sem_eq_zero_of_no_sems (by decide) r.2⟩) (Cert.NormRefIdeal.Value.run m ρ)

/-- From memories that agree on the arguments both programs run and end with equal results. -/
theorem algebraic : algebraic_NormIdeal_NormRefIdeal := by
  intro m g m' g' _ h
  refine ⟨fun c => val_main_v40 (F := Ideal) (A0 m c) (A1 m c) (A2 m c) (A3 m c), fun c => val_main_v41 (F := Ideal) (A0 m c) (A1 m c) (A2 m c) (A3 m c),
    fun c => val_main_v39 (F := Ideal) (A0 m c) (A2 m c), ?_, ?_⟩
  · refine (θ_run _ _ _).mono (fun r H c => ?_) (Cert.NormIdeal.Value.run_blocks m g)
    obtain ⟨h16, h17, h18, hargs⟩ := H c
    exact ⟨h16.trans (final16 m c), h17.trans (final17 m c), h18.trans (final18 m c), hargs⟩
  · refine (θ_run _ _ _).mono (fun r H c => ?_) (Cert.NormRefIdeal.Value.run m' g')
    obtain ⟨h16, h17, h18, hargs⟩ := H c
    obtain ⟨e0, e1, e2, e3⟩ := h c
    rw [val_main_v40_eq, e0, e1, e2, e3] at h16
    rw [val_main_v41_eq, e0, e1, e2, e3] at h17
    rw [val_main_v39_eq, e0, e2] at h18
    exact ⟨h16, h17, h18, hargs⟩

end Cert.NormValue

end
-- ==== Proof.GateStepBlock.lean ====
/- What one grid point of the optimiser's step of a hidden projection's weight computes, element by element, and that it is the
   reference's value at the place the block's element stands for. -/
module

public import proofs.«01_k».proof.Proof.Gen.GateStepIdeal.Value
public import proofs.«01_k».proof.Proof.Gen.GateStepRefIdeal.Read
public import Idealize.ShloMosaic.Lib.Pointwise

@[expose] public section

set_option maxRecDepth 16384

noncomputable section

namespace Cert.GateStepBlock

open Idealize.ShloMosaic Idealize.ShloMosaic.TcCoe
open Cert.GateStepRefIdeal.Read
open Cert.GateStepIdeal Cert.GateStepIdeal.Gen

/-- The array's row that row `r` of block `t` stands for. -/
abbrev row (t : Fin 4) (r : Fin 176) : Fin 704 := ⟨176 * t.val + r.val, by omega⟩

theorem off0 : (![0, 0] : Fin 2 → Nat) = fun _ => 0 := funext fun a => by fin_cases a <;> rfl

variable (A0 : Cert.GateStepRefIdeal.S1024x704.Idx → EReal) (A1 : Cert.GateStepRefIdeal.S704x1024.Idx → EReal) (A2 : Cert.GateStepRefIdeal.S704x1024.Idx → EReal) (A3 : Cert.GateStepRefIdeal.S1024x704.Idx → EReal) (A4 : Cert.GateStepRefIdeal.S1024x704.Idx → EReal)
  (x0 : Vec Ideal S176x1024 .f32) (x1 : Vec Ideal S176x1024 .f32) (x2 : Vec Ideal S176x1024 .f32) (x3 : Vec Ideal S176x1024 .f32) (x4 : Vec Ideal S176x1024 .f32) (t : Fin 4)
  (h0 : ∀ r k, x0 (ix2 r k) = A0 (ix2 k (row t r)))
  (h1 : ∀ r k, x1 (ix2 r k) = A1 (ix2 (row t r) k))
  (h2 : ∀ r k, x2 (ix2 r k) = A2 (ix2 (row t r) k))
  (h3 : ∀ r k, x3 (ix2 r k) = A3 (ix2 k (row t r)))
  (h4 : ∀ r k, x4 (ix2 r k) = A4 (ix2 k (row t r)))

include h1 h2 in
/-- The gradient, its two parts added. -/
theorem block5 (r : Fin 176) (l : Fin 1024) :
    out0_5 (F := Ideal) x0 x1 x2 x3 x4 (ix2 r l) = val_main_v2 (F := Ideal) A1 A2 (ix2 (row t r) l) := by
  unfold out0_5
  rw [View.canon_unit_zero off0, View.ld_unit_zero off0, View.ld_unit_zero off0]
  unfold_payloads
  pointwise [val_main_v2, val_main_v1, val_main_v0]
  simp only [h1, h2]

include h0 h1 h2 h3 h4 in
/-- The step. -/
theorem block6 (r : Fin 176) (l : Fin 1024) :
    out0_6 (F := Ideal) x0 x1 x2 x3 x4 (ix2 r l) = val_main_v27 (F := Ideal) A0 A1 A2 A3 A4 (ix2 (row t r) l) := by
  unfold out0_6
  rw [View.canon_unit_zero off0, View.ld_unit_zero off0, View.ld_unit_zero off0, View.ld_unit_zero off0, View.ld_unit_zero off0, View.ld_unit_zero off0]
  unfold_payloads
  pointwise [val_main_v27, val_main_v26, val_main_v24, val_main_v23, val_main_v22, val_main_cst_6, val_main_v21,
    val_main_v20, val_main_v19, val_main_cst_5, val_main_v18, val_main_v17, val_main_v16, val_main_cst_4,
    val_main_v13, val_main_v12, val_main_v10, val_main_v1, val_main_v0, val_main_v11, val_main_cst_2, val_main_v9,
    val_main_v8, val_main_cst_1, val_main_v15, val_main_v14, val_main_cst_3, val_main_v7, val_main_v6, val_main_v5,
    val_main_cst_0, val_main_v4, val_main_v3, val_main_cst, val_main_v25, val_main_cst_7]
  simp only [h0, h1, h2, h3, h4]

include h1 h2 h3 in
/-- The new first moment. -/
theorem block7 (r : Fin 176) (l : Fin 1024) :
    out0_7 (F := Ideal) x0 x1 x2 x3 x4 (ix2 r l) = val_main_v28 (F := Ideal) A1 A2 A3 (ix2 (row t r) l) := by
  unfold out0_7
  rw [View.canon_unit_zero off0, View.ld_unit_zero off0, View.ld_unit_zero off0, View.ld_unit_zero off0]
  unfold_payloads
  pointwise [val_main_v28, val_main_v7, val_main_v6, val_main_v1, val_main_v0, val_main_v5, val_main_cst_0, val_main_v4,
    val_main_v3, val_main_cst]
  simp only [h1, h2, h3]

include h1 h2 h4 in
/-- The new second moment. -/
theorem block8 (r : Fin 176) (l : Fin 1024) :
    out0_8 (F := Ideal) x0 x1 x2 x3 x4 (ix2 r l) = val_main_v29 (F := Ideal) A1 A2 A4 (ix2 (row t r) l) := by
  unfold out0_8
  rw [View.canon_unit_zero off0, View.ld_unit_zero off0, View.ld_unit_zero off0, View.ld_unit_zero off0]
  unfold_payloads
  pointwise [val_main_v29, val_main_v13, val_main_v12, val_main_v10, val_main_v1, val_main_v0, val_main_v11,
    val_main_cst_2, val_main_v9, val_main_v8, val_main_cst_1]
  simp only [h1, h2, h4]

end Cert.GateStepBlock

end
-- ==== Proof.GateStepArray.lean ====
/- The four arrays the optimiser's step of a hidden projection's weight leaves: each is the reference's value, every block of it
   being what one grid point wrote. -/
module

public import proofs.«01_k».proof.Proof.GateStepBlock
public import proofs.«01_k».proof.Proof.Index
public import Idealize.ShloMosaic.Lib.StableHlo.ReadAt

@[expose] public section

set_option maxRecDepth 16384

noncomputable section

namespace Cert.GateStepArray

open Idealize.ShloMosaic Idealize.ShloMosaic.TcCoe Idealize.SL.Sem
open Cert.GateStepRefIdeal.Read
open Cert.GateStepIdeal Cert.GateStepIdeal.Gen Cert.GateStepBlock Cert.Index

variable (m : (ℓ : Loc nD τ sig) → Buf (Elt Ideal) ℓ) (c : Dev nD)

/-! The kernel's argument arrays as functions of an index. -/

abbrev A0 : S1024x704.Idx → EReal := m ((c : Thread nD τ).loc main_arg0)
abbrev A1 : S704x1024.Idx → EReal := m ((c : Thread nD τ).loc main_arg1)
abbrev A2 : S704x1024.Idx → EReal := m ((c : Thread nD τ).loc main_arg2)
abbrev A3 : S1024x704.Idx → EReal := m ((c : Thread nD τ).loc main_arg3)
abbrev A4 : S1024x704.Idx → EReal := m ((c : Thread nD τ).loc main_arg4)

/-- The host hands the call this array's transpose. -/
theorem entry0 (r : Fin 704) (k : Fin 1024) : V m c main_v0 (ix2 r k) = A0 m c (ix2 k r) := by
  unfold V
  after_reads_at

/-- The host hands the call this array's transpose. -/
theorem entry3 (r : Fin 704) (k : Fin 1024) : V m c main_v1 (ix2 r k) = A3 m c (ix2 k r) := by
  unfold V
  after_reads_at

/-- The host hands the call this array's transpose. -/
theorem entry4 (r : Fin 704) (k : Fin 1024) : V m c main_v2 (ix2 r k) = A4 m c (ix2 k r) := by
  unfold V
  after_reads_at

/-- The windows that walk down the rows, one block a point. -/
theorem index_rows : ∀ t : Fin grid0.N,
    (win0_0.index t 0 = t.val ∧ win0_0.index t 1 = 0) ∧ (win0_1.index t 0 = t.val ∧ win0_1.index t 1 = 0) ∧ (win0_2.index
    t 0 = t.val ∧ win0_2.index t 1 = 0) ∧ (win0_3.index t 0 = t.val ∧ win0_3.index t 1 = 0) ∧ (win0_4.index t 0 =
    t.val ∧ win0_4.index t 1 = 0) ∧ (win0_5.index t 0 = t.val ∧ win0_5.index t 1 = 0) ∧ (win0_6.index t 0 = t.val ∧
    win0_6.index t 1 = 0) ∧ (win0_7.index t 0 = t.val ∧ win0_7.index t 1 = 0) ∧ (win0_8.index t 0 = t.val ∧
    win0_8.index t 1 = 0) := by decide +kernel

/-! Where a block's element lies in its array. -/

theorem emb0 (t : Fin cfg0.N) (r : Fin 176) (k : Fin 1024) :
    ((cfg0.win 0).blk t).view.emb (ix2 r k) = ix2 (row t r) k :=
  ix2_of ((win0_0.rect_emb_val t (ix2 r k) 0).trans (at_row (index_rows t).1.1))
    ((win0_0.rect_emb_val t (ix2 r k) 1).trans (at_all (index_rows t).1.2))

theorem emb1 (t : Fin cfg0.N) (r : Fin 176) (k : Fin 1024) :
    ((cfg0.win 1).blk t).view.emb (ix2 r k) = ix2 (row t r) k :=
  ix2_of ((win0_1.rect_emb_val t (ix2 r k) 0).trans (at_row (index_rows t).2.1.1))
    ((win0_1.rect_emb_val t (ix2 r k) 1).trans (at_all (index_rows t).2.1.2))

theorem emb2 (t : Fin cfg0.N) (r : Fin 176) (k : Fin 1024) :
    ((cfg0.win 2).blk t).view.emb (ix2 r k) = ix2 (row t r) k :=
  ix2_of ((win0_2.rect_emb_val t (ix2 r k) 0).trans (at_row (index_rows t).2.2.1.1))
    ((win0_2.rect_emb_val t (ix2 r k) 1).trans (at_all (index_rows t).2.2.1.2))

theorem emb3 (t : Fin cfg0.N) (r : Fin 176) (k : Fin 1024) :
    ((cfg0.win 3).blk t).view.emb (ix2 r k) = ix2 (row t r) k :=
  ix2_of ((win0_3.rect_emb_val t (ix2 r k) 0).trans (at_row (index_rows t).2.2.2.1.1))
    ((win0_3.rect_emb_val t (ix2 r k) 1).trans (at_all (index_rows t).2.2.2.1.2))

theorem emb4 (t : Fin cfg0.N) (r : Fin 176) (k : Fin 1024) :
    ((cfg0.win 4).blk t).view.emb (ix2 r k) = ix2 (row t r) k :=
  ix2_of ((win0_4.rect_emb_val t (ix2 r k) 0).trans (at_row (index_rows t).2.2.2.2.1.1))
    ((win0_4.rect_emb_val t (ix2 r k) 1).trans (at_all (index_rows t).2.2.2.2.1.2))

theorem emb5 (t : Fin cfg0.N) (r : Fin 176) (k : Fin 1024) :
    ((cfg0.win 5).blk t).view.emb (ix2 r k) = ix2 (row t r) k :=
  ix2_of ((win0_5.rect_emb_val t (ix2 r k) 0).trans (at_row (index_rows t).2.2.2.2.2.1.1))
    ((win0_5.rect_emb_val t (ix2 r k) 1).trans (at_all (index_rows t).2.2.2.2.2.1.2))

theorem emb6 (t : Fin cfg0.N) (r : Fin 176) (k : Fin 1024) :
    ((cfg0.win 6).blk t).view.emb (ix2 r k) = ix2 (row t r) k :=
  ix2_of ((win0_6.rect_emb_val t (ix2 r k) 0).trans (at_row (index_rows t).2.2.2.2.2.2.1.1))
    ((win0_6.rect_emb_val t (ix2 r k) 1).trans (at_all (index_rows t).2.2.2.2.2.2.1.2))

theorem emb7 (t : Fin cfg0.N) (r : Fin 176) (k : Fin 1024) :
    ((cfg0.win 7).blk t).view.emb (ix2 r k) = ix2 (row t r) k :=
  ix2_of ((win0_7.rect_emb_val t (ix2 r k) 0).trans (at_row (index_rows t).2.2.2.2.2.2.2.1.1))
    ((win0_7.rect_emb_val t (ix2 r k) 1).trans (at_all (index_rows t).2.2.2.2.2.2.2.1.2))

theorem emb8 (t : Fin cfg0.N) (r : Fin 176) (k : Fin 1024) :
    ((cfg0.win 8).blk t).view.emb (ix2 r k) = ix2 (row t r) k :=
  ix2_of ((win0_8.rect_emb_val t (ix2 r k) 0).trans (at_row (index_rows t).2.2.2.2.2.2.2.2.1))
    ((win0_8.rect_emb_val t (ix2 r k) 1).trans (at_all (index_rows t).2.2.2.2.2.2.2.2.2))

/-! What each input window's block holds at a point. -/

theorem read0 (t : Fin cfg0.N) (r : Fin 176) (k : Fin 1024) :
    iblk m c 0 t (ix2 r k) = A0 m c (ix2 k (row t r)) := by
  unfold iblk
  rw [View.read_apply, emb0]
  exact entry0 m c _ k

theorem read1 (t : Fin cfg0.N) (r : Fin 176) (k : Fin 1024) :
    iblk m c 1 t (ix2 r k) = A1 m c (ix2 (row t r) k) := by
  unfold iblk
  rw [View.read_apply, emb1]
  exact congrFun (V_main_arg1 m c) _

theorem read2 (t : Fin cfg0.N) (r : Fin 176) (k : Fin 1024) :
    iblk m c 2 t (ix2 r k) = A2 m c (ix2 (row t r) k) := by
  unfold iblk
  rw [View.read_apply, emb2]
  exact congrFun (V_main_arg2 m c) _

theorem read3 (t : Fin cfg0.N) (r : Fin 176) (k : Fin 1024) :
    iblk m c 3 t (ix2 r k) = A3 m c (ix2 k (row t r)) := by
  unfold iblk
  rw [View.read_apply, emb3]
  exact entry3 m c _ k

theorem read4 (t : Fin cfg0.N) (r : Fin 176) (k : Fin 1024) :
    iblk m c 4 t (ix2 r k) = A4 m c (ix2 k (row t r)) := by
  unfold iblk
  rw [View.read_apply, emb4]
  exact entry4 m c _ k

/-- Every row is row `r` of some block `t`. -/
theorem row_split (i : Fin 704) : ∃ (t : Fin 4) (r : Fin 176), i = row t r :=
  ⟨⟨i.val / 176, by omega⟩, ⟨i.val % 176, by omega⟩, Fin.ext (by show i.val = 176 * (i.val / 176) + i.val % 176; omega)⟩

/-! The arrays: each output window's blocks cover its array, and each block is the reference's. -/

/-- The array of the gradient, its two parts added is the reference's. -/
theorem final5 : (dats m 0 c).arrAt 5 cfg0.N = val_main_v2 (F := Ideal) (A1 m c) (A2 m c) := by
  refine (dats m 0 c).arrAt_eq_of_cover 5 _ (fun t _ => ?_) (fun i => ?_)
  · rw [Cert.GateStepIdeal.Value.flushed5]
    funext y
    obtain ⟨r, k, rfl⟩ : ∃ (r : Fin 176) (k : Fin 1024), y = ix2 r k := ⟨y 0, y 1, eq_ix2 y⟩
    rw [View.read_apply, emb5]
    exact block5 _ _ _ _ _ _ _ t (read1 m c t) (read2 m c t) r k
  · obtain ⟨t, r, h⟩ := row_split (i 0)
    rw [(eq_ix2 i).trans ((congrArg (ix2 · (i 1)) h).trans (emb5 t r (i 1)).symm)]
    exact ⟨t, flush0_5 t, View.emb_mem_set _ _⟩

/-- The array of the step is the reference's. -/
theorem final6 : (dats m 0 c).arrAt 6 cfg0.N = val_main_v27 (F := Ideal) (A0 m c) (A1 m c) (A2 m c) (A3 m c) (A4 m c) := by
  refine (dats m 0 c).arrAt_eq_of_cover 6 _ (fun t _ => ?_) (fun i => ?_)
  · rw [Cert.GateStepIdeal.Value.flushed6]
    funext y
    obtain ⟨r, k, rfl⟩ : ∃ (r : Fin 176) (k : Fin 1024), y = ix2 r k := ⟨y 0, y 1, eq_ix2 y⟩
    rw [View.read_apply, emb6]
    exact block6 _ _ _ _ _ _ _ _ _ _ t (read0 m c t) (read1 m c t) (read2 m c t) (read3 m c t) (read4 m c t) r k
  · obtain ⟨t, r, h⟩ := row_split (i 0)
    rw [(eq_ix2 i).trans ((congrArg (ix2 · (i 1)) h).trans (emb6 t r (i 1)).symm)]
    exact ⟨t, flush0_6 t, View.emb_mem_set _ _⟩

/-- The array of the new first moment is the reference's. -/
theorem final7 : (dats m 0 c).arrAt 7 cfg0.N = val_main_v28 (F := Ideal) (A1 m c) (A2 m c) (A3 m c) := by
  refine (dats m 0 c).arrAt_eq_of_cover 7 _ (fun t _ => ?_) (fun i => ?_)
  · rw [Cert.GateStepIdeal.Value.flushed7]
    funext y
    obtain ⟨r, k, rfl⟩ : ∃ (r : Fin 176) (k : Fin 1024), y = ix2 r k := ⟨y 0, y 1, eq_ix2 y⟩
    rw [View.read_apply, emb7]
    exact block7 _ _ _ _ _ _ _ _ t (read1 m c t) (read2 m c t) (read3 m c t) r k
  · obtain ⟨t, r, h⟩ := row_split (i 0)
    rw [(eq_ix2 i).trans ((congrArg (ix2 · (i 1)) h).trans (emb7 t r (i 1)).symm)]
    exact ⟨t, flush0_7 t, View.emb_mem_set _ _⟩

/-- The array of the new second moment is the reference's. -/
theorem final8 : (dats m 0 c).arrAt 8 cfg0.N = val_main_v29 (F := Ideal) (A1 m c) (A2 m c) (A4 m c) := by
  refine (dats m 0 c).arrAt_eq_of_cover 8 _ (fun t _ => ?_) (fun i => ?_)
  · rw [Cert.GateStepIdeal.Value.flushed8]
    funext y
    obtain ⟨r, k, rfl⟩ : ∃ (r : Fin 176) (k : Fin 1024), y = ix2 r k := ⟨y 0, y 1, eq_ix2 y⟩
    rw [View.read_apply, emb8]
    exact block8 _ _ _ _ _ _ _ _ t (read1 m c t) (read2 m c t) (read4 m c t) r k
  · obtain ⟨t, r, h⟩ := row_split (i 0)
    rw [(eq_ix2 i).trans ((congrArg (ix2 · (i 1)) h).trans (emb8 t r (i 1)).symm)]
    exact ⟨t, flush0_8 t, View.emb_mem_set _ _⟩

end Cert.GateStepArray

end
-- ==== Proof.GateStepValue.lean ====
/- The optimiser's step of a hidden projection's weight: the kernel and the reference leave the same four arrays. -/
module

public import proofs.«01_k».proof.Defs
public import proofs.«01_k».proof.Proof.GateStepArray

@[expose] public section

set_option maxRecDepth 16384

noncomputable section

namespace Cert.GateStepValue

open Idealize.ShloMosaic Idealize.ShloMosaic.TcCoe Idealize.SL.Sem
open Cert.GateStepRefIdeal.Read Cert.GateStepArray

/-- The reference terminates, keeps its arguments and leaves every counter at zero. -/
theorem frame_ref : quiescent_GateStepRefIdeal := fun m ρ _ =>
  (θ_run Cert.GateStepRefIdeal.defs _ _).mono
    (fun r h => ⟨fun c => (h c).2.2.2.2, sem_eq_zero_of_no_sems (by decide) r.2⟩) (Cert.GateStepRefIdeal.Value.run m ρ)

/-- From memories that agree on the arguments both programs run and end with equal results. -/
theorem algebraic : algebraic_GateStepIdeal_GateStepRefIdeal := by
  intro m g m' g' _ h
  refine ⟨fun c => val_main_v2 (F := Ideal) (A1 m c) (A2 m c), fun c => val_main_v27 (F := Ideal) (A0 m c) (A1 m c) (A2
    m c) (A3 m c) (A4 m c), fun c => val_main_v28 (F := Ideal) (A1 m c) (A2 m c) (A3 m c), fun c => val_main_v29 (F :=
    Ideal) (A1 m c) (A2 m c) (A4 m c), ?_, ?_⟩
  · refine (θ_run _ _ _).mono (fun r H c => ?_) (Cert.GateStepIdeal.Value.run_blocks m g)
    obtain ⟨h5, h6, h7, h8, hargs⟩ := H c
    exact ⟨h5.trans (final5 m c), h6.trans (final6 m c), h7.trans (final7 m c), h8.trans (final8 m c), hargs⟩
  · refine (θ_run _ _ _).mono (fun r H c => ?_) (Cert.GateStepRefIdeal.Value.run m' g')
    obtain ⟨h5, h6, h7, h8, hargs⟩ := H c
    obtain ⟨e0, e1, e2, e3, e4⟩ := h c
    rw [e1, e2] at h5
    rw [e0, e1, e2, e3, e4] at h6
    rw [e1, e2, e3] at h7
    rw [e1, e2, e4] at h8
    exact ⟨h5, h6, h7, h8, hargs⟩

end Cert.GateStepValue

end
-- ==== Proof.DownStepBlock.lean ====
/- What one grid point of the optimiser's step of `w_down` computes, element by element, and that it is the
   reference's value at the place the block's element stands for. -/
module

public import proofs.«01_k».proof.Proof.Gen.DownStepIdeal.Value
public import proofs.«01_k».proof.Proof.Gen.DownStepRefIdeal.Read
public import Idealize.ShloMosaic.Lib.Pointwise

@[expose] public section

set_option maxRecDepth 16384

noncomputable section

namespace Cert.DownStepBlock

open Idealize.ShloMosaic Idealize.ShloMosaic.TcCoe
open Cert.DownStepRefIdeal.Read
open Cert.DownStepIdeal Cert.DownStepIdeal.Gen

/-- The array's row that row `r` of block `t` stands for. -/
abbrev row (t : Fin 4) (r : Fin 176) : Fin 704 := ⟨176 * t.val + r.val, by omega⟩

theorem off0 : (![0, 0] : Fin 2 → Nat) = fun _ => 0 := funext fun a => by fin_cases a <;> rfl

variable (A0 : Cert.DownStepRefIdeal.S704x1024.Idx → EReal) (A1 : Cert.DownStepRefIdeal.S704x1024.Idx → EReal) (A2 : Cert.DownStepRefIdeal.S704x1024.Idx → EReal) (A3 : Cert.DownStepRefIdeal.S704x1024.Idx → EReal) (A4 : Cert.DownStepRefIdeal.S704x1024.Idx → EReal)
  (x0 : Vec Ideal S176x1024 .f32) (x1 : Vec Ideal S176x1024 .f32) (x2 : Vec Ideal S176x1024 .f32) (x3 : Vec Ideal S176x1024 .f32) (x4 : Vec Ideal S176x1024 .f32) (t : Fin 4)
  (h0 : ∀ r k, x0 (ix2 r k) = A0 (ix2 (row t r) k))
  (h1 : ∀ r k, x1 (ix2 r k) = A1 (ix2 (row t r) k))
  (h2 : ∀ r k, x2 (ix2 r k) = A2 (ix2 (row t r) k))
  (h3 : ∀ r k, x3 (ix2 r k) = A3 (ix2 (row t r) k))
  (h4 : ∀ r k, x4 (ix2 r k) = A4 (ix2 (row t r) k))

include h1 h2 in
/-- The gradient, its two parts added. -/
theorem block5 (r : Fin 176) (l : Fin 1024) :
    out0_5 (F := Ideal) x0 x1 x2 x3 x4 (ix2 r l) = val_main_v0 (F := Ideal) A1 A2 (ix2 (row t r) l) := by
  unfold out0_5
  rw [View.canon_unit_zero off0, View.ld_unit_zero off0, View.ld_unit_zero off0]
  unfold_payloads
  pointwise [val_main_v0]
  simp only [h1, h2]

include h0 h1 h2 h3 h4 in
/-- The step. -/
theorem block6 (r : Fin 176) (l : Fin 1024) :
    out0_6 (F := Ideal) x0 x1 x2 x3 x4 (ix2 r l) = val_main_v24 (F := Ideal) A0 A1 A2 A3 A4 (ix2 (row t r) l) := by
  unfold out0_6
  rw [View.canon_unit_zero off0, View.ld_unit_zero off0, View.ld_unit_zero off0, View.ld_unit_zero off0, View.ld_unit_zero off0, View.ld_unit_zero off0]
  unfold_payloads
  pointwise [val_main_v24, val_main_v22, val_main_v21, val_main_v20, val_main_cst_6, val_main_v19, val_main_v18,
    val_main_v17, val_main_cst_5, val_main_v16, val_main_v15, val_main_v14, val_main_cst_4, val_main_v11,
    val_main_v10, val_main_v8, val_main_v0, val_main_v9, val_main_cst_2, val_main_v7, val_main_v6, val_main_cst_1,
    val_main_v13, val_main_v12, val_main_cst_3, val_main_v5, val_main_v4, val_main_v3, val_main_cst_0, val_main_v2,
    val_main_v1, val_main_cst, val_main_v23, val_main_cst_7]
  simp only [h0, h1, h2, h3, h4]

include h1 h2 h3 in
/-- The new first moment. -/
theorem block7 (r : Fin 176) (l : Fin 1024) :
    out0_7 (F := Ideal) x0 x1 x2 x3 x4 (ix2 r l) = val_main_v5 (F := Ideal) A1 A2 A3 (ix2 (row t r) l) := by
  unfold out0_7
  rw [View.canon_unit_zero off0, View.ld_unit_zero off0, View.ld_unit_zero off0, View.ld_unit_zero off0]
  unfold_payloads
  pointwise [val_main_v5, val_main_v4, val_main_v0, val_main_v3, val_main_cst_0, val_main_v2, val_main_v1, val_main_cst]
  simp only [h1, h2, h3]

include h1 h2 h4 in
/-- The new second moment. -/
theorem block8 (r : Fin 176) (l : Fin 1024) :
    out0_8 (F := Ideal) x0 x1 x2 x3 x4 (ix2 r l) = val_main_v11 (F := Ideal) A1 A2 A4 (ix2 (row t r) l) := by
  unfold out0_8
  rw [View.canon_unit_zero off0, View.ld_unit_zero off0, View.ld_unit_zero off0, View.ld_unit_zero off0]
  unfold_payloads
  pointwise [val_main_v11, val_main_v10, val_main_v8, val_main_v0, val_main_v9, val_main_cst_2, val_main_v7,
    val_main_v6, val_main_cst_1]
  simp only [h1, h2, h4]

end Cert.DownStepBlock

end
-- ==== Proof.DownStepArray.lean ====
/- The four arrays the optimiser's step of `w_down` leaves: each is the reference's value, every block of it
   being what one grid point wrote. -/
module

public import proofs.«01_k».proof.Proof.DownStepBlock
public import proofs.«01_k».proof.Proof.Index
public import Idealize.ShloMosaic.Lib.StableHlo.ReadAt

@[expose] public section

set_option maxRecDepth 16384

noncomputable section

namespace Cert.DownStepArray

open Idealize.ShloMosaic Idealize.ShloMosaic.TcCoe Idealize.SL.Sem
open Cert.DownStepRefIdeal.Read
open Cert.DownStepIdeal Cert.DownStepIdeal.Gen Cert.DownStepBlock Cert.Index

variable (m : (ℓ : Loc nD τ sig) → Buf (Elt Ideal) ℓ) (c : Dev nD)

/-! The kernel's argument arrays as functions of an index. -/

abbrev A0 : S704x1024.Idx → EReal := m ((c : Thread nD τ).loc main_arg0)
abbrev A1 : S704x1024.Idx → EReal := m ((c : Thread nD τ).loc main_arg1)
abbrev A2 : S704x1024.Idx → EReal := m ((c : Thread nD τ).loc main_arg2)
abbrev A3 : S704x1024.Idx → EReal := m ((c : Thread nD τ).loc main_arg3)
abbrev A4 : S704x1024.Idx → EReal := m ((c : Thread nD τ).loc main_arg4)

/-- The windows that walk down the rows, one block a point. -/
theorem index_rows : ∀ t : Fin grid0.N,
    (win0_0.index t 0 = t.val ∧ win0_0.index t 1 = 0) ∧ (win0_1.index t 0 = t.val ∧ win0_1.index t 1 = 0) ∧ (win0_2.index
    t 0 = t.val ∧ win0_2.index t 1 = 0) ∧ (win0_3.index t 0 = t.val ∧ win0_3.index t 1 = 0) ∧ (win0_4.index t 0 =
    t.val ∧ win0_4.index t 1 = 0) ∧ (win0_5.index t 0 = t.val ∧ win0_5.index t 1 = 0) ∧ (win0_6.index t 0 = t.val ∧
    win0_6.index t 1 = 0) ∧ (win0_7.index t 0 = t.val ∧ win0_7.index t 1 = 0) ∧ (win0_8.index t 0 = t.val ∧
    win0_8.index t 1 = 0) := by decide +kernel

/-! Where a block's element lies in its array. -/

theorem emb0 (t : Fin cfg0.N) (r : Fin 176) (k : Fin 1024) :
    ((cfg0.win 0).blk t).view.emb (ix2 r k) = ix2 (row t r) k :=
  ix2_of ((win0_0.rect_emb_val t (ix2 r k) 0).trans (at_row (index_rows t).1.1))
    ((win0_0.rect_emb_val t (ix2 r k) 1).trans (at_all (index_rows t).1.2))

theorem emb1 (t : Fin cfg0.N) (r : Fin 176) (k : Fin 1024) :
    ((cfg0.win 1).blk t).view.emb (ix2 r k) = ix2 (row t r) k :=
  ix2_of ((win0_1.rect_emb_val t (ix2 r k) 0).trans (at_row (index_rows t).2.1.1))
    ((win0_1.rect_emb_val t (ix2 r k) 1).trans (at_all (index_rows t).2.1.2))

theorem emb2 (t : Fin cfg0.N) (r : Fin 176) (k : Fin 1024) :
    ((cfg0.win 2).blk t).view.emb (ix2 r k) = ix2 (row t r) k :=
  ix2_of ((win0_2.rect_emb_val t (ix2 r k) 0).trans (at_row (index_rows t).2.2.1.1))
    ((win0_2.rect_emb_val t (ix2 r k) 1).trans (at_all (index_rows t).2.2.1.2))

theorem emb3 (t : Fin cfg0.N) (r : Fin 176) (k : Fin 1024) :
    ((cfg0.win 3).blk t).view.emb (ix2 r k) = ix2 (row t r) k :=
  ix2_of ((win0_3.rect_emb_val t (ix2 r k) 0).trans (at_row (index_rows t).2.2.2.1.1))
    ((win0_3.rect_emb_val t (ix2 r k) 1).trans (at_all (index_rows t).2.2.2.1.2))

theorem emb4 (t : Fin cfg0.N) (r : Fin 176) (k : Fin 1024) :
    ((cfg0.win 4).blk t).view.emb (ix2 r k) = ix2 (row t r) k :=
  ix2_of ((win0_4.rect_emb_val t (ix2 r k) 0).trans (at_row (index_rows t).2.2.2.2.1.1))
    ((win0_4.rect_emb_val t (ix2 r k) 1).trans (at_all (index_rows t).2.2.2.2.1.2))

theorem emb5 (t : Fin cfg0.N) (r : Fin 176) (k : Fin 1024) :
    ((cfg0.win 5).blk t).view.emb (ix2 r k) = ix2 (row t r) k :=
  ix2_of ((win0_5.rect_emb_val t (ix2 r k) 0).trans (at_row (index_rows t).2.2.2.2.2.1.1))
    ((win0_5.rect_emb_val t (ix2 r k) 1).trans (at_all (index_rows t).2.2.2.2.2.1.2))

theorem emb6 (t : Fin cfg0.N) (r : Fin 176) (k : Fin 1024) :
    ((cfg0.win 6).blk t).view.emb (ix2 r k) = ix2 (row t r) k :=
  ix2_of ((win0_6.rect_emb_val t (ix2 r k) 0).trans (at_row (index_rows t).2.2.2.2.2.2.1.1))
    ((win0_6.rect_emb_val t (ix2 r k) 1).trans (at_all (index_rows t).2.2.2.2.2.2.1.2))

theorem emb7 (t : Fin cfg0.N) (r : Fin 176) (k : Fin 1024) :
    ((cfg0.win 7).blk t).view.emb (ix2 r k) = ix2 (row t r) k :=
  ix2_of ((win0_7.rect_emb_val t (ix2 r k) 0).trans (at_row (index_rows t).2.2.2.2.2.2.2.1.1))
    ((win0_7.rect_emb_val t (ix2 r k) 1).trans (at_all (index_rows t).2.2.2.2.2.2.2.1.2))

theorem emb8 (t : Fin cfg0.N) (r : Fin 176) (k : Fin 1024) :
    ((cfg0.win 8).blk t).view.emb (ix2 r k) = ix2 (row t r) k :=
  ix2_of ((win0_8.rect_emb_val t (ix2 r k) 0).trans (at_row (index_rows t).2.2.2.2.2.2.2.2.1))
    ((win0_8.rect_emb_val t (ix2 r k) 1).trans (at_all (index_rows t).2.2.2.2.2.2.2.2.2))

/-! What each input window's block holds at a point. -/

theorem read0 (t : Fin cfg0.N) (r : Fin 176) (k : Fin 1024) :
    iblk m c 0 t (ix2 r k) = A0 m c (ix2 (row t r) k) := by
  unfold iblk
  rw [View.read_apply, emb0]
  exact congrFun (V_main_arg0 m c) _

theorem read1 (t : Fin cfg0.N) (r : Fin 176) (k : Fin 1024) :
    iblk m c 1 t (ix2 r k) = A1 m c (ix2 (row t r) k) := by
  unfold iblk
  rw [View.read_apply, emb1]
  exact congrFun (V_main_arg1 m c) _

theorem read2 (t : Fin cfg0.N) (r : Fin 176) (k : Fin 1024) :
    iblk m c 2 t (ix2 r k) = A2 m c (ix2 (row t r) k) := by
  unfold iblk
  rw [View.read_apply, emb2]
  exact congrFun (V_main_arg2 m c) _

theorem read3 (t : Fin cfg0.N) (r : Fin 176) (k : Fin 1024) :
    iblk m c 3 t (ix2 r k) = A3 m c (ix2 (row t r) k) := by
  unfold iblk
  rw [View.read_apply, emb3]
  exact congrFun (V_main_arg3 m c) _

theorem read4 (t : Fin cfg0.N) (r : Fin 176) (k : Fin 1024) :
    iblk m c 4 t (ix2 r k) = A4 m c (ix2 (row t r) k) := by
  unfold iblk
  rw [View.read_apply, emb4]
  exact congrFun (V_main_arg4 m c) _

/-- Every row is row `r` of some block `t`. -/
theorem row_split (i : Fin 704) : ∃ (t : Fin 4) (r : Fin 176), i = row t r :=
  ⟨⟨i.val / 176, by omega⟩, ⟨i.val % 176, by omega⟩, Fin.ext (by show i.val = 176 * (i.val / 176) + i.val % 176; omega)⟩

/-! The arrays: each output window's blocks cover its array, and each block is the reference's. -/

/-- The array of the gradient, its two parts added is the reference's. -/
theorem final5 : (dats m 0 c).arrAt 5 cfg0.N = val_main_v0 (F := Ideal) (A1 m c) (A2 m c) := by
  refine (dats m 0 c).arrAt_eq_of_cover 5 _ (fun t _ => ?_) (fun i => ?_)
  · rw [Cert.DownStepIdeal.Value.flushed5]
    funext y
    obtain ⟨r, k, rfl⟩ : ∃ (r : Fin 176) (k : Fin 1024), y = ix2 r k := ⟨y 0, y 1, eq_ix2 y⟩
    rw [View.read_apply, emb5]
    exact block5 _ _ _ _ _ _ _ t (read1 m c t) (read2 m c t) r k
  · obtain ⟨t, r, h⟩ := row_split (i 0)
    rw [(eq_ix2 i).trans ((congrArg (ix2 · (i 1)) h).trans (emb5 t r (i 1)).symm)]
    exact ⟨t, flush0_5 t, View.emb_mem_set _ _⟩

/-- The array of the step is the reference's. -/
theorem final6 : (dats m 0 c).arrAt 6 cfg0.N = val_main_v24 (F := Ideal) (A0 m c) (A1 m c) (A2 m c) (A3 m c) (A4 m c) := by
  refine (dats m 0 c).arrAt_eq_of_cover 6 _ (fun t _ => ?_) (fun i => ?_)
  · rw [Cert.DownStepIdeal.Value.flushed6]
    funext y
    obtain ⟨r, k, rfl⟩ : ∃ (r : Fin 176) (k : Fin 1024), y = ix2 r k := ⟨y 0, y 1, eq_ix2 y⟩
    rw [View.read_apply, emb6]
    exact block6 _ _ _ _ _ _ _ _ _ _ t (read0 m c t) (read1 m c t) (read2 m c t) (read3 m c t) (read4 m c t) r k
  · obtain ⟨t, r, h⟩ := row_split (i 0)
    rw [(eq_ix2 i).trans ((congrArg (ix2 · (i 1)) h).trans (emb6 t r (i 1)).symm)]
    exact ⟨t, flush0_6 t, View.emb_mem_set _ _⟩

/-- The array of the new first moment is the reference's. -/
theorem final7 : (dats m 0 c).arrAt 7 cfg0.N = val_main_v5 (F := Ideal) (A1 m c) (A2 m c) (A3 m c) := by
  refine (dats m 0 c).arrAt_eq_of_cover 7 _ (fun t _ => ?_) (fun i => ?_)
  · rw [Cert.DownStepIdeal.Value.flushed7]
    funext y
    obtain ⟨r, k, rfl⟩ : ∃ (r : Fin 176) (k : Fin 1024), y = ix2 r k := ⟨y 0, y 1, eq_ix2 y⟩
    rw [View.read_apply, emb7]
    exact block7 _ _ _ _ _ _ _ _ t (read1 m c t) (read2 m c t) (read3 m c t) r k
  · obtain ⟨t, r, h⟩ := row_split (i 0)
    rw [(eq_ix2 i).trans ((congrArg (ix2 · (i 1)) h).trans (emb7 t r (i 1)).symm)]
    exact ⟨t, flush0_7 t, View.emb_mem_set _ _⟩

/-- The array of the new second moment is the reference's. -/
theorem final8 : (dats m 0 c).arrAt 8 cfg0.N = val_main_v11 (F := Ideal) (A1 m c) (A2 m c) (A4 m c) := by
  refine (dats m 0 c).arrAt_eq_of_cover 8 _ (fun t _ => ?_) (fun i => ?_)
  · rw [Cert.DownStepIdeal.Value.flushed8]
    funext y
    obtain ⟨r, k, rfl⟩ : ∃ (r : Fin 176) (k : Fin 1024), y = ix2 r k := ⟨y 0, y 1, eq_ix2 y⟩
    rw [View.read_apply, emb8]
    exact block8 _ _ _ _ _ _ _ _ t (read1 m c t) (read2 m c t) (read4 m c t) r k
  · obtain ⟨t, r, h⟩ := row_split (i 0)
    rw [(eq_ix2 i).trans ((congrArg (ix2 · (i 1)) h).trans (emb8 t r (i 1)).symm)]
    exact ⟨t, flush0_8 t, View.emb_mem_set _ _⟩

end Cert.DownStepArray

end
-- ==== Proof.DownStepValue.lean ====
/- The optimiser's step of `w_down`: the kernel and the reference leave the same four arrays. -/
module

public import proofs.«01_k».proof.Defs
public import proofs.«01_k».proof.Proof.DownStepArray

@[expose] public section

set_option maxRecDepth 16384

noncomputable section

namespace Cert.DownStepValue

open Idealize.ShloMosaic Idealize.ShloMosaic.TcCoe Idealize.SL.Sem
open Cert.DownStepRefIdeal.Read Cert.DownStepArray

/-- The reference terminates, keeps its arguments and leaves every counter at zero. -/
theorem frame_ref : quiescent_DownStepRefIdeal := fun m ρ _ =>
  (θ_run Cert.DownStepRefIdeal.defs _ _).mono
    (fun r h => ⟨fun c => (h c).2.2.2.2, sem_eq_zero_of_no_sems (by decide) r.2⟩) (Cert.DownStepRefIdeal.Value.run m ρ)

/-- From memories that agree on the arguments both programs run and end with equal results. -/
theorem algebraic : algebraic_DownStepIdeal_DownStepRefIdeal := by
  intro m g m' g' _ h
  refine ⟨fun c => val_main_v0 (F := Ideal) (A1 m c) (A2 m c), fun c => val_main_v24 (F := Ideal) (A0 m c) (A1 m c) (A2
    m c) (A3 m c) (A4 m c), fun c => val_main_v5 (F := Ideal) (A1 m c) (A2 m c) (A3 m c), fun c => val_main_v11 (F :=
    Ideal) (A1 m c) (A2 m c) (A4 m c), ?_, ?_⟩
  · refine (θ_run _ _ _).mono (fun r H c => ?_) (Cert.DownStepIdeal.Value.run_blocks m g)
    obtain ⟨h5, h6, h7, h8, hargs⟩ := H c
    exact ⟨h5.trans (final5 m c), h6.trans (final6 m c), h7.trans (final7 m c), h8.trans (final8 m c), hargs⟩
  · refine (θ_run _ _ _).mono (fun r H c => ?_) (Cert.DownStepRefIdeal.Value.run m' g')
    obtain ⟨h5, h6, h7, h8, hargs⟩ := H c
    obtain ⟨e0, e1, e2, e3, e4⟩ := h c
    rw [e1, e2] at h5
    rw [e0, e1, e2, e3, e4] at h6
    rw [e1, e2, e3] at h7
    rw [e1, e2, e4] at h8
    exact ⟨h5, h6, h7, h8, hargs⟩

end Cert.DownStepValue

end
-- ==== Proof.OutStepBlock.lean ====
/- What one grid point of the optimiser's step of `w_o` computes, element by element, and that it is the
   reference's value at the place the block's element stands for. -/
module

public import proofs.«01_k».proof.Proof.Gen.OutStepIdeal.Value
public import proofs.«01_k».proof.Proof.Gen.OutStepRefIdeal.Read
public import Idealize.ShloMosaic.Lib.Pointwise

@[expose] public section

set_option maxRecDepth 16384

noncomputable section

namespace Cert.OutStepBlock

open Idealize.ShloMosaic Idealize.ShloMosaic.TcCoe
open Cert.OutStepRefIdeal.Read
open Cert.OutStepIdeal Cert.OutStepIdeal.Gen

/-- The array's row that row `r` of block `t` stands for. -/
abbrev row (t : Fin 1) (r : Fin 256) : Fin 256 := ⟨256 * t.val + r.val, by omega⟩

theorem off0 : (![0, 0] : Fin 2 → Nat) = fun _ => 0 := funext fun a => by fin_cases a <;> rfl

/-- There is one block only. -/
theorem row_one (t : Fin 1) (r : Fin 256) : row t r = r := Fin.ext (by show 256 * t.val + r.val = r.val; omega)

/-! Reading a whole block reads the block. -/

theorem ld0 (x : Vec Ideal S256x1024 .f32) : View.ld x (Rect.unit ![0, 0] ![256, 1024] inb_S256x1024_S256x1024_0_0) = x :=
  View.ld_unit_zero off0 _ x

/-! The point and its staging buffers. -/

variable {c : Dev nD} {i : grid0.Coords}
  {arg2 : Memref sig .tc .vmem S256x1024 .f32} {harg2 : arg2.IsWhole}
  {arg3 : Memref sig .tc .vmem S256x1024 .f32} {harg3 : arg3.IsWhole}
  {arg4 : Memref sig .tc .vmem S256x1024 .f32} {harg4 : arg4.IsWhole}
  {arg5 : Memref sig .tc .vmem S256x1024 .f32} {harg5 : arg5.IsWhole}
  {arg6 : Memref sig .tc .vmem S256x1024 .f32} {harg6 : arg6.IsWhole}
  {arg7 : Memref sig .tc .vmem S256x1024 .f32} {harg7 : arg7.IsWhole}
  {arg8 : Memref sig .tc .vmem S256x1024 .f32} {harg8 : arg8.IsWhole}
  {arg9 : Memref sig .tc .vmem S256x1024 .f32} {harg9 : arg9.IsWhole}
  {arg10 : Memref sig .tc .vmem S256x1024 .f32} {harg10 : arg10.IsWhole}

variable (A0 : Cert.OutStepRefIdeal.S256x1024.Idx → EReal) (A1 : Cert.OutStepRefIdeal.S256x1024.Idx → EReal) (A2 : Cert.OutStepRefIdeal.S256x1024.Idx → EReal) (A3 : Cert.OutStepRefIdeal.S256x1024.Idx → EReal) (A4 : Cert.OutStepRefIdeal.S256x1024.Idx → EReal)
  (x0 : Vec Ideal S256x1024 .f32) (x1 : Vec Ideal S256x1024 .f32) (x2 : Vec Ideal S256x1024 .f32) (x3 : Vec Ideal S256x1024 .f32) (x4 : Vec Ideal S256x1024 .f32) (t : Fin 1)
  (h0 : ∀ r k, x0 (ix2 r k) = A0 (ix2 (row t r) k))
  (h1 : ∀ r k, x1 (ix2 r k) = A1 (ix2 (row t r) k))
  (h2 : ∀ r k, x2 (ix2 r k) = A2 (ix2 (row t r) k))
  (h3 : ∀ r k, x3 (ix2 r k) = A3 (ix2 (row t r) k))
  (h4 : ∀ r k, x4 (ix2 r k) = A4 (ix2 (row t r) k))

include h1 h2 in
/-- The gradient, its two parts added. -/
theorem block5 (r : Fin 256) (l : Fin 1024) :
    out0_A_5 (F := Ideal) c i arg2 harg2 arg3 harg3 arg4 harg4 arg5 harg5 arg6 harg6 arg7 harg7 arg8 harg8 arg9 harg9 arg10 harg10 x0 x1 x2 x3 x4 (ix2 r l) = val_main_v0 (F := Ideal) A1 A2 (ix2 (row t r) l) := by
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero off0]
  simp only [View.readAt_eq_ld, harg2.read_unread, harg3.read_unread, harg4.read_unread, harg5.read_unread, harg6.read_unread, ld0]
  unfold_payloads
  pointwise [val_main_v0]
  simp only [h1, h2, row_one]

include h0 h1 h2 h3 h4 in
/-- The step. -/
theorem block6 (r : Fin 256) (l : Fin 1024) :
    out0_A_6 (F := Ideal) c i arg2 harg2 arg3 harg3 arg4 harg4 arg5 harg5 arg6 harg6 arg7 harg7 arg8 harg8 arg9 harg9 arg10 harg10 x0 x1 x2 x3 x4 (ix2 r l) = val_main_v24 (F := Ideal) A0 A1 A2 A3 A4 (ix2 (row t r) l) := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero off0]
  simp only [View.readAt_eq_ld, harg2.read_unread, harg3.read_unread, harg4.read_unread, harg5.read_unread, harg6.read_unread, ld0]
  unfold_payloads
  pointwise [val_main_v24, val_main_v22, val_main_v21, val_main_v20, val_main_cst_6, val_main_v19, val_main_v18,
    val_main_v17, val_main_cst_5, val_main_v16, val_main_v15, val_main_v14, val_main_cst_4, val_main_v11,
    val_main_v10, val_main_v8, val_main_v0, val_main_v9, val_main_cst_2, val_main_v7, val_main_v6, val_main_cst_1,
    val_main_v13, val_main_v12, val_main_cst_3, val_main_v5, val_main_v4, val_main_v3, val_main_cst_0, val_main_v2,
    val_main_v1, val_main_cst, val_main_v23, val_main_cst_7]
  simp only [h0, h1, h2, h3, h4, row_one]

include h1 h2 h3 in
/-- The new first moment. -/
theorem block7 (r : Fin 256) (l : Fin 1024) :
    out0_A_7 (F := Ideal) c i arg2 harg2 arg3 harg3 arg4 harg4 arg5 harg5 arg6 harg6 arg7 harg7 arg8 harg8 arg9 harg9 arg10 harg10 x0 x1 x2 x3 x4 (ix2 r l) = val_main_v5 (F := Ideal) A1 A2 A3 (ix2 (row t r) l) := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero off0]
  simp only [View.readAt_eq_ld, harg2.read_unread, harg3.read_unread, harg4.read_unread, harg5.read_unread, harg6.read_unread, ld0]
  unfold_payloads
  pointwise [val_main_v5, val_main_v4, val_main_v0, val_main_v3, val_main_cst_0, val_main_v2, val_main_v1, val_main_cst]
  simp only [h1, h2, h3, row_one]

include h1 h2 h4 in
/-- The new second moment. -/
theorem block8 (r : Fin 256) (l : Fin 1024) :
    out0_A_8 (F := Ideal) c i arg2 harg2 arg3 harg3 arg4 harg4 arg5 harg5 arg6 harg6 arg7 harg7 arg8 harg8 arg9 harg9 arg10 harg10 x0 x1 x2 x3 x4 (ix2 r l) = val_main_v11 (F := Ideal) A1 A2 A4 (ix2 (row t r) l) := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero off0]
  simp only [View.readAt_eq_ld, harg2.read_unread, harg3.read_unread, harg4.read_unread, harg5.read_unread, harg6.read_unread, ld0]
  unfold_payloads
  pointwise [val_main_v11, val_main_v10, val_main_v8, val_main_v0, val_main_v9, val_main_cst_2, val_main_v7,
    val_main_v6, val_main_cst_1]
  simp only [h1, h2, h4, row_one]

end Cert.OutStepBlock

end
-- ==== Proof.OutStepArray.lean ====
/- The four arrays the optimiser's step of `w_o` leaves: each is the reference's value, every block of it
   being what one grid point wrote. -/
module

public import proofs.«01_k».proof.Proof.OutStepBlock
public import proofs.«01_k».proof.Proof.Index
public import Idealize.ShloMosaic.Lib.StableHlo.ReadAt

@[expose] public section

set_option maxRecDepth 16384

noncomputable section

namespace Cert.OutStepArray

open Idealize.ShloMosaic Idealize.ShloMosaic.TcCoe Idealize.SL.Sem
open Cert.OutStepRefIdeal.Read
open Cert.OutStepIdeal Cert.OutStepIdeal.Gen Cert.OutStepBlock Cert.Index

variable (m : (ℓ : Loc nD τ sig) → Buf (Elt Ideal) ℓ) (c : Dev nD)

/-! The kernel's argument arrays as functions of an index. -/

abbrev A0 : S256x1024.Idx → EReal := m ((c : Thread nD τ).loc main_arg0)
abbrev A1 : S256x1024.Idx → EReal := m ((c : Thread nD τ).loc main_arg1)
abbrev A2 : S256x1024.Idx → EReal := m ((c : Thread nD τ).loc main_arg2)
abbrev A3 : S256x1024.Idx → EReal := m ((c : Thread nD τ).loc main_arg3)
abbrev A4 : S256x1024.Idx → EReal := m ((c : Thread nD τ).loc main_arg4)

/-- The windows that walk down the rows, one block a point. -/
theorem index_rows : ∀ t : Fin grid0.N,
    (win0_0.index t 0 = t.val ∧ win0_0.index t 1 = 0) ∧ (win0_1.index t 0 = t.val ∧ win0_1.index t 1 = 0) ∧ (win0_2.index
    t 0 = t.val ∧ win0_2.index t 1 = 0) ∧ (win0_3.index t 0 = t.val ∧ win0_3.index t 1 = 0) ∧ (win0_4.index t 0 =
    t.val ∧ win0_4.index t 1 = 0) ∧ (win0_5.index t 0 = t.val ∧ win0_5.index t 1 = 0) ∧ (win0_6.index t 0 = t.val ∧
    win0_6.index t 1 = 0) ∧ (win0_7.index t 0 = t.val ∧ win0_7.index t 1 = 0) ∧ (win0_8.index t 0 = t.val ∧
    win0_8.index t 1 = 0) := by decide +kernel

/-! Where a block's element lies in its array. -/

theorem emb0 (t : Fin cfg0.N) (r : Fin 256) (k : Fin 1024) :
    ((cfg0.win 0).blk t).view.emb (ix2 r k) = ix2 (row t r) k :=
  ix2_of ((win0_0.rect_emb_val t (ix2 r k) 0).trans (at_row (index_rows t).1.1))
    ((win0_0.rect_emb_val t (ix2 r k) 1).trans (at_all (index_rows t).1.2))

theorem emb1 (t : Fin cfg0.N) (r : Fin 256) (k : Fin 1024) :
    ((cfg0.win 1).blk t).view.emb (ix2 r k) = ix2 (row t r) k :=
  ix2_of ((win0_1.rect_emb_val t (ix2 r k) 0).trans (at_row (index_rows t).2.1.1))
    ((win0_1.rect_emb_val t (ix2 r k) 1).trans (at_all (index_rows t).2.1.2))

theorem emb2 (t : Fin cfg0.N) (r : Fin 256) (k : Fin 1024) :
    ((cfg0.win 2).blk t).view.emb (ix2 r k) = ix2 (row t r) k :=
  ix2_of ((win0_2.rect_emb_val t (ix2 r k) 0).trans (at_row (index_rows t).2.2.1.1))
    ((win0_2.rect_emb_val t (ix2 r k) 1).trans (at_all (index_rows t).2.2.1.2))

theorem emb3 (t : Fin cfg0.N) (r : Fin 256) (k : Fin 1024) :
    ((cfg0.win 3).blk t).view.emb (ix2 r k) = ix2 (row t r) k :=
  ix2_of ((win0_3.rect_emb_val t (ix2 r k) 0).trans (at_row (index_rows t).2.2.2.1.1))
    ((win0_3.rect_emb_val t (ix2 r k) 1).trans (at_all (index_rows t).2.2.2.1.2))

theorem emb4 (t : Fin cfg0.N) (r : Fin 256) (k : Fin 1024) :
    ((cfg0.win 4).blk t).view.emb (ix2 r k) = ix2 (row t r) k :=
  ix2_of ((win0_4.rect_emb_val t (ix2 r k) 0).trans (at_row (index_rows t).2.2.2.2.1.1))
    ((win0_4.rect_emb_val t (ix2 r k) 1).trans (at_all (index_rows t).2.2.2.2.1.2))

theorem emb5 (t : Fin cfg0.N) (r : Fin 256) (k : Fin 1024) :
    ((cfg0.win 5).blk t).view.emb (ix2 r k) = ix2 (row t r) k :=
  ix2_of ((win0_5.rect_emb_val t (ix2 r k) 0).trans (at_row (index_rows t).2.2.2.2.2.1.1))
    ((win0_5.rect_emb_val t (ix2 r k) 1).trans (at_all (index_rows t).2.2.2.2.2.1.2))

theorem emb6 (t : Fin cfg0.N) (r : Fin 256) (k : Fin 1024) :
    ((cfg0.win 6).blk t).view.emb (ix2 r k) = ix2 (row t r) k :=
  ix2_of ((win0_6.rect_emb_val t (ix2 r k) 0).trans (at_row (index_rows t).2.2.2.2.2.2.1.1))
    ((win0_6.rect_emb_val t (ix2 r k) 1).trans (at_all (index_rows t).2.2.2.2.2.2.1.2))

theorem emb7 (t : Fin cfg0.N) (r : Fin 256) (k : Fin 1024) :
    ((cfg0.win 7).blk t).view.emb (ix2 r k) = ix2 (row t r) k :=
  ix2_of ((win0_7.rect_emb_val t (ix2 r k) 0).trans (at_row (index_rows t).2.2.2.2.2.2.2.1.1))
    ((win0_7.rect_emb_val t (ix2 r k) 1).trans (at_all (index_rows t).2.2.2.2.2.2.2.1.2))

theorem emb8 (t : Fin cfg0.N) (r : Fin 256) (k : Fin 1024) :
    ((cfg0.win 8).blk t).view.emb (ix2 r k) = ix2 (row t r) k :=
  ix2_of ((win0_8.rect_emb_val t (ix2 r k) 0).trans (at_row (index_rows t).2.2.2.2.2.2.2.2.1))
    ((win0_8.rect_emb_val t (ix2 r k) 1).trans (at_all (index_rows t).2.2.2.2.2.2.2.2.2))

/-! What each input window's block holds at a point. -/

theorem read0 (t : Fin cfg0.N) (r : Fin 256) (k : Fin 1024) :
    iblk m c 0 t (ix2 r k) = A0 m c (ix2 (row t r) k) := by
  unfold iblk
  rw [View.read_apply, emb0]
  exact congrFun (V_main_arg0 m c) _

theorem read1 (t : Fin cfg0.N) (r : Fin 256) (k : Fin 1024) :
    iblk m c 1 t (ix2 r k) = A1 m c (ix2 (row t r) k) := by
  unfold iblk
  rw [View.read_apply, emb1]
  exact congrFun (V_main_arg1 m c) _

theorem read2 (t : Fin cfg0.N) (r : Fin 256) (k : Fin 1024) :
    iblk m c 2 t (ix2 r k) = A2 m c (ix2 (row t r) k) := by
  unfold iblk
  rw [View.read_apply, emb2]
  exact congrFun (V_main_arg2 m c) _

theorem read3 (t : Fin cfg0.N) (r : Fin 256) (k : Fin 1024) :
    iblk m c 3 t (ix2 r k) = A3 m c (ix2 (row t r) k) := by
  unfold iblk
  rw [View.read_apply, emb3]
  exact congrFun (V_main_arg3 m c) _

theorem read4 (t : Fin cfg0.N) (r : Fin 256) (k : Fin 1024) :
    iblk m c 4 t (ix2 r k) = A4 m c (ix2 (row t r) k) := by
  unfold iblk
  rw [View.read_apply, emb4]
  exact congrFun (V_main_arg4 m c) _

/-- Every row is row `r` of some block `t`. -/
theorem row_split (i : Fin 256) : ∃ (t : Fin 1) (r : Fin 256), i = row t r :=
  ⟨⟨i.val / 256, by omega⟩, ⟨i.val % 256, by omega⟩, Fin.ext (by show i.val = 256 * (i.val / 256) + i.val % 256; omega)⟩

/-! The arrays: each output window's blocks cover its array, and each block is the reference's. -/

/-- The array of the gradient, its two parts added is the reference's. -/
theorem final5 : (dats m 0 c).arrAt 5 cfg0.N = val_main_v0 (F := Ideal) (A1 m c) (A2 m c) := by
  refine (dats m 0 c).arrAt_eq_of_cover 5 _ (fun t _ => ?_) (fun i => ?_)
  · rw [Cert.OutStepIdeal.Value.flushed5_A]
    funext y
    obtain ⟨r, k, rfl⟩ : ∃ (r : Fin 256) (k : Fin 1024), y = ix2 r k := ⟨y 0, y 1, eq_ix2 y⟩
    rw [View.read_apply, emb5]
    exact block5 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) _ _ (iblk m c 0 t) (iblk m c 1 t) (iblk m c 2 t) (iblk m c 3 t) (iblk m c 4 t) t (read1 m c t) (read2 m c t) r k
  · obtain ⟨t, r, h⟩ := row_split (i 0)
    rw [(eq_ix2 i).trans ((congrArg (ix2 · (i 1)) h).trans (emb5 t r (i 1)).symm)]
    exact ⟨t, flush0_5 t, View.emb_mem_set _ _⟩

/-- The array of the step is the reference's. -/
theorem final6 : (dats m 0 c).arrAt 6 cfg0.N = val_main_v24 (F := Ideal) (A0 m c) (A1 m c) (A2 m c) (A3 m c) (A4 m c) := by
  refine (dats m 0 c).arrAt_eq_of_cover 6 _ (fun t _ => ?_) (fun i => ?_)
  · rw [Cert.OutStepIdeal.Value.flushed6_A]
    funext y
    obtain ⟨r, k, rfl⟩ : ∃ (r : Fin 256) (k : Fin 1024), y = ix2 r k := ⟨y 0, y 1, eq_ix2 y⟩
    rw [View.read_apply, emb6]
    exact block6 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) _ _ _ _ _ (iblk m c 0 t) (iblk m c 1 t) (iblk m c 2 t) (iblk m c 3 t) (iblk m c 4 t) t (read0 m c t) (read1 m c t) (read2 m c t) (read3 m c t) (read4 m c t) r k
  · obtain ⟨t, r, h⟩ := row_split (i 0)
    rw [(eq_ix2 i).trans ((congrArg (ix2 · (i 1)) h).trans (emb6 t r (i 1)).symm)]
    exact ⟨t, flush0_6 t, View.emb_mem_set _ _⟩

/-- The array of the new first moment is the reference's. -/
theorem final7 : (dats m 0 c).arrAt 7 cfg0.N = val_main_v5 (F := Ideal) (A1 m c) (A2 m c) (A3 m c) := by
  refine (dats m 0 c).arrAt_eq_of_cover 7 _ (fun t _ => ?_) (fun i => ?_)
  · rw [Cert.OutStepIdeal.Value.flushed7_A]
    funext y
    obtain ⟨r, k, rfl⟩ : ∃ (r : Fin 256) (k : Fin 1024), y = ix2 r k := ⟨y 0, y 1, eq_ix2 y⟩
    rw [View.read_apply, emb7]
    exact block7 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) _ _ _ (iblk m c 0 t) (iblk m c 1 t) (iblk m c 2 t) (iblk m c 3 t) (iblk m c 4 t) t (read1 m c t) (read2 m c t) (read3 m c t) r k
  · obtain ⟨t, r, h⟩ := row_split (i 0)
    rw [(eq_ix2 i).trans ((congrArg (ix2 · (i 1)) h).trans (emb7 t r (i 1)).symm)]
    exact ⟨t, flush0_7 t, View.emb_mem_set _ _⟩

/-- The array of the new second moment is the reference's. -/
theorem final8 : (dats m 0 c).arrAt 8 cfg0.N = val_main_v11 (F := Ideal) (A1 m c) (A2 m c) (A4 m c) := by
  refine (dats m 0 c).arrAt_eq_of_cover 8 _ (fun t _ => ?_) (fun i => ?_)
  · rw [Cert.OutStepIdeal.Value.flushed8_A]
    funext y
    obtain ⟨r, k, rfl⟩ : ∃ (r : Fin 256) (k : Fin 1024), y = ix2 r k := ⟨y 0, y 1, eq_ix2 y⟩
    rw [View.read_apply, emb8]
    exact block8 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) _ _ _ (iblk m c 0 t) (iblk m c 1 t) (iblk m c 2 t) (iblk m c 3 t) (iblk m c 4 t) t (read1 m c t) (read2 m c t) (read4 m c t) r k
  · obtain ⟨t, r, h⟩ := row_split (i 0)
    rw [(eq_ix2 i).trans ((congrArg (ix2 · (i 1)) h).trans (emb8 t r (i 1)).symm)]
    exact ⟨t, flush0_8 t, View.emb_mem_set _ _⟩

end Cert.OutStepArray

end
-- ==== Proof.OutStepValue.lean ====
/- The optimiser's step of `w_o`: the kernel and the reference leave the same four arrays. -/
module

public import proofs.«01_k».proof.Defs
public import proofs.«01_k».proof.Proof.OutStepArray

@[expose] public section

set_option maxRecDepth 16384

noncomputable section

namespace Cert.OutStepValue

open Idealize.ShloMosaic Idealize.ShloMosaic.TcCoe Idealize.SL.Sem
open Cert.OutStepRefIdeal.Read Cert.OutStepArray

/-- The reference terminates, keeps its arguments and leaves every counter at zero. -/
theorem frame_ref : quiescent_OutStepRefIdeal := fun m ρ _ =>
  (θ_run Cert.OutStepRefIdeal.defs _ _).mono
    (fun r h => ⟨fun c => (h c).2.2.2.2, sem_eq_zero_of_no_sems (by decide) r.2⟩) (Cert.OutStepRefIdeal.Value.run m ρ)

/-- From memories that agree on the arguments both programs run and end with equal results. -/
theorem algebraic : algebraic_OutStepIdeal_OutStepRefIdeal := by
  intro m g m' g' _ h
  refine ⟨fun c => val_main_v0 (F := Ideal) (A1 m c) (A2 m c), fun c => val_main_v24 (F := Ideal) (A0 m c) (A1 m c) (A2
    m c) (A3 m c) (A4 m c), fun c => val_main_v5 (F := Ideal) (A1 m c) (A2 m c) (A3 m c), fun c => val_main_v11 (F :=
    Ideal) (A1 m c) (A2 m c) (A4 m c), ?_, ?_⟩
  · refine (θ_run _ _ _).mono (fun r H c => ?_) (Cert.OutStepIdeal.Value.run_blocks m g)
    obtain ⟨h5, h6, h7, h8, hargs⟩ := H c
    exact ⟨h5.trans (final5 m c), h6.trans (final6 m c), h7.trans (final7 m c), h8.trans (final8 m c), hargs⟩
  · refine (θ_run _ _ _).mono (fun r H c => ?_) (Cert.OutStepRefIdeal.Value.run m' g')
    obtain ⟨h5, h6, h7, h8, hargs⟩ := H c
    obtain ⟨e0, e1, e2, e3, e4, _⟩ := h c
    rw [e1, e2] at h5
    rw [e0, e1, e2, e3, e4] at h6
    rw [e1, e2, e3] at h7
    rw [e1, e2, e4] at h8
    exact ⟨h5, h6, h7, h8, hargs⟩

end Cert.OutStepValue

end
-- ==== Proof.BranchStepBlock.lean ====
/- What one grid point of the optimiser's step of a branch projection's weight computes, element by element, and that it is the
   reference's value at the place the block's element stands for. -/
module

public import proofs.«01_k».proof.Proof.Gen.BranchStepIdeal.Value
public import proofs.«01_k».proof.Proof.Gen.BranchStepRefIdeal.Read
public import Idealize.ShloMosaic.Lib.Pointwise

@[expose] public section

set_option maxRecDepth 16384

noncomputable section

namespace Cert.BranchStepBlock

open Idealize.ShloMosaic Idealize.ShloMosaic.TcCoe
open Cert.BranchStepRefIdeal.Read
open Cert.BranchStepIdeal Cert.BranchStepIdeal.Gen

/-- The array's row that row `r` of block `t` stands for. -/
abbrev row (t : Fin 2) (r : Fin 256) : Fin 512 := ⟨256 * t.val + r.val, by omega⟩

theorem off0 : (![0, 0] : Fin 2 → Nat) = fun _ => 0 := funext fun a => by fin_cases a <;> rfl

/-! Reading a whole block reads the block. -/

theorem ld0 (x : Vec Ideal S256x256 .f32) : View.ld x (Rect.unit ![0, 0] ![256, 256] inb_S256x256_S256x256_0_0) = x :=
  View.ld_unit_zero off0 _ x

/-! The point and its staging buffers. -/

variable {c : Dev nD} {i : grid0.Coords}
  {arg2 : Memref sig .tc .vmem S256x256 .f32} {harg2 : arg2.IsWhole}
  {arg3 : Memref sig .tc .vmem S256x256 .f32} {harg3 : arg3.IsWhole}
  {arg4 : Memref sig .tc .vmem S256x256 .f32} {harg4 : arg4.IsWhole}
  {arg5 : Memref sig .tc .vmem S256x256 .f32} {harg5 : arg5.IsWhole}
  {arg6 : Memref sig .tc .vmem S256x256 .f32} {harg6 : arg6.IsWhole}
  {arg7 : Memref sig .tc .vmem S256x256 .f32} {harg7 : arg7.IsWhole}
  {arg8 : Memref sig .tc .vmem S256x256 .f32} {harg8 : arg8.IsWhole}
  {arg9 : Memref sig .tc .vmem S256x256 .f32} {harg9 : arg9.IsWhole}
  {arg10 : Memref sig .tc .vmem S256x256 .f32} {harg10 : arg10.IsWhole}

variable (A0 : Cert.BranchStepRefIdeal.S512x256.Idx → EReal) (A1 : Cert.BranchStepRefIdeal.S256x512.Idx → EReal) (A2 : Cert.BranchStepRefIdeal.S256x512.Idx → EReal) (A3 : Cert.BranchStepRefIdeal.S512x256.Idx → EReal) (A4 : Cert.BranchStepRefIdeal.S512x256.Idx → EReal)
  (x0 : Vec Ideal S256x256 .f32) (x1 : Vec Ideal S256x256 .f32) (x2 : Vec Ideal S256x256 .f32) (x3 : Vec Ideal S256x256 .f32) (x4 : Vec Ideal S256x256 .f32) (t : Fin 2)
  (h0 : ∀ r k, x0 (ix2 r k) = A0 (ix2 (row t r) k))
  (h1 : ∀ k r, x1 (ix2 k r) = A1 (ix2 k (row t r)))
  (h2 : ∀ k r, x2 (ix2 k r) = A2 (ix2 k (row t r)))
  (h3 : ∀ r k, x3 (ix2 r k) = A3 (ix2 (row t r) k))
  (h4 : ∀ r k, x4 (ix2 r k) = A4 (ix2 (row t r) k))

include h1 h2 in
/-- The gradient, its two parts added. -/
theorem block5 (r : Fin 256) (l : Fin 256) :
    out0_A_5 (F := Ideal) c i arg2 harg2 arg3 harg3 arg4 harg4 arg5 harg5 arg6 harg6 arg7 harg7 arg8 harg8 arg9 harg9 arg10 harg10 x0 x1 x2 x3 x4 (ix2 r l) = val_main_v1 (F := Ideal) A1 A2 (ix2 (row t r) l) := by
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero off0]
  simp only [View.readAt_eq_ld, harg2.read_unread, harg3.read_unread, harg4.read_unread, harg5.read_unread, harg6.read_unread, ld0]
  unfold_payloads
  pointwise [val_main_v1, val_main_v0]
  simp only [h1, h2]

include h0 h1 h2 h3 h4 in
/-- The step. -/
theorem block6 (r : Fin 256) (l : Fin 256) :
    out0_A_6 (F := Ideal) c i arg2 harg2 arg3 harg3 arg4 harg4 arg5 harg5 arg6 harg6 arg7 harg7 arg8 harg8 arg9 harg9 arg10 harg10 x0 x1 x2 x3 x4 (ix2 r l) = val_main_v25 (F := Ideal) A0 A1 A2 A3 A4 (ix2 (row t r) l) := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero off0]
  simp only [View.readAt_eq_ld, harg2.read_unread, harg3.read_unread, harg4.read_unread, harg5.read_unread, harg6.read_unread, ld0]
  unfold_payloads
  pointwise [val_main_v25, val_main_v23, val_main_v22, val_main_v21, val_main_cst_6, val_main_v20, val_main_v19,
    val_main_v18, val_main_cst_5, val_main_v17, val_main_v16, val_main_v15, val_main_cst_4, val_main_v12,
    val_main_v11, val_main_v9, val_main_v1, val_main_v0, val_main_v10, val_main_cst_2, val_main_v8, val_main_v7,
    val_main_cst_1, val_main_v14, val_main_v13, val_main_cst_3, val_main_v6, val_main_v5, val_main_v4, val_main_cst_0,
    val_main_v3, val_main_v2, val_main_cst, val_main_v24, val_main_cst_7]
  simp only [h0, h1, h2, h3, h4]

include h1 h2 h3 in
/-- The new first moment. -/
theorem block7 (r : Fin 256) (l : Fin 256) :
    out0_A_7 (F := Ideal) c i arg2 harg2 arg3 harg3 arg4 harg4 arg5 harg5 arg6 harg6 arg7 harg7 arg8 harg8 arg9 harg9 arg10 harg10 x0 x1 x2 x3 x4 (ix2 r l) = val_main_v6 (F := Ideal) A1 A2 A3 (ix2 (row t r) l) := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero off0]
  simp only [View.readAt_eq_ld, harg2.read_unread, harg3.read_unread, harg4.read_unread, harg5.read_unread, harg6.read_unread, ld0]
  unfold_payloads
  pointwise [val_main_v6, val_main_v5, val_main_v1, val_main_v0, val_main_v4, val_main_cst_0, val_main_v3, val_main_v2,
    val_main_cst]
  simp only [h1, h2, h3]

include h1 h2 h4 in
/-- The new second moment. -/
theorem block8 (r : Fin 256) (l : Fin 256) :
    out0_A_8 (F := Ideal) c i arg2 harg2 arg3 harg3 arg4 harg4 arg5 harg5 arg6 harg6 arg7 harg7 arg8 harg8 arg9 harg9 arg10 harg10 x0 x1 x2 x3 x4 (ix2 r l) = val_main_v12 (F := Ideal) A1 A2 A4 (ix2 (row t r) l) := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4)]
  unfold kernelRun0_A
  dsimp only
  sl_unfold_words
  rw [View.canon_unit_zero off0]
  simp only [View.readAt_eq_ld, harg2.read_unread, harg3.read_unread, harg4.read_unread, harg5.read_unread, harg6.read_unread, ld0]
  unfold_payloads
  pointwise [val_main_v12, val_main_v11, val_main_v9, val_main_v1, val_main_v0, val_main_v10, val_main_cst_2,
    val_main_v8, val_main_v7, val_main_cst_1]
  simp only [h1, h2, h4]

end Cert.BranchStepBlock

end
-- ==== Proof.BranchStepArray.lean ====
/- The four arrays the optimiser's step of a branch projection's weight leaves: each is the reference's value, every block of it
   being what one grid point wrote. -/
module

public import proofs.«01_k».proof.Proof.BranchStepBlock
public import proofs.«01_k».proof.Proof.Index
public import Idealize.ShloMosaic.Lib.StableHlo.ReadAt

@[expose] public section

set_option maxRecDepth 16384

noncomputable section

namespace Cert.BranchStepArray

open Idealize.ShloMosaic Idealize.ShloMosaic.TcCoe Idealize.SL.Sem
open Cert.BranchStepRefIdeal.Read
open Cert.BranchStepIdeal Cert.BranchStepIdeal.Gen Cert.BranchStepBlock Cert.Index

variable (m : (ℓ : Loc nD τ sig) → Buf (Elt Ideal) ℓ) (c : Dev nD)

/-! The kernel's argument arrays as functions of an index. -/

abbrev A0 : S512x256.Idx → EReal := m ((c : Thread nD τ).loc main_arg0)
abbrev A1 : S256x512.Idx → EReal := m ((c : Thread nD τ).loc main_arg1)
abbrev A2 : S256x512.Idx → EReal := m ((c : Thread nD τ).loc main_arg2)
abbrev A3 : S512x256.Idx → EReal := m ((c : Thread nD τ).loc main_arg3)
abbrev A4 : S512x256.Idx → EReal := m ((c : Thread nD τ).loc main_arg4)

/-- The windows that walk down the rows, one block a point. -/
theorem index_rows : ∀ t : Fin grid0.N,
    (win0_0.index t 0 = t.val ∧ win0_0.index t 1 = 0) ∧ (win0_3.index t 0 = t.val ∧ win0_3.index t 1 = 0) ∧ (win0_4.index
    t 0 = t.val ∧ win0_4.index t 1 = 0) ∧ (win0_5.index t 0 = t.val ∧ win0_5.index t 1 = 0) ∧ (win0_6.index t 0 =
    t.val ∧ win0_6.index t 1 = 0) ∧ (win0_7.index t 0 = t.val ∧ win0_7.index t 1 = 0) ∧ (win0_8.index t 0 = t.val ∧
    win0_8.index t 1 = 0) := by decide +kernel

/-- The windows that walk along the columns, one block a point. -/
theorem index_cols : ∀ t : Fin grid0.N,
    (win0_1.index t 0 = 0 ∧ win0_1.index t 1 = t.val) ∧ (win0_2.index t 0 = 0 ∧ win0_2.index t 1 = t.val) := by decide +kernel

/-! Where a block's element lies in its array. -/

theorem emb0 (t : Fin cfg0.N) (r : Fin 256) (k : Fin 256) :
    ((cfg0.win 0).blk t).view.emb (ix2 r k) = ix2 (row t r) k :=
  ix2_of ((win0_0.rect_emb_val t (ix2 r k) 0).trans (at_row (index_rows t).1.1))
    ((win0_0.rect_emb_val t (ix2 r k) 1).trans (at_all (index_rows t).1.2))

theorem emb3 (t : Fin cfg0.N) (r : Fin 256) (k : Fin 256) :
    ((cfg0.win 3).blk t).view.emb (ix2 r k) = ix2 (row t r) k :=
  ix2_of ((win0_3.rect_emb_val t (ix2 r k) 0).trans (at_row (index_rows t).2.1.1))
    ((win0_3.rect_emb_val t (ix2 r k) 1).trans (at_all (index_rows t).2.1.2))

theorem emb4 (t : Fin cfg0.N) (r : Fin 256) (k : Fin 256) :
    ((cfg0.win 4).blk t).view.emb (ix2 r k) = ix2 (row t r) k :=
  ix2_of ((win0_4.rect_emb_val t (ix2 r k) 0).trans (at_row (index_rows t).2.2.1.1))
    ((win0_4.rect_emb_val t (ix2 r k) 1).trans (at_all (index_rows t).2.2.1.2))

theorem emb5 (t : Fin cfg0.N) (r : Fin 256) (k : Fin 256) :
    ((cfg0.win 5).blk t).view.emb (ix2 r k) = ix2 (row t r) k :=
  ix2_of ((win0_5.rect_emb_val t (ix2 r k) 0).trans (at_row (index_rows t).2.2.2.1.1))
    ((win0_5.rect_emb_val t (ix2 r k) 1).trans (at_all (index_rows t).2.2.2.1.2))

theorem emb6 (t : Fin cfg0.N) (r : Fin 256) (k : Fin 256) :
    ((cfg0.win 6).blk t).view.emb (ix2 r k) = ix2 (row t r) k :=
  ix2_of ((win0_6.rect_emb_val t (ix2 r k) 0).trans (at_row (index_rows t).2.2.2.2.1.1))
    ((win0_6.rect_emb_val t (ix2 r k) 1).trans (at_all (index_rows t).2.2.2.2.1.2))

theorem emb7 (t : Fin cfg0.N) (r : Fin 256) (k : Fin 256) :
    ((cfg0.win 7).blk t).view.emb (ix2 r k) = ix2 (row t r) k :=
  ix2_of ((win0_7.rect_emb_val t (ix2 r k) 0).trans (at_row (index_rows t).2.2.2.2.2.1.1))
    ((win0_7.rect_emb_val t (ix2 r k) 1).trans (at_all (index_rows t).2.2.2.2.2.1.2))

theorem emb8 (t : Fin cfg0.N) (r : Fin 256) (k : Fin 256) :
    ((cfg0.win 8).blk t).view.emb (ix2 r k) = ix2 (row t r) k :=
  ix2_of ((win0_8.rect_emb_val t (ix2 r k) 0).trans (at_row (index_rows t).2.2.2.2.2.2.1))
    ((win0_8.rect_emb_val t (ix2 r k) 1).trans (at_all (index_rows t).2.2.2.2.2.2.2))

theorem emb1 (t : Fin cfg0.N) (k : Fin 256) (r : Fin 256) :
    ((cfg0.win 1).blk t).view.emb (ix2 k r) = ix2 k (row t r) :=
  ix2_of ((win0_1.rect_emb_val t (ix2 k r) 0).trans (at_all (index_cols t).1.1))
    ((win0_1.rect_emb_val t (ix2 k r) 1).trans (at_row (index_cols t).1.2))

theorem emb2 (t : Fin cfg0.N) (k : Fin 256) (r : Fin 256) :
    ((cfg0.win 2).blk t).view.emb (ix2 k r) = ix2 k (row t r) :=
  ix2_of ((win0_2.rect_emb_val t (ix2 k r) 0).trans (at_all (index_cols t).2.1))
    ((win0_2.rect_emb_val t (ix2 k r) 1).trans (at_row (index_cols t).2.2))

/-! What each input window's block holds at a point. -/

theorem read0 (t : Fin cfg0.N) (r : Fin 256) (k : Fin 256) :
    iblk m c 0 t (ix2 r k) = A0 m c (ix2 (row t r) k) := by
  unfold iblk
  rw [View.read_apply, emb0]
  exact congrFun (V_main_arg0 m c) _

theorem read1 (t : Fin cfg0.N) (k : Fin 256) (r : Fin 256) :
    iblk m c 1 t (ix2 k r) = A1 m c (ix2 k (row t r)) := by
  unfold iblk
  rw [View.read_apply, emb1]
  exact congrFun (V_main_arg1 m c) _

theorem read2 (t : Fin cfg0.N) (k : Fin 256) (r : Fin 256) :
    iblk m c 2 t (ix2 k r) = A2 m c (ix2 k (row t r)) := by
  unfold iblk
  rw [View.read_apply, emb2]
  exact congrFun (V_main_arg2 m c) _

theorem read3 (t : Fin cfg0.N) (r : Fin 256) (k : Fin 256) :
    iblk m c 3 t (ix2 r k) = A3 m c (ix2 (row t r) k) := by
  unfold iblk
  rw [View.read_apply, emb3]
  exact congrFun (V_main_arg3 m c) _

theorem read4 (t : Fin cfg0.N) (r : Fin 256) (k : Fin 256) :
    iblk m c 4 t (ix2 r k) = A4 m c (ix2 (row t r) k) := by
  unfold iblk
  rw [View.read_apply, emb4]
  exact congrFun (V_main_arg4 m c) _

/-- Every row is row `r` of some block `t`. -/
theorem row_split (i : Fin 512) : ∃ (t : Fin 2) (r : Fin 256), i = row t r :=
  ⟨⟨i.val / 256, by omega⟩, ⟨i.val % 256, by omega⟩, Fin.ext (by show i.val = 256 * (i.val / 256) + i.val % 256; omega)⟩

/-! The arrays: each output window's blocks cover its array, and each block is the reference's. -/

/-- The array of the gradient, its two parts added is the reference's. -/
theorem final5 : (dats m 0 c).arrAt 5 cfg0.N = val_main_v1 (F := Ideal) (A1 m c) (A2 m c) := by
  refine (dats m 0 c).arrAt_eq_of_cover 5 _ (fun t _ => ?_) (fun i => ?_)
  · rw [Cert.BranchStepIdeal.Value.flushed5_A]
    funext y
    obtain ⟨r, k, rfl⟩ : ∃ (r : Fin 256) (k : Fin 256), y = ix2 r k := ⟨y 0, y 1, eq_ix2 y⟩
    rw [View.read_apply, emb5]
    exact block5 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) _ _ (iblk m c 0 t) (iblk m c 1 t) (iblk m c 2 t) (iblk m c 3 t) (iblk m c 4 t) t (read1 m c t) (read2 m c t) r k
  · obtain ⟨t, r, h⟩ := row_split (i 0)
    rw [(eq_ix2 i).trans ((congrArg (ix2 · (i 1)) h).trans (emb5 t r (i 1)).symm)]
    exact ⟨t, flush0_5 t, View.emb_mem_set _ _⟩

/-- The array of the step is the reference's. -/
theorem final6 : (dats m 0 c).arrAt 6 cfg0.N = val_main_v25 (F := Ideal) (A0 m c) (A1 m c) (A2 m c) (A3 m c) (A4 m c) := by
  refine (dats m 0 c).arrAt_eq_of_cover 6 _ (fun t _ => ?_) (fun i => ?_)
  · rw [Cert.BranchStepIdeal.Value.flushed6_A]
    funext y
    obtain ⟨r, k, rfl⟩ : ∃ (r : Fin 256) (k : Fin 256), y = ix2 r k := ⟨y 0, y 1, eq_ix2 y⟩
    rw [View.read_apply, emb6]
    exact block6 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) _ _ _ _ _ (iblk m c 0 t) (iblk m c 1 t) (iblk m c 2 t) (iblk m c 3 t) (iblk m c 4 t) t (read0 m c t) (read1 m c t) (read2 m c t) (read3 m c t) (read4 m c t) r k
  · obtain ⟨t, r, h⟩ := row_split (i 0)
    rw [(eq_ix2 i).trans ((congrArg (ix2 · (i 1)) h).trans (emb6 t r (i 1)).symm)]
    exact ⟨t, flush0_6 t, View.emb_mem_set _ _⟩

/-- The array of the new first moment is the reference's. -/
theorem final7 : (dats m 0 c).arrAt 7 cfg0.N = val_main_v6 (F := Ideal) (A1 m c) (A2 m c) (A3 m c) := by
  refine (dats m 0 c).arrAt_eq_of_cover 7 _ (fun t _ => ?_) (fun i => ?_)
  · rw [Cert.BranchStepIdeal.Value.flushed7_A]
    funext y
    obtain ⟨r, k, rfl⟩ : ∃ (r : Fin 256) (k : Fin 256), y = ix2 r k := ⟨y 0, y 1, eq_ix2 y⟩
    rw [View.read_apply, emb7]
    exact block7 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) _ _ _ (iblk m c 0 t) (iblk m c 1 t) (iblk m c 2 t) (iblk m c 3 t) (iblk m c 4 t) t (read1 m c t) (read2 m c t) (read3 m c t) r k
  · obtain ⟨t, r, h⟩ := row_split (i 0)
    rw [(eq_ix2 i).trans ((congrArg (ix2 · (i 1)) h).trans (emb7 t r (i 1)).symm)]
    exact ⟨t, flush0_7 t, View.emb_mem_set _ _⟩

/-- The array of the new second moment is the reference's. -/
theorem final8 : (dats m 0 c).arrAt 8 cfg0.N = val_main_v12 (F := Ideal) (A1 m c) (A2 m c) (A4 m c) := by
  refine (dats m 0 c).arrAt_eq_of_cover 8 _ (fun t _ => ?_) (fun i => ?_)
  · rw [Cert.BranchStepIdeal.Value.flushed8_A]
    funext y
    obtain ⟨r, k, rfl⟩ : ∃ (r : Fin 256) (k : Fin 256), y = ix2 r k := ⟨y 0, y 1, eq_ix2 y⟩
    rw [View.read_apply, emb8]
    exact block8 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) _ _ _ (iblk m c 0 t) (iblk m c 1 t) (iblk m c 2 t) (iblk m c 3 t) (iblk m c 4 t) t (read1 m c t) (read2 m c t) (read4 m c t) r k
  · obtain ⟨t, r, h⟩ := row_split (i 0)
    rw [(eq_ix2 i).trans ((congrArg (ix2 · (i 1)) h).trans (emb8 t r (i 1)).symm)]
    exact ⟨t, flush0_8 t, View.emb_mem_set _ _⟩

end Cert.BranchStepArray

end
-- ==== Proof.BranchStepValue.lean ====
/- The optimiser's step of a branch projection's weight: the kernel and the reference leave the same four arrays. -/
module

public import proofs.«01_k».proof.Defs
public import proofs.«01_k».proof.Proof.BranchStepArray

@[expose] public section

set_option maxRecDepth 16384

noncomputable section

namespace Cert.BranchStepValue

open Idealize.ShloMosaic Idealize.ShloMosaic.TcCoe Idealize.SL.Sem
open Cert.BranchStepRefIdeal.Read Cert.BranchStepArray

/-- The reference terminates, keeps its arguments and leaves every counter at zero. -/
theorem frame_ref : quiescent_BranchStepRefIdeal := fun m ρ _ =>
  (θ_run Cert.BranchStepRefIdeal.defs _ _).mono
    (fun r h => ⟨fun c => (h c).2.2.2.2, sem_eq_zero_of_no_sems (by decide) r.2⟩) (Cert.BranchStepRefIdeal.Value.run m ρ)

/-- From memories that agree on the arguments both programs run and end with equal results. -/
theorem algebraic : algebraic_BranchStepIdeal_BranchStepRefIdeal := by
  intro m g m' g' _ h
  refine ⟨fun c => val_main_v1 (F := Ideal) (A1 m c) (A2 m c), fun c => val_main_v25 (F := Ideal) (A0 m c) (A1 m c) (A2
    m c) (A3 m c) (A4 m c), fun c => val_main_v6 (F := Ideal) (A1 m c) (A2 m c) (A3 m c), fun c => val_main_v12 (F :=
    Ideal) (A1 m c) (A2 m c) (A4 m c), ?_, ?_⟩
  · refine (θ_run _ _ _).mono (fun r H c => ?_) (Cert.BranchStepIdeal.Value.run_blocks m g)
    obtain ⟨h5, h6, h7, h8, hargs⟩ := H c
    exact ⟨h5.trans (final5 m c), h6.trans (final6 m c), h7.trans (final7 m c), h8.trans (final8 m c), hargs⟩
  · refine (θ_run _ _ _).mono (fun r H c => ?_) (Cert.BranchStepRefIdeal.Value.run m' g')
    obtain ⟨h5, h6, h7, h8, hargs⟩ := H c
    obtain ⟨e0, e1, e2, e3, e4, _⟩ := h c
    rw [e1, e2] at h5
    rw [e0, e1, e2, e3, e4] at h6
    rw [e1, e2, e3] at h7
    rw [e1, e2, e4] at h8
    exact ⟨h5, h6, h7, h8, hargs⟩

end Cert.BranchStepValue

end
-- ==== Proof.InputStepBlock.lean ====
/- What one grid point of the optimiser's step of the input projection's weight computes, element by element, and that it is the
   reference's value at the place the block's element stands for. -/
module

public import proofs.«01_k».proof.Proof.Gen.InputStepIdeal.Value
public import proofs.«01_k».proof.Proof.Gen.InputStepRefIdeal.Read
public import Idealize.ShloMosaic.Lib.Pointwise

@[expose] public section

set_option maxRecDepth 16384

noncomputable section

namespace Cert.InputStepBlock

open Idealize.ShloMosaic Idealize.ShloMosaic.TcCoe
open Cert.InputStepRefIdeal.Read
open Cert.InputStepIdeal Cert.InputStepIdeal.Gen

/-- The array's row that row `r` of block `t` stands for. -/
abbrev row (t : Fin 5) (r : Fin 232) : Fin 1160 := ⟨232 * t.val + r.val, by omega⟩

theorem off0 : (![0, 0] : Fin 2 → Nat) = fun _ => 0 := funext fun a => by fin_cases a <;> rfl

variable (A0 : Cert.InputStepRefIdeal.S1024x1160.Idx → EReal) (A1 : Cert.InputStepRefIdeal.S1160x1024.Idx → EReal) (A2 : Cert.InputStepRefIdeal.S1160x1024.Idx → EReal) (A3 : Cert.InputStepRefIdeal.S1024x1160.Idx → EReal) (A4 : Cert.InputStepRefIdeal.S1024x1160.Idx → EReal)
  (x0 : Vec Ideal S232x1024 .f32) (x1 : Vec Ideal S232x1024 .f32) (x2 : Vec Ideal S232x1024 .f32) (x3 : Vec Ideal S232x1024 .f32) (x4 : Vec Ideal S232x1024 .f32) (t : Fin 5)
  (h0 : ∀ r k, x0 (ix2 r k) = A0 (ix2 k (row t r)))
  (h1 : ∀ r k, x1 (ix2 r k) = A1 (ix2 (row t r) k))
  (h2 : ∀ r k, x2 (ix2 r k) = A2 (ix2 (row t r) k))
  (h3 : ∀ r k, x3 (ix2 r k) = A3 (ix2 k (row t r)))
  (h4 : ∀ r k, x4 (ix2 r k) = A4 (ix2 k (row t r)))

include h1 h2 in
/-- The gradient, its two parts added. -/
theorem block5 (r : Fin 232) (l : Fin 1024) :
    out0_5 (F := Ideal) x0 x1 x2 x3 x4 (ix2 r l) = val_main_v2 (F := Ideal) A1 A2 (ix2 (row t r) l) := by
  unfold out0_5
  rw [View.canon_unit_zero off0, View.ld_unit_zero off0, View.ld_unit_zero off0]
  unfold_payloads
  pointwise [val_main_v2, val_main_v1, val_main_v0]
  simp only [h1, h2]

include h0 h1 h2 h3 h4 in
/-- The step. -/
theorem block6 (r : Fin 232) (l : Fin 1024) :
    out0_6 (F := Ideal) x0 x1 x2 x3 x4 (ix2 r l) = val_main_v27 (F := Ideal) A0 A1 A2 A3 A4 (ix2 (row t r) l) := by
  unfold out0_6
  rw [View.canon_unit_zero off0, View.ld_unit_zero off0, View.ld_unit_zero off0, View.ld_unit_zero off0, View.ld_unit_zero off0, View.ld_unit_zero off0]
  unfold_payloads
  pointwise [val_main_v27, val_main_v26, val_main_v24, val_main_v23, val_main_v22, val_main_cst_6, val_main_v21,
    val_main_v20, val_main_v19, val_main_cst_5, val_main_v18, val_main_v17, val_main_v16, val_main_cst_4,
    val_main_v13, val_main_v12, val_main_v10, val_main_v1, val_main_v0, val_main_v11, val_main_cst_2, val_main_v9,
    val_main_v8, val_main_cst_1, val_main_v15, val_main_v14, val_main_cst_3, val_main_v7, val_main_v6, val_main_v5,
    val_main_cst_0, val_main_v4, val_main_v3, val_main_cst, val_main_v25, val_main_cst_7]
  simp only [h0, h1, h2, h3, h4]

include h1 h2 h3 in
/-- The new first moment. -/
theorem block7 (r : Fin 232) (l : Fin 1024) :
    out0_7 (F := Ideal) x0 x1 x2 x3 x4 (ix2 r l) = val_main_v28 (F := Ideal) A1 A2 A3 (ix2 (row t r) l) := by
  unfold out0_7
  rw [View.canon_unit_zero off0, View.ld_unit_zero off0, View.ld_unit_zero off0, View.ld_unit_zero off0]
  unfold_payloads
  pointwise [val_main_v28, val_main_v7, val_main_v6, val_main_v1, val_main_v0, val_main_v5, val_main_cst_0, val_main_v4,
    val_main_v3, val_main_cst]
  simp only [h1, h2, h3]

include h1 h2 h4 in
/-- The new second moment. -/
theorem block8 (r : Fin 232) (l : Fin 1024) :
    out0_8 (F := Ideal) x0 x1 x2 x3 x4 (ix2 r l) = val_main_v29 (F := Ideal) A1 A2 A4 (ix2 (row t r) l) := by
  unfold out0_8
  rw [View.canon_unit_zero off0, View.ld_unit_zero off0, View.ld_unit_zero off0, View.ld_unit_zero off0]
  unfold_payloads
  pointwise [val_main_v29, val_main_v13, val_main_v12, val_main_v10, val_main_v1, val_main_v0, val_main_v11,
    val_main_cst_2, val_main_v9, val_main_v8, val_main_cst_1]
  simp only [h1, h2, h4]

end Cert.InputStepBlock

end
-- ==== Proof.InputStepArray.lean ====
/- The four arrays the optimiser's step of the input projection's weight leaves: each is the reference's value, every block of it
   being what one grid point wrote. -/
module

public import proofs.«01_k».proof.Proof.InputStepBlock
public import proofs.«01_k».proof.Proof.Index
public import Idealize.ShloMosaic.Lib.StableHlo.ReadAt

@[expose] public section

set_option maxRecDepth 16384

noncomputable section

namespace Cert.InputStepArray

open Idealize.ShloMosaic Idealize.ShloMosaic.TcCoe Idealize.SL.Sem
open Cert.InputStepRefIdeal.Read
open Cert.InputStepIdeal Cert.InputStepIdeal.Gen Cert.InputStepBlock Cert.Index

variable (m : (ℓ : Loc nD τ sig) → Buf (Elt Ideal) ℓ) (c : Dev nD)

/-! The kernel's argument arrays as functions of an index. -/

abbrev A0 : S1024x1160.Idx → EReal := m ((c : Thread nD τ).loc main_arg0)
abbrev A1 : S1160x1024.Idx → EReal := m ((c : Thread nD τ).loc main_arg1)
abbrev A2 : S1160x1024.Idx → EReal := m ((c : Thread nD τ).loc main_arg2)
abbrev A3 : S1024x1160.Idx → EReal := m ((c : Thread nD τ).loc main_arg3)
abbrev A4 : S1024x1160.Idx → EReal := m ((c : Thread nD τ).loc main_arg4)

/-- The host hands the call this array's transpose. -/
theorem entry0 (r : Fin 1160) (k : Fin 1024) : V m c main_v0 (ix2 r k) = A0 m c (ix2 k r) := by
  unfold V
  after_reads_at

/-- The host hands the call this array's transpose. -/
theorem entry3 (r : Fin 1160) (k : Fin 1024) : V m c main_v1 (ix2 r k) = A3 m c (ix2 k r) := by
  unfold V
  after_reads_at

/-- The host hands the call this array's transpose. -/
theorem entry4 (r : Fin 1160) (k : Fin 1024) : V m c main_v2 (ix2 r k) = A4 m c (ix2 k r) := by
  unfold V
  after_reads_at

/-- The windows that walk down the rows, one block a point. -/
theorem index_rows : ∀ t : Fin grid0.N,
    (win0_0.index t 0 = t.val ∧ win0_0.index t 1 = 0) ∧ (win0_1.index t 0 = t.val ∧ win0_1.index t 1 = 0) ∧ (win0_2.index
    t 0 = t.val ∧ win0_2.index t 1 = 0) ∧ (win0_3.index t 0 = t.val ∧ win0_3.index t 1 = 0) ∧ (win0_4.index t 0 =
    t.val ∧ win0_4.index t 1 = 0) ∧ (win0_5.index t 0 = t.val ∧ win0_5.index t 1 = 0) ∧ (win0_6.index t 0 = t.val ∧
    win0_6.index t 1 = 0) ∧ (win0_7.index t 0 = t.val ∧ win0_7.index t 1 = 0) ∧ (win0_8.index t 0 = t.val ∧
    win0_8.index t 1 = 0) := by decide +kernel

/-! Where a block's element lies in its array. -/

theorem emb0 (t : Fin cfg0.N) (r : Fin 232) (k : Fin 1024) :
    ((cfg0.win 0).blk t).view.emb (ix2 r k) = ix2 (row t r) k :=
  ix2_of ((win0_0.rect_emb_val t (ix2 r k) 0).trans (at_row (index_rows t).1.1))
    ((win0_0.rect_emb_val t (ix2 r k) 1).trans (at_all (index_rows t).1.2))

theorem emb1 (t : Fin cfg0.N) (r : Fin 232) (k : Fin 1024) :
    ((cfg0.win 1).blk t).view.emb (ix2 r k) = ix2 (row t r) k :=
  ix2_of ((win0_1.rect_emb_val t (ix2 r k) 0).trans (at_row (index_rows t).2.1.1))
    ((win0_1.rect_emb_val t (ix2 r k) 1).trans (at_all (index_rows t).2.1.2))

theorem emb2 (t : Fin cfg0.N) (r : Fin 232) (k : Fin 1024) :
    ((cfg0.win 2).blk t).view.emb (ix2 r k) = ix2 (row t r) k :=
  ix2_of ((win0_2.rect_emb_val t (ix2 r k) 0).trans (at_row (index_rows t).2.2.1.1))
    ((win0_2.rect_emb_val t (ix2 r k) 1).trans (at_all (index_rows t).2.2.1.2))

theorem emb3 (t : Fin cfg0.N) (r : Fin 232) (k : Fin 1024) :
    ((cfg0.win 3).blk t).view.emb (ix2 r k) = ix2 (row t r) k :=
  ix2_of ((win0_3.rect_emb_val t (ix2 r k) 0).trans (at_row (index_rows t).2.2.2.1.1))
    ((win0_3.rect_emb_val t (ix2 r k) 1).trans (at_all (index_rows t).2.2.2.1.2))

theorem emb4 (t : Fin cfg0.N) (r : Fin 232) (k : Fin 1024) :
    ((cfg0.win 4).blk t).view.emb (ix2 r k) = ix2 (row t r) k :=
  ix2_of ((win0_4.rect_emb_val t (ix2 r k) 0).trans (at_row (index_rows t).2.2.2.2.1.1))
    ((win0_4.rect_emb_val t (ix2 r k) 1).trans (at_all (index_rows t).2.2.2.2.1.2))

theorem emb5 (t : Fin cfg0.N) (r : Fin 232) (k : Fin 1024) :
    ((cfg0.win 5).blk t).view.emb (ix2 r k) = ix2 (row t r) k :=
  ix2_of ((win0_5.rect_emb_val t (ix2 r k) 0).trans (at_row (index_rows t).2.2.2.2.2.1.1))
    ((win0_5.rect_emb_val t (ix2 r k) 1).trans (at_all (index_rows t).2.2.2.2.2.1.2))

theorem emb6 (t : Fin cfg0.N) (r : Fin 232) (k : Fin 1024) :
    ((cfg0.win 6).blk t).view.emb (ix2 r k) = ix2 (row t r) k :=
  ix2_of ((win0_6.rect_emb_val t (ix2 r k) 0).trans (at_row (index_rows t).2.2.2.2.2.2.1.1))
    ((win0_6.rect_emb_val t (ix2 r k) 1).trans (at_all (index_rows t).2.2.2.2.2.2.1.2))

theorem emb7 (t : Fin cfg0.N) (r : Fin 232) (k : Fin 1024) :
    ((cfg0.win 7).blk t).view.emb (ix2 r k) = ix2 (row t r) k :=
  ix2_of ((win0_7.rect_emb_val t (ix2 r k) 0).trans (at_row (index_rows t).2.2.2.2.2.2.2.1.1))
    ((win0_7.rect_emb_val t (ix2 r k) 1).trans (at_all (index_rows t).2.2.2.2.2.2.2.1.2))

theorem emb8 (t : Fin cfg0.N) (r : Fin 232) (k : Fin 1024) :
    ((cfg0.win 8).blk t).view.emb (ix2 r k) = ix2 (row t r) k :=
  ix2_of ((win0_8.rect_emb_val t (ix2 r k) 0).trans (at_row (index_rows t).2.2.2.2.2.2.2.2.1))
    ((win0_8.rect_emb_val t (ix2 r k) 1).trans (at_all (index_rows t).2.2.2.2.2.2.2.2.2))

/-! What each input window's block holds at a point. -/

theorem read0 (t : Fin cfg0.N) (r : Fin 232) (k : Fin 1024) :
    iblk m c 0 t (ix2 r k) = A0 m c (ix2 k (row t r)) := by
  unfold iblk
  rw [View.read_apply, emb0]
  exact entry0 m c _ k

theorem read1 (t : Fin cfg0.N) (r : Fin 232) (k : Fin 1024) :
    iblk m c 1 t (ix2 r k) = A1 m c (ix2 (row t r) k) := by
  unfold iblk
  rw [View.read_apply, emb1]
  exact congrFun (V_main_arg1 m c) _

theorem read2 (t : Fin cfg0.N) (r : Fin 232) (k : Fin 1024) :
    iblk m c 2 t (ix2 r k) = A2 m c (ix2 (row t r) k) := by
  unfold iblk
  rw [View.read_apply, emb2]
  exact congrFun (V_main_arg2 m c) _

theorem read3 (t : Fin cfg0.N) (r : Fin 232) (k : Fin 1024) :
    iblk m c 3 t (ix2 r k) = A3 m c (ix2 k (row t r)) := by
  unfold iblk
  rw [View.read_apply, emb3]
  exact entry3 m c _ k

theorem read4 (t : Fin cfg0.N) (r : Fin 232) (k : Fin 1024) :
    iblk m c 4 t (ix2 r k) = A4 m c (ix2 k (row t r)) := by
  unfold iblk
  rw [View.read_apply, emb4]
  exact entry4 m c _ k

/-- Every row is row `r` of some block `t`. -/
theorem row_split (i : Fin 1160) : ∃ (t : Fin 5) (r : Fin 232), i = row t r :=
  ⟨⟨i.val / 232, by omega⟩, ⟨i.val % 232, by omega⟩, Fin.ext (by show i.val = 232 * (i.val / 232) + i.val % 232; omega)⟩

/-! The arrays: each output window's blocks cover its array, and each block is the reference's. -/

/-- The array of the gradient, its two parts added is the reference's. -/
theorem final5 : (dats m 0 c).arrAt 5 cfg0.N = val_main_v2 (F := Ideal) (A1 m c) (A2 m c) := by
  refine (dats m 0 c).arrAt_eq_of_cover 5 _ (fun t _ => ?_) (fun i => ?_)
  · rw [Cert.InputStepIdeal.Value.flushed5]
    funext y
    obtain ⟨r, k, rfl⟩ : ∃ (r : Fin 232) (k : Fin 1024), y = ix2 r k := ⟨y 0, y 1, eq_ix2 y⟩
    rw [View.read_apply, emb5]
    exact block5 _ _ _ _ _ _ _ t (read1 m c t) (read2 m c t) r k
  · obtain ⟨t, r, h⟩ := row_split (i 0)
    rw [(eq_ix2 i).trans ((congrArg (ix2 · (i 1)) h).trans (emb5 t r (i 1)).symm)]
    exact ⟨t, flush0_5 t, View.emb_mem_set _ _⟩

/-- The array of the step is the reference's. -/
theorem final6 : (dats m 0 c).arrAt 6 cfg0.N = val_main_v27 (F := Ideal) (A0 m c) (A1 m c) (A2 m c) (A3 m c) (A4 m c) := by
  refine (dats m 0 c).arrAt_eq_of_cover 6 _ (fun t _ => ?_) (fun i => ?_)
  · rw [Cert.InputStepIdeal.Value.flushed6]
    funext y
    obtain ⟨r, k, rfl⟩ : ∃ (r : Fin 232) (k : Fin 1024), y = ix2 r k := ⟨y 0, y 1, eq_ix2 y⟩
    rw [View.read_apply, emb6]
    exact block6 _ _ _ _ _ _ _ _ _ _ t (read0 m c t) (read1 m c t) (read2 m c t) (read3 m c t) (read4 m c t) r k
  · obtain ⟨t, r, h⟩ := row_split (i 0)
    rw [(eq_ix2 i).trans ((congrArg (ix2 · (i 1)) h).trans (emb6 t r (i 1)).symm)]
    exact ⟨t, flush0_6 t, View.emb_mem_set _ _⟩

/-- The array of the new first moment is the reference's. -/
theorem final7 : (dats m 0 c).arrAt 7 cfg0.N = val_main_v28 (F := Ideal) (A1 m c) (A2 m c) (A3 m c) := by
  refine (dats m 0 c).arrAt_eq_of_cover 7 _ (fun t _ => ?_) (fun i => ?_)
  · rw [Cert.InputStepIdeal.Value.flushed7]
    funext y
    obtain ⟨r, k, rfl⟩ : ∃ (r : Fin 232) (k : Fin 1024), y = ix2 r k := ⟨y 0, y 1, eq_ix2 y⟩
    rw [View.read_apply, emb7]
    exact block7 _ _ _ _ _ _ _ _ t (read1 m c t) (read2 m c t) (read3 m c t) r k
  · obtain ⟨t, r, h⟩ := row_split (i 0)
    rw [(eq_ix2 i).trans ((congrArg (ix2 · (i 1)) h).trans (emb7 t r (i 1)).symm)]
    exact ⟨t, flush0_7 t, View.emb_mem_set _ _⟩

/-- The array of the new second moment is the reference's. -/
theorem final8 : (dats m 0 c).arrAt 8 cfg0.N = val_main_v29 (F := Ideal) (A1 m c) (A2 m c) (A4 m c) := by
  refine (dats m 0 c).arrAt_eq_of_cover 8 _ (fun t _ => ?_) (fun i => ?_)
  · rw [Cert.InputStepIdeal.Value.flushed8]
    funext y
    obtain ⟨r, k, rfl⟩ : ∃ (r : Fin 232) (k : Fin 1024), y = ix2 r k := ⟨y 0, y 1, eq_ix2 y⟩
    rw [View.read_apply, emb8]
    exact block8 _ _ _ _ _ _ _ _ t (read1 m c t) (read2 m c t) (read4 m c t) r k
  · obtain ⟨t, r, h⟩ := row_split (i 0)
    rw [(eq_ix2 i).trans ((congrArg (ix2 · (i 1)) h).trans (emb8 t r (i 1)).symm)]
    exact ⟨t, flush0_8 t, View.emb_mem_set _ _⟩

end Cert.InputStepArray

end
-- ==== Proof.InputStepValue.lean ====
/- The optimiser's step of the input projection's weight: the kernel and the reference leave the same four arrays. -/
module

public import proofs.«01_k».proof.Defs
public import proofs.«01_k».proof.Proof.InputStepArray

@[expose] public section

set_option maxRecDepth 16384

noncomputable section

namespace Cert.InputStepValue

open Idealize.ShloMosaic Idealize.ShloMosaic.TcCoe Idealize.SL.Sem
open Cert.InputStepRefIdeal.Read Cert.InputStepArray

/-- The reference terminates, keeps its arguments and leaves every counter at zero. -/
theorem frame_ref : quiescent_InputStepRefIdeal := fun m ρ _ =>
  (θ_run Cert.InputStepRefIdeal.defs _ _).mono
    (fun r h => ⟨fun c => (h c).2.2.2.2, sem_eq_zero_of_no_sems (by decide) r.2⟩) (Cert.InputStepRefIdeal.Value.run m ρ)

/-- From memories that agree on the arguments both programs run and end with equal results. -/
theorem algebraic : algebraic_InputStepIdeal_InputStepRefIdeal := by
  intro m g m' g' _ h
  refine ⟨fun c => val_main_v2 (F := Ideal) (A1 m c) (A2 m c), fun c => val_main_v27 (F := Ideal) (A0 m c) (A1 m c) (A2
    m c) (A3 m c) (A4 m c), fun c => val_main_v28 (F := Ideal) (A1 m c) (A2 m c) (A3 m c), fun c => val_main_v29 (F :=
    Ideal) (A1 m c) (A2 m c) (A4 m c), ?_, ?_⟩
  · refine (θ_run _ _ _).mono (fun r H c => ?_) (Cert.InputStepIdeal.Value.run_blocks m g)
    obtain ⟨h5, h6, h7, h8, hargs⟩ := H c
    exact ⟨h5.trans (final5 m c), h6.trans (final6 m c), h7.trans (final7 m c), h8.trans (final8 m c), hargs⟩
  · refine (θ_run _ _ _).mono (fun r H c => ?_) (Cert.InputStepRefIdeal.Value.run m' g')
    obtain ⟨h5, h6, h7, h8, hargs⟩ := H c
    obtain ⟨e0, e1, e2, e3, e4⟩ := h c
    rw [e1, e2] at h5
    rw [e0, e1, e2, e3, e4] at h6
    rw [e1, e2, e3] at h7
    rw [e1, e2, e4] at h8
    exact ⟨h5, h6, h7, h8, hargs⟩

end Cert.InputStepValue

end
-- ==== Proof.MixStepBlock.lean ====
/- What one grid point of the optimiser's step of the gate's second projection computes, element by element, and that it is the
   reference's value at the place the block's element stands for. -/
module

public import proofs.«01_k».proof.Proof.Gen.MixStepIdeal.Value
public import proofs.«01_k».proof.Proof.Gen.MixStepRefIdeal.Read
public import Idealize.ShloMosaic.Lib.Pointwise

@[expose] public section

set_option maxRecDepth 16384

noncomputable section

namespace Cert.MixStepBlock

open Idealize.ShloMosaic Idealize.ShloMosaic.TcCoe
open Cert.MixStepRefIdeal.Read
open Cert.MixStepIdeal Cert.MixStepIdeal.Gen

/-- The array's row that row `r` of block `t` stands for. -/
abbrev row (t : Fin 1) (r : Fin 160) : Fin 160 := ⟨160 * t.val + r.val, by omega⟩

theorem off0 : (![0, 0] : Fin 2 → Nat) = fun _ => 0 := funext fun a => by fin_cases a <;> rfl

/-- There is one block only. -/
theorem row_one (t : Fin 1) (r : Fin 160) : row t r = r := Fin.ext (by show 160 * t.val + r.val = r.val; omega)

variable (A0 : Cert.MixStepRefIdeal.S160x128.Idx → EReal) (A1 : Cert.MixStepRefIdeal.S128x160.Idx → EReal) (A2 : Cert.MixStepRefIdeal.S128x160.Idx → EReal) (A3 : Cert.MixStepRefIdeal.S160x128.Idx → EReal) (A4 : Cert.MixStepRefIdeal.S160x128.Idx → EReal)
  (x0 : Vec Ideal S160x128 .f32) (x1 : Vec Ideal S128x160 .f32) (x2 : Vec Ideal S128x160 .f32) (x3 : Vec Ideal S160x128 .f32) (x4 : Vec Ideal S160x128 .f32) (t : Fin 1)
  (h0 : ∀ r k, x0 (ix2 r k) = A0 (ix2 (row t r) k))
  (h1 : ∀ k r, x1 (ix2 k r) = A1 (ix2 k (row t r)))
  (h2 : ∀ k r, x2 (ix2 k r) = A2 (ix2 k (row t r)))
  (h3 : ∀ r k, x3 (ix2 r k) = A3 (ix2 (row t r) k))
  (h4 : ∀ r k, x4 (ix2 r k) = A4 (ix2 (row t r) k))

include h1 h2 in
/-- The gradient, its two parts added. -/
theorem block5 (r : Fin 160) (l : Fin 128) :
    out0_5 (F := Ideal) x0 x1 x2 x3 x4 (ix2 r l) = val_main_v1 (F := Ideal) A1 A2 (ix2 (row t r) l) := by
  unfold out0_5
  rw [View.canon_unit_zero off0, View.ld_unit_zero off0, View.ld_unit_zero off0]
  unfold_payloads
  pointwise [val_main_v1, val_main_v0]
  simp only [h1, h2, row_one]

include h0 h1 h2 h3 h4 in
/-- The step. -/
theorem block6 (r : Fin 160) (l : Fin 128) :
    out0_6 (F := Ideal) x0 x1 x2 x3 x4 (ix2 r l) = val_main_v25 (F := Ideal) A0 A1 A2 A3 A4 (ix2 (row t r) l) := by
  unfold out0_6
  rw [View.canon_unit_zero off0, View.ld_unit_zero off0, View.ld_unit_zero off0, View.ld_unit_zero off0, View.ld_unit_zero off0, View.ld_unit_zero off0]
  unfold_payloads
  pointwise [val_main_v25, val_main_v23, val_main_v22, val_main_v21, val_main_cst_6, val_main_v20, val_main_v19,
    val_main_v18, val_main_cst_5, val_main_v17, val_main_v16, val_main_v15, val_main_cst_4, val_main_v12,
    val_main_v11, val_main_v9, val_main_v1, val_main_v0, val_main_v10, val_main_cst_2, val_main_v8, val_main_v7,
    val_main_cst_1, val_main_v14, val_main_v13, val_main_cst_3, val_main_v6, val_main_v5, val_main_v4, val_main_cst_0,
    val_main_v3, val_main_v2, val_main_cst, val_main_v24, val_main_cst_7]
  simp only [h0, h1, h2, h3, h4, row_one]

include h1 h2 h3 in
/-- The new first moment. -/
theorem block7 (r : Fin 160) (l : Fin 128) :
    out0_7 (F := Ideal) x0 x1 x2 x3 x4 (ix2 r l) = val_main_v6 (F := Ideal) A1 A2 A3 (ix2 (row t r) l) := by
  unfold out0_7
  rw [View.canon_unit_zero off0, View.ld_unit_zero off0, View.ld_unit_zero off0, View.ld_unit_zero off0]
  unfold_payloads
  pointwise [val_main_v6, val_main_v5, val_main_v1, val_main_v0, val_main_v4, val_main_cst_0, val_main_v3, val_main_v2,
    val_main_cst]
  simp only [h1, h2, h3, row_one]

include h1 h2 h4 in
/-- The new second moment. -/
theorem block8 (r : Fin 160) (l : Fin 128) :
    out0_8 (F := Ideal) x0 x1 x2 x3 x4 (ix2 r l) = val_main_v12 (F := Ideal) A1 A2 A4 (ix2 (row t r) l) := by
  unfold out0_8
  rw [View.canon_unit_zero off0, View.ld_unit_zero off0, View.ld_unit_zero off0, View.ld_unit_zero off0]
  unfold_payloads
  pointwise [val_main_v12, val_main_v11, val_main_v9, val_main_v1, val_main_v0, val_main_v10, val_main_cst_2,
    val_main_v8, val_main_v7, val_main_cst_1]
  simp only [h1, h2, h4, row_one]

end Cert.MixStepBlock

end
-- ==== Proof.MixStepArray.lean ====
/- The four arrays the optimiser's step of the gate's second projection leaves: each is the reference's value, every block of it
   being what one grid point wrote. -/
module

public import proofs.«01_k».proof.Proof.MixStepBlock
public import proofs.«01_k».proof.Proof.Index
public import Idealize.ShloMosaic.Lib.StableHlo.ReadAt

@[expose] public section

set_option maxRecDepth 16384

noncomputable section

namespace Cert.MixStepArray

open Idealize.ShloMosaic Idealize.ShloMosaic.TcCoe Idealize.SL.Sem
open Cert.MixStepRefIdeal.Read
open Cert.MixStepIdeal Cert.MixStepIdeal.Gen Cert.MixStepBlock Cert.Index

variable (m : (ℓ : Loc nD τ sig) → Buf (Elt Ideal) ℓ) (c : Dev nD)

/-! The kernel's argument arrays as functions of an index. -/

abbrev A0 : S160x128.Idx → EReal := m ((c : Thread nD τ).loc main_arg0)
abbrev A1 : S128x160.Idx → EReal := m ((c : Thread nD τ).loc main_arg1)
abbrev A2 : S128x160.Idx → EReal := m ((c : Thread nD τ).loc main_arg2)
abbrev A3 : S160x128.Idx → EReal := m ((c : Thread nD τ).loc main_arg3)
abbrev A4 : S160x128.Idx → EReal := m ((c : Thread nD τ).loc main_arg4)

/-- The windows that walk down the rows, one block a point. -/
theorem index_rows : ∀ t : Fin grid0.N,
    (win0_0.index t 0 = t.val ∧ win0_0.index t 1 = 0) ∧ (win0_3.index t 0 = t.val ∧ win0_3.index t 1 = 0) ∧ (win0_4.index
    t 0 = t.val ∧ win0_4.index t 1 = 0) ∧ (win0_5.index t 0 = t.val ∧ win0_5.index t 1 = 0) ∧ (win0_6.index t 0 =
    t.val ∧ win0_6.index t 1 = 0) ∧ (win0_7.index t 0 = t.val ∧ win0_7.index t 1 = 0) ∧ (win0_8.index t 0 = t.val ∧
    win0_8.index t 1 = 0) := by decide +kernel

/-- The windows that walk along the columns, one block a point. -/
theorem index_cols : ∀ t : Fin grid0.N,
    (win0_1.index t 0 = 0 ∧ win0_1.index t 1 = t.val) ∧ (win0_2.index t 0 = 0 ∧ win0_2.index t 1 = t.val) := by decide +kernel

/-! Where a block's element lies in its array. -/

theorem emb0 (t : Fin cfg0.N) (r : Fin 160) (k : Fin 128) :
    ((cfg0.win 0).blk t).view.emb (ix2 r k) = ix2 (row t r) k :=
  ix2_of ((win0_0.rect_emb_val t (ix2 r k) 0).trans (at_row (index_rows t).1.1))
    ((win0_0.rect_emb_val t (ix2 r k) 1).trans (at_all (index_rows t).1.2))

theorem emb3 (t : Fin cfg0.N) (r : Fin 160) (k : Fin 128) :
    ((cfg0.win 3).blk t).view.emb (ix2 r k) = ix2 (row t r) k :=
  ix2_of ((win0_3.rect_emb_val t (ix2 r k) 0).trans (at_row (index_rows t).2.1.1))
    ((win0_3.rect_emb_val t (ix2 r k) 1).trans (at_all (index_rows t).2.1.2))

theorem emb4 (t : Fin cfg0.N) (r : Fin 160) (k : Fin 128) :
    ((cfg0.win 4).blk t).view.emb (ix2 r k) = ix2 (row t r) k :=
  ix2_of ((win0_4.rect_emb_val t (ix2 r k) 0).trans (at_row (index_rows t).2.2.1.1))
    ((win0_4.rect_emb_val t (ix2 r k) 1).trans (at_all (index_rows t).2.2.1.2))

theorem emb5 (t : Fin cfg0.N) (r : Fin 160) (k : Fin 128) :
    ((cfg0.win 5).blk t).view.emb (ix2 r k) = ix2 (row t r) k :=
  ix2_of ((win0_5.rect_emb_val t (ix2 r k) 0).trans (at_row (index_rows t).2.2.2.1.1))
    ((win0_5.rect_emb_val t (ix2 r k) 1).trans (at_all (index_rows t).2.2.2.1.2))

theorem emb6 (t : Fin cfg0.N) (r : Fin 160) (k : Fin 128) :
    ((cfg0.win 6).blk t).view.emb (ix2 r k) = ix2 (row t r) k :=
  ix2_of ((win0_6.rect_emb_val t (ix2 r k) 0).trans (at_row (index_rows t).2.2.2.2.1.1))
    ((win0_6.rect_emb_val t (ix2 r k) 1).trans (at_all (index_rows t).2.2.2.2.1.2))

theorem emb7 (t : Fin cfg0.N) (r : Fin 160) (k : Fin 128) :
    ((cfg0.win 7).blk t).view.emb (ix2 r k) = ix2 (row t r) k :=
  ix2_of ((win0_7.rect_emb_val t (ix2 r k) 0).trans (at_row (index_rows t).2.2.2.2.2.1.1))
    ((win0_7.rect_emb_val t (ix2 r k) 1).trans (at_all (index_rows t).2.2.2.2.2.1.2))

theorem emb8 (t : Fin cfg0.N) (r : Fin 160) (k : Fin 128) :
    ((cfg0.win 8).blk t).view.emb (ix2 r k) = ix2 (row t r) k :=
  ix2_of ((win0_8.rect_emb_val t (ix2 r k) 0).trans (at_row (index_rows t).2.2.2.2.2.2.1))
    ((win0_8.rect_emb_val t (ix2 r k) 1).trans (at_all (index_rows t).2.2.2.2.2.2.2))

theorem emb1 (t : Fin cfg0.N) (k : Fin 128) (r : Fin 160) :
    ((cfg0.win 1).blk t).view.emb (ix2 k r) = ix2 k (row t r) :=
  ix2_of ((win0_1.rect_emb_val t (ix2 k r) 0).trans (at_all (index_cols t).1.1))
    ((win0_1.rect_emb_val t (ix2 k r) 1).trans (at_row (index_cols t).1.2))

theorem emb2 (t : Fin cfg0.N) (k : Fin 128) (r : Fin 160) :
    ((cfg0.win 2).blk t).view.emb (ix2 k r) = ix2 k (row t r) :=
  ix2_of ((win0_2.rect_emb_val t (ix2 k r) 0).trans (at_all (index_cols t).2.1))
    ((win0_2.rect_emb_val t (ix2 k r) 1).trans (at_row (index_cols t).2.2))

/-! What each input window's block holds at a point. -/

theorem read0 (t : Fin cfg0.N) (r : Fin 160) (k : Fin 128) :
    iblk m c 0 t (ix2 r k) = A0 m c (ix2 (row t r) k) := by
  unfold iblk
  rw [View.read_apply, emb0]
  exact congrFun (V_main_arg0 m c) _

theorem read1 (t : Fin cfg0.N) (k : Fin 128) (r : Fin 160) :
    iblk m c 1 t (ix2 k r) = A1 m c (ix2 k (row t r)) := by
  unfold iblk
  rw [View.read_apply, emb1]
  exact congrFun (V_main_arg1 m c) _

theorem read2 (t : Fin cfg0.N) (k : Fin 128) (r : Fin 160) :
    iblk m c 2 t (ix2 k r) = A2 m c (ix2 k (row t r)) := by
  unfold iblk
  rw [View.read_apply, emb2]
  exact congrFun (V_main_arg2 m c) _

theorem read3 (t : Fin cfg0.N) (r : Fin 160) (k : Fin 128) :
    iblk m c 3 t (ix2 r k) = A3 m c (ix2 (row t r) k) := by
  unfold iblk
  rw [View.read_apply, emb3]
  exact congrFun (V_main_arg3 m c) _

theorem read4 (t : Fin cfg0.N) (r : Fin 160) (k : Fin 128) :
    iblk m c 4 t (ix2 r k) = A4 m c (ix2 (row t r) k) := by
  unfold iblk
  rw [View.read_apply, emb4]
  exact congrFun (V_main_arg4 m c) _

/-- Every row is row `r` of some block `t`. -/
theorem row_split (i : Fin 160) : ∃ (t : Fin 1) (r : Fin 160), i = row t r :=
  ⟨⟨i.val / 160, by omega⟩, ⟨i.val % 160, by omega⟩, Fin.ext (by show i.val = 160 * (i.val / 160) + i.val % 160; omega)⟩

/-! The arrays: each output window's blocks cover its array, and each block is the reference's. -/

/-- The array of the gradient, its two parts added is the reference's. -/
theorem final5 : (dats m 0 c).arrAt 5 cfg0.N = val_main_v1 (F := Ideal) (A1 m c) (A2 m c) := by
  refine (dats m 0 c).arrAt_eq_of_cover 5 _ (fun t _ => ?_) (fun i => ?_)
  · rw [Cert.MixStepIdeal.Value.flushed5]
    funext y
    obtain ⟨r, k, rfl⟩ : ∃ (r : Fin 160) (k : Fin 128), y = ix2 r k := ⟨y 0, y 1, eq_ix2 y⟩
    rw [View.read_apply, emb5]
    exact block5 _ _ _ _ _ _ _ t (read1 m c t) (read2 m c t) r k
  · obtain ⟨t, r, h⟩ := row_split (i 0)
    rw [(eq_ix2 i).trans ((congrArg (ix2 · (i 1)) h).trans (emb5 t r (i 1)).symm)]
    exact ⟨t, flush0_5 t, View.emb_mem_set _ _⟩

/-- The array of the step is the reference's. -/
theorem final6 : (dats m 0 c).arrAt 6 cfg0.N = val_main_v25 (F := Ideal) (A0 m c) (A1 m c) (A2 m c) (A3 m c) (A4 m c) := by
  refine (dats m 0 c).arrAt_eq_of_cover 6 _ (fun t _ => ?_) (fun i => ?_)
  · rw [Cert.MixStepIdeal.Value.flushed6]
    funext y
    obtain ⟨r, k, rfl⟩ : ∃ (r : Fin 160) (k : Fin 128), y = ix2 r k := ⟨y 0, y 1, eq_ix2 y⟩
    rw [View.read_apply, emb6]
    exact block6 _ _ _ _ _ _ _ _ _ _ t (read0 m c t) (read1 m c t) (read2 m c t) (read3 m c t) (read4 m c t) r k
  · obtain ⟨t, r, h⟩ := row_split (i 0)
    rw [(eq_ix2 i).trans ((congrArg (ix2 · (i 1)) h).trans (emb6 t r (i 1)).symm)]
    exact ⟨t, flush0_6 t, View.emb_mem_set _ _⟩

/-- The array of the new first moment is the reference's. -/
theorem final7 : (dats m 0 c).arrAt 7 cfg0.N = val_main_v6 (F := Ideal) (A1 m c) (A2 m c) (A3 m c) := by
  refine (dats m 0 c).arrAt_eq_of_cover 7 _ (fun t _ => ?_) (fun i => ?_)
  · rw [Cert.MixStepIdeal.Value.flushed7]
    funext y
    obtain ⟨r, k, rfl⟩ : ∃ (r : Fin 160) (k : Fin 128), y = ix2 r k := ⟨y 0, y 1, eq_ix2 y⟩
    rw [View.read_apply, emb7]
    exact block7 _ _ _ _ _ _ _ _ t (read1 m c t) (read2 m c t) (read3 m c t) r k
  · obtain ⟨t, r, h⟩ := row_split (i 0)
    rw [(eq_ix2 i).trans ((congrArg (ix2 · (i 1)) h).trans (emb7 t r (i 1)).symm)]
    exact ⟨t, flush0_7 t, View.emb_mem_set _ _⟩

/-- The array of the new second moment is the reference's. -/
theorem final8 : (dats m 0 c).arrAt 8 cfg0.N = val_main_v12 (F := Ideal) (A1 m c) (A2 m c) (A4 m c) := by
  refine (dats m 0 c).arrAt_eq_of_cover 8 _ (fun t _ => ?_) (fun i => ?_)
  · rw [Cert.MixStepIdeal.Value.flushed8]
    funext y
    obtain ⟨r, k, rfl⟩ : ∃ (r : Fin 160) (k : Fin 128), y = ix2 r k := ⟨y 0, y 1, eq_ix2 y⟩
    rw [View.read_apply, emb8]
    exact block8 _ _ _ _ _ _ _ _ t (read1 m c t) (read2 m c t) (read4 m c t) r k
  · obtain ⟨t, r, h⟩ := row_split (i 0)
    rw [(eq_ix2 i).trans ((congrArg (ix2 · (i 1)) h).trans (emb8 t r (i 1)).symm)]
    exact ⟨t, flush0_8 t, View.emb_mem_set _ _⟩

end Cert.MixStepArray

end
-- ==== Proof.MixStepValue.lean ====
/- The optimiser's step of the gate's second projection: the kernel and the reference leave the same four arrays. -/
module

public import proofs.«01_k».proof.Defs
public import proofs.«01_k».proof.Proof.MixStepArray

@[expose] public section

set_option maxRecDepth 16384

noncomputable section

namespace Cert.MixStepValue

open Idealize.ShloMosaic Idealize.ShloMosaic.TcCoe Idealize.SL.Sem
open Cert.MixStepRefIdeal.Read Cert.MixStepArray

/-- The reference terminates, keeps its arguments and leaves every counter at zero. -/
theorem frame_ref : quiescent_MixStepRefIdeal := fun m ρ _ =>
  (θ_run Cert.MixStepRefIdeal.defs _ _).mono
    (fun r h => ⟨fun c => (h c).2.2.2.2, sem_eq_zero_of_no_sems (by decide) r.2⟩) (Cert.MixStepRefIdeal.Value.run m ρ)

/-- From memories that agree on the arguments both programs run and end with equal results. -/
theorem algebraic : algebraic_MixStepIdeal_MixStepRefIdeal := by
  intro m g m' g' _ h
  refine ⟨fun c => val_main_v1 (F := Ideal) (A1 m c) (A2 m c), fun c => val_main_v25 (F := Ideal) (A0 m c) (A1 m c) (A2
    m c) (A3 m c) (A4 m c), fun c => val_main_v6 (F := Ideal) (A1 m c) (A2 m c) (A3 m c), fun c => val_main_v12 (F :=
    Ideal) (A1 m c) (A2 m c) (A4 m c), ?_, ?_⟩
  · refine (θ_run _ _ _).mono (fun r H c => ?_) (Cert.MixStepIdeal.Value.run_blocks m g)
    obtain ⟨h5, h6, h7, h8, hargs⟩ := H c
    exact ⟨h5.trans (final5 m c), h6.trans (final6 m c), h7.trans (final7 m c), h8.trans (final8 m c), hargs⟩
  · refine (θ_run _ _ _).mono (fun r H c => ?_) (Cert.MixStepRefIdeal.Value.run m' g')
    obtain ⟨h5, h6, h7, h8, hargs⟩ := H c
    obtain ⟨e0, e1, e2, e3, e4⟩ := h c
    rw [e1, e2] at h5
    rw [e0, e1, e2, e3, e4] at h6
    rw [e1, e2, e3] at h7
    rw [e1, e2, e4] at h8
    exact ⟨h5, h6, h7, h8, hargs⟩

end Cert.MixStepValue

end
-- ==== Proof.LoraStepBlock.lean ====
/- What one grid point of the optimiser's step of the decay's and the learning rate's second projections computes, element by element, and that it is the
   reference's value at the place the block's element stands for. -/
module

public import proofs.«01_k».proof.Proof.Gen.LoraStepIdeal.Value
public import proofs.«01_k».proof.Proof.Gen.LoraStepRefIdeal.Read
public import Idealize.ShloMosaic.Lib.Pointwise

@[expose] public section

set_option maxRecDepth 16384

noncomputable section

namespace Cert.LoraStepBlock

open Idealize.ShloMosaic Idealize.ShloMosaic.TcCoe
open Cert.LoraStepRefIdeal.Read
open Cert.LoraStepIdeal Cert.LoraStepIdeal.Gen

/-- The array's row that row `r` of block `t` stands for. -/
abbrev row (t : Fin 1) (r : Fin 64) : Fin 64 := ⟨64 * t.val + r.val, by omega⟩

theorem off0 : (![0, 0] : Fin 2 → Nat) = fun _ => 0 := funext fun a => by fin_cases a <;> rfl

/-- There is one block only. -/
theorem row_one (t : Fin 1) (r : Fin 64) : row t r = r := Fin.ext (by show 64 * t.val + r.val = r.val; omega)

variable (A0 : Cert.LoraStepRefIdeal.S64x128.Idx → EReal) (A1 : Cert.LoraStepRefIdeal.S128x64.Idx → EReal) (A2 : Cert.LoraStepRefIdeal.S128x64.Idx → EReal) (A3 : Cert.LoraStepRefIdeal.S64x128.Idx → EReal) (A4 : Cert.LoraStepRefIdeal.S64x128.Idx → EReal)
  (x0 : Vec Ideal S64x128 .f32) (x1 : Vec Ideal S128x64 .f32) (x2 : Vec Ideal S128x64 .f32) (x3 : Vec Ideal S64x128 .f32) (x4 : Vec Ideal S64x128 .f32) (t : Fin 1)
  (h0 : ∀ r k, x0 (ix2 r k) = A0 (ix2 (row t r) k))
  (h1 : ∀ k r, x1 (ix2 k r) = A1 (ix2 k (row t r)))
  (h2 : ∀ k r, x2 (ix2 k r) = A2 (ix2 k (row t r)))
  (h3 : ∀ r k, x3 (ix2 r k) = A3 (ix2 (row t r) k))
  (h4 : ∀ r k, x4 (ix2 r k) = A4 (ix2 (row t r) k))

include h1 h2 in
/-- The gradient, its two parts added. -/
theorem block5 (r : Fin 64) (l : Fin 128) :
    out0_5 (F := Ideal) x0 x1 x2 x3 x4 (ix2 r l) = val_main_v1 (F := Ideal) A1 A2 (ix2 (row t r) l) := by
  unfold out0_5
  rw [View.canon_unit_zero off0, View.ld_unit_zero off0, View.ld_unit_zero off0]
  unfold_payloads
  pointwise [val_main_v1, val_main_v0]
  simp only [h1, h2, row_one]

include h0 h1 h2 h3 h4 in
/-- The step. -/
theorem block6 (r : Fin 64) (l : Fin 128) :
    out0_6 (F := Ideal) x0 x1 x2 x3 x4 (ix2 r l) = val_main_v25 (F := Ideal) A0 A1 A2 A3 A4 (ix2 (row t r) l) := by
  unfold out0_6
  rw [View.canon_unit_zero off0, View.ld_unit_zero off0, View.ld_unit_zero off0, View.ld_unit_zero off0, View.ld_unit_zero off0, View.ld_unit_zero off0]
  unfold_payloads
  pointwise [val_main_v25, val_main_v23, val_main_v22, val_main_v21, val_main_cst_6, val_main_v20, val_main_v19,
    val_main_v18, val_main_cst_5, val_main_v17, val_main_v16, val_main_v15, val_main_cst_4, val_main_v12,
    val_main_v11, val_main_v9, val_main_v1, val_main_v0, val_main_v10, val_main_cst_2, val_main_v8, val_main_v7,
    val_main_cst_1, val_main_v14, val_main_v13, val_main_cst_3, val_main_v6, val_main_v5, val_main_v4, val_main_cst_0,
    val_main_v3, val_main_v2, val_main_cst, val_main_v24, val_main_cst_7]
  simp only [h0, h1, h2, h3, h4, row_one]

include h1 h2 h3 in
/-- The new first moment. -/
theorem block7 (r : Fin 64) (l : Fin 128) :
    out0_7 (F := Ideal) x0 x1 x2 x3 x4 (ix2 r l) = val_main_v6 (F := Ideal) A1 A2 A3 (ix2 (row t r) l) := by
  unfold out0_7
  rw [View.canon_unit_zero off0, View.ld_unit_zero off0, View.ld_unit_zero off0, View.ld_unit_zero off0]
  unfold_payloads
  pointwise [val_main_v6, val_main_v5, val_main_v1, val_main_v0, val_main_v4, val_main_cst_0, val_main_v3, val_main_v2,
    val_main_cst]
  simp only [h1, h2, h3, row_one]

include h1 h2 h4 in
/-- The new second moment. -/
theorem block8 (r : Fin 64) (l : Fin 128) :
    out0_8 (F := Ideal) x0 x1 x2 x3 x4 (ix2 r l) = val_main_v12 (F := Ideal) A1 A2 A4 (ix2 (row t r) l) := by
  unfold out0_8
  rw [View.canon_unit_zero off0, View.ld_unit_zero off0, View.ld_unit_zero off0, View.ld_unit_zero off0]
  unfold_payloads
  pointwise [val_main_v12, val_main_v11, val_main_v9, val_main_v1, val_main_v0, val_main_v10, val_main_cst_2,
    val_main_v8, val_main_v7, val_main_cst_1]
  simp only [h1, h2, h4, row_one]

end Cert.LoraStepBlock

end
-- ==== Proof.LoraStepArray.lean ====
/- The four arrays the optimiser's step of the decay's and the learning rate's second projections leaves: each is the reference's value, every block of it
   being what one grid point wrote. -/
module

public import proofs.«01_k».proof.Proof.LoraStepBlock
public import proofs.«01_k».proof.Proof.Index
public import Idealize.ShloMosaic.Lib.StableHlo.ReadAt

@[expose] public section

set_option maxRecDepth 16384

noncomputable section

namespace Cert.LoraStepArray

open Idealize.ShloMosaic Idealize.ShloMosaic.TcCoe Idealize.SL.Sem
open Cert.LoraStepRefIdeal.Read
open Cert.LoraStepIdeal Cert.LoraStepIdeal.Gen Cert.LoraStepBlock Cert.Index

variable (m : (ℓ : Loc nD τ sig) → Buf (Elt Ideal) ℓ) (c : Dev nD)

/-! The kernel's argument arrays as functions of an index. -/

abbrev A0 : S64x128.Idx → EReal := m ((c : Thread nD τ).loc main_arg0)
abbrev A1 : S128x64.Idx → EReal := m ((c : Thread nD τ).loc main_arg1)
abbrev A2 : S128x64.Idx → EReal := m ((c : Thread nD τ).loc main_arg2)
abbrev A3 : S64x128.Idx → EReal := m ((c : Thread nD τ).loc main_arg3)
abbrev A4 : S64x128.Idx → EReal := m ((c : Thread nD τ).loc main_arg4)

/-- The windows that walk down the rows, one block a point. -/
theorem index_rows : ∀ t : Fin grid0.N,
    (win0_0.index t 0 = t.val ∧ win0_0.index t 1 = 0) ∧ (win0_3.index t 0 = t.val ∧ win0_3.index t 1 = 0) ∧ (win0_4.index
    t 0 = t.val ∧ win0_4.index t 1 = 0) ∧ (win0_5.index t 0 = t.val ∧ win0_5.index t 1 = 0) ∧ (win0_6.index t 0 =
    t.val ∧ win0_6.index t 1 = 0) ∧ (win0_7.index t 0 = t.val ∧ win0_7.index t 1 = 0) ∧ (win0_8.index t 0 = t.val ∧
    win0_8.index t 1 = 0) := by decide +kernel

/-- The windows that walk along the columns, one block a point. -/
theorem index_cols : ∀ t : Fin grid0.N,
    (win0_1.index t 0 = 0 ∧ win0_1.index t 1 = t.val) ∧ (win0_2.index t 0 = 0 ∧ win0_2.index t 1 = t.val) := by decide +kernel

/-! Where a block's element lies in its array. -/

theorem emb0 (t : Fin cfg0.N) (r : Fin 64) (k : Fin 128) :
    ((cfg0.win 0).blk t).view.emb (ix2 r k) = ix2 (row t r) k :=
  ix2_of ((win0_0.rect_emb_val t (ix2 r k) 0).trans (at_row (index_rows t).1.1))
    ((win0_0.rect_emb_val t (ix2 r k) 1).trans (at_all (index_rows t).1.2))

theorem emb3 (t : Fin cfg0.N) (r : Fin 64) (k : Fin 128) :
    ((cfg0.win 3).blk t).view.emb (ix2 r k) = ix2 (row t r) k :=
  ix2_of ((win0_3.rect_emb_val t (ix2 r k) 0).trans (at_row (index_rows t).2.1.1))
    ((win0_3.rect_emb_val t (ix2 r k) 1).trans (at_all (index_rows t).2.1.2))

theorem emb4 (t : Fin cfg0.N) (r : Fin 64) (k : Fin 128) :
    ((cfg0.win 4).blk t).view.emb (ix2 r k) = ix2 (row t r) k :=
  ix2_of ((win0_4.rect_emb_val t (ix2 r k) 0).trans (at_row (index_rows t).2.2.1.1))
    ((win0_4.rect_emb_val t (ix2 r k) 1).trans (at_all (index_rows t).2.2.1.2))

theorem emb5 (t : Fin cfg0.N) (r : Fin 64) (k : Fin 128) :
    ((cfg0.win 5).blk t).view.emb (ix2 r k) = ix2 (row t r) k :=
  ix2_of ((win0_5.rect_emb_val t (ix2 r k) 0).trans (at_row (index_rows t).2.2.2.1.1))
    ((win0_5.rect_emb_val t (ix2 r k) 1).trans (at_all (index_rows t).2.2.2.1.2))

theorem emb6 (t : Fin cfg0.N) (r : Fin 64) (k : Fin 128) :
    ((cfg0.win 6).blk t).view.emb (ix2 r k) = ix2 (row t r) k :=
  ix2_of ((win0_6.rect_emb_val t (ix2 r k) 0).trans (at_row (index_rows t).2.2.2.2.1.1))
    ((win0_6.rect_emb_val t (ix2 r k) 1).trans (at_all (index_rows t).2.2.2.2.1.2))

theorem emb7 (t : Fin cfg0.N) (r : Fin 64) (k : Fin 128) :
    ((cfg0.win 7).blk t).view.emb (ix2 r k) = ix2 (row t r) k :=
  ix2_of ((win0_7.rect_emb_val t (ix2 r k) 0).trans (at_row (index_rows t).2.2.2.2.2.1.1))
    ((win0_7.rect_emb_val t (ix2 r k) 1).trans (at_all (index_rows t).2.2.2.2.2.1.2))

theorem emb8 (t : Fin cfg0.N) (r : Fin 64) (k : Fin 128) :
    ((cfg0.win 8).blk t).view.emb (ix2 r k) = ix2 (row t r) k :=
  ix2_of ((win0_8.rect_emb_val t (ix2 r k) 0).trans (at_row (index_rows t).2.2.2.2.2.2.1))
    ((win0_8.rect_emb_val t (ix2 r k) 1).trans (at_all (index_rows t).2.2.2.2.2.2.2))

theorem emb1 (t : Fin cfg0.N) (k : Fin 128) (r : Fin 64) :
    ((cfg0.win 1).blk t).view.emb (ix2 k r) = ix2 k (row t r) :=
  ix2_of ((win0_1.rect_emb_val t (ix2 k r) 0).trans (at_all (index_cols t).1.1))
    ((win0_1.rect_emb_val t (ix2 k r) 1).trans (at_row (index_cols t).1.2))

theorem emb2 (t : Fin cfg0.N) (k : Fin 128) (r : Fin 64) :
    ((cfg0.win 2).blk t).view.emb (ix2 k r) = ix2 k (row t r) :=
  ix2_of ((win0_2.rect_emb_val t (ix2 k r) 0).trans (at_all (index_cols t).2.1))
    ((win0_2.rect_emb_val t (ix2 k r) 1).trans (at_row (index_cols t).2.2))

/-! What each input window's block holds at a point. -/

theorem read0 (t : Fin cfg0.N) (r : Fin 64) (k : Fin 128) :
    iblk m c 0 t (ix2 r k) = A0 m c (ix2 (row t r) k) := by
  unfold iblk
  rw [View.read_apply, emb0]
  exact congrFun (V_main_arg0 m c) _

theorem read1 (t : Fin cfg0.N) (k : Fin 128) (r : Fin 64) :
    iblk m c 1 t (ix2 k r) = A1 m c (ix2 k (row t r)) := by
  unfold iblk
  rw [View.read_apply, emb1]
  exact congrFun (V_main_arg1 m c) _

theorem read2 (t : Fin cfg0.N) (k : Fin 128) (r : Fin 64) :
    iblk m c 2 t (ix2 k r) = A2 m c (ix2 k (row t r)) := by
  unfold iblk
  rw [View.read_apply, emb2]
  exact congrFun (V_main_arg2 m c) _

theorem read3 (t : Fin cfg0.N) (r : Fin 64) (k : Fin 128) :
    iblk m c 3 t (ix2 r k) = A3 m c (ix2 (row t r) k) := by
  unfold iblk
  rw [View.read_apply, emb3]
  exact congrFun (V_main_arg3 m c) _

theorem read4 (t : Fin cfg0.N) (r : Fin 64) (k : Fin 128) :
    iblk m c 4 t (ix2 r k) = A4 m c (ix2 (row t r) k) := by
  unfold iblk
  rw [View.read_apply, emb4]
  exact congrFun (V_main_arg4 m c) _

/-- Every row is row `r` of some block `t`. -/
theorem row_split (i : Fin 64) : ∃ (t : Fin 1) (r : Fin 64), i = row t r :=
  ⟨⟨i.val / 64, by omega⟩, ⟨i.val % 64, by omega⟩, Fin.ext (by show i.val = 64 * (i.val / 64) + i.val % 64; omega)⟩

/-! The arrays: each output window's blocks cover its array, and each block is the reference's. -/

/-- The array of the gradient, its two parts added is the reference's. -/
theorem final5 : (dats m 0 c).arrAt 5 cfg0.N = val_main_v1 (F := Ideal) (A1 m c) (A2 m c) := by
  refine (dats m 0 c).arrAt_eq_of_cover 5 _ (fun t _ => ?_) (fun i => ?_)
  · rw [Cert.LoraStepIdeal.Value.flushed5]
    funext y
    obtain ⟨r, k, rfl⟩ : ∃ (r : Fin 64) (k : Fin 128), y = ix2 r k := ⟨y 0, y 1, eq_ix2 y⟩
    rw [View.read_apply, emb5]
    exact block5 _ _ _ _ _ _ _ t (read1 m c t) (read2 m c t) r k
  · obtain ⟨t, r, h⟩ := row_split (i 0)
    rw [(eq_ix2 i).trans ((congrArg (ix2 · (i 1)) h).trans (emb5 t r (i 1)).symm)]
    exact ⟨t, flush0_5 t, View.emb_mem_set _ _⟩

/-- The array of the step is the reference's. -/
theorem final6 : (dats m 0 c).arrAt 6 cfg0.N = val_main_v25 (F := Ideal) (A0 m c) (A1 m c) (A2 m c) (A3 m c) (A4 m c) := by
  refine (dats m 0 c).arrAt_eq_of_cover 6 _ (fun t _ => ?_) (fun i => ?_)
  · rw [Cert.LoraStepIdeal.Value.flushed6]
    funext y
    obtain ⟨r, k, rfl⟩ : ∃ (r : Fin 64) (k : Fin 128), y = ix2 r k := ⟨y 0, y 1, eq_ix2 y⟩
    rw [View.read_apply, emb6]
    exact block6 _ _ _ _ _ _ _ _ _ _ t (read0 m c t) (read1 m c t) (read2 m c t) (read3 m c t) (read4 m c t) r k
  · obtain ⟨t, r, h⟩ := row_split (i 0)
    rw [(eq_ix2 i).trans ((congrArg (ix2 · (i 1)) h).trans (emb6 t r (i 1)).symm)]
    exact ⟨t, flush0_6 t, View.emb_mem_set _ _⟩

/-- The array of the new first moment is the reference's. -/
theorem final7 : (dats m 0 c).arrAt 7 cfg0.N = val_main_v6 (F := Ideal) (A1 m c) (A2 m c) (A3 m c) := by
  refine (dats m 0 c).arrAt_eq_of_cover 7 _ (fun t _ => ?_) (fun i => ?_)
  · rw [Cert.LoraStepIdeal.Value.flushed7]
    funext y
    obtain ⟨r, k, rfl⟩ : ∃ (r : Fin 64) (k : Fin 128), y = ix2 r k := ⟨y 0, y 1, eq_ix2 y⟩
    rw [View.read_apply, emb7]
    exact block7 _ _ _ _ _ _ _ _ t (read1 m c t) (read2 m c t) (read3 m c t) r k
  · obtain ⟨t, r, h⟩ := row_split (i 0)
    rw [(eq_ix2 i).trans ((congrArg (ix2 · (i 1)) h).trans (emb7 t r (i 1)).symm)]
    exact ⟨t, flush0_7 t, View.emb_mem_set _ _⟩

/-- The array of the new second moment is the reference's. -/
theorem final8 : (dats m 0 c).arrAt 8 cfg0.N = val_main_v12 (F := Ideal) (A1 m c) (A2 m c) (A4 m c) := by
  refine (dats m 0 c).arrAt_eq_of_cover 8 _ (fun t _ => ?_) (fun i => ?_)
  · rw [Cert.LoraStepIdeal.Value.flushed8]
    funext y
    obtain ⟨r, k, rfl⟩ : ∃ (r : Fin 64) (k : Fin 128), y = ix2 r k := ⟨y 0, y 1, eq_ix2 y⟩
    rw [View.read_apply, emb8]
    exact block8 _ _ _ _ _ _ _ _ t (read1 m c t) (read2 m c t) (read4 m c t) r k
  · obtain ⟨t, r, h⟩ := row_split (i 0)
    rw [(eq_ix2 i).trans ((congrArg (ix2 · (i 1)) h).trans (emb8 t r (i 1)).symm)]
    exact ⟨t, flush0_8 t, View.emb_mem_set _ _⟩

end Cert.LoraStepArray

end
-- ==== Proof.LoraStepValue.lean ====
/- The optimiser's step of the decay's and the learning rate's second projections: the kernel and the reference leave the same four arrays. -/
module

public import proofs.«01_k».proof.Defs
public import proofs.«01_k».proof.Proof.LoraStepArray

@[expose] public section

set_option maxRecDepth 16384

noncomputable section

namespace Cert.LoraStepValue

open Idealize.ShloMosaic Idealize.ShloMosaic.TcCoe Idealize.SL.Sem
open Cert.LoraStepRefIdeal.Read Cert.LoraStepArray

/-- The reference terminates, keeps its arguments and leaves every counter at zero. -/
theorem frame_ref : quiescent_LoraStepRefIdeal := fun m ρ _ =>
  (θ_run Cert.LoraStepRefIdeal.defs _ _).mono
    (fun r h => ⟨fun c => (h c).2.2.2.2, sem_eq_zero_of_no_sems (by decide) r.2⟩) (Cert.LoraStepRefIdeal.Value.run m ρ)

/-- From memories that agree on the arguments both programs run and end with equal results. -/
theorem algebraic : algebraic_LoraStepIdeal_LoraStepRefIdeal := by
  intro m g m' g' _ h
  refine ⟨fun c => val_main_v1 (F := Ideal) (A1 m c) (A2 m c), fun c => val_main_v25 (F := Ideal) (A0 m c) (A1 m c) (A2
    m c) (A3 m c) (A4 m c), fun c => val_main_v6 (F := Ideal) (A1 m c) (A2 m c) (A3 m c), fun c => val_main_v12 (F :=
    Ideal) (A1 m c) (A2 m c) (A4 m c), ?_, ?_⟩
  · refine (θ_run _ _ _).mono (fun r H c => ?_) (Cert.LoraStepIdeal.Value.run_blocks m g)
    obtain ⟨h5, h6, h7, h8, hargs⟩ := H c
    exact ⟨h5.trans (final5 m c), h6.trans (final6 m c), h7.trans (final7 m c), h8.trans (final8 m c), hargs⟩
  · refine (θ_run _ _ _).mono (fun r H c => ?_) (Cert.LoraStepRefIdeal.Value.run m' g')
    obtain ⟨h5, h6, h7, h8, hargs⟩ := H c
    obtain ⟨e0, e1, e2, e3, e4⟩ := h c
    rw [e1, e2] at h5
    rw [e0, e1, e2, e3, e4] at h6
    rw [e1, e2, e3] at h7
    rw [e1, e2, e4] at h8
    exact ⟨h5, h6, h7, h8, hargs⟩

end Cert.LoraStepValue

end
-- ==== Proof.EmbedBlock.lean ====
/- What one grid point of the first normalisation computes, element by element: three blocks of rows under one another, the
   first of which is the padding and the meta tokens at the first point, and the norm of them. -/
module

public import proofs.«01_k».proof.Proof.Gen.EmbedIdeal.Value
public import proofs.«01_k».proof.Proof.Gen.EmbedRefIdeal.Read
public import Idealize.ShloMosaic.Lib.Pointwise

@[expose] public section

set_option maxRecDepth 16384

noncomputable section

namespace Cert.EmbedBlock

open Idealize.ShloMosaic Idealize.ShloMosaic.TcCoe
open Cert.EmbedRefIdeal.Read
open Cert.EmbedIdeal Cert.EmbedIdeal.Gen

theorem off0 : (![0, 0] : Fin 2 → Nat) = fun _ => 0 := funext fun a => by fin_cases a <;> rfl

/-- Two rows' elements of one column have the same place on every axis but the first. -/
theorem same_column {a b : Nat} (r : Fin a) (q : Fin b) (l : Fin 1024) (n : Fin 2) (h : n ≠ 0) :
    (ix2 r l n).val = (ix2 q l n).val := by
  have h0 : n.val ≠ 0 := fun e => h (Fin.ext e)
  have h2 : n.val < 2 := n.isLt
  obtain rfl : n = (1 : Fin 2) := Fin.ext (by show n.val = 1; omega)
  rfl

/-! The reference's rows: the padding, the meta tokens, the sequence. -/

variable (X : S4096x1024.Idx → EReal) (M : S16x1024.Idx → EReal) (G : S1x1024.Idx → EReal)

/-- A row of the padding is zero. -/
theorem padding_apply (q : Fin 112) (l : Fin 1024) :
    val_main_v1 (F := Ideal) X M (ix2 (⟨q.val, by omega⟩ : Fin 4224) l) = (FloatOps.ofBits .f32 0x00000000#32 : Ideal .f32) :=
  (concatenate_apply_piece (t := Cert.EmbedRefIdeal.S4224x1024) 0 _ _ (ix2 (⟨q.val, by omega⟩ : Fin 4224) l) 0
    (by show 0 < 3; omega) _ (val_main_v0 (F := Ideal)) rfl rfl 0 rfl (ix2 q l)
    (fun b hb => same_column _ _ l b hb) (Nat.zero_add _)).trans (val_main_v0_apply _)

/-- A row after the padding is a meta token. -/
theorem meta_apply (q : Fin 16) (l : Fin 1024) :
    val_main_v1 (F := Ideal) X M (ix2 (⟨112 + q.val, by omega⟩ : Fin 4224) l) = M (ix2 q l) :=
  concatenate_apply_piece (t := Cert.EmbedRefIdeal.S4224x1024) 0 _ _ (ix2 (⟨112 + q.val, by omega⟩ : Fin 4224) l) 1
    (by show 1 < 3; omega) _ M rfl rfl 112 rfl (ix2 q l)
    (fun b hb => same_column _ _ l b hb) rfl

/-- The rows from the 128th on are the sequence. -/
theorem sequence_apply (q : Fin 4096) (l : Fin 1024) :
    val_main_v1 (F := Ideal) X M (ix2 (⟨128 + q.val, by omega⟩ : Fin 4224) l) = X (ix2 q l) :=
  concatenate_apply_piece (t := Cert.EmbedRefIdeal.S4224x1024) 0 _ _ (ix2 (⟨128 + q.val, by omega⟩ : Fin 4224) l) 2
    (by show 2 < 3; omega) _ X rfl rfl 128 rfl (ix2 q l)
    (fun b hb => same_column _ _ l b hb) rfl

/-! The block's rows. -/

variable (i : grid0.Coords) (x0 x1 x2 : Vec Ideal S128x1024 .f32) (x3 : Vec Ideal S16x1024 .f32) (x4 : Vec Ideal S1x1024 .f32)

/-- The padding above the meta tokens. -/
def front : Vec Ideal S128x1024 .f32 :=
  concatenate S128x1024 0 [⟨S112x1024, broadcast S112x1024 (Scalar.ofBits .f32 0x00000000#32 : Ideal .f32)⟩, ⟨S16x1024, x3⟩]
    concatenates_S112x1024_S16x1024_S128x1024_d0

theorem front_padding (q : Fin 112) (l : Fin 1024) :
    front x3 (ix2 (⟨q.val, by omega⟩ : Fin 128) l) = (FloatOps.ofBits .f32 0x00000000#32 : Ideal .f32) :=
  concatenate_apply_piece (t := S128x1024) 0 _ _ (ix2 (⟨q.val, by omega⟩ : Fin 128) l) 0 (by show 0 < 2; omega) _
    (broadcast S112x1024 (Scalar.ofBits .f32 0x00000000#32 : Ideal .f32)) rfl rfl 0 rfl (ix2 q l)
    (fun b hb => same_column _ _ l b hb) (Nat.zero_add _)

theorem front_meta (q : Fin 16) (l : Fin 1024) :
    front x3 (ix2 (⟨112 + q.val, by omega⟩ : Fin 128) l) = x3 (ix2 q l) :=
  concatenate_apply_piece (t := S128x1024) 0 _ _ (ix2 (⟨112 + q.val, by omega⟩ : Fin 128) l) 1 (by show 1 < 2; omega) _
    x3 rfl rfl 112 rfl (ix2 q l)
    (fun b hb => same_column _ _ l b hb) rfl

/-- Whether this is the first grid point. -/
def isFirst : BitVec 1 := Scalar.cmpi .eq (BitVec.ofNat 32 (i 0).val) 0#32

/-- A point's three blocks of rows. -/
abbrev pieces : List ((s : Shape) × (s.Idx → EReal)) :=
  [⟨S128x1024, Scalar.select (isFirst i) (front x3) x0⟩, ⟨S128x1024, x1⟩, ⟨S128x1024, x2⟩]

/-- The first block of rows: the front at the first point, rows of the sequence at the others. -/
theorem stacked0 (r : Fin 128) (l : Fin 1024) :
    k0_pay1 (F := Ideal) i x3 x0 x1 x2 (ix2 (⟨r.val, by omega⟩ : Fin 384) l)
      = Scalar.select (isFirst i) (front x3) x0 (ix2 r l) :=
  concatenate_apply_piece (t := S384x1024) 0 (pieces i x0 x1 x2 x3)
    concatenates_S128x1024_S128x1024_S128x1024_S384x1024_d0 (ix2 (⟨r.val, by omega⟩ : Fin 384) l) 0 (by show 0 < 3; omega) _
    (Scalar.select (isFirst i) (front x3) x0) rfl rfl 0 rfl (ix2 r l)
    (fun b hb => same_column _ _ l b hb) (Nat.zero_add _)

theorem stacked1 (r : Fin 128) (l : Fin 1024) :
    k0_pay1 (F := Ideal) i x3 x0 x1 x2 (ix2 (⟨128 + r.val, by omega⟩ : Fin 384) l) = x1 (ix2 r l) :=
  concatenate_apply_piece (t := S384x1024) 0 (pieces i x0 x1 x2 x3)
    concatenates_S128x1024_S128x1024_S128x1024_S384x1024_d0 (ix2 (⟨128 + r.val, by omega⟩ : Fin 384) l) 1 (by show 1 < 3; omega) _
    x1 rfl rfl 128 rfl (ix2 r l)
    (fun b hb => same_column _ _ l b hb) rfl

theorem stacked2 (r : Fin 128) (l : Fin 1024) :
    k0_pay1 (F := Ideal) i x3 x0 x1 x2 (ix2 (⟨256 + r.val, by omega⟩ : Fin 384) l) = x2 (ix2 r l) :=
  concatenate_apply_piece (t := S384x1024) 0 (pieces i x0 x1 x2 x3)
    concatenates_S128x1024_S128x1024_S128x1024_S384x1024_d0 (ix2 (⟨256 + r.val, by omega⟩ : Fin 384) l) 2 (by show 2 < 3; omega) _
    x2 rfl rfl 256 rfl (ix2 r l)
    (fun b hb => same_column _ _ l b hb) rfl

/-- What the first output's block holds. -/
theorem block5_eq : out0_5 (F := Ideal) i x0 x1 x2 x3 x4 = k0_pay1 (F := Ideal) i x3 x0 x1 x2 := by
  unfold out0_5
  rw [View.canon_unit_zero off0, View.ld_unit_zero off0, View.ld_unit_zero off0, View.ld_unit_zero off0,
    View.ld_unit_zero off0]

/-- The norm of a block's row is the norm of the row of the reference's array that it is. -/
theorem block6 (row : Fin 384 → Fin 4224) (h4 : ∀ r l, x4 (ix2 r l) = G (ix2 r l))
    (h : ∀ r l, k0_pay1 (F := Ideal) i x3 x0 x1 x2 (ix2 r l) = val_main_v1 (F := Ideal) X M (ix2 (row r) l))
    (r : Fin 384) (l : Fin 1024) :
    out0_6 (F := Ideal) i x0 x1 x2 x3 x4 (ix2 r l) = val_main_v16 (F := Ideal) X M G (ix2 (row r) l) := by
  unfold out0_6
  rw [View.canon_unit_zero off0, View.ld_unit_zero off0, View.ld_unit_zero off0, View.ld_unit_zero off0,
    View.ld_unit_zero off0, View.ld_unit_zero off0]
  unfold k0_pay2
  generalize k0_pay1 (F := Ideal) i x3 x0 x1 x2 = P at h
  pointwise [val_main_v16, val_main_v15, val_main_v14, val_main_v13, val_main_v12, val_main_v11, val_main_v10, val_main_v9,
    val_main_v8, val_main_cst_2, val_main_v7, val_main_v6, val_main_cst_1, val_main_v5, val_main_v4, val_main_cst_0,
    val_main_v3, val_main_v2]
  simp only [h, h4]

end Cert.EmbedBlock

end
-- ==== Proof.EmbedArray.lean ====
/- The two arrays the first normalisation leaves: each is the reference's value, every block of it being what one grid point
   wrote. -/
module

public import proofs.«01_k».proof.Proof.EmbedBlock
public import proofs.«01_k».proof.Proof.Index
public import Idealize.ShloMosaic.Lib.StableHlo.ReadAt

@[expose] public section

set_option maxRecDepth 16384

noncomputable section

namespace Cert.EmbedArray

open Idealize.ShloMosaic Idealize.ShloMosaic.TcCoe Idealize.SL.Sem
open Cert.EmbedRefIdeal.Read
open Cert.EmbedIdeal Cert.EmbedIdeal.Gen Cert.EmbedBlock Cert.Index

variable (m : (ℓ : Loc nD τ sig) → Buf (Elt Ideal) ℓ) (c : Dev nD)

/-! The kernel's argument arrays as functions of an index. -/

abbrev A0 : S4096x1024.Idx → EReal := m ((c : Thread nD τ).loc main_arg0)
abbrev A1 : S16x1024.Idx → EReal := m ((c : Thread nD τ).loc main_arg1)
abbrev A2 : S1x1024.Idx → EReal := m ((c : Thread nD τ).loc main_arg2)

/-- Row `r` of point `t`'s rows. -/
abbrev at384 (t : Fin cfg0.N) (r : Fin 384) : Fin 4224 :=
  ⟨384 * t.val + r.val, by have h : t.val < 11 := t.isLt; omega⟩

/-- Row `r` of block `b` of the sequence. -/
abbrev row (b : Fin 32) (r : Fin 128) : Fin 4096 := ⟨128 * b.val + r.val, by omega⟩

/-! The sequence's block that each of a point's three blocks of rows is. -/

abbrev blk0 (t : Fin cfg0.N) : Fin 32 := ⟨3 * t.val - 1, by have h : t.val < 11 := t.isLt; omega⟩
abbrev blk1 (t : Fin cfg0.N) : Fin 32 := ⟨3 * t.val, by have h : t.val < 11 := t.isLt; omega⟩
abbrev blk2 (t : Fin cfg0.N) : Fin 32 := ⟨3 * t.val + 1, by have h : t.val < 11 := t.isLt; omega⟩

/-- The windows that stage the sequence's blocks. -/
theorem index_rows : ∀ t : Fin grid0.N,
    (win0_0.index t 0 = 3 * t.val - 1 ∧ win0_0.index t 1 = 0)
    ∧ (win0_1.index t 0 = 3 * t.val ∧ win0_1.index t 1 = 0)
    ∧ (win0_2.index t 0 = 3 * t.val + 1 ∧ win0_2.index t 1 = 0) := by decide +kernel

/-- The windows that stage a whole array at every point. -/
theorem index_whole : ∀ t : Fin grid0.N,
    (win0_3.index t 0 = 0 ∧ win0_3.index t 1 = 0) ∧ (win0_4.index t 0 = 0 ∧ win0_4.index t 1 = 0) := by decide +kernel

/-- The windows of the two results, one block of rows a point. -/
theorem index_out : ∀ t : Fin grid0.N,
    (win0_5.index t 0 = t.val ∧ win0_5.index t 1 = 0) ∧ (win0_6.index t 0 = t.val ∧ win0_6.index t 1 = 0) := by
  decide +kernel

/-! Where a block's element lies in its array. -/

theorem emb0 (t : Fin cfg0.N) (r : Fin 128) (k : Fin 1024) :
    ((cfg0.win 0).blk t).view.emb (ix2 r k) = ix2 (row (blk0 t) r) k :=
  ix2_of ((win0_0.rect_emb_val t (ix2 r k) 0).trans (at_row (index_rows t).1.1))
    ((win0_0.rect_emb_val t (ix2 r k) 1).trans (at_all (index_rows t).1.2))

theorem emb1 (t : Fin cfg0.N) (r : Fin 128) (k : Fin 1024) :
    ((cfg0.win 1).blk t).view.emb (ix2 r k) = ix2 (row (blk1 t) r) k :=
  ix2_of ((win0_1.rect_emb_val t (ix2 r k) 0).trans (at_row (index_rows t).2.1.1))
    ((win0_1.rect_emb_val t (ix2 r k) 1).trans (at_all (index_rows t).2.1.2))

theorem emb2 (t : Fin cfg0.N) (r : Fin 128) (k : Fin 1024) :
    ((cfg0.win 2).blk t).view.emb (ix2 r k) = ix2 (row (blk2 t) r) k :=
  ix2_of ((win0_2.rect_emb_val t (ix2 r k) 0).trans (at_row (index_rows t).2.2.1))
    ((win0_2.rect_emb_val t (ix2 r k) 1).trans (at_all (index_rows t).2.2.2))

theorem emb3 (t : Fin cfg0.N) (r : Fin 16) (k : Fin 1024) :
    ((cfg0.win 3).blk t).view.emb (ix2 r k) = ix2 r k :=
  ix2_of ((win0_3.rect_emb_val t (ix2 r k) 0).trans (at_all (index_whole t).1.1))
    ((win0_3.rect_emb_val t (ix2 r k) 1).trans (at_all (index_whole t).1.2))

theorem emb4 (t : Fin cfg0.N) (r : Fin 1) (k : Fin 1024) :
    ((cfg0.win 4).blk t).view.emb (ix2 r k) = ix2 r k :=
  ix2_of ((win0_4.rect_emb_val t (ix2 r k) 0).trans (at_all (index_whole t).2.1))
    ((win0_4.rect_emb_val t (ix2 r k) 1).trans (at_all (index_whole t).2.2))

theorem emb5 (t : Fin cfg0.N) (r : Fin 384) (k : Fin 1024) :
    ((cfg0.win 5).blk t).view.emb (ix2 r k) = ix2 (at384 t r) k :=
  ix2_of ((win0_5.rect_emb_val t (ix2 r k) 0).trans (at_row (index_out t).1.1))
    ((win0_5.rect_emb_val t (ix2 r k) 1).trans (at_all (index_out t).1.2))

theorem emb6 (t : Fin cfg0.N) (r : Fin 384) (k : Fin 1024) :
    ((cfg0.win 6).blk t).view.emb (ix2 r k) = ix2 (at384 t r) k :=
  ix2_of ((win0_6.rect_emb_val t (ix2 r k) 0).trans (at_row (index_out t).2.1))
    ((win0_6.rect_emb_val t (ix2 r k) 1).trans (at_all (index_out t).2.2))

/-! What each input window's block holds at a point. -/

theorem read0 (t : Fin cfg0.N) (r : Fin 128) (k : Fin 1024) :
    iblk m c 0 t (ix2 r k) = A0 m c (ix2 (row (blk0 t) r) k) := by
  unfold iblk
  rw [View.read_apply, emb0]
  exact congrFun (V_main_arg0 m c) _

theorem read1 (t : Fin cfg0.N) (r : Fin 128) (k : Fin 1024) :
    iblk m c 1 t (ix2 r k) = A0 m c (ix2 (row (blk1 t) r) k) := by
  unfold iblk
  rw [View.read_apply, emb1]
  exact congrFun (V_main_arg0 m c) _

theorem read2 (t : Fin cfg0.N) (r : Fin 128) (k : Fin 1024) :
    iblk m c 2 t (ix2 r k) = A0 m c (ix2 (row (blk2 t) r) k) := by
  unfold iblk
  rw [View.read_apply, emb2]
  exact congrFun (V_main_arg0 m c) _

theorem read3 (t : Fin cfg0.N) (r : Fin 16) (k : Fin 1024) :
    iblk m c 3 t (ix2 r k) = A1 m c (ix2 r k) := by
  unfold iblk
  rw [View.read_apply, emb3]
  exact congrFun (V_main_arg1 m c) _

theorem read4 (t : Fin cfg0.N) (r : Fin 1) (k : Fin 1024) :
    iblk m c 4 t (ix2 r k) = A2 m c (ix2 r k) := by
  unfold iblk
  rw [View.read_apply, emb4]
  exact congrFun (V_main_arg2 m c) _

/-! The rows a point writes are the reference's. -/

theorem first_point : ∀ t : Fin grid0.N, t.val = 0 → isFirst (grid0.coords t) = 1#1 := by decide +kernel

theorem later_point : ∀ t : Fin grid0.N, t.val ≠ 0 → isFirst (grid0.coords t) = 0#1 := by decide +kernel

/-- A row of the sequence, by its place in the reference's array. -/
theorem sequence_at (i : Fin 4224) (q : Fin 4096) (l : Fin 1024) (h : i.val = 128 + q.val) :
    A0 m c (ix2 q l) = val_main_v1 (F := Ideal) (A0 m c) (A1 m c) (ix2 i l) :=
  (sequence_apply (A0 m c) (A1 m c) q l).symm.trans
    (congrArg (fun j => val_main_v1 (F := Ideal) (A0 m c) (A1 m c) (ix2 j l)) (Fin.ext h.symm))

/-- The first point's front rows. -/
theorem front_at (t : Fin cfg0.N) (h : t.val = 0) (r : Fin 128) (l : Fin 1024) :
    front (iblk m c 3 t) (ix2 r l)
      = val_main_v1 (F := Ideal) (A0 m c) (A1 m c) (ix2 (at384 t ⟨r.val, by omega⟩) l) := by
  by_cases hr : r.val < 112
  · refine (front_padding (iblk m c 3 t) ⟨r.val, hr⟩ l).trans ((padding_apply (A0 m c) (A1 m c) ⟨r.val, hr⟩ l).symm.trans
      (congrArg (fun j => val_main_v1 (F := Ideal) (A0 m c) (A1 m c) (ix2 j l)) (Fin.ext ?_)))
    show r.val = 384 * t.val + r.val
    omega
  · obtain ⟨q, rfl⟩ : ∃ q : Fin 16, r = ⟨112 + q.val, Nat.add_lt_add_left q.isLt 112⟩ :=
      ⟨⟨r.val - 112, by omega⟩, Fin.ext (by show r.val = 112 + (r.val - 112); omega)⟩
    refine (front_meta (iblk m c 3 t) q l).trans ((read3 m c t q l).trans ((meta_apply (A0 m c) (A1 m c) q l).symm.trans
      (congrArg (fun j => val_main_v1 (F := Ideal) (A0 m c) (A1 m c) (ix2 j l)) (Fin.ext ?_))))
    show 112 + q.val = 384 * t.val + (112 + q.val)
    omega

/-- The three blocks of rows of a point, under one another. -/
theorem stacked (t : Fin cfg0.N) (r : Fin 384) (l : Fin 1024) :
    k0_pay1 (F := Ideal) (grid0.coords t) (iblk m c 3 t) (iblk m c 0 t) (iblk m c 1 t) (iblk m c 2 t) (ix2 r l)
      = val_main_v1 (F := Ideal) (A0 m c) (A1 m c) (ix2 (at384 t r) l) := by
  by_cases h0 : r.val < 128
  · refine (stacked0 _ _ _ _ _ ⟨r.val, h0⟩ l).trans ?_
    by_cases ht : t.val = 0
    · rw [first_point t ht]
      exact front_at m c t ht ⟨r.val, h0⟩ l
    · rw [later_point t ht]
      refine (read0 m c t ⟨r.val, h0⟩ l).trans (sequence_at m c _ _ l ?_)
      show 384 * t.val + r.val = 128 + (128 * (3 * t.val - 1) + r.val)
      omega
  · by_cases h1 : r.val < 256
    · obtain ⟨q, rfl⟩ : ∃ q : Fin 128, r = ⟨128 + q.val, Nat.lt_trans (Nat.add_lt_add_left q.isLt 128) (by decide)⟩ :=
        ⟨⟨r.val - 128, by omega⟩, Fin.ext (by show r.val = 128 + (r.val - 128); omega)⟩
      refine (stacked1 _ _ _ _ _ q l).trans ((read1 m c t q l).trans (sequence_at m c _ _ l ?_))
      show 384 * t.val + (128 + q.val) = 128 + (128 * (3 * t.val) + q.val)
      omega
    · obtain ⟨q, rfl⟩ : ∃ q : Fin 128, r = ⟨256 + q.val, Nat.add_lt_add_left q.isLt 256⟩ :=
        ⟨⟨r.val - 256, by omega⟩, Fin.ext (by show r.val = 256 + (r.val - 256); omega)⟩
      refine (stacked2 _ _ _ _ _ q l).trans ((read2 m c t q l).trans (sequence_at m c _ _ l ?_))
      show 384 * t.val + (256 + q.val) = 128 + (128 * (3 * t.val + 1) + q.val)
      omega

/-- Every row is row `r` of some point `t`. -/
theorem row_split (i : Fin 4224) : ∃ (t : Fin 11) (r : Fin 384), i = at384 t r :=
  ⟨⟨i.val / 384, by omega⟩, ⟨i.val % 384, by omega⟩, Fin.ext (by show i.val = 384 * (i.val / 384) + i.val % 384; omega)⟩

/-- The residual stream at its start is the reference's. -/
theorem final5 : (dats m 0 c).arrAt 5 cfg0.N = val_main_v1 (F := Ideal) (A0 m c) (A1 m c) := by
  refine (dats m 0 c).arrAt_eq_of_cover 5 _ (fun t _ => ?_) (fun i => ?_)
  · rw [Cert.EmbedIdeal.Value.flushed5]
    funext y
    obtain ⟨r, k, rfl⟩ : ∃ (r : Fin 384) (k : Fin 1024), y = ix2 r k := ⟨y 0, y 1, eq_ix2 y⟩
    rw [View.read_apply, emb5]
    exact (congrFun (block5_eq _ _ _ _ _ _) (ix2 r k)).trans (stacked m c t r k)
  · obtain ⟨t, r, h⟩ := row_split (i 0)
    rw [(eq_ix2 i).trans ((congrArg (ix2 · (i 1)) h).trans (emb5 t r (i 1)).symm)]
    exact ⟨t, flush0_5 t, View.emb_mem_set _ _⟩

/-- The normalised stream is the reference's. -/
theorem final6 : (dats m 0 c).arrAt 6 cfg0.N = val_main_v16 (F := Ideal) (A0 m c) (A1 m c) (A2 m c) := by
  refine (dats m 0 c).arrAt_eq_of_cover 6 _ (fun t _ => ?_) (fun i => ?_)
  · rw [Cert.EmbedIdeal.Value.flushed6]
    funext y
    obtain ⟨r, k, rfl⟩ : ∃ (r : Fin 384) (k : Fin 1024), y = ix2 r k := ⟨y 0, y 1, eq_ix2 y⟩
    rw [View.read_apply, emb6]
    exact block6 _ _ _ _ _ _ _ _ _ (at384 t) (read4 m c t) (stacked m c t) r k
  · obtain ⟨t, r, h⟩ := row_split (i 0)
    rw [(eq_ix2 i).trans ((congrArg (ix2 · (i 1)) h).trans (emb6 t r (i 1)).symm)]
    exact ⟨t, flush0_6 t, View.emb_mem_set _ _⟩

end Cert.EmbedArray

end
-- ==== Proof.EmbedValue.lean ====
/- The first normalisation: the kernel and the reference leave the same two arrays. -/
module

public import proofs.«01_k».proof.Defs
public import proofs.«01_k».proof.Proof.Gen.EmbedRefIdeal.Run
public import proofs.«01_k».proof.Proof.EmbedArray

@[expose] public section

set_option maxRecDepth 16384

noncomputable section

namespace Cert.EmbedValue

open Idealize.ShloMosaic Idealize.ShloMosaic.TcCoe Idealize.SL.Sem
open Cert.EmbedRefIdeal.Read Cert.EmbedArray

/-- The reference terminates, keeps its arguments and leaves every counter at zero. -/
theorem frame_ref : quiescent_EmbedRefIdeal := fun m ρ _ =>
  (θ_run Cert.EmbedRefIdeal.defs _ _).mono
    (fun r h => ⟨fun c => (h c).2.2, sem_eq_zero_of_no_sems (by decide) r.2⟩) (Cert.EmbedRefIdeal.Value.run m ρ)

/-- From memories that agree on the arguments both programs run and end with equal results. -/
theorem algebraic : algebraic_EmbedIdeal_EmbedRefIdeal := by
  intro m g m' g' _ h
  refine ⟨fun c => val_main_v1 (F := Ideal) (A0 m c) (A1 m c), fun c => val_main_v16 (F := Ideal) (A0 m c) (A1 m c)
    (A2 m c), ?_, ?_⟩
  · refine (θ_run _ _ _).mono (fun r H c => ?_) (Cert.EmbedIdeal.Value.run_blocks m g)
    obtain ⟨h5, h6, hargs⟩ := H c
    exact ⟨h5.trans (final5 m c), h6.trans (final6 m c), hargs⟩
  · refine (θ_run _ _ _).mono (fun r H c => ?_) (Cert.EmbedRefIdeal.Value.run m' g')
    obtain ⟨h5, h6, hargs⟩ := H c
    obtain ⟨e0, e1, e2⟩ := h c
    rw [e0, e1] at h5
    rw [e0, e1, e2] at h6
    exact ⟨h5, h6, hargs⟩

end Cert.EmbedValue

end
-- ==== Proof.SmallSumBlock.lean ====
/- What the sum over all devices leaves on one device, element by element: its own rows plus the seven received blocks. -/
module

public import proofs.«01_k».proof.Proof.Gen.SmallSumIdeal.Value
public import Idealize.ShloMosaic.Lib.Pointwise

@[expose] public section

set_option maxRecDepth 16384

noncomputable section

namespace Cert.SmallSumBlock

open Idealize.ShloMosaic Idealize.ShloMosaic.TcCoe
open Cert.SmallSumIdeal Cert.SmallSumIdeal.Gen

theorem off0 : (![0, 0] : Fin 2 → Nat) = fun _ => 0 := funext fun a => by fin_cases a <;> rfl

/-- Which received block device `c` takes for device `d`. -/
def pick (c : Dev nD) (d : Nat) : Fin 7 := ⟨(max (c.val ^^^ d) 1 - 1) % 7, Nat.mod_lt _ (by decide)⟩

/-- The device's position, as the body computes it. -/
abbrev position (c : Dev nD) : BitVec 32 :=
  Scalar.addi (Scalar.addi (Scalar.muli 4#32 (Scalar.remsi (Scalar.divsi (Dev.word c) 4#32) 2#32))
    (Scalar.muli 2#32 (Scalar.remsi (Scalar.divsi (Dev.word c) 2#32) 2#32))) (Scalar.remsi (Scalar.divsi (Dev.word c) 1#32) 2#32)

/-- A device is at distance zero from itself only. -/
theorem near : ∀ (c : Dev nD) (d : Fin 8),
    Scalar.cmpi .eq (Scalar.xori (position c) (BitVec.ofNat 32 d.val)) 0#32 = if c.val = d.val then 1#1 else 0#1 := by
  decide +kernel

/-- The received block's place, as the body computes it. -/
theorem place : ∀ (c : Dev nD) (d : Fin 8),
    BitVec.toNat (Scalar.indexCast (Scalar.subi (Scalar.maxsi (Scalar.xori (position c) (BitVec.ofNat 32 d.val)) 1#32) 1#32))
      = (pick c d.val).val := by
  decide +kernel

/-- What the body adds for device `d`. -/
theorem term (c : Dev nD) (d : Fin 8) (b : EReal) (f : Fin 7 → EReal) (h) :
    Scalar.select (Scalar.cmpi .eq (Scalar.xori (position c) (BitVec.ofNat 32 d.val)) 0#32) b
      (f ⟨BitVec.toNat (Scalar.indexCast (Scalar.subi (Scalar.maxsi (Scalar.xori (position c) (BitVec.ofNat 32 d.val)) 1#32) 1#32)), h⟩)
      = if c.val = d.val then b else f (pick c d.val) := by
  rw [near, show (⟨_, h⟩ : Fin 7) = pick c d.val from Fin.ext (place c d)]
  split <;> rfl

/-- In the order of any device, the eight terms are its own and the seven received. -/
theorem total (c : Dev nD) (b : EReal) (f : Fin 7 → EReal) :
    (if c.val = 0 then b else f (pick c 0)) + (if c.val = 1 then b else f (pick c 1)) + (if c.val = 2 then b else f (pick c 2))
      + (if c.val = 3 then b else f (pick c 3)) + (if c.val = 4 then b else f (pick c 4)) + (if c.val = 5 then b else f (pick c 5))
      + (if c.val = 6 then b else f (pick c 6)) + (if c.val = 7 then b else f (pick c 7)) = b + ∑ j : Fin 7, f j := by
  rw [Fin.sum_univ_seven]
  fin_cases c <;> simp [pick] <;> abel

variable {c : Dev nD}
  {arg0 : Memref sig .tc .vmem S32x1024 .f32} {harg0 : arg0.IsWhole}
  {arg1 : Memref sig .tc .vmem S7x32x1024 .f32} {harg1 : arg1.IsWhole}
  {arg2 : Memref sig .tc .vmem S32x1024 .f32} {harg2 : arg2.IsWhole}
  (x0 : Vec Ideal S32x1024 .f32) (x1 : Vec Ideal S7x32x1024 .f32)

/-- Reading the whole of the device's own rows reads them. -/
theorem ld0 (x : Vec Ideal S32x1024 .f32) : View.ld x (Rect.unit ![0, 0] ![32, 1024] inb_S32x1024_S32x1024_0_0) = x :=
  View.ld_unit_zero off0 _ x

/-- The body's result: the device's own rows plus the received blocks. -/
theorem block2 (r : Fin 32) (l : Fin 1024) :
    out0_A_2 (F := Ideal) c arg0 harg0 arg1 harg1 arg2 harg2 x0 x1 (ix2 r l) = x0 (ix2 r l) + ∑ j : Fin 7, x1 (ix3 j r l) := by
  unfold out0_A_2
  rw [View.read_writes_eq_canon _ _ _ (cover0_A_2 c arg0 harg0 arg1 harg1 arg2 harg2 x0 x1)]
  unfold kernelRun0_A
  dsimp only
  sl_unfold_words
  rw [View.canon_unit_zero off0]
  simp only [View.readAt_eq_ld, harg0.read_unread, harg1.read_unread, ld0]
  unfold_payloads
  pointwise []
  have add {a b a' b' : EReal} (ha : a = a') (hb : b = b') : a + b = a' + b' := congrArg₂ (· + ·) ha hb
  have s (d : Fin 8) := term c d (x0 (ix2 r l)) (fun j => x1 (ix3 j r l))
  exact (add (add (add (add (add (add (add (s 0 _) (s 1 _)) (s 2 _)) (s 3 _)) (s 4 _)) (s 5 _)) (s 6 _)) (s 7 _)).trans
    (total c _ fun j => x1 (ix3 j r l))

end Cert.SmallSumBlock

end
-- ==== Proof.SmallSumValue.lean ====
/- The sum over all devices: on every device the kernel leaves its block of what the reference computes for all of them. -/
module

public import proofs.«01_k».proof.Defs
public import proofs.«01_k».proof.Proof.SmallSumBlock
public import proofs.«01_k».proof.Proof.Index
public import proofs.«01_k».proof.Proof.Gen.SmallSumRefIdeal.Read
public import proofs.«01_k».proof.Proof.Gen.SmallSumRefIdeal.Run
public import Idealize.ShloMosaic.Lib.StableHlo.ReadAt
public import Idealize.ShloMosaic.Lib.LayoutAt

@[expose] public section

set_option maxRecDepth 16384

noncomputable section

namespace Cert.SmallSumValue

open Idealize.ShloMosaic Idealize.ShloMosaic.TcCoe Idealize.SL.Sem
open Cert.SmallSumRefIdeal.Read
open Cert.SmallSumIdeal Cert.SmallSumIdeal.Gen Cert.SmallSumBlock Cert.Index

variable (m : (ℓ : Loc nD τ sig) → Buf (Elt Ideal) ℓ) (c : Dev nD)

/-! The kernel's argument arrays as functions of an index. -/

abbrev A0 : S32x1024.Idx → EReal := m ((c : Thread nD τ).loc main_arg0)
abbrev A1 : S7x32x1024.Idx → EReal := m ((c : Thread nD τ).loc main_arg1)

/-- The one point. -/
abbrev point : Fin cfg0.N := ⟨0, show 0 < grid0.N by decide⟩

/-! The one point's blocks are the whole arrays. -/

theorem emb0 (t : Fin cfg0.N) (i : S32x1024.Idx) : ((cfg0.win 0).blk t).view.emb i = i :=
  funext fun a => Fin.ext (win0_0.rect_emb_val_of_index_zero t a rfl i)

theorem emb1 (t : Fin cfg0.N) (i : S7x32x1024.Idx) : ((cfg0.win 1).blk t).view.emb i = i :=
  funext fun a => Fin.ext (win0_1.rect_emb_val_of_index_zero t a rfl i)

theorem emb2 (t : Fin cfg0.N) (i : S32x1024.Idx) : ((cfg0.win 2).blk t).view.emb i = i :=
  funext fun a => Fin.ext (win0_2.rect_emb_val_of_index_zero t a rfl i)

theorem read0 (t : Fin cfg0.N) : iblk m c 0 t = A0 m c := by
  unfold iblk
  funext i
  rw [View.read_apply, emb0]
  exact congrFun (V_main_arg0 m c) _

theorem read1 (t : Fin cfg0.N) : iblk m c 1 t = A1 m c := by
  unfold iblk
  funext i
  rw [View.read_apply, emb1]
  exact congrFun (V_main_arg1 m c) _

/-- What the kernel leaves on a device: its own rows plus the received blocks. -/
def summed : S32x1024.Idx → EReal := fun i => A0 m c i + ∑ j : Fin 7, A1 m c (ix3 j (i 0) (i 1))

/-- The array it leaves is that. -/
theorem final2 : (dats m 0 c).arrAt 2 cfg0.N = summed m c := by
  refine (dats m 0 c).arrAt_eq_of_cover 2 _ (fun t _ => ?_) (fun i => ⟨point, flush0_2 _, ?_⟩)
  · rw [Cert.SmallSumIdeal.Value.flushed2_A]
    funext y
    rw [View.read_apply, emb2]
    obtain ⟨r, l, rfl⟩ : ∃ (r : Fin 32) (l : Fin 1024), y = ix2 r l := ⟨y 0, y 1, eq_ix2 y⟩
    rw [read0, read1]
    exact block2 (A0 m c) (A1 m c) r l
  · exact (congrArg (fun x => x ∈ ((cfg0.win 2).blk point).view.set) (emb2 point i)).mp (View.emb_mem_set _ _)

/-- The reference terminates, keeps its arguments and leaves every counter at zero. -/
theorem frame_ref : quiescent_SmallSumRefIdeal := fun m ρ _ =>
  (θ_run Cert.SmallSumRefIdeal.defs _ _).mono
    (fun r h => ⟨fun c => (h c).2, sem_eq_zero_of_no_sems (by decide) r.2⟩) (Cert.SmallSumRefIdeal.Value.run m ρ)

variable (B0 : Cert.SmallSumRefIdeal.S256x1024.Idx → EReal) (B1 : Cert.SmallSumRefIdeal.S56x32x1024.Idx → EReal)

/-- A device's block of the reference's result. -/
theorem block_ref (h0 : A0 m c = Layout.block ⟨2, ![32, 1024]⟩ ⟨2, ![256, 1024]⟩ 0 8 c B0)
    (h1 : A1 m c = Layout.block ⟨3, ![7, 32, 1024]⟩ ⟨3, ![56, 32, 1024]⟩ 0 8 c B1) :
    summed m c = Layout.block ⟨2, ![32, 1024]⟩ ⟨2, ![256, 1024]⟩ 0 8 c (val_main_v4 (F := Ideal) B0 B1) := by
  funext i
  unfold summed
  rw [h0, h1]
  simp only [Layout.block_apply]
  rw [val_main_v4_apply, val_main_v3_apply, val_main_v0_apply, val_main_v2_apply, val_main_cst_apply]
  simp only [val_main_v1_apply]
  have zero : FloatOps.ofBits (F := Ideal) .f32 0x00000000#32 = 0 := by norm_num [Ideal.ofBits_def]
  rw [zero, zero_add]
  refine congrArg₂ (· + ·) (congrArg B0 ?_) (Finset.sum_congr rfl fun j _ => congrArg B1 ?_)
  · shard_ext
  · shard_ext

/-- From memories that agree on the arguments both programs run and end with equal results. -/
theorem algebraic : algebraic_SmallSumIdeal_SmallSumRefIdeal := by
  intro m g m' g' _ h
  refine ⟨val_main_v4 (F := Ideal) (m' (((0 : Dev Cert.SmallSumRefIdeal.nD) : Thread Cert.SmallSumRefIdeal.nD Cert.SmallSumRefIdeal.τ).loc Cert.SmallSumRefIdeal.main_arg0))
    (m' (((0 : Dev Cert.SmallSumRefIdeal.nD) : Thread Cert.SmallSumRefIdeal.nD Cert.SmallSumRefIdeal.τ).loc Cert.SmallSumRefIdeal.main_arg1)), ?_, ?_⟩
  · refine (θ_run _ _ _).mono (fun r H c => ?_) (Cert.SmallSumIdeal.Value.run_blocks m g)
    obtain ⟨h2, hargs⟩ := H c
    exact ⟨h2.trans ((final2 m c).trans (block_ref m c _ _ (h c).1 (h c).2)), hargs⟩
  · refine (θ_run _ _ _).mono (fun r H => ?_) (Cert.SmallSumRefIdeal.Value.run m' g')
    exact H 0

end Cert.SmallSumValue

end
-- ==== Proof.lean ====
/- The certificate: every claim about the layer's matrix products and their gradients. -/
module

public import proofs.«01_k».proof.Defs
public import proofs.«01_k».proof.Proof.Gen.Merge.Frame
public import proofs.«01_k».proof.Proof.Gen.MergeIdeal.Frame
public import proofs.«01_k».proof.Proof.MergeValue
public import proofs.«01_k».proof.Proof.Gen.Ffn.Frame
public import proofs.«01_k».proof.Proof.Gen.FfnIdeal.Frame
public import proofs.«01_k».proof.Proof.FfnValue
public import proofs.«01_k».proof.Proof.Gen.DownWeight.Frame
public import proofs.«01_k».proof.Proof.Gen.DownWeightIdeal.Frame
public import proofs.«01_k».proof.Proof.DownWeightValue
public import proofs.«01_k».proof.Proof.Gen.GateWeight.Frame
public import proofs.«01_k».proof.Proof.Gen.GateWeightIdeal.Frame
public import proofs.«01_k».proof.Proof.GateWeightValue
public import proofs.«01_k».proof.Proof.Gen.Hidden.Frame
public import proofs.«01_k».proof.Proof.Gen.HiddenIdeal.Frame
public import proofs.«01_k».proof.Proof.HiddenValue
public import proofs.«01_k».proof.Proof.Gen.Branches.Frame
public import proofs.«01_k».proof.Proof.Gen.BranchesIdeal.Frame
public import proofs.«01_k».proof.Proof.BranchesValue
public import proofs.«01_k».proof.Proof.Gen.Residual.Frame
public import proofs.«01_k».proof.Proof.Gen.ResidualIdeal.Frame
public import proofs.«01_k».proof.Proof.ResidualValue
public import proofs.«01_k».proof.Proof.Gen.OutWeight.Frame
public import proofs.«01_k».proof.Proof.Gen.OutWeightIdeal.Frame
public import proofs.«01_k».proof.Proof.OutWeightValue
public import proofs.«01_k».proof.Proof.Gen.BranchWeight.Frame
public import proofs.«01_k».proof.Proof.Gen.BranchWeightIdeal.Frame
public import proofs.«01_k».proof.Proof.BranchWeightValue
public import proofs.«01_k».proof.Proof.Gen.Input.Frame
public import proofs.«01_k».proof.Proof.Gen.InputIdeal.Frame
public import proofs.«01_k».proof.Proof.InputValue
public import proofs.«01_k».proof.Proof.Gen.Loss.Frame
public import proofs.«01_k».proof.Proof.Gen.LossIdeal.Frame
public import proofs.«01_k».proof.Proof.LossValue
public import proofs.«01_k».proof.Proof.Gen.GatesWeight.Frame
public import proofs.«01_k».proof.Proof.Gen.GatesWeightIdeal.Frame
public import proofs.«01_k».proof.Proof.GatesWeightValue
public import proofs.«01_k».proof.Proof.Gen.RkvWeight.Frame
public import proofs.«01_k».proof.Proof.Gen.RkvWeightIdeal.Frame
public import proofs.«01_k».proof.Proof.RkvWeightValue
public import proofs.«01_k».proof.Proof.Gen.LoraWeight.Frame
public import proofs.«01_k».proof.Proof.Gen.LoraWeightIdeal.Frame
public import proofs.«01_k».proof.Proof.LoraWeightValue
public import proofs.«01_k».proof.Proof.Gen.QkvWeight.Frame
public import proofs.«01_k».proof.Proof.Gen.QkvWeightIdeal.Frame
public import proofs.«01_k».proof.Proof.QkvWeightValue
public import proofs.«01_k».proof.Proof.Gen.Norm.Frame
public import proofs.«01_k».proof.Proof.Gen.NormIdeal.Frame
public import proofs.«01_k».proof.Proof.NormValue
public import proofs.«01_k».proof.Proof.Gen.GateStep.Frame
public import proofs.«01_k».proof.Proof.Gen.GateStepIdeal.Frame
public import proofs.«01_k».proof.Proof.GateStepValue
public import proofs.«01_k».proof.Proof.Gen.DownStep.Frame
public import proofs.«01_k».proof.Proof.Gen.DownStepIdeal.Frame
public import proofs.«01_k».proof.Proof.DownStepValue
public import proofs.«01_k».proof.Proof.Gen.OutStep.Frame
public import proofs.«01_k».proof.Proof.Gen.OutStepIdeal.Frame
public import proofs.«01_k».proof.Proof.OutStepValue
public import proofs.«01_k».proof.Proof.Gen.BranchStep.Frame
public import proofs.«01_k».proof.Proof.Gen.BranchStepIdeal.Frame
public import proofs.«01_k».proof.Proof.BranchStepValue
public import proofs.«01_k».proof.Proof.Gen.InputStep.Frame
public import proofs.«01_k».proof.Proof.Gen.InputStepIdeal.Frame
public import proofs.«01_k».proof.Proof.InputStepValue
public import proofs.«01_k».proof.Proof.Gen.MixStep.Frame
public import proofs.«01_k».proof.Proof.Gen.MixStepIdeal.Frame
public import proofs.«01_k».proof.Proof.MixStepValue
public import proofs.«01_k».proof.Proof.Gen.LoraStep.Frame
public import proofs.«01_k».proof.Proof.Gen.LoraStepIdeal.Frame
public import proofs.«01_k».proof.Proof.LoraStepValue
public import proofs.«01_k».proof.Proof.Gen.Embed.Frame
public import proofs.«01_k».proof.Proof.Gen.EmbedIdeal.Frame
public import proofs.«01_k».proof.Proof.EmbedValue
public import proofs.«01_k».proof.Proof.Gen.SmallSum.Frame
public import proofs.«01_k».proof.Proof.Gen.SmallSumIdeal.Frame
public import proofs.«01_k».proof.Proof.SmallSumValue

@[expose] public section

noncomputable section

namespace Cert.Proof

open Idealize.ShloMosaic Idealize.SL.Sem

/-- Everything the certificate claims. -/
theorem claim : Cert.Claim :=
  ⟨Cert.Merge.Gen.facts, Cert.MergeIdeal.Gen.facts, Cert.MergeRefIdeal.Gen.facts,
    Cert.Ffn.Gen.facts, Cert.FfnIdeal.Gen.facts, Cert.FfnRefIdeal.Gen.facts,
    Cert.DownWeight.Gen.facts, Cert.DownWeightIdeal.Gen.facts, Cert.DownWeightRefIdeal.Gen.facts,
    Cert.GateWeight.Gen.facts, Cert.GateWeightIdeal.Gen.facts, Cert.GateWeightRefIdeal.Gen.facts,
    Cert.Hidden.Gen.facts, Cert.HiddenIdeal.Gen.facts, Cert.HiddenRefIdeal.Gen.facts,
    Cert.Branches.Gen.facts, Cert.BranchesIdeal.Gen.facts, Cert.BranchesRefIdeal.Gen.facts,
    Cert.Residual.Gen.facts, Cert.ResidualIdeal.Gen.facts, Cert.ResidualRefIdeal.Gen.facts,
    Cert.OutWeight.Gen.facts, Cert.OutWeightIdeal.Gen.facts, Cert.OutWeightRefIdeal.Gen.facts,
    Cert.BranchWeight.Gen.facts, Cert.BranchWeightIdeal.Gen.facts, Cert.BranchWeightRefIdeal.Gen.facts,
    Cert.Input.Gen.facts, Cert.InputIdeal.Gen.facts, Cert.InputRefIdeal.Gen.facts,
    Cert.Loss.Gen.facts, Cert.LossIdeal.Gen.facts, Cert.LossRefIdeal.Gen.facts,
    Cert.GatesWeight.Gen.facts, Cert.GatesWeightIdeal.Gen.facts, Cert.GatesWeightRefIdeal.Gen.facts,
    Cert.RkvWeight.Gen.facts, Cert.RkvWeightIdeal.Gen.facts, Cert.RkvWeightRefIdeal.Gen.facts,
    Cert.LoraWeight.Gen.facts, Cert.LoraWeightIdeal.Gen.facts, Cert.LoraWeightRefIdeal.Gen.facts,
    Cert.QkvWeight.Gen.facts, Cert.QkvWeightIdeal.Gen.facts, Cert.QkvWeightRefIdeal.Gen.facts,
    Cert.Norm.Gen.facts, Cert.NormIdeal.Gen.facts, Cert.NormRefIdeal.Gen.facts,
    Cert.GateStep.Gen.facts, Cert.GateStepIdeal.Gen.facts, Cert.GateStepRefIdeal.Gen.facts,
    Cert.DownStep.Gen.facts, Cert.DownStepIdeal.Gen.facts, Cert.DownStepRefIdeal.Gen.facts,
    Cert.OutStep.Gen.facts, Cert.OutStepIdeal.Gen.facts, Cert.OutStepRefIdeal.Gen.facts,
    Cert.BranchStep.Gen.facts, Cert.BranchStepIdeal.Gen.facts, Cert.BranchStepRefIdeal.Gen.facts,
    Cert.InputStep.Gen.facts, Cert.InputStepIdeal.Gen.facts, Cert.InputStepRefIdeal.Gen.facts,
    Cert.MixStep.Gen.facts, Cert.MixStepIdeal.Gen.facts, Cert.MixStepRefIdeal.Gen.facts,
    Cert.LoraStep.Gen.facts, Cert.LoraStepIdeal.Gen.facts, Cert.LoraStepRefIdeal.Gen.facts,
    Cert.Embed.Gen.facts, Cert.EmbedIdeal.Gen.facts, Cert.EmbedRefIdeal.Gen.facts,
    Cert.SmallSum.Gen.facts, Cert.SmallSumIdeal.Gen.facts, Cert.SmallSumRefIdeal.Gen.facts,
    fun m ρ _ => Cert.Merge.Gen.frame m ρ, fun m ρ _ => Cert.MergeIdeal.Gen.frame m ρ, Cert.MergeValue.frame_ref,
    fun m ρ _ => Cert.Ffn.Gen.frame m ρ, fun m ρ _ => Cert.FfnIdeal.Gen.frame m ρ, Cert.FfnValue.frame_ref,
    fun m ρ _ => Cert.DownWeight.Gen.frame m ρ, fun m ρ _ => Cert.DownWeightIdeal.Gen.frame m ρ, Cert.DownWeightValue.frame_ref,
    fun m ρ _ => Cert.GateWeight.Gen.frame m ρ, fun m ρ _ => Cert.GateWeightIdeal.Gen.frame m ρ, Cert.GateWeightValue.frame_ref,
    fun m ρ _ => Cert.Hidden.Gen.frame m ρ, fun m ρ _ => Cert.HiddenIdeal.Gen.frame m ρ, Cert.HiddenValue.frame_ref,
    fun m ρ _ => Cert.Branches.Gen.frame m ρ, fun m ρ _ => Cert.BranchesIdeal.Gen.frame m ρ, Cert.BranchesValue.frame_ref,
    fun m ρ _ => Cert.Residual.Gen.frame m ρ, fun m ρ _ => Cert.ResidualIdeal.Gen.frame m ρ, Cert.ResidualValue.frame_ref,
    fun m ρ _ => Cert.OutWeight.Gen.frame m ρ, fun m ρ _ => Cert.OutWeightIdeal.Gen.frame m ρ, Cert.OutWeightValue.frame_ref,
    fun m ρ _ => Cert.BranchWeight.Gen.frame m ρ, fun m ρ _ => Cert.BranchWeightIdeal.Gen.frame m ρ, Cert.BranchWeightValue.frame_ref,
    fun m ρ _ => Cert.Input.Gen.frame m ρ, fun m ρ _ => Cert.InputIdeal.Gen.frame m ρ, Cert.InputValue.frame_ref,
    fun m ρ _ => Cert.Loss.Gen.frame m ρ, fun m ρ _ => Cert.LossIdeal.Gen.frame m ρ, Cert.LossValue.frame_ref,
    fun m ρ _ => Cert.GatesWeight.Gen.frame m ρ, fun m ρ _ => Cert.GatesWeightIdeal.Gen.frame m ρ, Cert.GatesWeightValue.frame_ref,
    fun m ρ _ => Cert.RkvWeight.Gen.frame m ρ, fun m ρ _ => Cert.RkvWeightIdeal.Gen.frame m ρ, Cert.RkvWeightValue.frame_ref,
    fun m ρ _ => Cert.LoraWeight.Gen.frame m ρ, fun m ρ _ => Cert.LoraWeightIdeal.Gen.frame m ρ, Cert.LoraWeightValue.frame_ref,
    fun m ρ _ => Cert.QkvWeight.Gen.frame m ρ, fun m ρ _ => Cert.QkvWeightIdeal.Gen.frame m ρ, Cert.QkvWeightValue.frame_ref,
    fun m ρ _ => Cert.Norm.Gen.frame m ρ, fun m ρ _ => Cert.NormIdeal.Gen.frame m ρ, Cert.NormValue.frame_ref,
    fun m ρ _ => Cert.GateStep.Gen.frame m ρ, fun m ρ _ => Cert.GateStepIdeal.Gen.frame m ρ, Cert.GateStepValue.frame_ref,
    fun m ρ _ => Cert.DownStep.Gen.frame m ρ, fun m ρ _ => Cert.DownStepIdeal.Gen.frame m ρ, Cert.DownStepValue.frame_ref,
    fun m ρ _ => Cert.OutStep.Gen.frame m ρ, fun m ρ _ => Cert.OutStepIdeal.Gen.frame m ρ, Cert.OutStepValue.frame_ref,
    fun m ρ _ => Cert.BranchStep.Gen.frame m ρ, fun m ρ _ => Cert.BranchStepIdeal.Gen.frame m ρ, Cert.BranchStepValue.frame_ref,
    fun m ρ _ => Cert.InputStep.Gen.frame m ρ, fun m ρ _ => Cert.InputStepIdeal.Gen.frame m ρ, Cert.InputStepValue.frame_ref,
    fun m ρ _ => Cert.MixStep.Gen.frame m ρ, fun m ρ _ => Cert.MixStepIdeal.Gen.frame m ρ, Cert.MixStepValue.frame_ref,
    fun m ρ _ => Cert.LoraStep.Gen.frame m ρ, fun m ρ _ => Cert.LoraStepIdeal.Gen.frame m ρ, Cert.LoraStepValue.frame_ref,
    fun m ρ _ => Cert.Embed.Gen.frame m ρ, fun m ρ _ => Cert.EmbedIdeal.Gen.frame m ρ, Cert.EmbedValue.frame_ref,
    fun m ρ _ => Cert.SmallSum.Gen.frame m ρ, fun m ρ _ => Cert.SmallSumIdeal.Gen.frame m ρ, Cert.SmallSumValue.frame_ref,
    trivial, Cert.MergeValue.algebraic,
    trivial, Cert.FfnValue.algebraic,
    trivial, Cert.DownWeightValue.algebraic,
    trivial, Cert.GateWeightValue.algebraic,
    trivial, Cert.HiddenValue.algebraic,
    trivial, Cert.BranchesValue.algebraic,
    trivial, Cert.ResidualValue.algebraic,
    trivial, Cert.OutWeightValue.algebraic,
    trivial, Cert.BranchWeightValue.algebraic,
    trivial, Cert.InputValue.algebraic,
    trivial, Cert.LossValue.algebraic,
    trivial, Cert.GatesWeightValue.algebraic,
    trivial, Cert.RkvWeightValue.algebraic,
    trivial, Cert.LoraWeightValue.algebraic,
    trivial, Cert.QkvWeightValue.algebraic,
    trivial, Cert.NormValue.algebraic,
    trivial, Cert.GateStepValue.algebraic,
    trivial, Cert.DownStepValue.algebraic,
    trivial, Cert.OutStepValue.algebraic,
    trivial, Cert.BranchStepValue.algebraic,
    trivial, Cert.InputStepValue.algebraic,
    trivial, Cert.MixStepValue.algebraic,
    trivial, Cert.LoraStepValue.algebraic,
    trivial, Cert.EmbedValue.algebraic,
    trivial, Cert.SmallSumValue.algebraic⟩

end Cert.Proof

end
